-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2)
      ∧ r.2.mem ((c.tc : Thread Cert.Kernel39.nD Cert.Kernel39.τ).loc Cert.Kernel39.main_arg3) = m ((c.tc : Thread Cert.Kernel39.nD Cert.Kernel39.τ).loc Cert.Kernel39.main_arg3)
      ∧ r.2.mem ((c.tc : Thread Cert.Kernel39.nD Cert.Kernel39.τ).loc Cert.Kernel39.main_arg4) = m ((c.tc : Thread Cert.Kernel39.nD Cert.Kernel39.τ).loc Cert.Kernel39.main_arg4))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
      ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3)
      ∧ r.2.mem ((c.tc : Thread Cert.Kernel39Ideal.nD Cert.Kernel39Ideal.τ).loc Cert.Kernel39Ideal.main_arg4) = m ((c.tc : Thread Cert.Kernel39Ideal.nD Cert.Kernel39Ideal.τ).loc Cert.Kernel39Ideal.main_arg4))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2)
      ∧ r.2.mem ((c.tc : Thread Cert.Reference39Ideal.nD Cert.Reference39Ideal.τ).loc Cert.Reference39Ideal.main_arg3) = m ((c.tc : Thread Cert.Reference39Ideal.nD Cert.Reference39Ideal.τ).loc Cert.Reference39Ideal.main_arg3)
      ∧ r.2.mem ((c.tc : Thread Cert.Reference39Ideal.nD Cert.Reference39Ideal.τ).loc Cert.Reference39Ideal.main_arg4) = m ((c.tc : Thread Cert.Reference39Ideal.nD Cert.Reference39Ideal.τ).loc Cert.Reference39Ideal.main_arg4))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2)
      ∧ r.2.mem ((c.tc : Thread Cert.Kernel40.nD Cert.Kernel40.τ).loc Cert.Kernel40.main_arg3) = m ((c.tc : Thread Cert.Kernel40.nD Cert.Kernel40.τ).loc Cert.Kernel40.main_arg3)
      ∧ r.2.mem ((c.tc : Thread Cert.Kernel40.nD Cert.Kernel40.τ).loc Cert.Kernel40.main_arg4) = m ((c.tc : Thread Cert.Kernel40.nD Cert.Kernel40.τ).loc Cert.Kernel40.main_arg4))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
      ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3)
      ∧ r.2.mem ((c.tc : Thread Cert.Kernel40Ideal.nD Cert.Kernel40Ideal.τ).loc Cert.Kernel40Ideal.main_arg4) = m ((c.tc : Thread Cert.Kernel40Ideal.nD Cert.Kernel40Ideal.τ).loc Cert.Kernel40Ideal.main_arg4))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2)
      ∧ r.2.mem ((c.tc : Thread Cert.Reference40Ideal.nD Cert.Reference40Ideal.τ).loc Cert.Reference40Ideal.main_arg3) = m ((c.tc : Thread Cert.Reference40Ideal.nD Cert.Reference40Ideal.τ).loc Cert.Reference40Ideal.main_arg3)
      ∧ r.2.mem ((c.tc : Thread Cert.Reference40Ideal.nD Cert.Reference40Ideal.τ).loc Cert.Reference40Ideal.main_arg4) = m ((c.tc : Thread Cert.Reference40Ideal.nD Cert.Reference40Ideal.τ).loc Cert.Reference40Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_v142) = v1 c
          ∧ r.2.mem ((c.tc : Thread Cert.ReferenceIdeal.nD Cert.ReferenceIdeal.τ).loc Cert.ReferenceIdeal.main_v147) = v2 c
          ∧ r.2.mem ((c.tc : Thread Cert.ReferenceIdeal.nD Cert.ReferenceIdeal.τ).loc Cert.ReferenceIdeal.main_v155) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_v10) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)) (v2 : (c : Dev Cert.Kernel6Ideal.nD) → Buf (Elt Ideal) ((c.tc : Thread Cert.Kernel6Ideal.nD Cert.Kernel6Ideal.τ).loc Cert.Kernel6Ideal.main_v3_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_v3_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_v4) = v1 c
          ∧ r.2.mem ((c.tc : Thread Cert.Reference6Ideal.nD Cert.Reference6Ideal.τ).loc Cert.Reference6Ideal.main_v7) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_v7) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_v5) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v4_0)) (v1 : (c : Dev Cert.Kernel15Ideal.nD) → Buf (Elt Ideal) ((c.tc : Thread Cert.Kernel15Ideal.nD Cert.Kernel15Ideal.τ).loc Cert.Kernel15Ideal.main_v4_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v4_0) = v0 c
          ∧ r.2.mem ((c.tc : Thread Cert.Kernel15Ideal.nD Cert.Kernel15Ideal.τ).loc Cert.Kernel15Ideal.main_v4_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_v8) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v3) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v5) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v4) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  IdealRules.named_const.Statement Cert.Kernel23Ideal.κ "c1" .f32 0x3FC48605#32 ((8388608 / 5463681 : ℝ) : EReal)
  ∧ IdealRules.named_const.Statement Cert.Kernel23Ideal.κ "c2" .f32 0x42C8E6D3#32 ((268435456 / 2672307 : ℝ) : EReal)

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v0) = v0 c
          ∧ r.2.mem ((c.tc : Thread Cert.Reference23Ideal.nD Cert.Reference23Ideal.τ).loc Cert.Reference23Ideal.main_v24) = v1 c
          ∧ r.2.mem ((c.tc : Thread Cert.Reference23Ideal.nD Cert.Reference23Ideal.τ).loc Cert.Reference23Ideal.main_v5) = v2 c
          ∧ r.2.mem ((c.tc : Thread Cert.Reference23Ideal.nD Cert.Reference23Ideal.τ).loc Cert.Reference23Ideal.main_v11) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  IdealRules.named_const.Statement Cert.Kernel24Ideal.κ "c1" .f32 0x3FC48605#32 ((8388608 / 5463681 : ℝ) : EReal)
  ∧ IdealRules.named_const.Statement Cert.Kernel24Ideal.κ "c2" .f32 0x42C8E6D3#32 ((268435456 / 2672307 : ℝ) : EReal)

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v0) = v0 c
          ∧ r.2.mem ((c.tc : Thread Cert.Reference24Ideal.nD Cert.Reference24Ideal.τ).loc Cert.Reference24Ideal.main_v24) = v1 c
          ∧ r.2.mem ((c.tc : Thread Cert.Reference24Ideal.nD Cert.Reference24Ideal.τ).loc Cert.Reference24Ideal.main_v5) = v2 c
          ∧ r.2.mem ((c.tc : Thread Cert.Reference24Ideal.nD Cert.Reference24Ideal.τ).loc Cert.Reference24Ideal.main_v11) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  IdealRules.named_const.Statement Cert.Kernel25Ideal.κ "c1" .f32 0x3FC48605#32 ((8388608 / 5463681 : ℝ) : EReal)
  ∧ IdealRules.named_const.Statement Cert.Kernel25Ideal.κ "c2" .f32 0x42C8E6D3#32 ((268435456 / 2672307 : ℝ) : EReal)

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v0) = v0 c
          ∧ r.2.mem ((c.tc : Thread Cert.Reference25Ideal.nD Cert.Reference25Ideal.τ).loc Cert.Reference25Ideal.main_v24) = v1 c
          ∧ r.2.mem ((c.tc : Thread Cert.Reference25Ideal.nD Cert.Reference25Ideal.τ).loc Cert.Reference25Ideal.main_v5) = v2 c
          ∧ r.2.mem ((c.tc : Thread Cert.Reference25Ideal.nD Cert.Reference25Ideal.τ).loc Cert.Reference25Ideal.main_v11) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  IdealRules.named_const.Statement Cert.Kernel26Ideal.κ "c1" .f32 0x3FC48605#32 ((8388608 / 5463681 : ℝ) : EReal)
  ∧ IdealRules.named_const.Statement Cert.Kernel26Ideal.κ "c2" .f32 0x42C8E6D3#32 ((268435456 / 2672307 : ℝ) : EReal)

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v0) = v0 c
          ∧ r.2.mem ((c.tc : Thread Cert.Reference26Ideal.nD Cert.Reference26Ideal.τ).loc Cert.Reference26Ideal.main_v24) = v1 c
          ∧ r.2.mem ((c.tc : Thread Cert.Reference26Ideal.nD Cert.Reference26Ideal.τ).loc Cert.Reference26Ideal.main_v5) = v2 c
          ∧ r.2.mem ((c.tc : Thread Cert.Reference26Ideal.nD Cert.Reference26Ideal.τ).loc Cert.Reference26Ideal.main_v11) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  IdealRules.named_const.Statement Cert.Kernel27Ideal.κ "c1" .f32 0x3FC48605#32 ((8388608 / 5463681 : ℝ) : EReal)
  ∧ IdealRules.named_const.Statement Cert.Kernel27Ideal.κ "c2" .f32 0x42C8E6D3#32 ((268435456 / 2672307 : ℝ) : EReal)

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v0) = v0 c
          ∧ r.2.mem ((c.tc : Thread Cert.Reference27Ideal.nD Cert.Reference27Ideal.τ).loc Cert.Reference27Ideal.main_v24) = v1 c
          ∧ r.2.mem ((c.tc : Thread Cert.Reference27Ideal.nD Cert.Reference27Ideal.τ).loc Cert.Reference27Ideal.main_v5) = v2 c
          ∧ r.2.mem ((c.tc : Thread Cert.Reference27Ideal.nD Cert.Reference27Ideal.τ).loc Cert.Reference27Ideal.main_v11) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  IdealRules.named_const.Statement Cert.Kernel28Ideal.κ "c1" .f32 0x3FC48605#32 ((8388608 / 5463681 : ℝ) : EReal)
  ∧ IdealRules.named_const.Statement Cert.Kernel28Ideal.κ "c2" .f32 0x42C8E6D3#32 ((268435456 / 2672307 : ℝ) : EReal)

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v0) = v0 c
          ∧ r.2.mem ((c.tc : Thread Cert.Reference28Ideal.nD Cert.Reference28Ideal.τ).loc Cert.Reference28Ideal.main_v24) = v1 c
          ∧ r.2.mem ((c.tc : Thread Cert.Reference28Ideal.nD Cert.Reference28Ideal.τ).loc Cert.Reference28Ideal.main_v5) = v2 c
          ∧ r.2.mem ((c.tc : Thread Cert.Reference28Ideal.nD Cert.Reference28Ideal.τ).loc Cert.Reference28Ideal.main_v11) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  IdealRules.named_const.Statement Cert.Kernel29Ideal.κ "c1" .f32 0x3FC48605#32 ((8388608 / 5463681 : ℝ) : EReal)
  ∧ IdealRules.named_const.Statement Cert.Kernel29Ideal.κ "c2" .f32 0x42C8E6D3#32 ((268435456 / 2672307 : ℝ) : EReal)

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v0) = v0 c
          ∧ r.2.mem ((c.tc : Thread Cert.Reference29Ideal.nD Cert.Reference29Ideal.τ).loc Cert.Reference29Ideal.main_v24) = v1 c
          ∧ r.2.mem ((c.tc : Thread Cert.Reference29Ideal.nD Cert.Reference29Ideal.τ).loc Cert.Reference29Ideal.main_v5) = v2 c
          ∧ r.2.mem ((c.tc : Thread Cert.Reference29Ideal.nD Cert.Reference29Ideal.τ).loc Cert.Reference29Ideal.main_v11) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  IdealRules.named_const.Statement Cert.Kernel30Ideal.κ "c1" .f32 0x3FC48605#32 ((8388608 / 5463681 : ℝ) : EReal)
  ∧ IdealRules.named_const.Statement Cert.Kernel30Ideal.κ "c2" .f32 0x42C8E6D3#32 ((268435456 / 2672307 : ℝ) : EReal)

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)) (v3 : (c : Dev Cert.Kernel30Ideal.nD) → Buf (Elt Ideal) ((c.tc : Thread Cert.Kernel30Ideal.nD Cert.Kernel30Ideal.τ).loc Cert.Kernel30Ideal.main_v0_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_v0_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v0) = v0 c
          ∧ r.2.mem ((c.tc : Thread Cert.Reference30Ideal.nD Cert.Reference30Ideal.τ).loc Cert.Reference30Ideal.main_v24) = v1 c
          ∧ r.2.mem ((c.tc : Thread Cert.Reference30Ideal.nD Cert.Reference30Ideal.τ).loc Cert.Reference30Ideal.main_v5) = v2 c
          ∧ r.2.mem ((c.tc : Thread Cert.Reference30Ideal.nD Cert.Reference30Ideal.τ).loc Cert.Reference30Ideal.main_v11) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  IdealRules.named_const.Statement Cert.Kernel31Ideal.κ "c1" .f32 0x3FC48605#32 ((8388608 / 5463681 : ℝ) : EReal)
  ∧ IdealRules.named_const.Statement Cert.Kernel31Ideal.κ "c2" .f32 0x42C8E6D3#32 ((268435456 / 2672307 : ℝ) : EReal)

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)) (v3 : (c : Dev Cert.Kernel31Ideal.nD) → Buf (Elt Ideal) ((c.tc : Thread Cert.Kernel31Ideal.nD Cert.Kernel31Ideal.τ).loc Cert.Kernel31Ideal.main_v0_3)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_v0_3) = v3 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v0) = v0 c
          ∧ r.2.mem ((c.tc : Thread Cert.Reference31Ideal.nD Cert.Reference31Ideal.τ).loc Cert.Reference31Ideal.main_v24) = v1 c
          ∧ r.2.mem ((c.tc : Thread Cert.Reference31Ideal.nD Cert.Reference31Ideal.τ).loc Cert.Reference31Ideal.main_v5) = v2 c
          ∧ r.2.mem ((c.tc : Thread Cert.Reference31Ideal.nD Cert.Reference31Ideal.τ).loc Cert.Reference31Ideal.main_v11) = v3 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  IdealRules.named_const.Statement Cert.Kernel32Ideal.κ "c1" .f32 0x3FC48605#32 ((8388608 / 5463681 : ℝ) : EReal)
  ∧ IdealRules.named_const.Statement Cert.Kernel32Ideal.κ "c2" .f32 0x42C8E6D3#32 ((268435456 / 2672307 : ℝ) : EReal)

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)) (v3 : (c : Dev Cert.Kernel32Ideal.nD) → Buf (Elt Ideal) ((c.tc : Thread Cert.Kernel32Ideal.nD Cert.Kernel32Ideal.τ).loc Cert.Kernel32Ideal.main_v0_3)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_v0_3) = v3 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v0) = v0 c
          ∧ r.2.mem ((c.tc : Thread Cert.Reference32Ideal.nD Cert.Reference32Ideal.τ).loc Cert.Reference32Ideal.main_v24) = v1 c
          ∧ r.2.mem ((c.tc : Thread Cert.Reference32Ideal.nD Cert.Reference32Ideal.τ).loc Cert.Reference32Ideal.main_v5) = v2 c
          ∧ r.2.mem ((c.tc : Thread Cert.Reference32Ideal.nD Cert.Reference32Ideal.τ).loc Cert.Reference32Ideal.main_v11) = v3 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  IdealRules.named_const.Statement Cert.Kernel33Ideal.κ "c1" .f32 0x3FC48605#32 ((8388608 / 5463681 : ℝ) : EReal)
  ∧ IdealRules.named_const.Statement Cert.Kernel33Ideal.κ "c2" .f32 0x42C8E6D3#32 ((268435456 / 2672307 : ℝ) : EReal)

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)) (v3 : (c : Dev Cert.Kernel33Ideal.nD) → Buf (Elt Ideal) ((c.tc : Thread Cert.Kernel33Ideal.nD Cert.Kernel33Ideal.τ).loc Cert.Kernel33Ideal.main_v0_3)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_v0_3) = v3 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v0) = v0 c
          ∧ r.2.mem ((c.tc : Thread Cert.Reference33Ideal.nD Cert.Reference33Ideal.τ).loc Cert.Reference33Ideal.main_v24) = v1 c
          ∧ r.2.mem ((c.tc : Thread Cert.Reference33Ideal.nD Cert.Reference33Ideal.τ).loc Cert.Reference33Ideal.main_v5) = v2 c
          ∧ r.2.mem ((c.tc : Thread Cert.Reference33Ideal.nD Cert.Reference33Ideal.τ).loc Cert.Reference33Ideal.main_v11) = v3 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  IdealRules.named_const.Statement Cert.Kernel34Ideal.κ "c1" .f32 0x3FC48605#32 ((8388608 / 5463681 : ℝ) : EReal)
  ∧ IdealRules.named_const.Statement Cert.Kernel34Ideal.κ "c2" .f32 0x42C8E6D3#32 ((268435456 / 2672307 : ℝ) : EReal)

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)) (v3 : (c : Dev Cert.Kernel34Ideal.nD) → Buf (Elt Ideal) ((c.tc : Thread Cert.Kernel34Ideal.nD Cert.Kernel34Ideal.τ).loc Cert.Kernel34Ideal.main_v0_3)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_v0_3) = v3 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v1) = v0 c
          ∧ r.2.mem ((c.tc : Thread Cert.Reference34Ideal.nD Cert.Reference34Ideal.τ).loc Cert.Reference34Ideal.main_v25) = v1 c
          ∧ r.2.mem ((c.tc : Thread Cert.Reference34Ideal.nD Cert.Reference34Ideal.τ).loc Cert.Reference34Ideal.main_v6) = v2 c
          ∧ r.2.mem ((c.tc : Thread Cert.Reference34Ideal.nD Cert.Reference34Ideal.τ).loc Cert.Reference34Ideal.main_v12) = v3 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  IdealRules.named_const.Statement Cert.Kernel35Ideal.κ "c1" .f32 0x3FC48605#32 ((8388608 / 5463681 : ℝ) : EReal)
  ∧ IdealRules.named_const.Statement Cert.Kernel35Ideal.κ "c2" .f32 0x42C8E6D3#32 ((268435456 / 2672307 : ℝ) : EReal)

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)) (v2 : (c : Dev Cert.Kernel35Ideal.nD) → Buf (Elt Ideal) ((c.tc : Thread Cert.Kernel35Ideal.nD Cert.Kernel35Ideal.τ).loc Cert.Kernel35Ideal.main_v0_2)) (v3 : (c : Dev Cert.Kernel35Ideal.nD) → Buf (Elt Ideal) ((c.tc : Thread Cert.Kernel35Ideal.nD Cert.Kernel35Ideal.τ).loc Cert.Kernel35Ideal.main_v0_3)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_v0_2) = v2 c
          ∧ r.2.mem ((c.tc : Thread Cert.Kernel35Ideal.nD Cert.Kernel35Ideal.τ).loc Cert.Kernel35Ideal.main_v0_3) = v3 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v0) = v0 c
          ∧ r.2.mem ((c.tc : Thread Cert.Reference35Ideal.nD Cert.Reference35Ideal.τ).loc Cert.Reference35Ideal.main_v24) = v1 c
          ∧ r.2.mem ((c.tc : Thread Cert.Reference35Ideal.nD Cert.Reference35Ideal.τ).loc Cert.Reference35Ideal.main_v5) = v2 c
          ∧ r.2.mem ((c.tc : Thread Cert.Reference35Ideal.nD Cert.Reference35Ideal.τ).loc Cert.Reference35Ideal.main_v11) = v3 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def preserves_Kernel36_Kernel36Ideal : Prop :=
  IdealRules.named_const.Statement Cert.Kernel36Ideal.κ "c1" .f32 0x3FC48605#32 ((8388608 / 5463681 : ℝ) : EReal)
  ∧ IdealRules.named_const.Statement Cert.Kernel36Ideal.κ "c2" .f32 0x42C8E6D3#32 ((268435456 / 2672307 : ℝ) : EReal)

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)) (v2 : (c : Dev Cert.Kernel36Ideal.nD) → Buf (Elt Ideal) ((c.tc : Thread Cert.Kernel36Ideal.nD Cert.Kernel36Ideal.τ).loc Cert.Kernel36Ideal.main_v0_2)) (v3 : (c : Dev Cert.Kernel36Ideal.nD) → Buf (Elt Ideal) ((c.tc : Thread Cert.Kernel36Ideal.nD Cert.Kernel36Ideal.τ).loc Cert.Kernel36Ideal.main_v0_3)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_v0_2) = v2 c
          ∧ r.2.mem ((c.tc : Thread Cert.Kernel36Ideal.nD Cert.Kernel36Ideal.τ).loc Cert.Kernel36Ideal.main_v0_3) = v3 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v0) = v0 c
          ∧ r.2.mem ((c.tc : Thread Cert.Reference36Ideal.nD Cert.Reference36Ideal.τ).loc Cert.Reference36Ideal.main_v24) = v1 c
          ∧ r.2.mem ((c.tc : Thread Cert.Reference36Ideal.nD Cert.Reference36Ideal.τ).loc Cert.Reference36Ideal.main_v5) = v2 c
          ∧ r.2.mem ((c.tc : Thread Cert.Reference36Ideal.nD Cert.Reference36Ideal.τ).loc Cert.Reference36Ideal.main_v11) = v3 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def preserves_Kernel37_Kernel37Ideal : Prop :=
  IdealRules.named_const.Statement Cert.Kernel37Ideal.κ "c1" .f32 0x3FC48605#32 ((8388608 / 5463681 : ℝ) : EReal)
  ∧ IdealRules.named_const.Statement Cert.Kernel37Ideal.κ "c2" .f32 0x42C8E6D3#32 ((268435456 / 2672307 : ℝ) : EReal)

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)) →
    ∃ (v0 : (c : Dev Cert.Kernel37Ideal.nD) → Buf (Elt Ideal) ((c.tc : Thread Cert.Kernel37Ideal.nD Cert.Kernel37Ideal.τ).loc Cert.Kernel37Ideal.main_v0_0)) (v1 : (c : Dev Cert.Kernel37Ideal.nD) → Buf (Elt Ideal) ((c.tc : Thread Cert.Kernel37Ideal.nD Cert.Kernel37Ideal.τ).loc Cert.Kernel37Ideal.main_v0_1)) (v2 : (c : Dev Cert.Kernel37Ideal.nD) → Buf (Elt Ideal) ((c.tc : Thread Cert.Kernel37Ideal.nD Cert.Kernel37Ideal.τ).loc Cert.Kernel37Ideal.main_v0_2)) (v3 : (c : Dev Cert.Kernel37Ideal.nD) → Buf (Elt Ideal) ((c.tc : Thread Cert.Kernel37Ideal.nD Cert.Kernel37Ideal.τ).loc Cert.Kernel37Ideal.main_v0_3)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0_0) = v0 c
          ∧ r.2.mem ((c.tc : Thread Cert.Kernel37Ideal.nD Cert.Kernel37Ideal.τ).loc Cert.Kernel37Ideal.main_v0_1) = v1 c
          ∧ r.2.mem ((c.tc : Thread Cert.Kernel37Ideal.nD Cert.Kernel37Ideal.τ).loc Cert.Kernel37Ideal.main_v0_2) = v2 c
          ∧ r.2.mem ((c.tc : Thread Cert.Kernel37Ideal.nD Cert.Kernel37Ideal.τ).loc Cert.Kernel37Ideal.main_v0_3) = v3 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v0) = v0 c
          ∧ r.2.mem ((c.tc : Thread Cert.Reference37Ideal.nD Cert.Reference37Ideal.τ).loc Cert.Reference37Ideal.main_v24) = v1 c
          ∧ r.2.mem ((c.tc : Thread Cert.Reference37Ideal.nD Cert.Reference37Ideal.τ).loc Cert.Reference37Ideal.main_v5) = v2 c
          ∧ r.2.mem ((c.tc : Thread Cert.Reference37Ideal.nD Cert.Reference37Ideal.τ).loc Cert.Reference37Ideal.main_v11) = v3 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3))

def preserves_Kernel38_Kernel38Ideal : Prop :=
  IdealRules.named_const.Statement Cert.Kernel38Ideal.κ "c1" .f32 0x3FC48605#32 ((8388608 / 5463681 : ℝ) : EReal)
  ∧ IdealRules.named_const.Statement Cert.Kernel38Ideal.κ "c2" .f32 0x42C8E6D3#32 ((268435456 / 2672307 : ℝ) : EReal)

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)) →
    ∃ (v0 : (c : Dev Cert.Kernel38Ideal.nD) → Buf (Elt Ideal) ((c.tc : Thread Cert.Kernel38Ideal.nD Cert.Kernel38Ideal.τ).loc Cert.Kernel38Ideal.main_v0_0)) (v1 : (c : Dev Cert.Kernel38Ideal.nD) → Buf (Elt Ideal) ((c.tc : Thread Cert.Kernel38Ideal.nD Cert.Kernel38Ideal.τ).loc Cert.Kernel38Ideal.main_v0_1)) (v2 : (c : Dev Cert.Kernel38Ideal.nD) → Buf (Elt Ideal) ((c.tc : Thread Cert.Kernel38Ideal.nD Cert.Kernel38Ideal.τ).loc Cert.Kernel38Ideal.main_v0_2)) (v3 : (c : Dev Cert.Kernel38Ideal.nD) → Buf (Elt Ideal) ((c.tc : Thread Cert.Kernel38Ideal.nD Cert.Kernel38Ideal.τ).loc Cert.Kernel38Ideal.main_v0_3)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0_0) = v0 c
          ∧ r.2.mem ((c.tc : Thread Cert.Kernel38Ideal.nD Cert.Kernel38Ideal.τ).loc Cert.Kernel38Ideal.main_v0_1) = v1 c
          ∧ r.2.mem ((c.tc : Thread Cert.Kernel38Ideal.nD Cert.Kernel38Ideal.τ).loc Cert.Kernel38Ideal.main_v0_2) = v2 c
          ∧ r.2.mem ((c.tc : Thread Cert.Kernel38Ideal.nD Cert.Kernel38Ideal.τ).loc Cert.Kernel38Ideal.main_v0_3) = v3 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v1) = v0 c
          ∧ r.2.mem ((c.tc : Thread Cert.Reference38Ideal.nD Cert.Reference38Ideal.τ).loc Cert.Reference38Ideal.main_v25) = v1 c
          ∧ r.2.mem ((c.tc : Thread Cert.Reference38Ideal.nD Cert.Reference38Ideal.τ).loc Cert.Reference38Ideal.main_v6) = v2 c
          ∧ r.2.mem ((c.tc : Thread Cert.Reference38Ideal.nD Cert.Reference38Ideal.τ).loc Cert.Reference38Ideal.main_v12) = v3 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3))

def preserves_Kernel39_Kernel39Ideal : Prop :=
  IdealRules.named_const.Statement Cert.Kernel39Ideal.κ "c1" .f32 0x3FC48605#32 ((8388608 / 5463681 : ℝ) : EReal)
  ∧ IdealRules.named_const.Statement Cert.Kernel39Ideal.κ "c2" .f32 0x42C8E6D3#32 ((268435456 / 2672307 : ℝ) : EReal)

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)
      ∧ m' ((c.tc : Thread Cert.Reference39Ideal.nD Cert.Reference39Ideal.τ).loc Cert.Reference39Ideal.main_arg3) = m ((c.tc : Thread Cert.Kernel39Ideal.nD Cert.Kernel39Ideal.τ).loc Cert.Kernel39Ideal.main_arg3)
      ∧ m' ((c.tc : Thread Cert.Reference39Ideal.nD Cert.Reference39Ideal.τ).loc Cert.Reference39Ideal.main_arg4) = m ((c.tc : Thread Cert.Kernel39Ideal.nD Cert.Kernel39Ideal.τ).loc Cert.Kernel39Ideal.main_arg4)) →
    ∃ (v0 : (c : Dev Cert.Kernel39Ideal.nD) → Buf (Elt Ideal) ((c.tc : Thread Cert.Kernel39Ideal.nD Cert.Kernel39Ideal.τ).loc Cert.Kernel39Ideal.main_v1_0)) (v1 : (c : Dev Cert.Kernel39Ideal.nD) → Buf (Elt Ideal) ((c.tc : Thread Cert.Kernel39Ideal.nD Cert.Kernel39Ideal.τ).loc Cert.Kernel39Ideal.main_v1_1)) (v2 : (c : Dev Cert.Kernel39Ideal.nD) → Buf (Elt Ideal) ((c.tc : Thread Cert.Kernel39Ideal.nD Cert.Kernel39Ideal.τ).loc Cert.Kernel39Ideal.main_v1_2)) (v3 : (c : Dev Cert.Kernel39Ideal.nD) → Buf (Elt Ideal) ((c.tc : Thread Cert.Kernel39Ideal.nD Cert.Kernel39Ideal.τ).loc Cert.Kernel39Ideal.main_v1_3)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v1_0) = v0 c
          ∧ r.2.mem ((c.tc : Thread Cert.Kernel39Ideal.nD Cert.Kernel39Ideal.τ).loc Cert.Kernel39Ideal.main_v1_1) = v1 c
          ∧ r.2.mem ((c.tc : Thread Cert.Kernel39Ideal.nD Cert.Kernel39Ideal.τ).loc Cert.Kernel39Ideal.main_v1_2) = v2 c
          ∧ r.2.mem ((c.tc : Thread Cert.Kernel39Ideal.nD Cert.Kernel39Ideal.τ).loc Cert.Kernel39Ideal.main_v1_3) = v3 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
          ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3)
          ∧ r.2.mem ((c.tc : Thread Cert.Kernel39Ideal.nD Cert.Kernel39Ideal.τ).loc Cert.Kernel39Ideal.main_arg4) = m ((c.tc : Thread Cert.Kernel39Ideal.nD Cert.Kernel39Ideal.τ).loc Cert.Kernel39Ideal.main_arg4))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v2) = v0 c
          ∧ r.2.mem ((c.tc : Thread Cert.Reference39Ideal.nD Cert.Reference39Ideal.τ).loc Cert.Reference39Ideal.main_v26) = v1 c
          ∧ r.2.mem ((c.tc : Thread Cert.Reference39Ideal.nD Cert.Reference39Ideal.τ).loc Cert.Reference39Ideal.main_v7) = v2 c
          ∧ r.2.mem ((c.tc : Thread Cert.Reference39Ideal.nD Cert.Reference39Ideal.τ).loc Cert.Reference39Ideal.main_v13) = v3 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2)
          ∧ r.2.mem ((c.tc : Thread Cert.Reference39Ideal.nD Cert.Reference39Ideal.τ).loc Cert.Reference39Ideal.main_arg3) = m' ((c.tc : Thread Cert.Reference39Ideal.nD Cert.Reference39Ideal.τ).loc Cert.Reference39Ideal.main_arg3)
          ∧ r.2.mem ((c.tc : Thread Cert.Reference39Ideal.nD Cert.Reference39Ideal.τ).loc Cert.Reference39Ideal.main_arg4) = m' ((c.tc : Thread Cert.Reference39Ideal.nD Cert.Reference39Ideal.τ).loc Cert.Reference39Ideal.main_arg4))

def preserves_Kernel40_Kernel40Ideal : Prop :=
  IdealRules.named_const.Statement Cert.Kernel40Ideal.κ "c1" .f32 0x3FC48605#32 ((8388608 / 5463681 : ℝ) : EReal)
  ∧ IdealRules.named_const.Statement Cert.Kernel40Ideal.κ "c2" .f32 0x42C8E6D3#32 ((268435456 / 2672307 : ℝ) : EReal)

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)
      ∧ m' ((c.tc : Thread Cert.Reference40Ideal.nD Cert.Reference40Ideal.τ).loc Cert.Reference40Ideal.main_arg3) = m ((c.tc : Thread Cert.Kernel40Ideal.nD Cert.Kernel40Ideal.τ).loc Cert.Kernel40Ideal.main_arg3)
      ∧ m' ((c.tc : Thread Cert.Reference40Ideal.nD Cert.Reference40Ideal.τ).loc Cert.Reference40Ideal.main_arg4) = m ((c.tc : Thread Cert.Kernel40Ideal.nD Cert.Kernel40Ideal.τ).loc Cert.Kernel40Ideal.main_arg4)) →
    ∃ (v0 : (c : Dev Cert.Kernel40Ideal.nD) → Buf (Elt Ideal) ((c.tc : Thread Cert.Kernel40Ideal.nD Cert.Kernel40Ideal.τ).loc Cert.Kernel40Ideal.main_v1_0)) (v1 : (c : Dev Cert.Kernel40Ideal.nD) → Buf (Elt Ideal) ((c.tc : Thread Cert.Kernel40Ideal.nD Cert.Kernel40Ideal.τ).loc Cert.Kernel40Ideal.main_v1_1)) (v2 : (c : Dev Cert.Kernel40Ideal.nD) → Buf (Elt Ideal) ((c.tc : Thread Cert.Kernel40Ideal.nD Cert.Kernel40Ideal.τ).loc Cert.Kernel40Ideal.main_v1_2)) (v3 : (c : Dev Cert.Kernel40Ideal.nD) → Buf (Elt Ideal) ((c.tc : Thread Cert.Kernel40Ideal.nD Cert.Kernel40Ideal.τ).loc Cert.Kernel40Ideal.main_v1_3)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v1_0) = v0 c
          ∧ r.2.mem ((c.tc : Thread Cert.Kernel40Ideal.nD Cert.Kernel40Ideal.τ).loc Cert.Kernel40Ideal.main_v1_1) = v1 c
          ∧ r.2.mem ((c.tc : Thread Cert.Kernel40Ideal.nD Cert.Kernel40Ideal.τ).loc Cert.Kernel40Ideal.main_v1_2) = v2 c
          ∧ r.2.mem ((c.tc : Thread Cert.Kernel40Ideal.nD Cert.Kernel40Ideal.τ).loc Cert.Kernel40Ideal.main_v1_3) = v3 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
          ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3)
          ∧ r.2.mem ((c.tc : Thread Cert.Kernel40Ideal.nD Cert.Kernel40Ideal.τ).loc Cert.Kernel40Ideal.main_arg4) = m ((c.tc : Thread Cert.Kernel40Ideal.nD Cert.Kernel40Ideal.τ).loc Cert.Kernel40Ideal.main_arg4))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v2) = v0 c
          ∧ r.2.mem ((c.tc : Thread Cert.Reference40Ideal.nD Cert.Reference40Ideal.τ).loc Cert.Reference40Ideal.main_v26) = v1 c
          ∧ r.2.mem ((c.tc : Thread Cert.Reference40Ideal.nD Cert.Reference40Ideal.τ).loc Cert.Reference40Ideal.main_v7) = v2 c
          ∧ r.2.mem ((c.tc : Thread Cert.Reference40Ideal.nD Cert.Reference40Ideal.τ).loc Cert.Reference40Ideal.main_v13) = v3 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2)
          ∧ r.2.mem ((c.tc : Thread Cert.Reference40Ideal.nD Cert.Reference40Ideal.τ).loc Cert.Reference40Ideal.main_arg3) = m' ((c.tc : Thread Cert.Reference40Ideal.nD Cert.Reference40Ideal.τ).loc Cert.Reference40Ideal.main_arg3)
          ∧ r.2.mem ((c.tc : Thread Cert.Reference40Ideal.nD Cert.Reference40Ideal.τ).loc Cert.Reference40Ideal.main_arg4) = m' ((c.tc : Thread Cert.Reference40Ideal.nD Cert.Reference40Ideal.τ).loc Cert.Reference40Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
-- ==== Pre_finite.lean ====
abbrev S2048x1024 : Shape := ⟨2, ![2048, 1024]⟩
abbrev S2048x512 : Shape := ⟨2, ![2048, 512]⟩
abbrev S16 : Shape := ⟨1, ![16]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  main_v18

def fn {F : FTy → Type} [FloatOps F] (main_arg0 : FVec F S2048x1024 .f32) (main_arg1 : FVec F S2048x512 .f32) (main_arg2 : FVec F S2048x1024 .f32) (main_arg3 : FVec F S16 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_v13 main_v16
-- ==== Pre_finite2.lean ====
abbrev S2048x1024 : Shape := ⟨2, ![2048, 1024]⟩
abbrev S2816x1024 : Shape := ⟨2, ![2816, 1024]⟩
abbrev S2048x2816 : Shape := ⟨2, ![2048, 2816]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S2048x2816 : S_.BroadcastsInDim S2048x2816 (![] : Fin 0 → Fin S2048x2816.rank)
  reducesTo_S2048x2816_S_d0_1 : S2048x2816.ReducesTo [0, 1] S_

variable [Facts]

def fn_part1 {F : FTy → Type} [FloatOps F] (main_v13 : IVec S_ 1) (main_v16 : IVec S2048x2816 1) : IVec S_ 1 :=
  let main_c_5 : IVec S_ 1 := constantI S_ 1 1#1
  let main_v17 : IVec S_ 1 := (fun x v => Host.reduce IntOp.andi x v reducesTo_S2048x2816_S_d0_1 h_S_) main_v16 main_c_5
  let main_v18 : IVec S_ 1 := andi main_v13 main_v17
  main_v18

def fn {F : FTy → Type} [FloatOps F] (main_arg0 : FVec F S2048x1024 .f32) (main_arg1 : FVec F S2816x1024 .f32) (main_arg2 : FVec F S2048x2816 .f32) (main_arg3 : FVec F S2048x2816 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S2048x2816 .f32 := Host.absf main_arg2
  let main_cst_2 : FVec F S_ .f32 := constant S_ .f32 0x7F800000#32
  let main_v10 : FVec F S2048x2816 .f32 := broadcastInDim S2048x2816 ![] bcast_S_S2048x2816 main_cst_2
  let main_v11 : IVec S2048x2816 1 := cmpf .olt main_v9 main_v10
  let main_c_3 : IVec S_ 1 := constantI S_ 1 1#1
  let main_v12 : IVec S_ 1 := (fun x v => Host.reduce IntOp.andi x v reducesTo_S2048x2816_S_d0_1 h_S_) main_v11 main_c_3
  let main_v13 : IVec S_ 1 := andi main_v8 main_v12
  let main_v14 : FVec F S2048x2816 .f32 := Host.absf main_arg3
  let main_cst_4 : FVec F S_ .f32 := constant S_ .f32 0x7F800000#32
  let main_v15 : FVec F S2048x2816 .f32 := broadcastInDim S2048x2816 ![] bcast_S_S2048x2816 main_cst_4
  let main_v16 : IVec S2048x2816 1 := cmpf .olt main_v14 main_v15
  fn_part1 (F := F) main_v13 main_v16
-- ==== Kernel.lean ====
abbrev S2048x1024 : Shape := ⟨2, ![2048, 1024]⟩
abbrev S2048x512 : Shape := ⟨2, ![2048, 512]⟩
abbrev S16 : Shape := ⟨1, ![16]⟩
abbrev S1x16 : Shape := ⟨2, ![1, 16]⟩
abbrev S_ : Shape := ⟨0, ![]⟩
abbrev S1x128 : Shape := ⟨2, ![1, 128]⟩
abbrev S8x1024 : Shape := ⟨2, ![8, 1024]⟩
abbrev S128x1024 : Shape := ⟨2, ![128, 1024]⟩
abbrev S128x512 : Shape := ⟨2, ![128, 512]⟩
abbrev S128x64 : Shape := ⟨2, ![128, 64]⟩
abbrev S512x64 : Shape := ⟨2, ![512, 64]⟩
abbrev S1x1 : Shape := ⟨2, ![1, 1]⟩
abbrev S128x1 : Shape := ⟨2, ![128, 1]⟩
abbrev S512x1 : Shape := ⟨2, ![512, 1]⟩
abbrev S512x128 : Shape := ⟨2, ![512, 128]⟩
abbrev S512 : Shape := ⟨1, ![512]⟩
abbrev S1 : Shape := ⟨1, ![1]⟩
abbrev S1x1024 : Shape := ⟨2, ![1, 1024]⟩
abbrev S1024 : Shape := ⟨1, ![1024]⟩

abbrev nBuf : Space → Nat
  | .hbm => 12
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x1024, .f32⟩
  | .hbm, ⟨3, _⟩ => ⟨S16, .f32⟩
  | .hbm, ⟨4, _⟩ => ⟨S1x16, .f32⟩
  | .hbm, ⟨5, _⟩ => ⟨S_, .i32⟩
  | .hbm, ⟨6, _⟩ => ⟨S_, .f32⟩
  | .hbm, ⟨7, _⟩ => ⟨S1x128, .f32⟩
  | .hbm, ⟨8, _⟩ => ⟨S2048x1024, .f32⟩
  | .hbm, ⟨9, _⟩ => ⟨S2048x512, .f32⟩
  | .hbm, ⟨10, _⟩ => ⟨S2048x512, .f32⟩
  | .hbm, ⟨11, _⟩ => ⟨S8x1024, .f32⟩
  | .local _ .vmem, ⟨0, _⟩ => ⟨S128x1024, .f32⟩
  | .local _ .vmem, ⟨1, _⟩ => ⟨S128x1024, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x1024, .f32⟩
  | .local _ .vmem, ⟨7, _⟩ => ⟨S128x1024, .f32⟩
  | .local _ .vmem, ⟨8, _⟩ => ⟨S1x128, .f32⟩
  | .local _ .vmem, ⟨9, _⟩ => ⟨S128x1024, .f32⟩
  | .local _ .vmem, ⟨10, _⟩ => ⟨S128x1024, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S8x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S2048x1024 : Shape := ⟨2, ![2048, 1024]⟩
abbrev S2048x512 : Shape := ⟨2, ![2048, 512]⟩
abbrev S16 : Shape := ⟨1, ![16]⟩
abbrev S2048x256 : Shape := ⟨2, ![2048, 256]⟩
abbrev S2048x4x64 : Shape := ⟨3, ![2048, 4, 64]⟩
abbrev S16x128x4x64 : Shape := ⟨4, ![16, 128, 4, 64]⟩
abbrev S15x128x4x64 : Shape := ⟨4, ![15, 128, 4, 64]⟩
abbrev S_ : Shape := ⟨0, ![]⟩
abbrev S16x256x4x64 : Shape := ⟨4, ![16, 256, 4, 64]⟩
abbrev S16x128x4x4x64 : Shape := ⟨5, ![16, 128, 4, 4, 64]⟩
abbrev S4x16x256x128x4 : Shape := ⟨5, ![4, 16, 256, 128, 4]⟩
abbrev S4x4x16x128x256 : Shape := ⟨5, ![4, 4, 16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S16x1x1 : Shape := ⟨3, ![16, 1, 1]⟩
abbrev S1x1x256 : Shape := ⟨3, ![1, 1, 256]⟩
abbrev S16x1x256 : Shape := ⟨3, ![16, 1, 256]⟩
abbrev S16x128x256 : Shape := ⟨3, ![16, 128, 256]⟩
abbrev S4x4x1x1 : Shape := ⟨4, ![4, 4, 1, 1]⟩
abbrev S4x4x16x128 : Shape := ⟨4, ![4, 4, 16, 128]⟩
abbrev S4x4x16x128x1 : Shape := ⟨5, ![4, 4, 16, 128, 1]⟩
abbrev S16x4x64x4x128 : Shape := ⟨5, ![16, 4, 64, 4, 128]⟩
abbrev S16x4x4x128x256 : Shape := ⟨5, ![16, 4, 4, 128, 256]⟩
abbrev S16x4x64x256 : Shape := ⟨4, ![16, 4, 64, 256]⟩
abbrev S4x4 : Shape := ⟨2, ![4, 4]⟩
abbrev S4x16x128x4x64 : Shape := ⟨5, ![4, 16, 128, 4, 64]⟩
abbrev S4x16x256x64 : Shape := ⟨4, ![4, 16, 256, 64]⟩
abbrev S8x1024 : Shape := ⟨2, ![8, 1024]⟩
abbrev S1024 : Shape := ⟨1, ![1024]⟩
abbrev S1 : Shape := ⟨1, ![1]⟩
abbrev S2 : Shape := ⟨1, ![2]⟩

abbrev nBuf : Space → Nat
  | .hbm => 199
  | .vmem => 0
  | .smem => 0
  | _ => 0

abbrev hbmTy0_0 (i : Nat) : BufTy := match i % 128 with
  | 0 => ⟨S2048x1024, .f32⟩
  | 1 => ⟨S2048x512, .f32⟩
  | 2 => ⟨S2048x1024, .f32⟩
  | 3 => ⟨S16, .f32⟩
  | 4 => ⟨S2048x256, .f32⟩
  | 5 => ⟨S2048x256, .f32⟩
  | 6 => ⟨S2048x4x64, .f32⟩
  | 7 => ⟨S16x128x4x64, .f32⟩
  | 8 => ⟨S15x128x4x64, .f32⟩
  | 9 => ⟨S_, .i32⟩
  | 10 => ⟨S_, .f32⟩
  | 11 => ⟨S16x128x4x64, .f32⟩
  | 12 => ⟨S16x256x4x64, .f32⟩
  | 13 => ⟨S2048x4x64, .f32⟩
  | 14 => ⟨S16x128x4x64, .f32⟩
  | 15 => ⟨S15x128x4x64, .f32⟩
  | 16 => ⟨S_, .i32⟩
  | 17 => ⟨S_, .f32⟩
  | 18 => ⟨S16x128x4x64, .f32⟩
  | 19 => ⟨S16x256x4x64, .f32⟩
  | 20 => ⟨S16x128x4x4x64, .f32⟩
  | 21 => ⟨S4x16x256x128x4, .f32⟩
  | 22 => ⟨S4x4x16x128x256, .f32⟩
  | 23 => ⟨S_, .f32⟩
  | 24 => ⟨S4x4x16x128x256, .f32⟩
  | 25 => ⟨S4x4x16x128x256, .f32⟩
  | 26 => ⟨S128, .i32⟩
  | 27 => ⟨S128x1, .i32⟩
  | 28 => ⟨S_, .i32⟩
  | 29 => ⟨S128x1, .i32⟩
  | 30 => ⟨S128x1, .i32⟩
  | 31 => ⟨S256, .i32⟩
  | 32 => ⟨S1x256, .i32⟩
  | 33 => ⟨S128x256, .i32⟩
  | 34 => ⟨S128x256, .i32⟩
  | 35 => ⟨S128x256, .i1⟩
  | 36 => ⟨S_, .i32⟩
  | 37 => ⟨S128x1, .i32⟩
  | 38 => ⟨S128x1, .i32⟩
  | 39 => ⟨S128x256, .i32⟩
  | 40 => ⟨S128x256, .i32⟩
  | 41 => ⟨S128x256, .i1⟩
  | 42 => ⟨S128x256, .i1⟩
  | 43 => ⟨S1x128x256, .i1⟩
  | 44 => ⟨S16, .i32⟩
  | 45 => ⟨S16x1x1, .i32⟩
  | 46 => ⟨S_, .i32⟩
  | 47 => ⟨S16x1x1, .i32⟩
  | 48 => ⟨S16x1x1, .i1⟩
  | 49 => ⟨S1x1x256, .i32⟩
  | 50 => ⟨S_, .i32⟩
  | 51 => ⟨S1x1x256, .i32⟩
  | 52 => ⟨S1x1x256, .i1⟩
  | 53 => ⟨S16x1x256, .i1⟩
  | 54 => ⟨S16x1x256, .i1⟩
  | 55 => ⟨S16x1x256, .i1⟩
  | 56 => ⟨S16x128x256, .i1⟩
  | 57 => ⟨S16x128x256, .i1⟩
  | 58 => ⟨S16x128x256, .i1⟩
  | 59 => ⟨S_, .f32⟩
  | 60 => ⟨S_, .f32⟩
  | 61 => ⟨S4x4x16x128x256, .i1⟩
  | 62 => ⟨S4x4x16x128x256, .f32⟩
  | 63 => ⟨S4x4x16x128x256, .f32⟩
  | 64 => ⟨S_, .f32⟩
  | 65 => ⟨S4x4x16x128x256, .f32⟩
  | 66 => ⟨S4x4x1x1, .f32⟩
  | 67 => ⟨S_, .f32⟩
  | 68 => ⟨S4x4x16x128, .f32⟩
  | 69 => ⟨S4x4x16x128x1, .f32⟩
  | 70 => ⟨S4x4x16x128x256, .f32⟩
  | 71 => ⟨S4x4x16x128x256, .i1⟩
  | 72 => ⟨S4x4x16x128x256, .f32⟩
  | 73 => ⟨S_, .f32⟩
  | 74 => ⟨S4x4x16x128, .f32⟩
  | 75 => ⟨S4x4x16x128, .f32⟩
  | 76 => ⟨S4x4x16x128, .f32⟩
  | 77 => ⟨S4x4x16x128, .f32⟩
  | 78 => ⟨S4x4x16x128, .i1⟩
  | 79 => ⟨S4x4x16x128, .f32⟩
  | 80 => ⟨S4x4x16x128, .i1⟩
  | 81 => ⟨S_, .f32⟩
  | 82 => ⟨S4x4x16x128, .f32⟩
  | 83 => ⟨S_, .f32⟩
  | 84 => ⟨S4x4x16x128, .f32⟩
  | 85 => ⟨S_, .f32⟩
  | 86 => ⟨S4x4x16x128, .f32⟩
  | 87 => ⟨S4x4x16x128, .f32⟩
  | 88 => ⟨S4x4x16x128, .f32⟩
  | 89 => ⟨S4x4x16x128, .f32⟩
  | 90 => ⟨S4x4x16x128, .i1⟩
  | 91 => ⟨S4x4x16x128, .f32⟩
  | 92 => ⟨S4x4x16x128, .i1⟩
  | 93 => ⟨S_, .f32⟩
  | 94 => ⟨S4x4x16x128, .f32⟩
  | 95 => ⟨S_, .f32⟩
  | 96 => ⟨S4x4x16x128, .f32⟩
  | 97 => ⟨S_, .f32⟩
  | 98 => ⟨S4x4x16x128, .f32⟩
  | 99 => ⟨S4x4x16x128, .f32⟩
  | 100 => ⟨S4x4x16x128, .f32⟩
  | 101 => ⟨S4x4x16x128x1, .f32⟩
  | 102 => ⟨S4x4x16x128x256, .f32⟩
  | 103 => ⟨S4x4x16x128x256, .f32⟩
  | 104 => ⟨S4x4x16x128x256, .f32⟩
  | 105 => ⟨S_, .f32⟩
  | 106 => ⟨S4x4x16x128, .f32⟩
  | 107 => ⟨S4x4x16x128, .f32⟩
  | 108 => ⟨S4x4x16x128, .f32⟩
  | 109 => ⟨S4x4x16x128, .f32⟩
  | 110 => ⟨S4x4x16x128, .f32⟩
  | 111 => ⟨S4x4x16x128x1, .f32⟩
  | 112 => ⟨S4x4x16x128x256, .f32⟩
  | 113 => ⟨S4x4x16x128x256, .f32⟩
  | 114 => ⟨S4x4x16x128x1, .f32⟩
  | 115 => ⟨S_, .f32⟩
  | 116 => ⟨S4x4x16x128x1, .f32⟩
  | 117 => ⟨S4x4x16x128x1, .f32⟩
  | 118 => ⟨S16x4x64x4x128, .f32⟩
  | 119 => ⟨S16x128x4x4x64, .f32⟩
  | 120 => ⟨S2048x1024, .f32⟩
  | 121 => ⟨S16x128x4x4x64, .f32⟩
  | 122 => ⟨S16x4x64x4x128, .f32⟩
  | 123 => ⟨S16x4x4x128x256, .f32⟩
  | 124 => ⟨S4x4x16x128x256, .f32⟩
  | 125 => ⟨S16x4x64x256, .f32⟩
  | 126 => ⟨S16x256x4x64, .f32⟩
  | 127 => ⟨S4x4x16x128x256, .f32⟩
  | _ => ⟨S2048x1024, .f32⟩

abbrev hbmTy0_1 (i : Nat) : BufTy := match i % 128 with
  | 0 => ⟨S4x4x16x128x256, .f32⟩
  | 1 => ⟨S4x4x16x128x256, .f32⟩
  | 2 => ⟨S_, .f32⟩
  | 3 => ⟨S4x4x16x128, .f32⟩
  | 4 => ⟨S4x4x16x128x1, .f32⟩
  | 5 => ⟨S4x4x16x128x1, .f32⟩
  | 6 => ⟨S4x4x16x128x256, .f32⟩
  | 7 => ⟨S4x4x16x128x256, .f32⟩
  | 8 => ⟨S_, .f32⟩
  | 9 => ⟨S4x4x16x128, .f32⟩
  | 10 => ⟨S4x4x16x128, .f32⟩
  | 11 => ⟨S_, .f32⟩
  | 12 => ⟨S4x4, .f32⟩
  | 13 => ⟨S4x4x1x1, .f32⟩
  | 14 => ⟨S4x4x16x128, .f32⟩
  | 15 => ⟨S4x4x16x128x256, .f32⟩
  | 16 => ⟨S4x4x16x128x256, .f32⟩
  | 17 => ⟨S4x4x16x128x256, .f32⟩
  | 18 => ⟨S4x4x16x128x256, .f32⟩
  | 19 => ⟨S_, .f32⟩
  | 20 => ⟨S4x4x16x128, .f32⟩
  | 21 => ⟨S4x4x16x128x1, .f32⟩
  | 22 => ⟨S_, .f32⟩
  | 23 => ⟨S4x4x16x128, .f32⟩
  | 24 => ⟨S4x4x16x128, .f32⟩
  | 25 => ⟨S4x4x16x128, .f32⟩
  | 26 => ⟨S_, .f32⟩
  | 27 => ⟨S4x4, .f32⟩
  | 28 => ⟨S4x4x1x1, .f32⟩
  | 29 => ⟨S4x4x1x1, .f32⟩
  | 30 => ⟨S4x4x16x128, .f32⟩
  | 31 => ⟨S4x4x16x128, .f32⟩
  | 32 => ⟨S4x4x16x128x256, .f32⟩
  | 33 => ⟨S4x4x16x128x256, .f32⟩
  | 34 => ⟨S4x4x16x128x256, .f32⟩
  | 35 => ⟨S16, .f32⟩
  | 36 => ⟨S_, .f32⟩
  | 37 => ⟨S4x4x16x128x256, .f32⟩
  | 38 => ⟨S4x4x16x128x256, .f32⟩
  | 39 => ⟨S_, .f32⟩
  | 40 => ⟨S4x4x16x128x256, .f32⟩
  | 41 => ⟨S4x4x16x128x256, .f32⟩
  | 42 => ⟨S4x16x256x128x4, .f32⟩
  | 43 => ⟨S4x16x128x4x64, .f32⟩
  | 44 => ⟨S16x128x4x4x64, .f32⟩
  | 45 => ⟨S4x16x256x64, .f32⟩
  | 46 => ⟨S16x256x4x64, .f32⟩
  | 47 => ⟨S2048x1024, .f32⟩
  | 48 => ⟨S16x128x4x64, .f32⟩
  | 49 => ⟨S2048x256, .f32⟩
  | 50 => ⟨S16x128x4x64, .f32⟩
  | 51 => ⟨S2048x256, .f32⟩
  | 52 => ⟨S2048x512, .f32⟩
  | 53 => ⟨S16x128x4x64, .f32⟩
  | 54 => ⟨S2048x256, .f32⟩
  | 55 => ⟨S16x128x4x64, .f32⟩
  | 56 => ⟨S2048x256, .f32⟩
  | 57 => ⟨S2048x512, .f32⟩
  | 58 => ⟨S_, .f32⟩
  | 59 => ⟨S8x1024, .f32⟩
  | 60 => ⟨S_, .f32⟩
  | 61 => ⟨S1024, .f32⟩
  | 62 => ⟨S_, .i32⟩
  | 63 => ⟨S1, .i32⟩
  | 64 => ⟨S8x1024, .f32⟩
  | 65 => ⟨S_, .i32⟩
  | 66 => ⟨S1, .i32⟩
  | 67 => ⟨S_, .i32⟩
  | 68 => ⟨S1, .i32⟩
  | 69 => ⟨S2, .i32⟩
  | 70 => ⟨S8x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_call1_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c_3 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_4 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_5 : Ref sig .tc := ⟨.hbm, 59, rfl⟩
abbrev main_call2_v0 : Ref sig .tc := ⟨.hbm, 60, rfl⟩
abbrev main_v46_1 : Ref sig .tc := ⟨.hbm, 61, rfl⟩
abbrev main_call2_v2 : Ref sig .tc := ⟨.hbm, 62, rfl⟩
abbrev main_v46_0 : Ref sig .tc := ⟨.hbm, 63, rfl⟩
abbrev main_call2_cst : Ref sig .tc := ⟨.hbm, 64, rfl⟩
abbrev main_v46_2 : Ref sig .tc := ⟨.hbm, 65, rfl⟩
abbrev main_v47 : Ref sig .tc := ⟨.hbm, 66, rfl⟩
abbrev main_cst_6 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_7 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_8 : Ref sig .tc := ⟨.hbm, 81, rfl⟩
abbrev main_v60 : Ref sig .tc := ⟨.hbm, 82, rfl⟩
abbrev main_cst_9 : Ref sig .tc := ⟨.hbm, 83, rfl⟩
abbrev main_v61 : Ref sig .tc := ⟨.hbm, 84, rfl⟩
abbrev main_cst_10 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_11 : Ref sig .tc := ⟨.hbm, 93, rfl⟩
abbrev main_v69 : Ref sig .tc := ⟨.hbm, 94, rfl⟩
abbrev main_cst_12 : Ref sig .tc := ⟨.hbm, 95, rfl⟩
abbrev main_v70 : Ref sig .tc := ⟨.hbm, 96, rfl⟩
abbrev main_cst_13 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_14 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_15 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_cst_16 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_cst_17 : Ref sig .tc := ⟨.hbm, 136, rfl⟩
abbrev main_v106 : Ref sig .tc := ⟨.hbm, 137, rfl⟩
abbrev main_v107 : Ref sig .tc := ⟨.hbm, 138, rfl⟩
abbrev main_cst_18 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_cst_19 : Ref sig .tc := ⟨.hbm, 147, rfl⟩
abbrev main_v115 : Ref sig .tc := ⟨.hbm, 148, rfl⟩
abbrev main_v116 : Ref sig .tc := ⟨.hbm, 149, rfl⟩
abbrev main_cst_20 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_cst_21 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_call3_cst : Ref sig .tc := ⟨.hbm, 164, rfl⟩
abbrev main_call3_v0 : Ref sig .tc := ⟨.hbm, 165, rfl⟩
abbrev main_v129 : Ref sig .tc := ⟨.hbm, 166, rfl⟩
abbrev main_cst_22 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_cst_23 : Ref sig .tc := ⟨.hbm, 186, rfl⟩
abbrev main_v148 : Ref sig .tc := ⟨.hbm, 187, rfl⟩
abbrev main_cst_24 : Ref sig .tc := ⟨.hbm, 188, rfl⟩
abbrev main_v149 : Ref sig .tc := ⟨.hbm, 189, rfl⟩
abbrev main_c_25 : Ref sig .tc := ⟨.hbm, 190, rfl⟩
abbrev main_v150 : Ref sig .tc := ⟨.hbm, 191, rfl⟩
abbrev main_v151 : Ref sig .tc := ⟨.hbm, 192, rfl⟩
abbrev main_c_26 : Ref sig .tc := ⟨.hbm, 193, rfl⟩
abbrev main_v152 : Ref sig .tc := ⟨.hbm, 194, rfl⟩
abbrev main_c_27 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩

abbrev nD : Nat := 1
abbrev τ : Topo := Topo.v7x

variable {F : FTy → Type} [FloatOps F]
-- ==== Kernel2.lean ====
abbrev S2048x1024 : Shape := ⟨2, ![2048, 1024]⟩
abbrev S2816x1024 : Shape := ⟨2, ![2816, 1024]⟩
abbrev S2048x2816 : Shape := ⟨2, ![2048, 2816]⟩
abbrev S256x1024 : Shape := ⟨2, ![256, 1024]⟩
abbrev S2048x256 : Shape := ⟨2, ![2048, 256]⟩

abbrev nBuf : Space → Nat
  | .hbm => 10
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S2816x1024, .f32⟩
  | .hbm, ⟨2, _⟩ => ⟨S2048x2816, .f32⟩
  | .hbm, ⟨3, _⟩ => ⟨S2048x2816, .f32⟩
  | .hbm, ⟨4, _⟩ => ⟨S2048x1024, .bf16⟩
  | .hbm, ⟨5, _⟩ => ⟨S2816x1024, .bf16⟩
  | .hbm, ⟨6, _⟩ => ⟨S2048x2816, .bf16⟩
  | .hbm, ⟨7, _⟩ => ⟨S2048x2816, .bf16⟩
  | .hbm, ⟨8, _⟩ => ⟨S2048x2816, .bf16⟩
  | .hbm, ⟨9, _⟩ => ⟨S2048x2816, .bf16⟩
  | .local _ .vmem, ⟨0, _⟩ => ⟨S2048x1024, .bf16⟩
  | .local _ .vmem, ⟨1, _⟩ => ⟨S256x1024, .bf16⟩
  | .local _ .vmem, ⟨2, _⟩ => ⟨S256x1024, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S2048x1024 : Shape := ⟨2, ![2048, 1024]⟩
abbrev S2816x1024 : Shape := ⟨2, ![2816, 1024]⟩
abbrev S2048x2816 : Shape := ⟨2, ![2048, 2816]⟩
abbrev S_ : Shape := ⟨0, ![]⟩
abbrev S1024x2816 : Shape := ⟨2, ![1024, 2816]⟩

abbrev nBuf : Space → Nat
  | .hbm => 30
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2816x1024, .f32⟩
  | .hbm, ⟨2, _⟩ => ⟨S2048x2816, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S_, .f32⟩
  | .hbm, ⟨7, _⟩ => ⟨S2048x2816, .f32⟩
  | .hbm, ⟨8, _⟩ => ⟨S2048x2816, .f32⟩
  | .hbm, ⟨9, _⟩ => ⟨S_, .f32⟩
  | .hbm, ⟨10, _⟩ => ⟨S2048x2816, .f32⟩
  | .hbm, ⟨11, _⟩ => ⟨S2048x2816, .f32⟩
  | .hbm, ⟨12, _⟩ => ⟨S_, .f32⟩
  | .hbm, ⟨13, _⟩ => ⟨S2048x2816, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x1024, .f32⟩
  | .hbm, ⟨19, _⟩ => ⟨S1024x2816, .f32⟩
  | .hbm, ⟨20, _⟩ => ⟨S2816x1024, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S2048x2816, .f32⟩
  | .hbm, ⟨27, _⟩ => ⟨S2048x2816, .f32⟩
  | .hbm, ⟨28, _⟩ => ⟨S2048x2816, .bf16⟩
  | .hbm, ⟨29, _⟩ => ⟨S2048x2816, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== Kernel3.lean ====
abbrev S2048x2816 : Shape := ⟨2, ![2048, 2816]⟩
abbrev S1024x5632 : Shape := ⟨2, ![1024, 5632]⟩
abbrev S5632x1024 : Shape := ⟨2, ![5632, 1024]⟩
abbrev S2048x1024 : Shape := ⟨2, ![2048, 1024]⟩
abbrev S1024x2816 : Shape := ⟨2, ![1024, 2816]⟩
abbrev S2816x512 : Shape := ⟨2, ![2816, 512]⟩
abbrev S1024x512 : Shape := ⟨2, ![1024, 512]⟩

abbrev nBuf : Space → Nat
  | .hbm => 8
  | .vmem => 10
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S1024x5632, .f32⟩
  | .hbm, ⟨3, _⟩ => ⟨S2048x2816, .bf16⟩
  | .hbm, ⟨4, _⟩ => ⟨S2048x2816, .bf16⟩
  | .hbm, ⟨5, _⟩ => ⟨S5632x1024, .f32⟩
  | .hbm, ⟨6, _⟩ => ⟨S5632x1024, .bf16⟩
  | .hbm, ⟨7, _⟩ => ⟨S2048x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S2816x512, .bf16⟩
  | .local _ .vmem, ⟨5, _⟩ => ⟨S2816x512, .bf16⟩
  | .local _ .vmem, ⟨6, _⟩ => ⟨S2816x512, .bf16⟩
  | .local _ .vmem, ⟨7, _⟩ => ⟨S2816x512, .bf16⟩
  | .local _ .vmem, ⟨8, _⟩ => ⟨S1024x512, .f32⟩
  | .local _ .vmem, ⟨9, _⟩ => ⟨S1024x512, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2816x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2816x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S2048x2816 : Shape := ⟨2, ![2048, 2816]⟩
abbrev S1024x5632 : Shape := ⟨2, ![1024, 5632]⟩
abbrev S_ : Shape := ⟨0, ![]⟩
abbrev S2048x1024 : Shape := ⟨2, ![2048, 1024]⟩
abbrev S2048x5632 : Shape := ⟨2, ![2048, 5632]⟩
abbrev S5632x1024 : Shape := ⟨2, ![5632, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S1024x5632, .f32⟩
  | .hbm, ⟨3, _⟩ => ⟨S_, .f32⟩
  | .hbm, ⟨4, _⟩ => ⟨S2048x1024, .f32⟩
  | .hbm, ⟨5, _⟩ => ⟨S2048x5632, .f32⟩
  | .hbm, ⟨6, _⟩ => ⟨S2048x2816, .f32⟩
  | .hbm, ⟨7, _⟩ => ⟨S2048x2816, .f32⟩
  | .hbm, ⟨8, _⟩ => ⟨S2048x5632, .f32⟩
  | .hbm, ⟨9, _⟩ => ⟨S5632x1024, .f32⟩
  | .hbm, ⟨10, _⟩ => ⟨S1024x5632, .f32⟩
  | .hbm, ⟨11, _⟩ => ⟨S2048x1024, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel4.lean ====
abbrev S2048x2816 : Shape := ⟨2, ![2048, 2816]⟩
abbrev S2048x1024 : Shape := ⟨2, ![2048, 1024]⟩
abbrev S5632x1024 : Shape := ⟨2, ![5632, 1024]⟩
abbrev S2048x256 : Shape := ⟨2, ![2048, 256]⟩
abbrev S256x1024 : Shape := ⟨2, ![256, 1024]⟩

abbrev nBuf : Space → Nat
  | .hbm => 8
  | .vmem => 10
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x1024, .f32⟩
  | .hbm, ⟨3, _⟩ => ⟨S2048x2816, .bf16⟩
  | .hbm, ⟨4, _⟩ => ⟨S2048x2816, .bf16⟩
  | .hbm, ⟨5, _⟩ => ⟨S2048x1024, .bf16⟩
  | .hbm, ⟨6, _⟩ => ⟨S5632x1024, .bf16⟩
  | .hbm, ⟨7, _⟩ => ⟨S5632x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S256x1024, .bf16⟩
  | .local _ .vmem, ⟨4, _⟩ => ⟨S256x1024, .bf16⟩
  | .local _ .vmem, ⟨5, _⟩ => ⟨S2048x256, .bf16⟩
  | .local _ .vmem, ⟨6, _⟩ => ⟨S2048x256, .bf16⟩
  | .local _ .vmem, ⟨7, _⟩ => ⟨S2048x1024, .bf16⟩
  | .local _ .vmem, ⟨8, _⟩ => ⟨S256x1024, .bf16⟩
  | .local _ .vmem, ⟨9, _⟩ => ⟨S256x1024, .bf16⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![11], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  ![v0.toNat, c0_i32.toNat]

abbrev stage1_0 : Fin 2 → Memref sig .tc .vmem S2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== Reference4Ideal.lean ====
abbrev S2048x2816 : Shape := ⟨2, ![2048, 2816]⟩
abbrev S2048x1024 : Shape := ⟨2, ![2048, 1024]⟩
abbrev S_ : Shape := ⟨0, ![]⟩
abbrev S1024x5632 : Shape := ⟨2, ![1024, 5632]⟩
abbrev S2048x5632 : Shape := ⟨2, ![2048, 5632]⟩
abbrev S5632x1024 : Shape := ⟨2, ![5632, 1024]⟩

abbrev nBuf : Space → Nat
  | .hbm => 14
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x1024, .f32⟩
  | .hbm, ⟨3, _⟩ => ⟨S_, .f32⟩
  | .hbm, ⟨4, _⟩ => ⟨S1024x5632, .f32⟩
  | .hbm, ⟨5, _⟩ => ⟨S2048x5632, .f32⟩
  | .hbm, ⟨6, _⟩ => ⟨S2048x2816, .f32⟩
  | .hbm, ⟨7, _⟩ => ⟨S2048x2816, .f32⟩
  | .hbm, ⟨8, _⟩ => ⟨S2048x5632, .f32⟩
  | .hbm, ⟨9, _⟩ => ⟨S5632x1024, .f32⟩
  | .hbm, ⟨10, _⟩ => ⟨S1024x5632, .f32⟩
  | .hbm, ⟨11, _⟩ => ⟨S2048x1024, .f32⟩
  | .hbm, ⟨12, _⟩ => ⟨S5632x1024, .f32⟩
  | .hbm, ⟨13, _⟩ => ⟨S5632x1024, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel5.lean ====
abbrev S2048x2816 : Shape := ⟨2, ![2048, 2816]⟩
abbrev S2048x1024 : Shape := ⟨2, ![2048, 1024]⟩
abbrev S2816x1024 : Shape := ⟨2, ![2816, 1024]⟩
abbrev S2048x256 : Shape := ⟨2, ![2048, 256]⟩
abbrev S256x1024 : Shape := ⟨2, ![256, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S2048x2816, .bf16⟩
  | .hbm, ⟨3, _⟩ => ⟨S2048x1024, .bf16⟩
  | .hbm, ⟨4, _⟩ => ⟨S2816x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S256x1024, .bf16⟩
  | .local _ .vmem, ⟨4, _⟩ => ⟨S256x1024, .bf16⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S_, .f32⟩
  | .hbm, ⟨3, _⟩ => ⟨S2816x1024, .f32⟩
  | .hbm, ⟨4, _⟩ => ⟨S2048x1024, .f32⟩
  | .hbm, ⟨5, _⟩ => ⟨S1024x2816, .f32⟩
  | .hbm, ⟨6, _⟩ => ⟨S2816x1024, .f32⟩
  | .hbm, ⟨7, _⟩ => ⟨S2048x2816, .f32⟩
  | .hbm, ⟨8, _⟩ => ⟨S2816x1024, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S2048x1024 : Shape := ⟨2, ![2048, 1024]⟩
abbrev S1024x5632 : Shape := ⟨2, ![1024, 5632]⟩
abbrev S5632x1024 : Shape := ⟨2, ![5632, 1024]⟩
abbrev S2048x2816 : Shape := ⟨2, ![2048, 2816]⟩
abbrev S256x1024 : Shape := ⟨2, ![256, 1024]⟩
abbrev S2048x256 : Shape := ⟨2, ![2048, 256]⟩

abbrev nBuf : Space → Nat
  | .hbm => 8
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x1024, .bf16⟩
  | .hbm, ⟨3, _⟩ => ⟨S5632x1024, .f32⟩
  | .hbm, ⟨4, _⟩ => ⟨S5632x1024, .bf16⟩
  | .hbm, ⟨5, _⟩ => ⟨S2048x2816, .bf16⟩
  | .hbm, ⟨6, _⟩ => ⟨S2048x2816, .bf16⟩
  | .hbm, ⟨7, _⟩ => ⟨S2048x2816, .bf16⟩
  | .local _ .vmem, ⟨0, _⟩ => ⟨S2048x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S2048x1024 : Shape := ⟨2, ![2048, 1024]⟩
abbrev S1024x5632 : Shape := ⟨2, ![1024, 5632]⟩
abbrev S2048x5632 : Shape := ⟨2, ![2048, 5632]⟩
abbrev S2048x2816 : Shape := ⟨2, ![2048, 2816]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x5632, .f32⟩
  | .hbm, ⟨3, _⟩ => ⟨S2048x2816, .f32⟩
  | .hbm, ⟨4, _⟩ => ⟨S2048x2816, .f32⟩
  | .hbm, ⟨5, _⟩ => ⟨S2048x2816, .bf16⟩
  | .hbm, ⟨6, _⟩ => ⟨S2048x2816, .bf16⟩
  | .hbm, ⟨7, _⟩ => ⟨S2048x2816, .f32⟩
  | .hbm, ⟨8, _⟩ => ⟨S2048x2816, .f32⟩
  | .hbm, ⟨9, _⟩ => ⟨S_, .f32⟩
  | .hbm, ⟨10, _⟩ => ⟨S2048x2816, .f32⟩
  | .hbm, ⟨11, _⟩ => ⟨S2048x2816, .f32⟩
  | .hbm, ⟨12, _⟩ => ⟨S_, .f32⟩
  | .hbm, ⟨13, _⟩ => ⟨S2048x2816, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S2048x2816, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== Kernel7.lean ====
abbrev S2048x2816 : Shape := ⟨2, ![2048, 2816]⟩
abbrev S2816x1024 : Shape := ⟨2, ![2816, 1024]⟩
abbrev S2048x1024 : Shape := ⟨2, ![2048, 1024]⟩
abbrev S1024 : Shape := ⟨1, ![1024]⟩
abbrev S1x1024 : Shape := ⟨2, ![1, 1024]⟩
abbrev S1024x2816 : Shape := ⟨2, ![1024, 2816]⟩
abbrev S2816x512 : Shape := ⟨2, ![2816, 512]⟩
abbrev S1024x512 : Shape := ⟨2, ![1024, 512]⟩
abbrev S1x512 : Shape := ⟨2, ![1, 512]⟩

abbrev nBuf : Space → Nat
  | .hbm => 9
  | .vmem => 12
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S1024, .f32⟩
  | .hbm, ⟨4, _⟩ => ⟨S2048x2816, .bf16⟩
  | .hbm, ⟨5, _⟩ => ⟨S2816x1024, .bf16⟩
  | .hbm, ⟨6, _⟩ => ⟨S1x1024, .f32⟩
  | .hbm, ⟨7, _⟩ => ⟨S2048x1024, .bf16⟩
  | .hbm, ⟨8, _⟩ => ⟨S2048x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x512, .bf16⟩
  | .local _ .vmem, ⟨3, _⟩ => ⟨S2816x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .f32⟩
  | .local _ .vmem, ⟨11, _⟩ => ⟨S1024x512, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S2048x2816 : Shape := ⟨2, ![2048, 2816]⟩
abbrev S2816x1024 : Shape := ⟨2, ![2816, 1024]⟩
abbrev S2048x1024 : Shape := ⟨2, ![2048, 1024]⟩
abbrev S1024 : Shape := ⟨1, ![1024]⟩
abbrev S1x1024 : Shape := ⟨2, ![1, 1024]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S2048x1024, .bf16⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S2048x1024, .f32⟩
  | .hbm, ⟨11, _⟩ => ⟨S2048x1024, .f32⟩
  | .hbm, ⟨12, _⟩ => ⟨S2048x1024, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel8.lean ====
abbrev S2048x1024 : Shape := ⟨2, ![2048, 1024]⟩
abbrev S1024x6176 : Shape := ⟨2, ![1024, 6176]⟩
abbrev S6176x1024 : Shape := ⟨2, ![6176, 1024]⟩
abbrev S_ : Shape := ⟨0, ![]⟩
abbrev S6272x1024 : Shape := ⟨2, ![6272, 1024]⟩
abbrev S2048x6272 : Shape := ⟨2, ![2048, 6272]⟩
abbrev S1024x1024 : Shape := ⟨2, ![1024, 1024]⟩
abbrev S896x1024 : Shape := ⟨2, ![896, 1024]⟩
abbrev S1024x896 : Shape := ⟨2, ![1024, 896]⟩

abbrev nBuf : Space → Nat
  | .hbm => 9
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x6176, .f32⟩
  | .hbm, ⟨2, _⟩ => ⟨S6176x1024, .f32⟩
  | .hbm, ⟨3, _⟩ => ⟨S6176x1024, .bf16⟩
  | .hbm, ⟨4, _⟩ => ⟨S_, .i32⟩
  | .hbm, ⟨5, _⟩ => ⟨S_, .bf16⟩
  | .hbm, ⟨6, _⟩ => ⟨S6272x1024, .bf16⟩
  | .hbm, ⟨7, _⟩ => ⟨S2048x1024, .bf16⟩
  | .hbm, ⟨8, _⟩ => ⟨S2048x6272, .f32⟩
  | .local _ .vmem, ⟨0, _⟩ => ⟨S1024x1024, .bf16⟩
  | .local _ .vmem, ⟨1, _⟩ => ⟨S1024x1024, .bf16⟩
  | .local _ .vmem, ⟨2, _⟩ => ⟨S896x1024, .bf16⟩
  | .local _ .vmem, ⟨3, _⟩ => ⟨S896x1024, .bf16⟩
  | .local _ .vmem, ⟨4, _⟩ => ⟨S1024x896, .f32⟩
  | .local _ .vmem, ⟨5, _⟩ => ⟨S1024x896, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S896x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S2048x1024 : Shape := ⟨2, ![2048, 1024]⟩
abbrev S1024x6176 : Shape := ⟨2, ![1024, 6176]⟩
abbrev S2048x6176 : Shape := ⟨2, ![2048, 6176]⟩
abbrev S_ : Shape := ⟨0, ![]⟩
abbrev S2048x6272 : Shape := ⟨2, ![2048, 6272]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x6176, .f32⟩
  | .hbm, ⟨2, _⟩ => ⟨S2048x6176, .f32⟩
  | .hbm, ⟨3, _⟩ => ⟨S_, .i32⟩
  | .hbm, ⟨4, _⟩ => ⟨S_, .f32⟩
  | .hbm, ⟨5, _⟩ => ⟨S2048x6272, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩

abbrev nD : Nat := 1
abbrev τ : Topo := Topo.v7x

variable {F : FTy → Type} [FloatOps F]
-- ==== Kernel9.lean ====
abbrev S2048x6272 : Shape := ⟨2, ![2048, 6272]⟩
abbrev S2048x1024 : Shape := ⟨2, ![2048, 1024]⟩
abbrev S6272x1024 : Shape := ⟨2, ![6272, 1024]⟩
abbrev S2048x896 : Shape := ⟨2, ![2048, 896]⟩
abbrev S896x1024 : Shape := ⟨2, ![896, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x6272, .f32⟩
  | .hbm, ⟨1, _⟩ => ⟨S2048x1024, .f32⟩
  | .hbm, ⟨2, _⟩ => ⟨S2048x6272, .bf16⟩
  | .hbm, ⟨3, _⟩ => ⟨S2048x1024, .bf16⟩
  | .hbm, ⟨4, _⟩ => ⟨S6272x1024, .bf16⟩
  | .local _ .vmem, ⟨0, _⟩ => ⟨S2048x896, .bf16⟩
  | .local _ .vmem, ⟨1, _⟩ => ⟨S2048x896, .bf16⟩
  | .local _ .vmem, ⟨2, _⟩ => ⟨S2048x1024, .bf16⟩
  | .local _ .vmem, ⟨3, _⟩ => ⟨S896x1024, .bf16⟩
  | .local _ .vmem, ⟨4, _⟩ => ⟨S896x1024, .bf16⟩
  | _, _ => ⟨S2048x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![7, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S896x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S2048x6272 : Shape := ⟨2, ![2048, 6272]⟩
abbrev S2048x1024 : Shape := ⟨2, ![2048, 1024]⟩
abbrev S_ : Shape := ⟨0, ![]⟩
abbrev S1024x6272 : Shape := ⟨2, ![1024, 6272]⟩
abbrev S6272x1024 : Shape := ⟨2, ![6272, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x6272, .f32⟩
  | .hbm, ⟨1, _⟩ => ⟨S2048x1024, .f32⟩
  | .hbm, ⟨2, _⟩ => ⟨S_, .f32⟩
  | .hbm, ⟨3, _⟩ => ⟨S1024x6272, .f32⟩
  | .hbm, ⟨4, _⟩ => ⟨S2048x6272, .f32⟩
  | .hbm, ⟨5, _⟩ => ⟨S6272x1024, .f32⟩
  | .hbm, ⟨6, _⟩ => ⟨S1024x6272, .f32⟩
  | .hbm, ⟨7, _⟩ => ⟨S2048x1024, .f32⟩
  | .hbm, ⟨8, _⟩ => ⟨S6272x1024, .f32⟩
  | .hbm, ⟨9, _⟩ => ⟨S6272x1024, .bf16⟩
  | _, _ => ⟨S2048x6272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S2048x6272 : Shape := ⟨2, ![2048, 6272]⟩
abbrev S1024x6176 : Shape := ⟨2, ![1024, 6176]⟩
abbrev S6176x1024 : Shape := ⟨2, ![6176, 1024]⟩
abbrev S_ : Shape := ⟨0, ![]⟩
abbrev S6272x1024 : Shape := ⟨2, ![6272, 1024]⟩
abbrev S2048x1024 : Shape := ⟨2, ![2048, 1024]⟩
abbrev S512x6272 : Shape := ⟨2, ![512, 6272]⟩
abbrev S6272x512 : Shape := ⟨2, ![6272, 512]⟩
abbrev S512x512 : Shape := ⟨2, ![512, 512]⟩

abbrev nBuf : Space → Nat
  | .hbm => 9
  | .vmem => 6
  | .smem => 0
  | _ => 0

abbrev bufTy : (tb : Table) → Fin (tcTables nBuf tb) → BufTy
  | .hbm, ⟨0, _⟩ => ⟨S2048x6272, .f32⟩
  | .hbm, ⟨1, _⟩ => ⟨S1024x6176, .f32⟩
  | .hbm, ⟨2, _⟩ => ⟨S6176x1024, .f32⟩
  | .hbm, ⟨3, _⟩ => ⟨S6176x1024, .bf16⟩
  | .hbm, ⟨4, _⟩ => ⟨S_, .i32⟩
  | .hbm, ⟨5, _⟩ => ⟨S_, .bf16⟩
  | .hbm, ⟨6, _⟩ => ⟨S6272x1024, .bf16⟩
  | .hbm, ⟨7, _⟩ => ⟨S2048x6272, .bf16⟩
  | .hbm, ⟨8, _⟩ => ⟨S2048x1024, .f32⟩
  | .local _ .vmem, ⟨0, _⟩ => ⟨S512x6272, .bf16⟩
  | .local _ .vmem, ⟨1, _⟩ => ⟨S512x6272, .bf16⟩
  | .local _ .vmem, ⟨2, _⟩ => ⟨S6272x512, .bf16⟩
  | .local _ .vmem, ⟨3, _⟩ => ⟨S6272x512, .bf16⟩
  | .local _ .vmem, ⟨4, _⟩ => ⟨S512x512, .f32⟩
  | .local _ .vmem, ⟨5, _⟩ => ⟨S512x512, .f32⟩
  | _, _ => ⟨S2048x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x6272 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S6272x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S2048x6272 : Shape := ⟨2, ![2048, 6272]⟩
abbrev S1024x6176 : Shape := ⟨2, ![1024, 6176]⟩
abbrev S_ : Shape := ⟨0, ![]⟩
abbrev S2048x1024 : Shape := ⟨2, ![2048, 1024]⟩
abbrev S2048x6176 : Shape := ⟨2, ![2048, 6176]⟩
abbrev S6176x1024 : Shape := ⟨2, ![6176, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x6272, .f32⟩
  | .hbm, ⟨1, _⟩ => ⟨S1024x6176, .f32⟩
  | .hbm, ⟨2, _⟩ => ⟨S_, .f32⟩
  | .hbm, ⟨3, _⟩ => ⟨S2048x1024, .f32⟩
  | .hbm, ⟨4, _⟩ => ⟨S2048x6176, .f32⟩
  | .hbm, ⟨5, _⟩ => ⟨S2048x6176, .f32⟩
  | .hbm, ⟨6, _⟩ => ⟨S6176x1024, .f32⟩
  | .hbm, ⟨7, _⟩ => ⟨S1024x6176, .f32⟩
  | .hbm, ⟨8, _⟩ => ⟨S2048x1024, .f32⟩
  | _, _ => ⟨S2048x6272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S2048x2048 : Shape := ⟨2, ![2048, 2048]⟩
abbrev S2048x1024 : Shape := ⟨2, ![2048, 1024]⟩
abbrev S1024 : Shape := ⟨1, ![1024]⟩
abbrev S1x1024 : Shape := ⟨2, ![1, 1024]⟩
abbrev S1024x2048 : Shape := ⟨2, ![1024, 2048]⟩
abbrev S2048x512 : Shape := ⟨2, ![2048, 512]⟩
abbrev S1024x512 : Shape := ⟨2, ![1024, 512]⟩
abbrev S1x512 : Shape := ⟨2, ![1, 512]⟩

abbrev nBuf : Space → Nat
  | .hbm => 9
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x1024, .f32⟩
  | .hbm, ⟨3, _⟩ => ⟨S1024, .f32⟩
  | .hbm, ⟨4, _⟩ => ⟨S2048x2048, .bf16⟩
  | .hbm, ⟨5, _⟩ => ⟨S2048x1024, .bf16⟩
  | .hbm, ⟨6, _⟩ => ⟨S1x1024, .f32⟩
  | .hbm, ⟨7, _⟩ => ⟨S2048x1024, .bf16⟩
  | .hbm, ⟨8, _⟩ => ⟨S2048x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .f32⟩
  | .local _ .vmem, ⟨11, _⟩ => ⟨S1024x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference11Ideal.lean ====
abbrev S2048x2048 : Shape := ⟨2, ![2048, 2048]⟩
abbrev S2048x1024 : Shape := ⟨2, ![2048, 1024]⟩
abbrev S1024 : Shape := ⟨1, ![1024]⟩
abbrev S1x1024 : Shape := ⟨2, ![1, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S2048x1024, .bf16⟩
  | .hbm, ⟨6, _⟩ => ⟨S1x1024, .f32⟩
  | .hbm, ⟨7, _⟩ => ⟨S2048x1024, .f32⟩
  | .hbm, ⟨8, _⟩ => ⟨S2048x1024, .f32⟩
  | .hbm, ⟨9, _⟩ => ⟨S2048x1024, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel12.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x2048, .bf16⟩
  | .hbm, ⟨3, _⟩ => ⟨S2048x1024, .bf16⟩
  | .hbm, ⟨4, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S2048x2048 : Shape := ⟨2, ![2048, 2048]⟩
abbrev S2048x1024 : Shape := ⟨2, ![2048, 1024]⟩
abbrev S_ : Shape := ⟨0, ![]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S1024x2048, .f32⟩
  | .hbm, ⟨6, _⟩ => ⟨S2048x1024, .f32⟩
  | .hbm, ⟨7, _⟩ => ⟨S2048x2048, .f32⟩
  | .hbm, ⟨8, _⟩ => ⟨S2048x1024, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S2048x1024 : Shape := ⟨2, ![2048, 1024]⟩
abbrev S2048x2048 : Shape := ⟨2, ![2048, 2048]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S2048x1024, .bf16⟩
  | .hbm, ⟨4, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S2048x1024 : Shape := ⟨2, ![2048, 1024]⟩
abbrev S_ : Shape := ⟨0, ![]⟩
abbrev S2048x2048 : Shape := ⟨2, ![2048, 2048]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S2048x2048, .f32⟩
  | .hbm, ⟨4, _⟩ => ⟨S2048x1024, .f32⟩
  | .hbm, ⟨5, _⟩ => ⟨S1024x2048, .f32⟩
  | .hbm, ⟨6, _⟩ => ⟨S2048x1024, .f32⟩
  | .hbm, ⟨7, _⟩ => ⟨S2048x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩
abbrev S1024x512 : Shape := ⟨2, ![1024, 512]⟩
abbrev S1x512 : Shape := ⟨2, ![1, 512]⟩

abbrev nBuf : Space → Nat
  | .hbm => 7
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S1024, .f32⟩
  | .hbm, ⟨3, _⟩ => ⟨S2048x1024, .bf16⟩
  | .hbm, ⟨4, _⟩ => ⟨S1024x1024, .bf16⟩
  | .hbm, ⟨5, _⟩ => ⟨S1x1024, .f32⟩
  | .hbm, ⟨6, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference14Ideal.lean ====
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩
abbrev S1024x512 : Shape := ⟨2, ![1024, 512]⟩
abbrev S1x512 : Shape := ⟨2, ![1, 512]⟩

abbrev nBuf : Space → Nat
  | .hbm => 11
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S1024, .f32⟩
  | .hbm, ⟨3, _⟩ => ⟨S2048x1024, .f32⟩
  | .hbm, ⟨4, _⟩ => ⟨S1024, .f32⟩
  | .hbm, ⟨5, _⟩ => ⟨S2048x1024, .bf16⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S2048x1024, .bf16⟩
  | .hbm, ⟨10, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1x512, .f32⟩
  | .local _ .vmem, ⟨9, _⟩ => ⟨S1x512, .f32⟩
  | .local _ .vmem, ⟨10, _⟩ => ⟨S1024x512, .bf16⟩
  | .local _ .vmem, ⟨11, _⟩ => ⟨S1024x512, .bf16⟩
  | .local _ .vmem, ⟨12, _⟩ => ⟨S1024x512, .f32⟩
  | .local _ .vmem, ⟨13, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference15Ideal.lean ====
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 14
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1x1024, .f32⟩
  | .hbm, ⟨7, _⟩ => ⟨S2048x1024, .f32⟩
  | .hbm, ⟨8, _⟩ => ⟨S2048x1024, .f32⟩
  | .hbm, ⟨9, _⟩ => ⟨S2048x1024, .bf16⟩
  | .hbm, ⟨10, _⟩ => ⟨S1x1024, .f32⟩
  | .hbm, ⟨11, _⟩ => ⟨S2048x1024, .f32⟩
  | .hbm, ⟨12, _⟩ => ⟨S2048x1024, .f32⟩
  | .hbm, ⟨13, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel16.lean ====
abbrev S2048x1024 : Shape := ⟨2, ![2048, 1024]⟩
abbrev S1024x1024 : Shape := ⟨2, ![1024, 1024]⟩

abbrev nBuf : Space → Nat
  | .hbm => 5
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S2048x1024, .bf16⟩
  | .hbm, ⟨4, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference16Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S2048x1024, .f32⟩
  | .hbm, ⟨8, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel17.lean ====
abbrev S2048x1024 : Shape := ⟨2, ![2048, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .bf16⟩
  | .hbm, ⟨3, _⟩ => ⟨S1024x1024, .bf16⟩
  | .hbm, ⟨4, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference17Ideal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel18.lean ====
abbrev S2048x1024 : Shape := ⟨2, ![2048, 1024]⟩
abbrev S1024x1024 : Shape := ⟨2, ![1024, 1024]⟩

abbrev nBuf : Space → Nat
  | .hbm => 4
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S1024x1024, .bf16⟩
  | .local _ .vmem, ⟨0, _⟩ => ⟨S2048x1024, .bf16⟩
  | .local _ .vmem, ⟨1, _⟩ => ⟨S2048x1024, .f32⟩
  | .local _ .vmem, ⟨2, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference18Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S2048x1024, .f32⟩
  | .hbm, ⟨8, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel19.lean ====
abbrev S2048x1024 : Shape := ⟨2, ![2048, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S1024x1024, .bf16⟩
  | .hbm, ⟨3, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference19Ideal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel20.lean ====
abbrev S2048x1024 : Shape := ⟨2, ![2048, 1024]⟩
abbrev S1024x512 : Shape := ⟨2, ![1024, 512]⟩
abbrev S512 : Shape := ⟨1, ![512]⟩
abbrev S1x512 : Shape := ⟨2, ![1, 512]⟩
abbrev S2048x512 : Shape := ⟨2, ![2048, 512]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x512, .f32⟩
  | .hbm, ⟨2, _⟩ => ⟨S512, .f32⟩
  | .hbm, ⟨3, _⟩ => ⟨S2048x1024, .bf16⟩
  | .hbm, ⟨4, _⟩ => ⟨S1024x512, .bf16⟩
  | .hbm, ⟨5, _⟩ => ⟨S1x512, .f32⟩
  | .hbm, ⟨6, _⟩ => ⟨S2048x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1x512, .f32⟩
  | .local _ .vmem, ⟨4, _⟩ => ⟨S1024x512, .f32⟩
  | .local _ .vmem, ⟨5, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference20Ideal.lean ====
abbrev S2048x1024 : Shape := ⟨2, ![2048, 1024]⟩
abbrev S1024x512 : Shape := ⟨2, ![1024, 512]⟩
abbrev S512 : Shape := ⟨1, ![512]⟩
abbrev S2048x512 : Shape := ⟨2, ![2048, 512]⟩
abbrev S1x512 : Shape := ⟨2, ![1, 512]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x512, .f32⟩
  | .hbm, ⟨2, _⟩ => ⟨S512, .f32⟩
  | .hbm, ⟨3, _⟩ => ⟨S2048x512, .f32⟩
  | .hbm, ⟨4, _⟩ => ⟨S1x512, .f32⟩
  | .hbm, ⟨5, _⟩ => ⟨S2048x512, .f32⟩
  | .hbm, ⟨6, _⟩ => ⟨S2048x512, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel21.lean ====
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 4
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x1024, .bf16⟩
  | .hbm, ⟨3, _⟩ => ⟨S1024x512, .bf16⟩
  | .local _ .vmem, ⟨0, _⟩ => ⟨S2048x1024, .bf16⟩
  | .local _ .vmem, ⟨1, _⟩ => ⟨S2048x512, .f32⟩
  | .local _ .vmem, ⟨2, _⟩ => ⟨S1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference21Ideal.lean ====
abbrev S2048x1024 : Shape := ⟨2, ![2048, 1024]⟩
abbrev S2048x512 : Shape := ⟨2, ![2048, 512]⟩
abbrev S_ : Shape := ⟨0, ![]⟩
abbrev S1024x512 : Shape := ⟨2, ![1024, 512]⟩
abbrev S512x1024 : Shape := ⟨2, ![512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S_, .f32⟩
  | .hbm, ⟨3, _⟩ => ⟨S1024x512, .f32⟩
  | .hbm, ⟨4, _⟩ => ⟨S2048x512, .f32⟩
  | .hbm, ⟨5, _⟩ => ⟨S512x1024, .f32⟩
  | .hbm, ⟨6, _⟩ => ⟨S1024x512, .f32⟩
  | .hbm, ⟨7, _⟩ => ⟨S2048x1024, .f32⟩
  | .hbm, ⟨8, _⟩ => ⟨S1024x512, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel22.lean ====
abbrev S2048x512 : Shape := ⟨2, ![2048, 512]⟩
abbrev S1024x512 : Shape := ⟨2, ![1024, 512]⟩
abbrev S2048x1024 : Shape := ⟨2, ![2048, 1024]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S2048x512, .f32⟩
  | .hbm, ⟨1, _⟩ => ⟨S1024x512, .f32⟩
  | .hbm, ⟨2, _⟩ => ⟨S1024x512, .bf16⟩
  | .hbm, ⟨3, _⟩ => ⟨S2048x1024, .f32⟩
  | .local _ .vmem, ⟨0, _⟩ => ⟨S1024x512, .f32⟩
  | .local _ .vmem, ⟨1, _⟩ => ⟨S1024x512, .f32⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference22Ideal.lean ====
abbrev S2048x512 : Shape := ⟨2, ![2048, 512]⟩
abbrev S1024x512 : Shape := ⟨2, ![1024, 512]⟩
abbrev S_ : Shape := ⟨0, ![]⟩
abbrev S2048x1024 : Shape := ⟨2, ![2048, 1024]⟩
abbrev S512x1024 : Shape := ⟨2, ![512, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S1024x512, .f32⟩
  | .hbm, ⟨2, _⟩ => ⟨S_, .f32⟩
  | .hbm, ⟨3, _⟩ => ⟨S2048x1024, .f32⟩
  | .hbm, ⟨4, _⟩ => ⟨S2048x512, .f32⟩
  | .hbm, ⟨5, _⟩ => ⟨S512x1024, .f32⟩
  | .hbm, ⟨6, _⟩ => ⟨S1024x512, .f32⟩
  | .hbm, ⟨7, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel23.lean ====
abbrev S8x8x128 : Shape := ⟨3, ![8, 8, 128]⟩
abbrev S8x128 : Shape := ⟨2, ![8, 128]⟩
abbrev S1x8x128 : Shape := ⟨3, ![1, 8, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S8x128, .f32⟩
  | .hbm, ⟨5, _⟩ => ⟨S8x128, .f32⟩
  | .hbm, ⟨6, _⟩ => ⟨S8x128, .f32⟩
  | .hbm, ⟨7, _⟩ => ⟨S8x128, .f32⟩
  | .local _ .vmem, ⟨0, _⟩ => ⟨S8x8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | _, _ => ⟨S8x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 1 → Memref sig .tc .vmem S8x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel23Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference23Ideal.lean ====
abbrev S8x8x128 : Shape := ⟨3, ![8, 8, 128]⟩
abbrev S8x128 : Shape := ⟨2, ![8, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S_, .f32⟩
  | .hbm, ⟨5, _⟩ => ⟨S8x128, .f32⟩
  | .hbm, ⟨6, _⟩ => ⟨S_, .f32⟩
  | .hbm, ⟨7, _⟩ => ⟨S8x128, .f32⟩
  | .hbm, ⟨8, _⟩ => ⟨S8x128, .f32⟩
  | .hbm, ⟨9, _⟩ => ⟨S_, .f32⟩
  | .hbm, ⟨10, _⟩ => ⟨S8x128, .f32⟩
  | .hbm, ⟨11, _⟩ => ⟨S8x128, .f32⟩
  | .hbm, ⟨12, _⟩ => ⟨S8x128, .f32⟩
  | .hbm, ⟨13, _⟩ => ⟨S_, .f32⟩
  | .hbm, ⟨14, _⟩ => ⟨S8x128, .f32⟩
  | .hbm, ⟨15, _⟩ => ⟨S8x128, .f32⟩
  | .hbm, ⟨16, _⟩ => ⟨S8x128, .f32⟩
  | .hbm, ⟨17, _⟩ => ⟨S_, .f32⟩
  | .hbm, ⟨18, _⟩ => ⟨S8x128, .f32⟩
  | .hbm, ⟨19, _⟩ => ⟨S8x128, .f32⟩
  | .hbm, ⟨20, _⟩ => ⟨S8x128, .f32⟩
  | .hbm, ⟨21, _⟩ => ⟨S_, .f32⟩
  | .hbm, ⟨22, _⟩ => ⟨S8x128, .f32⟩
  | .hbm, ⟨23, _⟩ => ⟨S8x128, .f32⟩
  | .hbm, ⟨24, _⟩ => ⟨S_, .f32⟩
  | .hbm, ⟨25, _⟩ => ⟨S8x128, .f32⟩
  | .hbm, ⟨26, _⟩ => ⟨S8x128, .f32⟩
  | .hbm, ⟨27, _⟩ => ⟨S8x128, .f32⟩
  | .hbm, ⟨28, _⟩ => ⟨S_, .f32⟩
  | .hbm, ⟨29, _⟩ => ⟨S8x128, .f32⟩
  | .hbm, ⟨30, _⟩ => ⟨S8x128, .f32⟩
  | .hbm, ⟨31, _⟩ => ⟨S8x128, .f32⟩
  | .hbm, ⟨32, _⟩ => ⟨S_, .f32⟩
  | .hbm, ⟨33, _⟩ => ⟨S8x128, .f32⟩
  | .hbm, ⟨34, _⟩ => ⟨S8x128, .f32⟩
  | .hbm, ⟨35, _⟩ => ⟨S8x128, .f32⟩
  | .hbm, ⟨36, _⟩ => ⟨S_, .f32⟩
  | .hbm, ⟨37, _⟩ => ⟨S8x128, .f32⟩
  | .hbm, ⟨38, _⟩ => ⟨S8x128, .f32⟩
  | _, _ => ⟨S8x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel24.lean ====
abbrev S1x4096x1152 : Shape := ⟨3, ![1, 4096, 1152]⟩
abbrev S4096x1152 : Shape := ⟨2, ![4096, 1152]⟩
abbrev S1x256x1152 : Shape := ⟨3, ![1, 256, 1152]⟩
abbrev S256x1152 : Shape := ⟨2, ![256, 1152]⟩

abbrev nBuf : Space → Nat
  | .hbm => 8
  | .vmem => 16
  | .smem => 0
  | _ => 0

abbrev bufTy : (tb : Table) → Fin (tcTables nBuf tb) → BufTy
  | .hbm, ⟨0, _⟩ => ⟨S1x4096x1152, .f32⟩
  | .hbm, ⟨1, _⟩ => ⟨S4096x1152, .f32⟩
  | .hbm, ⟨2, _⟩ => ⟨S4096x1152, .f32⟩
  | .hbm, ⟨3, _⟩ => ⟨S4096x1152, .f32⟩
  | .hbm, ⟨4, _⟩ => ⟨S4096x1152, .f32⟩
  | .hbm, ⟨5, _⟩ => ⟨S4096x1152, .f32⟩
  | .hbm, ⟨6, _⟩ => ⟨S4096x1152, .f32⟩
  | .hbm, ⟨7, _⟩ => ⟨S4096x1152, .f32⟩
  | .local _ .vmem, ⟨0, _⟩ => ⟨S1x256x1152, .f32⟩
  | .local _ .vmem, ⟨1, _⟩ => ⟨S1x256x1152, .f32⟩
  | .local _ .vmem, ⟨2, _⟩ => ⟨S256x1152, .f32⟩
  | .local _ .vmem, ⟨3, _⟩ => ⟨S256x1152, .f32⟩
  | .local _ .vmem, ⟨4, _⟩ => ⟨S256x1152, .f32⟩
  | .local _ .vmem, ⟨5, _⟩ => ⟨S256x1152, .f32⟩
  | .local _ .vmem, ⟨6, _⟩ => ⟨S256x1152, .f32⟩
  | .local _ .vmem, ⟨7, _⟩ => ⟨S256x1152, .f32⟩
  | .local _ .vmem, ⟨8, _⟩ => ⟨S256x1152, .f32⟩
  | .local _ .vmem, ⟨9, _⟩ => ⟨S256x1152, .f32⟩
  | .local _ .vmem, ⟨10, _⟩ => ⟨S256x1152, .f32⟩
  | .local _ .vmem, ⟨11, _⟩ => ⟨S256x1152, .f32⟩
  | .local _ .vmem, ⟨12, _⟩ => ⟨S256x1152, .f32⟩
  | .local _ .vmem, ⟨13, _⟩ => ⟨S256x1152, .f32⟩
  | .local _ .vmem, ⟨14, _⟩ => ⟨S256x1152, .f32⟩
  | .local _ .vmem, ⟨15, _⟩ => ⟨S256x1152, .f32⟩
  | _, _ => ⟨S1x4096x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S1x256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel24Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference24Ideal.lean ====
abbrev S1x4096x1152 : Shape := ⟨3, ![1, 4096, 1152]⟩
abbrev S4096x1152 : Shape := ⟨2, ![4096, 1152]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x4096x1152, .f32⟩
  | .hbm, ⟨1, _⟩ => ⟨S4096x1152, .f32⟩
  | .hbm, ⟨2, _⟩ => ⟨S4096x1152, .f32⟩
  | .hbm, ⟨3, _⟩ => ⟨S4096x1152, .f32⟩
  | .hbm, ⟨4, _⟩ => ⟨S_, .f32⟩
  | .hbm, ⟨5, _⟩ => ⟨S4096x1152, .f32⟩
  | .hbm, ⟨6, _⟩ => ⟨S_, .f32⟩
  | .hbm, ⟨7, _⟩ => ⟨S4096x1152, .f32⟩
  | .hbm, ⟨8, _⟩ => ⟨S4096x1152, .f32⟩
  | .hbm, ⟨9, _⟩ => ⟨S_, .f32⟩
  | .hbm, ⟨10, _⟩ => ⟨S4096x1152, .f32⟩
  | .hbm, ⟨11, _⟩ => ⟨S4096x1152, .f32⟩
  | .hbm, ⟨12, _⟩ => ⟨S4096x1152, .f32⟩
  | .hbm, ⟨13, _⟩ => ⟨S_, .f32⟩
  | .hbm, ⟨14, _⟩ => ⟨S4096x1152, .f32⟩
  | .hbm, ⟨15, _⟩ => ⟨S4096x1152, .f32⟩
  | .hbm, ⟨16, _⟩ => ⟨S4096x1152, .f32⟩
  | .hbm, ⟨17, _⟩ => ⟨S_, .f32⟩
  | .hbm, ⟨18, _⟩ => ⟨S4096x1152, .f32⟩
  | .hbm, ⟨19, _⟩ => ⟨S4096x1152, .f32⟩
  | .hbm, ⟨20, _⟩ => ⟨S4096x1152, .f32⟩
  | .hbm, ⟨21, _⟩ => ⟨S_, .f32⟩
  | .hbm, ⟨22, _⟩ => ⟨S4096x1152, .f32⟩
  | .hbm, ⟨23, _⟩ => ⟨S4096x1152, .f32⟩
  | .hbm, ⟨24, _⟩ => ⟨S_, .f32⟩
  | .hbm, ⟨25, _⟩ => ⟨S4096x1152, .f32⟩
  | .hbm, ⟨26, _⟩ => ⟨S4096x1152, .f32⟩
  | .hbm, ⟨27, _⟩ => ⟨S4096x1152, .f32⟩
  | .hbm, ⟨28, _⟩ => ⟨S_, .f32⟩
  | .hbm, ⟨29, _⟩ => ⟨S4096x1152, .f32⟩
  | .hbm, ⟨30, _⟩ => ⟨S4096x1152, .f32⟩
  | .hbm, ⟨31, _⟩ => ⟨S4096x1152, .f32⟩
  | .hbm, ⟨32, _⟩ => ⟨S_, .f32⟩
  | .hbm, ⟨33, _⟩ => ⟨S4096x1152, .f32⟩
  | .hbm, ⟨34, _⟩ => ⟨S4096x1152, .f32⟩
  | .hbm, ⟨35, _⟩ => ⟨S4096x1152, .f32⟩
  | .hbm, ⟨36, _⟩ => ⟨S_, .f32⟩
  | .hbm, ⟨37, _⟩ => ⟨S4096x1152, .f32⟩
  | .hbm, ⟨38, _⟩ => ⟨S4096x1152, .f32⟩
  | _, _ => ⟨S1x4096x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel25.lean ====
abbrev S8x4x9216 : Shape := ⟨3, ![8, 4, 9216]⟩
abbrev S4x9216 : Shape := ⟨2, ![4, 9216]⟩
abbrev S1x4x9216 : Shape := ⟨3, ![1, 4, 9216]⟩

abbrev nBuf : Space → Nat
  | .hbm => 8
  | .vmem => 8
  | .smem => 0
  | _ => 0

abbrev bufTy : (tb : Table) → Fin (tcTables nBuf tb) → BufTy
  | .hbm, ⟨0, _⟩ => ⟨S8x4x9216, .f32⟩
  | .hbm, ⟨1, _⟩ => ⟨S4x9216, .f32⟩
  | .hbm, ⟨2, _⟩ => ⟨S4x9216, .f32⟩
  | .hbm, ⟨3, _⟩ => ⟨S4x9216, .f32⟩
  | .hbm, ⟨4, _⟩ => ⟨S4x9216, .f32⟩
  | .hbm, ⟨5, _⟩ => ⟨S4x9216, .f32⟩
  | .hbm, ⟨6, _⟩ => ⟨S4x9216, .f32⟩
  | .hbm, ⟨7, _⟩ => ⟨S4x9216, .f32⟩
  | .local _ .vmem, ⟨0, _⟩ => ⟨S8x4x9216, .f32⟩
  | .local _ .vmem, ⟨1, _⟩ => ⟨S4x9216, .f32⟩
  | .local _ .vmem, ⟨2, _⟩ => ⟨S4x9216, .f32⟩
  | .local _ .vmem, ⟨3, _⟩ => ⟨S4x9216, .f32⟩
  | .local _ .vmem, ⟨4, _⟩ => ⟨S4x9216, .f32⟩
  | .local _ .vmem, ⟨5, _⟩ => ⟨S4x9216, .f32⟩
  | .local _ .vmem, ⟨6, _⟩ => ⟨S4x9216, .f32⟩
  | .local _ .vmem, ⟨7, _⟩ => ⟨S4x9216, .f32⟩
  | _, _ => ⟨S8x4x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 1 → Memref sig .tc .vmem S8x4x9216 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x9216 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x9216 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x9216 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x9216 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x9216 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x9216 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x9216 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel25Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference25Ideal.lean ====
abbrev S8x4x9216 : Shape := ⟨3, ![8, 4, 9216]⟩
abbrev S4x9216 : Shape := ⟨2, ![4, 9216]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x4x9216, .f32⟩
  | .hbm, ⟨1, _⟩ => ⟨S4x9216, .f32⟩
  | .hbm, ⟨2, _⟩ => ⟨S4x9216, .f32⟩
  | .hbm, ⟨3, _⟩ => ⟨S4x9216, .f32⟩
  | .hbm, ⟨4, _⟩ => ⟨S_, .f32⟩
  | .hbm, ⟨5, _⟩ => ⟨S4x9216, .f32⟩
  | .hbm, ⟨6, _⟩ => ⟨S_, .f32⟩
  | .hbm, ⟨7, _⟩ => ⟨S4x9216, .f32⟩
  | .hbm, ⟨8, _⟩ => ⟨S4x9216, .f32⟩
  | .hbm, ⟨9, _⟩ => ⟨S_, .f32⟩
  | .hbm, ⟨10, _⟩ => ⟨S4x9216, .f32⟩
  | .hbm, ⟨11, _⟩ => ⟨S4x9216, .f32⟩
  | .hbm, ⟨12, _⟩ => ⟨S4x9216, .f32⟩
  | .hbm, ⟨13, _⟩ => ⟨S_, .f32⟩
  | .hbm, ⟨14, _⟩ => ⟨S4x9216, .f32⟩
  | .hbm, ⟨15, _⟩ => ⟨S4x9216, .f32⟩
  | .hbm, ⟨16, _⟩ => ⟨S4x9216, .f32⟩
  | .hbm, ⟨17, _⟩ => ⟨S_, .f32⟩
  | .hbm, ⟨18, _⟩ => ⟨S4x9216, .f32⟩
  | .hbm, ⟨19, _⟩ => ⟨S4x9216, .f32⟩
  | .hbm, ⟨20, _⟩ => ⟨S4x9216, .f32⟩
  | .hbm, ⟨21, _⟩ => ⟨S_, .f32⟩
  | .hbm, ⟨22, _⟩ => ⟨S4x9216, .f32⟩
  | .hbm, ⟨23, _⟩ => ⟨S4x9216, .f32⟩
  | .hbm, ⟨24, _⟩ => ⟨S_, .f32⟩
  | .hbm, ⟨25, _⟩ => ⟨S4x9216, .f32⟩
  | .hbm, ⟨26, _⟩ => ⟨S4x9216, .f32⟩
  | .hbm, ⟨27, _⟩ => ⟨S4x9216, .f32⟩
  | .hbm, ⟨28, _⟩ => ⟨S_, .f32⟩
  | .hbm, ⟨29, _⟩ => ⟨S4x9216, .f32⟩
  | .hbm, ⟨30, _⟩ => ⟨S4x9216, .f32⟩
  | .hbm, ⟨31, _⟩ => ⟨S4x9216, .f32⟩
  | .hbm, ⟨32, _⟩ => ⟨S_, .f32⟩
  | .hbm, ⟨33, _⟩ => ⟨S4x9216, .f32⟩
  | .hbm, ⟨34, _⟩ => ⟨S4x9216, .f32⟩
  | .hbm, ⟨35, _⟩ => ⟨S4x9216, .f32⟩
  | .hbm, ⟨36, _⟩ => ⟨S_, .f32⟩
  | .hbm, ⟨37, _⟩ => ⟨S4x9216, .f32⟩
  | .hbm, ⟨38, _⟩ => ⟨S4x9216, .f32⟩
  | _, _ => ⟨S8x4x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel26.lean ====
abbrev S8x4x1024 : Shape := ⟨3, ![8, 4, 1024]⟩
abbrev S4x1024 : Shape := ⟨2, ![4, 1024]⟩
abbrev S1x4x1024 : Shape := ⟨3, ![1, 4, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .hbm, ⟨7, _⟩ => ⟨S4x1024, .f32⟩
  | .local _ .vmem, ⟨0, _⟩ => ⟨S8x4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | .local _ .vmem, ⟨7, _⟩ => ⟨S4x1024, .f32⟩
  | _, _ => ⟨S8x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 1 → Memref sig .tc .vmem S8x4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel26Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference26Ideal.lean ====
abbrev S8x4x1024 : Shape := ⟨3, ![8, 4, 1024]⟩
abbrev S4x1024 : Shape := ⟨2, ![4, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S_, .f32⟩
  | .hbm, ⟨7, _⟩ => ⟨S4x1024, .f32⟩
  | .hbm, ⟨8, _⟩ => ⟨S4x1024, .f32⟩
  | .hbm, ⟨9, _⟩ => ⟨S_, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S_, .f32⟩
  | .hbm, ⟨14, _⟩ => ⟨S4x1024, .f32⟩
  | .hbm, ⟨15, _⟩ => ⟨S4x1024, .f32⟩
  | .hbm, ⟨16, _⟩ => ⟨S4x1024, .f32⟩
  | .hbm, ⟨17, _⟩ => ⟨S_, .f32⟩
  | .hbm, ⟨18, _⟩ => ⟨S4x1024, .f32⟩
  | .hbm, ⟨19, _⟩ => ⟨S4x1024, .f32⟩
  | .hbm, ⟨20, _⟩ => ⟨S4x1024, .f32⟩
  | .hbm, ⟨21, _⟩ => ⟨S_, .f32⟩
  | .hbm, ⟨22, _⟩ => ⟨S4x1024, .f32⟩
  | .hbm, ⟨23, _⟩ => ⟨S4x1024, .f32⟩
  | .hbm, ⟨24, _⟩ => ⟨S_, .f32⟩
  | .hbm, ⟨25, _⟩ => ⟨S4x1024, .f32⟩
  | .hbm, ⟨26, _⟩ => ⟨S4x1024, .f32⟩
  | .hbm, ⟨27, _⟩ => ⟨S4x1024, .f32⟩
  | .hbm, ⟨28, _⟩ => ⟨S_, .f32⟩
  | .hbm, ⟨29, _⟩ => ⟨S4x1024, .f32⟩
  | .hbm, ⟨30, _⟩ => ⟨S4x1024, .f32⟩
  | .hbm, ⟨31, _⟩ => ⟨S4x1024, .f32⟩
  | .hbm, ⟨32, _⟩ => ⟨S_, .f32⟩
  | .hbm, ⟨33, _⟩ => ⟨S4x1024, .f32⟩
  | .hbm, ⟨34, _⟩ => ⟨S4x1024, .f32⟩
  | .hbm, ⟨35, _⟩ => ⟨S4x1024, .f32⟩
  | .hbm, ⟨36, _⟩ => ⟨S_, .f32⟩
  | .hbm, ⟨37, _⟩ => ⟨S4x1024, .f32⟩
  | .hbm, ⟨38, _⟩ => ⟨S4x1024, .f32⟩
  | _, _ => ⟨S8x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel27.lean ====
abbrev S8x8x512 : Shape := ⟨3, ![8, 8, 512]⟩
abbrev S8x512 : Shape := ⟨2, ![8, 512]⟩
abbrev S1x8x512 : Shape := ⟨3, ![1, 8, 512]⟩

abbrev nBuf : Space → Nat
  | .hbm => 8
  | .vmem => 8
  | .smem => 0
  | _ => 0

abbrev bufTy : (tb : Table) → Fin (tcTables nBuf tb) → BufTy
  | .hbm, ⟨0, _⟩ => ⟨S8x8x512, .f32⟩
  | .hbm, ⟨1, _⟩ => ⟨S8x512, .f32⟩
  | .hbm, ⟨2, _⟩ => ⟨S8x512, .f32⟩
  | .hbm, ⟨3, _⟩ => ⟨S8x512, .f32⟩
  | .hbm, ⟨4, _⟩ => ⟨S8x512, .f32⟩
  | .hbm, ⟨5, _⟩ => ⟨S8x512, .f32⟩
  | .hbm, ⟨6, _⟩ => ⟨S8x512, .f32⟩
  | .hbm, ⟨7, _⟩ => ⟨S8x512, .f32⟩
  | .local _ .vmem, ⟨0, _⟩ => ⟨S8x8x512, .f32⟩
  | .local _ .vmem, ⟨1, _⟩ => ⟨S8x512, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | _, _ => ⟨S8x8x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 1 → Memref sig .tc .vmem S8x8x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel27Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference27Ideal.lean ====
abbrev S8x8x512 : Shape := ⟨3, ![8, 8, 512]⟩
abbrev S8x512 : Shape := ⟨2, ![8, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x8x512, .f32⟩
  | .hbm, ⟨1, _⟩ => ⟨S8x512, .f32⟩
  | .hbm, ⟨2, _⟩ => ⟨S8x512, .f32⟩
  | .hbm, ⟨3, _⟩ => ⟨S8x512, .f32⟩
  | .hbm, ⟨4, _⟩ => ⟨S_, .f32⟩
  | .hbm, ⟨5, _⟩ => ⟨S8x512, .f32⟩
  | .hbm, ⟨6, _⟩ => ⟨S_, .f32⟩
  | .hbm, ⟨7, _⟩ => ⟨S8x512, .f32⟩
  | .hbm, ⟨8, _⟩ => ⟨S8x512, .f32⟩
  | .hbm, ⟨9, _⟩ => ⟨S_, .f32⟩
  | .hbm, ⟨10, _⟩ => ⟨S8x512, .f32⟩
  | .hbm, ⟨11, _⟩ => ⟨S8x512, .f32⟩
  | .hbm, ⟨12, _⟩ => ⟨S8x512, .f32⟩
  | .hbm, ⟨13, _⟩ => ⟨S_, .f32⟩
  | .hbm, ⟨14, _⟩ => ⟨S8x512, .f32⟩
  | .hbm, ⟨15, _⟩ => ⟨S8x512, .f32⟩
  | .hbm, ⟨16, _⟩ => ⟨S8x512, .f32⟩
  | .hbm, ⟨17, _⟩ => ⟨S_, .f32⟩
  | .hbm, ⟨18, _⟩ => ⟨S8x512, .f32⟩
  | .hbm, ⟨19, _⟩ => ⟨S8x512, .f32⟩
  | .hbm, ⟨20, _⟩ => ⟨S8x512, .f32⟩
  | .hbm, ⟨21, _⟩ => ⟨S_, .f32⟩
  | .hbm, ⟨22, _⟩ => ⟨S8x512, .f32⟩
  | .hbm, ⟨23, _⟩ => ⟨S8x512, .f32⟩
  | .hbm, ⟨24, _⟩ => ⟨S_, .f32⟩
  | .hbm, ⟨25, _⟩ => ⟨S8x512, .f32⟩
  | .hbm, ⟨26, _⟩ => ⟨S8x512, .f32⟩
  | .hbm, ⟨27, _⟩ => ⟨S8x512, .f32⟩
  | .hbm, ⟨28, _⟩ => ⟨S_, .f32⟩
  | .hbm, ⟨29, _⟩ => ⟨S8x512, .f32⟩
  | .hbm, ⟨30, _⟩ => ⟨S8x512, .f32⟩
  | .hbm, ⟨31, _⟩ => ⟨S8x512, .f32⟩
  | .hbm, ⟨32, _⟩ => ⟨S_, .f32⟩
  | .hbm, ⟨33, _⟩ => ⟨S8x512, .f32⟩
  | .hbm, ⟨34, _⟩ => ⟨S8x512, .f32⟩
  | .hbm, ⟨35, _⟩ => ⟨S8x512, .f32⟩
  | .hbm, ⟨36, _⟩ => ⟨S_, .f32⟩
  | .hbm, ⟨37, _⟩ => ⟨S8x512, .f32⟩
  | .hbm, ⟨38, _⟩ => ⟨S8x512, .f32⟩
  | _, _ => ⟨S8x8x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel28.lean ====
abbrev S8x2x512 : Shape := ⟨3, ![8, 2, 512]⟩
abbrev S2x512 : Shape := ⟨2, ![2, 512]⟩
abbrev S1x2x512 : Shape := ⟨3, ![1, 2, 512]⟩

abbrev nBuf : Space → Nat
  | .hbm => 8
  | .vmem => 8
  | .smem => 0
  | _ => 0

abbrev bufTy : (tb : Table) → Fin (tcTables nBuf tb) → BufTy
  | .hbm, ⟨0, _⟩ => ⟨S8x2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S2x512, .f32⟩
  | .hbm, ⟨7, _⟩ => ⟨S2x512, .f32⟩
  | .local _ .vmem, ⟨0, _⟩ => ⟨S8x2x512, .f32⟩
  | .local _ .vmem, ⟨1, _⟩ => ⟨S2x512, .f32⟩
  | .local _ .vmem, ⟨2, _⟩ => ⟨S2x512, .f32⟩
  | .local _ .vmem, ⟨3, _⟩ => ⟨S2x512, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | .local _ .vmem, ⟨7, _⟩ => ⟨S2x512, .f32⟩
  | _, _ => ⟨S8x2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 1 → Memref sig .tc .vmem S8x2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel28Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference28Ideal.lean ====
abbrev S8x2x512 : Shape := ⟨3, ![8, 2, 512]⟩
abbrev S2x512 : Shape := ⟨2, ![2, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S_, .f32⟩
  | .hbm, ⟨5, _⟩ => ⟨S2x512, .f32⟩
  | .hbm, ⟨6, _⟩ => ⟨S_, .f32⟩
  | .hbm, ⟨7, _⟩ => ⟨S2x512, .f32⟩
  | .hbm, ⟨8, _⟩ => ⟨S2x512, .f32⟩
  | .hbm, ⟨9, _⟩ => ⟨S_, .f32⟩
  | .hbm, ⟨10, _⟩ => ⟨S2x512, .f32⟩
  | .hbm, ⟨11, _⟩ => ⟨S2x512, .f32⟩
  | .hbm, ⟨12, _⟩ => ⟨S2x512, .f32⟩
  | .hbm, ⟨13, _⟩ => ⟨S_, .f32⟩
  | .hbm, ⟨14, _⟩ => ⟨S2x512, .f32⟩
  | .hbm, ⟨15, _⟩ => ⟨S2x512, .f32⟩
  | .hbm, ⟨16, _⟩ => ⟨S2x512, .f32⟩
  | .hbm, ⟨17, _⟩ => ⟨S_, .f32⟩
  | .hbm, ⟨18, _⟩ => ⟨S2x512, .f32⟩
  | .hbm, ⟨19, _⟩ => ⟨S2x512, .f32⟩
  | .hbm, ⟨20, _⟩ => ⟨S2x512, .f32⟩
  | .hbm, ⟨21, _⟩ => ⟨S_, .f32⟩
  | .hbm, ⟨22, _⟩ => ⟨S2x512, .f32⟩
  | .hbm, ⟨23, _⟩ => ⟨S2x512, .f32⟩
  | .hbm, ⟨24, _⟩ => ⟨S_, .f32⟩
  | .hbm, ⟨25, _⟩ => ⟨S2x512, .f32⟩
  | .hbm, ⟨26, _⟩ => ⟨S2x512, .f32⟩
  | .hbm, ⟨27, _⟩ => ⟨S2x512, .f32⟩
  | .hbm, ⟨28, _⟩ => ⟨S_, .f32⟩
  | .hbm, ⟨29, _⟩ => ⟨S2x512, .f32⟩
  | .hbm, ⟨30, _⟩ => ⟨S2x512, .f32⟩
  | .hbm, ⟨31, _⟩ => ⟨S2x512, .f32⟩
  | .hbm, ⟨32, _⟩ => ⟨S_, .f32⟩
  | .hbm, ⟨33, _⟩ => ⟨S2x512, .f32⟩
  | .hbm, ⟨34, _⟩ => ⟨S2x512, .f32⟩
  | .hbm, ⟨35, _⟩ => ⟨S2x512, .f32⟩
  | .hbm, ⟨36, _⟩ => ⟨S_, .f32⟩
  | .hbm, ⟨37, _⟩ => ⟨S2x512, .f32⟩
  | .hbm, ⟨38, _⟩ => ⟨S2x512, .f32⟩
  | _, _ => ⟨S8x2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel29.lean ====
abbrev S8x2x32 : Shape := ⟨3, ![8, 2, 32]⟩
abbrev S2x32 : Shape := ⟨2, ![2, 32]⟩
abbrev S1x2x32 : Shape := ⟨3, ![1, 2, 32]⟩

abbrev nBuf : Space → Nat
  | .hbm => 8
  | .vmem => 8
  | .smem => 0
  | _ => 0

abbrev bufTy : (tb : Table) → Fin (tcTables nBuf tb) → BufTy
  | .hbm, ⟨0, _⟩ => ⟨S8x2x32, .f32⟩
  | .hbm, ⟨1, _⟩ => ⟨S2x32, .f32⟩
  | .hbm, ⟨2, _⟩ => ⟨S2x32, .f32⟩
  | .hbm, ⟨3, _⟩ => ⟨S2x32, .f32⟩
  | .hbm, ⟨4, _⟩ => ⟨S2x32, .f32⟩
  | .hbm, ⟨5, _⟩ => ⟨S2x32, .f32⟩
  | .hbm, ⟨6, _⟩ => ⟨S2x32, .f32⟩
  | .hbm, ⟨7, _⟩ => ⟨S2x32, .f32⟩
  | .local _ .vmem, ⟨0, _⟩ => ⟨S8x2x32, .f32⟩
  | .local _ .vmem, ⟨1, _⟩ => ⟨S2x32, .f32⟩
  | .local _ .vmem, ⟨2, _⟩ => ⟨S2x32, .f32⟩
  | .local _ .vmem, ⟨3, _⟩ => ⟨S2x32, .f32⟩
  | .local _ .vmem, ⟨4, _⟩ => ⟨S2x32, .f32⟩
  | .local _ .vmem, ⟨5, _⟩ => ⟨S2x32, .f32⟩
  | .local _ .vmem, ⟨6, _⟩ => ⟨S2x32, .f32⟩
  | .local _ .vmem, ⟨7, _⟩ => ⟨S2x32, .f32⟩
  | _, _ => ⟨S8x2x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 1 → Memref sig .tc .vmem S8x2x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel29Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference29Ideal.lean ====
abbrev S8x2x32 : Shape := ⟨3, ![8, 2, 32]⟩
abbrev S2x32 : Shape := ⟨2, ![2, 32]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x2x32, .f32⟩
  | .hbm, ⟨1, _⟩ => ⟨S2x32, .f32⟩
  | .hbm, ⟨2, _⟩ => ⟨S2x32, .f32⟩
  | .hbm, ⟨3, _⟩ => ⟨S2x32, .f32⟩
  | .hbm, ⟨4, _⟩ => ⟨S_, .f32⟩
  | .hbm, ⟨5, _⟩ => ⟨S2x32, .f32⟩
  | .hbm, ⟨6, _⟩ => ⟨S_, .f32⟩
  | .hbm, ⟨7, _⟩ => ⟨S2x32, .f32⟩
  | .hbm, ⟨8, _⟩ => ⟨S2x32, .f32⟩
  | .hbm, ⟨9, _⟩ => ⟨S_, .f32⟩
  | .hbm, ⟨10, _⟩ => ⟨S2x32, .f32⟩
  | .hbm, ⟨11, _⟩ => ⟨S2x32, .f32⟩
  | .hbm, ⟨12, _⟩ => ⟨S2x32, .f32⟩
  | .hbm, ⟨13, _⟩ => ⟨S_, .f32⟩
  | .hbm, ⟨14, _⟩ => ⟨S2x32, .f32⟩
  | .hbm, ⟨15, _⟩ => ⟨S2x32, .f32⟩
  | .hbm, ⟨16, _⟩ => ⟨S2x32, .f32⟩
  | .hbm, ⟨17, _⟩ => ⟨S_, .f32⟩
  | .hbm, ⟨18, _⟩ => ⟨S2x32, .f32⟩
  | .hbm, ⟨19, _⟩ => ⟨S2x32, .f32⟩
  | .hbm, ⟨20, _⟩ => ⟨S2x32, .f32⟩
  | .hbm, ⟨21, _⟩ => ⟨S_, .f32⟩
  | .hbm, ⟨22, _⟩ => ⟨S2x32, .f32⟩
  | .hbm, ⟨23, _⟩ => ⟨S2x32, .f32⟩
  | .hbm, ⟨24, _⟩ => ⟨S_, .f32⟩
  | .hbm, ⟨25, _⟩ => ⟨S2x32, .f32⟩
  | .hbm, ⟨26, _⟩ => ⟨S2x32, .f32⟩
  | .hbm, ⟨27, _⟩ => ⟨S2x32, .f32⟩
  | .hbm, ⟨28, _⟩ => ⟨S_, .f32⟩
  | .hbm, ⟨29, _⟩ => ⟨S2x32, .f32⟩
  | .hbm, ⟨30, _⟩ => ⟨S2x32, .f32⟩
  | .hbm, ⟨31, _⟩ => ⟨S2x32, .f32⟩
  | .hbm, ⟨32, _⟩ => ⟨S_, .f32⟩
  | .hbm, ⟨33, _⟩ => ⟨S2x32, .f32⟩
  | .hbm, ⟨34, _⟩ => ⟨S2x32, .f32⟩
  | .hbm, ⟨35, _⟩ => ⟨S2x32, .f32⟩
  | .hbm, ⟨36, _⟩ => ⟨S_, .f32⟩
  | .hbm, ⟨37, _⟩ => ⟨S2x32, .f32⟩
  | .hbm, ⟨38, _⟩ => ⟨S2x32, .f32⟩
  | _, _ => ⟨S8x2x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel30.lean ====
abbrev S8x2x256 : Shape := ⟨3, ![8, 2, 256]⟩
abbrev S2x256 : Shape := ⟨2, ![2, 256]⟩
abbrev S1x2x256 : Shape := ⟨3, ![1, 2, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S2x256, .f32⟩
  | .hbm, ⟨5, _⟩ => ⟨S2x256, .f32⟩
  | .hbm, ⟨6, _⟩ => ⟨S2x256, .f32⟩
  | .hbm, ⟨7, _⟩ => ⟨S2x256, .f32⟩
  | .local _ .vmem, ⟨0, _⟩ => ⟨S8x2x256, .f32⟩
  | .local _ .vmem, ⟨1, _⟩ => ⟨S2x256, .f32⟩
  | .local _ .vmem, ⟨2, _⟩ => ⟨S2x256, .f32⟩
  | .local _ .vmem, ⟨3, _⟩ => ⟨S2x256, .f32⟩
  | .local _ .vmem, ⟨4, _⟩ => ⟨S2x256, .f32⟩
  | .local _ .vmem, ⟨5, _⟩ => ⟨S2x256, .f32⟩
  | .local _ .vmem, ⟨6, _⟩ => ⟨S2x256, .f32⟩
  | .local _ .vmem, ⟨7, _⟩ => ⟨S2x256, .f32⟩
  | _, _ => ⟨S8x2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 1 → Memref sig .tc .vmem S8x2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel30Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference30Ideal.lean ====
abbrev S8x2x256 : Shape := ⟨3, ![8, 2, 256]⟩
abbrev S2x256 : Shape := ⟨2, ![2, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S_, .f32⟩
  | .hbm, ⟨5, _⟩ => ⟨S2x256, .f32⟩
  | .hbm, ⟨6, _⟩ => ⟨S_, .f32⟩
  | .hbm, ⟨7, _⟩ => ⟨S2x256, .f32⟩
  | .hbm, ⟨8, _⟩ => ⟨S2x256, .f32⟩
  | .hbm, ⟨9, _⟩ => ⟨S_, .f32⟩
  | .hbm, ⟨10, _⟩ => ⟨S2x256, .f32⟩
  | .hbm, ⟨11, _⟩ => ⟨S2x256, .f32⟩
  | .hbm, ⟨12, _⟩ => ⟨S2x256, .f32⟩
  | .hbm, ⟨13, _⟩ => ⟨S_, .f32⟩
  | .hbm, ⟨14, _⟩ => ⟨S2x256, .f32⟩
  | .hbm, ⟨15, _⟩ => ⟨S2x256, .f32⟩
  | .hbm, ⟨16, _⟩ => ⟨S2x256, .f32⟩
  | .hbm, ⟨17, _⟩ => ⟨S_, .f32⟩
  | .hbm, ⟨18, _⟩ => ⟨S2x256, .f32⟩
  | .hbm, ⟨19, _⟩ => ⟨S2x256, .f32⟩
  | .hbm, ⟨20, _⟩ => ⟨S2x256, .f32⟩
  | .hbm, ⟨21, _⟩ => ⟨S_, .f32⟩
  | .hbm, ⟨22, _⟩ => ⟨S2x256, .f32⟩
  | .hbm, ⟨23, _⟩ => ⟨S2x256, .f32⟩
  | .hbm, ⟨24, _⟩ => ⟨S_, .f32⟩
  | .hbm, ⟨25, _⟩ => ⟨S2x256, .f32⟩
  | .hbm, ⟨26, _⟩ => ⟨S2x256, .f32⟩
  | .hbm, ⟨27, _⟩ => ⟨S2x256, .f32⟩
  | .hbm, ⟨28, _⟩ => ⟨S_, .f32⟩
  | .hbm, ⟨29, _⟩ => ⟨S2x256, .f32⟩
  | .hbm, ⟨30, _⟩ => ⟨S2x256, .f32⟩
  | .hbm, ⟨31, _⟩ => ⟨S2x256, .f32⟩
  | .hbm, ⟨32, _⟩ => ⟨S_, .f32⟩
  | .hbm, ⟨33, _⟩ => ⟨S2x256, .f32⟩
  | .hbm, ⟨34, _⟩ => ⟨S2x256, .f32⟩
  | .hbm, ⟨35, _⟩ => ⟨S2x256, .f32⟩
  | .hbm, ⟨36, _⟩ => ⟨S_, .f32⟩
  | .hbm, ⟨37, _⟩ => ⟨S2x256, .f32⟩
  | .hbm, ⟨38, _⟩ => ⟨S2x256, .f32⟩
  | _, _ => ⟨S8x2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel31.lean ====
abbrev S8x1x1024 : Shape := ⟨3, ![8, 1, 1024]⟩
abbrev S1x1024 : Shape := ⟨2, ![1, 1024]⟩
abbrev S1x1x1024 : Shape := ⟨3, ![1, 1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S8x1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | _, _ => ⟨S8x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 1 → Memref sig .tc .vmem S8x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel31Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference31Ideal.lean ====
abbrev S8x1x1024 : Shape := ⟨3, ![8, 1, 1024]⟩
abbrev S1x1024 : Shape := ⟨2, ![1, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S_, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S_, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S_, .f32⟩
  | .hbm, ⟨37, _⟩ => ⟨S1x1024, .f32⟩
  | .hbm, ⟨38, _⟩ => ⟨S1x1024, .f32⟩
  | _, _ => ⟨S8x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel32.lean ====
abbrev S1x1024x256 : Shape := ⟨3, ![1, 1024, 256]⟩
abbrev S1024x256 : Shape := ⟨2, ![1024, 256]⟩
abbrev S1x512x256 : Shape := ⟨3, ![1, 512, 256]⟩
abbrev S512x256 : Shape := ⟨2, ![512, 256]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S1x512x256, .f32⟩
  | .local _ .vmem, ⟨1, _⟩ => ⟨S1x512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | _, _ => ⟨S1x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel32Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference32Ideal.lean ====
abbrev S1x1024x256 : Shape := ⟨3, ![1, 1024, 256]⟩
abbrev S1024x256 : Shape := ⟨2, ![1024, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S_, .f32⟩
  | .hbm, ⟨5, _⟩ => ⟨S1024x256, .f32⟩
  | .hbm, ⟨6, _⟩ => ⟨S_, .f32⟩
  | .hbm, ⟨7, _⟩ => ⟨S1024x256, .f32⟩
  | .hbm, ⟨8, _⟩ => ⟨S1024x256, .f32⟩
  | .hbm, ⟨9, _⟩ => ⟨S_, .f32⟩
  | .hbm, ⟨10, _⟩ => ⟨S1024x256, .f32⟩
  | .hbm, ⟨11, _⟩ => ⟨S1024x256, .f32⟩
  | .hbm, ⟨12, _⟩ => ⟨S1024x256, .f32⟩
  | .hbm, ⟨13, _⟩ => ⟨S_, .f32⟩
  | .hbm, ⟨14, _⟩ => ⟨S1024x256, .f32⟩
  | .hbm, ⟨15, _⟩ => ⟨S1024x256, .f32⟩
  | .hbm, ⟨16, _⟩ => ⟨S1024x256, .f32⟩
  | .hbm, ⟨17, _⟩ => ⟨S_, .f32⟩
  | .hbm, ⟨18, _⟩ => ⟨S1024x256, .f32⟩
  | .hbm, ⟨19, _⟩ => ⟨S1024x256, .f32⟩
  | .hbm, ⟨20, _⟩ => ⟨S1024x256, .f32⟩
  | .hbm, ⟨21, _⟩ => ⟨S_, .f32⟩
  | .hbm, ⟨22, _⟩ => ⟨S1024x256, .f32⟩
  | .hbm, ⟨23, _⟩ => ⟨S1024x256, .f32⟩
  | .hbm, ⟨24, _⟩ => ⟨S_, .f32⟩
  | .hbm, ⟨25, _⟩ => ⟨S1024x256, .f32⟩
  | .hbm, ⟨26, _⟩ => ⟨S1024x256, .f32⟩
  | .hbm, ⟨27, _⟩ => ⟨S1024x256, .f32⟩
  | .hbm, ⟨28, _⟩ => ⟨S_, .f32⟩
  | .hbm, ⟨29, _⟩ => ⟨S1024x256, .f32⟩
  | .hbm, ⟨30, _⟩ => ⟨S1024x256, .f32⟩
  | .hbm, ⟨31, _⟩ => ⟨S1024x256, .f32⟩
  | .hbm, ⟨32, _⟩ => ⟨S_, .f32⟩
  | .hbm, ⟨33, _⟩ => ⟨S1024x256, .f32⟩
  | .hbm, ⟨34, _⟩ => ⟨S1024x256, .f32⟩
  | .hbm, ⟨35, _⟩ => ⟨S1024x256, .f32⟩
  | .hbm, ⟨36, _⟩ => ⟨S_, .f32⟩
  | .hbm, ⟨37, _⟩ => ⟨S1024x256, .f32⟩
  | .hbm, ⟨38, _⟩ => ⟨S1024x256, .f32⟩
  | _, _ => ⟨S1x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel33.lean ====
abbrev S8x1x2048 : Shape := ⟨3, ![8, 1, 2048]⟩
abbrev S1x2048 : Shape := ⟨2, ![1, 2048]⟩
abbrev S1x1x2048 : Shape := ⟨3, ![1, 1, 2048]⟩

abbrev nBuf : Space → Nat
  | .hbm => 8
  | .vmem => 8
  | .smem => 0
  | _ => 0

abbrev bufTy : (tb : Table) → Fin (tcTables nBuf tb) → BufTy
  | .hbm, ⟨0, _⟩ => ⟨S8x1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .local _ .vmem, ⟨0, _⟩ => ⟨S8x1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | _, _ => ⟨S8x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 1 → Memref sig .tc .vmem S8x1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel33Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference33Ideal.lean ====
abbrev S8x1x2048 : Shape := ⟨3, ![8, 1, 2048]⟩
abbrev S1x2048 : Shape := ⟨2, ![1, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S_, .f32⟩
  | .hbm, ⟨7, _⟩ => ⟨S1x2048, .f32⟩
  | .hbm, ⟨8, _⟩ => ⟨S1x2048, .f32⟩
  | .hbm, ⟨9, _⟩ => ⟨S_, .f32⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S_, .f32⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S_, .f32⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S_, .f32⟩
  | .hbm, ⟨22, _⟩ => ⟨S1x2048, .f32⟩
  | .hbm, ⟨23, _⟩ => ⟨S1x2048, .f32⟩
  | .hbm, ⟨24, _⟩ => ⟨S_, .f32⟩
  | .hbm, ⟨25, _⟩ => ⟨S1x2048, .f32⟩
  | .hbm, ⟨26, _⟩ => ⟨S1x2048, .f32⟩
  | .hbm, ⟨27, _⟩ => ⟨S1x2048, .f32⟩
  | .hbm, ⟨28, _⟩ => ⟨S_, .f32⟩
  | .hbm, ⟨29, _⟩ => ⟨S1x2048, .f32⟩
  | .hbm, ⟨30, _⟩ => ⟨S1x2048, .f32⟩
  | .hbm, ⟨31, _⟩ => ⟨S1x2048, .f32⟩
  | .hbm, ⟨32, _⟩ => ⟨S_, .f32⟩
  | .hbm, ⟨33, _⟩ => ⟨S1x2048, .f32⟩
  | .hbm, ⟨34, _⟩ => ⟨S1x2048, .f32⟩
  | .hbm, ⟨35, _⟩ => ⟨S1x2048, .f32⟩
  | .hbm, ⟨36, _⟩ => ⟨S_, .f32⟩
  | .hbm, ⟨37, _⟩ => ⟨S1x2048, .f32⟩
  | .hbm, ⟨38, _⟩ => ⟨S1x2048, .f32⟩
  | _, _ => ⟨S8x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel34.lean ====
abbrev S8x128x512 : Shape := ⟨3, ![8, 128, 512]⟩
abbrev S128x512 : Shape := ⟨2, ![128, 512]⟩
abbrev S8x64x512 : Shape := ⟨3, ![8, 64, 512]⟩
abbrev S64x512 : Shape := ⟨2, ![64, 512]⟩
abbrev S1x64x512 : Shape := ⟨3, ![1, 64, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x128x512, .bf16⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S128x512, .f32⟩
  | .hbm, ⟨5, _⟩ => ⟨S128x512, .f32⟩
  | .hbm, ⟨6, _⟩ => ⟨S128x512, .f32⟩
  | .hbm, ⟨7, _⟩ => ⟨S128x512, .f32⟩
  | .local _ .vmem, ⟨0, _⟩ => ⟨S8x64x512, .bf16⟩
  | .local _ .vmem, ⟨1, _⟩ => ⟨S8x64x512, .bf16⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | .local _ .vmem, ⟨11, _⟩ => ⟨S64x512, .f32⟩
  | .local _ .vmem, ⟨12, _⟩ => ⟨S64x512, .f32⟩
  | .local _ .vmem, ⟨13, _⟩ => ⟨S64x512, .f32⟩
  | .local _ .vmem, ⟨14, _⟩ => ⟨S64x512, .f32⟩
  | .local _ .vmem, ⟨15, _⟩ => ⟨S64x512, .f32⟩
  | _, _ => ⟨S8x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S8x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel34Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference34Ideal.lean ====
abbrev S8x128x512 : Shape := ⟨3, ![8, 128, 512]⟩
abbrev S128x512 : Shape := ⟨2, ![128, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x512, .bf16⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S8x128x512, .f32⟩
  | .hbm, ⟨5, _⟩ => ⟨S_, .f32⟩
  | .hbm, ⟨6, _⟩ => ⟨S128x512, .f32⟩
  | .hbm, ⟨7, _⟩ => ⟨S_, .f32⟩
  | .hbm, ⟨8, _⟩ => ⟨S128x512, .f32⟩
  | .hbm, ⟨9, _⟩ => ⟨S128x512, .f32⟩
  | .hbm, ⟨10, _⟩ => ⟨S_, .f32⟩
  | .hbm, ⟨11, _⟩ => ⟨S128x512, .f32⟩
  | .hbm, ⟨12, _⟩ => ⟨S128x512, .f32⟩
  | .hbm, ⟨13, _⟩ => ⟨S128x512, .f32⟩
  | .hbm, ⟨14, _⟩ => ⟨S_, .f32⟩
  | .hbm, ⟨15, _⟩ => ⟨S128x512, .f32⟩
  | .hbm, ⟨16, _⟩ => ⟨S128x512, .f32⟩
  | .hbm, ⟨17, _⟩ => ⟨S128x512, .f32⟩
  | .hbm, ⟨18, _⟩ => ⟨S_, .f32⟩
  | .hbm, ⟨19, _⟩ => ⟨S128x512, .f32⟩
  | .hbm, ⟨20, _⟩ => ⟨S128x512, .f32⟩
  | .hbm, ⟨21, _⟩ => ⟨S128x512, .f32⟩
  | .hbm, ⟨22, _⟩ => ⟨S_, .f32⟩
  | .hbm, ⟨23, _⟩ => ⟨S128x512, .f32⟩
  | .hbm, ⟨24, _⟩ => ⟨S128x512, .f32⟩
  | .hbm, ⟨25, _⟩ => ⟨S_, .f32⟩
  | .hbm, ⟨26, _⟩ => ⟨S128x512, .f32⟩
  | .hbm, ⟨27, _⟩ => ⟨S128x512, .f32⟩
  | .hbm, ⟨28, _⟩ => ⟨S128x512, .f32⟩
  | .hbm, ⟨29, _⟩ => ⟨S_, .f32⟩
  | .hbm, ⟨30, _⟩ => ⟨S128x512, .f32⟩
  | .hbm, ⟨31, _⟩ => ⟨S128x512, .f32⟩
  | .hbm, ⟨32, _⟩ => ⟨S128x512, .f32⟩
  | .hbm, ⟨33, _⟩ => ⟨S_, .f32⟩
  | .hbm, ⟨34, _⟩ => ⟨S128x512, .f32⟩
  | .hbm, ⟨35, _⟩ => ⟨S128x512, .f32⟩
  | .hbm, ⟨36, _⟩ => ⟨S128x512, .f32⟩
  | .hbm, ⟨37, _⟩ => ⟨S_, .f32⟩
  | .hbm, ⟨38, _⟩ => ⟨S128x512, .f32⟩
  | .hbm, ⟨39, _⟩ => ⟨S128x512, .f32⟩
  | _, _ => ⟨S8x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel35.lean ====
abbrev S8x1x512 : Shape := ⟨3, ![8, 1, 512]⟩
abbrev S1x512 : Shape := ⟨2, ![1, 512]⟩
abbrev S1x1x512 : Shape := ⟨3, ![1, 1, 512]⟩

abbrev nBuf : Space → Nat
  | .hbm => 8
  | .vmem => 8
  | .smem => 0
  | _ => 0

abbrev bufTy : (tb : Table) → Fin (tcTables nBuf tb) → BufTy
  | .hbm, ⟨0, _⟩ => ⟨S8x1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x512, .f32⟩
  | .local _ .vmem, ⟨0, _⟩ => ⟨S8x1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | _, _ => ⟨S8x1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 1 → Memref sig .tc .vmem S8x1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel35Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference35Ideal.lean ====
abbrev S8x1x512 : Shape := ⟨3, ![8, 1, 512]⟩
abbrev S1x512 : Shape := ⟨2, ![1, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S_, .f32⟩
  | .hbm, ⟨7, _⟩ => ⟨S1x512, .f32⟩
  | .hbm, ⟨8, _⟩ => ⟨S1x512, .f32⟩
  | .hbm, ⟨9, _⟩ => ⟨S_, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S_, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S_, .f32⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S_, .f32⟩
  | .hbm, ⟨22, _⟩ => ⟨S1x512, .f32⟩
  | .hbm, ⟨23, _⟩ => ⟨S1x512, .f32⟩
  | .hbm, ⟨24, _⟩ => ⟨S_, .f32⟩
  | .hbm, ⟨25, _⟩ => ⟨S1x512, .f32⟩
  | .hbm, ⟨26, _⟩ => ⟨S1x512, .f32⟩
  | .hbm, ⟨27, _⟩ => ⟨S1x512, .f32⟩
  | .hbm, ⟨28, _⟩ => ⟨S_, .f32⟩
  | .hbm, ⟨29, _⟩ => ⟨S1x512, .f32⟩
  | .hbm, ⟨30, _⟩ => ⟨S1x512, .f32⟩
  | .hbm, ⟨31, _⟩ => ⟨S1x512, .f32⟩
  | .hbm, ⟨32, _⟩ => ⟨S_, .f32⟩
  | .hbm, ⟨33, _⟩ => ⟨S1x512, .f32⟩
  | .hbm, ⟨34, _⟩ => ⟨S1x512, .f32⟩
  | .hbm, ⟨35, _⟩ => ⟨S1x512, .f32⟩
  | .hbm, ⟨36, _⟩ => ⟨S_, .f32⟩
  | .hbm, ⟨37, _⟩ => ⟨S1x512, .f32⟩
  | .hbm, ⟨38, _⟩ => ⟨S1x512, .f32⟩
  | _, _ => ⟨S8x1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel36.lean ====
abbrev S8x2x1024 : Shape := ⟨3, ![8, 2, 1024]⟩
abbrev S2x1024 : Shape := ⟨2, ![2, 1024]⟩
abbrev S1x2x1024 : Shape := ⟨3, ![1, 2, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S2x1024, .f32⟩
  | .local _ .vmem, ⟨0, _⟩ => ⟨S8x2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | .local _ .vmem, ⟨7, _⟩ => ⟨S2x1024, .f32⟩
  | _, _ => ⟨S8x2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 1 → Memref sig .tc .vmem S8x2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel36Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference36Ideal.lean ====
abbrev S8x2x1024 : Shape := ⟨3, ![8, 2, 1024]⟩
abbrev S2x1024 : Shape := ⟨2, ![2, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S_, .f32⟩
  | .hbm, ⟨7, _⟩ => ⟨S2x1024, .f32⟩
  | .hbm, ⟨8, _⟩ => ⟨S2x1024, .f32⟩
  | .hbm, ⟨9, _⟩ => ⟨S_, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S_, .f32⟩
  | .hbm, ⟨14, _⟩ => ⟨S2x1024, .f32⟩
  | .hbm, ⟨15, _⟩ => ⟨S2x1024, .f32⟩
  | .hbm, ⟨16, _⟩ => ⟨S2x1024, .f32⟩
  | .hbm, ⟨17, _⟩ => ⟨S_, .f32⟩
  | .hbm, ⟨18, _⟩ => ⟨S2x1024, .f32⟩
  | .hbm, ⟨19, _⟩ => ⟨S2x1024, .f32⟩
  | .hbm, ⟨20, _⟩ => ⟨S2x1024, .f32⟩
  | .hbm, ⟨21, _⟩ => ⟨S_, .f32⟩
  | .hbm, ⟨22, _⟩ => ⟨S2x1024, .f32⟩
  | .hbm, ⟨23, _⟩ => ⟨S2x1024, .f32⟩
  | .hbm, ⟨24, _⟩ => ⟨S_, .f32⟩
  | .hbm, ⟨25, _⟩ => ⟨S2x1024, .f32⟩
  | .hbm, ⟨26, _⟩ => ⟨S2x1024, .f32⟩
  | .hbm, ⟨27, _⟩ => ⟨S2x1024, .f32⟩
  | .hbm, ⟨28, _⟩ => ⟨S_, .f32⟩
  | .hbm, ⟨29, _⟩ => ⟨S2x1024, .f32⟩
  | .hbm, ⟨30, _⟩ => ⟨S2x1024, .f32⟩
  | .hbm, ⟨31, _⟩ => ⟨S2x1024, .f32⟩
  | .hbm, ⟨32, _⟩ => ⟨S_, .f32⟩
  | .hbm, ⟨33, _⟩ => ⟨S2x1024, .f32⟩
  | .hbm, ⟨34, _⟩ => ⟨S2x1024, .f32⟩
  | .hbm, ⟨35, _⟩ => ⟨S2x1024, .f32⟩
  | .hbm, ⟨36, _⟩ => ⟨S_, .f32⟩
  | .hbm, ⟨37, _⟩ => ⟨S2x1024, .f32⟩
  | .hbm, ⟨38, _⟩ => ⟨S2x1024, .f32⟩
  | _, _ => ⟨S8x2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel37.lean ====
abbrev S8x2x16 : Shape := ⟨3, ![8, 2, 16]⟩
abbrev S2x16 : Shape := ⟨2, ![2, 16]⟩
abbrev S1x2x16 : Shape := ⟨3, ![1, 2, 16]⟩

abbrev nBuf : Space → Nat
  | .hbm => 8
  | .vmem => 8
  | .smem => 0
  | _ => 0

abbrev bufTy : (tb : Table) → Fin (tcTables nBuf tb) → BufTy
  | .hbm, ⟨0, _⟩ => ⟨S8x2x16, .f32⟩
  | .hbm, ⟨1, _⟩ => ⟨S2x16, .f32⟩
  | .hbm, ⟨2, _⟩ => ⟨S2x16, .f32⟩
  | .hbm, ⟨3, _⟩ => ⟨S2x16, .f32⟩
  | .hbm, ⟨4, _⟩ => ⟨S2x16, .f32⟩
  | .hbm, ⟨5, _⟩ => ⟨S2x16, .f32⟩
  | .hbm, ⟨6, _⟩ => ⟨S2x16, .f32⟩
  | .hbm, ⟨7, _⟩ => ⟨S2x16, .f32⟩
  | .local _ .vmem, ⟨0, _⟩ => ⟨S8x2x16, .f32⟩
  | .local _ .vmem, ⟨1, _⟩ => ⟨S2x16, .f32⟩
  | .local _ .vmem, ⟨2, _⟩ => ⟨S2x16, .f32⟩
  | .local _ .vmem, ⟨3, _⟩ => ⟨S2x16, .f32⟩
  | .local _ .vmem, ⟨4, _⟩ => ⟨S2x16, .f32⟩
  | .local _ .vmem, ⟨5, _⟩ => ⟨S2x16, .f32⟩
  | .local _ .vmem, ⟨6, _⟩ => ⟨S2x16, .f32⟩
  | .local _ .vmem, ⟨7, _⟩ => ⟨S2x16, .f32⟩
  | _, _ => ⟨S8x2x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 1 → Memref sig .tc .vmem S8x2x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel37Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference37Ideal.lean ====
abbrev S8x2x16 : Shape := ⟨3, ![8, 2, 16]⟩
abbrev S2x16 : Shape := ⟨2, ![2, 16]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x2x16, .f32⟩
  | .hbm, ⟨1, _⟩ => ⟨S2x16, .f32⟩
  | .hbm, ⟨2, _⟩ => ⟨S2x16, .f32⟩
  | .hbm, ⟨3, _⟩ => ⟨S2x16, .f32⟩
  | .hbm, ⟨4, _⟩ => ⟨S_, .f32⟩
  | .hbm, ⟨5, _⟩ => ⟨S2x16, .f32⟩
  | .hbm, ⟨6, _⟩ => ⟨S_, .f32⟩
  | .hbm, ⟨7, _⟩ => ⟨S2x16, .f32⟩
  | .hbm, ⟨8, _⟩ => ⟨S2x16, .f32⟩
  | .hbm, ⟨9, _⟩ => ⟨S_, .f32⟩
  | .hbm, ⟨10, _⟩ => ⟨S2x16, .f32⟩
  | .hbm, ⟨11, _⟩ => ⟨S2x16, .f32⟩
  | .hbm, ⟨12, _⟩ => ⟨S2x16, .f32⟩
  | .hbm, ⟨13, _⟩ => ⟨S_, .f32⟩
  | .hbm, ⟨14, _⟩ => ⟨S2x16, .f32⟩
  | .hbm, ⟨15, _⟩ => ⟨S2x16, .f32⟩
  | .hbm, ⟨16, _⟩ => ⟨S2x16, .f32⟩
  | .hbm, ⟨17, _⟩ => ⟨S_, .f32⟩
  | .hbm, ⟨18, _⟩ => ⟨S2x16, .f32⟩
  | .hbm, ⟨19, _⟩ => ⟨S2x16, .f32⟩
  | .hbm, ⟨20, _⟩ => ⟨S2x16, .f32⟩
  | .hbm, ⟨21, _⟩ => ⟨S_, .f32⟩
  | .hbm, ⟨22, _⟩ => ⟨S2x16, .f32⟩
  | .hbm, ⟨23, _⟩ => ⟨S2x16, .f32⟩
  | .hbm, ⟨24, _⟩ => ⟨S_, .f32⟩
  | .hbm, ⟨25, _⟩ => ⟨S2x16, .f32⟩
  | .hbm, ⟨26, _⟩ => ⟨S2x16, .f32⟩
  | .hbm, ⟨27, _⟩ => ⟨S2x16, .f32⟩
  | .hbm, ⟨28, _⟩ => ⟨S_, .f32⟩
  | .hbm, ⟨29, _⟩ => ⟨S2x16, .f32⟩
  | .hbm, ⟨30, _⟩ => ⟨S2x16, .f32⟩
  | .hbm, ⟨31, _⟩ => ⟨S2x16, .f32⟩
  | .hbm, ⟨32, _⟩ => ⟨S_, .f32⟩
  | .hbm, ⟨33, _⟩ => ⟨S2x16, .f32⟩
  | .hbm, ⟨34, _⟩ => ⟨S2x16, .f32⟩
  | .hbm, ⟨35, _⟩ => ⟨S2x16, .f32⟩
  | .hbm, ⟨36, _⟩ => ⟨S_, .f32⟩
  | .hbm, ⟨37, _⟩ => ⟨S2x16, .f32⟩
  | .hbm, ⟨38, _⟩ => ⟨S2x16, .f32⟩
  | _, _ => ⟨S8x2x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel38.lean ====
abbrev S8x1544x1024 : Shape := ⟨3, ![8, 1544, 1024]⟩
abbrev S1544x1024 : Shape := ⟨2, ![1544, 1024]⟩
abbrev S8x1544x128 : Shape := ⟨3, ![8, 1544, 128]⟩
abbrev S1544x128 : Shape := ⟨2, ![1544, 128]⟩
abbrev S1x1544x128 : Shape := ⟨3, ![1, 1544, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x1544x1024, .bf16⟩
  | .hbm, ⟨1, _⟩ => ⟨S1544x1024, .f32⟩
  | .hbm, ⟨2, _⟩ => ⟨S1544x1024, .f32⟩
  | .hbm, ⟨3, _⟩ => ⟨S1544x1024, .f32⟩
  | .hbm, ⟨4, _⟩ => ⟨S1544x1024, .f32⟩
  | .hbm, ⟨5, _⟩ => ⟨S1544x1024, .f32⟩
  | .hbm, ⟨6, _⟩ => ⟨S1544x1024, .f32⟩
  | .hbm, ⟨7, _⟩ => ⟨S1544x1024, .f32⟩
  | .local _ .vmem, ⟨0, _⟩ => ⟨S8x1544x128, .bf16⟩
  | .local _ .vmem, ⟨1, _⟩ => ⟨S8x1544x128, .bf16⟩
  | .local _ .vmem, ⟨2, _⟩ => ⟨S1544x128, .f32⟩
  | .local _ .vmem, ⟨3, _⟩ => ⟨S1544x128, .f32⟩
  | .local _ .vmem, ⟨4, _⟩ => ⟨S1544x128, .f32⟩
  | .local _ .vmem, ⟨5, _⟩ => ⟨S1544x128, .f32⟩
  | .local _ .vmem, ⟨6, _⟩ => ⟨S1544x128, .f32⟩
  | .local _ .vmem, ⟨7, _⟩ => ⟨S1544x128, .f32⟩
  | .local _ .vmem, ⟨8, _⟩ => ⟨S1544x128, .f32⟩
  | .local _ .vmem, ⟨9, _⟩ => ⟨S1544x128, .f32⟩
  | .local _ .vmem, ⟨10, _⟩ => ⟨S1544x128, .f32⟩
  | .local _ .vmem, ⟨11, _⟩ => ⟨S1544x128, .f32⟩
  | .local _ .vmem, ⟨12, _⟩ => ⟨S1544x128, .f32⟩
  | .local _ .vmem, ⟨13, _⟩ => ⟨S1544x128, .f32⟩
  | .local _ .vmem, ⟨14, _⟩ => ⟨S1544x128, .f32⟩
  | .local _ .vmem, ⟨15, _⟩ => ⟨S1544x128, .f32⟩
  | _, _ => ⟨S8x1544x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x1544x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1544x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1544x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1544x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1544x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1544x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1544x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1544x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel38Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference38Ideal.lean ====
abbrev S8x1544x1024 : Shape := ⟨3, ![8, 1544, 1024]⟩
abbrev S1544x1024 : Shape := ⟨2, ![1544, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1544x1024, .bf16⟩
  | .hbm, ⟨1, _⟩ => ⟨S1544x1024, .f32⟩
  | .hbm, ⟨2, _⟩ => ⟨S1544x1024, .f32⟩
  | .hbm, ⟨3, _⟩ => ⟨S1544x1024, .f32⟩
  | .hbm, ⟨4, _⟩ => ⟨S8x1544x1024, .f32⟩
  | .hbm, ⟨5, _⟩ => ⟨S_, .f32⟩
  | .hbm, ⟨6, _⟩ => ⟨S1544x1024, .f32⟩
  | .hbm, ⟨7, _⟩ => ⟨S_, .f32⟩
  | .hbm, ⟨8, _⟩ => ⟨S1544x1024, .f32⟩
  | .hbm, ⟨9, _⟩ => ⟨S1544x1024, .f32⟩
  | .hbm, ⟨10, _⟩ => ⟨S_, .f32⟩
  | .hbm, ⟨11, _⟩ => ⟨S1544x1024, .f32⟩
  | .hbm, ⟨12, _⟩ => ⟨S1544x1024, .f32⟩
  | .hbm, ⟨13, _⟩ => ⟨S1544x1024, .f32⟩
  | .hbm, ⟨14, _⟩ => ⟨S_, .f32⟩
  | .hbm, ⟨15, _⟩ => ⟨S1544x1024, .f32⟩
  | .hbm, ⟨16, _⟩ => ⟨S1544x1024, .f32⟩
  | .hbm, ⟨17, _⟩ => ⟨S1544x1024, .f32⟩
  | .hbm, ⟨18, _⟩ => ⟨S_, .f32⟩
  | .hbm, ⟨19, _⟩ => ⟨S1544x1024, .f32⟩
  | .hbm, ⟨20, _⟩ => ⟨S1544x1024, .f32⟩
  | .hbm, ⟨21, _⟩ => ⟨S1544x1024, .f32⟩
  | .hbm, ⟨22, _⟩ => ⟨S_, .f32⟩
  | .hbm, ⟨23, _⟩ => ⟨S1544x1024, .f32⟩
  | .hbm, ⟨24, _⟩ => ⟨S1544x1024, .f32⟩
  | .hbm, ⟨25, _⟩ => ⟨S_, .f32⟩
  | .hbm, ⟨26, _⟩ => ⟨S1544x1024, .f32⟩
  | .hbm, ⟨27, _⟩ => ⟨S1544x1024, .f32⟩
  | .hbm, ⟨28, _⟩ => ⟨S1544x1024, .f32⟩
  | .hbm, ⟨29, _⟩ => ⟨S_, .f32⟩
  | .hbm, ⟨30, _⟩ => ⟨S1544x1024, .f32⟩
  | .hbm, ⟨31, _⟩ => ⟨S1544x1024, .f32⟩
  | .hbm, ⟨32, _⟩ => ⟨S1544x1024, .f32⟩
  | .hbm, ⟨33, _⟩ => ⟨S_, .f32⟩
  | .hbm, ⟨34, _⟩ => ⟨S1544x1024, .f32⟩
  | .hbm, ⟨35, _⟩ => ⟨S1544x1024, .f32⟩
  | .hbm, ⟨36, _⟩ => ⟨S1544x1024, .f32⟩
  | .hbm, ⟨37, _⟩ => ⟨S_, .f32⟩
  | .hbm, ⟨38, _⟩ => ⟨S1544x1024, .f32⟩
  | .hbm, ⟨39, _⟩ => ⟨S1544x1024, .f32⟩
  | _, _ => ⟨S8x1544x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel39.lean ====
abbrev S8x256x1024 : Shape := ⟨3, ![8, 256, 1024]⟩
abbrev S512x1024 : Shape := ⟨2, ![512, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 13
  | .vmem => 32
  | .smem => 0
  | _ => 0

abbrev bufTy : (tb : Table) → Fin (tcTables nBuf tb) → BufTy
  | .hbm, ⟨0, _⟩ => ⟨S8x256x1024, .bf16⟩
  | .hbm, ⟨1, _⟩ => ⟨S8x256x1024, .bf16⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S512x1024, .f32⟩
  | .hbm, ⟨12, _⟩ => ⟨S512x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S8x128x1024, .bf16⟩
  | .local _ .vmem, ⟨17, _⟩ => ⟨S8x128x1024, .bf16⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | .local _ .vmem, ⟨23, _⟩ => ⟨S128x1024, .f32⟩
  | .local _ .vmem, ⟨24, _⟩ => ⟨S128x1024, .f32⟩
  | .local _ .vmem, ⟨25, _⟩ => ⟨S128x1024, .f32⟩
  | .local _ .vmem, ⟨26, _⟩ => ⟨S128x1024, .f32⟩
  | .local _ .vmem, ⟨27, _⟩ => ⟨S128x1024, .f32⟩
  | .local _ .vmem, ⟨28, _⟩ => ⟨S128x1024, .f32⟩
  | .local _ .vmem, ⟨29, _⟩ => ⟨S128x1024, .f32⟩
  | .local _ .vmem, ⟨30, _⟩ => ⟨S128x1024, .f32⟩
  | .local _ .vmem, ⟨31, _⟩ => ⟨S128x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_2 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_3 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_8 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_9 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_10 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_11 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage1_0 : Fin 2 → Memref sig .tc .vmem S8x128x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S128x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S128x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== Kernel39Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference39Ideal.lean ====
abbrev S8x256x1024 : Shape := ⟨3, ![8, 256, 1024]⟩
abbrev S512x1024 : Shape := ⟨2, ![512, 1024]⟩
abbrev S8x512x1024 : Shape := ⟨3, ![8, 512, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S8x256x1024, .bf16⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S8x512x1024, .bf16⟩
  | .hbm, ⟨6, _⟩ => ⟨S8x512x1024, .f32⟩
  | .hbm, ⟨7, _⟩ => ⟨S_, .f32⟩
  | .hbm, ⟨8, _⟩ => ⟨S512x1024, .f32⟩
  | .hbm, ⟨9, _⟩ => ⟨S_, .f32⟩
  | .hbm, ⟨10, _⟩ => ⟨S512x1024, .f32⟩
  | .hbm, ⟨11, _⟩ => ⟨S512x1024, .f32⟩
  | .hbm, ⟨12, _⟩ => ⟨S_, .f32⟩
  | .hbm, ⟨13, _⟩ => ⟨S512x1024, .f32⟩
  | .hbm, ⟨14, _⟩ => ⟨S512x1024, .f32⟩
  | .hbm, ⟨15, _⟩ => ⟨S512x1024, .f32⟩
  | .hbm, ⟨16, _⟩ => ⟨S_, .f32⟩
  | .hbm, ⟨17, _⟩ => ⟨S512x1024, .f32⟩
  | .hbm, ⟨18, _⟩ => ⟨S512x1024, .f32⟩
  | .hbm, ⟨19, _⟩ => ⟨S512x1024, .f32⟩
  | .hbm, ⟨20, _⟩ => ⟨S_, .f32⟩
  | .hbm, ⟨21, _⟩ => ⟨S512x1024, .f32⟩
  | .hbm, ⟨22, _⟩ => ⟨S512x1024, .f32⟩
  | .hbm, ⟨23, _⟩ => ⟨S512x1024, .f32⟩
  | .hbm, ⟨24, _⟩ => ⟨S_, .f32⟩
  | .hbm, ⟨25, _⟩ => ⟨S512x1024, .f32⟩
  | .hbm, ⟨26, _⟩ => ⟨S512x1024, .f32⟩
  | .hbm, ⟨27, _⟩ => ⟨S_, .f32⟩
  | .hbm, ⟨28, _⟩ => ⟨S512x1024, .f32⟩
  | .hbm, ⟨29, _⟩ => ⟨S512x1024, .f32⟩
  | .hbm, ⟨30, _⟩ => ⟨S512x1024, .f32⟩
  | .hbm, ⟨31, _⟩ => ⟨S_, .f32⟩
  | .hbm, ⟨32, _⟩ => ⟨S512x1024, .f32⟩
  | .hbm, ⟨33, _⟩ => ⟨S512x1024, .f32⟩
  | .hbm, ⟨34, _⟩ => ⟨S512x1024, .f32⟩
  | .hbm, ⟨35, _⟩ => ⟨S_, .f32⟩
  | .hbm, ⟨36, _⟩ => ⟨S512x1024, .f32⟩
  | .hbm, ⟨37, _⟩ => ⟨S512x1024, .f32⟩
  | .hbm, ⟨38, _⟩ => ⟨S512x1024, .f32⟩
  | .hbm, ⟨39, _⟩ => ⟨S_, .f32⟩
  | .hbm, ⟨40, _⟩ => ⟨S512x1024, .f32⟩
  | .hbm, ⟨41, _⟩ => ⟨S512x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel40.lean ====
abbrev S8x128x1024 : Shape := ⟨3, ![8, 128, 1024]⟩
abbrev S256x1024 : Shape := ⟨2, ![256, 1024]⟩
abbrev S8x64x1024 : Shape := ⟨3, ![8, 64, 1024]⟩
abbrev S64x1024 : Shape := ⟨2, ![64, 1024]⟩
abbrev S1x64x1024 : Shape := ⟨3, ![1, 64, 1024]⟩

abbrev nBuf : Space → Nat
  | .hbm => 13
  | .vmem => 32
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S256x1024, .f32⟩
  | .local _ .vmem, ⟨0, _⟩ => ⟨S8x64x1024, .bf16⟩
  | .local _ .vmem, ⟨1, _⟩ => ⟨S8x64x1024, .bf16⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S8x64x1024, .bf16⟩
  | .local _ .vmem, ⟨17, _⟩ => ⟨S8x64x1024, .bf16⟩
  | .local _ .vmem, ⟨18, _⟩ => ⟨S64x1024, .f32⟩
  | .local _ .vmem, ⟨19, _⟩ => ⟨S64x1024, .f32⟩
  | .local _ .vmem, ⟨20, _⟩ => ⟨S64x1024, .f32⟩
  | .local _ .vmem, ⟨21, _⟩ => ⟨S64x1024, .f32⟩
  | .local _ .vmem, ⟨22, _⟩ => ⟨S64x1024, .f32⟩
  | .local _ .vmem, ⟨23, _⟩ => ⟨S64x1024, .f32⟩
  | .local _ .vmem, ⟨24, _⟩ => ⟨S64x1024, .f32⟩
  | .local _ .vmem, ⟨25, _⟩ => ⟨S64x1024, .f32⟩
  | .local _ .vmem, ⟨26, _⟩ => ⟨S64x1024, .f32⟩
  | .local _ .vmem, ⟨27, _⟩ => ⟨S64x1024, .f32⟩
  | .local _ .vmem, ⟨28, _⟩ => ⟨S64x1024, .f32⟩
  | .local _ .vmem, ⟨29, _⟩ => ⟨S64x1024, .f32⟩
  | .local _ .vmem, ⟨30, _⟩ => ⟨S64x1024, .f32⟩
  | .local _ .vmem, ⟨31, _⟩ => ⟨S64x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_2 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_3 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_8 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_9 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_10 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_11 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage1_0 : Fin 2 → Memref sig .tc .vmem S8x64x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S64x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S64x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S64x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S64x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S64x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== Kernel40Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference40Ideal.lean ====
abbrev S8x128x1024 : Shape := ⟨3, ![8, 128, 1024]⟩
abbrev S256x1024 : Shape := ⟨2, ![256, 1024]⟩
abbrev S8x256x1024 : Shape := ⟨3, ![8, 256, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S8x256x1024, .bf16⟩
  | .hbm, ⟨6, _⟩ => ⟨S8x256x1024, .f32⟩
  | .hbm, ⟨7, _⟩ => ⟨S_, .f32⟩
  | .hbm, ⟨8, _⟩ => ⟨S256x1024, .f32⟩
  | .hbm, ⟨9, _⟩ => ⟨S_, .f32⟩
  | .hbm, ⟨10, _⟩ => ⟨S256x1024, .f32⟩
  | .hbm, ⟨11, _⟩ => ⟨S256x1024, .f32⟩
  | .hbm, ⟨12, _⟩ => ⟨S_, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S_, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S_, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S_, .f32⟩
  | .hbm, ⟨32, _⟩ => ⟨S256x1024, .f32⟩
  | .hbm, ⟨33, _⟩ => ⟨S256x1024, .f32⟩
  | .hbm, ⟨34, _⟩ => ⟨S256x1024, .f32⟩
  | .hbm, ⟨35, _⟩ => ⟨S_, .f32⟩
  | .hbm, ⟨36, _⟩ => ⟨S256x1024, .f32⟩
  | .hbm, ⟨37, _⟩ => ⟨S256x1024, .f32⟩
  | .hbm, ⟨38, _⟩ => ⟨S256x1024, .f32⟩
  | .hbm, ⟨39, _⟩ => ⟨S_, .f32⟩
  | .hbm, ⟨40, _⟩ => ⟨S256x1024, .f32⟩
  | .hbm, ⟨41, _⟩ => ⟨S256x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Proof.Attn.Cond.lean ====
/- The condition of the attention gradient kernel's one branch: it is taken at the first block only. -/
module

public import proofs.«01_k».proof.Proof.Gen.KernelIdeal.Frame

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The branch condition of the body, computed from the block number. -/
abbrev cond0_0 (i : grid0.Coords) : Prop :=
  (Scalar.cmpi .ne (Scalar.extui (Scalar.cmpi .eq (BitVec.ofNat 32 (i 0).val) 0#32)) 0#32) = 1#1

/-- The block number a grid point stands for. -/
theorem coords_zero (t : Fin grid0.N) : (grid0.coords t 0).val = t.val := by
  have ht : t.val < 16 := Nat.lt_of_lt_of_eq t.isLt N_0
  have e0 : (grid0.coords t 0).val = t.val / 1 % 16 := Pipeline.Grid.coords_val t 0 (by decide) rfl
  omega

/-- The branch is taken at point zero and nowhere else. -/
theorem cond_iff (t : Fin grid0.N) : cond0_0 (grid0.coords t) ↔ t.val = 0 := by
  have ht : t.val < 16 := Nat.lt_of_lt_of_eq t.isLt N_0
  simp only [cond0_0, coords_zero]
  word_cmp

end Cert.KernelIdeal.Attn

end
-- ==== Proof.Attn.Head.lean ====
/- What the attention gradient's body stores in its four output blocks, as functions of its five input blocks. -/
module

public import proofs.«01_k».proof.Proof.Attn.Cond
public import proofs.«01_k».proof.Proof.Gen.KernelIdeal.Skeleton
public import Idealize.ShloMosaic.Lib.Pipeline.ValueKit.Tiles

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- What the body reads for one key head: the four blocks of keys and values (of the block before and of this block), the stacked rows of its four query heads, and the sinks of those heads. -/
structure Head (F : FTy → Type) where
  kp : Vec F S128x64 .f32
  kc : Vec F S128x64 .f32
  vp : Vec F S128x64 .f32
  vc : Vec F S128x64 .f32
  q4 : FVec F S512x64 .f32
  do4 : FVec F S512x64 .f32
  s0 : Vec F S1x1 .f32
  s1 : Vec F S1x1 .f32
  s2 : Vec F S1x1 .f32
  s3 : Vec F S1x1 .f32

namespace Head

variable (b : BitVec 1) (H : Head F)

/-- The exponentials of the scores against the block before, -/
def ep : FVec F S512x128 .f32 := k0_pay14 b H.kp H.kc H.q4 (k0_pay7 H.s0) (k0_pay8 H.s1) H.s2 H.s3
/-- against this block, -/
def ec : FVec F S512x128 .f32 := k0_pay15 b H.kp H.kc H.q4 (k0_pay7 H.s0) (k0_pay8 H.s1) H.s2 H.s3
/-- and of the sinks. -/
def es : FVec F S512x1 .f32 := k0_pay16 b H.kp H.kc H.q4 (k0_pay7 H.s0) (k0_pay8 H.s1) H.s2 H.s3
/-- The probabilities on the block before and on this block. -/
def pp : FVec F S512x128 .f32 := k0_pay18 (H.ep b) (H.ec b) (H.es b)
def pc : FVec F S512x128 .f32 := k0_pay19 (H.ep b) (H.ec b) (H.es b)
/-- The gradients of the scaled scores. -/
def dsp : FVec F S512x128 .f32 := k0_pay23 H.vp H.vc H.do4 (H.ep b) (H.ec b) (H.es b)
def dsc : FVec F S512x128 .f32 := k0_pay24 H.vp H.vc H.do4 (H.ep b) (H.ec b) (H.es b)
/-- The gradient of the stacked queries. -/
def dq4 : FVec F S512x64 .f32 := k0_pay25 H.kp H.kc H.vp H.vc H.do4 (H.ep b) (H.ec b) (H.es b)
/-- The sink's probability times the row's total, whose sum is minus the gradient of a sink. -/
def psd : FVec F S512x1 .f32 := k0_pay26 H.vp H.vc H.do4 (H.ep b) (H.ec b) (H.es b)
/-- The gradients of the keys and of the values, of the block before and of this block. -/
def dkp : FVec F S128x64 .f32 := k0_pay33 H.q4 (H.dsp b)
def dkc : FVec F S128x64 .f32 := k0_pay34 H.q4 (H.dsc b)
def dvp : FVec F S128x64 .f32 := k0_pay35 H.do4 (H.pp b)
def dvc : FVec F S128x64 .f32 := k0_pay36 H.do4 (H.pc b)
/-- The four query heads' rows of the gradient of the queries. -/
def dq_0 : FVec F S128x64 .f32 := extractStridedSlice S128x64 ![0, 0] (H.dq4 b) slices_S512x64_o0_0_S128x64
def dq_1 : FVec F S128x64 .f32 := extractStridedSlice S128x64 ![128, 0] (H.dq4 b) slices_S512x64_o128_0_S128x64
def dq_2 : FVec F S128x64 .f32 := extractStridedSlice S128x64 ![256, 0] (H.dq4 b) slices_S512x64_o256_0_S128x64
def dq_3 : FVec F S128x64 .f32 := extractStridedSlice S128x64 ![384, 0] (H.dq4 b) slices_S512x64_o384_0_S128x64
/-- The four query heads' rows of `psd`. -/
def psd_0 : FVec F S128x1 .f32 := extractStridedSlice S128x1 ![0, 0] (H.psd b) slices_S512x1_o0_0_S128x1
def psd_1 : FVec F S128x1 .f32 := extractStridedSlice S128x1 ![128, 0] (H.psd b) slices_S512x1_o128_0_S128x1
def psd_2 : FVec F S128x1 .f32 := extractStridedSlice S128x1 ![256, 0] (H.psd b) slices_S512x1_o256_0_S128x1
def psd_3 : FVec F S128x1 .f32 := extractStridedSlice S128x1 ![384, 0] (H.psd b) slices_S512x1_o384_0_S128x1

end Head

/-- What the body reads for key head 0. -/
def head_0 (x0 : Vec F S128x1024 .f32) (x1 x2 : Vec F S128x512 .f32) (x3 : Vec F S128x1024 .f32) (x4 : Vec F S1x128 .f32) : Head F where
  kp := View.ld x2 (Rect.unit (s := S128x512) ![0, 0] S128x64.size inb_S128x512_S128x64_0_0)
  kc := View.ld x1 (Rect.unit (s := S128x512) ![0, 0] S128x64.size inb_S128x512_S128x64_0_0)
  vp := View.ld x2 (Rect.unit (s := S128x512) ![0, 256] S128x64.size inb_S128x512_S128x64_0_256)
  vc := View.ld x1 (Rect.unit (s := S128x512) ![0, 256] S128x64.size inb_S128x512_S128x64_0_256)
  q4 := k0_pay5 (View.ld x0 (Rect.unit (s := S128x1024) ![0, 0] S128x64.size inb_S128x1024_S128x64_0_0)) (View.ld x0 (Rect.unit (s := S128x1024) ![0, 64] S128x64.size inb_S128x1024_S128x64_0_64)) (View.ld x0 (Rect.unit (s := S128x1024) ![0, 128] S128x64.size inb_S128x1024_S128x64_0_128)) (View.ld x0 (Rect.unit (s := S128x1024) ![0, 192] S128x64.size inb_S128x1024_S128x64_0_192))
  do4 := k0_pay6 (View.ld x3 (Rect.unit (s := S128x1024) ![0, 0] S128x64.size inb_S128x1024_S128x64_0_0)) (View.ld x3 (Rect.unit (s := S128x1024) ![0, 64] S128x64.size inb_S128x1024_S128x64_0_64)) (View.ld x3 (Rect.unit (s := S128x1024) ![0, 128] S128x64.size inb_S128x1024_S128x64_0_128)) (View.ld x3 (Rect.unit (s := S128x1024) ![0, 192] S128x64.size inb_S128x1024_S128x64_0_192))
  s0 := View.ld x4 (Rect.unit (s := S1x128) ![0, 0] S1x1.size inb_S1x128_S1x1_0_0)
  s1 := View.ld x4 (Rect.unit (s := S1x128) ![0, 1] S1x1.size inb_S1x128_S1x1_0_1)
  s2 := View.ld x4 (Rect.unit (s := S1x128) ![0, 2] S1x1.size inb_S1x128_S1x1_0_2)
  s3 := View.ld x4 (Rect.unit (s := S1x128) ![0, 3] S1x1.size inb_S1x128_S1x1_0_3)

/-- What the body reads for key head 1. -/
def head_1 (x0 : Vec F S128x1024 .f32) (x1 x2 : Vec F S128x512 .f32) (x3 : Vec F S128x1024 .f32) (x4 : Vec F S1x128 .f32) : Head F where
  kp := View.ld x2 (Rect.unit (s := S128x512) ![0, 64] S128x64.size inb_S128x512_S128x64_0_64)
  kc := View.ld x1 (Rect.unit (s := S128x512) ![0, 64] S128x64.size inb_S128x512_S128x64_0_64)
  vp := View.ld x2 (Rect.unit (s := S128x512) ![0, 320] S128x64.size inb_S128x512_S128x64_0_320)
  vc := View.ld x1 (Rect.unit (s := S128x512) ![0, 320] S128x64.size inb_S128x512_S128x64_0_320)
  q4 := k0_pay5 (View.ld x0 (Rect.unit (s := S128x1024) ![0, 256] S128x64.size inb_S128x1024_S128x64_0_256)) (View.ld x0 (Rect.unit (s := S128x1024) ![0, 320] S128x64.size inb_S128x1024_S128x64_0_320)) (View.ld x0 (Rect.unit (s := S128x1024) ![0, 384] S128x64.size inb_S128x1024_S128x64_0_384)) (View.ld x0 (Rect.unit (s := S128x1024) ![0, 448] S128x64.size inb_S128x1024_S128x64_0_448))
  do4 := k0_pay6 (View.ld x3 (Rect.unit (s := S128x1024) ![0, 256] S128x64.size inb_S128x1024_S128x64_0_256)) (View.ld x3 (Rect.unit (s := S128x1024) ![0, 320] S128x64.size inb_S128x1024_S128x64_0_320)) (View.ld x3 (Rect.unit (s := S128x1024) ![0, 384] S128x64.size inb_S128x1024_S128x64_0_384)) (View.ld x3 (Rect.unit (s := S128x1024) ![0, 448] S128x64.size inb_S128x1024_S128x64_0_448))
  s0 := View.ld x4 (Rect.unit (s := S1x128) ![0, 4] S1x1.size inb_S1x128_S1x1_0_4)
  s1 := View.ld x4 (Rect.unit (s := S1x128) ![0, 5] S1x1.size inb_S1x128_S1x1_0_5)
  s2 := View.ld x4 (Rect.unit (s := S1x128) ![0, 6] S1x1.size inb_S1x128_S1x1_0_6)
  s3 := View.ld x4 (Rect.unit (s := S1x128) ![0, 7] S1x1.size inb_S1x128_S1x1_0_7)

/-- What the body reads for key head 2. -/
def head_2 (x0 : Vec F S128x1024 .f32) (x1 x2 : Vec F S128x512 .f32) (x3 : Vec F S128x1024 .f32) (x4 : Vec F S1x128 .f32) : Head F where
  kp := View.ld x2 (Rect.unit (s := S128x512) ![0, 128] S128x64.size inb_S128x512_S128x64_0_128)
  kc := View.ld x1 (Rect.unit (s := S128x512) ![0, 128] S128x64.size inb_S128x512_S128x64_0_128)
  vp := View.ld x2 (Rect.unit (s := S128x512) ![0, 384] S128x64.size inb_S128x512_S128x64_0_384)
  vc := View.ld x1 (Rect.unit (s := S128x512) ![0, 384] S128x64.size inb_S128x512_S128x64_0_384)
  q4 := k0_pay5 (View.ld x0 (Rect.unit (s := S128x1024) ![0, 512] S128x64.size inb_S128x1024_S128x64_0_512)) (View.ld x0 (Rect.unit (s := S128x1024) ![0, 576] S128x64.size inb_S128x1024_S128x64_0_576)) (View.ld x0 (Rect.unit (s := S128x1024) ![0, 640] S128x64.size inb_S128x1024_S128x64_0_640)) (View.ld x0 (Rect.unit (s := S128x1024) ![0, 704] S128x64.size inb_S128x1024_S128x64_0_704))
  do4 := k0_pay6 (View.ld x3 (Rect.unit (s := S128x1024) ![0, 512] S128x64.size inb_S128x1024_S128x64_0_512)) (View.ld x3 (Rect.unit (s := S128x1024) ![0, 576] S128x64.size inb_S128x1024_S128x64_0_576)) (View.ld x3 (Rect.unit (s := S128x1024) ![0, 640] S128x64.size inb_S128x1024_S128x64_0_640)) (View.ld x3 (Rect.unit (s := S128x1024) ![0, 704] S128x64.size inb_S128x1024_S128x64_0_704))
  s0 := View.ld x4 (Rect.unit (s := S1x128) ![0, 8] S1x1.size inb_S1x128_S1x1_0_8)
  s1 := View.ld x4 (Rect.unit (s := S1x128) ![0, 9] S1x1.size inb_S1x128_S1x1_0_9)
  s2 := View.ld x4 (Rect.unit (s := S1x128) ![0, 10] S1x1.size inb_S1x128_S1x1_0_10)
  s3 := View.ld x4 (Rect.unit (s := S1x128) ![0, 11] S1x1.size inb_S1x128_S1x1_0_11)

/-- What the body reads for key head 3. -/
def head_3 (x0 : Vec F S128x1024 .f32) (x1 x2 : Vec F S128x512 .f32) (x3 : Vec F S128x1024 .f32) (x4 : Vec F S1x128 .f32) : Head F where
  kp := View.ld x2 (Rect.unit (s := S128x512) ![0, 192] S128x64.size inb_S128x512_S128x64_0_192)
  kc := View.ld x1 (Rect.unit (s := S128x512) ![0, 192] S128x64.size inb_S128x512_S128x64_0_192)
  vp := View.ld x2 (Rect.unit (s := S128x512) ![0, 448] S128x64.size inb_S128x512_S128x64_0_448)
  vc := View.ld x1 (Rect.unit (s := S128x512) ![0, 448] S128x64.size inb_S128x512_S128x64_0_448)
  q4 := k0_pay5 (View.ld x0 (Rect.unit (s := S128x1024) ![0, 768] S128x64.size inb_S128x1024_S128x64_0_768)) (View.ld x0 (Rect.unit (s := S128x1024) ![0, 832] S128x64.size inb_S128x1024_S128x64_0_832)) (View.ld x0 (Rect.unit (s := S128x1024) ![0, 896] S128x64.size inb_S128x1024_S128x64_0_896)) (View.ld x0 (Rect.unit (s := S128x1024) ![0, 960] S128x64.size inb_S128x1024_S128x64_0_960))
  do4 := k0_pay6 (View.ld x3 (Rect.unit (s := S128x1024) ![0, 768] S128x64.size inb_S128x1024_S128x64_0_768)) (View.ld x3 (Rect.unit (s := S128x1024) ![0, 832] S128x64.size inb_S128x1024_S128x64_0_832)) (View.ld x3 (Rect.unit (s := S128x1024) ![0, 896] S128x64.size inb_S128x1024_S128x64_0_896)) (View.ld x3 (Rect.unit (s := S128x1024) ![0, 960] S128x64.size inb_S128x1024_S128x64_0_960))
  s0 := View.ld x4 (Rect.unit (s := S1x128) ![0, 12] S1x1.size inb_S1x128_S1x1_0_12)
  s1 := View.ld x4 (Rect.unit (s := S1x128) ![0, 13] S1x1.size inb_S1x128_S1x1_0_13)
  s2 := View.ld x4 (Rect.unit (s := S1x128) ![0, 14] S1x1.size inb_S1x128_S1x1_0_14)
  s3 := View.ld x4 (Rect.unit (s := S1x128) ![0, 15] S1x1.size inb_S1x128_S1x1_0_15)

/-- What the body reads for key head `k`. -/
def headOf (k : Fin 4) (x0 : Vec F S128x1024 .f32) (x1 x2 : Vec F S128x512 .f32) (x3 : Vec F S128x1024 .f32) (x4 : Vec F S1x128 .f32) : Head F :=
  ![head_0 x0 x1 x2 x3 x4, head_1 x0 x1 x2 x3 x4, head_2 x0 x1 x2 x3 x4, head_3 x0 x1 x2 x3 x4] k

section Blocks

variable (b : BitVec 1) (x0 : Vec F S128x1024 .f32) (x1 x2 : Vec F S128x512 .f32) (x3 : Vec F S128x1024 .f32) (x4 : Vec F S1x128 .f32)

/-- The stores into the gradient of the queries, the last one first. -/
def dqPieces : List (View.Piece (Elt F) S128x1024 .f32) := [
  ⟨Rect.unit ![0, 960] S128x64.size inb_S128x1024_S128x64_0_960, (head_3 x0 x1 x2 x3 x4).dq_3 b⟩,
  ⟨Rect.unit ![0, 896] S128x64.size inb_S128x1024_S128x64_0_896, (head_3 x0 x1 x2 x3 x4).dq_2 b⟩,
  ⟨Rect.unit ![0, 832] S128x64.size inb_S128x1024_S128x64_0_832, (head_3 x0 x1 x2 x3 x4).dq_1 b⟩,
  ⟨Rect.unit ![0, 768] S128x64.size inb_S128x1024_S128x64_0_768, (head_3 x0 x1 x2 x3 x4).dq_0 b⟩,
  ⟨Rect.unit ![0, 704] S128x64.size inb_S128x1024_S128x64_0_704, (head_2 x0 x1 x2 x3 x4).dq_3 b⟩,
  ⟨Rect.unit ![0, 640] S128x64.size inb_S128x1024_S128x64_0_640, (head_2 x0 x1 x2 x3 x4).dq_2 b⟩,
  ⟨Rect.unit ![0, 576] S128x64.size inb_S128x1024_S128x64_0_576, (head_2 x0 x1 x2 x3 x4).dq_1 b⟩,
  ⟨Rect.unit ![0, 512] S128x64.size inb_S128x1024_S128x64_0_512, (head_2 x0 x1 x2 x3 x4).dq_0 b⟩,
  ⟨Rect.unit ![0, 448] S128x64.size inb_S128x1024_S128x64_0_448, (head_1 x0 x1 x2 x3 x4).dq_3 b⟩,
  ⟨Rect.unit ![0, 384] S128x64.size inb_S128x1024_S128x64_0_384, (head_1 x0 x1 x2 x3 x4).dq_2 b⟩,
  ⟨Rect.unit ![0, 320] S128x64.size inb_S128x1024_S128x64_0_320, (head_1 x0 x1 x2 x3 x4).dq_1 b⟩,
  ⟨Rect.unit ![0, 256] S128x64.size inb_S128x1024_S128x64_0_256, (head_1 x0 x1 x2 x3 x4).dq_0 b⟩,
  ⟨Rect.unit ![0, 192] S128x64.size inb_S128x1024_S128x64_0_192, (head_0 x0 x1 x2 x3 x4).dq_3 b⟩,
  ⟨Rect.unit ![0, 128] S128x64.size inb_S128x1024_S128x64_0_128, (head_0 x0 x1 x2 x3 x4).dq_2 b⟩,
  ⟨Rect.unit ![0, 64] S128x64.size inb_S128x1024_S128x64_0_64, (head_0 x0 x1 x2 x3 x4).dq_1 b⟩,
  ⟨Rect.unit ![0, 0] S128x64.size inb_S128x1024_S128x64_0_0, (head_0 x0 x1 x2 x3 x4).dq_0 b⟩]

/-- The stores into the gradient of this block's keys and values, the last one first. -/
def dcPieces : List (View.Piece (Elt F) S128x512 .f32) := [
  ⟨Rect.unit ![0, 448] S128x64.size inb_S128x512_S128x64_0_448, (head_3 x0 x1 x2 x3 x4).dvc b⟩,
  ⟨Rect.unit ![0, 192] S128x64.size inb_S128x512_S128x64_0_192, (head_3 x0 x1 x2 x3 x4).dkc b⟩,
  ⟨Rect.unit ![0, 384] S128x64.size inb_S128x512_S128x64_0_384, (head_2 x0 x1 x2 x3 x4).dvc b⟩,
  ⟨Rect.unit ![0, 128] S128x64.size inb_S128x512_S128x64_0_128, (head_2 x0 x1 x2 x3 x4).dkc b⟩,
  ⟨Rect.unit ![0, 320] S128x64.size inb_S128x512_S128x64_0_320, (head_1 x0 x1 x2 x3 x4).dvc b⟩,
  ⟨Rect.unit ![0, 64] S128x64.size inb_S128x512_S128x64_0_64, (head_1 x0 x1 x2 x3 x4).dkc b⟩,
  ⟨Rect.unit ![0, 256] S128x64.size inb_S128x512_S128x64_0_256, (head_0 x0 x1 x2 x3 x4).dvc b⟩,
  ⟨Rect.unit ![0, 0] S128x64.size inb_S128x512_S128x64_0_0, (head_0 x0 x1 x2 x3 x4).dkc b⟩]

/-- The stores into the gradient of the keys and values of the block before, the last one first. -/
def dpPieces : List (View.Piece (Elt F) S128x512 .f32) := [
  ⟨Rect.unit ![0, 448] S128x64.size inb_S128x512_S128x64_0_448, (head_3 x0 x1 x2 x3 x4).dvp b⟩,
  ⟨Rect.unit ![0, 192] S128x64.size inb_S128x512_S128x64_0_192, (head_3 x0 x1 x2 x3 x4).dkp b⟩,
  ⟨Rect.unit ![0, 384] S128x64.size inb_S128x512_S128x64_0_384, (head_2 x0 x1 x2 x3 x4).dvp b⟩,
  ⟨Rect.unit ![0, 128] S128x64.size inb_S128x512_S128x64_0_128, (head_2 x0 x1 x2 x3 x4).dkp b⟩,
  ⟨Rect.unit ![0, 320] S128x64.size inb_S128x512_S128x64_0_320, (head_1 x0 x1 x2 x3 x4).dvp b⟩,
  ⟨Rect.unit ![0, 64] S128x64.size inb_S128x512_S128x64_0_64, (head_1 x0 x1 x2 x3 x4).dkp b⟩,
  ⟨Rect.unit ![0, 256] S128x64.size inb_S128x512_S128x64_0_256, (head_0 x0 x1 x2 x3 x4).dvp b⟩,
  ⟨Rect.unit ![0, 0] S128x64.size inb_S128x512_S128x64_0_0, (head_0 x0 x1 x2 x3 x4).dkp b⟩]

/-- One query head's term of the gradient of the sinks, put in its lane. -/
def sinkTerm (h : BitVec 32) (p : FVec F S128x1 .f32) : FVec F S1x128 .f32 :=
  select (cmpi .eq (iota .tc S1x128 32 [1] iota_S1x128_d1_w32) (broadcast S1x128 h))
    (broadcastTo S1x128 (shapeCast S1x1 (subf (broadcast S1x1 (Scalar.ofBits .f32 0x00000000#32)) (shapeCast S1x1 (multiReduction .add [0] S1 p 0x00000000#32 reduces_S128x1_S1 (.inl rfl) rfl) shapeCasts_S1_S1x1)) shapeCasts_S1x1_S1x1) broadcasts_S1x1_S1x128)
    (broadcast S1x128 (Scalar.ofBits .f32 0x00000000#32))

/-- The gradient of the sinks over one block of rows. -/
def dsink : FVec F S1x128 .f32 :=
  addf (addf (addf (addf (addf (addf (addf (addf (addf (addf (addf (addf (addf (addf (addf (addf (k0_pay4) (sinkTerm 0#32 ((head_0 x0 x1 x2 x3 x4).psd_0 b))) (sinkTerm 1#32 ((head_0 x0 x1 x2 x3 x4).psd_1 b))) (sinkTerm 2#32 ((head_0 x0 x1 x2 x3 x4).psd_2 b))) (sinkTerm 3#32 ((head_0 x0 x1 x2 x3 x4).psd_3 b))) (sinkTerm 4#32 ((head_1 x0 x1 x2 x3 x4).psd_0 b))) (sinkTerm 5#32 ((head_1 x0 x1 x2 x3 x4).psd_1 b))) (sinkTerm 6#32 ((head_1 x0 x1 x2 x3 x4).psd_2 b))) (sinkTerm 7#32 ((head_1 x0 x1 x2 x3 x4).psd_3 b))) (sinkTerm 8#32 ((head_2 x0 x1 x2 x3 x4).psd_0 b))) (sinkTerm 9#32 ((head_2 x0 x1 x2 x3 x4).psd_1 b))) (sinkTerm 10#32 ((head_2 x0 x1 x2 x3 x4).psd_2 b))) (sinkTerm 11#32 ((head_2 x0 x1 x2 x3 x4).psd_3 b))) (sinkTerm 12#32 ((head_3 x0 x1 x2 x3 x4).psd_0 b))) (sinkTerm 13#32 ((head_3 x0 x1 x2 x3 x4).psd_1 b))) (sinkTerm 14#32 ((head_3 x0 x1 x2 x3 x4).psd_2 b))) (sinkTerm 15#32 ((head_3 x0 x1 x2 x3 x4).psd_3 b))

/-- The block of the gradient of the queries. -/
def dqBlk : Vec F S128x1024 .f32 := View.canon (dqPieces b x0 x1 x2 x3 x4)
/-- The block of the gradient of this block's keys and values. -/
def dcBlk : Vec F S128x512 .f32 := View.canon (dcPieces b x0 x1 x2 x3 x4)
/-- The block of the gradient of the keys and values of the block before. -/
def dpBlk : Vec F S128x512 .f32 := View.canon (dpPieces b x0 x1 x2 x3 x4)

/-- The stores into the totals, the last one first, over totals `acc`. -/
def accPieces (acc : Vec F S8x1024 .f32) : List (View.Piece (Elt F) S8x1024 .f32) := [
  ⟨Rect.unit ![1, 0] S1x128.size inb_S8x1024_S1x128_1_0, k0_pay2 (dsink b x0 x1 x2 x3 x4) (View.ld acc (Rect.unit (s := S8x1024) ![1, 0] S1x128.size inb_S8x1024_S1x128_1_0))⟩,
  ⟨Rect.unit ![0, 0] S1x1024.size inb_S8x1024_S1x1024_0_0, k0_pay1 (k0_pay141 (View.ld acc (Rect.unit (s := S8x1024) ![0, 0] S1x1024.size inb_S8x1024_S1x1024_0_0))) (dqBlk b x0 x1 x2 x3 x4)⟩]

/-- The totals after the stores, over totals `acc`. -/
def accAdd (acc : Vec F S8x1024 .f32) : Vec F S8x1024 .f32 :=
  View.canon (accPieces b x0 x1 x2 x3 x4 acc ++ [⟨Rect.unit ![0, 0] S8x1024.size inb_S8x1024_S8x1024_0_0, acc⟩])

end Blocks

end Cert.KernelIdeal.Attn

end
-- ==== Proof.Attn.RunFirst.lean ====
/- The body of the attention gradient run at the first block of a sequence. -/
module

public import proofs.«01_k».proof.Proof.Gen.KernelIdeal.Frame
public import proofs.«01_k».proof.Proof.Gen.KernelIdeal.Skeleton
public import proofs.«01_k».proof.Proof.Attn.Cond

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 1000000 in
/-- The body at the first block, where the totals are set to zero before anything is added: whatever the four output buffers held, the body ends with the listed pieces written over them. The pieces are found by running the body. -/
def runFirst (c : Dev nD) (i : grid0.Coords) (a0 : Memref sig .tc .vmem S128x1024 .f32) (h0 : a0.IsWhole) (a1 : Memref sig .tc .vmem S128x512 .f32) (h1 : a1.IsWhole) (a2 : Memref sig .tc .vmem S128x512 .f32) (h2 : a2.IsWhole) (a3 : Memref sig .tc .vmem S128x1024 .f32) (h3 : a3.IsWhole) (a4 : Memref sig .tc .vmem S1x128 .f32) (h4 : a4.IsWhole) (a5 : Memref sig .tc .vmem S128x1024 .f32) (h5 : a5.IsWhole) (a6 : Memref sig .tc .vmem S128x512 .f32) (h6 : a6.IsWhole) (a7 : Memref sig .tc .vmem S128x512 .f32) (h7 : a7.IsWhole) (a8 : Memref sig .tc .vmem S8x1024 .f32) (h8 : a8.IsWhole) (hc : cond0_0 i)
    (x0 : Vec F S128x1024 .f32) (x1 : Vec F S128x512 .f32) (x2 : Vec F S128x512 .f32) (x3 : Vec F S128x1024 .f32) (x4 : Vec F S1x128 .f32) :
    Σ' (L5 : List (View.Piece (Elt F) S128x1024 .f32)), Σ' (L6 : List (View.Piece (Elt F) S128x512 .f32)), Σ' (L7 : List (View.Piece (Elt F) S128x512 .f32)), { L8 : List (View.Piece (Elt F) S8x1024 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d) ∗ (∃ d, owns (c : Thread nD τ) a6 fullShare d) ∗ (∃ d, owns (c : Thread nD τ) a7 fullShare d) ∗ (∃ d, owns (c : Thread nD τ) a8 fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ f, a5.view.loc (c : Thread nD τ) ↦[a5.view.set]{fullShare} a5.view.writes (Elt F) f L5) ∗ (∃ f, a6.view.loc (c : Thread nD τ) ↦[a6.view.set]{fullShare} a6.view.writes (Elt F) f L6) ∗ (∃ f, a7.view.loc (c : Thread nD τ) ↦[a7.view.set]{fullShare} a7.view.writes (Elt F) f L7) ∗ (∃ f, a8.view.loc (c : Thread nD τ) ↦[a8.view.set]{fullShare} a8.view.writes (Elt F) f L8)) -∗ K ⟨⟩))
          ⊢ wp frame (wpE (defs₀ (F := F)) Variants.none c none) E (cc0_attn_bwd i a0 h0 a1 h1 a2 h2 a3 h3 a4 h4 a5 h5 a6 h6 a7 h7 a8 h8) K } := by
  refine ⟨?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
    obtain rfl := h0.eq_unread hf0; obtain rfl := h1.eq_unread hf1; obtain rfl := h2.eq_unread hf2; obtain rfl := h3.eq_unread hf3; obtain rfl := h4.eq_unread hf4
    sl_exec (disch := first | sl_exact hc)
    sl_step
    iapply Hk
    isplitl [H0]
    · iexists _; isplitr
      · ipureintro; exact h0.read_unread _
      iexact H0
    isplitl [H1]
    · iexists _; isplitr
      · ipureintro; exact h1.read_unread _
      iexact H1
    isplitl [H2]
    · iexists _; isplitr
      · ipureintro; exact h2.read_unread _
      iexact H2
    isplitl [H3]
    · iexists _; isplitr
      · ipureintro; exact h3.read_unread _
      iexact H3
    isplitl [H4]
    · iexists _; isplitr
      · ipureintro; exact h4.read_unread _
      iexact H4
    isplitl [H5]
    · iexists _; iexact H5
    isplitl [H6]
    · iexists _; iexact H6
    isplitl [H7]
    · iexists _; iexact H7
    iexists _; iexact H8

end Cert.KernelIdeal.Attn

end
-- ==== Proof.Attn.RunLater.lean ====
/- The body of the attention gradient run at a later block of a sequence. -/
module

public import proofs.«01_k».proof.Proof.Attn.RunFirst

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 1000000 in
/-- The body at a later block: the buffer of the totals holds `acc` and ends with its pieces written over `acc`, the other three output buffers end with theirs written over whatever they held. The pieces are found by running the body. -/
def runLater (c : Dev nD) (i : grid0.Coords) (a0 : Memref sig .tc .vmem S128x1024 .f32) (h0 : a0.IsWhole) (a1 : Memref sig .tc .vmem S128x512 .f32) (h1 : a1.IsWhole) (a2 : Memref sig .tc .vmem S128x512 .f32) (h2 : a2.IsWhole) (a3 : Memref sig .tc .vmem S128x1024 .f32) (h3 : a3.IsWhole) (a4 : Memref sig .tc .vmem S1x128 .f32) (h4 : a4.IsWhole) (a5 : Memref sig .tc .vmem S128x1024 .f32) (h5 : a5.IsWhole) (a6 : Memref sig .tc .vmem S128x512 .f32) (h6 : a6.IsWhole) (a7 : Memref sig .tc .vmem S128x512 .f32) (h7 : a7.IsWhole) (a8 : Memref sig .tc .vmem S8x1024 .f32) (h8 : a8.IsWhole) (hc : ¬cond0_0 i)
    (x0 : Vec F S128x1024 .f32) (x1 : Vec F S128x512 .f32) (x2 : Vec F S128x512 .f32) (x3 : Vec F S128x1024 .f32) (x4 : Vec F S1x128 .f32) (acc : Vec F S8x1024 .f32) :
    Σ' (L5 : List (View.Piece (Elt F) S128x1024 .f32)), Σ' (L6 : List (View.Piece (Elt F) S128x512 .f32)), Σ' (L7 : List (View.Piece (Elt F) S128x512 .f32)), { L8 : List (View.Piece (Elt F) S8x1024 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d) ∗ (∃ d, owns (c : Thread nD τ) a6 fullShare d) ∗ (∃ d, owns (c : Thread nD τ) a7 fullShare d) ∗ owns (c : Thread nD τ) a8 fullShare acc
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ f, a5.view.loc (c : Thread nD τ) ↦[a5.view.set]{fullShare} a5.view.writes (Elt F) f L5) ∗ (∃ f, a6.view.loc (c : Thread nD τ) ↦[a6.view.set]{fullShare} a6.view.writes (Elt F) f L6) ∗ (∃ f, a7.view.loc (c : Thread nD τ) ↦[a7.view.set]{fullShare} a7.view.writes (Elt F) f L7) ∗ (a8.view.loc (c : Thread nD τ) ↦[a8.view.set]{fullShare} a8.view.writes (Elt F) (h8.unread acc) L8)) -∗ K ⟨⟩))
          ⊢ wp frame (wpE (defs₀ (F := F)) Variants.none c none) E (cc0_attn_bwd i a0 h0 a1 h1 a2 h2 a3 h3 a4 h4 a5 h5 a6 h6 a7 h7 a8 h8) K } := by
  refine ⟨?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, Hk⟩
    obtain rfl := h0.eq_unread hf0; obtain rfl := h1.eq_unread hf1; obtain rfl := h2.eq_unread hf2; obtain rfl := h3.eq_unread hf3; obtain rfl := h4.eq_unread hf4; obtain rfl := h8.eq_unread hf8
    sl_exec (disch := first | sl_exact hc)
    sl_step
    iapply Hk
    isplitl [H0]
    · iexists _; isplitr
      · ipureintro; exact h0.read_unread _
      iexact H0
    isplitl [H1]
    · iexists _; isplitr
      · ipureintro; exact h1.read_unread _
      iexact H1
    isplitl [H2]
    · iexists _; isplitr
      · ipureintro; exact h2.read_unread _
      iexact H2
    isplitl [H3]
    · iexists _; isplitr
      · ipureintro; exact h3.read_unread _
      iexact H3
    isplitl [H4]
    · iexists _; isplitr
      · ipureintro; exact h4.read_unread _
      iexact H4
    isplitl [H5]
    · iexists _; iexact H5
    isplitl [H6]
    · iexists _; iexact H6
    isplitl [H7]
    · iexists _; iexact H7
    iexact H8

end Cert.KernelIdeal.Attn

end
-- ==== Proof.Attn.Pieces.lean ====
/- The pieces found by running the body are the listed ones. -/
module

public import proofs.«01_k».proof.Proof.Attn.Head
public import proofs.«01_k».proof.Proof.Attn.RunLater

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The flag a block number gives: whether the block is the first one. -/
abbrev flag (i : grid0.Coords) : BitVec 1 := Scalar.cmpi .eq (BitVec.ofNat 32 (i 0).val) 0#32

section

variable (c : Dev nD) (i : grid0.Coords) (a0 : Memref sig .tc .vmem S128x1024 .f32) (h0 : a0.IsWhole) (a1 : Memref sig .tc .vmem S128x512 .f32) (h1 : a1.IsWhole) (a2 : Memref sig .tc .vmem S128x512 .f32) (h2 : a2.IsWhole) (a3 : Memref sig .tc .vmem S128x1024 .f32) (h3 : a3.IsWhole) (a4 : Memref sig .tc .vmem S1x128 .f32) (h4 : a4.IsWhole) (a5 : Memref sig .tc .vmem S128x1024 .f32) (h5 : a5.IsWhole) (a6 : Memref sig .tc .vmem S128x512 .f32) (h6 : a6.IsWhole) (a7 : Memref sig .tc .vmem S128x512 .f32) (h7 : a7.IsWhole) (a8 : Memref sig .tc .vmem S8x1024 .f32) (h8 : a8.IsWhole)
  (x0 : Vec F S128x1024 .f32) (x1 : Vec F S128x512 .f32) (x2 : Vec F S128x512 .f32) (x3 : Vec F S128x1024 .f32) (x4 : Vec F S1x128 .f32)

theorem later_dq (hc : ¬cond0_0 i) (acc : Vec F S8x1024 .f32) : (runLater c i a0 h0 a1 h1 a2 h2 a3 h3 a4 h4 a5 h5 a6 h6 a7 h7 a8 h8 hc x0 x1 x2 x3 x4 acc).1 = dqPieces (flag i) x0 x1 x2 x3 x4 := by
  have h : (runLater c i a0 h0 a1 h1 a2 h2 a3 h3 a4 h4 a5 h5 a6 h6 a7 h7 a8 h8 hc x0 x1 x2 x3 x4 acc).1 = dqPieces (flag i) (a0.view.read (Elt F) (h0.unread x0)) (a1.view.read (Elt F) (h1.unread x1)) (a2.view.read (Elt F) (h2.unread x2)) (a3.view.read (Elt F) (h3.unread x3)) (a4.view.read (Elt F) (h4.unread x4)) := by sl_kernel_rfl
  rw [h, h0.read_unread, h1.read_unread, h2.read_unread, h3.read_unread, h4.read_unread]

theorem later_dc (hc : ¬cond0_0 i) (acc : Vec F S8x1024 .f32) : (runLater c i a0 h0 a1 h1 a2 h2 a3 h3 a4 h4 a5 h5 a6 h6 a7 h7 a8 h8 hc x0 x1 x2 x3 x4 acc).2.1 = dcPieces (flag i) x0 x1 x2 x3 x4 := by
  have h : (runLater c i a0 h0 a1 h1 a2 h2 a3 h3 a4 h4 a5 h5 a6 h6 a7 h7 a8 h8 hc x0 x1 x2 x3 x4 acc).2.1 = dcPieces (flag i) (a0.view.read (Elt F) (h0.unread x0)) (a1.view.read (Elt F) (h1.unread x1)) (a2.view.read (Elt F) (h2.unread x2)) (a3.view.read (Elt F) (h3.unread x3)) (a4.view.read (Elt F) (h4.unread x4)) := by sl_kernel_rfl
  rw [h, h0.read_unread, h1.read_unread, h2.read_unread, h3.read_unread, h4.read_unread]

theorem later_dp (hc : ¬cond0_0 i) (acc : Vec F S8x1024 .f32) : (runLater c i a0 h0 a1 h1 a2 h2 a3 h3 a4 h4 a5 h5 a6 h6 a7 h7 a8 h8 hc x0 x1 x2 x3 x4 acc).2.2.1 = dpPieces (flag i) x0 x1 x2 x3 x4 := by
  have h : (runLater c i a0 h0 a1 h1 a2 h2 a3 h3 a4 h4 a5 h5 a6 h6 a7 h7 a8 h8 hc x0 x1 x2 x3 x4 acc).2.2.1 = dpPieces (flag i) (a0.view.read (Elt F) (h0.unread x0)) (a1.view.read (Elt F) (h1.unread x1)) (a2.view.read (Elt F) (h2.unread x2)) (a3.view.read (Elt F) (h3.unread x3)) (a4.view.read (Elt F) (h4.unread x4)) := by sl_kernel_rfl
  rw [h, h0.read_unread, h1.read_unread, h2.read_unread, h3.read_unread, h4.read_unread]

theorem first_dq (hc : cond0_0 i) : (runFirst c i a0 h0 a1 h1 a2 h2 a3 h3 a4 h4 a5 h5 a6 h6 a7 h7 a8 h8 hc x0 x1 x2 x3 x4).1 = dqPieces (flag i) x0 x1 x2 x3 x4 := by
  have h : (runFirst c i a0 h0 a1 h1 a2 h2 a3 h3 a4 h4 a5 h5 a6 h6 a7 h7 a8 h8 hc x0 x1 x2 x3 x4).1 = dqPieces (flag i) (a0.view.read (Elt F) (h0.unread x0)) (a1.view.read (Elt F) (h1.unread x1)) (a2.view.read (Elt F) (h2.unread x2)) (a3.view.read (Elt F) (h3.unread x3)) (a4.view.read (Elt F) (h4.unread x4)) := by sl_kernel_rfl
  rw [h, h0.read_unread, h1.read_unread, h2.read_unread, h3.read_unread, h4.read_unread]

theorem first_dc (hc : cond0_0 i) : (runFirst c i a0 h0 a1 h1 a2 h2 a3 h3 a4 h4 a5 h5 a6 h6 a7 h7 a8 h8 hc x0 x1 x2 x3 x4).2.1 = dcPieces (flag i) x0 x1 x2 x3 x4 := by
  have h : (runFirst c i a0 h0 a1 h1 a2 h2 a3 h3 a4 h4 a5 h5 a6 h6 a7 h7 a8 h8 hc x0 x1 x2 x3 x4).2.1 = dcPieces (flag i) (a0.view.read (Elt F) (h0.unread x0)) (a1.view.read (Elt F) (h1.unread x1)) (a2.view.read (Elt F) (h2.unread x2)) (a3.view.read (Elt F) (h3.unread x3)) (a4.view.read (Elt F) (h4.unread x4)) := by sl_kernel_rfl
  rw [h, h0.read_unread, h1.read_unread, h2.read_unread, h3.read_unread, h4.read_unread]

theorem first_dp (hc : cond0_0 i) : (runFirst c i a0 h0 a1 h1 a2 h2 a3 h3 a4 h4 a5 h5 a6 h6 a7 h7 a8 h8 hc x0 x1 x2 x3 x4).2.2.1 = dpPieces (flag i) x0 x1 x2 x3 x4 := by
  have h : (runFirst c i a0 h0 a1 h1 a2 h2 a3 h3 a4 h4 a5 h5 a6 h6 a7 h7 a8 h8 hc x0 x1 x2 x3 x4).2.2.1 = dpPieces (flag i) (a0.view.read (Elt F) (h0.unread x0)) (a1.view.read (Elt F) (h1.unread x1)) (a2.view.read (Elt F) (h2.unread x2)) (a3.view.read (Elt F) (h3.unread x3)) (a4.view.read (Elt F) (h4.unread x4)) := by sl_kernel_rfl
  rw [h, h0.read_unread, h1.read_unread, h2.read_unread, h3.read_unread, h4.read_unread]

/-- The whole block read back after the stores. -/
theorem read_dq {sig' : RefSig} {κ : Kind} {sp : Space} (v : View sig' κ sp S128x1024 .f32) (b : BitVec 1) (y0 : Vec F S128x1024 .f32) (y1 y2 : Vec F S128x512 .f32) (y3 : Vec F S128x1024 .f32) (y4 : Vec F S1x128 .f32) :
    v.readCov (dqPieces b y0 y1 y2 y3 y4) (Rect.unit (s := S128x1024) ![0, 0] S128x1024.size inb_S128x1024_S128x1024_0_0).toLoadRect = dqBlk b y0 y1 y2 y3 y4 := by
  rw [View.readCov_eq_canon']
  exact View.ld_unit_lit (Val := Elt F) _ _ (by decide)

theorem later_acc (hc : ¬cond0_0 i) (acc : Vec F S8x1024 .f32) : (runLater c i a0 h0 a1 h1 a2 h2 a3 h3 a4 h4 a5 h5 a6 h6 a7 h7 a8 h8 hc x0 x1 x2 x3 x4 acc).2.2.2.1 = accPieces (flag i) x0 x1 x2 x3 x4 acc := by
  have h : (runLater c i a0 h0 a1 h1 a2 h2 a3 h3 a4 h4 a5 h5 a6 h6 a7 h7 a8 h8 hc x0 x1 x2 x3 x4 acc).2.2.2.1 = [
      ⟨(Rect.unit (s := S8x1024) ![1, 0] S1x128.size inb_S8x1024_S1x128_1_0), k0_pay2 (dsink (flag i) (a0.view.read (Elt F) (h0.unread x0)) (a1.view.read (Elt F) (h1.unread x1)) (a2.view.read (Elt F) (h2.unread x2)) (a3.view.read (Elt F) (h3.unread x3)) (a4.view.read (Elt F) (h4.unread x4))) (View.ld (a8.view.read (Elt F) (h8.unread acc)) (Rect.unit (s := S8x1024) ![1, 0] S1x128.size inb_S8x1024_S1x128_1_0))⟩,
      ⟨(Rect.unit (s := S8x1024) ![0, 0] S1x1024.size inb_S8x1024_S1x1024_0_0), k0_pay1 (k0_pay141 (View.ld (a8.view.read (Elt F) (h8.unread acc)) (Rect.unit (s := S8x1024) ![0, 0] S1x1024.size inb_S8x1024_S1x1024_0_0))) (a5.view.readCov (dqPieces (flag i) (a0.view.read (Elt F) (h0.unread x0)) (a1.view.read (Elt F) (h1.unread x1)) (a2.view.read (Elt F) (h2.unread x2)) (a3.view.read (Elt F) (h3.unread x3)) (a4.view.read (Elt F) (h4.unread x4))) (Rect.unit (s := S128x1024) ![0, 0] S128x1024.size inb_S128x1024_S128x1024_0_0).toLoadRect)⟩] := by sl_kernel_rfl
  rw [h, h0.read_unread, h1.read_unread, h2.read_unread, h3.read_unread, h4.read_unread, h8.read_unread, read_dq]
  rfl

theorem first_acc (hc : cond0_0 i) : (runFirst c i a0 h0 a1 h1 a2 h2 a3 h3 a4 h4 a5 h5 a6 h6 a7 h7 a8 h8 hc x0 x1 x2 x3 x4).2.2.2.1 = accPieces (flag i) x0 x1 x2 x3 x4 k0_pay3 ++ [⟨(Rect.unit (s := S8x1024) ![0, 0] S8x1024.size inb_S8x1024_S8x1024_0_0), k0_pay3⟩] := by
  have h : (runFirst c i a0 h0 a1 h1 a2 h2 a3 h3 a4 h4 a5 h5 a6 h6 a7 h7 a8 h8 hc x0 x1 x2 x3 x4).2.2.2.1 = [
      ⟨(Rect.unit (s := S8x1024) ![1, 0] S1x128.size inb_S8x1024_S1x128_1_0), k0_pay2 (dsink (flag i) (a0.view.read (Elt F) (h0.unread x0)) (a1.view.read (Elt F) (h1.unread x1)) (a2.view.read (Elt F) (h2.unread x2)) (a3.view.read (Elt F) (h3.unread x3)) (a4.view.read (Elt F) (h4.unread x4))) (a8.view.readCov [⟨(Rect.unit (s := S8x1024) ![0, 0] S1x1024.size inb_S8x1024_S1x1024_0_0), k0_pay1 (k0_pay141 (a8.view.readCov [⟨(Rect.unit (s := S8x1024) ![0, 0] S8x1024.size inb_S8x1024_S8x1024_0_0), k0_pay3⟩] (Rect.unit (s := S8x1024) ![0, 0] S1x1024.size inb_S8x1024_S1x1024_0_0).toLoadRect)) (a5.view.readCov (dqPieces (flag i) (a0.view.read (Elt F) (h0.unread x0)) (a1.view.read (Elt F) (h1.unread x1)) (a2.view.read (Elt F) (h2.unread x2)) (a3.view.read (Elt F) (h3.unread x3)) (a4.view.read (Elt F) (h4.unread x4))) (Rect.unit (s := S128x1024) ![0, 0] S128x1024.size inb_S128x1024_S128x1024_0_0).toLoadRect)⟩, ⟨(Rect.unit (s := S8x1024) ![0, 0] S8x1024.size inb_S8x1024_S8x1024_0_0), k0_pay3⟩] (Rect.unit (s := S8x1024) ![1, 0] S1x128.size inb_S8x1024_S1x128_1_0).toLoadRect)⟩,
      ⟨(Rect.unit (s := S8x1024) ![0, 0] S1x1024.size inb_S8x1024_S1x1024_0_0), k0_pay1 (k0_pay141 (a8.view.readCov [⟨(Rect.unit (s := S8x1024) ![0, 0] S8x1024.size inb_S8x1024_S8x1024_0_0), k0_pay3⟩] (Rect.unit (s := S8x1024) ![0, 0] S1x1024.size inb_S8x1024_S1x1024_0_0).toLoadRect)) (a5.view.readCov (dqPieces (flag i) (a0.view.read (Elt F) (h0.unread x0)) (a1.view.read (Elt F) (h1.unread x1)) (a2.view.read (Elt F) (h2.unread x2)) (a3.view.read (Elt F) (h3.unread x3)) (a4.view.read (Elt F) (h4.unread x4))) (Rect.unit (s := S128x1024) ![0, 0] S128x1024.size inb_S128x1024_S128x1024_0_0).toLoadRect)⟩,
      ⟨(Rect.unit (s := S8x1024) ![0, 0] S8x1024.size inb_S8x1024_S8x1024_0_0), k0_pay3⟩] := by sl_kernel_rfl
  have e : (View.canon [(⟨(Rect.unit (s := S8x1024) ![0, 0] S8x1024.size inb_S8x1024_S8x1024_0_0), k0_pay3⟩ : View.Piece (Elt F) S8x1024 .f32)]) = k0_pay3 := View.canon_cons_unit_lit (Val := Elt F) _ _ _ (by decide)
  have e0 : a8.view.readCov [(⟨(Rect.unit (s := S8x1024) ![0, 0] S8x1024.size inb_S8x1024_S8x1024_0_0), k0_pay3⟩ : View.Piece (Elt F) S8x1024 .f32)] (Rect.unit (s := S8x1024) ![0, 0] S1x1024.size inb_S8x1024_S1x1024_0_0).toLoadRect = View.ld k0_pay3 (Rect.unit (s := S8x1024) ![0, 0] S1x1024.size inb_S8x1024_S1x1024_0_0) := by
    rw [View.readCov_eq_canon', e]
  have e1 (w) : a8.view.readCov [(⟨(Rect.unit (s := S8x1024) ![0, 0] S1x1024.size inb_S8x1024_S1x1024_0_0), w⟩ : View.Piece (Elt F) S8x1024 .f32), ⟨(Rect.unit (s := S8x1024) ![0, 0] S8x1024.size inb_S8x1024_S8x1024_0_0), k0_pay3⟩] (Rect.unit (s := S8x1024) ![1, 0] S1x128.size inb_S8x1024_S1x128_1_0).toLoadRect = View.ld k0_pay3 (Rect.unit (s := S8x1024) ![1, 0] S1x128.size inb_S8x1024_S1x128_1_0) := by
    rw [View.readCov_eq_canon']
    funext j
    rw [View.canon_cons_of_not_mem, e]
    · intro hm
      have hm' : (Rect.unit (s := S8x1024) ![1, 0] S1x128.size inb_S8x1024_S1x128_1_0).idx j ∈ (Rect.unit (s := S8x1024) ![0, 0] S1x1024.size inb_S8x1024_S1x1024_0_0).set := hm
      have h0 := Rect.mem_set_unit.mp hm' 0
      have e : (((Rect.unit (s := S8x1024) ![1, 0] S1x128.size inb_S8x1024_S1x128_1_0).idx j 0 : Fin _) : ℕ) = 1 + (j 0).val := Rect.idx_unit_val _ _ _ j 0
      have h1 : (((Rect.unit (s := S8x1024) ![1, 0] S1x128.size inb_S8x1024_S1x128_1_0).idx j 0 : Fin _) : ℕ) < 0 + 1 := h0.2
      omega
  rw [h, h0.read_unread, h1.read_unread, h2.read_unread, h3.read_unread, h4.read_unread, read_dq, e0, e1]
  rfl

end

/-- Pieces written over a buffer read as the pieces over one that holds what the buffer held. -/
theorem read_writes_over {sig' : RefSig} {κ : Kind} {sp : Space} (v : View sig' κ sp S8x1024 .f32) (f : v.ty.Contents (Elt F)) :
    ∀ L : List (View.Piece (Elt F) S8x1024 .f32), v.read (Elt F) (v.writes (Elt F) f L) = View.canon (L ++ [⟨(Rect.unit (s := S8x1024) ![0, 0] S8x1024.size inb_S8x1024_S8x1024_0_0), v.read (Elt F) f⟩])
  | [] => by
    rw [View.writes_nil, List.nil_append]
    exact (View.canon_cons_unit_lit (Val := Elt F) _ _ _ (by decide)).symm
  | p :: L => by
    have ih := read_writes_over v f L
    funext y
    by_cases hy : y ∈ p.1.set
    · obtain ⟨r, w⟩ := p
      obtain ⟨x, rfl⟩ : ∃ x, r.emb x = y := r.exists_idx_of_mem hy
      rw [View.read_writes_cons_emb, List.cons_append, View.canon_cons_emb]
    · have hy' : y ∉ Finset.univ.map p.1.emb := by rwa [Rect.map_emb_univ]
      rw [View.writes_cons, View.read_slice_write_of_not_mem p.1 _ _ _ hy', List.cons_append, View.canon_cons_of_not_mem p _ hy, ih]

end Cert.KernelIdeal.Attn

end
-- ==== Proof.Attn.Frame.lean ====
/- The run of the attention gradient, with what each output holds at each block, and its frame. -/
module

public import proofs.«01_k».proof.Proof.Attn.Pieces
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The totals after point `n`, over the points before it. -/
def accAt (c : Dev nD) : (n : ℕ) → n < cfg0.N → Vec F S8x1024 .f32
  | 0, h => accAdd (flag (grid0.coords ⟨0, h⟩)) (iblk m c 0 ⟨0, h⟩) (iblk m c 1 ⟨0, h⟩) (iblk m c 2 ⟨0, h⟩) (iblk m c 3 ⟨0, h⟩) (iblk m c 4 ⟨0, h⟩) k0_pay3
  | n + 1, h => accAdd (flag (grid0.coords ⟨n + 1, h⟩)) (iblk m c 0 ⟨n + 1, h⟩) (iblk m c 1 ⟨n + 1, h⟩) (iblk m c 2 ⟨n + 1, h⟩) (iblk m c 3 ⟨n + 1, h⟩) (iblk m c 4 ⟨n + 1, h⟩) (accAt c n (Nat.lt_of_succ_lt h))

theorem accAt_first (c : Dev nD) (t : Fin cfg0.N) (h : t.val = 0) :
    accAt m c t.val t.isLt = accAdd (flag (grid0.coords t)) (iblk m c 0 t) (iblk m c 1 t) (iblk m c 2 t) (iblk m c 3 t) (iblk m c 4 t) k0_pay3 := by
  obtain ⟨n, hn⟩ := t
  subst h
  rfl

theorem accAt_later (c : Dev nD) (t : Fin cfg0.N) (h : ¬t.val = 0) :
    accAt m c t.val t.isLt = accAdd (flag (grid0.coords t)) (iblk m c 0 t) (iblk m c 1 t) (iblk m c 2 t) (iblk m c 3 t) (iblk m c 4 t) (accAt m c (t.val - 1) (Nat.lt_of_le_of_lt (Nat.sub_le _ _) t.isLt)) := by
  obtain ⟨n, hn⟩ := t
  cases n with
  | zero => exact absurd rfl h
  | succ n => rfl

/-- The proof data: what the body leaves in each buffer at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dqBlk (flag (grid0.coords t)) (iblk m c 0 t) (iblk m c 1 t) (iblk m c 2 t) (iblk m c 3 t) (iblk m c 4 t)
    | ⟨6, _⟩ => dcBlk (flag (grid0.coords t)) (iblk m c 0 t) (iblk m c 1 t) (iblk m c 2 t) (iblk m c 3 t) (iblk m c 4 t)
    | ⟨7, _⟩ => dpBlk (flag (grid0.coords t)) (iblk m c 0 t) (iblk m c 1 t) (iblk m c 2 t) (iblk m c 3 t) (iblk m c 4 t)
    | ⟨8, _⟩ => accAt m c t.val t.isLt
  Φ _ := Pipeline.ΦA spec0 c
  q w := Pipeline.shareOf spec0 w
  owed _ := 0

/-- The arrays start as the region finds them. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = dqBlk (flag (grid0.coords t)) (iblk m c 0 t) (iblk m c 1 t) (iblk m c 2 t) (iblk m c 3 t) (iblk m c 4 t) := by dsimp only [dats]
theorem after_6 (c : Dev nD) (t : Fin cfg0.N) : (dats m 0 c).after 6 t = dcBlk (flag (grid0.coords t)) (iblk m c 0 t) (iblk m c 1 t) (iblk m c 2 t) (iblk m c 3 t) (iblk m c 4 t) := by dsimp only [dats]
theorem after_7 (c : Dev nD) (t : Fin cfg0.N) : (dats m 0 c).after 7 t = dpBlk (flag (grid0.coords t)) (iblk m c 0 t) (iblk m c 1 t) (iblk m c 2 t) (iblk m c 3 t) (iblk m c 4 t) := by dsimp only [dats]
theorem after_8 (c : Dev nD) (t : Fin cfg0.N) : (dats m 0 c).after 8 t = accAt m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- After the first point the totals' buffer holds what the point before left. -/
theorem before_8 (c : Dev nD) (t : Fin cfg0.N) (h0 : ¬t.val = 0) (d) :
    (dats m 0 c).before 8 t d = accAt m c (t.val - 1) (Nat.lt_of_le_of_lt (Nat.sub_le _ _) t.isLt) := by
  have hN : t.val < 16 := lt_of_lt_of_eq t.isLt (show cfg0.N = 16 from N_0)
  rw [Dat.before_out_kept _ 8 rfl t h0 (Bool.eq_false_iff.mpr fun h => by have := (flush0_8 _).mp h; dsimp only at this; omega)
    (fun _ => rfl) (fun _ _ => rfl)]
  dsimp only [dats]

/-- A buffer that a list of covering pieces was written to is owned at what the pieces leave. -/
theorem owns_of_pieces {S : Shape} (c : Dev nD) (a : Memref sig .tc .vmem S .f32) (L L' : List (View.Piece (Elt F) S .f32)) (hL : L = L')
    (hc : ∀ y, ∃ p ∈ L', y ∈ p.1.set) (f : a.view.ty.Contents (Elt F)) (v : Vec F S .f32) (hv : View.canon L' = v) :
    (a.view.loc (c : Thread nD τ) ↦[a.view.set]{fullShare} a.view.writes (Elt F) f L : sProp 𝕄) ⊢ owns (c : Thread nD τ) a fullShare v := by
  subst hL
  unfold owns
  iintro H
  iexists _
  isplitr
  swap
  · iexact H
  ipureintro
  rw [View.read_writes_eq_canon _ _ _ hc, hv]

theorem cover_dq (b : BitVec 1) (y0 : Vec F S128x1024 .f32) (y1 y2 : Vec F S128x512 .f32) (y3 : Vec F S128x1024 .f32) (y4 : Vec F S1x128 .f32) (y : S128x1024.Idx) : ∃ p ∈ dqPieces b y0 y1 y2 y3 y4, y ∈ p.1.set :=
  View.cover_of_tiledL (dqPieces b y0 y1 y2 y3 y4) S128x64.size (by sl_kernel_rfl) y
theorem cover_dc (b : BitVec 1) (y0 : Vec F S128x1024 .f32) (y1 y2 : Vec F S128x512 .f32) (y3 : Vec F S128x1024 .f32) (y4 : Vec F S1x128 .f32) (y : S128x512.Idx) : ∃ p ∈ dcPieces b y0 y1 y2 y3 y4, y ∈ p.1.set :=
  View.cover_of_tiledL (dcPieces b y0 y1 y2 y3 y4) S128x64.size (by sl_kernel_rfl) y
theorem cover_dp (b : BitVec 1) (y0 : Vec F S128x1024 .f32) (y1 y2 : Vec F S128x512 .f32) (y3 : Vec F S128x1024 .f32) (y4 : Vec F S1x128 .f32) (y : S128x512.Idx) : ∃ p ∈ dpPieces b y0 y1 y2 y3 y4, y ∈ p.1.set :=
  View.cover_of_tiledL (dpPieces b y0 y1 y2 y3 y4) S128x64.size (by sl_kernel_rfl) y
theorem cover_acc (L : List (View.Piece (Elt F) S8x1024 .f32)) (w : Vec F S8x1024 .f32) (y : S8x1024.Idx) :
    ∃ p ∈ L ++ [(⟨(Rect.unit (s := S8x1024) ![0, 0] S8x1024.size inb_S8x1024_S8x1024_0_0), w⟩ : View.Piece (Elt F) S8x1024 .f32)], y ∈ p.1.set :=
  ⟨⟨(Rect.unit (s := S8x1024) ![0, 0] S8x1024.size inb_S8x1024_S8x1024_0_0), w⟩, List.mem_append_right _ (List.mem_singleton.mpr rfl), (Rect.mem_set_unit (inb := inb_S8x1024_S8x1024_0_0)).mpr fun a => by
    have := (y a).isLt
    revert this
    fin_cases a <;> simp⟩

/-- The buffers of the windows at a point. -/
abbrev ms0_0 (t : Fin cfg0.N) : Memref sig .tc .vmem S128x1024 .f32 := win0_0.stage (cfg0.slots t 0)
abbrev ms0_1 (t : Fin cfg0.N) : Memref sig .tc .vmem S128x512 .f32 := win0_1.stage (cfg0.slots t 1)
abbrev ms0_2 (t : Fin cfg0.N) : Memref sig .tc .vmem S128x512 .f32 := win0_2.stage (cfg0.slots t 2)
abbrev ms0_3 (t : Fin cfg0.N) : Memref sig .tc .vmem S128x1024 .f32 := win0_3.stage (cfg0.slots t 3)
abbrev ms0_4 (t : Fin cfg0.N) : Memref sig .tc .vmem S1x128 .f32 := win0_4.stage (cfg0.slots t 4)
abbrev ms0_5 (t : Fin cfg0.N) : Memref sig .tc .vmem S128x1024 .f32 := win0_5.stage (cfg0.slots t 5)
abbrev ms0_6 (t : Fin cfg0.N) : Memref sig .tc .vmem S128x512 .f32 := win0_6.stage (cfg0.slots t 6)
abbrev ms0_7 (t : Fin cfg0.N) : Memref sig .tc .vmem S128x512 .f32 := win0_7.stage (cfg0.slots t 7)
abbrev ms0_8 (t : Fin cfg0.N) : Memref sig .tc .vmem S8x1024 .f32 := win0_8.stage (cfg0.slots t 8)

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- What the body returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  by_cases h0 : t.val = 0
  · rw [accAt_first m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runFirst c (grid0.coords t) _ _ _ _ _ _ _ _ _ _ _ _ _ _ _ _ _ _ ((cond_iff t).mpr h0) (iblk m c 0 t) (iblk m c 1 t) (iblk m c 2 t) (iblk m c 3 t) (iblk m c 4 t)).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    iintro ⟨H0, H1, H2, H3, H4, ⟨%e5, H5⟩, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · iapply (owns_of_pieces c _ _ _ (first_dq c _ _ _ _ _ _ _ _ _ _ _ _ _ _ _ _ _ _ _ _ _ _ _ _ _) (cover_dq _ _ _ _ _ _) _ _ rfl)
      iexact H5
    isplitl [H6]
    · iapply (owns_of_pieces c _ _ _ (first_dc c _ _ _ _ _ _ _ _ _ _ _ _ _ _ _ _ _ _ _ _ _ _ _ _ _) (cover_dc _ _ _ _ _ _) _ _ rfl)
      iexact H6
    isplitl [H7]
    · iapply (owns_of_pieces c _ _ _ (first_dp c _ _ _ _ _ _ _ _ _ _ _ _ _ _ _ _ _ _ _ _ _ _ _ _ _) (cover_dp _ _ _ _ _ _) _ _ rfl)
      iexact H7
    iapply (owns_of_pieces c _ _ _ (first_acc c _ _ _ _ _ _ _ _ _ _ _ _ _ _ _ _ _ _ _ _ _ _ _ _ _) (cover_acc _ _) _ _ rfl)
    iexact H8
  · rw [accAt_later m c t h0]
    simp only [before_8 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runLater c (grid0.coords t) _ _ _ _ _ _ _ _ _ _ _ _ _ _ _ _ _ _ (fun h => h0 ((cond_iff t).mp h)) (iblk m c 0 t) (iblk m c 1 t) (iblk m c 2 t) (iblk m c 3 t) (iblk m c 4 t) _).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexact H8
    iintro ⟨H0, H1, H2, H3, H4, ⟨%e5, H5⟩, ⟨%e6, H6⟩, ⟨%e7, H7⟩, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · iapply (owns_of_pieces c _ _ _ (later_dq c _ _ _ _ _ _ _ _ _ _ _ _ _ _ _ _ _ _ _ _ _ _ _ _ _ _) (cover_dq _ _ _ _ _ _) _ _ rfl)
      iexact H5
    isplitl [H6]
    · iapply (owns_of_pieces c _ _ _ (later_dc c _ _ _ _ _ _ _ _ _ _ _ _ _ _ _ _ _ _ _ _ _ _ _ _ _ _) (cover_dc _ _ _ _ _ _) _ _ rfl)
      iexact H6
    isplitl [H7]
    · iapply (owns_of_pieces c _ _ _ (later_dp c _ _ _ _ _ _ _ _ _ _ _ _ _ _ _ _ _ _ _ _ _ _ _ _ _ _) (cover_dp _ _ _ _ _ _) _ _ rfl)
      iexact H7
    rw [later_acc]
    unfold owns
    iexists _
    isplitr
    swap
    · iexact H8
    ipureintro
    rw [read_writes_over, Memref.IsWhole.read_unread]
    rfl

/-- The launch runs the body at a point. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The same, and every counter is zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The run ends with every array as the proof data computes it. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Attn

end
-- ==== Proof.Attn.Real.lean ====
/- The gradient of the sliding-window attention of one block of queries and one key head, over the reals, and the few facts that carry sums, maxima and quotients from the extended reals to it. -/
module

public import Idealize.ShloMosaic.PureOps.Ideal
public import Idealize.ShloMosaic.PureOps.Ideal.Laws

@[expose] public section

set_option maxRecDepth 16384

noncomputable section

namespace Cert.Attn

open Idealize.ShloMosaic

/-- A sum of reals is the same sum in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of two reals, the divisor not 0. -/
theorem div_real (x y : ℝ) (h : y ≠ 0) : Ideal.div (x : EReal) (y : EReal) = ((x / y : ℝ) : EReal) := by
  rw [Ideal.div_coe h, ← EReal.coe_mul, mul_one_div]

/-- The greatest of finitely many values below the top is below the top. -/
theorem fold_max_lt_top {ι : Type*} (s : Finset ι) (b : EReal) (f : ι → EReal) (hb : b < ⊤) (hf : ∀ i, f i < ⊤) :
    s.fold max b f < ⊤ := (Finset.fold_max_lt _).2 ⟨hb, fun i _ => hf i⟩

/-- An extended real strictly between the two infinities is a real. -/
theorem exists_real (x : EReal) (h : ⊥ < x) (h' : x < ⊤) : ∃ r : ℝ, x = r :=
  ⟨x.toReal, (EReal.coe_toReal h'.ne h.ne').symm⟩

theorem ofBits_eighth : Ideal.ofBits .f32 0x3E000000#32 = ((1 / 8 : ℝ) : EReal) := by
  simp [Ideal.ofBits, Ideal.ieee, -EReal.coe_mul]; norm_num

theorem ofBits_neg_inf : Ideal.ofBits .f32 0xFF800000#32 = ⊥ := by
  simp [Ideal.ofBits, Ideal.ieee]

/-- What the gradient of one block of queries and one key head is computed from: keys and values of the block before and of this block, the rows of the four query heads and of their cotangents, each row's sink, and whether this is the first block. Row `i` stands for position `i % 128` of query head `i / 128`. -/
structure Data where
  kp : Fin 128 → Fin 64 → ℝ
  kc : Fin 128 → Fin 64 → ℝ
  vp : Fin 128 → Fin 64 → ℝ
  vc : Fin 128 → Fin 64 → ℝ
  q : Fin 512 → Fin 64 → ℝ
  d : Fin 512 → Fin 64 → ℝ
  sink : Fin 512 → ℝ
  first : Bool

namespace Data

variable (H : Data)

/-- Row `i` looks at position `j` of the block before; -/
def seesP (i : Fin 512) (j : Fin 128) : Prop := i.val % 128 < j.val ∧ H.first = false
/-- of this block. -/
def seesC (i : Fin 512) (j : Fin 128) : Prop := j.val ≤ i.val % 128
instance (i : Fin 512) (j : Fin 128) : Decidable (H.seesP i j) := inferInstanceAs (Decidable (_ ∧ _))
instance (i : Fin 512) (j : Fin 128) : Decidable (seesC i j) := inferInstanceAs (Decidable (_ ≤ _))
/-- The scaled scores. -/
def scoreP (i : Fin 512) (j : Fin 128) : ℝ := (∑ c, H.q i c * H.kp j c) * (1 / 8)
def scoreC (i : Fin 512) (j : Fin 128) : ℝ := (∑ c, H.q i c * H.kc j c) * (1 / 8)
/-- The exponentials of the scores less a shift `m`, 0 where the row doesn't look. -/
def expP (m : ℝ) (i : Fin 512) (j : Fin 128) : ℝ := if H.seesP i j then Real.exp (H.scoreP i j - m) else 0
def expC (m : ℝ) (i : Fin 512) (j : Fin 128) : ℝ := if seesC i j then Real.exp (H.scoreC i j - m) else 0
/-- The row's denominator. -/
def den (m : ℝ) (i : Fin 512) : ℝ := ∑ j, H.expP m i j + ∑ j, H.expC m i j + Real.exp (H.sink i - m)
/-- The probabilities, and the probability of the sink. -/
def pP (i : Fin 512) (j : Fin 128) : ℝ := H.expP 0 i j / H.den 0 i
def pC (i : Fin 512) (j : Fin 128) : ℝ := H.expC 0 i j / H.den 0 i
def pS (i : Fin 512) : ℝ := Real.exp (H.sink i) / H.den 0 i
/-- The cotangents of the probabilities. -/
def tP (i : Fin 512) (j : Fin 128) : ℝ := ∑ c, H.d i c * H.vp j c
def tC (i : Fin 512) (j : Fin 128) : ℝ := ∑ c, H.d i c * H.vc j c
/-- The row's total of probability times cotangent. -/
def total (i : Fin 512) : ℝ := ∑ j, H.pP i j * H.tP i j + ∑ j, H.pC i j * H.tC i j
/-- The gradients of the unscaled scores. -/
def dsP (i : Fin 512) (j : Fin 128) : ℝ := H.pP i j * (H.tP i j - H.total i) * (1 / 8)
def dsC (i : Fin 512) (j : Fin 128) : ℝ := H.pC i j * (H.tC i j - H.total i) * (1 / 8)
/-- The gradients of the queries, of the keys and of the values; the row's part of minus the gradient of the sink. -/
def dq (i : Fin 512) (c : Fin 64) : ℝ := ∑ j, H.dsP i j * H.kp j c + ∑ j, H.dsC i j * H.kc j c
def dkp (j : Fin 128) (c : Fin 64) : ℝ := ∑ i, H.dsP i j * H.q i c
def dkc (j : Fin 128) (c : Fin 64) : ℝ := ∑ i, H.dsC i j * H.q i c
def dvp (j : Fin 128) (c : Fin 64) : ℝ := ∑ i, H.pP i j * H.d i c
def dvc (j : Fin 128) (c : Fin 64) : ℝ := ∑ i, H.pC i j * H.d i c
def dsink (i : Fin 512) : ℝ := H.pS i * H.total i

theorem expP_shift (m : ℝ) (i : Fin 512) (j : Fin 128) : H.expP m i j = H.expP 0 i j * Real.exp (-m) := by
  unfold expP; split
  · rw [sub_zero, ← Real.exp_add, sub_eq_add_neg]
  · rw [zero_mul]

theorem expC_shift (m : ℝ) (i : Fin 512) (j : Fin 128) : H.expC m i j = H.expC 0 i j * Real.exp (-m) := by
  unfold expC; split
  · rw [sub_zero, ← Real.exp_add, sub_eq_add_neg]
  · rw [zero_mul]

theorem expS_shift (m : ℝ) (i : Fin 512) : Real.exp (H.sink i - m) = Real.exp (H.sink i) * Real.exp (-m) := by
  rw [← Real.exp_add, sub_eq_add_neg]

theorem den_shift (m : ℝ) (i : Fin 512) : H.den m i = H.den 0 i * Real.exp (-m) := by
  unfold den
  simp only [H.expP_shift m, H.expC_shift m, H.expS_shift m, ← Finset.sum_mul, sub_zero]
  ring

theorem expP_nonneg (m : ℝ) (i : Fin 512) (j : Fin 128) : 0 ≤ H.expP m i j := by
  unfold expP; split
  · exact (Real.exp_pos _).le
  · exact le_rfl

theorem expC_nonneg (m : ℝ) (i : Fin 512) (j : Fin 128) : 0 ≤ H.expC m i j := by
  unfold expC; split
  · exact (Real.exp_pos _).le
  · exact le_rfl

theorem den_pos (m : ℝ) (i : Fin 512) : 0 < H.den m i :=
  add_pos_of_nonneg_of_pos (add_nonneg (Finset.sum_nonneg fun j _ => H.expP_nonneg m i j) (Finset.sum_nonneg fun j _ => H.expC_nonneg m i j))
    (Real.exp_pos _)

/-- The probabilities don't depend on the shift. -/
theorem pP_shift (m : ℝ) (i : Fin 512) (j : Fin 128) : H.expP m i j / H.den m i = H.pP i j := by
  rw [H.expP_shift m, H.den_shift m, mul_div_mul_right _ _ (Real.exp_pos _).ne']; rfl

theorem pC_shift (m : ℝ) (i : Fin 512) (j : Fin 128) : H.expC m i j / H.den m i = H.pC i j := by
  rw [H.expC_shift m, H.den_shift m, mul_div_mul_right _ _ (Real.exp_pos _).ne']; rfl

theorem pS_shift (m : ℝ) (i : Fin 512) : Real.exp (H.sink i - m) / H.den m i = H.pS i := by
  rw [H.expS_shift m, H.den_shift m, mul_div_mul_right _ _ (Real.exp_pos _).ne']; rfl

end Data

/-- The whole call's arguments as reals: the queries, the keys and values side by side, the cotangent of the output and the sinks. -/
structure Args where
  q : ℕ → ℕ → ℝ
  kv : ℕ → ℕ → ℝ
  d : ℕ → ℕ → ℝ
  s : ℕ → ℝ

namespace Args

variable (A : Args)

/-- What block `t` and key head `k` are computed from. (The first block's block before is never looked at.) -/
def data (t k : ℕ) : Data where
  kp j c := A.kv (128 * (t - 1) + j.val) (64 * k + c.val)
  kc j c := A.kv (128 * t + j.val) (64 * k + c.val)
  vp j c := A.kv (128 * (t - 1) + j.val) (256 + 64 * k + c.val)
  vc j c := A.kv (128 * t + j.val) (256 + 64 * k + c.val)
  q i c := A.q (128 * t + i.val % 128) (64 * (4 * k + i.val / 128) + c.val)
  d i c := A.d (128 * t + i.val % 128) (64 * (4 * k + i.val / 128) + c.val)
  sink i := A.s (4 * k + i.val / 128)
  first := decide (t = 0)

/-- Row `R` of query head `h` among the rows of its key head's four query heads. -/
def row (h R : ℕ) : Fin 512 := ⟨h % 4 * 128 + R % 128, by omega⟩
def lane (C : ℕ) : Fin 64 := ⟨C % 64, by omega⟩
def pos (R : ℕ) : Fin 128 := ⟨R % 128, by omega⟩

/-- The gradient of the queries at row `R` and column `C`; -/
def dq (R C : ℕ) : ℝ := (A.data (R / 128) (C / 256)).dq (row (C / 64) R) (lane C)
/-- of the keys and values at their own block; -/
def dc (R C : ℕ) : ℝ := if C < 256 then (A.data (R / 128) (C / 64)).dkc (pos R) (lane C) else (A.data (R / 128) (C / 64 - 4)).dvc (pos R) (lane C)
/-- of the keys and values of the block before; -/
def dp (R C : ℕ) : ℝ := if C < 256 then (A.data (R / 128) (C / 64)).dkp (pos R) (lane C) else (A.data (R / 128) (C / 64 - 4)).dvp (pos R) (lane C)
/-- block `t`'s part of the gradient of sink `h`. -/
def ds (t h : ℕ) : ℝ := -∑ j : Fin 128, (A.data t (h / 4)).dsink (row h j.val)
/-- The totals over the first `n` blocks: row 0 sums the gradient of the queries over its rows, row 1 begins with the gradient of the sinks. -/
def acc (n R C : ℕ) : ℝ :=
  if R = 0 then ∑ t ∈ Finset.range n, ∑ j : Fin 128, A.dq (128 * t + j.val) C
  else if R = 1 ∧ C < 16 then ∑ t ∈ Finset.range n, A.ds t C else 0

end Args

end Cert.Attn
-- ==== Proof.Attn.HeadValue.lean ====
/- What the attention gradient's body computes for one key head, at the extended reals: the real formulas of `Attn.Data`. -/
module

public import proofs.«01_k».proof.Proof.Attn.Head
public import proofs.«01_k».proof.Proof.Attn.Real
public import Idealize.ShloMosaic.Lib.Tactic
public import Idealize.ShloMosaic.Lib.ValueIdx
public import Idealize.ShloMosaic.Lib.Pointwise.Tactic
public import Idealize.ShloMosaic.Lib.Pointwise.Contract
public import Idealize.ShloMosaic.Lib.Pointwise.Reduce
public import Idealize.ShloMosaic.Lib.Pointwise.Reshape
public import Idealize.ShloMosaic.Lib.Pointwise.Select
public import Idealize.ShloMosaic.Lib.Pointwise.Sums

@[expose] public section

set_option maxRecDepth 16384

noncomputable section

namespace Cert.KernelIdeal.Attn

open Idealize.ShloMosaic Idealize.ShloMosaic.TcCoe Idealize.ShloMosaic.Tactic
open Cert.KernelIdeal.Gen
open Cert.Attn (Data coe_sum div_real fold_max_lt_top exists_real ofBits_eighth ofBits_neg_inf)

/-- The body's words `b`, `H` for one key head hold the reals `R`. -/
structure Holds (b : BitVec 1) (H : Head Ideal) (R : Data) : Prop where
  b : b = if R.first then 1#1 else 0#1
  kp : ∀ j c, H.kp (ix2 j c) = ((R.kp j c : ℝ) : EReal)
  kc : ∀ j c, H.kc (ix2 j c) = ((R.kc j c : ℝ) : EReal)
  vp : ∀ j c, H.vp (ix2 j c) = ((R.vp j c : ℝ) : EReal)
  vc : ∀ j c, H.vc (ix2 j c) = ((R.vc j c : ℝ) : EReal)
  q : ∀ i c, H.q4 (ix2 i c) = ((R.q i c : ℝ) : EReal)
  d : ∀ i c, H.do4 (ix2 i c) = ((R.d i c : ℝ) : EReal)
  sink : ∀ i, k0_pay9 (k0_pay7 H.s0) (k0_pay8 H.s1) H.s2 H.s3 (ix2 i 0) = ((R.sink i : ℝ) : EReal)

theorem mask_named : (Named.named (F := Ideal) κ "mask" 0xF149F2CA#32 : Ideal .f32) = (⊥ : EReal) :=
  IdealRules.named_const.ideal_named_scalar _ _ _ _ rfl

theorem row_word (i : Fin 512) : IntOp.andi (BitVec.ofNat 32 i.val) 127#32 = BitVec.ofNat 32 (i.val % 128) := by
  revert i; decide +kernel

theorem sgt_word (i : Fin 512) (j : Fin 128) :
    IntOp.cmpi .sgt (BitVec.ofNat 32 j.val) (BitVec.ofNat 32 (i.val % 128)) = if i.val % 128 < j.val then 1#1 else 0#1 := by
  have h : ∀ a b : Fin 128, IntOp.cmpi .sgt (BitVec.ofNat 32 b.val) (BitVec.ofNat 32 a.val) = if a.val < b.val then 1#1 else 0#1 := by
    decide +kernel
  exact h ⟨i.val % 128, Nat.mod_lt _ (by norm_num)⟩ j

theorem sle_word (i : Fin 512) (j : Fin 128) :
    IntOp.cmpi .sle (BitVec.ofNat 32 j.val) (BitVec.ofNat 32 (i.val % 128)) = if j.val ≤ i.val % 128 then 1#1 else 0#1 := by
  have h : ∀ a b : Fin 128, IntOp.cmpi .sle (BitVec.ofNat 32 b.val) (BitVec.ofNat 32 a.val) = if b.val ≤ a.val then 1#1 else 0#1 := by
    decide +kernel
  exact h ⟨i.val % 128, Nat.mod_lt _ (by norm_num)⟩ j

variable {b : BitVec 1} {H : Head Ideal} {R : Data} (h : Holds b H R)

include h

theorem scoreP_eq (i : Fin 512) (j : Fin 128) :
    k0_pay11 b H.kp H.q4 (ix2 i j) = if R.seesP i j then ((R.scoreP i j : ℝ) : EReal) else ⊥ := by
  pointwise [k0_pay11, k0_pay10]
  rw [row_word, sgt_word, mask_named, ofBits_eighth, h.b]
  simp only [h.q, h.kp, ← EReal.coe_mul, ← coe_sum]
  unfold Data.seesP Data.scoreP
  by_cases h1 : i.val % 128 < j.val <;> by_cases h2 : R.first = true <;> simp [h1, h2, Scalar.select, Scalar.xori, IntOp.andi, IntOp.xori]

theorem scoreC_eq (i : Fin 512) (j : Fin 128) :
    k0_pay12 H.kc H.q4 (ix2 i j) = if Data.seesC i j then ((R.scoreC i j : ℝ) : EReal) else ⊥ := by
  pointwise [k0_pay12, k0_pay10]
  rw [row_word, sle_word, mask_named, ofBits_eighth]
  simp only [h.q, h.kc, ← EReal.coe_mul, ← coe_sum]
  unfold Data.seesC Data.scoreC
  by_cases h1 : j.val ≤ i.val % 128 <;> simp [h1, Scalar.select]

theorem max_real (i : Fin 512) :
    ∃ m : ℝ, k0_pay13 b H.kp H.kc H.q4 (k0_pay7 H.s0) (k0_pay8 H.s1) H.s2 H.s3 (ix2 i 0) = ((m : ℝ) : EReal) := by
  apply exists_real
  · pointwise [k0_pay13]
    rw [h.sink]
    exact lt_max_of_lt_right (EReal.bot_lt_coe _)
  · pointwise [k0_pay13]
    rw [h.sink, ofBits_neg_inf]
    refine max_lt (max_lt (fold_max_lt_top _ _ _ bot_lt_top fun j => ?_) (fold_max_lt_top _ _ _ bot_lt_top fun j => ?_)) (EReal.coe_lt_top _)
    · rw [scoreP_eq h]; split
      · exact EReal.coe_lt_top _
      · exact bot_lt_top
    · rw [scoreC_eq h]; split
      · exact EReal.coe_lt_top _
      · exact bot_lt_top

/-- The three exponentials of a row, at one shift. -/
theorem exps (i : Fin 512) : ∃ m : ℝ, (∀ j, H.ep b (ix2 i j) = ((R.expP m i j : ℝ) : EReal)) ∧ (∀ j, H.ec b (ix2 i j) = ((R.expC m i j : ℝ) : EReal))
    ∧ H.es b (ix2 i 0) = ((Real.exp (R.sink i - m) : ℝ) : EReal) := by
  obtain ⟨m, hm⟩ := max_real h i
  refine ⟨m, fun j => ?_, fun j => ?_, ?_⟩
  · pointwise [Head.ep, k0_pay14]
    rw [hm, scoreP_eq h]
    unfold Data.expP
    split
    · rw [← EReal.coe_sub, Ideal.exp_coe]
    · rw [EReal.bot_sub, Ideal.exp_bot, EReal.coe_zero]
  · pointwise [Head.ec, k0_pay15]
    rw [hm, scoreC_eq h]
    unfold Data.expC
    split
    · rw [← EReal.coe_sub, Ideal.exp_coe]
    · rw [EReal.bot_sub, Ideal.exp_bot, EReal.coe_zero]
  · pointwise [Head.es, k0_pay16]
    rw [hm, h.sink, ← EReal.coe_sub, Ideal.exp_coe]

/-- The probabilities. -/
theorem probs (i : Fin 512) : (∀ j, H.pp b (ix2 i j) = ((R.pP i j : ℝ) : EReal)) ∧ (∀ j, H.pc b (ix2 i j) = ((R.pC i j : ℝ) : EReal))
    ∧ H.es b (ix2 i 0) * k0_pay17 (H.ep b) (H.ec b) (H.es b) (ix2 i 0) = ((R.pS i : ℝ) : EReal) := by
  obtain ⟨m, hp, hc, hs⟩ := exps h i
  have hinv : k0_pay17 (H.ep b) (H.ec b) (H.es b) (ix2 i 0) = ((1 / R.den m i : ℝ) : EReal) := by
    pointwise [k0_pay17]
    simp only [hp, hc, hs, ← coe_sum, ← EReal.coe_add]
    exact div_real 1 _ (R.den_pos m i).ne'
  refine ⟨fun j => ?_, fun j => ?_, ?_⟩
  · pointwise [Head.pp, k0_pay18]
    rw [hinv, hp, ← EReal.coe_mul, mul_one_div, R.pP_shift]
  · pointwise [Head.pc, k0_pay19]
    rw [hinv, hc, ← EReal.coe_mul, mul_one_div, R.pC_shift]
  · rw [hinv, hs, ← EReal.coe_mul, mul_one_div, R.pS_shift]

theorem pp_eq (i : Fin 512) (j : Fin 128) : H.pp b (ix2 i j) = ((R.pP i j : ℝ) : EReal) := (probs h i).1 j
theorem pc_eq (i : Fin 512) (j : Fin 128) : H.pc b (ix2 i j) = ((R.pC i j : ℝ) : EReal) := (probs h i).2.1 j

theorem tP_eq (i : Fin 512) (j : Fin 128) : k0_pay20 H.vp H.do4 (ix2 i j) = ((R.tP i j : ℝ) : EReal) := by
  pointwise [k0_pay20]
  simp only [h.d, h.vp, ← EReal.coe_mul, ← coe_sum]
  rfl

theorem tC_eq (i : Fin 512) (j : Fin 128) : k0_pay21 H.vc H.do4 (ix2 i j) = ((R.tC i j : ℝ) : EReal) := by
  pointwise [k0_pay21]
  simp only [h.d, h.vc, ← EReal.coe_mul, ← coe_sum]
  rfl

theorem total_eq (i : Fin 512) : k0_pay22 H.vp H.vc H.do4 (H.ep b) (H.ec b) (H.es b) (ix2 i 0) = ((R.total i : ℝ) : EReal) := by
  have hp : ∀ j, k0_pay18 (H.ep b) (H.ec b) (H.es b) (ix2 i j) = ((R.pP i j : ℝ) : EReal) := pp_eq h i
  have hc : ∀ j, k0_pay19 (H.ep b) (H.ec b) (H.es b) (ix2 i j) = ((R.pC i j : ℝ) : EReal) := pc_eq h i
  pointwise [k0_pay22]
  simp only [hp, hc, tP_eq h, tC_eq h, ← EReal.coe_mul, ← coe_sum, ← EReal.coe_add]
  rfl

theorem dsp_eq (i : Fin 512) (j : Fin 128) : H.dsp b (ix2 i j) = ((R.dsP i j : ℝ) : EReal) := by
  have hp : k0_pay18 (H.ep b) (H.ec b) (H.es b) (ix2 i j) = ((R.pP i j : ℝ) : EReal) := pp_eq h i j
  pointwise [Head.dsp, k0_pay23]
  rw [hp, tP_eq h, total_eq h, ofBits_eighth, ← EReal.coe_sub, ← EReal.coe_mul, ← EReal.coe_mul]
  rfl

theorem dsc_eq (i : Fin 512) (j : Fin 128) : H.dsc b (ix2 i j) = ((R.dsC i j : ℝ) : EReal) := by
  have hp : k0_pay19 (H.ep b) (H.ec b) (H.es b) (ix2 i j) = ((R.pC i j : ℝ) : EReal) := pc_eq h i j
  pointwise [Head.dsc, k0_pay24]
  rw [hp, tC_eq h, total_eq h, ofBits_eighth, ← EReal.coe_sub, ← EReal.coe_mul, ← EReal.coe_mul]
  rfl

theorem dq_eq (i : Fin 512) (c : Fin 64) : H.dq4 b (ix2 i c) = ((R.dq i c : ℝ) : EReal) := by
  have hp : ∀ j, k0_pay23 H.vp H.vc H.do4 (H.ep b) (H.ec b) (H.es b) (ix2 i j) = ((R.dsP i j : ℝ) : EReal) := dsp_eq h i
  have hc : ∀ j, k0_pay24 H.vp H.vc H.do4 (H.ep b) (H.ec b) (H.es b) (ix2 i j) = ((R.dsC i j : ℝ) : EReal) := dsc_eq h i
  pointwise [Head.dq4, k0_pay25]
  simp only [hp, hc, h.kp, h.kc, ← EReal.coe_mul, ← coe_sum, ← EReal.coe_add]
  rfl

theorem psd_eq (i : Fin 512) : H.psd b (ix2 i 0) = ((R.dsink i : ℝ) : EReal) := by
  pointwise [Head.psd, k0_pay26]
  rw [(probs h i).2.2, total_eq h, ← EReal.coe_mul]
  rfl

theorem dkp_eq (j : Fin 128) (c : Fin 64) : H.dkp b (ix2 j c) = ((R.dkp j c : ℝ) : EReal) := by
  pointwise [Head.dkp, k0_pay33]
  simp only [dsp_eq h, h.q, ← EReal.coe_mul, ← coe_sum]
  rfl

theorem dkc_eq (j : Fin 128) (c : Fin 64) : H.dkc b (ix2 j c) = ((R.dkc j c : ℝ) : EReal) := by
  pointwise [Head.dkc, k0_pay34]
  simp only [dsc_eq h, h.q, ← EReal.coe_mul, ← coe_sum]
  rfl

theorem dvp_eq (j : Fin 128) (c : Fin 64) : H.dvp b (ix2 j c) = ((R.dvp j c : ℝ) : EReal) := by
  pointwise [Head.dvp, k0_pay35]
  simp only [pp_eq h, h.d, ← EReal.coe_mul, ← coe_sum]
  rfl

theorem dvc_eq (j : Fin 128) (c : Fin 64) : H.dvc b (ix2 j c) = ((R.dvc j c : ℝ) : EReal) := by
  pointwise [Head.dvc, k0_pay36]
  simp only [pc_eq h, h.d, ← EReal.coe_mul, ← coe_sum]
  rfl

end Cert.KernelIdeal.Attn
-- ==== Proof.Attn.Block.lean ====
/- What the attention gradient's body stores for one block of rows, at the extended reals: the real gradients at that block's rows. -/
module

public import proofs.«01_k».proof.Proof.Attn.HeadValue
public import proofs.«01_k».proof.Proof.Attn.Frame

@[expose] public section

set_option maxRecDepth 16384

noncomputable section

namespace Cert.KernelIdeal.Attn

open Idealize.ShloMosaic Idealize.ShloMosaic.TcCoe Idealize.ShloMosaic.Tactic
open Cert.KernelIdeal.Gen
open Cert.Attn (Data Args coe_sum)

/-- The five blocks the body reads hold block `t` of the arguments `A`. -/
structure Blocks (A : Args) (t : ℕ) (x0 : Vec Ideal S128x1024 .f32) (x1 x2 : Vec Ideal S128x512 .f32) (x3 : Vec Ideal S128x1024 .f32)
    (x4 : Vec Ideal S1x128 .f32) : Prop where
  q : ∀ y, x0 y = ((A.q (128 * t + (y 0).val) (y 1).val : ℝ) : EReal)
  kc : ∀ y, x1 y = ((A.kv (128 * t + (y 0).val) (y 1).val : ℝ) : EReal)
  kp : ∀ y, x2 y = ((A.kv (128 * (t - 1) + (y 0).val) (y 1).val : ℝ) : EReal)
  d : ∀ y, x3 y = ((A.d (128 * t + (y 0).val) (y 1).val : ℝ) : EReal)
  s : ∀ y, (y 1).val < 16 → x4 y = ((A.s (y 1).val : ℝ) : EReal)

/-- A column block of a [128, n] array of reals, read at an index. -/
theorem ld_cols {n : ℕ} (X : Vec Ideal ⟨2, ![128, n]⟩ .f32) (g : ℕ → ℕ → ℝ) (hX : ∀ y, X y = ((g (y 0).val (y 1).val : ℝ) : EReal))
    (o : ℕ) (inb) (j : Fin 128) (c : Fin 64) :
    View.ld X (Rect.unit (s := ⟨2, ![128, n]⟩) ![0, o] S128x64.size inb) (ix2 j c) = ((g j.val (o + c.val) : ℝ) : EReal) := by
  have h1 : o + 64 ≤ n := inb 1
  rw [View.ld_unit_apply_of X _ _ inb (ix2 j c) (ix2 j ⟨o + c.val, by have := c.isLt; omega⟩) (by
    intro a; fin_cases a
    · show j.val = 0 + j.val; omega
    · rfl), hX]
  rfl

/-- A sink, read. -/
theorem ld_sink (X : Vec Ideal S1x128 .f32) (g : ℕ → ℝ) (hX : ∀ y, (y 1).val < 16 → X y = ((g (y 1).val : ℝ) : EReal)) (o : ℕ) (ho : o < 16) (inb) :
    View.ld X (Rect.unit (s := S1x128) ![0, o] S1x1.size inb) (ix2 0 0) = ((g o : ℝ) : EReal) := by
  rw [View.ld_unit_apply_of X _ _ inb (ix2 0 0) (ix2 0 ⟨o, by omega⟩) (by intro a; fin_cases a <;> rfl), hX _ ho]
  rfl

/-- Four blocks of rows stacked. -/
theorem stack_rows (w0 w1 w2 w3 : Vec Ideal S128x64 .f32) (g : ℕ → ℕ → ℝ) (o : ℕ)
    (h0 : ∀ j c, w0 (ix2 j c) = ((g j.val (64 * o + c.val) : ℝ) : EReal)) (h1 : ∀ j c, w1 (ix2 j c) = ((g j.val (64 * (o + 1) + c.val) : ℝ) : EReal))
    (h2 : ∀ j c, w2 (ix2 j c) = ((g j.val (64 * (o + 2) + c.val) : ℝ) : EReal)) (h3 : ∀ j c, w3 (ix2 j c) = ((g j.val (64 * (o + 3) + c.val) : ℝ) : EReal))
    (i : Fin 512) (c : Fin 64) : k0_pay5 w0 w1 w2 w3 (ix2 i c) = ((g (i.val % 128) (64 * (o + i.val / 128) + c.val) : ℝ) : EReal) := by
  pointwise [k0_pay5]
  have hi := i.isLt
  split
  · rw [h0]; exact congrArg _ (congrArg₂ g (by dsimp only; omega) (by omega))
  · split
    · rw [h1]; exact congrArg _ (congrArg₂ g (by dsimp only; omega) (by omega))
    · split
      · rw [h2]; exact congrArg _ (congrArg₂ g (by dsimp only; omega) (by omega))
      · rw [h3]; exact congrArg _ (congrArg₂ g (by dsimp only; omega) (by omega))

/-- Four sinks stacked. -/
theorem stack_sinks (s0 s1 s2 s3 : Vec Ideal S1x1 .f32) (g : ℕ → ℝ) (o : ℕ) (h0 : s0 (ix2 0 0) = ((g o : ℝ) : EReal)) (h1 : s1 (ix2 0 0) = ((g (o + 1) : ℝ) : EReal))
    (h2 : s2 (ix2 0 0) = ((g (o + 2) : ℝ) : EReal)) (h3 : s3 (ix2 0 0) = ((g (o + 3) : ℝ) : EReal)) (i : Fin 512) :
    k0_pay9 (k0_pay7 s0) (k0_pay8 s1) s2 s3 (ix2 i 0) = ((g (o + i.val / 128) : ℝ) : EReal) := by
  pointwise [k0_pay9, k0_pay7, k0_pay8]
  have hi := i.isLt
  split
  · rw [h0]; exact congrArg _ (congrArg g (by omega))
  · split
    · rw [h1]; exact congrArg _ (congrArg g (by omega))
    · split
      · rw [h2]; exact congrArg _ (congrArg g (by omega))
      · rw [h3]; exact congrArg _ (congrArg g (by omega))

/-- An index is the pair of its coordinates. -/
theorem ix2_self {n0 n1 : ℕ} (x : (⟨2, ![n0, n1]⟩ : Shape).Idx) : x = ix2 (x 0) (x 1) := by
  funext a; fin_cases a <;> rfl

section

variable {A : Args} {t : ℕ} {b : BitVec 1}

/-- One query head's rows of the gradient of the queries, as stored. -/
theorem dq_tile {k : ℕ} {H : Head Ideal} (hH : Holds b H (A.data t k)) (r : ℕ) (hr : r < 4) (ro : ℕ) (hro : ro = 128 * r) (hs) (o : ℕ)
    (ho : o = 64 * (4 * k + r)) (y : S128x1024.Idx) :
    View.TileAt (Val := Elt Ideal) (e := .f32) y ![0, o] S128x64.size (extractStridedSlice S128x64 ![ro, 0] (H.dq4 b) hs)
      ((A.dq (128 * t + (y 0).val) (y 1).val : ℝ) : EReal) := by
  intro x hx
  have h0 : (y 0).val = 0 + (x 0).val := hx 0
  have h1 : (y 1).val = o + (x 1).val := hx 1
  have hx0 : (x 0).val < 128 := (x 0).isLt
  have hx1 : (x 1).val < 64 := (x 1).isLt
  rw [extractStridedSlice_apply _ _ hs x (ix2 ⟨ro + (x 0).val, by omega⟩ ⟨(x 1).val, hx1⟩) (by
    intro a; fin_cases a
    · rfl
    · show (x 1).val = 0 + (x 1).val; omega), dq_eq hH]
  unfold Args.dq
  have e1 : (128 * t + (y 0).val) / 128 = t := by omega
  have e2 : (y 1).val / 256 = k := by omega
  rw [e1, e2]
  exact congrArg _ (congrArg₂ _ (Fin.ext (by unfold Args.row; dsimp only; omega)) (Fin.ext (by unfold Args.lane; dsimp only; omega)))

/-- The gradients of one key head's keys, as stored. -/
theorem dkc_tile {k : ℕ} (hk : k < 4) {H : Head Ideal} (hH : Holds b H (A.data t k)) (o : ℕ) (ho : o = 64 * k) (y : S128x512.Idx) :
    View.TileAt (Val := Elt Ideal) (e := .f32) y ![0, o] S128x64.size (H.dkc b) ((A.dc (128 * t + (y 0).val) (y 1).val : ℝ) : EReal) := by
  intro x hx
  have h0 : (y 0).val = 0 + (x 0).val := hx 0
  have h1 : (y 1).val = o + (x 1).val := hx 1
  have hx0 : (x 0).val < 128 := (x 0).isLt
  have hx1 : (x 1).val < 64 := (x 1).isLt
  unfold Args.dc
  have e1 : (128 * t + (y 0).val) / 128 = t := by omega
  have e2 : (y 1).val / 64 = k := by omega
  rw [if_pos (by omega), e1, e2]
  refine (congrArg (H.dkc b) (ix2_self x)).trans ((Attn.dkc_eq hH (x 0) (x 1)).trans ?_)
  exact congrArg _ (congrArg₂ _ (Fin.ext (by unfold Args.pos; dsimp only; omega)) (Fin.ext (by unfold Args.lane; dsimp only; omega)))

theorem dkp_tile {k : ℕ} (hk : k < 4) {H : Head Ideal} (hH : Holds b H (A.data t k)) (o : ℕ) (ho : o = 64 * k) (y : S128x512.Idx) :
    View.TileAt (Val := Elt Ideal) (e := .f32) y ![0, o] S128x64.size (H.dkp b) ((A.dp (128 * t + (y 0).val) (y 1).val : ℝ) : EReal) := by
  intro x hx
  have h0 : (y 0).val = 0 + (x 0).val := hx 0
  have h1 : (y 1).val = o + (x 1).val := hx 1
  have hx0 : (x 0).val < 128 := (x 0).isLt
  have hx1 : (x 1).val < 64 := (x 1).isLt
  unfold Args.dp
  have e1 : (128 * t + (y 0).val) / 128 = t := by omega
  have e2 : (y 1).val / 64 = k := by omega
  rw [if_pos (by omega), e1, e2]
  refine (congrArg (H.dkp b) (ix2_self x)).trans ((Attn.dkp_eq hH (x 0) (x 1)).trans ?_)
  exact congrArg _ (congrArg₂ _ (Fin.ext (by unfold Args.pos; dsimp only; omega)) (Fin.ext (by unfold Args.lane; dsimp only; omega)))

/-- The gradients of one key head's values, as stored. -/
theorem dvc_tile {k : ℕ} (hk : k < 4) {H : Head Ideal} (hH : Holds b H (A.data t k)) (o : ℕ) (ho : o = 256 + 64 * k) (y : S128x512.Idx) :
    View.TileAt (Val := Elt Ideal) (e := .f32) y ![0, o] S128x64.size (H.dvc b) ((A.dc (128 * t + (y 0).val) (y 1).val : ℝ) : EReal) := by
  intro x hx
  have h0 : (y 0).val = 0 + (x 0).val := hx 0
  have h1 : (y 1).val = o + (x 1).val := hx 1
  have hx0 : (x 0).val < 128 := (x 0).isLt
  have hx1 : (x 1).val < 64 := (x 1).isLt
  unfold Args.dc
  have e1 : (128 * t + (y 0).val) / 128 = t := by omega
  have e2 : (y 1).val / 64 - 4 = k := by omega
  rw [if_neg (by omega), e1, e2]
  refine (congrArg (H.dvc b) (ix2_self x)).trans ((Attn.dvc_eq hH (x 0) (x 1)).trans ?_)
  exact congrArg _ (congrArg₂ _ (Fin.ext (by unfold Args.pos; dsimp only; omega)) (Fin.ext (by unfold Args.lane; dsimp only; omega)))

theorem dvp_tile {k : ℕ} (hk : k < 4) {H : Head Ideal} (hH : Holds b H (A.data t k)) (o : ℕ) (ho : o = 256 + 64 * k) (y : S128x512.Idx) :
    View.TileAt (Val := Elt Ideal) (e := .f32) y ![0, o] S128x64.size (H.dvp b) ((A.dp (128 * t + (y 0).val) (y 1).val : ℝ) : EReal) := by
  intro x hx
  have h0 : (y 0).val = 0 + (x 0).val := hx 0
  have h1 : (y 1).val = o + (x 1).val := hx 1
  have hx0 : (x 0).val < 128 := (x 0).isLt
  have hx1 : (x 1).val < 64 := (x 1).isLt
  unfold Args.dp
  have e1 : (128 * t + (y 0).val) / 128 = t := by omega
  have e2 : (y 1).val / 64 - 4 = k := by omega
  rw [if_neg (by omega), e1, e2]
  refine (congrArg (H.dvp b) (ix2_self x)).trans ((Attn.dvp_eq hH (x 0) (x 1)).trans ?_)
  exact congrArg _ (congrArg₂ _ (Fin.ext (by unfold Args.pos; dsimp only; omega)) (Fin.ext (by unfold Args.lane; dsimp only; omega)))

end

section

variable {A : Args} {t : ℕ} {b : BitVec 1} {x0 : Vec Ideal S128x1024 .f32} {x1 x2 : Vec Ideal S128x512 .f32} {x3 : Vec Ideal S128x1024 .f32}
  {x4 : Vec Ideal S1x128 .f32} (hb : b = if t = 0 then 1#1 else 0#1) (h : Blocks A t x0 x1 x2 x3 x4)

include hb h

theorem holds_0 : Holds b (head_0 x0 x1 x2 x3 x4) (A.data t 0) where
  b := by rw [hb]; simp [Args.data]
  kp j c := ld_cols x2 (fun r c => A.kv (128 * (t - 1) + r) c) h.kp _ _ j c
  kc j c := ld_cols x1 (fun r c => A.kv (128 * t + r) c) h.kc _ _ j c
  vp j c := ld_cols x2 (fun r c => A.kv (128 * (t - 1) + r) c) h.kp _ _ j c
  vc j c := ld_cols x1 (fun r c => A.kv (128 * t + r) c) h.kc _ _ j c
  q := stack_rows _ _ _ _ (fun r c => A.q (128 * t + r) c) 0 (ld_cols x0 (fun r c => A.q (128 * t + r) c) h.q 0 _) (ld_cols x0 (fun r c => A.q (128 * t + r) c) h.q 64 _) (ld_cols x0 (fun r c => A.q (128 * t + r) c) h.q 128 _) (ld_cols x0 (fun r c => A.q (128 * t + r) c) h.q 192 _)
  d := stack_rows _ _ _ _ (fun r c => A.d (128 * t + r) c) 0 (ld_cols x3 (fun r c => A.d (128 * t + r) c) h.d 0 _) (ld_cols x3 (fun r c => A.d (128 * t + r) c) h.d 64 _) (ld_cols x3 (fun r c => A.d (128 * t + r) c) h.d 128 _) (ld_cols x3 (fun r c => A.d (128 * t + r) c) h.d 192 _)
  sink := stack_sinks _ _ _ _ A.s 0 (ld_sink x4 A.s h.s 0 (by norm_num) _) (ld_sink x4 A.s h.s 1 (by norm_num) _) (ld_sink x4 A.s h.s 2 (by norm_num) _) (ld_sink x4 A.s h.s 3 (by norm_num) _)

theorem holds_1 : Holds b (head_1 x0 x1 x2 x3 x4) (A.data t 1) where
  b := by rw [hb]; simp [Args.data]
  kp j c := ld_cols x2 (fun r c => A.kv (128 * (t - 1) + r) c) h.kp _ _ j c
  kc j c := ld_cols x1 (fun r c => A.kv (128 * t + r) c) h.kc _ _ j c
  vp j c := ld_cols x2 (fun r c => A.kv (128 * (t - 1) + r) c) h.kp _ _ j c
  vc j c := ld_cols x1 (fun r c => A.kv (128 * t + r) c) h.kc _ _ j c
  q := stack_rows _ _ _ _ (fun r c => A.q (128 * t + r) c) 4 (ld_cols x0 (fun r c => A.q (128 * t + r) c) h.q 256 _) (ld_cols x0 (fun r c => A.q (128 * t + r) c) h.q 320 _) (ld_cols x0 (fun r c => A.q (128 * t + r) c) h.q 384 _) (ld_cols x0 (fun r c => A.q (128 * t + r) c) h.q 448 _)
  d := stack_rows _ _ _ _ (fun r c => A.d (128 * t + r) c) 4 (ld_cols x3 (fun r c => A.d (128 * t + r) c) h.d 256 _) (ld_cols x3 (fun r c => A.d (128 * t + r) c) h.d 320 _) (ld_cols x3 (fun r c => A.d (128 * t + r) c) h.d 384 _) (ld_cols x3 (fun r c => A.d (128 * t + r) c) h.d 448 _)
  sink := stack_sinks _ _ _ _ A.s 4 (ld_sink x4 A.s h.s 4 (by norm_num) _) (ld_sink x4 A.s h.s 5 (by norm_num) _) (ld_sink x4 A.s h.s 6 (by norm_num) _) (ld_sink x4 A.s h.s 7 (by norm_num) _)

theorem holds_2 : Holds b (head_2 x0 x1 x2 x3 x4) (A.data t 2) where
  b := by rw [hb]; simp [Args.data]
  kp j c := ld_cols x2 (fun r c => A.kv (128 * (t - 1) + r) c) h.kp _ _ j c
  kc j c := ld_cols x1 (fun r c => A.kv (128 * t + r) c) h.kc _ _ j c
  vp j c := ld_cols x2 (fun r c => A.kv (128 * (t - 1) + r) c) h.kp _ _ j c
  vc j c := ld_cols x1 (fun r c => A.kv (128 * t + r) c) h.kc _ _ j c
  q := stack_rows _ _ _ _ (fun r c => A.q (128 * t + r) c) 8 (ld_cols x0 (fun r c => A.q (128 * t + r) c) h.q 512 _) (ld_cols x0 (fun r c => A.q (128 * t + r) c) h.q 576 _) (ld_cols x0 (fun r c => A.q (128 * t + r) c) h.q 640 _) (ld_cols x0 (fun r c => A.q (128 * t + r) c) h.q 704 _)
  d := stack_rows _ _ _ _ (fun r c => A.d (128 * t + r) c) 8 (ld_cols x3 (fun r c => A.d (128 * t + r) c) h.d 512 _) (ld_cols x3 (fun r c => A.d (128 * t + r) c) h.d 576 _) (ld_cols x3 (fun r c => A.d (128 * t + r) c) h.d 640 _) (ld_cols x3 (fun r c => A.d (128 * t + r) c) h.d 704 _)
  sink := stack_sinks _ _ _ _ A.s 8 (ld_sink x4 A.s h.s 8 (by norm_num) _) (ld_sink x4 A.s h.s 9 (by norm_num) _) (ld_sink x4 A.s h.s 10 (by norm_num) _) (ld_sink x4 A.s h.s 11 (by norm_num) _)

theorem holds_3 : Holds b (head_3 x0 x1 x2 x3 x4) (A.data t 3) where
  b := by rw [hb]; simp [Args.data]
  kp j c := ld_cols x2 (fun r c => A.kv (128 * (t - 1) + r) c) h.kp _ _ j c
  kc j c := ld_cols x1 (fun r c => A.kv (128 * t + r) c) h.kc _ _ j c
  vp j c := ld_cols x2 (fun r c => A.kv (128 * (t - 1) + r) c) h.kp _ _ j c
  vc j c := ld_cols x1 (fun r c => A.kv (128 * t + r) c) h.kc _ _ j c
  q := stack_rows _ _ _ _ (fun r c => A.q (128 * t + r) c) 12 (ld_cols x0 (fun r c => A.q (128 * t + r) c) h.q 768 _) (ld_cols x0 (fun r c => A.q (128 * t + r) c) h.q 832 _) (ld_cols x0 (fun r c => A.q (128 * t + r) c) h.q 896 _) (ld_cols x0 (fun r c => A.q (128 * t + r) c) h.q 960 _)
  d := stack_rows _ _ _ _ (fun r c => A.d (128 * t + r) c) 12 (ld_cols x3 (fun r c => A.d (128 * t + r) c) h.d 768 _) (ld_cols x3 (fun r c => A.d (128 * t + r) c) h.d 832 _) (ld_cols x3 (fun r c => A.d (128 * t + r) c) h.d 896 _) (ld_cols x3 (fun r c => A.d (128 * t + r) c) h.d 960 _)
  sink := stack_sinks _ _ _ _ A.s 12 (ld_sink x4 A.s h.s 12 (by norm_num) _) (ld_sink x4 A.s h.s 13 (by norm_num) _) (ld_sink x4 A.s h.s 14 (by norm_num) _) (ld_sink x4 A.s h.s 15 (by norm_num) _)

/-- The block of the gradient of the queries. -/
theorem dqBlk_eq (y : S128x1024.Idx) : dqBlk b x0 x1 x2 x3 x4 y = ((A.dq (128 * t + (y 0).val) (y 1).val : ℝ) : EReal) := by
  refine View.canon_eq_of_allAt _ _ _ (cover_dq b x0 x1 x2 x3 x4 y) ?_
  refine View.allAt_cons_unit _ _ _ _ _ (dq_tile (holds_3 hb h) 3 (by norm_num) _ (by norm_num) _ _ (by norm_num) y) ?_
  refine View.allAt_cons_unit _ _ _ _ _ (dq_tile (holds_3 hb h) 2 (by norm_num) _ (by norm_num) _ _ (by norm_num) y) ?_
  refine View.allAt_cons_unit _ _ _ _ _ (dq_tile (holds_3 hb h) 1 (by norm_num) _ (by norm_num) _ _ (by norm_num) y) ?_
  refine View.allAt_cons_unit _ _ _ _ _ (dq_tile (holds_3 hb h) 0 (by norm_num) _ (by norm_num) _ _ (by norm_num) y) ?_
  refine View.allAt_cons_unit _ _ _ _ _ (dq_tile (holds_2 hb h) 3 (by norm_num) _ (by norm_num) _ _ (by norm_num) y) ?_
  refine View.allAt_cons_unit _ _ _ _ _ (dq_tile (holds_2 hb h) 2 (by norm_num) _ (by norm_num) _ _ (by norm_num) y) ?_
  refine View.allAt_cons_unit _ _ _ _ _ (dq_tile (holds_2 hb h) 1 (by norm_num) _ (by norm_num) _ _ (by norm_num) y) ?_
  refine View.allAt_cons_unit _ _ _ _ _ (dq_tile (holds_2 hb h) 0 (by norm_num) _ (by norm_num) _ _ (by norm_num) y) ?_
  refine View.allAt_cons_unit _ _ _ _ _ (dq_tile (holds_1 hb h) 3 (by norm_num) _ (by norm_num) _ _ (by norm_num) y) ?_
  refine View.allAt_cons_unit _ _ _ _ _ (dq_tile (holds_1 hb h) 2 (by norm_num) _ (by norm_num) _ _ (by norm_num) y) ?_
  refine View.allAt_cons_unit _ _ _ _ _ (dq_tile (holds_1 hb h) 1 (by norm_num) _ (by norm_num) _ _ (by norm_num) y) ?_
  refine View.allAt_cons_unit _ _ _ _ _ (dq_tile (holds_1 hb h) 0 (by norm_num) _ (by norm_num) _ _ (by norm_num) y) ?_
  refine View.allAt_cons_unit _ _ _ _ _ (dq_tile (holds_0 hb h) 3 (by norm_num) _ (by norm_num) _ _ (by norm_num) y) ?_
  refine View.allAt_cons_unit _ _ _ _ _ (dq_tile (holds_0 hb h) 2 (by norm_num) _ (by norm_num) _ _ (by norm_num) y) ?_
  refine View.allAt_cons_unit _ _ _ _ _ (dq_tile (holds_0 hb h) 1 (by norm_num) _ (by norm_num) _ _ (by norm_num) y) ?_
  refine View.allAt_cons_unit _ _ _ _ _ (dq_tile (holds_0 hb h) 0 (by norm_num) _ (by norm_num) _ _ (by norm_num) y) ?_
  exact View.allAt_nil _ _

/-- The block of the gradient of the keys and values. -/
theorem dcBlk_eq (y : S128x512.Idx) : dcBlk b x0 x1 x2 x3 x4 y = ((A.dc (128 * t + (y 0).val) (y 1).val : ℝ) : EReal) := by
  refine View.canon_eq_of_allAt _ _ _ (cover_dc b x0 x1 x2 x3 x4 y) ?_
  refine View.allAt_cons_unit _ _ _ _ _ (dvc_tile (by norm_num) (holds_3 hb h) _ (by norm_num) y) ?_
  refine View.allAt_cons_unit _ _ _ _ _ (dkc_tile (by norm_num) (holds_3 hb h) _ (by norm_num) y) ?_
  refine View.allAt_cons_unit _ _ _ _ _ (dvc_tile (by norm_num) (holds_2 hb h) _ (by norm_num) y) ?_
  refine View.allAt_cons_unit _ _ _ _ _ (dkc_tile (by norm_num) (holds_2 hb h) _ (by norm_num) y) ?_
  refine View.allAt_cons_unit _ _ _ _ _ (dvc_tile (by norm_num) (holds_1 hb h) _ (by norm_num) y) ?_
  refine View.allAt_cons_unit _ _ _ _ _ (dkc_tile (by norm_num) (holds_1 hb h) _ (by norm_num) y) ?_
  refine View.allAt_cons_unit _ _ _ _ _ (dvc_tile (by norm_num) (holds_0 hb h) _ (by norm_num) y) ?_
  refine View.allAt_cons_unit _ _ _ _ _ (dkc_tile (by norm_num) (holds_0 hb h) _ (by norm_num) y) ?_
  exact View.allAt_nil _ _

/-- The block of the gradient of the keys and values of the block before. -/
theorem dpBlk_eq (y : S128x512.Idx) : dpBlk b x0 x1 x2 x3 x4 y = ((A.dp (128 * t + (y 0).val) (y 1).val : ℝ) : EReal) := by
  refine View.canon_eq_of_allAt _ _ _ (cover_dp b x0 x1 x2 x3 x4 y) ?_
  refine View.allAt_cons_unit _ _ _ _ _ (dvp_tile (by norm_num) (holds_3 hb h) _ (by norm_num) y) ?_
  refine View.allAt_cons_unit _ _ _ _ _ (dkp_tile (by norm_num) (holds_3 hb h) _ (by norm_num) y) ?_
  refine View.allAt_cons_unit _ _ _ _ _ (dvp_tile (by norm_num) (holds_2 hb h) _ (by norm_num) y) ?_
  refine View.allAt_cons_unit _ _ _ _ _ (dkp_tile (by norm_num) (holds_2 hb h) _ (by norm_num) y) ?_
  refine View.allAt_cons_unit _ _ _ _ _ (dvp_tile (by norm_num) (holds_1 hb h) _ (by norm_num) y) ?_
  refine View.allAt_cons_unit _ _ _ _ _ (dkp_tile (by norm_num) (holds_1 hb h) _ (by norm_num) y) ?_
  refine View.allAt_cons_unit _ _ _ _ _ (dvp_tile (by norm_num) (holds_0 hb h) _ (by norm_num) y) ?_
  refine View.allAt_cons_unit _ _ _ _ _ (dkp_tile (by norm_num) (holds_0 hb h) _ (by norm_num) y) ?_
  exact View.allAt_nil _ _

end

end Cert.KernelIdeal.Attn
-- ==== Proof.Attn.Totals.lean ====
/- The attention gradient's totals at the extended reals: after each point, the real totals over the blocks so far. -/
module

public import proofs.«01_k».proof.Proof.Attn.Block

@[expose] public section

set_option maxRecDepth 16384

noncomputable section

namespace Cert.KernelIdeal.Attn

open Idealize.ShloMosaic Idealize.ShloMosaic.TcCoe Idealize.ShloMosaic.Tactic
open Cert.KernelIdeal.Gen
open Cert.Attn (Data Args coe_sum)

/-- Where the last store holds an index, its value is read; -/
theorem canon_cons_at {S : Shape} (off size : Fin S.rank → ℕ) (inb : ∀ a, off a + size a ≤ S.size a) (w : (Rect.unit off size inb).shape.Idx → Elt Ideal .f32)
    (L : List (View.Piece (Elt Ideal) S .f32)) (y : S.Idx) (x : (Rect.unit off size inb).shape.Idx) (hx : ∀ a, (y a : ℕ) = off a + x a) :
    View.canon ((⟨Rect.unit off size inb, w⟩ : View.Piece (Elt Ideal) S .f32) :: L) y = w x := by
  have e : y = (Rect.unit off size inb).emb x := funext fun a => Fin.ext ((hx a).trans (Rect.idx_unit_val off size inb x a).symm)
  rw [e, View.canon_cons_emb]

/-- elsewhere, that of the stores before. -/
theorem canon_cons_off {S : Shape} (off size : Fin S.rank → ℕ) (inb : ∀ a, off a + size a ≤ S.size a) (w : (Rect.unit off size inb).shape.Idx → Elt Ideal .f32)
    (L : List (View.Piece (Elt Ideal) S .f32)) (y : S.Idx) (a : Fin S.rank) (ha : (y a : ℕ) < off a ∨ off a + size a ≤ (y a : ℕ)) :
    View.canon ((⟨Rect.unit off size inb, w⟩ : View.Piece (Elt Ideal) S .f32) :: L) y = View.canon L y := by
  refine View.canon_cons_of_not_mem _ _ fun hy => ?_
  have hy' : y ∈ (Rect.unit off size inb).set := hy
  have := Rect.mem_set_unit.1 hy' a
  omega

theorem eq_word (n : Fin 128) (h : Fin 16) :
    IntOp.cmpi .eq (BitVec.ofNat 32 n.val) (BitVec.ofNat 32 h.val) = if n.val = h.val then 1#1 else 0#1 := by
  revert n h; decide +kernel

theorem ite_coe_zero (c : Prop) [Decidable c] (x : ℝ) : (if c then (x : EReal) else 0) = (((if c then x else 0 : ℝ)) : EReal) := by
  split
  · rfl
  · exact EReal.coe_zero.symm

/-- Sixteen terms, each in its own lane. -/
theorem lanes (g : ℕ → ℝ) (n : ℕ) :
    0 + (if n = 0 then g 0 else 0) + (if n = 1 then g 1 else 0) + (if n = 2 then g 2 else 0) + (if n = 3 then g 3 else 0)
      + (if n = 4 then g 4 else 0) + (if n = 5 then g 5 else 0) + (if n = 6 then g 6 else 0) + (if n = 7 then g 7 else 0)
      + (if n = 8 then g 8 else 0) + (if n = 9 then g 9 else 0) + (if n = 10 then g 10 else 0) + (if n = 11 then g 11 else 0)
      + (if n = 12 then g 12 else 0) + (if n = 13 then g 13 else 0) + (if n = 14 then g 14 else 0) + (if n = 15 then g 15 else 0)
      = if n < 16 then g n else 0 := by
  by_cases h : n < 16
  · interval_cases n <;> simp
  · have e : ∀ k < 16, n ≠ k := fun k hk => by omega
    simp [h, e]

section

variable {A : Args} {t : ℕ} {b : BitVec 1}

/-- One query head's term of the gradient of the sinks, in its lane. -/
theorem sinkTerm_eq {k : ℕ} {H : Head Ideal} (hH : Holds b H (A.data t k)) (r : ℕ) (hr : r < 4) (ro : ℕ) (hro : ro = 128 * r) (hs) (h : Fin 16)
    (hh : h.val = 4 * k + r) (n : Fin 128) :
    sinkTerm (BitVec.ofNat 32 h.val) (extractStridedSlice S128x1 ![ro, 0] (H.psd b) hs) (ix2 0 n)
      = ((if n.val = h.val then A.ds t h.val else 0 : ℝ) : EReal) := by
  have hp : ∀ x : Fin 128, extractStridedSlice S128x1 ![ro, 0] (H.psd b) hs (ix2 x 0) = (((A.data t k).dsink ⟨ro + x.val, by omega⟩ : ℝ) : EReal) := fun x => by
    rw [extractStridedSlice_apply _ _ hs (ix2 x 0) (ix2 ⟨ro + x.val, by omega⟩ 0) (by intro a; fin_cases a <;> rfl), psd_eq hH]
  generalize extractStridedSlice S128x1 ![ro, 0] (H.psd b) hs = w at hp
  pointwise [sinkTerm]
  simp only [hp]
  rw [eq_word]
  have e : (0 : EReal) - ∑ x : Fin 128, (((A.data t k).dsink ⟨ro + x.val, by omega⟩ : ℝ) : EReal) = ((A.ds t h.val : ℝ) : EReal) := by
    rw [zero_sub, ← coe_sum, ← EReal.coe_neg]
    unfold Args.ds
    have e1 : h.val / 4 = k := by omega
    rw [e1]
    refine congrArg _ (congrArg _ (Finset.sum_congr rfl fun x _ => congrArg _ (Fin.ext ?_)))
    unfold Args.row; dsimp only; omega
  rw [e, ← ite_coe_zero]
  split <;> simp [Scalar.select]

end

variable {A : Args} {t : ℕ} {b : BitVec 1} {x0 : Vec Ideal S128x1024 .f32} {x1 x2 : Vec Ideal S128x512 .f32} {x3 : Vec Ideal S128x1024 .f32}
  {x4 : Vec Ideal S1x128 .f32} (hb : b = if t = 0 then 1#1 else 0#1) (h : Blocks A t x0 x1 x2 x3 x4)

include hb h

theorem dsink_eq (n : Fin 128) : dsink b x0 x1 x2 x3 x4 (ix2 0 n) = ((if n.val < 16 then A.ds t n.val else 0 : ℝ) : EReal) := by
  rw [← lanes (A.ds t) n.val]
  simp only [EReal.coe_add]
  unfold dsink
  simp only [addf_apply]
  have h0 : k0_pay4 (F := Ideal) (ix2 0 n) = ((0 : ℝ) : EReal) := by
    pointwise [k0_pay4]
    exact EReal.coe_zero.symm
  exact (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) h0 (sinkTerm_eq (holds_0 hb h) 0 (by norm_num) _ (by norm_num) _ 0 rfl n)) (sinkTerm_eq (holds_0 hb h) 1 (by norm_num) _ (by norm_num) _ 1 rfl n)) (sinkTerm_eq (holds_0 hb h) 2 (by norm_num) _ (by norm_num) _ 2 rfl n)) (sinkTerm_eq (holds_0 hb h) 3 (by norm_num) _ (by norm_num) _ 3 rfl n)) (sinkTerm_eq (holds_1 hb h) 0 (by norm_num) _ (by norm_num) _ 4 rfl n)) (sinkTerm_eq (holds_1 hb h) 1 (by norm_num) _ (by norm_num) _ 5 rfl n)) (sinkTerm_eq (holds_1 hb h) 2 (by norm_num) _ (by norm_num) _ 6 rfl n)) (sinkTerm_eq (holds_1 hb h) 3 (by norm_num) _ (by norm_num) _ 7 rfl n)) (sinkTerm_eq (holds_2 hb h) 0 (by norm_num) _ (by norm_num) _ 8 rfl n)) (sinkTerm_eq (holds_2 hb h) 1 (by norm_num) _ (by norm_num) _ 9 rfl n)) (sinkTerm_eq (holds_2 hb h) 2 (by norm_num) _ (by norm_num) _ 10 rfl n)) (sinkTerm_eq (holds_2 hb h) 3 (by norm_num) _ (by norm_num) _ 11 rfl n)) (sinkTerm_eq (holds_3 hb h) 0 (by norm_num) _ (by norm_num) _ 12 rfl n)) (sinkTerm_eq (holds_3 hb h) 1 (by norm_num) _ (by norm_num) _ 13 rfl n)) (sinkTerm_eq (holds_3 hb h) 2 (by norm_num) _ (by norm_num) _ 14 rfl n)) (sinkTerm_eq (holds_3 hb h) 3 (by norm_num) _ (by norm_num) _ 15 rfl n))

/-- One block's addition to the totals. -/
theorem accAdd_eq (acc : Vec Ideal S8x1024 .f32) (hacc : ∀ y, acc y = ((A.acc t (y 0).val (y 1).val : ℝ) : EReal)) (y : S8x1024.Idx) :
    accAdd b x0 x1 x2 x3 x4 acc y = ((A.acc (t + 1) (y 0).val (y 1).val : ℝ) : EReal) := by
  have hy0 : (y 0).val < 8 := (y 0).isLt
  have hy1 : (y 1).val < 1024 := (y 1).isLt
  unfold accAdd accPieces
  rw [List.cons_append, List.cons_append, List.nil_append]
  have hlast : View.canon [(⟨Rect.unit ![0, 0] S8x1024.size inb_S8x1024_S8x1024_0_0, acc⟩ : View.Piece (Elt Ideal) S8x1024 .f32)] y = acc y :=
    canon_cons_at _ _ _ _ _ y y (by intro a; fin_cases a <;> exact (Nat.zero_add _).symm)
  by_cases h1 : (y 0).val = 1 ∧ (y 1).val < 128
  · refine (canon_cons_at (S := S8x1024) ![1, 0] S1x128.size inb_S8x1024_S1x128_1_0 _ _ y (ix2 (0 : Fin 1) ⟨(y 1).val, h1.2⟩) (by
      intro a; fin_cases a
      · exact h1.1
      · exact (Nat.zero_add _).symm)).trans ?_
    have hd := dsink_eq hb h ⟨(y 1).val, h1.2⟩
    have hl : View.ld acc (Rect.unit (s := S8x1024) ![1, 0] S1x128.size inb_S8x1024_S1x128_1_0) (ix2 (0 : Fin 1) ⟨(y 1).val, h1.2⟩) = acc y :=
      View.ld_unit_apply_of acc _ _ _ _ y (by
        intro a; fin_cases a
        · exact h1.1
        · exact (Nat.zero_add _).symm)
    generalize dsink b x0 x1 x2 x3 x4 = w at hd ⊢
    generalize View.ld acc (Rect.unit (s := S8x1024) ![1, 0] S1x128.size inb_S8x1024_S1x128_1_0) = v at hl ⊢
    have : k0_pay2 w v (ix2 (0 : Fin 1) ⟨(y 1).val, h1.2⟩) = v (ix2 (0 : Fin 1) ⟨(y 1).val, h1.2⟩) + w (ix2 (0 : Fin 1) ⟨(y 1).val, h1.2⟩) := by
      pointwise [k0_pay2]
    refine this.trans ?_
    rw [hd, hl, hacc, ← EReal.coe_add]
    refine congrArg _ ?_
    simp only [Args.acc, h1.1, one_ne_zero, if_false, true_and]
    split
    · rw [Finset.sum_range_succ]
    · rw [add_zero]
  · rw [show View.canon _ y = View.canon _ y from (by
      by_cases h0 : (y 0).val = 1
      · exact canon_cons_off _ _ _ _ _ y 1 (Or.inr (by show 0 + 128 ≤ (y 1).val; omega))
      · refine canon_cons_off _ _ _ _ _ y 0 ?_
        show (y 0).val < 1 ∨ 1 + 1 ≤ (y 0).val
        omega)]
    by_cases h0 : (y 0).val = 0
    · refine (canon_cons_at (S := S8x1024) ![0, 0] S1x1024.size inb_S8x1024_S1x1024_0_0 _ _ y (ix2 (0 : Fin 1) ⟨(y 1).val, hy1⟩) (by
        intro a; fin_cases a
        · exact h0
        · exact (Nat.zero_add _).symm)).trans ?_
      have hd : ∀ j : Fin 128, dqBlk b x0 x1 x2 x3 x4 (ix2 j ⟨(y 1).val, hy1⟩) = ((A.dq (128 * t + j.val) (y 1).val : ℝ) : EReal) := fun j => dqBlk_eq hb h _
      have hl : View.ld acc (Rect.unit (s := S8x1024) ![0, 0] S1x1024.size inb_S8x1024_S1x1024_0_0) (ix2 (0 : Fin 1) ⟨(y 1).val, hy1⟩) = acc y :=
        View.ld_unit_apply_of acc _ _ _ _ y (by
          intro a; fin_cases a
          · exact h0
          · exact (Nat.zero_add _).symm)
      generalize dqBlk b x0 x1 x2 x3 x4 = w at hd ⊢
      generalize View.ld acc (Rect.unit (s := S8x1024) ![0, 0] S1x1024.size inb_S8x1024_S1x1024_0_0) = v at hl ⊢
      have : k0_pay1 (k0_pay141 v) w (ix2 (0 : Fin 1) ⟨(y 1).val, hy1⟩) = v (ix2 (0 : Fin 1) ⟨(y 1).val, hy1⟩) + ∑ j : Fin 128, w (ix2 j ⟨(y 1).val, hy1⟩) := by
        pointwise [k0_pay1, k0_pay141]
      refine this.trans ?_
      simp only [hd]
      rw [hl, hacc, ← coe_sum, ← EReal.coe_add]
      refine congrArg _ ?_
      unfold Args.acc
      rw [if_pos h0, if_pos h0, Finset.sum_range_succ]
    · rw [show View.canon _ y = View.canon _ y from canon_cons_off _ _ _ _ _ y 0 (by
        show (y 0).val < 0 ∨ 0 + 1 ≤ (y 0).val
        omega), hlast, hacc]
      refine congrArg _ ?_
      unfold Args.acc
      rw [if_neg h0, if_neg h0, if_neg (fun h => h1 ⟨h.1, by omega⟩), if_neg (fun h => h1 ⟨h.1, by omega⟩)]

end Cert.KernelIdeal.Attn
-- ==== Proof.Attn.Post.lean ====
/-
  The four arrays the kernel ends with, as real numbers: on real arguments, the gradient of the queries, the gradient of
  the block's own keys and values, that of the block before, and the running sums after the last grid point.
-/
module

public import proofs.«01_k».proof.Proof.Attn.Frame
public import proofs.«01_k».proof.Proof.Attn.Totals
public import Idealize.ShloMosaic.Lib.Pipeline.Value
public import Idealize.ShloMosaic.Lib.StableHlo.Run
public import Idealize.ShloMosaic.Lib.Tactic
public import Idealize.ShloMosaic.Lib.KernelVsHost

@[expose] public section

set_option maxRecDepth 16384

noncomputable section

namespace Cert.KernelIdeal.Attn

open Cert.KernelIdeal Cert.KernelIdeal.Gen Cert.Attn
open Idealize.ShloMosaic.Tactic
open Idealize.ShloMosaic Idealize.ShloMosaic.TcCoe Idealize.SL.Sem Idealize.ShloMosaic.StableHlo
open Idealize.ShloMosaic.Pipeline (Dat)

variable (A : Args) (m : (ℓ : Loc nD τ sig) → Buf (Elt Ideal) ℓ) (ρ : Dev nD → PrngReg) (c : Dev nD)

/-- The four arguments hold the real numbers of `A`. -/
structure Entries : Prop where
  q : ∀ y : S2048x1024.Idx, (m ((c : Thread nD τ).loc main_arg0) : S2048x1024.Idx → EReal) y = ((A.q (y 0).val (y 1).val : ℝ) : EReal)
  kv : ∀ y : S2048x512.Idx, (m ((c : Thread nD τ).loc main_arg1) : S2048x512.Idx → EReal) y = ((A.kv (y 0).val (y 1).val : ℝ) : EReal)
  d : ∀ y : S2048x1024.Idx, (m ((c : Thread nD τ).loc main_arg2) : S2048x1024.Idx → EReal) y = ((A.d (y 0).val (y 1).val : ℝ) : EReal)
  s : ∀ y : S16.Idx, (m ((c : Thread nD τ).loc main_arg3) : S16.Idx → EReal) y = ((A.s (y 0).val : ℝ) : EReal)

theorem t_lt (t : Fin cfg0.N) : t.val < 16 := lt_of_lt_of_eq t.isLt (show cfg0.N = 16 from N_0)

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = t.val - 1 ∧ win0_2.index t 1 = 0 := by decide +kernel
theorem index3 : ∀ t : Fin grid0.N, win0_3.index t 0 = t.val ∧ win0_3.index t 1 = 0 := by decide +kernel
theorem index4 : ∀ t : Fin grid0.N, win0_4.index t 0 = 0 ∧ win0_4.index t 1 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel
theorem index7 : ∀ t : Fin grid0.N, win0_7.index t 0 = t.val ∧ win0_7.index t 1 = 0 := by decide +kernel
theorem index8 : ∀ t : Fin grid0.N, win0_8.index t 0 = 0 ∧ win0_8.index t 1 = 0 := by decide +kernel

theorem flag_eq (t : Fin cfg0.N) : flag (grid0.coords t) = if t.val = 0 then 1#1 else 0#1 :=
  (by decide +kernel : ∀ t : Fin grid0.N, flag (grid0.coords t) = if t.val = 0 then 1#1 else 0#1) t

/-- The padded row of sinks the kernel reads: its first sixteen lanes are the argument. -/
theorem V_sinks (y : S1x128.Idx) (h : (y 1).val < 16) :
    (V m c main_v1 : S1x128.Idx → EReal) y = (m ((c : Thread nD τ).loc main_arg3) : S16.Idx → EReal) (ix1 ⟨(y 1).val, h⟩) := by
  unfold V
  simp only [hostOps0, hostOps0_1, List.flatten_cons, List.flatten_nil, List.append_nil, List.cons_append, List.nil_append]
  after_results
  have h0 : (y 0).val = 0 := by have := (y 0).isLt; simp at this; omega
  show pad (α := EReal) (s := S1x16) S1x128 ![0, 0] ![0, 112] ![0, 0] (fun i => (m (c, Proc.tc.devRef main_arg3) : S16.Idx → EReal) _) (u := S_) _ pads_S1x16_S1x128_000_01120 h_S_ y = _
  pointwise
  simp only [h0, h]
  rfl

variable {A m c}

theorem blocks (hE : Entries A m c) (t : Fin cfg0.N) :
    Blocks A t.val (iblk m c 0 t) (iblk m c 1 t) (iblk m c 2 t) (iblk m c 3 t) (iblk m c 4 t) where
  q y := by
    unfold iblk
    rw [View.read_apply]
    show V m c main_arg0 _ = _
    rw [V_main_arg0]
    refine (hE.q _).trans ?_
    have hi := index0 t
    congr 2
    · show win0_0.index t 0 * 128 + 1 * (y 0).val = _; rw [hi.1]; omega
    · show win0_0.index t 1 * 1024 + 1 * (y 1).val = _; rw [hi.2]; omega
  kc y := by
    unfold iblk
    rw [View.read_apply]
    show V m c main_arg1 _ = _
    rw [V_main_arg1]
    refine (hE.kv _).trans ?_
    have hi := index1 t
    congr 2
    · show win0_1.index t 0 * 128 + 1 * (y 0).val = _; rw [hi.1]; omega
    · show win0_1.index t 1 * 512 + 1 * (y 1).val = _; rw [hi.2]; omega
  kp y := by
    unfold iblk
    rw [View.read_apply]
    show V m c main_arg1 _ = _
    rw [V_main_arg1]
    refine (hE.kv _).trans ?_
    have hi := index2 t
    congr 2
    · show win0_2.index t 0 * 128 + 1 * (y 0).val = _; rw [hi.1]; omega
    · show win0_2.index t 1 * 512 + 1 * (y 1).val = _; rw [hi.2]; omega
  d y := by
    unfold iblk
    rw [View.read_apply]
    show V m c main_arg2 _ = _
    rw [V_main_arg2]
    refine (hE.d _).trans ?_
    have hi := index3 t
    congr 2
    · show win0_3.index t 0 * 128 + 1 * (y 0).val = _; rw [hi.1]; omega
    · show win0_3.index t 1 * 1024 + 1 * (y 1).val = _; rw [hi.2]; omega
  s y hy := by
    have hi := index4 t
    unfold iblk
    rw [View.read_apply]
    show V m c main_v1 _ = _
    have h1 : win0_4.index t 1 * 128 + 1 * (y 1).val = (y 1).val := by rw [hi.2]; omega
    refine (V_sinks m c _ (lt_of_eq_of_lt h1 hy)).trans ((hE.s _).trans ?_)
    exact congrArg (fun n => ((A.s n : ℝ) : EReal)) h1

theorem accAt_eq (hE : Entries A m c) : ∀ (n : ℕ) (h : n < cfg0.N) (y : S8x1024.Idx),
    accAt m c n h y = ((A.acc (n + 1) (y 0).val (y 1).val : ℝ) : EReal)
  | 0, h, y => by
    refine (congrFun (accAt_first m c ⟨0, h⟩ rfl) y).trans ?_
    refine accAdd_eq (flag_eq _) (blocks hE ⟨0, h⟩) _ (fun y => ?_) y
    have h0 : A.acc 0 (y 0).val (y 1).val = 0 := by simp [Args.acc]
    show (k0_pay3 (F := Ideal) y : EReal) = ((A.acc 0 _ _ : ℝ) : EReal)
    rw [h0]
    exact Ideal.ofBits_zero .f32
  | n + 1, h, y => by
    refine (congrFun (accAt_later m c ⟨n + 1, h⟩ (Nat.succ_ne_zero n)) y).trans ?_
    exact accAdd_eq (flag_eq _) (blocks hE ⟨n + 1, h⟩) _ (accAt_eq hE n _) y

/-- The four result arrays, as the reals they hold. -/
def outDq (A : Args) : S2048x1024.Idx → EReal := fun y => ((A.dq (y 0).val (y 1).val : ℝ) : EReal)
def outDc (A : Args) : S2048x512.Idx → EReal := fun y => ((A.dc (y 0).val (y 1).val : ℝ) : EReal)
def outDp (A : Args) : S2048x512.Idx → EReal := fun y => ((A.dp (y 0).val (y 1).val : ℝ) : EReal)
def outAcc (A : Args) : S8x1024.Idx → EReal := fun y => ((A.acc 16 (y 0).val (y 1).val : ℝ) : EReal)

theorem final5 (hE : Entries A m c) : (dats m 0 c).arrAt 5 cfg0.N = outDq A :=
  (dats m 0 c).arrAt_eq_of_cover 5 (outDq A)
    (fun t _ => by
      show (cfg0.win 5).cut (grid0.coords t) ((dats m 0 c).after 5 t) = _
      rw [after_5]
      funext y
      rw [View.read_apply]
      refine (dqBlk_eq (flag_eq t) (blocks hE t) _).trans ?_
      have hi := index5 t
      show _ = ((A.dq _ _ : ℝ) : EReal)
      congr 2
      · show _ = win0_5.index t 0 * 128 + 1 * (y 0).val
        rw [hi.1]; show 128 * t.val + (y 0).val = _; omega
      · show _ = win0_5.index t 1 * 1024 + 1 * (y 1).val
        rw [hi.2]; show (y 1).val = _; omega)
    fun i => by
      have h0 : (i 0 : Nat) < 2048 := (i 0).isLt
      have h1 : (i 1 : Nat) < 1024 := (i 1).isLt
      have hN : cfg0.N = 16 := N_0
      refine ⟨⟨(i 0 : Nat) / 128, by omega⟩, flush0_5 _, ?_⟩
      generalize ht : (⟨(i 0 : Nat) / 128, _⟩ : Fin cfg0.N) = t
      have hv : t.val = (i 0 : Nat) / 128 := by rw [← ht]
      have hi := index5 t
      show i ∈ ((View.whole main_v2_0).slice (win0_5.rect t)).set
      rw [View.set_slice_whole, Rect.mem_set_unit]
      intro a
      match a with
      | ⟨0, _⟩ => show win0_5.index t 0 * 128 ≤ (i 0 : Nat) ∧ (i 0 : Nat) < win0_5.index t 0 * 128 + 128; rw [hi.1]; omega
      | ⟨1, _⟩ => show win0_5.index t 1 * 1024 ≤ (i 1 : Nat) ∧ (i 1 : Nat) < win0_5.index t 1 * 1024 + 1024; rw [hi.2]; omega

theorem final6 (hE : Entries A m c) : (dats m 0 c).arrAt 6 cfg0.N = outDc A :=
  (dats m 0 c).arrAt_eq_of_cover 6 (outDc A)
    (fun t _ => by
      show (cfg0.win 6).cut (grid0.coords t) ((dats m 0 c).after 6 t) = _
      rw [after_6]
      funext y
      rw [View.read_apply]
      refine (dcBlk_eq (flag_eq t) (blocks hE t) _).trans ?_
      have hi := index6 t
      show _ = ((A.dc _ _ : ℝ) : EReal)
      congr 2
      · show _ = win0_6.index t 0 * 128 + 1 * (y 0).val
        rw [hi.1]; show 128 * t.val + (y 0).val = _; omega
      · show _ = win0_6.index t 1 * 512 + 1 * (y 1).val
        rw [hi.2]; show (y 1).val = _; omega)
    fun i => by
      have h0 : (i 0 : Nat) < 2048 := (i 0).isLt
      have h1 : (i 1 : Nat) < 512 := (i 1).isLt
      have hN : cfg0.N = 16 := N_0
      refine ⟨⟨(i 0 : Nat) / 128, by omega⟩, flush0_6 _, ?_⟩
      generalize ht : (⟨(i 0 : Nat) / 128, _⟩ : Fin cfg0.N) = t
      have hv : t.val = (i 0 : Nat) / 128 := by rw [← ht]
      have hi := index6 t
      show i ∈ ((View.whole main_v2_1).slice (win0_6.rect t)).set
      rw [View.set_slice_whole, Rect.mem_set_unit]
      intro a
      match a with
      | ⟨0, _⟩ => show win0_6.index t 0 * 128 ≤ (i 0 : Nat) ∧ (i 0 : Nat) < win0_6.index t 0 * 128 + 128; rw [hi.1]; omega
      | ⟨1, _⟩ => show win0_6.index t 1 * 512 ≤ (i 1 : Nat) ∧ (i 1 : Nat) < win0_6.index t 1 * 512 + 512; rw [hi.2]; omega

theorem final7 (hE : Entries A m c) : (dats m 0 c).arrAt 7 cfg0.N = outDp A :=
  (dats m 0 c).arrAt_eq_of_cover 7 (outDp A)
    (fun t _ => by
      show (cfg0.win 7).cut (grid0.coords t) ((dats m 0 c).after 7 t) = _
      rw [after_7]
      funext y
      rw [View.read_apply]
      refine (dpBlk_eq (flag_eq t) (blocks hE t) _).trans ?_
      have hi := index7 t
      show _ = ((A.dp _ _ : ℝ) : EReal)
      congr 2
      · show _ = win0_7.index t 0 * 128 + 1 * (y 0).val
        rw [hi.1]; show 128 * t.val + (y 0).val = _; omega
      · show _ = win0_7.index t 1 * 512 + 1 * (y 1).val
        rw [hi.2]; show (y 1).val = _; omega)
    fun i => by
      have h0 : (i 0 : Nat) < 2048 := (i 0).isLt
      have h1 : (i 1 : Nat) < 512 := (i 1).isLt
      have hN : cfg0.N = 16 := N_0
      refine ⟨⟨(i 0 : Nat) / 128, by omega⟩, flush0_7 _, ?_⟩
      generalize ht : (⟨(i 0 : Nat) / 128, _⟩ : Fin cfg0.N) = t
      have hv : t.val = (i 0 : Nat) / 128 := by rw [← ht]
      have hi := index7 t
      show i ∈ ((View.whole main_v2_2).slice (win0_7.rect t)).set
      rw [View.set_slice_whole, Rect.mem_set_unit]
      intro a
      match a with
      | ⟨0, _⟩ => show win0_7.index t 0 * 128 ≤ (i 0 : Nat) ∧ (i 0 : Nat) < win0_7.index t 0 * 128 + 128; rw [hi.1]; omega
      | ⟨1, _⟩ => show win0_7.index t 1 * 512 ≤ (i 1 : Nat) ∧ (i 1 : Nat) < win0_7.index t 1 * 512 + 512; rw [hi.2]; omega

theorem final8 (hE : Entries A m c) : (dats m 0 c).arrAt 8 cfg0.N = outAcc A :=
  (dats m 0 c).arrAt_eq_of_cover 8 (outAcc A)
    (fun t hf => by
      show (cfg0.win 8).cut (grid0.coords t) ((dats m 0 c).after 8 t) = _
      rw [after_8]
      have h16 : t.val + 1 = 16 := by have := (flush0_8 t).mp hf; have := t_lt t; omega
      funext y
      rw [View.read_apply]
      refine (accAt_eq hE t.val t.isLt _).trans ?_
      have hi := index8 t
      rw [h16]
      show _ = ((A.acc 16 _ _ : ℝ) : EReal)
      congr 2
      · show _ = win0_8.index t 0 * 8 + 1 * (y 0).val
        rw [hi.1]; show (y 0).val = _; omega
      · show _ = win0_8.index t 1 * 1024 + 1 * (y 1).val
        rw [hi.2]; show (y 1).val = _; omega)
    fun i => by
      have h0 : (i 0 : Nat) < 8 := (i 0).isLt
      have h1 : (i 1 : Nat) < 1024 := (i 1).isLt
      have hN : cfg0.N = 16 := N_0
      refine ⟨⟨15, by omega⟩, (flush0_8 _).mpr rfl, ?_⟩
      generalize (⟨15, _⟩ : Fin cfg0.N) = t
      have hi := index8 t
      show i ∈ ((View.whole main_v2_3).slice (win0_8.rect t)).set
      rw [View.set_slice_whole, Rect.mem_set_unit]
      intro a
      match a with
      | ⟨0, _⟩ => show win0_8.index t 0 * 8 ≤ (i 0 : Nat) ∧ (i 0 : Nat) < win0_8.index t 0 * 8 + 8; rw [hi.1]; omega
      | ⟨1, _⟩ => show win0_8.index t 1 * 1024 ≤ (i 1 : Nat) ∧ (i 1 : Nat) < win0_8.index t 1 * 1024 + 1024; rw [hi.2]; omega

/-- The kernel's run on real arguments: its four results, and the arguments unchanged. -/
theorem run (A : Dev nD → Args) (hE : ∀ c, Entries (A c) m c) :
    θ_run defs (onTc (τ := τ) (main (F := Ideal))) ⟨m, fun _ => 0, ρ⟩ (fun r => ∀ c : Dev nD,
      r.2.mem ((c.tc : Thread nD τ).loc main_v2_0) = outDq (A c)
      ∧ r.2.mem ((c.tc : Thread nD τ).loc main_v2_1) = outDc (A c)
      ∧ r.2.mem ((c.tc : Thread nD τ).loc main_v2_2) = outDp (A c)
      ∧ r.2.mem ((c.tc : Thread nD τ).loc main_v2_3) = outAcc (A c)) :=
  (θ_run defs _ _).mono (fun _ h c => ⟨((h c).1 5).trans (final5 (hE c)), ((h c).1 6).trans (final6 (hE c)),
    ((h c).1 7).trans (final7 (hE c)), ((h c).1 8).trans (final8 (hE c))⟩) (run_main m ρ)

end Cert.KernelIdeal.Attn

end
-- ==== Proof.Attn.RefMask.lean ====
/- The two words of the reference's mask: a row's window of the band, and the cut where the sequence begins. -/
module

public import proofs.«01_k».proof.Proof.Gen.ReferenceIdeal.Read
public import Idealize.ShloMosaic.Lib.Tactic
public import Idealize.ShloMosaic.Lib.ValueIdx
public import Idealize.ShloMosaic.Lib.Pointwise.Tactic
public import Idealize.ShloMosaic.Lib.Pointwise.Contract
public import Idealize.ShloMosaic.Lib.Pointwise.Reduce
public import Idealize.ShloMosaic.Lib.Pointwise.Reshape
public import Idealize.ShloMosaic.Lib.Pointwise.Select
public import Idealize.ShloMosaic.Lib.Pointwise.Sums

@[expose] public section

set_option maxRecDepth 16384

noncomputable section

namespace Cert.ReferenceIdeal.Attn

open Cert.ReferenceIdeal Cert.ReferenceIdeal.Gen Cert.ReferenceIdeal.Read
open Idealize.ShloMosaic Idealize.ShloMosaic.TcCoe Idealize.ShloMosaic.Tactic

theorem row_word : ∀ (i : Fin 128) (j : Fin 256), val_main_v31 (F := Ideal) (ix2 i j) = if i.val < j.val ∧ j.val ≤ i.val + 128 then 1#1 else 0#1 := by
  intro i j
  pointwise [val_main_v31, val_main_v25, val_main_v23, val_main_v22, val_main_v21, val_main_v24, val_main_v20, val_main_v18, val_main_v17, val_main_v19, val_main_c_1, val_main_v30, val_main_v28, val_main_v29, val_main_v27, val_main_v26, val_main_c_2]
  revert i j
  decide +kernel

theorem block_word : ∀ (n : Fin 16) (j : Fin 256), val_main_v42 (F := Ideal) (ix3 n 0 j) = if n.val ≠ 0 ∨ 128 ≤ j.val then 1#1 else 0#1 := by
  intro n j
  pointwise [val_main_v42, val_main_v40, val_main_v36, val_main_v34, val_main_v33, val_main_v35, val_main_c_3, val_main_v41, val_main_v39, val_main_v37, val_main_v22, val_main_v21, val_main_v38, val_main_c_4]
  revert n j
  decide +kernel

end Cert.ReferenceIdeal.Attn

end
-- ==== Proof.Attn.Band.lean ====
/-
  The same gradient over the reals with one band of 256 keys per block in place of two runs of 128: the block before
  (zeros ahead of the first block), then the block itself. The forms a reverse-mode derivative takes, the shift of the
  exponentials arbitrary, are the forms of `Data`.
-/
module

public import proofs.«01_k».proof.Proof.Attn.Real

@[expose] public section

set_option maxRecDepth 16384

noncomputable section

namespace Cert.Attn

/-- Position `j` of the block before, and of the block itself, in the band. -/
def lo (j : Fin 128) : Fin 256 := ⟨j.val, by omega⟩
def hi (j : Fin 128) : Fin 256 := ⟨128 + j.val, by omega⟩

theorem sum_band {M : Type*} [AddCommMonoid M] (f : Fin 256 → M) : ∑ j, f j = ∑ j, f (lo j) + ∑ j, f (hi j) :=
  Fin.sum_univ_add (a := 128) (b := 128) f

/-- Row `g · 128 + i`: position `i` of query head `g`. -/
def join (g : Fin 4) (i : Fin 128) : Fin 512 := ⟨g.val * 128 + i.val, by omega⟩

theorem sum_rows {M : Type*} [AddCommMonoid M] (f : Fin 512 → M) : ∑ g : Fin 4, ∑ i : Fin 128, f (join g i) = ∑ R, f R := by
  rw [← Fintype.sum_prod_type' (f := fun (g : Fin 4) (i : Fin 128) => f (join g i))]
  refine Fintype.sum_equiv (finProdFinEquiv (m := 4) (n := 128)) _ _ fun x => congrArg f (Fin.ext ?_)
  show x.1.val * 128 + x.2.val = x.2.val + 128 * x.1.val
  ring

theorem sum_blocks {M : Type*} [AddCommMonoid M] (f : ℕ → M) : ∑ R : Fin 2048, f R.val = ∑ t ∈ Finset.range 16, ∑ j : Fin 128, f (128 * t + j.val) := by
  rw [Finset.sum_range, ← Fintype.sum_prod_type' (f := fun (t : Fin 16) (j : Fin 128) => f (128 * t.val + j.val))]
  refine (Fintype.sum_equiv (finProdFinEquiv (m := 16) (n := 128)) _ _ fun x => congrArg f ?_).symm
  show 128 * x.1.val + x.2.val = x.2.val + 128 * x.1.val
  ring

namespace Data

variable (H : Data)

/-- The band of keys and of values. -/
def bk (j : Fin 256) (c : Fin 64) : ℝ := if h : j.val < 128 then (if H.first then 0 else H.kp ⟨j.val, h⟩ c) else H.kc ⟨j.val - 128, by omega⟩ c
def bv (j : Fin 256) (c : Fin 64) : ℝ := if h : j.val < 128 then (if H.first then 0 else H.vp ⟨j.val, h⟩ c) else H.vc ⟨j.val - 128, by omega⟩ c
/-- Which keys of the band a row looks at. -/
def sees (i : Fin 512) (j : Fin 256) : Prop := (i.val % 128 < j.val ∧ j.val ≤ i.val % 128 + 128) ∧ (H.first = false ∨ 128 ≤ j.val)
instance (i : Fin 512) (j : Fin 256) : Decidable (H.sees i j) := inferInstanceAs (Decidable (_ ∧ _))
def score (i : Fin 512) (j : Fin 256) : ℝ := (∑ c, H.bk j c * H.q i c) * (1 / 8)
def exps (m : ℝ) (i : Fin 512) (j : Fin 256) : ℝ := if H.sees i j then Real.exp (H.score i j - m) else 0
def dens (m : ℝ) (i : Fin 512) : ℝ := ∑ j, H.exps m i j + Real.exp (H.sink i - m)
/-- The cotangents of the probabilities. -/
def cot (i : Fin 512) (j : Fin 256) : ℝ := ∑ c, H.d i c * H.bv j c
/-- The row's total of cotangent times exponential over the square of the denominator. -/
def back (m : ℝ) (i : Fin 512) : ℝ := ∑ j, H.cot i j * (1 / (H.dens m i * H.dens m i)) * H.exps m i j
/-- The gradient of the scores. -/
def grad (m : ℝ) (i : Fin 512) (j : Fin 256) : ℝ := (H.cot i j / H.dens m i + -H.back m i) * H.exps m i j

theorem seesP_iff (i : Fin 512) (j : Fin 128) : H.sees i (lo j) ↔ H.seesP i j := by
  have h : ¬ 128 ≤ j.val := by omega
  have h' : j.val ≤ i.val % 128 + 128 := by omega
  simp [sees, seesP, lo, h, h']

theorem seesC_iff (i : Fin 512) (j : Fin 128) : H.sees i (hi j) ↔ seesC i j := by
  have h : i.val % 128 < 128 + j.val := by omega
  simp only [sees, seesC, hi, h, true_and, Nat.le_add_right, or_true, and_true]
  omega

theorem bk_hi (j : Fin 128) (c : Fin 64) : H.bk (hi j) c = H.kc j c := by simp [bk, hi]
theorem bv_hi (j : Fin 128) (c : Fin 64) : H.bv (hi j) c = H.vc j c := by simp [bv, hi]
theorem bk_lo (j : Fin 128) (c : Fin 64) (h : H.first = false) : H.bk (lo j) c = H.kp j c := by simp [bk, lo, h]
theorem bv_lo (j : Fin 128) (c : Fin 64) (h : H.first = false) : H.bv (lo j) c = H.vp j c := by simp [bv, lo, h]

theorem exps_hi (m : ℝ) (i : Fin 512) (j : Fin 128) : H.exps m i (hi j) = H.expC m i j := by
  simp only [exps, expC, seesC_iff, score, scoreC, bk_hi, mul_comm (H.kc _ _)]

theorem exps_lo (m : ℝ) (i : Fin 512) (j : Fin 128) : H.exps m i (lo j) = H.expP m i j := by
  simp only [exps, expP, seesP_iff, score, scoreP]
  split
  · rename_i h
    simp only [H.bk_lo _ _ h.2, mul_comm (H.kp _ _)]
  · rfl

theorem dens_eq (m : ℝ) (i : Fin 512) : H.dens m i = H.den m i := by
  simp only [dens, den, sum_band, exps_lo, exps_hi]

theorem dens_ne (m : ℝ) (i : Fin 512) : H.dens m i ≠ 0 := H.dens_eq m i ▸ (H.den_pos m i).ne'

theorem prob_lo (m : ℝ) (i : Fin 512) (j : Fin 128) : H.exps m i (lo j) / H.dens m i = H.pP i j := by
  rw [exps_lo, dens_eq, pP_shift]
theorem prob_hi (m : ℝ) (i : Fin 512) (j : Fin 128) : H.exps m i (hi j) / H.dens m i = H.pC i j := by
  rw [exps_hi, dens_eq, pC_shift]
theorem prob_sink (m : ℝ) (i : Fin 512) : Real.exp (H.sink i - m) / H.dens m i = H.pS i := by
  rw [dens_eq, pS_shift]

theorem pP_first (i : Fin 512) (j : Fin 128) (h : H.first = true) : H.pP i j = 0 := by
  simp [pP, expP, seesP, h]

theorem cot_hi (i : Fin 512) (j : Fin 128) : H.cot i (hi j) = H.tC i j := by simp only [cot, tC, bv_hi]

theorem prob_cot (i : Fin 512) (j : Fin 128) : H.pP i j * H.cot i (lo j) = H.pP i j * H.tP i j := by
  cases h : H.first with
  | true => rw [H.pP_first i j h, zero_mul, zero_mul]
  | false => simp only [cot, tP, H.bv_lo _ _ h]

theorem back_eq (m : ℝ) (i : Fin 512) : H.back m i = H.total i / H.dens m i := by
  have hd := H.dens_ne m i
  have e : ∀ j, H.cot i j * (1 / (H.dens m i * H.dens m i)) * H.exps m i j = (H.exps m i j / H.dens m i * H.cot i j) / H.dens m i := fun j => by
    field_simp
  simp only [back, e, ← Finset.sum_div, sum_band, prob_lo, prob_hi, prob_cot, cot_hi]
  rfl

theorem grad_eq (m : ℝ) (i : Fin 512) (j : Fin 256) : H.grad m i j = H.exps m i j / H.dens m i * (H.cot i j - H.total i) := by
  have hd := H.dens_ne m i
  rw [grad, back_eq]
  field_simp
  ring

theorem grad_hi (m : ℝ) (i : Fin 512) (j : Fin 128) : H.grad m i (hi j) * (1 / 8) = H.dsC i j := by
  rw [grad_eq, prob_hi, cot_hi, dsC]

theorem grad_lo (m : ℝ) (i : Fin 512) (j : Fin 128) : H.grad m i (lo j) * (1 / 8) = H.dsP i j := by
  rw [grad_eq, prob_lo, dsP, mul_sub, mul_sub, prob_cot]

theorem dsP_first (i : Fin 512) (j : Fin 128) (h : H.first = true) : H.dsP i j = 0 := by
  simp [dsP, H.pP_first i j h]

theorem grad_unseen (m : ℝ) (i : Fin 512) (j : Fin 256) (h : ¬H.sees i j) : H.grad m i j = 0 := by
  simp [grad, exps, h]

/-- The probabilities of a row and of its sink sum to 1. -/
theorem prob_sum (m : ℝ) (i : Fin 512) : ∑ j, H.exps m i j / H.dens m i + H.pS i = 1 := by
  rw [← H.prob_sink m, ← Finset.sum_div, ← add_div]
  exact div_self (H.dens_ne m i)

theorem total_eq (m : ℝ) (i : Fin 512) : ∑ j, H.exps m i j / H.dens m i * H.cot i j = H.total i := by
  simp only [sum_band, prob_lo, prob_hi, prob_cot, cot_hi]; rfl

/-- The gradient of the sink's score is minus the row's part. -/
theorem back_sink (m : ℝ) (i : Fin 512) : -H.back m i * Real.exp (H.sink i - m) = -H.dsink i := by
  rw [back_eq, dsink, ← H.prob_sink m]
  ring

/-- The gradients of a row's scores and of its sink's sum to 0: moving every score alike changes nothing. -/
theorem grad_sum (m : ℝ) (i : Fin 512) : H.dsink i + ∑ j, -H.grad m i j = 0 := by
  simp only [grad_eq, mul_sub, Finset.sum_neg_distrib, Finset.sum_sub_distrib, total_eq, ← Finset.sum_mul]
  have h := H.prob_sum m i
  have e : ∑ j, H.exps m i j / H.dens m i = 1 - H.pS i := by linarith
  rw [e, dsink]
  ring

theorem dq_band (m : ℝ) (i : Fin 512) (c : Fin 64) : ∑ j, H.grad m i j * (1 / 8) * H.bk j c = H.dq i c := by
  simp only [sum_band, grad_lo, grad_hi, bk_hi]
  cases h : H.first with
  | true => simp only [dq, H.dsP_first _ _ h, zero_mul]
  | false => simp only [dq, H.bk_lo _ _ h]

end Data

end Cert.Attn

end
-- ==== Proof.Attn.RefRows.lean ====
/-
  The reference's rows at the extended reals, on real arguments: the band of keys and values, the scores where the row
  looks, and a finite shift of the exponentials.
-/
module

public import proofs.«01_k».proof.Proof.Attn.RefMask
public import proofs.«01_k».proof.Proof.Attn.Band
public import Idealize.ShloMosaic.Lib.Tactic
public import Idealize.ShloMosaic.Lib.ValueIdx
public import Idealize.ShloMosaic.Lib.Pointwise.Tactic
public import Idealize.ShloMosaic.Lib.Pointwise.Contract
public import Idealize.ShloMosaic.Lib.Pointwise.Reduce
public import Idealize.ShloMosaic.Lib.Pointwise.Reshape
public import Idealize.ShloMosaic.Lib.Pointwise.Select
public import Idealize.ShloMosaic.Lib.Pointwise.Sums

@[expose] public section

set_option maxRecDepth 16384

noncomputable section

namespace Cert.ReferenceIdeal.Attn

open Cert.ReferenceIdeal Cert.ReferenceIdeal.Gen Cert.ReferenceIdeal.Read Cert.Attn
open Idealize.ShloMosaic Idealize.ShloMosaic.TcCoe Idealize.ShloMosaic.Tactic

/-- The four arguments are the real numbers of `A`. -/
structure Reals (A : Args) (x0 : S2048x1024.Idx → EReal) (x1 : S2048x512.Idx → EReal) (x2 : S2048x1024.Idx → EReal) (x3 : S16.Idx → EReal) : Prop where
  q : ∀ y, x0 y = ((A.q (y 0).val (y 1).val : ℝ) : EReal)
  kv : ∀ y, x1 y = ((A.kv (y 0).val (y 1).val : ℝ) : EReal)
  d : ∀ y, x2 y = ((A.d (y 0).val (y 1).val : ℝ) : EReal)
  s : ∀ y, x3 y = ((A.s (y 0).val : ℝ) : EReal)

variable {A : Args} {x0 : S2048x1024.Idx → EReal} {x1 : S2048x512.Idx → EReal} {x2 : S2048x1024.Idx → EReal} {x3 : S16.Idx → EReal}

/-- The mask: the row's window, cut where the sequence begins. -/
theorem mask_eq (A : Args) (k g : Fin 4) (n : Fin 16) (i : Fin 128) (j : Fin 256) :
    val_main_v46_1 (F := Ideal) (ix5 k g n i j) = if (A.data n.val k.val).sees (join g i) j then 1#1 else 0#1 := by
  pointwise [val_main_v46_1, val_main_v45, val_main_v43, val_main_v32, val_main_v44]
  rw [row_word]
  refine (congrArg (IntOp.andi _) (block_word n j)).trans ?_
  have e : (A.data n.val k.val).sees (join g i) j ↔ (i.val < j.val ∧ j.val ≤ i.val + 128) ∧ (n.val ≠ 0 ∨ 128 ≤ j.val) := by
    have hr : (join g i).val % 128 = i.val := by show (g.val * 128 + i.val) % 128 = _; omega
    simp [Data.sees, hr, Args.data]
  simp only [e]
  split <;> split <;> simp_all [IntOp.andi]

theorem key_eq (h : Reals A x0 x1 x2 x3) (n : Fin 16) (j : Fin 256) (k : Fin 4) (c : Fin 64) :
    val_main_v6 (F := Ideal) x1 (ix4 n j k c) = (((A.data n.val k.val).bk j c : ℝ) : EReal) := by
  pointwise [val_main_v6, val_main_v5, val_main_v4, val_main_v3, val_main_v2, val_main_v0, val_main_call0_v0, val_main_c]
  by_cases hj : j.val < 128
  · rw [dif_pos hj]
    by_cases hn : n.val = 0
    · rw [dif_neg (by omega)]
      have hf : (A.data n.val k.val).first = true := by simp [Args.data, hn]
      simp only [Data.bk, dif_pos hj, hf, if_true]
      show (((0#32 : BitVec 32).toInt : ℝ) : EReal) = _
      simp
    · rw [dif_pos ⟨by omega, hj⟩]
      have hf : (A.data n.val k.val).first = false := by simp [Args.data, hn]
      refine (h.kv _).trans ?_
      simp only [Data.bk, dif_pos hj, hf, Bool.false_eq_true, if_false]
      show ((A.kv _ _ : ℝ) : EReal) = ((A.kv _ _ : ℝ) : EReal)
      congr 2
      · show (n.val - 1) * 128 + j.val = 128 * (n.val - 1) + j.val; ring
      · show k.val * 64 + c.val = 64 * k.val + c.val; ring
  · rw [dif_neg hj]
    refine (h.kv _).trans ?_
    simp only [Data.bk, dif_neg hj]
    show ((A.kv _ _ : ℝ) : EReal) = ((A.kv _ _ : ℝ) : EReal)
    congr 2
    · show n.val * 128 + (j.val - 128) = 128 * n.val + (j.val - 128); ring
    · show k.val * 64 + c.val = 64 * k.val + c.val; ring

theorem value_eq (h : Reals A x0 x1 x2 x3) (n : Fin 16) (j : Fin 256) (k : Fin 4) (c : Fin 64) :
    val_main_v11 (F := Ideal) x1 (ix4 n j k c) = (((A.data n.val k.val).bv j c : ℝ) : EReal) := by
  pointwise [val_main_v11, val_main_v10, val_main_v9, val_main_v8, val_main_v7, val_main_v1, val_main_call1_v0, val_main_c_0]
  by_cases hj : j.val < 128
  · rw [dif_pos hj]
    by_cases hn : n.val = 0
    · rw [dif_neg (by omega)]
      have hf : (A.data n.val k.val).first = true := by simp [Args.data, hn]
      simp only [Data.bv, dif_pos hj, hf, if_true]
      show (((0#32 : BitVec 32).toInt : ℝ) : EReal) = _
      simp
    · rw [dif_pos ⟨by omega, hj⟩]
      have hf : (A.data n.val k.val).first = false := by simp [Args.data, hn]
      refine (h.kv _).trans ?_
      simp only [Data.bv, dif_pos hj, hf, Bool.false_eq_true, if_false]
      show ((A.kv _ _ : ℝ) : EReal) = ((A.kv _ _ : ℝ) : EReal)
      congr 2
      · show (n.val - 1) * 128 + j.val = 128 * (n.val - 1) + j.val; ring
      · show 256 + (k.val * 64 + c.val) = 256 + 64 * k.val + c.val; ring
  · rw [dif_neg hj]
    refine (h.kv _).trans ?_
    simp only [Data.bv, dif_neg hj]
    show ((A.kv _ _ : ℝ) : EReal) = ((A.kv _ _ : ℝ) : EReal)
    congr 2
    · show n.val * 128 + (j.val - 128) = 128 * n.val + (j.val - 128); ring
    · show 256 + (k.val * 64 + c.val) = 256 + 64 * k.val + c.val; ring

theorem query_eq (h : Reals A x0 x1 x2 x3) (n : Fin 16) (i : Fin 128) (k g : Fin 4) (c : Fin 64) :
    val_main_v12 (F := Ideal) x0 (ix5 n i k g c) = (((A.data n.val k.val).q (join g i) c : ℝ) : EReal) := by
  pointwise [val_main_v12]
  refine (h.q _).trans ?_
  show ((A.q (n.val * 128 + i.val) (k.val * 256 + g.val * 64 + c.val) : ℝ) : EReal) = ((A.q (128 * n.val + (g.val * 128 + i.val) % 128) (64 * (4 * k.val + (g.val * 128 + i.val) / 128) + c.val) : ℝ) : EReal)
  congr 2 <;> omega

theorem dout_eq (h : Reals A x0 x1 x2 x3) (n : Fin 16) (i : Fin 128) (k g : Fin 4) (c : Fin 64) :
    val_main_v93 (F := Ideal) x2 (ix5 n k c g i) = (((A.data n.val k.val).d (join g i) c : ℝ) : EReal) := by
  pointwise [val_main_v93, val_main_v92]
  refine (h.d _).trans ?_
  show ((A.d (n.val * 128 + i.val) (k.val * 256 + g.val * 64 + c.val) : ℝ) : EReal) = ((A.d (128 * n.val + (g.val * 128 + i.val) % 128) (64 * (4 * k.val + (g.val * 128 + i.val) / 128) + c.val) : ℝ) : EReal)
  congr 2 <;> omega

theorem sink_eq (h : Reals A x0 x1 x2 x3) (n : Fin 16) (i : Fin 128) (k g : Fin 4) :
    val_main_v54 (F := Ideal) x3 (ix4 k g n i) = (((A.data n.val k.val).sink (join g i) : ℝ) : EReal) := by
  pointwise [val_main_v54, val_main_v47]
  refine (h.s _).trans ?_
  show ((A.s (k.val * 4 + g.val) : ℝ) : EReal) = ((A.s (4 * k.val + (g.val * 128 + i.val) / 128) : ℝ) : EReal)
  congr 2; omega

/-- The scores where the row looks, -∞ elsewhere. -/
theorem score_eq (h : Reals A x0 x1 x2 x3) (k g : Fin 4) (n : Fin 16) (i : Fin 128) (j : Fin 256) :
    val_main_v46_0 (F := Ideal) x0 x1 (ix5 k g n i j)
      = if (A.data n.val k.val).sees (join g i) j then (((A.data n.val k.val).score (join g i) j : ℝ) : EReal) else ⊥ := by
  have hs : val_main_v16 (F := Ideal) x0 x1 (ix5 k g n i j) = (((A.data n.val k.val).score (join g i) j : ℝ) : EReal) := by
    have hd : val_main_v14 (F := Ideal) x0 x1 (ix5 k g n i j) = (((∑ c, (A.data n.val k.val).bk j c * (A.data n.val k.val).q (join g i) c) : ℝ) : EReal) := by
      have hk := fun c => key_eq h n j k c
      have hq := fun c => query_eq h n i k g c
      unfold val_main_v14 val_main_v13
      generalize val_main_v6 (F := Ideal) x1 = y at hk
      generalize val_main_v12 (F := Ideal) x0 = z at hq
      pointwise
      simp only [hk, hq, ← EReal.coe_mul, ← coe_sum]
    rw [val_main_v16_apply, hd]
    show _ * Ideal.ofBits .f32 0x3E000000#32 = _
    rw [ofBits_eighth, ← EReal.coe_mul]
    rfl
  rw [val_main_v46_0_apply, mask_eq A, hs]
  split
  · rfl
  · exact ofBits_neg_inf

/-- The row's greatest score is a real number, and is attained. -/
theorem top_eq (h : Reals A x0 x1 x2 x3) (k g : Fin 4) (n : Fin 16) (i : Fin 128) :
    ∃ r : ℝ, val_main_v48 (F := Ideal) x0 x1 (ix4 k g n i) = r ∧ ∃ j, val_main_v46_0 (F := Ideal) x0 x1 (ix5 k g n i j) = r := by
  have hs := fun j => score_eq h k g n i j
  have ht : val_main_v48 (F := Ideal) x0 x1 (ix4 k g n i) = Finset.fold max ⊥ (fun j => val_main_v46_0 (F := Ideal) x0 x1 (ix5 k g n i j)) Finset.univ := by
    unfold val_main_v48
    generalize val_main_v46_0 (F := Ideal) x0 x1 = y
    rw [← ofBits_neg_inf]
    pointwise [val_main_cst_6]
  rw [ht]
  generalize val_main_v46_0 (F := Ideal) x0 x1 = y at *
  obtain ⟨j, hj⟩ := Finite.exists_max fun j => (y (ix5 k g n i j) : EReal)
  have hf : Finset.fold max ⊥ (fun j => (y (ix5 k g n i j) : EReal)) Finset.univ = y (ix5 k g n i j) :=
    le_antisymm ((Finset.fold_max_le _).2 ⟨bot_le, fun x _ => hj x⟩) ((Finset.le_fold_max _).2 (Or.inr ⟨j, Finset.mem_univ _, le_rfl⟩))
  have hi : (A.data n.val k.val).sees (join g i) (hi i) := by
    have hr : (join g i).val % 128 = i.val := by show (g.val * 128 + i.val) % 128 = _; omega
    rw [Data.seesC_iff, Data.seesC, hr]
  have hb : ∃ r : ℝ, (y (ix5 k g n i j) : EReal) = r := by
    rw [hs j]
    split
    · exact ⟨_, rfl⟩
    · rename_i hn
      have h1 := hj (Attn.hi i)
      dsimp only at h1
      rw [hs, hs, if_pos hi, if_neg hn] at h1
      exact absurd (le_bot_iff.1 h1) (EReal.coe_ne_bot _)
  obtain ⟨r, hr⟩ := hb
  exact ⟨r, hf.trans hr, j, hr⟩

/-- The shift of the row's exponentials, the greater of the row's greatest score and its sink, is a real number. -/
theorem shift_real (h : Reals A x0 x1 x2 x3) (k g : Fin 4) (n : Fin 16) (i : Fin 128) :
    ∃ r : ℝ, val_main_v55 (F := Ideal) x0 x1 x3 (ix4 k g n i) = r := by
  obtain ⟨r, hr, -⟩ := top_eq h k g n i
  refine ⟨max r ((A.data n.val k.val).sink (join g i)), ?_⟩
  rw [val_main_v55_apply, hr, sink_eq h]
  exact (EReal.coe_strictMono.monotone.map_max).symm

end Cert.ReferenceIdeal.Attn

end
-- ==== Proof.Attn.RefGrad.lean ====
/-
  The gradient of the scores in the reference, on real arguments. What the reverse mode sends through the row's greatest
  score is 0, since the gradients of a row's scores and of its sink's sum to 0.
-/
module

public import proofs.«01_k».proof.Proof.Attn.RefRows

@[expose] public section

set_option maxRecDepth 16384

noncomputable section

namespace Cert.ReferenceIdeal.Attn

open Cert.ReferenceIdeal Cert.ReferenceIdeal.Gen Cert.ReferenceIdeal.Read Cert.Attn
open Idealize.ShloMosaic Idealize.ShloMosaic.TcCoe Idealize.ShloMosaic.Tactic

variable {A : Args} {x0 : S2048x1024.Idx → EReal} {x1 : S2048x512.Idx → EReal} {x2 : S2048x1024.Idx → EReal} {x3 : S16.Idx → EReal}

/-- The shift at one row. -/
abbrev Shift (x0 : S2048x1024.Idx → EReal) (x1 : S2048x512.Idx → EReal) (x3 : S16.Idx → EReal) (k g : Fin 4) (n : Fin 16) (i : Fin 128) (m : ℝ) : Prop :=
  val_main_v55 (F := Ideal) x0 x1 x3 (ix4 k g n i) = (m : EReal)

section
variable {k g : Fin 4} {n : Fin 16} {i : Fin 128} {m : ℝ}

theorem exps_eq (h : Reals A x0 x1 x2 x3) (hm : Shift x0 x1 x3 k g n i m) (j : Fin 256) :
    val_main_v77 (F := Ideal) x0 x1 x3 (ix5 k g n i j) = (((A.data n.val k.val).exps m (join g i) j : ℝ) : EReal) := by
  have hs := score_eq h k g n i j
  unfold Shift at hm
  have ht : val_main_v75 (F := Ideal) x0 x1 x3 (ix5 k g n i j) = (m : EReal) := by
    unfold val_main_v75 val_main_v74
    generalize val_main_v55 (F := Ideal) x0 x1 x3 = y at hm
    pointwise
    exact hm
  rw [val_main_v77_apply, val_main_v76_apply, ht, hs]
  show Ideal.exp ((if _ then _ else _) - _) = _
  unfold Data.exps
  split
  · rw [← EReal.coe_sub, Ideal.exp_coe]
  · rw [EReal.bot_sub, Ideal.exp_bot, EReal.coe_zero]

theorem sink_exp (h : Reals A x0 x1 x2 x3) (hm : Shift x0 x1 x3 k g n i m) :
    val_main_v81 (F := Ideal) x0 x1 x3 (ix4 k g n i) = ((Real.exp ((A.data n.val k.val).sink (join g i) - m) : ℝ) : EReal) := by
  have hs := sink_eq h n i k g
  unfold Shift at hm
  have ht : val_main_v79 (F := Ideal) x3 (ix4 k g n i) = val_main_v54 (F := Ideal) x3 (ix4 k g n i) := by
    unfold val_main_v79 val_main_v54
    rfl
  rw [val_main_v81_apply, val_main_v80_apply, ht, hs, hm]
  show Ideal.exp (((_ : ℝ) : EReal) - ((_ : ℝ) : EReal)) = _
  rw [← EReal.coe_sub, Ideal.exp_coe]

theorem dens_eq (h : Reals A x0 x1 x2 x3) (hm : Shift x0 x1 x3 k g n i m) :
    val_main_v82 (F := Ideal) x0 x1 x3 (ix4 k g n i) = (((A.data n.val k.val).dens m (join g i) : ℝ) : EReal) := by
  have he := exps_eq h hm
  have ht : val_main_v78 (F := Ideal) x0 x1 x3 (ix4 k g n i) = ((∑ j, (A.data n.val k.val).exps m (join g i) j : ℝ) : EReal) := by
    unfold val_main_v78
    generalize val_main_v77 (F := Ideal) x0 x1 x3 = y at he
    pointwise [val_main_cst_14]
    simp only [he, coe_sum, Ideal.ofBits_zero, zero_add]
  rw [val_main_v82_apply, ht, sink_exp h hm]
  show _ + _ = _
  rw [← EReal.coe_add]
  rfl

theorem dens_row (h : Reals A x0 x1 x2 x3) (hm : Shift x0 x1 x3 k g n i m) :
    val_main_v83 (F := Ideal) x0 x1 x3 (ix5 k g n i 0) = (((A.data n.val k.val).dens m (join g i) : ℝ) : EReal) := by
  have he := dens_eq h hm
  unfold val_main_v83
  generalize val_main_v82 (F := Ideal) x0 x1 x3 = y at he
  pointwise
  exact he

theorem dens_col (h : Reals A x0 x1 x2 x3) (hm : Shift x0 x1 x3 k g n i m) (j : Fin 256) :
    val_main_v84 (F := Ideal) x0 x1 x3 (ix5 k g n i j) = (((A.data n.val k.val).dens m (join g i) : ℝ) : EReal) := by
  have he := dens_row h hm
  unfold val_main_v84
  generalize val_main_v83 (F := Ideal) x0 x1 x3 = y at he
  pointwise
  exact he

theorem prob_eq (h : Reals A x0 x1 x2 x3) (hm : Shift x0 x1 x3 k g n i m) (j : Fin 256) :
    val_main_v85 (F := Ideal) x0 x1 x3 (ix5 k g n i j) = (((A.data n.val k.val).exps m (join g i) j / (A.data n.val k.val).dens m (join g i) : ℝ) : EReal) := by
  rw [val_main_v85_apply, exps_eq h hm, dens_col h hm]
  exact div_real _ _ ((A.data n.val k.val).dens_ne m _)

theorem cot_eq (h : Reals A x0 x1 x2 x3) (j : Fin 256) :
    val_main_v95 (F := Ideal) x1 x2 (ix5 k g n i j) = (((A.data n.val k.val).cot (join g i) j : ℝ) : EReal) := by
  have hd := fun c => dout_eq h n i k g c
  have hv := fun c => value_eq h n j k c
  unfold val_main_v95 val_main_v94
  generalize val_main_v93 (F := Ideal) x2 = y at hd
  generalize val_main_v11 (F := Ideal) x1 = z at hv
  pointwise
  simp only [hd, hv, ← EReal.coe_mul, ← coe_sum]
  rfl

theorem back_eq (h : Reals A x0 x1 x2 x3) (hm : Shift x0 x1 x3 k g n i m) :
    val_main_v106 (F := Ideal) x0 x1 x2 x3 (ix4 k g n i) = ((-(A.data n.val k.val).back m (join g i) : ℝ) : EReal) := by
  have hinv : val_main_v88 (F := Ideal) x0 x1 x3 (ix5 k g n i 0) = ((1 / ((A.data n.val k.val).dens m (join g i) * (A.data n.val k.val).dens m (join g i)) : ℝ) : EReal) := by
    have h1 : val_main_v87 (F := Ideal) (ix5 k g n i 0) = ((1 : ℝ) : EReal) := by
      pointwise [val_main_v87, val_main_cst_15]
      rfl
    rw [val_main_v88_apply, val_main_v86_apply, dens_row h hm, h1]
    show Ideal.div _ (_ * _) = _
    rw [← EReal.coe_mul]
    exact div_real _ _ (mul_ne_zero ((A.data n.val k.val).dens_ne m _) ((A.data n.val k.val).dens_ne m _))
  have hterm : ∀ j, val_main_v100 (F := Ideal) x0 x1 x2 x3 (ix5 k g n i j) = (((A.data n.val k.val).cot (join g i) j * (1 / ((A.data n.val k.val).dens m (join g i) * (A.data n.val k.val).dens m (join g i))) * (A.data n.val k.val).exps m (join g i) j : ℝ) : EReal) := fun j => by
    have hb : val_main_v98 (F := Ideal) x0 x1 x3 (ix5 k g n i j) = val_main_v88 (F := Ideal) x0 x1 x3 (ix5 k g n i 0) := by
      unfold val_main_v98
      generalize val_main_v88 (F := Ideal) x0 x1 x3 = y
      pointwise
    rw [val_main_v100_apply, val_main_v99_apply, hb, hinv, cot_eq h, exps_eq h hm]
    show _ * _ * _ = _
    rw [← EReal.coe_mul, ← EReal.coe_mul]
  have hsum : val_main_v101 (F := Ideal) x0 x1 x2 x3 (ix4 k g n i) = (((A.data n.val k.val).back m (join g i) : ℝ) : EReal) := by
    unfold val_main_v101
    generalize val_main_v100 (F := Ideal) x0 x1 x2 x3 = y at hterm
    pointwise [val_main_cst_16]
    simp only [hterm, ← coe_sum, Ideal.ofBits_zero, zero_add]
    rfl
  have hneg : val_main_v103 (F := Ideal) x0 x1 x2 x3 (ix5 k g n i 0) = ((-(A.data n.val k.val).back m (join g i) : ℝ) : EReal) := by
    rw [val_main_v103_apply]
    unfold val_main_v102
    generalize val_main_v101 (F := Ideal) x0 x1 x2 x3 = y at hsum
    pointwise
    rw [hsum, EReal.coe_neg]
  unfold val_main_v106
  generalize val_main_v103 (F := Ideal) x0 x1 x2 x3 = y at hneg
  pointwise [val_main_cst_17]
  exact (Fin.sum_univ_one (M := EReal) _).trans hneg

/-- The gradient of the sink's score at one row. -/
theorem sink_grad (h : Reals A x0 x1 x2 x3) (k g : Fin 4) (n : Fin 16) (i : Fin 128) :
    val_main_v107 (F := Ideal) x0 x1 x2 x3 (ix4 k g n i) = ((-(A.data n.val k.val).dsink (join g i) : ℝ) : EReal) := by
  obtain ⟨m, hm⟩ := shift_real h k g n i
  rw [val_main_v107_apply, back_eq h hm, sink_exp h hm]
  show _ * _ = _
  rw [← EReal.coe_mul, Data.back_sink]

theorem grad_eq (h : Reals A x0 x1 x2 x3) (hm : Shift x0 x1 x3 k g n i m) (j : Fin 256) :
    val_main_v113 (F := Ideal) x0 x1 x2 x3 (ix5 k g n i j) = (((A.data n.val k.val).grad m (join g i) j : ℝ) : EReal) := by
  have hb := back_eq h hm
  have h1 : val_main_v111 (F := Ideal) x0 x1 x2 x3 (ix5 k g n i j) = ((-(A.data n.val k.val).back m (join g i) : ℝ) : EReal) := by
    unfold val_main_v111
    generalize val_main_v106 (F := Ideal) x0 x1 x2 x3 = y at hb
    pointwise
    exact hb
  have h2 : val_main_v104 (F := Ideal) x0 x1 x3 (ix5 k g n i j) = (((A.data n.val k.val).dens m (join g i) : ℝ) : EReal) := dens_col h hm j
  have h3 : val_main_v105 (F := Ideal) x0 x1 x2 x3 (ix5 k g n i j) = (((A.data n.val k.val).cot (join g i) j / (A.data n.val k.val).dens m (join g i) : ℝ) : EReal) := by
    rw [val_main_v105_apply, h2, cot_eq h]
    exact div_real _ _ ((A.data n.val k.val).dens_ne m _)
  rw [val_main_v113_apply, val_main_v112_apply, h3, h1, exps_eq h hm]
  show (_ + _) * _ = _
  rw [← EReal.coe_add, ← EReal.coe_mul]
  rfl

/-- What goes back through the row's shift is 0. -/
theorem through_shift (h : Reals A x0 x1 x2 x3) (k g : Fin 4) (n : Fin 16) (i : Fin 128) :
    val_main_v118 (F := Ideal) x0 x1 x2 x3 (ix4 k g n i) = 0 := by
  obtain ⟨m, hm⟩ := shift_real h k g n i
  have hg : ∀ j, val_main_v114 (F := Ideal) x0 x1 x2 x3 (ix5 k g n i j) = ((-(A.data n.val k.val).grad m (join g i) j : ℝ) : EReal) := fun j => by
    rw [val_main_v114_apply, grad_eq h hm, EReal.coe_neg]
    rfl
  have h1 : val_main_v115 (F := Ideal) x0 x1 x2 x3 (ix4 k g n i) = ((∑ j, -(A.data n.val k.val).grad m (join g i) j : ℝ) : EReal) := by
    unfold val_main_v115
    generalize val_main_v114 (F := Ideal) x0 x1 x2 x3 = y at hg
    pointwise [val_main_cst_19]
    simp only [hg, ← coe_sum, Ideal.ofBits_zero, zero_add]
  have h2 : val_main_v117 (F := Ideal) x0 x1 x2 x3 (ix4 k g n i) = ((∑ j, -(A.data n.val k.val).grad m (join g i) j : ℝ) : EReal) := by
    unfold val_main_v117 val_main_v116
    generalize val_main_v115 (F := Ideal) x0 x1 x2 x3 = y at h1
    pointwise [val_main_cst_20]
    exact (Fin.sum_univ_one (M := EReal) _).trans h1
  rw [val_main_v118_apply, val_main_v110_apply, h2, sink_grad h]
  show -_ + _ = _
  rw [← EReal.coe_neg, neg_neg, ← EReal.coe_add, Data.grad_sum, EReal.coe_zero]

/-- At least one score of a row is its greatest. -/
theorem count_ne (h : Reals A x0 x1 x2 x3) (k g : Fin 4) (n : Fin 16) (i : Fin 128) :
    val_main_v53 (F := Ideal) x0 x1 (ix4 k g n i) ≠ 0 := by
  obtain ⟨r, hr, j, hj⟩ := top_eq h k g n i
  have ht : ∀ j, val_main_v50 (F := Ideal) x0 x1 (ix5 k g n i j) = (r : EReal) := fun j => by
    unfold val_main_v50 val_main_v49
    generalize val_main_v48 (F := Ideal) x0 x1 = y at hr
    pointwise
    exact hr
  have hb : ∀ j, 0 ≤ val_main_v52 (F := Ideal) x0 x1 (ix5 k g n i j) := fun j => by
    rw [val_main_v52_apply]
    exact EReal.coe_nonneg.2 (Nat.cast_nonneg _)
  have h1 : val_main_v52 (F := Ideal) x0 x1 (ix5 k g n i j) = 1 := by
    rw [val_main_v52_apply, val_main_v51_apply, ht, hj]
    show ((((Ideal.cmp .oeq (r : EReal) r).toNat : ℕ) : ℝ) : EReal) = 1
    simp [Ideal.cmp]
  unfold val_main_v53
  generalize val_main_v52 (F := Ideal) x0 x1 = y at *
  pointwise [val_main_cst_7]
  intro h0
  have := Finset.single_le_sum (f := fun j => (y (ix5 k g n i j) : EReal)) (fun j _ => hb j) (Finset.mem_univ j)
  dsimp only at this
  rw [h1] at this
  rw [h0] at this
  exact absurd this (by norm_num)

theorem none_top (h : Reals A x0 x1 x2 x3) (j : Fin 256) :
    val_main_v126 (F := Ideal) x0 x1 x2 x3 (ix5 k g n i j) = 0 := by
  have h0 : val_main_v124 (F := Ideal) x0 x1 x2 x3 (ix4 k g n i) = 0 := by
    rw [val_main_v124_apply, val_main_v123_apply, through_shift h]
    show Ideal.div (0 * _) _ = 0
    rw [zero_mul, Ideal.div, if_neg (count_ne h k g n i), zero_mul]
  have h1 : val_main_v125 (F := Ideal) x0 x1 x2 x3 (ix5 k g n i j) = 0 := by
    unfold val_main_v125
    generalize val_main_v124 (F := Ideal) x0 x1 x2 x3 = y at h0
    pointwise
    exact h0
  rw [val_main_v126_apply, h1]
  show 0 * _ = (0 : EReal)
  rw [zero_mul]

end

/-- The scaled gradients of the scores; one shift serves a whole row. -/
theorem score_grad (h : Reals A x0 x1 x2 x3) (k g : Fin 4) (n : Fin 16) (i : Fin 128) :
    ∃ m : ℝ, ∀ j, val_main_v131 (F := Ideal) x0 x1 x2 x3 (ix5 k g n i j) = (((A.data n.val k.val).grad m (join g i) j * (1 / 8) : ℝ) : EReal) := by
  obtain ⟨m, hm⟩ := shift_real h k g n i
  refine ⟨m, fun j => ?_⟩
  have h0 : val_main_call3_v0 (F := Ideal) (ix5 k g n i j) = ((0 : ℝ) : EReal) := by
    pointwise [val_main_call3_v0, val_main_call3_cst]
    rfl
  have h1 : val_main_v129 (F := Ideal) x0 x1 x2 x3 (ix5 k g n i j) = (((A.data n.val k.val).grad m (join g i) j : ℝ) : EReal) := by
    rw [val_main_v129_apply, mask_eq A, val_main_v127_apply, grad_eq h hm, none_top h, h0]
    split
    · exact add_zero _
    · rename_i hn
      rw [(A.data n.val k.val).grad_unseen m _ _ hn]
      rfl
  rw [val_main_v131_apply, h1]
  show _ * val_main_v130 (F := Ideal) _ = _
  have h8 : val_main_v130 (F := Ideal) (ix5 k g n i j) = ((1 / 8 : ℝ) : EReal) := by
    pointwise [val_main_v130, val_main_cst_22]
    exact ofBits_eighth
  rw [h8, ← EReal.coe_mul]

/-- The probabilities, whatever the shift. -/
theorem probs (h : Reals A x0 x1 x2 x3) (k g : Fin 4) (n : Fin 16) (i : Fin 128) :
    ∃ m : ℝ, ∀ j, val_main_v85 (F := Ideal) x0 x1 x3 (ix5 k g n i j) = (((A.data n.val k.val).exps m (join g i) j / (A.data n.val k.val).dens m (join g i) : ℝ) : EReal) := by
  obtain ⟨m, hm⟩ := shift_real h k g n i
  exact ⟨m, fun j => prob_eq h hm j⟩

end Cert.ReferenceIdeal.Attn

end
-- ==== Proof.Attn.RefOut.lean ====
/-
  The reference's four results on real arguments: the gradients of the queries, of the keys and values by own block and by
  block before, and the table whose row 0 sums the first over its rows and whose row 1 begins with the gradient of the sinks.
-/
module

public import proofs.«01_k».proof.Proof.Attn.RefGrad
public import Idealize.ShloMosaic.Lib.Routing.OpsPair
public import Idealize.ShloMosaic.Lib.Routing.OpsSet

@[expose] public section

set_option maxRecDepth 16384

noncomputable section

namespace Cert.ReferenceIdeal.Attn

open Cert.ReferenceIdeal Cert.ReferenceIdeal.Gen Cert.ReferenceIdeal.Read Cert.Attn
open Idealize.ShloMosaic Idealize.ShloMosaic.TcCoe Idealize.ShloMosaic.Tactic Idealize.ShloMosaic.Routing

variable {A : Args} {x0 : S2048x1024.Idx → EReal} {x1 : S2048x512.Idx → EReal} {x2 : S2048x1024.Idx → EReal} {x3 : S16.Idx → EReal}

/-- The gradient of the queries, by block, position and heads. -/
theorem queries (h : Reals A x0 x1 x2 x3) (n : Fin 16) (i : Fin 128) (k g : Fin 4) (c : Fin 64) :
    val_main_v134 (F := Ideal) x0 x1 x2 x3 (ix5 n i k g c) = (((A.data n.val k.val).dq (join g i) c : ℝ) : EReal) := by
  obtain ⟨m, hm⟩ := score_grad h k g n i
  have hk := fun j => key_eq h n j k c
  unfold val_main_v134 val_main_v133 val_main_v132
  generalize val_main_v131 (F := Ideal) x0 x1 x2 x3 = y at hm
  generalize val_main_v6 (F := Ideal) x1 = z at hk
  pointwise
  simp only [hm, hk, ← EReal.coe_mul, ← coe_sum, Data.dq_band]

/-- The gradient of the keys, of the block before and of the block itself. -/
theorem keys (h : Reals A x0 x1 x2 x3) (n : Fin 16) (j : Fin 128) (k : Fin 4) (c : Fin 64) :
    val_main_v136 (F := Ideal) x0 x1 x2 x3 (ix4 n (lo j) k c) = (((A.data n.val k.val).dkp j c : ℝ) : EReal)
    ∧ val_main_v136 (F := Ideal) x0 x1 x2 x3 (ix4 n (hi j) k c) = (((A.data n.val k.val).dkc j c : ℝ) : EReal) := by
  have hm := fun g i => score_grad h k g n i
  choose m hm using hm
  have hq := fun i g => query_eq h n i k g c
  unfold val_main_v136 val_main_v135 val_main_v132
  generalize val_main_v131 (F := Ideal) x0 x1 x2 x3 = y at hm
  generalize val_main_v12 (F := Ideal) x0 = z at hq
  constructor
  · pointwise
    rw [Finset.sum_comm]
    simp only [hm, hq, Data.grad_lo, ← EReal.coe_mul, ← coe_sum]
    exact congrArg _ (sum_rows fun R => (A.data n.val k.val).dsP R j * (A.data n.val k.val).q R c)
  · pointwise
    rw [Finset.sum_comm]
    simp only [hm, hq, Data.grad_hi, ← EReal.coe_mul, ← coe_sum]
    exact congrArg _ (sum_rows fun R => (A.data n.val k.val).dsC R j * (A.data n.val k.val).q R c)

/-- The gradient of the values. -/
theorem values (h : Reals A x0 x1 x2 x3) (n : Fin 16) (j : Fin 128) (k : Fin 4) (c : Fin 64) :
    val_main_v97 (F := Ideal) x0 x1 x2 x3 (ix4 n (lo j) k c) = (((A.data n.val k.val).dvp j c : ℝ) : EReal)
    ∧ val_main_v97 (F := Ideal) x0 x1 x2 x3 (ix4 n (hi j) k c) = (((A.data n.val k.val).dvc j c : ℝ) : EReal) := by
  have hm := fun g i => probs h k g n i
  choose m hm using hm
  have hd := fun i g => dout_eq h n i k g c
  unfold val_main_v97 val_main_v96
  generalize val_main_v85 (F := Ideal) x0 x1 x3 = y at hm
  generalize val_main_v93 (F := Ideal) x2 = z at hd
  constructor
  · pointwise
    simp only [hm, hd, Data.prob_lo, mul_comm (((A.data n.val k.val).d _ _ : ℝ) : EReal), ← EReal.coe_mul, ← coe_sum]
    exact congrArg _ (sum_rows fun R => (A.data n.val k.val).pP R j * (A.data n.val k.val).d R c)
  · pointwise
    simp only [hm, hd, Data.prob_hi, mul_comm (((A.data n.val k.val).d _ _ : ℝ) : EReal), ← EReal.coe_mul, ← coe_sum]
    exact congrArg _ (sum_rows fun R => (A.data n.val k.val).pC R j * (A.data n.val k.val).d R c)

theorem out_dq (h : Reals A x0 x1 x2 x3) (R : Fin 2048) (C : Fin 1024) :
    val_main_v137 (F := Ideal) x0 x1 x2 x3 (ix2 R C) = ((A.dq R.val C.val : ℝ) : EReal) := by
  have hy := fun n i k g c => queries h n i k g c
  unfold val_main_v137
  generalize val_main_v134 (F := Ideal) x0 x1 x2 x3 = y at hy
  pointwise
  rw [hy]
  unfold Args.dq
  congr 2

theorem out_dc (h : Reals A x0 x1 x2 x3) (R : Fin 2048) (C : Fin 512) :
    val_main_v142 (F := Ideal) x0 x1 x2 x3 (ix2 R C) = ((A.dc R.val C.val : ℝ) : EReal) := by
  have hy := fun n j k c => (keys h n j k c).2
  have hz := fun n j k c => (values h n j k c).2
  unfold val_main_v142 val_main_v139 val_main_v141 val_main_v138 val_main_v140
  generalize val_main_v136 (F := Ideal) x0 x1 x2 x3 = y at hy
  generalize val_main_v97 (F := Ideal) x0 x1 x2 x3 = z at hz
  pointwise
  unfold Args.dc
  split
  · refine (hy ⟨R.val / 128, by omega⟩ ⟨R.val % 128, by omega⟩ ⟨C.val / 64, by omega⟩ ⟨C.val % 64, by omega⟩).trans ?_
    rfl
  · refine (hz ⟨R.val / 128, by omega⟩ ⟨R.val % 128, by omega⟩ ⟨(C.val - 256) / 64, by omega⟩ ⟨(C.val - 256) % 64, by omega⟩).trans ?_
    have e1 : (C.val - 256) / 64 = C.val / 64 - 4 := by omega
    have e2 : (⟨(C.val - 256) % 64, by omega⟩ : Fin 64) = Args.lane C.val := Fin.ext (by show (C.val - 256) % 64 = C.val % 64; omega)
    rw [e2]
    show (((A.data (R.val / 128) ((C.val - 256) / 64)).dvc _ _ : ℝ) : EReal) = _
    rw [e1]
    rfl

theorem out_dp (h : Reals A x0 x1 x2 x3) (R : Fin 2048) (C : Fin 512) :
    val_main_v147 (F := Ideal) x0 x1 x2 x3 (ix2 R C) = ((A.dp R.val C.val : ℝ) : EReal) := by
  have hy := fun n j k c => (keys h n j k c).1
  have hz := fun n j k c => (values h n j k c).1
  unfold val_main_v147 val_main_v144 val_main_v146 val_main_v143 val_main_v145
  generalize val_main_v136 (F := Ideal) x0 x1 x2 x3 = y at hy
  generalize val_main_v97 (F := Ideal) x0 x1 x2 x3 = z at hz
  pointwise
  unfold Args.dp
  split
  · refine (hy ⟨R.val / 128, by omega⟩ ⟨R.val % 128, by omega⟩ ⟨C.val / 64, by omega⟩ ⟨C.val % 64, by omega⟩).trans ?_
    rfl
  · refine (hz ⟨R.val / 128, by omega⟩ ⟨R.val % 128, by omega⟩ ⟨(C.val - 256) / 64, by omega⟩ ⟨(C.val - 256) % 64, by omega⟩).trans ?_
    have e1 : (C.val - 256) / 64 = C.val / 64 - 4 := by omega
    have e2 : (⟨(C.val - 256) % 64, by omega⟩ : Fin 64) = Args.lane C.val := Fin.ext (by show (C.val - 256) % 64 = C.val % 64; omega)
    rw [e2]
    show (((A.data (R.val / 128) ((C.val - 256) / 64)).dvp _ _ : ℝ) : EReal) = _
    rw [e1]
    rfl

/-- The gradient of the sinks. -/
theorem out_ds (h : Reals A x0 x1 x2 x3) (s : Fin 16) :
    val_main_v128 (F := Ideal) x0 x1 x2 x3 (ix1 s) = ((∑ t ∈ Finset.range 16, A.ds t s.val : ℝ) : EReal) := by
  have hy := fun k g n i => sink_grad h k g n i
  have hz : ∀ k g n i, val_main_v119 (F := Ideal) x0 x1 x2 x3 (ix4 k g n i) = 0 := fun k g n i => by
    rw [val_main_v119_apply, through_shift h]
    exact zero_mul _
  unfold val_main_v128 val_main_v122 val_main_v109 val_main_v121 val_main_v108 val_main_v120
  generalize val_main_v107 (F := Ideal) x0 x1 x2 x3 = y at hy
  generalize val_main_v119 (F := Ideal) x0 x1 x2 x3 = z at hz
  pointwise [val_main_cst_18, val_main_cst_21]
  simp only [hy, hz, Finset.sum_const_zero, add_zero, ← coe_sum]
  refine congrArg _ ?_
  rw [Finset.sum_range]
  refine Finset.sum_congr rfl fun t _ => ?_
  rw [Args.ds, Finset.sum_neg_distrib]
  refine congrArg _ (Finset.sum_congr rfl fun j _ => congrArg _ (Fin.ext ?_))
  show s.val % 4 * 128 + j.val = s.val % 4 * 128 + j.val % 128
  omega

/-- The gradient of the queries, summed over its rows. -/
theorem out_sum (h : Reals A x0 x1 x2 x3) (C : Fin 1024) :
    val_main_v149 (F := Ideal) x0 x1 x2 x3 (ix1 C) = ((∑ t ∈ Finset.range 16, ∑ j : Fin 128, A.dq (128 * t + j.val) C.val : ℝ) : EReal) := by
  have hy := fun R => out_dq h R C
  unfold val_main_v149
  generalize val_main_v137 (F := Ideal) x0 x1 x2 x3 = y at hy
  pointwise [val_main_cst_24]
  simp only [hy, ← coe_sum]
  exact congrArg _ (sum_blocks fun R => A.dq R C.val)

/-- Where a row set at row 0 lands. -/
theorem row_lands (idx : IVec S1 32) (hidx : idx (ix1 0) = 0#32) (C' : Fin 1024) (R : Fin 8) (C : Fin 1024) :
    scatter_S8x1024_S1_S1024_0_0_0_0.resultIdx? (ix1 C') idx = some (ix2 R C) ↔ R.val = 0 ∧ C' = C := by
  have w0 : scatter_S8x1024_S1_S1024_0_0_0_0.window (ix1 C') 0 = 0 := rfl
  have w1 : scatter_S8x1024_S1_S1024_0_0_0_0.window (ix1 C') 1 = C'.val := rfl
  have s0 : scatter_S8x1024_S1_S1024_0_0_0_0.start (ix1 C') idx 0 = 0 := by
    have e : ∀ i, (idx i).toInt = 0 := fun i => by
      rw [show i = ix1 0 from funext fun a => by match a with | ⟨0, _⟩ => exact Subsingleton.elim (α := Fin 1) _ _, hidx]; rfl
    unfold ScatterDims.start
    split
    · exact e _
    · rfl
  have s1 : scatter_S8x1024_S1_S1024_0_0_0_0.start (ix1 C') idx 1 = 0 := rfl
  refine (resultIdx?_ix2 (R := 8) (C := 1024) _ _ _ _ _).trans ?_
  rw [w0, w1, s0, s1, Fin.ext_iff]
  omega

/-- Where sixteen entries set at row 1 land. -/
theorem sinks_land (idx : IVec S2 32) (h0 : idx (ix1 0) = 1#32) (h1 : idx (ix1 1) = 0#32) (s : Fin 16) (R : Fin 8) (C : Fin 1024) :
    scatter_S8x1024_S2_S16_0_0_01_0.resultIdx? (ix1 s) idx = some (ix2 R C) ↔ R.val = 1 ∧ s.val = C.val := by
  have w0 : scatter_S8x1024_S2_S16_0_0_01_0.window (ix1 s) 0 = 0 := rfl
  have w1 : scatter_S8x1024_S2_S16_0_0_01_0.window (ix1 s) 1 = s.val := rfl
  have s0 : scatter_S8x1024_S2_S16_0_0_01_0.start (ix1 s) idx 0 = 1 := by
    refine (congrArg BitVec.toInt (?_ : _ = idx (ix1 0))).trans (by rw [h0]; rfl)
    refine congrArg idx (funext fun a => ?_)
    match a with
    | ⟨0, _⟩ => rfl
  have s1 : scatter_S8x1024_S2_S16_0_0_01_0.start (ix1 s) idx 1 = 0 := by
    refine (congrArg BitVec.toInt (?_ : _ = idx (ix1 1))).trans (by rw [h1]; rfl)
    refine congrArg idx (funext fun a => ?_)
    match a with
    | ⟨0, _⟩ => rfl
  refine (resultIdx?_ix2 (R := 8) (C := 1024) _ _ _ _ _).trans ?_
  rw [w0, w1, s0, s1]
  omega

theorem out_acc (h : Reals A x0 x1 x2 x3) (R : Fin 8) (C : Fin 1024) :
    val_main_v155 (F := Ideal) x0 x1 x2 x3 (ix2 R C) = ((A.acc 16 R.val C.val : ℝ) : EReal) := by
  have hs := out_ds h
  have hq := out_sum h
  have i0 : val_main_v150 (F := Ideal) (ix1 0) = 0#32 := by pointwise [val_main_v150, val_main_c_25]
  have i1 : val_main_v154 (F := Ideal) (ix1 0) = 1#32 := by pointwise [val_main_v154, val_main_v152, val_main_v153, val_main_c_26, val_main_c_27]
  have i2 : val_main_v154 (F := Ideal) (ix1 1) = 0#32 := by pointwise [val_main_v154, val_main_v152, val_main_v153, val_main_c_26, val_main_c_27]
  have hz : val_main_v148 (F := Ideal) (ix2 R C) = 0 := by pointwise [val_main_v148, val_main_cst_23]
  unfold val_main_v155 val_main_v151
  generalize val_main_v128 (F := Ideal) x0 x1 x2 x3 = y at hs
  generalize val_main_v149 (F := Ideal) x0 x1 x2 x3 = z at hq
  generalize val_main_v150 (F := Ideal) = a at i0
  generalize val_main_v154 (F := Ideal) = b at i1 i2
  generalize val_main_v148 (F := Ideal) = e at hz
  unfold Args.acc
  by_cases hr1 : R.val = 1 ∧ C.val < 16
  · rw [if_neg (by omega), if_pos hr1]
    refine scatter_set_hit _ _ _ _ _ _ (fun k hk => ?_) (ix1 ⟨C.val, hr1.2⟩) ((sinks_land b i1 i2 _ _ _).2 ⟨hr1.1, rfl⟩)
    obtain ⟨s, rfl⟩ : ∃ s : Fin 16, k = ix1 s := ⟨k 0, eq_ix1 k⟩
    rw [hs, ((sinks_land b i1 i2 _ _ _).1 hk).2]
  · refine (scatter_set_miss _ _ _ _ _ fun k hk => ?_).trans ?_
    · rw [eq_ix1 k] at hk
      have := (sinks_land b i1 i2 _ _ _).1 hk
      exact hr1 ⟨this.1, this.2 ▸ (k 0).isLt⟩
    · by_cases hr0 : R.val = 0
      · rw [if_pos hr0]
        refine scatter_set_hit _ _ _ _ _ _ (fun k hk => ?_) (ix1 C) ((row_lands a i0 _ _ _).2 ⟨hr0, rfl⟩)
        obtain ⟨s, rfl⟩ : ∃ s : Fin 1024, k = ix1 s := ⟨k 0, eq_ix1 k⟩
        rw [hq, ((row_lands a i0 _ _ _).1 hk).2]
      · rw [if_neg hr0, if_neg hr1]
        refine (scatter_set_miss _ _ _ _ _ fun k hk => ?_).trans hz
        rw [eq_ix1 k] at hk
        exact hr0 ((row_lands a i0 _ _ _).1 hk).1

end Cert.ReferenceIdeal.Attn

end
-- ==== Proof.Attn.Finite.lean ====
/-
  The precondition read: every entry of the four arguments is a real number.
-/
module

public import proofs.«01_k».proof.Defs
public import proofs.«01_k».proof.Proof.Gen.Pre_finite
public import proofs.«01_k».proof.Proof.Attn.Real
public import Idealize.ShloMosaic.Lib.ReduceAll
public import Idealize.ShloMosaic.Lib.ValueIdx

@[expose] public section

set_option maxRecDepth 16384

noncomputable section

namespace Cert.Attn

open Idealize.ShloMosaic Idealize.ShloMosaic.ValueIdx Idealize.ShloMosaic.TcCoe Cert.Pre_finite

theorem real_of_lt (x : EReal) (h : Ideal.cmp .olt (max x (-x)) (Ideal.ofBits .f32 0x7F800000#32) = 1#1) : ((x.toReal : ℝ) : EReal) = x := by
  have ht : Ideal.ofBits .f32 0x7F800000#32 = ⊤ := by simp [Ideal.ofBits, Ideal.ieee]
  have hl : max x (-x) < ⊤ := by
    rw [ht] at h
    by_contra hn
    simp [Ideal.cmp, hn] at h
  refine EReal.coe_toReal (fun e => ?_) (fun e => ?_)
  · rw [e] at hl; simp at hl
  · rw [e] at hl; simp at hl

theorem and_one {a b : BitVec 1} (h : IntOp.andi a b = 1#1) : a = 1#1 ∧ b = 1#1 := by
  revert h; revert a b; decide

theorem finite_entries (x0 : S2048x1024.Idx → EReal) (x1 : S2048x512.Idx → EReal) (x2 : S2048x1024.Idx → EReal) (x3 : S16.Idx → EReal)
    (h : Cert.Pre_finite.fn (F := Ideal) x0 x1 x2 x3 = fun _ => 1#1) :
    (∀ y, (((x0 y).toReal : ℝ) : EReal) = x0 y) ∧ (∀ y, (((x1 y).toReal : ℝ) : EReal) = x1 y)
      ∧ (∀ y, (((x2 y).toReal : ℝ) : EReal) = x2 y) ∧ ∀ y, (((x3 y).toReal : ℝ) : EReal) = x3 y := by
  have : Subsingleton S_.Idx := ⟨fun a b => funext fun i => i.elim0⟩
  have e := congrFun h (fun a => a.elim0)
  obtain ⟨e, h3⟩ := and_one e
  obtain ⟨e, h2⟩ := and_one e
  obtain ⟨h0, h1⟩ := and_one e
  exact ⟨fun y => real_of_lt _ (Host.reduce_andi_all _ _ _ _ _ h0 y), fun y => real_of_lt _ (Host.reduce_andi_all _ _ _ _ _ h1 y),
    fun y => real_of_lt _ (Host.reduce_andi_all _ _ _ _ _ h2 y), fun y => real_of_lt _ (Host.reduce_andi_all _ _ _ _ _ h3 y)⟩

/-- The real numbers of four arrays. -/
def reals (x0 : S2048x1024.Idx → EReal) (x1 : S2048x512.Idx → EReal) (x2 : S2048x1024.Idx → EReal) (x3 : S16.Idx → EReal) : Args where
  q r c := if h : r < 2048 ∧ c < 1024 then (x0 (ix2 ⟨r, h.1⟩ ⟨c, h.2⟩)).toReal else 0
  kv r c := if h : r < 2048 ∧ c < 512 then (x1 (ix2 ⟨r, h.1⟩ ⟨c, h.2⟩)).toReal else 0
  d r c := if h : r < 2048 ∧ c < 1024 then (x2 (ix2 ⟨r, h.1⟩ ⟨c, h.2⟩)).toReal else 0
  s r := if h : r < 16 then (x3 (ix1 ⟨r, h⟩)).toReal else 0

section
variable (x0 : S2048x1024.Idx → EReal) (x1 : S2048x512.Idx → EReal) (x2 : S2048x1024.Idx → EReal) (x3 : S16.Idx → EReal)

theorem reals_q (h : ∀ y, (((x0 y).toReal : ℝ) : EReal) = x0 y) (y : S2048x1024.Idx) : x0 y = (((reals x0 x1 x2 x3).q (y 0).val (y 1).val : ℝ) : EReal) := by
  have e : ix2 (n0 := 2048) (n1 := 1024) ⟨(y 0).val, (y 0).isLt⟩ ⟨(y 1).val, (y 1).isLt⟩ = y := (eq_ix2 y).symm
  refine (h y).symm.trans (congrArg _ ?_)
  show _ = dite _ _ _
  rw [dif_pos ⟨(y 0).isLt, (y 1).isLt⟩]
  exact congrArg (fun t => (x0 t).toReal) e.symm

theorem reals_kv (h : ∀ y, (((x1 y).toReal : ℝ) : EReal) = x1 y) (y : S2048x512.Idx) : x1 y = (((reals x0 x1 x2 x3).kv (y 0).val (y 1).val : ℝ) : EReal) := by
  have e : ix2 (n0 := 2048) (n1 := 512) ⟨(y 0).val, (y 0).isLt⟩ ⟨(y 1).val, (y 1).isLt⟩ = y := (eq_ix2 y).symm
  refine (h y).symm.trans (congrArg _ ?_)
  show _ = dite _ _ _
  rw [dif_pos ⟨(y 0).isLt, (y 1).isLt⟩]
  exact congrArg (fun t => (x1 t).toReal) e.symm

theorem reals_d (h : ∀ y, (((x2 y).toReal : ℝ) : EReal) = x2 y) (y : S2048x1024.Idx) : x2 y = (((reals x0 x1 x2 x3).d (y 0).val (y 1).val : ℝ) : EReal) := by
  have e : ix2 (n0 := 2048) (n1 := 1024) ⟨(y 0).val, (y 0).isLt⟩ ⟨(y 1).val, (y 1).isLt⟩ = y := (eq_ix2 y).symm
  refine (h y).symm.trans (congrArg _ ?_)
  show _ = dite _ _ _
  rw [dif_pos ⟨(y 0).isLt, (y 1).isLt⟩]
  exact congrArg (fun t => (x2 t).toReal) e.symm

theorem reals_s (h : ∀ y, (((x3 y).toReal : ℝ) : EReal) = x3 y) (y : S16.Idx) : x3 y = (((reals x0 x1 x2 x3).s (y 0).val : ℝ) : EReal) := by
  have e : ix1 (n := 16) ⟨(y 0).val, (y 0).isLt⟩ = y := (eq_ix1 y).symm
  refine (h y).symm.trans (congrArg _ ?_)
  show _ = dite _ _ _
  rw [dif_pos (show (y 0).val < 16 from (y 0).isLt)]
  exact congrArg (fun t => (x3 t).toReal) e.symm

end

end Cert.Attn

end
-- ==== Proof.Ffn.Base.lean ====
/-
  What the modules on single matrix products share: the tools they read values with, and the splitting of a sum over
  two halves.
-/
module

public import proofs.«01_k».proof.Defs
public import Idealize.ShloMosaic.Lib.Pipeline.ValueKit
public import Idealize.ShloMosaic.Lib.StableHlo.Run
public import Idealize.ShloMosaic.Lib.Tactic
public import Idealize.ShloMosaic.Lib.ValueIdx
public import Idealize.ShloMosaic.Lib.Pointwise.Tactic
public import Idealize.ShloMosaic.Lib.Pointwise.Contract
public import Idealize.ShloMosaic.Lib.Pointwise.Reduce
public import Idealize.ShloMosaic.Lib.Pointwise.Reshape
public import Idealize.ShloMosaic.Lib.Pointwise.Select
public import Idealize.ShloMosaic.Lib.Pointwise.Sums
public import Idealize.ShloMosaic.Adequacy
public import Idealize.ShloMosaic.Init

@[expose] public section

noncomputable section

namespace Cert.Ffn

open Idealize.ShloMosaic

/-- A sum over the 5632 columns of the two halves joined is the sum over the first half and the sum over the second. -/
theorem sum_halves (f : Fin 5632 → EReal) :
    ∑ k : Fin 5632, f k = ∑ k : Fin 2816, f ⟨k.val, by have := k.isLt; omega⟩ + ∑ k : Fin 2816, f ⟨2816 + k.val, by have := k.isLt; omega⟩ :=
  Fin.sum_univ_add (a := 2816) (b := 2816) f

end Cert.Ffn

end
-- ==== Proof.Ffn.DownDgrad.lean ====
/-
  The gradients of the two gates: the kernel writes the derivative of the activation as a product, the reference as a
  sum; on real numbers the two are equal.
-/
module

public import proofs.«01_k».proof.Proof.Ffn.Base
public import proofs.«01_k».proof.Proof.Gen.Pre_finite2
public import proofs.«01_k».proof.Proof.Attn.Finite
public import proofs.«01_k».proof.Proof.Gen.Kernel2Ideal.Value
public import proofs.«01_k».proof.Proof.Gen.Reference2Ideal.Run
public import proofs.«01_k».proof.Proof.Gen.Reference2Ideal.Read

@[expose] public section

set_option maxRecDepth 16384

noncomputable section

namespace Cert.Kernel2Ideal.Ffn

open Cert.Kernel2Ideal Cert.Kernel2Ideal.Gen
open Idealize.ShloMosaic.Tactic
open Idealize.ShloMosaic Idealize.ShloMosaic.TcCoe Idealize.SL.Sem Idealize.ShloMosaic.StableHlo
open Idealize.ShloMosaic.Pipeline (Dat)

/-- The logistic function, as both programs compute it. -/
def logi (x : EReal) : EReal := Ideal.div 1 (1 + Ideal.exp (-x))

/-- The gradient at the activation. -/
def da (d : S2048x1024.Idx → EReal) (w : S2816x1024.Idx → EReal) : S2048x2816.Idx → EReal :=
  fun y => ∑ k : Fin 1024, d (ix2 (y 0) k) * w (ix2 (y 1) k)

/-- The gradient of the first gate, as the kernel writes it. -/
def dg (d : S2048x1024.Idx → EReal) (w : S2816x1024.Idx → EReal) (g u : S2048x2816.Idx → EReal) : S2048x2816.Idx → EReal :=
  fun y => da d w y * u y * logi (g y) * (1 + g y * (1 - logi (g y)))

/-- The gradient of the second gate. -/
def du (d : S2048x1024.Idx → EReal) (w : S2816x1024.Idx → EReal) (g : S2048x2816.Idx → EReal) : S2048x2816.Idx → EReal :=
  fun y => da d w y * g y * logi (g y)

variable (m : (ℓ : Loc nD τ sig) → Buf (Elt Ideal) ℓ) (ρ : Dev nD → PrngReg) (c : Dev nD)

theorem V_d (y : S2048x1024.Idx) : (V m c main_v0 : S2048x1024.Idx → EReal) y = (m ((c : Thread nD τ).loc main_arg0) : S2048x1024.Idx → EReal) y := by
  unfold V
  simp only [hostOps0, List.flatten_cons, List.flatten_nil, List.append_nil, List.cons_append, List.nil_append]
  after_results
  rfl

theorem V_w (y : S2816x1024.Idx) : (V m c main_v1 : S2816x1024.Idx → EReal) y = (m ((c : Thread nD τ).loc main_arg1) : S2816x1024.Idx → EReal) y := by
  unfold V
  simp only [hostOps0, List.flatten_cons, List.flatten_nil, List.append_nil, List.cons_append, List.nil_append]
  after_results
  rfl

theorem V_g (y : S2048x2816.Idx) : (V m c main_v2 : S2048x2816.Idx → EReal) y = (m ((c : Thread nD τ).loc main_arg2) : S2048x2816.Idx → EReal) y := by
  unfold V
  simp only [hostOps0, List.flatten_cons, List.flatten_nil, List.append_nil, List.cons_append, List.nil_append]
  after_results
  rfl

theorem V_u (y : S2048x2816.Idx) : (V m c main_v3 : S2048x2816.Idx → EReal) y = (m ((c : Thread nD τ).loc main_arg3) : S2048x2816.Idx → EReal) y := by
  unfold V
  simp only [hostOps0, List.flatten_cons, List.flatten_nil, List.append_nil, List.cons_append, List.nil_append]
  after_results
  rfl

theorem index0 : ∀ t : Fin cfg0.N, win0_0.index t = ![0, 0] := (by decide +kernel : ∀ t : Fin grid0.N, win0_0.index t = ![0, 0])
theorem index1 : ∀ t : Fin cfg0.N, win0_1.index t = ![t.val, 0] := (by decide +kernel : ∀ t : Fin grid0.N, win0_1.index t = ![t.val, 0])
theorem index2 : ∀ t : Fin cfg0.N, win0_2.index t = ![0, t.val] := (by decide +kernel : ∀ t : Fin grid0.N, win0_2.index t = ![0, t.val])
theorem index3 : ∀ t : Fin cfg0.N, win0_3.index t = ![0, t.val] := (by decide +kernel : ∀ t : Fin grid0.N, win0_3.index t = ![0, t.val])
theorem index4 : ∀ t : Fin cfg0.N, win0_4.index t = ![0, t.val] := (by decide +kernel : ∀ t : Fin grid0.N, win0_4.index t = ![0, t.val])
theorem index5 : ∀ t : Fin cfg0.N, win0_5.index t = ![0, t.val] := (by decide +kernel : ∀ t : Fin grid0.N, win0_5.index t = ![0, t.val])

theorem pay4 (x : Vec Ideal S2048x1024 .bf16) (w : Vec Ideal S256x1024 .bf16) (g u : Vec Ideal S2048x256 .bf16) (i : Fin 2048) (j : Fin 256) :
    k0_pay4 x w g u (ix2 i j) = (∑ k : Fin 1024, x (ix2 i k) * w (ix2 j k)) * u (ix2 i j) * logi (g (ix2 i j)) * (1 + g (ix2 i j) * (1 - logi (g (ix2 i j)))) := by
  unfold logi
  rw [← zero_sub]
  pointwise [k0_pay4, k0_pay3, k0_pay2, k0_pay1]

theorem pay5 (x : Vec Ideal S2048x1024 .bf16) (w : Vec Ideal S256x1024 .bf16) (g : Vec Ideal S2048x256 .bf16) (i : Fin 2048) (j : Fin 256) :
    k0_pay5 x w g (ix2 i j) = (∑ k : Fin 1024, x (ix2 i k) * w (ix2 j k)) * g (ix2 i j) * logi (g (ix2 i j)) := by
  unfold logi
  rw [← zero_sub]
  pointwise [k0_pay5, k0_pay3, k0_pay2, k0_pay1]

/-- The product of the kernel's blocks at a point. -/
theorem da_at (t : Fin cfg0.N) (i : Fin 2048) (j : Fin 256) :
    (∑ k : Fin 1024, HMul.hMul (α := EReal) (β := EReal) (γ := EReal) (iblk m c 0 t (ix2 i k)) (iblk m c 1 t (ix2 j k)))
      = da (m ((c : Thread nD τ).loc main_arg0)) (m ((c : Thread nD τ).loc main_arg1)) (((View.whole main_v4_0).slice (win0_4.rect t)).emb (ix2 i j)) := by
  unfold da
  refine Finset.sum_congr rfl fun k _ => ?_
  congr 1
  · blk_simp [iblk]
    refine (V_d m c _).trans (congrArg _ ?_)
    blk_ext [index0, index4]
  · blk_simp [iblk]
    refine (V_w m c _).trans (congrArg _ ?_)
    blk_ext [index1, index4]

theorem g_at (t : Fin cfg0.N) (i : Fin 2048) (j : Fin 256) :
    (iblk m c 2 t : S2048x256.Idx → EReal) (ix2 i j) = (m ((c : Thread nD τ).loc main_arg2) : S2048x2816.Idx → EReal) (((View.whole main_v4_0).slice (win0_4.rect t)).emb (ix2 i j)) := by
  blk_simp [iblk]
  refine (V_g m c _).trans (congrArg _ ?_)
  blk_ext [index2, index4]

theorem u_at (t : Fin cfg0.N) (i : Fin 2048) (j : Fin 256) :
    (iblk m c 3 t : S2048x256.Idx → EReal) (ix2 i j) = (m ((c : Thread nD τ).loc main_arg3) : S2048x2816.Idx → EReal) (((View.whole main_v4_0).slice (win0_4.rect t)).emb (ix2 i j)) := by
  blk_simp [iblk]
  refine (V_u m c _).trans (congrArg _ ?_)
  blk_ext [index3, index4]

theorem final4 : (dats m 0 c).arrAt 4 cfg0.N = dg (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]; frame_out
  obtain ⟨i, j, rfl⟩ : ∃ (i : Fin 2048) (j : Fin 256), y = ix2 i j := ⟨y 0, y 1, eq_ix2 (n0 := 2048) (n1 := 256) y⟩
  refine (pay4 _ _ _ _ _ _).trans ?_
  rw [da_at m c t i j, g_at m c t i j, u_at m c t i j]
  rfl

theorem final5 : (dats m 0 c).arrAt 5 cfg0.N = du (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]; frame_out
  obtain ⟨i, j, rfl⟩ : ∃ (i : Fin 2048) (j : Fin 256), y = ix2 i j := ⟨y 0, y 1, eq_ix2 (n0 := 2048) (n1 := 256) y⟩
  refine (pay5 _ _ _ _ _).trans ?_
  rw [da_at m c t i j, g_at m c t i j]
  rfl

/-- Of real numbers, the product is real. -/
theorem da_real {d : S2048x1024.Idx → EReal} {w : S2816x1024.Idx → EReal} (hd : ∀ y, (((d y).toReal : ℝ) : EReal) = d y)
    (hw : ∀ y, (((w y).toReal : ℝ) : EReal) = w y) (y : S2048x2816.Idx) : ∃ r : ℝ, da d w y = (r : EReal) := by
  refine ⟨∑ k : Fin 1024, (d (ix2 (y 0) k)).toReal * (w (ix2 (y 1) k)).toReal, ?_⟩
  unfold da
  rw [Cert.Attn.coe_sum]
  exact Finset.sum_congr rfl fun k _ => by rw [EReal.coe_mul, hd, hw]

/-- Of a real number, the logistic value is real. -/
theorem logi_real (g : ℝ) : ∃ s : ℝ, logi (g : EReal) = (s : EReal) := by
  refine ⟨1 / (1 + Real.exp (-g)), ?_⟩
  have h : (1 + Real.exp (-g)) ≠ 0 := by positivity
  rw [← Cert.Attn.div_real 1 _ h]
  rfl

/-- The derivative written as a product and as a sum. -/
theorem derivative (a u g s : ℝ) : ((a : EReal) * u * s * (1 + g * (1 - s)) : EReal) = a * u * s + g * (a * u) * (s * (1 - s)) := by
  have h : a * u * s * (1 + g * (1 - s)) = a * u * s + g * (a * u) * (s * (1 - s)) := by ring
  exact_mod_cast congrArg (fun r : ℝ => (r : EReal)) h

open Cert.Reference2Ideal.Read

theorem ref_da (d : S2048x1024.Idx → EReal) (w : S2816x1024.Idx → EReal) : val_main_v5 (F := Ideal) d w = da d w := by
  funext y
  rw [val_main_v5_apply]
  unfold da
  exact Finset.sum_congr rfl fun k _ => congrArg₂ (· * ·) (congrArg d (eq_ix2 (n0 := 2048) (n1 := 1024) _)) (congrArg w (eq_ix2 (n0 := 2816) (n1 := 1024) _))

theorem ref_sig (g : S2048x2816.Idx → EReal) (i : Fin 2048) (j : Fin 2816) : val_main_v0_2 (F := Ideal) g (ix2 i j) = logi (g (ix2 i j)) := by
  unfold val_main_v0_2 val_main_call0_v4 val_main_call0_v3 val_main_call0_v2 val_main_call0_v1 val_main_call0_v0 logi
  pointwise [val_main_call0_cst, val_main_call0_cst_0]

theorem ref4 (d : S2048x1024.Idx → EReal) (w : S2816x1024.Idx → EReal) (g u : S2048x2816.Idx → EReal)
    (hd : ∀ y, (((d y).toReal : ℝ) : EReal) = d y) (hw : ∀ y, (((w y).toReal : ℝ) : EReal) = w y)
    (hg : ∀ y, (((g y).toReal : ℝ) : EReal) = g y) (hu : ∀ y, (((u y).toReal : ℝ) : EReal) = u y) :
    val_main_v9 (F := Ideal) d w g u = dg d w g u := by
  funext y
  obtain ⟨i, j, rfl⟩ : ∃ (i : Fin 2048) (j : Fin 2816), y = ix2 i j := ⟨y 0, y 1, eq_ix2 (n0 := 2048) (n1 := 2816) y⟩
  unfold val_main_v9 val_main_v8 val_main_call1_v2 val_main_call1_v1 val_main_call1_v0 val_main_v7 val_main_v0_1 val_main_call0_v7 val_main_call0_v6
  rw [ref_da]
  have hs := ref_sig g i j
  obtain ⟨a, ha⟩ := da_real hd hw (ix2 i j)
  obtain ⟨s, hs'⟩ := logi_real (g (ix2 i j)).toReal
  rw [hg] at hs'
  unfold dg
  revert hs ha hs'
  generalize val_main_v0_2 (F := Ideal) g = v
  generalize da d w = p
  intro hs ha hs'
  pointwise [val_main_call0_cst_1]
  rw [hs, ha, hs', ← hg, ← hu]
  exact (derivative _ _ _ _).symm

theorem ref5 (d : S2048x1024.Idx → EReal) (w : S2816x1024.Idx → EReal) (g : S2048x2816.Idx → EReal) :
    val_main_v10 (F := Ideal) d w g = du d w g := by
  funext y
  obtain ⟨i, j, rfl⟩ : ∃ (i : Fin 2048) (j : Fin 2816), y = ix2 i j := ⟨y 0, y 1, eq_ix2 (n0 := 2048) (n1 := 2816) y⟩
  unfold val_main_v10 val_main_v6 val_main_v0_0
  rw [ref_da]
  have hs := ref_sig g i j
  unfold du
  revert hs
  generalize val_main_v0_2 (F := Ideal) g = v
  generalize da d w = p
  intro hs
  pointwise
  rw [hs, mul_comm (g _ * _), mul_assoc]

theorem finite_entries (x0 : S2048x1024.Idx → EReal) (x1 : S2816x1024.Idx → EReal) (x2 x3 : S2048x2816.Idx → EReal)
    (h : Cert.Pre_finite2.fn (F := Ideal) x0 x1 x2 x3 = fun _ => 1#1) :
    (∀ y, (((x0 y).toReal : ℝ) : EReal) = x0 y) ∧ (∀ y, (((x1 y).toReal : ℝ) : EReal) = x1 y)
      ∧ (∀ y, (((x2 y).toReal : ℝ) : EReal) = x2 y) ∧ ∀ y, (((x3 y).toReal : ℝ) : EReal) = x3 y := by
  have : Subsingleton Cert.Pre_finite2.S_.Idx := ⟨fun a b => funext fun i => i.elim0⟩
  have e := congrFun h (fun a => a.elim0)
  obtain ⟨e, h3⟩ := Cert.Attn.and_one e
  obtain ⟨e, h2⟩ := Cert.Attn.and_one e
  obtain ⟨h0, h1⟩ := Cert.Attn.and_one e
  exact ⟨fun y => Cert.Attn.real_of_lt _ (Host.reduce_andi_all _ _ _ _ _ h0 y), fun y => Cert.Attn.real_of_lt _ (Host.reduce_andi_all _ _ _ _ _ h1 y),
    fun y => Cert.Attn.real_of_lt _ (Host.reduce_andi_all _ _ _ _ _ h2 y), fun y => Cert.Attn.real_of_lt _ (Host.reduce_andi_all _ _ _ _ _ h3 y)⟩

theorem frame_ideal : Cert.quiescent_Kernel2Ideal := fun m ρ _ => Cert.Kernel2Ideal.Gen.frame m ρ

theorem frame_reference : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

theorem equal : Cert.algebraic_Kernel2Ideal_Reference2Ideal_pre_finite2 := by
  intro m ρ m' ρ' hpre hargs
  refine ⟨fun c => dg (m ((c.tc : Thread nD τ).loc main_arg0)) (m ((c.tc : Thread nD τ).loc main_arg1)) (m ((c.tc : Thread nD τ).loc main_arg2)) (m ((c.tc : Thread nD τ).loc main_arg3)),
    fun c => du (m ((c.tc : Thread nD τ).loc main_arg0)) (m ((c.tc : Thread nD τ).loc main_arg1)) (m ((c.tc : Thread nD τ).loc main_arg2)), ?_, ?_⟩
  · exact (θ_run Cert.Kernel2Ideal.defs _ _).mono (fun r h c => ⟨(h c).1.trans (final4 m c), (h c).2.1.trans (final5 m c), (h c).2.2⟩) (Cert.Kernel2Ideal.Value.run_blocks m ρ)
  · refine (θ_run Cert.Reference2Ideal.defs _ _).mono (fun r h c => ⟨((h c).1.trans (val_main_v9_eq _ _ _ _)).trans ?_,
      ((h c).2.1.trans (val_main_v10_eq _ _ _)).trans ((ref5 _ _ _).trans ?_), (h c).2.2⟩)
      (Cert.Reference2Ideal.Value.run (F := Ideal) m' ρ')
    · obtain ⟨h0, h1, h2, h3⟩ := finite_entries _ _ _ _ (hpre c)
      rw [(hargs c).1, (hargs c).2.1, (hargs c).2.2.1, (hargs c).2.2.2]
      exact ref4 _ _ _ _ h0 h1 h2 h3
    · rw [(hargs c).1, (hargs c).2.1, (hargs c).2.2.1]

end Cert.Kernel2Ideal.Ffn

end
-- ==== Proof.Ffn.UpDgrad.lean ====
/-
  The gradient at the input of the two gates: the array the kernel leaves adds a product with each half of the weight;
  the reference's result is one product over both halves joined.
-/
module

public import proofs.«01_k».proof.Proof.Ffn.Base
public import proofs.«01_k».proof.Proof.Gen.Kernel3Ideal.Value
public import proofs.«01_k».proof.Proof.Gen.Reference3Ideal.Run
public import proofs.«01_k».proof.Proof.Gen.Reference3Ideal.Read

@[expose] public section

set_option maxRecDepth 16384

noncomputable section

namespace Cert.Kernel3Ideal.Ffn

open Cert.Kernel3Ideal Cert.Kernel3Ideal.Gen
open Idealize.ShloMosaic.Tactic
open Idealize.ShloMosaic Idealize.ShloMosaic.TcCoe Idealize.SL.Sem Idealize.ShloMosaic.StableHlo
open Idealize.ShloMosaic.Pipeline (Dat)

/-- The two products summed over the gate's columns, added. -/
def dh (g u : S2048x2816.Idx → EReal) (w : S1024x5632.Idx → EReal) : S2048x1024.Idx → EReal :=
  fun y => ∑ k : Fin 2816, g (ix2 (y 0) k) * w (ix2 (y 1) ⟨k.val, by have := k.isLt; omega⟩)
    + ∑ k : Fin 2816, u (ix2 (y 0) k) * w (ix2 (y 1) ⟨2816 + k.val, by have := k.isLt; omega⟩)

variable (m : (ℓ : Loc nD τ sig) → Buf (Elt Ideal) ℓ) (ρ : Dev nD → PrngReg) (c : Dev nD)

theorem V_g (y : S2048x2816.Idx) : (V m c main_v0 : S2048x2816.Idx → EReal) y = (m ((c : Thread nD τ).loc main_arg0) : S2048x2816.Idx → EReal) y := by
  unfold V
  simp only [hostOps0, List.flatten_cons, List.flatten_nil, List.append_nil, List.cons_append, List.nil_append]
  after_results
  rfl

theorem V_u (y : S2048x2816.Idx) : (V m c main_v1 : S2048x2816.Idx → EReal) y = (m ((c : Thread nD τ).loc main_arg1) : S2048x2816.Idx → EReal) y := by
  unfold V
  simp only [hostOps0, List.flatten_cons, List.flatten_nil, List.append_nil, List.cons_append, List.nil_append]
  after_results
  rfl

theorem V_w (i : Fin 5632) (j : Fin 1024) :
    (V m c main_v3 : S5632x1024.Idx → EReal) (ix2 i j) = (m ((c : Thread nD τ).loc main_arg2) : S1024x5632.Idx → EReal) (ix2 j i) := by
  unfold V
  simp only [hostOps0, List.flatten_cons, List.flatten_nil, List.append_nil, List.cons_append, List.nil_append]
  after_results
  pointwise

theorem index0 : ∀ t : Fin cfg0.N, win0_0.index t = ![t.val / 2, 0] := (by decide +kernel : ∀ t : Fin grid0.N, win0_0.index t = ![t.val / 2, 0])
theorem index1 : ∀ t : Fin cfg0.N, win0_1.index t = ![t.val / 2, 0] := (by decide +kernel : ∀ t : Fin grid0.N, win0_1.index t = ![t.val / 2, 0])
theorem index2 : ∀ t : Fin cfg0.N, win0_2.index t = ![0, t.val % 2] := (by decide +kernel : ∀ t : Fin grid0.N, win0_2.index t = ![0, t.val % 2])
theorem index3 : ∀ t : Fin cfg0.N, win0_3.index t = ![1, t.val % 2] := (by decide +kernel : ∀ t : Fin grid0.N, win0_3.index t = ![1, t.val % 2])
theorem index4 : ∀ t : Fin cfg0.N, win0_4.index t = ![t.val / 2, t.val % 2] := (by decide +kernel : ∀ t : Fin grid0.N, win0_4.index t = ![t.val / 2, t.val % 2])

theorem pay (x : Vec Ideal S1024x2816 .bf16) (w : Vec Ideal S2816x512 .bf16) (x' : Vec Ideal S1024x2816 .bf16) (w' : Vec Ideal S2816x512 .bf16) (i : Fin 1024) (j : Fin 512) :
    k0_pay1 x w x' w' (ix2 i j) = (∑ k : Fin 2816, x (ix2 i k) * w (ix2 k j)) + ∑ k : Fin 2816, x' (ix2 i k) * w' (ix2 k j) := by
  pointwise [k0_pay1]

theorem final : (dats m 0 c).arrAt 4 cfg0.N = dh (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]; frame_out
  refine (congrArg _ (eq_ix2 (n0 := 1024) (n1 := 512) y)).trans ((pay _ _ _ _ _ _).trans ?_)
  unfold dh
  refine congrArg₂ (· + ·) (Finset.sum_congr rfl fun k _ => ?_) (Finset.sum_congr rfl fun k _ => ?_)
  · congr 1
    · blk_simp [iblk]
      refine (V_g m c _).trans (congrArg _ ?_)
      blk_ext [index0, index4]
    · blk_simp [iblk]
      refine ((congrArg _ (eq_ix2 (n0 := 5632) (n1 := 1024) _)).trans (V_w m c _ _)).trans (congrArg _ ?_)
      blk_ext [index2, index4]
  · congr 1
    · blk_simp [iblk]
      refine (V_u m c _).trans (congrArg _ ?_)
      blk_ext [index1, index4]
    · blk_simp [iblk]
      refine ((congrArg _ (eq_ix2 (n0 := 5632) (n1 := 1024) _)).trans (V_w m c _ _)).trans (congrArg _ ?_)
      blk_ext [index3, index4]

open Cert.Reference3Ideal.Read in
/-- The reference's result, its sum split at the middle of the joined gradient. -/
theorem ref (g u : S2048x2816.Idx → EReal) (w : S1024x5632.Idx → EReal) : val_main_v7 (F := Ideal) g u w = dh g u w := by
  funext y
  rw [val_main_v7_apply, Cert.Ffn.sum_halves]
  unfold dh
  refine congrArg₂ (· + ·) (Finset.sum_congr rfl fun k _ => ?_) (Finset.sum_congr rfl fun k _ => ?_)
  · have e : lidx_main_v7 y ⟨k.val, by have := k.isLt; omega⟩ = ix2 (n0 := 2048) (n1 := 5632) (y 0) ⟨k.val, by have := k.isLt; omega⟩ := eq_ix2 _
    refine congrArg₂ (· * ·) ?_ (congrArg w (eq_ix2 (n0 := 1024) (n1 := 5632) _))
    rw [e]
    unfold val_main_v4
    pointwise
  · have e : lidx_main_v7 y ⟨2816 + k.val, by have := k.isLt; omega⟩ = ix2 (n0 := 2048) (n1 := 5632) (y 0) ⟨2816 + k.val, by have := k.isLt; omega⟩ := eq_ix2 _
    refine congrArg₂ (· * ·) ?_ (congrArg w (eq_ix2 (n0 := 1024) (n1 := 5632) _))
    rw [e]
    unfold val_main_v4
    pointwise

theorem frame_ideal : Cert.quiescent_Kernel3Ideal := fun m ρ _ => Cert.Kernel3Ideal.Gen.frame m ρ

theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem equal : Cert.algebraic_Kernel3Ideal_Reference3Ideal := by
  intro m ρ m' ρ' _ hargs
  refine ⟨fun c => dh (m ((c.tc : Thread nD τ).loc main_arg0)) (m ((c.tc : Thread nD τ).loc main_arg1)) (m ((c.tc : Thread nD τ).loc main_arg2)), ?_, ?_⟩
  · exact (θ_run Cert.Kernel3Ideal.defs _ _).mono (fun r h c => ⟨(h c).1.trans (final m c), (h c).2⟩) (Cert.Kernel3Ideal.Value.run_blocks m ρ)
  · refine (θ_run Cert.Reference3Ideal.defs _ _).mono (fun r h c => ⟨((h c).1.trans (Cert.Reference3Ideal.Read.val_main_v7_eq _ _ _)).trans ((ref _ _ _).trans ?_), (h c).2⟩)
      (Cert.Reference3Ideal.Value.run (F := Ideal) m' ρ')
    rw [(hargs c).1, (hargs c).2.1, (hargs c).2.2]

end Cert.Kernel3Ideal.Ffn

end
-- ==== Proof.Ffn.UpWgrad.lean ====
/-
  The gradient of the first feed-forward weight: the kernel writes the two halves of one array by two calls, the second in
  place over the first; the reference multiplies the two gradients joined.
-/
module

public import proofs.«01_k».proof.Proof.Ffn.Base
public import proofs.«01_k».proof.Proof.Gen.Kernel4Ideal.Frame
public import proofs.«01_k».proof.Proof.Gen.Reference4Ideal.Run
public import proofs.«01_k».proof.Proof.Gen.Reference4Ideal.Read

@[expose] public section

set_option maxRecDepth 16384

noncomputable section

namespace Cert.Kernel4Ideal.Ffn

open Cert.Kernel4Ideal Cert.Kernel4Ideal.Gen
open Idealize.ShloMosaic.Tactic
open Idealize.ShloMosaic Idealize.ShloMosaic.TcCoe Idealize.SL.Sem Idealize.ShloMosaic.StableHlo
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

local notation "𝕄" => MT nD τ sig Unit (Elt Ideal) ℕ (UR sig nD τ) ℕ

/-- The gradients of the two gates, joined. -/
def both (g u : S2048x2816.Idx → EReal) (k : Fin 2048) (i : Fin 5632) : EReal :=
  if h : i.val < 2816 then g (ix2 k ⟨i.val, h⟩) else u (ix2 k ⟨i.val - 2816, by have := i.isLt; omega⟩)

/-- The product summed over the tokens, at each pair of columns. -/
def dw (g u : S2048x2816.Idx → EReal) (h : S2048x1024.Idx → EReal) : S5632x1024.Idx → EReal :=
  fun y => ∑ k : Fin 2048, both g u k (y 0) * h (ix2 k (y 1))

variable (m : (ℓ : Loc nD τ sig) → Buf (Elt Ideal) ℓ) (ρ : Dev nD → PrngReg) (c : Dev nD)

theorem V_g (y : S2048x2816.Idx) : (V1 m ρ c main_v0 : S2048x2816.Idx → EReal) y = (m ((c : Thread nD τ).loc main_arg0) : S2048x2816.Idx → EReal) y := by
  unfold V1 W1
  simp only [hostOps0, List.flatten_cons, List.flatten_nil, List.append_nil, List.cons_append, List.nil_append]
  after_results
  rfl

theorem V_u (y : S2048x2816.Idx) : (V1 m ρ c main_v1 : S2048x2816.Idx → EReal) y = (m ((c : Thread nD τ).loc main_arg1) : S2048x2816.Idx → EReal) y := by
  unfold V1 W1
  simp only [hostOps0, List.flatten_cons, List.flatten_nil, List.append_nil, List.cons_append, List.nil_append]
  after_results
  rfl

theorem V_h (y : S2048x1024.Idx) : (V1 m ρ c main_v2 : S2048x1024.Idx → EReal) y = (m ((c : Thread nD τ).loc main_arg2) : S2048x1024.Idx → EReal) y := by
  unfold V1 W1
  simp only [hostOps0, List.flatten_cons, List.flatten_nil, List.append_nil, List.cons_append, List.nil_append]
  after_results
  rfl

/-- The second call reads what the first read. -/
theorem V3_u : V3 m ρ c main_v1 = V1 m ρ c main_v1 :=
  (W3_of m ρ c main_v1 (by decide)).trans (W2_of m ρ c main_v1 (by decide))

theorem V3_h : V3 m ρ c main_v2 = V1 m ρ c main_v2 :=
  (W3_of m ρ c main_v2 (by decide)).trans (W2_of m ρ c main_v2 (by decide))

/-- The second call writes over the array the first call left. -/
theorem V3_out : (V3 m ρ c main_v4 : S5632x1024.Idx → EReal) = (dat0 (V1 m ρ) c).arrAt 2 cfg0.N := by
  refine Eq.trans ?_ (W2_arr m ρ c 2)
  unfold V3 W3
  simp only [hostOps1, List.flatten_cons, List.flatten_nil, List.append_nil, List.cons_append, List.nil_append]
  after_results
  rfl

theorem index0_0 : ∀ t : Fin cfg0.N, win0_0.index t = ![0, t.val] := (by decide +kernel : ∀ t : Fin grid0.N, win0_0.index t = ![0, t.val])
theorem index0_1 : ∀ t : Fin cfg0.N, win0_1.index t = ![0, 0] := (by decide +kernel : ∀ t : Fin grid0.N, win0_1.index t = ![0, 0])
theorem index0_2 : ∀ t : Fin cfg0.N, win0_2.index t = ![t.val, 0] := (by decide +kernel : ∀ t : Fin grid0.N, win0_2.index t = ![t.val, 0])
theorem index1_0 : ∀ t : Fin cfg1.N, win1_0.index t = ![0, t.val] := (by decide +kernel : ∀ t : Fin grid1.N, win1_0.index t = ![0, t.val])
theorem index1_1 : ∀ t : Fin cfg1.N, win1_1.index t = ![0, 0] := (by decide +kernel : ∀ t : Fin grid1.N, win1_1.index t = ![0, 0])
theorem index1_2 : ∀ t : Fin cfg1.N, win1_2.index t = ![11 + t.val, 0] := (by decide +kernel : ∀ t : Fin grid1.N, win1_2.index t = ![11 + t.val, 0])

theorem pay0 (x : Vec Ideal S2048x256 .bf16) (y : Vec Ideal S2048x1024 .bf16) (i : Fin 256) (j : Fin 1024) :
    k0_pay1 x y (ix2 i j) = ∑ k : Fin 2048, x (ix2 k i) * y (ix2 k j) := by
  pointwise [k0_pay1]

theorem pay1 (x : Vec Ideal S2048x256 .bf16) (y : Vec Ideal S2048x1024 .bf16) (i : Fin 256) (j : Fin 1024) :
    k1_pay1 x y (ix2 i j) = ∑ k : Fin 2048, x (ix2 k i) * y (ix2 k j) := by
  pointwise [k1_pay1]

/-- After the first call the upper half of the array is the gradient; the rest is as it was. -/
theorem final0 : (dat0 (V1 m ρ) c).arrAt 2 cfg0.N = fun i : S5632x1024.Idx => if (i 0).val / 256 < 11 then
    dw (m ((c : Thread nD τ).loc main_arg0)) (m ((c : Thread nD τ).loc main_arg1)) (m ((c : Thread nD τ).loc main_arg2)) i else (dat0 (V1 m ρ) c).A 2 i := by
  refine (dat0 (V1 m ρ) c).arrAt_eq_of_coversWhere 2 _ (fun β => β (0 : Fin 2) < 11) (by decide +kernel) (fun t hf y => ?_) (fun j => Iff.rfl)
  blk_simp
  rw [after0_2]; frame_out
  have ht : t.val < 11 := lt_of_lt_of_eq t.isLt (show cfg0.N = 11 from N_0)
  obtain ⟨i, j, rfl⟩ : ∃ (i : Fin 256) (j : Fin 1024), y = ix2 i j := ⟨y 0, y 1, eq_ix2 (n0 := 256) (n1 := 1024) y⟩
  refine (pay0 _ _ _ _).trans ?_
  unfold dw
  refine Finset.sum_congr rfl fun k _ => ?_
  congr 1
  · have hr : ((((View.whole main_v3).slice (win0_2.rect t)).emb (ix2 i j)) 0 : Fin 5632).val = t.val * 256 + i.val := by
      blk_simp [index0_2]
    have hi := i.isLt
    unfold both
    rw [dif_pos (by omega)]
    blk_simp [iblk0]
    refine (V_g m ρ c _).trans (congrArg _ ?_)
    blk_ext [index0_0, index0_2]
  · blk_simp [iblk0]
    refine (V_h m ρ c _).trans (congrArg _ ?_)
    blk_ext [index0_1, index0_2]

/-- After the second call the whole array is the gradient. -/
theorem final1 : (dat1 (V3 m ρ) c).arrAt 2 cfg1.N =
    dw (m ((c : Thread nD τ).loc main_arg0)) (m ((c : Thread nD τ).loc main_arg1)) (m ((c : Thread nD τ).loc main_arg2)) := by
  refine (dat1 (V3 m ρ) c).arrAt_eq_of_coversWhere_of_agree 2 _ (fun β => 11 ≤ β (0 : Fin 2)) (by decide +kernel) (fun t hf y => ?_) (fun j hj => ?_)
  · blk_simp
    rw [after1_2]; unfold outsAt1; frame_out
    obtain ⟨i, j, rfl⟩ : ∃ (i : Fin 256) (j : Fin 1024), y = ix2 i j := ⟨y 0, y 1, eq_ix2 (n0 := 256) (n1 := 1024) y⟩
    refine (pay1 _ _ _ _).trans ?_
    unfold dw
    refine Finset.sum_congr rfl fun k _ => ?_
    congr 1
    · have hr : ((((View.whole main_v4).slice (win1_2.rect t)).emb (ix2 i j)) 0 : Fin 5632).val = (11 + t.val) * 256 + i.val := by
        blk_simp [index1_2]
      unfold both
      rw [dif_neg (by omega)]
      blk_simp [iblk1]
      refine (congrFun (V3_u m ρ c) _).trans ((V_u m ρ c _).trans (congrArg _ ?_))
      blk_ext [index1_0, index1_2]
    · blk_simp [iblk1]
      refine (congrFun (V3_h m ρ c) _).trans ((V_h m ρ c _).trans (congrArg _ ?_))
      blk_ext [index1_1, index1_2]
  · rw [A_eq1]
    refine (congrFun (V3_out m ρ c) _).trans ((congrFun (final0 m ρ c) _).trans (if_pos ?_))
    exact not_le.1 hj

-- the launch theorem's implicit arguments are found by unfolding plain definitions
set_option backward.isDefEq.respectTransparency.types false in
/-- The two calls run: the array they leave and the arguments. -/
theorem run : θ_run defs (onTc (τ := τ) (main (F := Ideal))) ⟨m, fun _ => 0, ρ⟩ (fun r => ∀ c : Dev nD,
      r.2.mem ((c.tc : Thread nD τ).loc main_v4) = dw (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v4 (by decide))).trans ((W4_arr m ρ c 2).trans (final1 m ρ c)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

open Cert.Reference4Ideal.Read in
/-- The reference's result is the same sum. -/
theorem ref (g u : S2048x2816.Idx → EReal) (h : S2048x1024.Idx → EReal) : val_main_v9 (F := Ideal) g u h = dw g u h := by
  funext y
  obtain ⟨i, j, rfl⟩ : ∃ (i : Fin 5632) (j : Fin 1024), y = ix2 i j := ⟨y 0, y 1, eq_ix2 (n0 := 5632) (n1 := 1024) y⟩
  rw [val_main_v9_apply]
  show val_main_v8 (F := Ideal) g u h _ = _
  rw [val_main_v8_apply, val_main_v6_apply, val_main_v5_apply]
  unfold dw
  refine Finset.sum_congr rfl fun k _ => congrArg₂ (· * ·) ?_ (congrArg h (eq_ix2 (n0 := 2048) (n1 := 1024) _))
  refine (congrArg _ (eq_ix2 (n0 := 2048) (n1 := 5632) _)).trans ?_
  show val_main_v4 (F := Ideal) g u (ix2 k i) = both g u k i
  unfold val_main_v4 both
  pointwise

theorem frame_ideal : Cert.quiescent_Kernel4Ideal := fun m ρ _ => Cert.Kernel4Ideal.Gen.frame m ρ

theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem equal : Cert.algebraic_Kernel4Ideal_Reference4Ideal := by
  intro m ρ m' ρ' _ hargs
  refine ⟨fun c => dw (m ((c.tc : Thread nD τ).loc main_arg0)) (m ((c.tc : Thread nD τ).loc main_arg1)) (m ((c.tc : Thread nD τ).loc main_arg2)), run m ρ, ?_⟩
  refine (θ_run Cert.Reference4Ideal.defs _ _).mono (fun r h c => ⟨((h c).1.trans (Cert.Reference4Ideal.Read.val_main_v9_eq _ _ _)).trans ((ref _ _ _).trans ?_), (h c).2⟩)
    (Cert.Reference4Ideal.Value.run (F := Ideal) m' ρ')
  rw [(hargs c).1, (hargs c).2.1, (hargs c).2.2]

end Cert.Kernel4Ideal.Ffn

end
-- ==== Proof.Ffn.DownWgrad.lean ====
/-
  The gradient of the second feed-forward weight: the array the kernel leaves and the reference's result, each entry the
  same sum over the 2048 tokens.
-/
module

public import proofs.«01_k».proof.Proof.Ffn.Base
public import proofs.«01_k».proof.Proof.Gen.Kernel5Ideal.Value
public import proofs.«01_k».proof.Proof.Gen.Reference5Ideal.Run
public import proofs.«01_k».proof.Proof.Gen.Reference5Ideal.Read

@[expose] public section

set_option maxRecDepth 16384

noncomputable section

namespace Cert.Kernel5Ideal.Ffn

open Cert.Kernel5Ideal Cert.Kernel5Ideal.Gen
open Idealize.ShloMosaic.Tactic
open Idealize.ShloMosaic Idealize.ShloMosaic.TcCoe Idealize.SL.Sem Idealize.ShloMosaic.StableHlo
open Idealize.ShloMosaic.Pipeline (Dat)

/-- The product summed over the tokens, at each pair of columns. -/
def dw (a : S2048x2816.Idx → EReal) (d : S2048x1024.Idx → EReal) : S2816x1024.Idx → EReal :=
  fun y => ∑ k : Fin 2048, a (ix2 k (y 0)) * d (ix2 k (y 1))

variable (m : (ℓ : Loc nD τ sig) → Buf (Elt Ideal) ℓ) (ρ : Dev nD → PrngReg) (c : Dev nD)

theorem V_a (y : S2048x2816.Idx) : (V m c main_v0 : S2048x2816.Idx → EReal) y = (m ((c : Thread nD τ).loc main_arg0) : S2048x2816.Idx → EReal) y := by
  unfold V
  simp only [hostOps0, List.flatten_cons, List.flatten_nil, List.append_nil, List.cons_append, List.nil_append]
  after_results
  rfl

theorem V_d (y : S2048x1024.Idx) : (V m c main_v1 : S2048x1024.Idx → EReal) y = (m ((c : Thread nD τ).loc main_arg1) : S2048x1024.Idx → EReal) y := by
  unfold V
  simp only [hostOps0, List.flatten_cons, List.flatten_nil, List.append_nil, List.cons_append, List.nil_append]
  after_results
  rfl

theorem index0 : ∀ t : Fin cfg0.N, win0_0.index t = ![0, t.val] := (by decide +kernel : ∀ t : Fin grid0.N, win0_0.index t = ![0, t.val])
theorem index1 : ∀ t : Fin cfg0.N, win0_1.index t = ![0, 0] := (by decide +kernel : ∀ t : Fin grid0.N, win0_1.index t = ![0, 0])
theorem index2 : ∀ t : Fin cfg0.N, win0_2.index t = ![t.val, 0] := (by decide +kernel : ∀ t : Fin grid0.N, win0_2.index t = ![t.val, 0])

theorem pay (x : Vec Ideal S2048x256 .bf16) (y : Vec Ideal S2048x1024 .bf16) (i : Fin 256) (j : Fin 1024) :
    k0_pay1 x y (ix2 i j) = ∑ k : Fin 2048, x (ix2 k i) * y (ix2 k j) := by
  pointwise [k0_pay1]

theorem final : (dats m 0 c).arrAt 2 cfg0.N = dw (m ((c : Thread nD τ).loc main_arg0)) (m ((c : Thread nD τ).loc main_arg1)) := by
  refine (dats m 0 c).arrAt_eq_of_covers 2 _ (by decide +kernel) fun t hf y => ?_
  blk_simp
  rw [after0_2]; frame_out
  refine (congrArg _ (eq_ix2 (n0 := 256) (n1 := 1024) y)).trans ((pay _ _ _ _).trans ?_)
  unfold dw
  refine Finset.sum_congr rfl fun k _ => ?_
  congr 1
  · blk_simp [iblk]
    refine (V_a m c _).trans (congrArg _ ?_)
    blk_ext [index0, index2]
  · blk_simp [iblk]
    refine (V_d m c _).trans (congrArg _ ?_)
    blk_ext [index1, index2]

/-- The reference's result is the same sum, its factors exchanged. -/
theorem ref (a : S2048x2816.Idx → EReal) (d : S2048x1024.Idx → EReal) : Cert.Reference5Ideal.Read.val_main_v5 (F := Ideal) a d = dw a d := by
  funext y
  rw [Cert.Reference5Ideal.Read.val_main_v5_apply]
  show Cert.Reference5Ideal.Read.val_main_v3 (F := Ideal) a d y = _
  rw [Cert.Reference5Ideal.Read.val_main_v3_apply, Cert.Reference5Ideal.Read.val_main_v2_apply]
  unfold dw
  refine Finset.sum_congr rfl fun k _ => (mul_comm _ _).trans ?_
  congr 1
  · exact congrArg a (eq_ix2 (n0 := 2048) (n1 := 2816) _)
  · exact congrArg d (eq_ix2 (n0 := 2048) (n1 := 1024) _)

theorem frame_ideal : Cert.quiescent_Kernel5Ideal := fun m ρ _ => Cert.Kernel5Ideal.Gen.frame m ρ

theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem equal : Cert.algebraic_Kernel5Ideal_Reference5Ideal := by
  intro m ρ m' ρ' _ hargs
  refine ⟨fun c => dw (m ((c.tc : Thread nD τ).loc main_arg0)) (m ((c.tc : Thread nD τ).loc main_arg1)), ?_, ?_⟩
  · exact (θ_run Cert.Kernel5Ideal.defs _ _).mono (fun r h c => ⟨(h c).1.trans (final m c), (h c).2⟩) (Cert.Kernel5Ideal.Value.run_blocks m ρ)
  · refine (θ_run Cert.Reference5Ideal.defs _ _).mono (fun r h c => ⟨((h c).1.trans (Cert.Reference5Ideal.Read.val_main_v5_eq _ _)).trans ((ref _ _).trans ?_), (h c).2⟩)
      (Cert.Reference5Ideal.Value.run (F := Ideal) m' ρ')
    exact congrArg₂ dw (hargs c).1 (hargs c).2

end Cert.Kernel5Ideal.Ffn

end
-- ==== Proof.Ffn.Up.lean ====
/-
  The two gates and the activation: the arrays the kernel leaves are, entry by entry, the reference's product with the
  joined weight, cut in two, and the activation of the two.
-/
module

public import proofs.«01_k».proof.Proof.Ffn.Base
public import proofs.«01_k».proof.Proof.Gen.Kernel6Ideal.Value
public import proofs.«01_k».proof.Proof.Gen.Reference6Ideal.Run
public import proofs.«01_k».proof.Proof.Gen.Reference6Ideal.Read

@[expose] public section

set_option maxRecDepth 16384

noncomputable section

namespace Cert.Kernel6Ideal.Ffn

open Cert.Kernel6Ideal Cert.Kernel6Ideal.Gen
open Idealize.ShloMosaic.Tactic
open Idealize.ShloMosaic Idealize.ShloMosaic.TcCoe Idealize.SL.Sem Idealize.ShloMosaic.StableHlo
open Idealize.ShloMosaic.Pipeline (Dat)

/-- The first gate. -/
def gate (h : S2048x1024.Idx → EReal) (w : S1024x5632.Idx → EReal) : S2048x2816.Idx → EReal :=
  fun y => ∑ k : Fin 1024, h (ix2 (y 0) k) * w (ix2 k ⟨(y 1).val, by have : (y 1).val < 2816 := (y 1).isLt; omega⟩)

/-- The second gate: the weight's second half of columns. -/
def up (h : S2048x1024.Idx → EReal) (w : S1024x5632.Idx → EReal) : S2048x2816.Idx → EReal :=
  fun y => ∑ k : Fin 1024, h (ix2 (y 0) k) * w (ix2 k ⟨2816 + (y 1).val, by have : (y 1).val < 2816 := (y 1).isLt; omega⟩)

/-- The logistic function, as both programs compute it. -/
def logi (x : EReal) : EReal := Ideal.div 1 (1 + Ideal.exp (-x))

/-- The activation: the first gate times its logistic value, times the second. -/
def act (h : S2048x1024.Idx → EReal) (w : S1024x5632.Idx → EReal) : S2048x2816.Idx → EReal :=
  fun y => gate h w y * logi (gate h w y) * up h w y

variable (m : (ℓ : Loc nD τ sig) → Buf (Elt Ideal) ℓ) (ρ : Dev nD → PrngReg) (c : Dev nD)

theorem V_h (y : S2048x1024.Idx) : (V m c main_v0 : S2048x1024.Idx → EReal) y = (m ((c : Thread nD τ).loc main_arg0) : S2048x1024.Idx → EReal) y := by
  unfold V
  simp only [hostOps0, List.flatten_cons, List.flatten_nil, List.append_nil, List.cons_append, List.nil_append]
  after_results
  rfl

theorem V_w (i : Fin 5632) (j : Fin 1024) :
    (V m c main_v2 : S5632x1024.Idx → EReal) (ix2 i j) = (m ((c : Thread nD τ).loc main_arg1) : S1024x5632.Idx → EReal) (ix2 j i) := by
  unfold V
  simp only [hostOps0, List.flatten_cons, List.flatten_nil, List.append_nil, List.cons_append, List.nil_append]
  after_results
  pointwise

theorem index0 : ∀ t : Fin cfg0.N, win0_0.index t = ![0, 0] := (by decide +kernel : ∀ t : Fin grid0.N, win0_0.index t = ![0, 0])
theorem index1 : ∀ t : Fin cfg0.N, win0_1.index t = ![t.val, 0] := (by decide +kernel : ∀ t : Fin grid0.N, win0_1.index t = ![t.val, 0])
theorem index2 : ∀ t : Fin cfg0.N, win0_2.index t = ![11 + t.val, 0] := (by decide +kernel : ∀ t : Fin grid0.N, win0_2.index t = ![11 + t.val, 0])
theorem index3 : ∀ t : Fin cfg0.N, win0_3.index t = ![0, t.val] := (by decide +kernel : ∀ t : Fin grid0.N, win0_3.index t = ![0, t.val])
theorem index4 : ∀ t : Fin cfg0.N, win0_4.index t = ![0, t.val] := (by decide +kernel : ∀ t : Fin grid0.N, win0_4.index t = ![0, t.val])
theorem index5 : ∀ t : Fin cfg0.N, win0_5.index t = ![0, t.val] := (by decide +kernel : ∀ t : Fin grid0.N, win0_5.index t = ![0, t.val])

theorem pay4 (x : Vec Ideal S2048x1024 .bf16) (w : Vec Ideal S256x1024 .bf16) (i : Fin 2048) (j : Fin 256) :
    k0_pay4 x w (ix2 i j) = ∑ k : Fin 1024, x (ix2 i k) * w (ix2 j k) := by
  pointwise [k0_pay4, k0_pay2, k0_pay1]

theorem pay5 (x : Vec Ideal S2048x1024 .bf16) (w : Vec Ideal S256x1024 .bf16) (i : Fin 2048) (j : Fin 256) :
    k0_pay5 x w (ix2 i j) = ∑ k : Fin 1024, x (ix2 i k) * w (ix2 j k) := by
  pointwise [k0_pay5, k0_pay3, k0_pay1]

theorem pay6 (x : Vec Ideal S2048x1024 .bf16) (w w' : Vec Ideal S256x1024 .bf16) (i : Fin 2048) (j : Fin 256) :
    k0_pay6 x w w' (ix2 i j) = (∑ k : Fin 1024, x (ix2 i k) * w (ix2 j k)) * logi (∑ k : Fin 1024, x (ix2 i k) * w (ix2 j k)) * ∑ k : Fin 1024, x (ix2 i k) * w' (ix2 j k) := by
  unfold logi
  rw [← zero_sub]
  pointwise [k0_pay6, k0_pay3, k0_pay2, k0_pay1]

/-- A product of the kernel's blocks at a point: the first gate's entry. -/
theorem gate_at (t : Fin cfg0.N) (i : Fin 2048) (j : Fin 256) :
    (∑ k : Fin 1024, HMul.hMul (α := EReal) (β := EReal) (γ := EReal) (iblk m c 0 t (ix2 i k)) (iblk m c 1 t (ix2 j k)))
      = gate (m ((c : Thread nD τ).loc main_arg0)) (m ((c : Thread nD τ).loc main_arg1)) (((View.whole main_v3_0).slice (win0_3.rect t)).emb (ix2 i j)) := by
  unfold gate
  refine Finset.sum_congr rfl fun k _ => ?_
  congr 1
  · blk_simp [iblk]
    refine (V_h m c _).trans (congrArg _ ?_)
    blk_ext [index0, index3]
  · blk_simp [iblk]
    refine ((congrArg _ (eq_ix2 (n0 := 5632) (n1 := 1024) _)).trans (V_w m c _ _)).trans (congrArg _ ?_)
    blk_ext [index1, index3]

/-- The other product: the second gate's entry. -/
theorem up_at (t : Fin cfg0.N) (i : Fin 2048) (j : Fin 256) :
    (∑ k : Fin 1024, HMul.hMul (α := EReal) (β := EReal) (γ := EReal) (iblk m c 0 t (ix2 i k)) (iblk m c 2 t (ix2 j k)))
      = up (m ((c : Thread nD τ).loc main_arg0)) (m ((c : Thread nD τ).loc main_arg1)) (((View.whole main_v3_1).slice (win0_4.rect t)).emb (ix2 i j)) := by
  unfold up
  refine Finset.sum_congr rfl fun k _ => ?_
  congr 1
  · blk_simp [iblk]
    refine (V_h m c _).trans (congrArg _ ?_)
    blk_ext [index0, index4]
  · blk_simp [iblk]
    refine ((congrArg _ (eq_ix2 (n0 := 5632) (n1 := 1024) _)).trans (V_w m c _ _)).trans (congrArg _ ?_)
    blk_ext [index2, index4]

theorem final3 : (dats m 0 c).arrAt 3 cfg0.N = gate (m ((c : Thread nD τ).loc main_arg0)) (m ((c : Thread nD τ).loc main_arg1)) := by
  refine (dats m 0 c).arrAt_eq_of_covers 3 _ (by decide +kernel) fun t hf y => ?_
  blk_simp
  rw [after0_3]; frame_out
  obtain ⟨i, j, rfl⟩ : ∃ (i : Fin 2048) (j : Fin 256), y = ix2 i j := ⟨y 0, y 1, eq_ix2 (n0 := 2048) (n1 := 256) y⟩
  exact (pay4 _ _ _ _).trans (gate_at m c t i j)

theorem final4 : (dats m 0 c).arrAt 4 cfg0.N = up (m ((c : Thread nD τ).loc main_arg0)) (m ((c : Thread nD τ).loc main_arg1)) := by
  refine (dats m 0 c).arrAt_eq_of_covers 4 _ (by decide +kernel) fun t hf y => ?_
  blk_simp
  rw [after0_4]; frame_out
  obtain ⟨i, j, rfl⟩ : ∃ (i : Fin 2048) (j : Fin 256), y = ix2 i j := ⟨y 0, y 1, eq_ix2 (n0 := 2048) (n1 := 256) y⟩
  exact (pay5 _ _ _ _).trans (up_at m c t i j)

theorem final5 : (dats m 0 c).arrAt 5 cfg0.N = act (m ((c : Thread nD τ).loc main_arg0)) (m ((c : Thread nD τ).loc main_arg1)) := by
  refine (dats m 0 c).arrAt_eq_of_covers 5 _ (by decide +kernel) fun t hf y => ?_
  blk_simp
  rw [after0_5]; frame_out
  obtain ⟨i, j, rfl⟩ : ∃ (i : Fin 2048) (j : Fin 256), y = ix2 i j := ⟨y 0, y 1, eq_ix2 (n0 := 2048) (n1 := 256) y⟩
  refine (pay6 _ _ _ _ _).trans ?_
  rw [gate_at m c t i j, up_at m c t i j]
  rfl

open Cert.Reference6Ideal.Read

theorem ref3 (h : S2048x1024.Idx → EReal) (w : S1024x5632.Idx → EReal) : val_main_v1 (F := Ideal) h w = gate h w := by
  funext y
  rw [val_main_v1_apply, val_main_v0_apply]
  unfold gate
  refine Finset.sum_congr rfl fun k _ => congrArg₂ (· * ·) (congrArg h ((eq_ix2 (n0 := 2048) (n1 := 1024) _).trans ?_)) (congrArg w ((eq_ix2 (n0 := 1024) (n1 := 5632) _).trans ?_))
  · blk_ext []
  · blk_ext []

theorem ref4 (h : S2048x1024.Idx → EReal) (w : S1024x5632.Idx → EReal) : val_main_v2 (F := Ideal) h w = up h w := by
  funext y
  rw [val_main_v2_apply, val_main_v0_apply]
  unfold up
  refine Finset.sum_congr rfl fun k _ => congrArg₂ (· * ·) (congrArg h ((eq_ix2 (n0 := 2048) (n1 := 1024) _).trans ?_)) (congrArg w ((eq_ix2 (n0 := 1024) (n1 := 5632) _).trans ?_))
  · blk_ext []
  · blk_ext []

theorem ref5 (h : S2048x1024.Idx → EReal) (w : S1024x5632.Idx → EReal) : val_main_v7 (F := Ideal) h w = act h w := by
  funext y
  unfold val_main_v7 val_main_v6 val_main_v5 val_main_call0_v5 val_main_call0_v4 val_main_call0_v3 val_main_call0_v2 val_main_call0_v1 val_main_call0_v0
  rw [ref3, ref4]
  unfold act logi
  generalize gate h w = g
  generalize up h w = u
  rw [eq_ix2 (n0 := 2048) (n1 := 2816) y]
  pointwise [val_main_call0_cst, val_main_call0_cst_0]

theorem frame_ideal : Cert.quiescent_Kernel6Ideal := fun m ρ _ => Cert.Kernel6Ideal.Gen.frame m ρ

theorem frame_reference : Cert.quiescent_Reference6Ideal := fun m ρ _ =>
  (θ_run Cert.Reference6Ideal.defs _ _).mono (fun r h => ⟨fun c => (h c).2.2.2, sem_eq_zero_of_no_sems (by decide) r.2⟩)
    (Cert.Reference6Ideal.Value.run (F := Ideal) m ρ)

theorem equal : Cert.algebraic_Kernel6Ideal_Reference6Ideal := by
  intro m ρ m' ρ' _ hargs
  refine ⟨fun c => gate (m ((c.tc : Thread nD τ).loc main_arg0)) (m ((c.tc : Thread nD τ).loc main_arg1)),
    fun c => up (m ((c.tc : Thread nD τ).loc main_arg0)) (m ((c.tc : Thread nD τ).loc main_arg1)),
    fun c => act (m ((c.tc : Thread nD τ).loc main_arg0)) (m ((c.tc : Thread nD τ).loc main_arg1)), ?_, ?_⟩
  · exact (θ_run Cert.Kernel6Ideal.defs _ _).mono (fun r h c => ⟨(h c).1.trans (final3 m c), (h c).2.1.trans (final4 m c), (h c).2.2.1.trans (final5 m c), (h c).2.2.2⟩) (Cert.Kernel6Ideal.Value.run_blocks m ρ)
  · refine (θ_run Cert.Reference6Ideal.defs _ _).mono (fun r h c => ⟨((h c).1.trans (val_main_v3_eq _ _)).trans ((ref3 _ _).trans ?_),
      ((h c).2.1.trans (val_main_v4_eq _ _)).trans ((ref4 _ _).trans ?_), ((h c).2.2.1.trans (val_main_v7_eq _ _)).trans ((ref5 _ _).trans ?_), (h c).2.2.2⟩)
      (Cert.Reference6Ideal.Value.run (F := Ideal) m' ρ')
    · rw [(hargs c).1, (hargs c).2]
    · rw [(hargs c).1, (hargs c).2]
    · rw [(hargs c).1, (hargs c).2]

end Cert.Kernel6Ideal.Ffn

end
-- ==== Proof.Ffn.Down.lean ====
/-
  The second product and the sum with the input: both arrays the kernel leaves are, entry by entry, the reference's.
-/
module

public import proofs.«01_k».proof.Proof.Ffn.Base
public import proofs.«01_k».proof.Proof.Gen.Kernel7Ideal.Value
public import proofs.«01_k».proof.Proof.Gen.Reference7Ideal.Run
public import proofs.«01_k».proof.Proof.Gen.Reference7Ideal.Read

@[expose] public section

set_option maxRecDepth 16384

noncomputable section

namespace Cert.Kernel7Ideal.Ffn

open Cert.Kernel7Ideal Cert.Kernel7Ideal.Gen
open Idealize.ShloMosaic.Tactic
open Idealize.ShloMosaic Idealize.ShloMosaic.TcCoe Idealize.SL.Sem Idealize.ShloMosaic.StableHlo
open Idealize.ShloMosaic.Pipeline (Dat)

/-- The product. -/
def prod (a : S2048x2816.Idx → EReal) (w : S2816x1024.Idx → EReal) : S2048x1024.Idx → EReal :=
  fun y => ∑ k : Fin 2816, a (ix2 (y 0) k) * w (ix2 k (y 1))

/-- The input plus half the gate times the product. -/
def next (a : S2048x2816.Idx → EReal) (w : S2816x1024.Idx → EReal) (x : S2048x1024.Idx → EReal) (g : S1024.Idx → EReal) : S2048x1024.Idx → EReal :=
  fun y => x y + Ideal.ofBits .f32 0x3F000000#32 * g (ix1 (y 1)) * prod a w y

variable (m : (ℓ : Loc nD τ sig) → Buf (Elt Ideal) ℓ) (ρ : Dev nD → PrngReg) (c : Dev nD)

theorem V_a (y : S2048x2816.Idx) : (V m c main_v0 : S2048x2816.Idx → EReal) y = (m ((c : Thread nD τ).loc main_arg0) : S2048x2816.Idx → EReal) y := by
  unfold V
  simp only [hostOps0, List.flatten_cons, List.flatten_nil, List.append_nil, List.cons_append, List.nil_append]
  after_results
  rfl

theorem V_w (y : S2816x1024.Idx) : (V m c main_v1 : S2816x1024.Idx → EReal) y = (m ((c : Thread nD τ).loc main_arg1) : S2816x1024.Idx → EReal) y := by
  unfold V
  simp only [hostOps0, List.flatten_cons, List.flatten_nil, List.append_nil, List.cons_append, List.nil_append]
  after_results
  rfl

theorem V_g (i : Fin 1) (j : Fin 1024) :
    (V m c main_v2 : S1x1024.Idx → EReal) (ix2 i j) = (m ((c : Thread nD τ).loc main_arg3) : S1024.Idx → EReal) (ix1 j) := by
  unfold V
  simp only [hostOps0, List.flatten_cons, List.flatten_nil, List.append_nil, List.cons_append, List.nil_append]
  after_results
  pointwise

theorem index0 : ∀ t : Fin cfg0.N, win0_0.index t = ![t.val / 2, 0] := (by decide +kernel : ∀ t : Fin grid0.N, win0_0.index t = ![t.val / 2, 0])
theorem index1 : ∀ t : Fin cfg0.N, win0_1.index t = ![0, t.val % 2] := (by decide +kernel : ∀ t : Fin grid0.N, win0_1.index t = ![0, t.val % 2])
theorem index2 : ∀ t : Fin cfg0.N, win0_2.index t = ![t.val / 2, t.val % 2] := (by decide +kernel : ∀ t : Fin grid0.N, win0_2.index t = ![t.val / 2, t.val % 2])
theorem index3 : ∀ t : Fin cfg0.N, win0_3.index t = ![0, t.val % 2] := (by decide +kernel : ∀ t : Fin grid0.N, win0_3.index t = ![0, t.val % 2])
theorem index4 : ∀ t : Fin cfg0.N, win0_4.index t = ![t.val / 2, t.val % 2] := (by decide +kernel : ∀ t : Fin grid0.N, win0_4.index t = ![t.val / 2, t.val % 2])
theorem index5 : ∀ t : Fin cfg0.N, win0_5.index t = ![t.val / 2, t.val % 2] := (by decide +kernel : ∀ t : Fin grid0.N, win0_5.index t = ![t.val / 2, t.val % 2])

theorem pay2 (x : Vec Ideal S1024x2816 .bf16) (w : Vec Ideal S2816x512 .bf16) (i : Fin 1024) (j : Fin 512) :
    k0_pay2 x w (ix2 i j) = ∑ k : Fin 2816, x (ix2 i k) * w (ix2 k j) := by
  pointwise [k0_pay2, k0_pay1]

theorem pay3 (x : Vec Ideal S1024x2816 .bf16) (w : Vec Ideal S2816x512 .bf16) (r : Vec Ideal S1024x512 .f32) (g : Vec Ideal S1x512 .f32) (i : Fin 1024) (j : Fin 512) :
    k0_pay3 x w r g (ix2 i j) = r (ix2 i j) + Ideal.ofBits .f32 0x3F000000#32 * g (ix2 0 j) * ∑ k : Fin 2816, x (ix2 i k) * w (ix2 k j) := by
  pointwise [k0_pay3, k0_pay1]

/-- The product of the kernel's blocks at a point. -/
theorem prod_at (t : Fin cfg0.N) (i : Fin 1024) (j : Fin 512) :
    (∑ k : Fin 2816, HMul.hMul (α := EReal) (β := EReal) (γ := EReal) (iblk m c 0 t (ix2 i k)) (iblk m c 1 t (ix2 k j)))
      = prod (m ((c : Thread nD τ).loc main_arg0)) (m ((c : Thread nD τ).loc main_arg1)) (((View.whole main_v3_0).slice (win0_4.rect t)).emb (ix2 i j)) := by
  unfold prod
  refine Finset.sum_congr rfl fun k _ => ?_
  congr 1
  · blk_simp [iblk]
    refine (V_a m c _).trans (congrArg _ ?_)
    blk_ext [index0, index4]
  · blk_simp [iblk]
    refine (V_w m c _).trans (congrArg _ ?_)
    blk_ext [index1, index4]

theorem final4 : (dats m 0 c).arrAt 4 cfg0.N = prod (m ((c : Thread nD τ).loc main_arg0)) (m ((c : Thread nD τ).loc main_arg1)) := by
  refine (dats m 0 c).arrAt_eq_of_covers 4 _ (by decide +kernel) fun t hf y => ?_
  blk_simp
  rw [after0_4]; frame_out
  obtain ⟨i, j, rfl⟩ : ∃ (i : Fin 1024) (j : Fin 512), y = ix2 i j := ⟨y 0, y 1, eq_ix2 (n0 := 1024) (n1 := 512) y⟩
  exact (pay2 _ _ _ _).trans (prod_at m c t i j)

theorem final5 : (dats m 0 c).arrAt 5 cfg0.N = next (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]; frame_out
  obtain ⟨i, j, rfl⟩ : ∃ (i : Fin 1024) (j : Fin 512), y = ix2 i j := ⟨y 0, y 1, eq_ix2 (n0 := 1024) (n1 := 512) y⟩
  refine (pay3 _ _ _ _ _ _).trans ?_
  rw [prod_at m c t i j]
  unfold next
  refine congrArg₂ (· + ·) ?_ (congrArg₂ (· * ·) (congrArg₂ (· * ·) rfl ?_) rfl)
  · blk_simp [iblk]
    rw [V_main_arg2]
    refine congrArg _ ?_
    blk_ext [index2, index5]
  · blk_simp [iblk]
    refine ((congrArg _ (eq_ix2 (n0 := 1) (n1 := 1024) _)).trans (V_g m c _ _)).trans (congrArg _ ?_)
    blk_ext [index3, index5]

open Cert.Reference7Ideal.Read

theorem ref4 (a : S2048x2816.Idx → EReal) (w : S2816x1024.Idx → EReal) : val_main_v0 (F := Ideal) a w = prod a w := by
  funext y
  rw [val_main_v0_apply]
  unfold prod
  exact Finset.sum_congr rfl fun k _ => congrArg₂ (· * ·) (congrArg a (eq_ix2 (n0 := 2048) (n1 := 2816) _)) (congrArg w (eq_ix2 (n0 := 2816) (n1 := 1024) _))

theorem ref5 (a : S2048x2816.Idx → EReal) (w : S2816x1024.Idx → EReal) (x : S2048x1024.Idx → EReal) (g : S1024.Idx → EReal) : val_main_v7 (F := Ideal) a w x g = next a w x g := by
  funext y
  unfold val_main_v7 val_main_v6 val_main_v5 val_main_v4 val_main_v3 val_main_v2
  rw [ref4]
  unfold next
  generalize prod a w = p
  rw [eq_ix2 (n0 := 2048) (n1 := 1024) y]
  pointwise [val_main_cst]

theorem frame_ideal : Cert.quiescent_Kernel7Ideal := fun m ρ _ => Cert.Kernel7Ideal.Gen.frame m ρ

theorem frame_reference : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

theorem equal : Cert.algebraic_Kernel7Ideal_Reference7Ideal := by
  intro m ρ m' ρ' _ hargs
  refine ⟨fun c => prod (m ((c.tc : Thread nD τ).loc main_arg0)) (m ((c.tc : Thread nD τ).loc main_arg1)),
    fun c => next (m ((c.tc : Thread nD τ).loc main_arg0)) (m ((c.tc : Thread nD τ).loc main_arg1)) (m ((c.tc : Thread nD τ).loc main_arg2)) (m ((c.tc : Thread nD τ).loc main_arg3)), ?_, ?_⟩
  · exact (θ_run Cert.Kernel7Ideal.defs _ _).mono (fun r h c => ⟨(h c).1.trans (final4 m c), (h c).2.1.trans (final5 m c), (h c).2.2⟩) (Cert.Kernel7Ideal.Value.run_blocks m ρ)
  · refine (θ_run Cert.Reference7Ideal.defs _ _).mono (fun r h c => ⟨((h c).1.trans (val_main_v1_eq _ _)).trans ((ref4 _ _).trans ?_),
      ((h c).2.1.trans (val_main_v7_eq _ _ _ _)).trans ((ref5 _ _ _ _).trans ?_), (h c).2.2⟩)
      (Cert.Reference7Ideal.Value.run (F := Ideal) m' ρ')
    · rw [(hargs c).1, (hargs c).2.1]
    · rw [(hargs c).1, (hargs c).2.1, (hargs c).2.2.1, (hargs c).2.2.2]

end Cert.Kernel7Ideal.Ffn

end
-- ==== Proof.Proj.SsmIn.lean ====
/-
  The Mamba-2 mixer's input projection: the product, whose last 96 columns the padded weight leaves at zero.
-/
module

public import proofs.«01_k».proof.Proof.Ffn.Base
public import proofs.«01_k».proof.Proof.Gen.Kernel8Ideal.Value
public import proofs.«01_k».proof.Proof.Gen.Reference8Ideal.Run
public import proofs.«01_k».proof.Proof.Gen.Reference8Ideal.Read

@[expose] public section

set_option maxRecDepth 16384

noncomputable section

namespace Cert.Kernel8Ideal.Proj

open Cert.Kernel8Ideal Cert.Kernel8Ideal.Gen
open Idealize.ShloMosaic.Tactic
open Idealize.ShloMosaic Idealize.ShloMosaic.TcCoe Idealize.SL.Sem Idealize.ShloMosaic.StableHlo
open Idealize.ShloMosaic.Pipeline (Dat)

/-- The transposed weight, zero below its last row. -/
def row (w : S1024x6176.Idx → EReal) : S6272x1024.Idx → EReal :=
  fun z => if h : (z 0).val < 6176 then w (ix2 (z 1) ⟨(z 0).val, h⟩) else 0

/-- The product, with 96 columns of zeros after it. -/
def prod (x : S2048x1024.Idx → EReal) (w : S1024x6176.Idx → EReal) : S2048x6272.Idx → EReal :=
  fun y => if h : (y 1).val < 6176 then ∑ k : Fin 1024, x (ix2 (y 0) k) * w (ix2 k ⟨(y 1).val, h⟩) else 0

/-- The product with the zero rows is the product followed by zero columns. -/
theorem sum_row (x : S2048x1024.Idx → EReal) (w : S1024x6176.Idx → EReal) (y : S2048x6272.Idx) :
    ∑ k : Fin 1024, x (ix2 (y 0) k) * row w (ix2 (y 1) k) = prod x w y := by
  unfold prod
  split
  · exact Finset.sum_congr rfl fun k _ => congrArg _ (dif_pos ‹_›)
  · exact Finset.sum_eq_zero fun k _ => (congrArg _ (dif_neg ‹_›)).trans (mul_zero _)

theorem zero (s : FTy) : FloatOps.sitofp (F := Ideal) s 0#32 = (0 : EReal) := by
  show (((0#32).toInt : ℝ) : EReal) = 0
  simp

variable (m : (ℓ : Loc nD τ sig) → Buf (Elt Ideal) ℓ) (ρ : Dev nD → PrngReg) (c : Dev nD)

theorem V_x (y : S2048x1024.Idx) : (V m c main_v3 : S2048x1024.Idx → EReal) y = (m ((c : Thread nD τ).loc main_arg0) : S2048x1024.Idx → EReal) y := by
  unfold V
  simp only [hostOps0, hostOps0_1, hostOps0_2, List.flatten_cons, List.flatten_nil, List.append_nil, List.cons_append, List.nil_append]
  after_results
  rfl

/-- The weight as the kernel reads it: transposed, with 96 rows of zeros below. -/
theorem V_w (z : S6272x1024.Idx) : (V m c main_v2 : S6272x1024.Idx → EReal) z = row (m ((c : Thread nD τ).loc main_arg1)) z := by
  obtain ⟨j, k, rfl⟩ : ∃ (j : Fin 6272) (k : Fin 1024), z = ix2 j k := ⟨z 0, z 1, eq_ix2 (n0 := 6272) (n1 := 1024) z⟩
  unfold V
  simp only [hostOps0, hostOps0_1, hostOps0_2, List.flatten_cons, List.flatten_nil, List.append_nil, List.cons_append, List.nil_append]
  after_results
  change pad S6272x1024 ![0, 0] ![96, 0] ![0, 0] (truncf (F := Ideal) .bf16 (transpose S6176x1024 [1, 0] (m ((c : Thread nD τ).loc main_arg1) : S1024x6176.Idx → EReal) transposes_S1024x6176_S6176x1024_1_0) bitsLt_bf16_f32)
    (sitofp (F := Ideal) .bf16 (constantI S_ 32 0#32)) pads_S6176x1024_S6272x1024_0960_000 h_S_ (ix2 j k) = _
  pointwise
  rw [zero]
  rfl

theorem index0 : ∀ t : Fin cfg0.N, win0_0.index t = ![t.val / 7, 0] := (by decide +kernel : ∀ t : Fin grid0.N, win0_0.index t = ![t.val / 7, 0])
theorem index1 : ∀ t : Fin cfg0.N, win0_1.index t = ![t.val % 7, 0] := (by decide +kernel : ∀ t : Fin grid0.N, win0_1.index t = ![t.val % 7, 0])
theorem index2 : ∀ t : Fin cfg0.N, win0_2.index t = ![t.val / 7, t.val % 7] := (by decide +kernel : ∀ t : Fin grid0.N, win0_2.index t = ![t.val / 7, t.val % 7])

theorem pay (x : Vec Ideal S1024x1024 .bf16) (w : Vec Ideal S896x1024 .bf16) (i : Fin 1024) (j : Fin 896) :
    k0_pay1 x w (ix2 i j) = ∑ k : Fin 1024, x (ix2 i k) * w (ix2 j k) := by
  pointwise [k0_pay1]

theorem final : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]; frame_out
  refine (congrArg _ (eq_ix2 (n0 := 1024) (n1 := 896) y)).trans ((pay _ _ _ _).trans ?_)
  refine Eq.trans ?_ (sum_row _ _ _)
  refine Finset.sum_congr rfl fun k _ => ?_
  congr 1
  · blk_simp [iblk]
    refine (V_x m c _).trans (congrArg _ ?_)
    blk_ext [index0, index2]
  · blk_simp [iblk]
    refine (V_w m c _).trans (congrArg _ ?_)
    blk_ext [index1, index2]

open Cert.Reference8Ideal.Read in
/-- The reference's result is the same array. -/
theorem ref (x : S2048x1024.Idx → EReal) (w : S1024x6176.Idx → EReal) : val_main_v1 (F := Ideal) x w = prod x w := by
  funext y
  obtain ⟨i, j, rfl⟩ : ∃ (i : Fin 2048) (j : Fin 6272), y = ix2 i j := ⟨y 0, y 1, eq_ix2 (n0 := 2048) (n1 := 6272) y⟩
  unfold val_main_v1
  pointwise [val_main_call0_v0]
  unfold prod
  refine dite_congr rfl (fun h => ?_) (fun h => zero _)
  rw [val_main_v0_apply]
  exact Finset.sum_congr rfl fun k _ => congrArg₂ (· * ·) (congrArg x (eq_ix2 (n0 := 2048) (n1 := 1024) _)) (congrArg w (eq_ix2 (n0 := 1024) (n1 := 6176) _))

theorem frame_ideal : Cert.quiescent_Kernel8Ideal := fun m ρ _ => Cert.Kernel8Ideal.Gen.frame m ρ

theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem equal : Cert.algebraic_Kernel8Ideal_Reference8Ideal := by
  intro m ρ m' ρ' _ hargs
  refine ⟨fun c => prod (m ((c.tc : Thread nD τ).loc main_arg0)) (m ((c.tc : Thread nD τ).loc main_arg1)), ?_, ?_⟩
  · exact (θ_run Cert.Kernel8Ideal.defs _ _).mono (fun r h c => ⟨(h c).1.trans (final m c), (h c).2⟩) (Cert.Kernel8Ideal.Value.run_blocks m ρ)
  · refine (θ_run Cert.Reference8Ideal.defs _ _).mono (fun r h c => ⟨((h c).1.trans (Cert.Reference8Ideal.Read.val_main_v1_eq _ _)).trans ((ref _ _).trans ?_), (h c).2⟩)
      (Cert.Reference8Ideal.Value.run (F := Ideal) m' ρ')
    exact congrArg₂ prod (hargs c).1 (hargs c).2

end Cert.Kernel8Ideal.Proj

end
-- ==== Proof.Proj.SsmInWgrad.lean ====
/-
  The gradient of the Mamba-2 mixer's input projection, its columns as rows: each entry is the sum over the 2048 tokens.
-/
module

public import proofs.«01_k».proof.Proof.Ffn.Base
public import proofs.«01_k».proof.Proof.Gen.Kernel9Ideal.Value
public import proofs.«01_k».proof.Proof.Gen.Reference9Ideal.Run
public import proofs.«01_k».proof.Proof.Gen.Reference9Ideal.Read

@[expose] public section

set_option maxRecDepth 16384

noncomputable section

namespace Cert.Kernel9Ideal.Proj

open Cert.Kernel9Ideal Cert.Kernel9Ideal.Gen
open Idealize.ShloMosaic.Tactic
open Idealize.ShloMosaic Idealize.ShloMosaic.TcCoe Idealize.SL.Sem Idealize.ShloMosaic.StableHlo
open Idealize.ShloMosaic.Pipeline (Dat)

/-- The product, entry by entry. -/
def prod (x : S2048x6272.Idx → EReal) (w : S2048x1024.Idx → EReal) : S6272x1024.Idx → EReal :=
  fun y => ∑ k : Fin 2048, x (ix2 k (y 0)) * w (ix2 k (y 1))

variable (m : (ℓ : Loc nD τ sig) → Buf (Elt Ideal) ℓ) (ρ : Dev nD → PrngReg) (c : Dev nD)

theorem V_x (y : S2048x6272.Idx) : (V m c main_v0 : S2048x6272.Idx → EReal) y = (m ((c : Thread nD τ).loc main_arg0) : S2048x6272.Idx → EReal) y := by
  unfold V
  simp only [hostOps0, List.flatten_cons, List.flatten_nil, List.append_nil, List.cons_append, List.nil_append]
  after_results
  rfl

theorem V_w (y : S2048x1024.Idx) : (V m c main_v1 : S2048x1024.Idx → EReal) y = (m ((c : Thread nD τ).loc main_arg1) : S2048x1024.Idx → EReal) y := by
  unfold V
  simp only [hostOps0, List.flatten_cons, List.flatten_nil, List.append_nil, List.cons_append, List.nil_append]
  after_results
  rfl

theorem index0 : ∀ t : Fin cfg0.N, win0_0.index t = ![0, t.val] := (by decide +kernel : ∀ t : Fin grid0.N, win0_0.index t = ![0, t.val])
theorem index1 : ∀ t : Fin cfg0.N, win0_1.index t = ![0, 0] := (by decide +kernel : ∀ t : Fin grid0.N, win0_1.index t = ![0, 0])
theorem index2 : ∀ t : Fin cfg0.N, win0_2.index t = ![t.val, 0] := (by decide +kernel : ∀ t : Fin grid0.N, win0_2.index t = ![t.val, 0])

theorem pay (x : Vec Ideal S2048x896 .bf16) (w : Vec Ideal S2048x1024 .bf16) (i : Fin 896) (j : Fin 1024) :
    k0_pay1 x w (ix2 i j) = ∑ k : Fin 2048, x (ix2 k i) * w (ix2 k j) := by
  pointwise [k0_pay1]

theorem final : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]; frame_out
  refine (congrArg _ (eq_ix2 (n0 := 896) (n1 := 1024) y)).trans ((pay _ _ _ _).trans ?_)
  unfold prod
  refine Finset.sum_congr rfl fun k _ => ?_
  congr 1
  · blk_simp [iblk]
    refine (V_x m c _).trans (congrArg _ ?_)
    blk_ext [index0, index2]
  · blk_simp [iblk]
    refine (V_w m c _).trans (congrArg _ ?_)
    blk_ext [index1, index2]

open Cert.Reference9Ideal.Read in
/-- The reference's result is the same sum. -/
theorem ref (x : S2048x6272.Idx → EReal) (w : S2048x1024.Idx → EReal) : val_main_v6 (F := Ideal) x w = prod x w := by
  funext y
  rw [val_main_v6_apply]
  show val_main_v5 (F := Ideal) x w y = _
  rw [val_main_v5_apply, val_main_v3_apply, val_main_v2_apply]
  unfold prod
  exact Finset.sum_congr rfl fun k _ => (congrArg₂ (· * ·) (congrArg x (eq_ix2 (n0 := 2048) (n1 := 6272) _)) (congrArg w (eq_ix2 (n0 := 2048) (n1 := 1024) _)))

theorem frame_ideal : Cert.quiescent_Kernel9Ideal := fun m ρ _ => Cert.Kernel9Ideal.Gen.frame m ρ

theorem frame_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem equal : Cert.algebraic_Kernel9Ideal_Reference9Ideal := by
  intro m ρ m' ρ' _ hargs
  refine ⟨fun c => prod (m ((c.tc : Thread nD τ).loc main_arg0)) (m ((c.tc : Thread nD τ).loc main_arg1)), ?_, ?_⟩
  · exact (θ_run Cert.Kernel9Ideal.defs _ _).mono (fun r h c => ⟨(h c).1.trans (final m c), (h c).2⟩) (Cert.Kernel9Ideal.Value.run_blocks m ρ)
  · refine (θ_run Cert.Reference9Ideal.defs _ _).mono (fun r h c => ⟨((h c).1.trans (Cert.Reference9Ideal.Read.val_main_v6_eq _ _)).trans ((ref _ _).trans ?_), (h c).2⟩)
      (Cert.Reference9Ideal.Value.run (F := Ideal) m' ρ')
    exact congrArg₂ prod (hargs c).1 (hargs c).2

end Cert.Kernel9Ideal.Proj

end
-- ==== Proof.Proj.SsmInDgrad.lean ====
/-
  The gradient of the input of the Mamba-2 mixer's input projection: the padded weight's zero rows take nothing from the last 96 columns.
-/
module

public import proofs.«01_k».proof.Proof.Ffn.Base
public import proofs.«01_k».proof.Proof.Gen.Kernel10Ideal.Value
public import proofs.«01_k».proof.Proof.Gen.Reference10Ideal.Run
public import proofs.«01_k».proof.Proof.Gen.Reference10Ideal.Read

@[expose] public section

set_option maxRecDepth 16384

noncomputable section

namespace Cert.Kernel10Ideal.Proj

open Cert.Kernel10Ideal Cert.Kernel10Ideal.Gen
open Idealize.ShloMosaic.Tactic
open Idealize.ShloMosaic Idealize.ShloMosaic.TcCoe Idealize.SL.Sem Idealize.ShloMosaic.StableHlo
open Idealize.ShloMosaic.Pipeline (Dat)

/-- The transposed weight, zero below its last row. -/
def row (w : S1024x6176.Idx → EReal) : S6272x1024.Idx → EReal :=
  fun z => if h : (z 0).val < 6176 then w (ix2 (z 1) ⟨(z 0).val, h⟩) else 0

/-- The product of the first 6176 columns with the weight transposed. -/
def prod (x : S2048x6272.Idx → EReal) (w : S1024x6176.Idx → EReal) : S2048x1024.Idx → EReal :=
  fun y => ∑ k : Fin 6176, x (ix2 (y 0) (⟨k.val, k.isLt.trans (by decide)⟩ : Fin 6272)) * w (ix2 (y 1) k)

/-- The last 96 columns meet the zero rows. -/
theorem sum_row (x : S2048x6272.Idx → EReal) (w : S1024x6176.Idx → EReal) (y : S2048x1024.Idx) :
    ∑ k : Fin 6272, x (ix2 (y 0) k) * row w (ix2 k (y 1)) = prod x w y := by
  unfold prod
  refine (Fin.sum_univ_add (a := 6176) (b := 96) (fun k : Fin (6176 + 96) => x (ix2 (y 0) (k : Fin 6272)) * row w (ix2 (k : Fin 6272) (y 1)))).trans ?_
  rw [show (∑ k : Fin 96, x (ix2 (y 0) (Fin.natAdd 6176 k : Fin 6272)) * row w (ix2 (Fin.natAdd 6176 k : Fin 6272) (y 1))) = 0 from
    Finset.sum_eq_zero fun k _ => (congrArg _ (dif_neg (by show ¬ 6176 + k.val < 6176; omega))).trans (mul_zero _), add_zero]
  refine Finset.sum_congr rfl fun k _ => congrArg₂ (· * ·) rfl ?_
  exact dif_pos k.isLt

theorem zero (s : FTy) : FloatOps.sitofp (F := Ideal) s 0#32 = (0 : EReal) := by
  show (((0#32).toInt : ℝ) : EReal) = 0
  simp

variable (m : (ℓ : Loc nD τ sig) → Buf (Elt Ideal) ℓ) (ρ : Dev nD → PrngReg) (c : Dev nD)

theorem V_x (y : S2048x6272.Idx) : (V m c main_v3 : S2048x6272.Idx → EReal) y = (m ((c : Thread nD τ).loc main_arg0) : S2048x6272.Idx → EReal) y := by
  unfold V
  simp only [hostOps0, hostOps0_1, hostOps0_2, List.flatten_cons, List.flatten_nil, List.append_nil, List.cons_append, List.nil_append]
  after_results
  rfl

/-- The weight as the kernel reads it: transposed, with 96 rows of zeros below. -/
theorem V_w (z : S6272x1024.Idx) : (V m c main_v2 : S6272x1024.Idx → EReal) z = row (m ((c : Thread nD τ).loc main_arg1)) z := by
  obtain ⟨j, k, rfl⟩ : ∃ (j : Fin 6272) (k : Fin 1024), z = ix2 j k := ⟨z 0, z 1, eq_ix2 (n0 := 6272) (n1 := 1024) z⟩
  unfold V
  simp only [hostOps0, hostOps0_1, hostOps0_2, List.flatten_cons, List.flatten_nil, List.append_nil, List.cons_append, List.nil_append]
  after_results
  change pad S6272x1024 ![0, 0] ![96, 0] ![0, 0] (truncf (F := Ideal) .bf16 (transpose S6176x1024 [1, 0] (m ((c : Thread nD τ).loc main_arg1) : S1024x6176.Idx → EReal) transposes_S1024x6176_S6176x1024_1_0) bitsLt_bf16_f32)
    (sitofp (F := Ideal) .bf16 (constantI S_ 32 0#32)) pads_S6176x1024_S6272x1024_0960_000 h_S_ (ix2 j k) = _
  pointwise
  rw [zero]
  rfl

theorem index0 : ∀ t : Fin cfg0.N, win0_0.index t = ![t.val / 2, 0] := (by decide +kernel : ∀ t : Fin grid0.N, win0_0.index t = ![t.val / 2, 0])
theorem index1 : ∀ t : Fin cfg0.N, win0_1.index t = ![0, t.val % 2] := (by decide +kernel : ∀ t : Fin grid0.N, win0_1.index t = ![0, t.val % 2])
theorem index2 : ∀ t : Fin cfg0.N, win0_2.index t = ![t.val / 2, t.val % 2] := (by decide +kernel : ∀ t : Fin grid0.N, win0_2.index t = ![t.val / 2, t.val % 2])

theorem pay (x : Vec Ideal S512x6272 .bf16) (w : Vec Ideal S6272x512 .bf16) (i : Fin 512) (j : Fin 512) :
    k0_pay1 x w (ix2 i j) = ∑ k : Fin 6272, x (ix2 i k) * w (ix2 k j) := by
  pointwise [k0_pay1]

theorem final : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]; frame_out
  refine (congrArg _ (eq_ix2 (n0 := 512) (n1 := 512) y)).trans ((pay _ _ _ _).trans ?_)
  refine Eq.trans ?_ (sum_row _ _ _)
  refine Finset.sum_congr rfl fun k _ => ?_
  congr 1
  · blk_simp [iblk]
    refine (V_x m c _).trans (congrArg _ ?_)
    blk_ext [index0, index2]
  · blk_simp [iblk]
    refine (V_w m c _).trans (congrArg _ ?_)
    blk_ext [index1, index2]

open Cert.Reference10Ideal.Read in
/-- The reference's result is the same array. -/
theorem ref (x : S2048x6272.Idx → EReal) (w : S1024x6176.Idx → EReal) : val_main_v5 (F := Ideal) x w = prod x w := by
  funext y
  rw [val_main_v5_apply]
  unfold prod
  refine Finset.sum_congr rfl fun k _ => ?_
  rw [val_main_v2_apply]
  exact congrArg₂ (· * ·) (congrArg x (eq_ix2 (n0 := 2048) (n1 := 6272) _)) (congrArg w (eq_ix2 (n0 := 1024) (n1 := 6176) _))

theorem frame_ideal : Cert.quiescent_Kernel10Ideal := fun m ρ _ => Cert.Kernel10Ideal.Gen.frame m ρ

theorem frame_reference : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem equal : Cert.algebraic_Kernel10Ideal_Reference10Ideal := by
  intro m ρ m' ρ' _ hargs
  refine ⟨fun c => prod (m ((c.tc : Thread nD τ).loc main_arg0)) (m ((c.tc : Thread nD τ).loc main_arg1)), ?_, ?_⟩
  · exact (θ_run Cert.Kernel10Ideal.defs _ _).mono (fun r h c => ⟨(h c).1.trans (final m c), (h c).2⟩) (Cert.Kernel10Ideal.Value.run_blocks m ρ)
  · refine (θ_run Cert.Reference10Ideal.defs _ _).mono (fun r h c => ⟨((h c).1.trans (Cert.Reference10Ideal.Read.val_main_v5_eq _ _)).trans ((ref _ _).trans ?_), (h c).2⟩)
      (Cert.Reference10Ideal.Value.run (F := Ideal) m' ρ')
    exact congrArg₂ prod (hargs c).1 (hargs c).2

end Cert.Kernel10Ideal.Proj

end
-- ==== Proof.Proj.SsmOut.lean ====
/-
  The Mamba-2 mixer's output projection and the sum with its input: both arrays the kernel leaves are the reference's.
-/
module

public import proofs.«01_k».proof.Proof.Ffn.Base
public import proofs.«01_k».proof.Proof.Gen.Kernel11Ideal.Value
public import proofs.«01_k».proof.Proof.Gen.Reference11Ideal.Run
public import proofs.«01_k».proof.Proof.Gen.Reference11Ideal.Read

@[expose] public section

set_option maxRecDepth 16384

noncomputable section

namespace Cert.Kernel11Ideal.Proj

open Cert.Kernel11Ideal Cert.Kernel11Ideal.Gen
open Idealize.ShloMosaic.Tactic
open Idealize.ShloMosaic Idealize.ShloMosaic.TcCoe Idealize.SL.Sem Idealize.ShloMosaic.StableHlo
open Idealize.ShloMosaic.Pipeline (Dat)

/-- The product. -/
def prod (x : S2048x2048.Idx → EReal) (w : S2048x1024.Idx → EReal) : S2048x1024.Idx → EReal :=
  fun y => (∑ k : Fin 2048, x (ix2 (y 0) k) * w (ix2 k (y 1)))

/-- The input plus the gate times the product. -/
def next (x : S2048x2048.Idx → EReal) (w : S2048x1024.Idx → EReal) (r : S2048x1024.Idx → EReal) (g : S1024.Idx → EReal) : S2048x1024.Idx → EReal :=
  fun y => r y + g (ix1 (y 1)) * prod x w y

variable (m : (ℓ : Loc nD τ sig) → Buf (Elt Ideal) ℓ) (ρ : Dev nD → PrngReg) (c : Dev nD)

theorem V_x (y : S2048x2048.Idx) : (V m c main_v0 : S2048x2048.Idx → EReal) y = (m ((c : Thread nD τ).loc main_arg0) : S2048x2048.Idx → EReal) y := by
  unfold V
  simp only [hostOps0, List.flatten_cons, List.flatten_nil, List.append_nil, List.cons_append, List.nil_append]
  after_results
  rfl

theorem V_w (y : S2048x1024.Idx) : (V m c main_v1 : S2048x1024.Idx → EReal) y = (m ((c : Thread nD τ).loc main_arg1) : S2048x1024.Idx → EReal) y := by
  unfold V
  simp only [hostOps0, List.flatten_cons, List.flatten_nil, List.append_nil, List.cons_append, List.nil_append]
  after_results
  rfl

theorem V_g (i : Fin 1) (j : Fin 1024) :
    (V m c main_v2 : S1x1024.Idx → EReal) (ix2 i j) = (m ((c : Thread nD τ).loc main_arg3) : S1024.Idx → EReal) (ix1 j) := by
  unfold V
  simp only [hostOps0, List.flatten_cons, List.flatten_nil, List.append_nil, List.cons_append, List.nil_append]
  after_results
  pointwise

theorem index0 : ∀ t : Fin cfg0.N, win0_0.index t = ![t.val / 2, 0] := (by decide +kernel : ∀ t : Fin grid0.N, win0_0.index t = ![t.val / 2, 0])
theorem index1 : ∀ t : Fin cfg0.N, win0_1.index t = ![0, t.val % 2] := (by decide +kernel : ∀ t : Fin grid0.N, win0_1.index t = ![0, t.val % 2])
theorem index2 : ∀ t : Fin cfg0.N, win0_2.index t = ![t.val / 2, t.val % 2] := (by decide +kernel : ∀ t : Fin grid0.N, win0_2.index t = ![t.val / 2, t.val % 2])
theorem index3 : ∀ t : Fin cfg0.N, win0_3.index t = ![0, t.val % 2] := (by decide +kernel : ∀ t : Fin grid0.N, win0_3.index t = ![0, t.val % 2])
theorem index4 : ∀ t : Fin cfg0.N, win0_4.index t = ![t.val / 2, t.val % 2] := (by decide +kernel : ∀ t : Fin grid0.N, win0_4.index t = ![t.val / 2, t.val % 2])
theorem index5 : ∀ t : Fin cfg0.N, win0_5.index t = ![t.val / 2, t.val % 2] := (by decide +kernel : ∀ t : Fin grid0.N, win0_5.index t = ![t.val / 2, t.val % 2])

theorem pay (x : Vec Ideal S1024x2048 .bf16) (w : Vec Ideal S2048x512 .bf16) (i : Fin 1024) (j : Fin 512) :
    k0_pay2 x w (ix2 i j) = (∑ k : Fin 2048, x (ix2 i k) * w (ix2 k j)) := by
  pointwise [k0_pay2, k0_pay1]

theorem pay_next (x : Vec Ideal S1024x2048 .bf16) (w : Vec Ideal S2048x512 .bf16) (r : Vec Ideal S1024x512 .f32) (g : Vec Ideal S1x512 .f32) (i : Fin 1024) (j : Fin 512) :
    k0_pay3 x w r g (ix2 i j) = r (ix2 i j) + g (ix2 0 j) * ((∑ k : Fin 2048, x (ix2 i k) * w (ix2 k j))) := by
  pointwise [k0_pay3, k0_pay1]

/-- The product of the kernel's blocks at a point. -/
theorem prod_at (t : Fin cfg0.N) (i : Fin 1024) (j : Fin 512) :
    (∑ k : Fin 2048, HMul.hMul (α := EReal) (β := EReal) (γ := EReal) (iblk m c 0 t (ix2 i k)) (iblk m c 1 t (ix2 k j)))
      = prod (m ((c : Thread nD τ).loc main_arg0)) (m ((c : Thread nD τ).loc main_arg1)) (((View.whole main_v3_0).slice (win0_4.rect t)).emb (ix2 i j)) := by
  unfold prod
  refine Finset.sum_congr rfl fun k _ => ?_
  congr 1
  · blk_simp [iblk]
    refine (V_x m c _).trans (congrArg _ ?_)
    blk_ext [index0, index4]
  · blk_simp [iblk]
    refine (V_w m c _).trans (congrArg _ ?_)
    blk_ext [index1, index4]

theorem final : (dats m 0 c).arrAt 4 cfg0.N = prod (m ((c : Thread nD τ).loc main_arg0)) (m ((c : Thread nD τ).loc main_arg1)) := by
  refine (dats m 0 c).arrAt_eq_of_covers 4 _ (by decide +kernel) fun t hf y => ?_
  blk_simp
  rw [after0_4]; frame_out
  obtain ⟨i, j, rfl⟩ : ∃ (i : Fin 1024) (j : Fin 512), y = ix2 i j := ⟨y 0, y 1, eq_ix2 (n0 := 1024) (n1 := 512) y⟩
  exact (pay _ _ _ _).trans (prod_at m c t i j)

theorem final_next : (dats m 0 c).arrAt 5 cfg0.N = next (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]; frame_out
  obtain ⟨i, j, rfl⟩ : ∃ (i : Fin 1024) (j : Fin 512), y = ix2 i j := ⟨y 0, y 1, eq_ix2 (n0 := 1024) (n1 := 512) y⟩
  refine (pay_next _ _ _ _ _ _).trans ?_
  unfold next
  refine congrArg₂ (· + ·) ?_ (congrArg₂ (· * ·) ?_ (prod_at m c t i j))
  · blk_simp [iblk]
    rw [V_main_arg2]
    refine congrArg _ ?_
    blk_ext [index2, index5]
  · blk_simp [iblk]
    refine ((congrArg _ (eq_ix2 (n0 := 1) (n1 := 1024) _)).trans (V_g m c _ _)).trans (congrArg _ ?_)
    blk_ext [index3, index5]

open Cert.Reference11Ideal.Read

theorem ref_dot (x : S2048x2048.Idx → EReal) (w : S2048x1024.Idx → EReal) (y : S2048x1024.Idx) : val_main_v0 (F := Ideal) x w y = ∑ k : Fin 2048, x (ix2 (y 0) k) * w (ix2 k (y 1)) := by
  rw [val_main_v0_apply]
  exact Finset.sum_congr rfl fun k _ => congrArg₂ (· * ·) (congrArg x (eq_ix2 (n0 := 2048) (n1 := 2048) _)) (congrArg w (eq_ix2 (n0 := 2048) (n1 := 1024) _))

theorem ref_sum (x : S2048x2048.Idx → EReal) (w : S2048x1024.Idx → EReal) : val_main_v0 (F := Ideal) x w = prod x w := funext fun y => ref_dot x w y

theorem ref_next (x : S2048x2048.Idx → EReal) (w : S2048x1024.Idx → EReal) (r : S2048x1024.Idx → EReal) (g : S1024.Idx → EReal) : val_main_v5 (F := Ideal) x w r g = next x w r g := by
  funext y
  refine (congrArg (r y + ·) (congrArg₂ (· * ·) ?_ (congrFun (ref_sum x w) y)) :)
  rw [val_main_v3_apply, val_main_v2_apply]
  exact congrArg g (eq_ix1 (n0 := 1024) _)

theorem frame_ideal : Cert.quiescent_Kernel11Ideal := fun m ρ _ => Cert.Kernel11Ideal.Gen.frame m ρ

theorem frame_reference : Cert.quiescent_Reference11Ideal := fun m ρ _ =>
  (θ_run Cert.Reference11Ideal.defs _ _).mono (fun r h => ⟨fun c => (h c).2.2, sem_eq_zero_of_no_sems (by decide) r.2⟩)
    (Cert.Reference11Ideal.Value.run (F := Ideal) m ρ)

theorem equal : Cert.algebraic_Kernel11Ideal_Reference11Ideal := by
  intro m ρ m' ρ' _ hargs
  refine ⟨fun c => prod (m ((c.tc : Thread nD τ).loc main_arg0)) (m ((c.tc : Thread nD τ).loc main_arg1)),
    fun c => next (m ((c.tc : Thread nD τ).loc main_arg0)) (m ((c.tc : Thread nD τ).loc main_arg1)) (m ((c.tc : Thread nD τ).loc main_arg2)) (m ((c.tc : Thread nD τ).loc main_arg3)), ?_, ?_⟩
  · exact (θ_run Cert.Kernel11Ideal.defs _ _).mono (fun r h c => ⟨(h c).1.trans (final m c), (h c).2.1.trans (final_next m c), (h c).2.2⟩) (Cert.Kernel11Ideal.Value.run_blocks m ρ)
  · refine (θ_run Cert.Reference11Ideal.defs _ _).mono (fun r h c => ⟨((h c).1.trans (val_main_v1_eq _ _)).trans ((ref_sum _ _).trans ?_),
      ((h c).2.1.trans (val_main_v5_eq _ _ _ _)).trans ((ref_next _ _ _ _).trans ?_), (h c).2.2⟩)
      (Cert.Reference11Ideal.Value.run (F := Ideal) m' ρ')
    · rw [(hargs c).1, (hargs c).2.1]
    · rw [(hargs c).1, (hargs c).2.1, (hargs c).2.2.1, (hargs c).2.2.2]

end Cert.Kernel11Ideal.Proj

end
-- ==== Proof.Proj.SsmOutWgrad.lean ====
/-
  The gradient of the Mamba-2 mixer's output projection: each entry is the sum over the 2048 tokens.
-/
module

public import proofs.«01_k».proof.Proof.Ffn.Base
public import proofs.«01_k».proof.Proof.Gen.Kernel12Ideal.Value
public import proofs.«01_k».proof.Proof.Gen.Reference12Ideal.Run
public import proofs.«01_k».proof.Proof.Gen.Reference12Ideal.Read

@[expose] public section

set_option maxRecDepth 16384

noncomputable section

namespace Cert.Kernel12Ideal.Proj

open Cert.Kernel12Ideal Cert.Kernel12Ideal.Gen
open Idealize.ShloMosaic.Tactic
open Idealize.ShloMosaic Idealize.ShloMosaic.TcCoe Idealize.SL.Sem Idealize.ShloMosaic.StableHlo
open Idealize.ShloMosaic.Pipeline (Dat)

/-- The product, entry by entry. -/
def prod (x : S2048x2048.Idx → EReal) (w : S2048x1024.Idx → EReal) : S2048x1024.Idx → EReal :=
  fun y => ∑ k : Fin 2048, x (ix2 k (y 0)) * w (ix2 k (y 1))

variable (m : (ℓ : Loc nD τ sig) → Buf (Elt Ideal) ℓ) (ρ : Dev nD → PrngReg) (c : Dev nD)

theorem V_x (y : S2048x2048.Idx) : (V m c main_v0 : S2048x2048.Idx → EReal) y = (m ((c : Thread nD τ).loc main_arg0) : S2048x2048.Idx → EReal) y := by
  unfold V
  simp only [hostOps0, List.flatten_cons, List.flatten_nil, List.append_nil, List.cons_append, List.nil_append]
  after_results
  rfl

theorem V_w (y : S2048x1024.Idx) : (V m c main_v1 : S2048x1024.Idx → EReal) y = (m ((c : Thread nD τ).loc main_arg1) : S2048x1024.Idx → EReal) y := by
  unfold V
  simp only [hostOps0, List.flatten_cons, List.flatten_nil, List.append_nil, List.cons_append, List.nil_append]
  after_results
  rfl

theorem index0 : ∀ t : Fin cfg0.N, win0_0.index t = ![0, t.val] := (by decide +kernel : ∀ t : Fin grid0.N, win0_0.index t = ![0, t.val])
theorem index1 : ∀ t : Fin cfg0.N, win0_1.index t = ![0, 0] := (by decide +kernel : ∀ t : Fin grid0.N, win0_1.index t = ![0, 0])
theorem index2 : ∀ t : Fin cfg0.N, win0_2.index t = ![t.val, 0] := (by decide +kernel : ∀ t : Fin grid0.N, win0_2.index t = ![t.val, 0])

theorem pay (x : Vec Ideal S2048x1024 .bf16) (w : Vec Ideal S2048x1024 .bf16) (i : Fin 1024) (j : Fin 1024) :
    k0_pay1 x w (ix2 i j) = ∑ k : Fin 2048, x (ix2 k i) * w (ix2 k j) := by
  pointwise [k0_pay1]

theorem final : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]; frame_out
  refine (congrArg _ (eq_ix2 (n0 := 1024) (n1 := 1024) y)).trans ((pay _ _ _ _).trans ?_)
  unfold prod
  refine Finset.sum_congr rfl fun k _ => ?_
  congr 1
  · blk_simp [iblk]
    refine (V_x m c _).trans (congrArg _ ?_)
    blk_ext [index0, index2]
  · blk_simp [iblk]
    refine (V_w m c _).trans (congrArg _ ?_)
    blk_ext [index1, index2]

open Cert.Reference12Ideal.Read in
/-- The reference's result is the same sum. -/
theorem ref (x : S2048x2048.Idx → EReal) (w : S2048x1024.Idx → EReal) : val_main_v5 (F := Ideal) x w = prod x w := by
  funext y
  rw [val_main_v5_apply]
  show val_main_v3 (F := Ideal) x w y = _
  rw [val_main_v3_apply, val_main_v2_apply]
  unfold prod
  exact Finset.sum_congr rfl fun k _ => (mul_comm _ _).trans (congrArg₂ (· * ·) (congrArg x (eq_ix2 (n0 := 2048) (n1 := 2048) _)) (congrArg w (eq_ix2 (n0 := 2048) (n1 := 1024) _)))

theorem frame_ideal : Cert.quiescent_Kernel12Ideal := fun m ρ _ => Cert.Kernel12Ideal.Gen.frame m ρ

theorem frame_reference : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

theorem equal : Cert.algebraic_Kernel12Ideal_Reference12Ideal := by
  intro m ρ m' ρ' _ hargs
  refine ⟨fun c => prod (m ((c.tc : Thread nD τ).loc main_arg0)) (m ((c.tc : Thread nD τ).loc main_arg1)), ?_, ?_⟩
  · exact (θ_run Cert.Kernel12Ideal.defs _ _).mono (fun r h c => ⟨(h c).1.trans (final m c), (h c).2⟩) (Cert.Kernel12Ideal.Value.run_blocks m ρ)
  · refine (θ_run Cert.Reference12Ideal.defs _ _).mono (fun r h c => ⟨((h c).1.trans (Cert.Reference12Ideal.Read.val_main_v5_eq _ _)).trans ((ref _ _).trans ?_), (h c).2⟩)
      (Cert.Reference12Ideal.Value.run (F := Ideal) m' ρ')
    exact congrArg₂ prod (hargs c).1 (hargs c).2

end Cert.Kernel12Ideal.Proj

end
-- ==== Proof.Proj.SsmOutDgrad.lean ====
/-
  The gradient of the input of the Mamba-2 mixer's output projection: the product with the weight transposed.
-/
module

public import proofs.«01_k».proof.Proof.Ffn.Base
public import proofs.«01_k».proof.Proof.Gen.Kernel13Ideal.Value
public import proofs.«01_k».proof.Proof.Gen.Reference13Ideal.Run
public import proofs.«01_k».proof.Proof.Gen.Reference13Ideal.Read

@[expose] public section

set_option maxRecDepth 16384

noncomputable section

namespace Cert.Kernel13Ideal.Proj

open Cert.Kernel13Ideal Cert.Kernel13Ideal.Gen
open Idealize.ShloMosaic.Tactic
open Idealize.ShloMosaic Idealize.ShloMosaic.TcCoe Idealize.SL.Sem Idealize.ShloMosaic.StableHlo
open Idealize.ShloMosaic.Pipeline (Dat)

/-- The product, entry by entry. -/
def prod (x : S2048x1024.Idx → EReal) (w : S2048x1024.Idx → EReal) : S2048x2048.Idx → EReal :=
  fun y => ∑ k : Fin 1024, x (ix2 (y 0) k) * w (ix2 (y 1) k)

variable (m : (ℓ : Loc nD τ sig) → Buf (Elt Ideal) ℓ) (ρ : Dev nD → PrngReg) (c : Dev nD)

theorem V_x (y : S2048x1024.Idx) : (V m c main_v0 : S2048x1024.Idx → EReal) y = (m ((c : Thread nD τ).loc main_arg0) : S2048x1024.Idx → EReal) y := by
  unfold V
  simp only [hostOps0, List.flatten_cons, List.flatten_nil, List.append_nil, List.cons_append, List.nil_append]
  after_results
  rfl

theorem V_w (y : S2048x1024.Idx) : (V m c main_v1 : S2048x1024.Idx → EReal) y = (m ((c : Thread nD τ).loc main_arg1) : S2048x1024.Idx → EReal) y := by
  unfold V
  simp only [hostOps0, List.flatten_cons, List.flatten_nil, List.append_nil, List.cons_append, List.nil_append]
  after_results
  rfl

theorem index0 : ∀ t : Fin cfg0.N, win0_0.index t = ![t.val / 4, 0] := (by decide +kernel : ∀ t : Fin grid0.N, win0_0.index t = ![t.val / 4, 0])
theorem index1 : ∀ t : Fin cfg0.N, win0_1.index t = ![t.val % 4, 0] := (by decide +kernel : ∀ t : Fin grid0.N, win0_1.index t = ![t.val % 4, 0])
theorem index2 : ∀ t : Fin cfg0.N, win0_2.index t = ![t.val / 4, t.val % 4] := (by decide +kernel : ∀ t : Fin grid0.N, win0_2.index t = ![t.val / 4, t.val % 4])

theorem pay (x : Vec Ideal S1024x1024 .bf16) (w : Vec Ideal S512x1024 .bf16) (i : Fin 1024) (j : Fin 512) :
    k0_pay1 x w (ix2 i j) = ∑ k : Fin 1024, x (ix2 i k) * w (ix2 j k) := by
  pointwise [k0_pay1]

theorem final : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]; frame_out
  refine (congrArg _ (eq_ix2 (n0 := 1024) (n1 := 512) y)).trans ((pay _ _ _ _).trans ?_)
  unfold prod
  refine Finset.sum_congr rfl fun k _ => ?_
  congr 1
  · blk_simp [iblk]
    refine (V_x m c _).trans (congrArg _ ?_)
    blk_ext [index0, index2]
  · blk_simp [iblk]
    refine (V_w m c _).trans (congrArg _ ?_)
    blk_ext [index1, index2]

open Cert.Reference13Ideal.Read in
/-- The reference's result is the same sum. -/
theorem ref (x : S2048x1024.Idx → EReal) (w : S2048x1024.Idx → EReal) : val_main_v4 (F := Ideal) x w = prod x w := by
  funext y
  rw [val_main_v4_apply]
  unfold prod
  exact Finset.sum_congr rfl fun k _ => (congrArg₂ (· * ·) (congrArg x (eq_ix2 (n0 := 2048) (n1 := 1024) _)) (congrArg w (eq_ix2 (n0 := 2048) (n1 := 1024) _)))

theorem frame_ideal : Cert.quiescent_Kernel13Ideal := fun m ρ _ => Cert.Kernel13Ideal.Gen.frame m ρ

theorem frame_reference : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

theorem equal : Cert.algebraic_Kernel13Ideal_Reference13Ideal := by
  intro m ρ m' ρ' _ hargs
  refine ⟨fun c => prod (m ((c.tc : Thread nD τ).loc main_arg0)) (m ((c.tc : Thread nD τ).loc main_arg1)), ?_, ?_⟩
  · exact (θ_run Cert.Kernel13Ideal.defs _ _).mono (fun r h c => ⟨(h c).1.trans (final m c), (h c).2⟩) (Cert.Kernel13Ideal.Value.run_blocks m ρ)
  · refine (θ_run Cert.Reference13Ideal.defs _ _).mono (fun r h c => ⟨((h c).1.trans (Cert.Reference13Ideal.Read.val_main_v4_eq _ _)).trans ((ref _ _).trans ?_), (h c).2⟩)
      (Cert.Reference13Ideal.Value.run (F := Ideal) m' ρ')
    exact congrArg₂ prod (hargs c).1 (hargs c).2

end Cert.Kernel13Ideal.Proj

end
-- ==== Proof.Proj.Query.lean ====
/-
  The attention's query projection with its bias.
-/
module

public import proofs.«01_k».proof.Proof.Ffn.Base
public import proofs.«01_k».proof.Proof.Gen.Kernel14Ideal.Value
public import proofs.«01_k».proof.Proof.Gen.Reference14Ideal.Run
public import proofs.«01_k».proof.Proof.Gen.Reference14Ideal.Read

@[expose] public section

set_option maxRecDepth 16384

noncomputable section

namespace Cert.Kernel14Ideal.Proj

open Cert.Kernel14Ideal Cert.Kernel14Ideal.Gen
open Idealize.ShloMosaic.Tactic
open Idealize.ShloMosaic Idealize.ShloMosaic.TcCoe Idealize.SL.Sem Idealize.ShloMosaic.StableHlo
open Idealize.ShloMosaic.Pipeline (Dat)

/-- The product, with the bias. -/
def prod (x : S2048x1024.Idx → EReal) (w : S1024x1024.Idx → EReal) (b : S1024.Idx → EReal) : S2048x1024.Idx → EReal :=
  fun y => (∑ k : Fin 1024, x (ix2 (y 0) k) * w (ix2 k (y 1))) + b (ix1 (y 1))

variable (m : (ℓ : Loc nD τ sig) → Buf (Elt Ideal) ℓ) (ρ : Dev nD → PrngReg) (c : Dev nD)

theorem V_x (y : S2048x1024.Idx) : (V m c main_v0 : S2048x1024.Idx → EReal) y = (m ((c : Thread nD τ).loc main_arg0) : S2048x1024.Idx → EReal) y := by
  unfold V
  simp only [hostOps0, List.flatten_cons, List.flatten_nil, List.append_nil, List.cons_append, List.nil_append]
  after_results
  rfl

theorem V_w (y : S1024x1024.Idx) : (V m c main_v1 : S1024x1024.Idx → EReal) y = (m ((c : Thread nD τ).loc main_arg1) : S1024x1024.Idx → EReal) y := by
  unfold V
  simp only [hostOps0, List.flatten_cons, List.flatten_nil, List.append_nil, List.cons_append, List.nil_append]
  after_results
  rfl

theorem V_b (i : Fin 1) (j : Fin 1024) :
    (V m c main_v2 : S1x1024.Idx → EReal) (ix2 i j) = (m ((c : Thread nD τ).loc main_arg2) : S1024.Idx → EReal) (ix1 j) := by
  unfold V
  simp only [hostOps0, List.flatten_cons, List.flatten_nil, List.append_nil, List.cons_append, List.nil_append]
  after_results
  pointwise

theorem index0 : ∀ t : Fin cfg0.N, win0_0.index t = ![t.val / 2, 0] := (by decide +kernel : ∀ t : Fin grid0.N, win0_0.index t = ![t.val / 2, 0])
theorem index1 : ∀ t : Fin cfg0.N, win0_1.index t = ![0, t.val % 2] := (by decide +kernel : ∀ t : Fin grid0.N, win0_1.index t = ![0, t.val % 2])
theorem index2 : ∀ t : Fin cfg0.N, win0_2.index t = ![0, t.val % 2] := (by decide +kernel : ∀ t : Fin grid0.N, win0_2.index t = ![0, t.val % 2])
theorem index3 : ∀ t : Fin cfg0.N, win0_3.index t = ![t.val / 2, t.val % 2] := (by decide +kernel : ∀ t : Fin grid0.N, win0_3.index t = ![t.val / 2, t.val % 2])

theorem pay (x : Vec Ideal S1024x1024 .bf16) (w : Vec Ideal S1024x512 .bf16) (b : Vec Ideal S1x512 .f32) (i : Fin 1024) (j : Fin 512) :
    k0_pay1 x w b (ix2 i j) = (∑ k : Fin 1024, x (ix2 i k) * w (ix2 k j)) + b (ix2 0 j) := by
  pointwise [k0_pay1]

/-- The product of the kernel's blocks at a point. -/
theorem prod_at (t : Fin cfg0.N) (i : Fin 1024) (j : Fin 512) :
    HAdd.hAdd (α := EReal) (β := EReal) (γ := EReal) (∑ k : Fin 1024, HMul.hMul (α := EReal) (β := EReal) (γ := EReal) (iblk m c 0 t (ix2 i k)) (iblk m c 1 t (ix2 k j))) (iblk m c 2 t (ix2 0 j))
      = prod (m ((c : Thread nD τ).loc main_arg0)) (m ((c : Thread nD τ).loc main_arg1)) (m ((c : Thread nD τ).loc main_arg2)) (((View.whole main_v3).slice (win0_3.rect t)).emb (ix2 i j)) := by
  unfold prod
  refine congrArg₂ (· + ·) ?_ ?_
  · refine Finset.sum_congr rfl fun k _ => ?_
    congr 1
    · blk_simp [iblk]
      refine (V_x m c _).trans (congrArg _ ?_)
      blk_ext [index0, index3]
    · blk_simp [iblk]
      refine (V_w m c _).trans (congrArg _ ?_)
      blk_ext [index1, index3]
  · blk_simp [iblk]
    refine ((congrArg _ (eq_ix2 (n0 := 1) (n1 := 1024) _)).trans (V_b m c _ _)).trans (congrArg _ ?_)
    blk_ext [index2, index3]

theorem final : (dats m 0 c).arrAt 3 cfg0.N = prod (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; frame_out
  obtain ⟨i, j, rfl⟩ : ∃ (i : Fin 1024) (j : Fin 512), y = ix2 i j := ⟨y 0, y 1, eq_ix2 (n0 := 1024) (n1 := 512) y⟩
  exact (pay _ _ _ _ _).trans (prod_at m c t i j)

open Cert.Reference14Ideal.Read

theorem ref_dot (x : S2048x1024.Idx → EReal) (w : S1024x1024.Idx → EReal) (y : S2048x1024.Idx) : val_main_v0 (F := Ideal) x w y = ∑ k : Fin 1024, x (ix2 (y 0) k) * w (ix2 k (y 1)) := by
  rw [val_main_v0_apply]
  exact Finset.sum_congr rfl fun k _ => congrArg₂ (· * ·) (congrArg x (eq_ix2 (n0 := 2048) (n1 := 1024) _)) (congrArg w (eq_ix2 (n0 := 1024) (n1 := 1024) _))

theorem ref_sum (x : S2048x1024.Idx → EReal) (w : S1024x1024.Idx → EReal) (b : S1024.Idx → EReal) : val_main_v3 (F := Ideal) x w b = prod x w b := by
  funext y
  refine (congrArg₂ (· + ·) (ref_dot x w y) ?_ :)
  rw [val_main_v2_apply, val_main_v1_apply]
  exact congrArg b (eq_ix1 (n0 := 1024) _)

theorem frame_ideal : Cert.quiescent_Kernel14Ideal := fun m ρ _ => Cert.Kernel14Ideal.Gen.frame m ρ

theorem frame_reference : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

theorem equal : Cert.algebraic_Kernel14Ideal_Reference14Ideal := by
  intro m ρ m' ρ' _ hargs
  refine ⟨fun c => prod (m ((c.tc : Thread nD τ).loc main_arg0)) (m ((c.tc : Thread nD τ).loc main_arg1)) (m ((c.tc : Thread nD τ).loc main_arg2)), ?_, ?_⟩
  · exact (θ_run Cert.Kernel14Ideal.defs _ _).mono (fun r h c => ⟨(h c).1.trans (final m c), (h c).2⟩) (Cert.Kernel14Ideal.Value.run_blocks m ρ)
  · refine (θ_run Cert.Reference14Ideal.defs _ _).mono (fun r h c => ⟨((h c).1.trans (val_main_v3_eq _ _ _)).trans ((ref_sum _ _ _).trans ?_), (h c).2⟩)
      (Cert.Reference14Ideal.Value.run (F := Ideal) m' ρ')
    rw [(hargs c).1, (hargs c).2.1, (hargs c).2.2]

end Cert.Kernel14Ideal.Proj

end
-- ==== Proof.Proj.AttnOut.lean ====
/-
  The attention's output projection with its bias and the sum with its input: both arrays the kernel leaves are the reference's.
-/
module

public import proofs.«01_k».proof.Proof.Ffn.Base
public import proofs.«01_k».proof.Proof.Gen.Kernel15Ideal.Value
public import proofs.«01_k».proof.Proof.Gen.Reference15Ideal.Run
public import proofs.«01_k».proof.Proof.Gen.Reference15Ideal.Read

@[expose] public section

set_option maxRecDepth 16384

noncomputable section

namespace Cert.Kernel15Ideal.Proj

open Cert.Kernel15Ideal Cert.Kernel15Ideal.Gen
open Idealize.ShloMosaic.Tactic
open Idealize.ShloMosaic Idealize.ShloMosaic.TcCoe Idealize.SL.Sem Idealize.ShloMosaic.StableHlo
open Idealize.ShloMosaic.Pipeline (Dat)

/-- The product, with the bias. -/
def prod (x : S2048x1024.Idx → EReal) (w : S1024x1024.Idx → EReal) (b : S1024.Idx → EReal) : S2048x1024.Idx → EReal :=
  fun y => (∑ k : Fin 1024, x (ix2 (y 0) k) * w (ix2 k (y 1))) + b (ix1 (y 1))

/-- The input plus the gate times the product. -/
def next (x : S2048x1024.Idx → EReal) (w : S1024x1024.Idx → EReal) (b : S1024.Idx → EReal) (r : S2048x1024.Idx → EReal) (g : S1024.Idx → EReal) : S2048x1024.Idx → EReal :=
  fun y => r y + g (ix1 (y 1)) * prod x w b y

variable (m : (ℓ : Loc nD τ sig) → Buf (Elt Ideal) ℓ) (ρ : Dev nD → PrngReg) (c : Dev nD)

theorem V_x (y : S2048x1024.Idx) : (V m c main_v0 : S2048x1024.Idx → EReal) y = (m ((c : Thread nD τ).loc main_arg0) : S2048x1024.Idx → EReal) y := by
  unfold V
  simp only [hostOps0, List.flatten_cons, List.flatten_nil, List.append_nil, List.cons_append, List.nil_append]
  after_results
  rfl

theorem V_w (y : S1024x1024.Idx) : (V m c main_v1 : S1024x1024.Idx → EReal) y = (m ((c : Thread nD τ).loc main_arg1) : S1024x1024.Idx → EReal) y := by
  unfold V
  simp only [hostOps0, List.flatten_cons, List.flatten_nil, List.append_nil, List.cons_append, List.nil_append]
  after_results
  rfl

theorem V_b (i : Fin 1) (j : Fin 1024) :
    (V m c main_v2 : S1x1024.Idx → EReal) (ix2 i j) = (m ((c : Thread nD τ).loc main_arg2) : S1024.Idx → EReal) (ix1 j) := by
  unfold V
  simp only [hostOps0, List.flatten_cons, List.flatten_nil, List.append_nil, List.cons_append, List.nil_append]
  after_results
  pointwise

theorem V_g (i : Fin 1) (j : Fin 1024) :
    (V m c main_v3 : S1x1024.Idx → EReal) (ix2 i j) = (m ((c : Thread nD τ).loc main_arg4) : S1024.Idx → EReal) (ix1 j) := by
  unfold V
  simp only [hostOps0, List.flatten_cons, List.flatten_nil, List.append_nil, List.cons_append, List.nil_append]
  after_results
  pointwise

theorem index0 : ∀ t : Fin cfg0.N, win0_0.index t = ![t.val / 2, 0] := (by decide +kernel : ∀ t : Fin grid0.N, win0_0.index t = ![t.val / 2, 0])
theorem index1 : ∀ t : Fin cfg0.N, win0_1.index t = ![0, t.val % 2] := (by decide +kernel : ∀ t : Fin grid0.N, win0_1.index t = ![0, t.val % 2])
theorem index2 : ∀ t : Fin cfg0.N, win0_2.index t = ![0, t.val % 2] := (by decide +kernel : ∀ t : Fin grid0.N, win0_2.index t = ![0, t.val % 2])
theorem index3 : ∀ t : Fin cfg0.N, win0_3.index t = ![t.val / 2, t.val % 2] := (by decide +kernel : ∀ t : Fin grid0.N, win0_3.index t = ![t.val / 2, t.val % 2])
theorem index4 : ∀ t : Fin cfg0.N, win0_4.index t = ![0, t.val % 2] := (by decide +kernel : ∀ t : Fin grid0.N, win0_4.index t = ![0, t.val % 2])
theorem index5 : ∀ t : Fin cfg0.N, win0_5.index t = ![t.val / 2, t.val % 2] := (by decide +kernel : ∀ t : Fin grid0.N, win0_5.index t = ![t.val / 2, t.val % 2])
theorem index6 : ∀ t : Fin cfg0.N, win0_6.index t = ![t.val / 2, t.val % 2] := (by decide +kernel : ∀ t : Fin grid0.N, win0_6.index t = ![t.val / 2, t.val % 2])

theorem pay (x : Vec Ideal S1024x1024 .bf16) (w : Vec Ideal S1024x512 .bf16) (b : Vec Ideal S1x512 .f32) (i : Fin 1024) (j : Fin 512) :
    k0_pay2 x w b (ix2 i j) = (∑ k : Fin 1024, x (ix2 i k) * w (ix2 k j)) + b (ix2 0 j) := by
  pointwise [k0_pay2, k0_pay1]

theorem pay_next (x : Vec Ideal S1024x1024 .bf16) (w : Vec Ideal S1024x512 .bf16) (b : Vec Ideal S1x512 .f32) (r : Vec Ideal S1024x512 .f32) (g : Vec Ideal S1x512 .f32) (i : Fin 1024) (j : Fin 512) :
    k0_pay3 x w b r g (ix2 i j) = r (ix2 i j) + g (ix2 0 j) * ((∑ k : Fin 1024, x (ix2 i k) * w (ix2 k j)) + b (ix2 0 j)) := by
  pointwise [k0_pay3, k0_pay1]

/-- The product of the kernel's blocks at a point. -/
theorem prod_at (t : Fin cfg0.N) (i : Fin 1024) (j : Fin 512) :
    HAdd.hAdd (α := EReal) (β := EReal) (γ := EReal) (∑ k : Fin 1024, HMul.hMul (α := EReal) (β := EReal) (γ := EReal) (iblk m c 0 t (ix2 i k)) (iblk m c 1 t (ix2 k j))) (iblk m c 2 t (ix2 0 j))
      = prod (m ((c : Thread nD τ).loc main_arg0)) (m ((c : Thread nD τ).loc main_arg1)) (m ((c : Thread nD τ).loc main_arg2)) (((View.whole main_v4_0).slice (win0_5.rect t)).emb (ix2 i j)) := by
  unfold prod
  refine congrArg₂ (· + ·) ?_ ?_
  · refine Finset.sum_congr rfl fun k _ => ?_
    congr 1
    · blk_simp [iblk]
      refine (V_x m c _).trans (congrArg _ ?_)
      blk_ext [index0, index5]
    · blk_simp [iblk]
      refine (V_w m c _).trans (congrArg _ ?_)
      blk_ext [index1, index5]
  · blk_simp [iblk]
    refine ((congrArg _ (eq_ix2 (n0 := 1) (n1 := 1024) _)).trans (V_b m c _ _)).trans (congrArg _ ?_)
    blk_ext [index2, index5]

theorem final : (dats m 0 c).arrAt 5 cfg0.N = prod (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]; frame_out
  obtain ⟨i, j, rfl⟩ : ∃ (i : Fin 1024) (j : Fin 512), y = ix2 i j := ⟨y 0, y 1, eq_ix2 (n0 := 1024) (n1 := 512) y⟩
  exact (pay _ _ _ _ _).trans (prod_at m c t i j)

theorem final_next : (dats m 0 c).arrAt 6 cfg0.N = next (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]; frame_out
  obtain ⟨i, j, rfl⟩ : ∃ (i : Fin 1024) (j : Fin 512), y = ix2 i j := ⟨y 0, y 1, eq_ix2 (n0 := 1024) (n1 := 512) y⟩
  refine (pay_next _ _ _ _ _ _ _).trans ?_
  unfold next
  refine congrArg₂ (· + ·) ?_ (congrArg₂ (· * ·) ?_ (prod_at m c t i j))
  · blk_simp [iblk]
    rw [V_main_arg3]
    refine congrArg _ ?_
    blk_ext [index3, index6]
  · blk_simp [iblk]
    refine ((congrArg _ (eq_ix2 (n0 := 1) (n1 := 1024) _)).trans (V_g m c _ _)).trans (congrArg _ ?_)
    blk_ext [index4, index6]

open Cert.Reference15Ideal.Read

theorem ref_dot (x : S2048x1024.Idx → EReal) (w : S1024x1024.Idx → EReal) (y : S2048x1024.Idx) : val_main_v0 (F := Ideal) x w y = ∑ k : Fin 1024, x (ix2 (y 0) k) * w (ix2 k (y 1)) := by
  rw [val_main_v0_apply]
  exact Finset.sum_congr rfl fun k _ => congrArg₂ (· * ·) (congrArg x (eq_ix2 (n0 := 2048) (n1 := 1024) _)) (congrArg w (eq_ix2 (n0 := 1024) (n1 := 1024) _))

theorem ref_sum (x : S2048x1024.Idx → EReal) (w : S1024x1024.Idx → EReal) (b : S1024.Idx → EReal) : val_main_v3 (F := Ideal) x w b = prod x w b := by
  funext y
  refine (congrArg₂ (· + ·) (ref_dot x w y) ?_ :)
  rw [val_main_v2_apply, val_main_v1_apply]
  exact congrArg b (eq_ix1 (n0 := 1024) _)

theorem ref_next (x : S2048x1024.Idx → EReal) (w : S1024x1024.Idx → EReal) (b : S1024.Idx → EReal) (r : S2048x1024.Idx → EReal) (g : S1024.Idx → EReal) : val_main_v8 (F := Ideal) x w b r g = next x w b r g := by
  funext y
  refine (congrArg (r y + ·) (congrArg₂ (· * ·) ?_ (congrFun (ref_sum x w b) y)) :)
  rw [val_main_v6_apply, val_main_v5_apply]
  exact congrArg g (eq_ix1 (n0 := 1024) _)

theorem frame_ideal : Cert.quiescent_Kernel15Ideal := fun m ρ _ => Cert.Kernel15Ideal.Gen.frame m ρ

theorem frame_reference : Cert.quiescent_Reference15Ideal := fun m ρ _ =>
  (θ_run Cert.Reference15Ideal.defs _ _).mono (fun r h => ⟨fun c => (h c).2.2, sem_eq_zero_of_no_sems (by decide) r.2⟩)
    (Cert.Reference15Ideal.Value.run (F := Ideal) m ρ)

theorem equal : Cert.algebraic_Kernel15Ideal_Reference15Ideal := by
  intro m ρ m' ρ' _ hargs
  refine ⟨fun c => prod (m ((c.tc : Thread nD τ).loc main_arg0)) (m ((c.tc : Thread nD τ).loc main_arg1)) (m ((c.tc : Thread nD τ).loc main_arg2)),
    fun c => next (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), ?_, ?_⟩
  · exact (θ_run Cert.Kernel15Ideal.defs _ _).mono (fun r h c => ⟨(h c).1.trans (final m c), (h c).2.1.trans (final_next m c), (h c).2.2⟩) (Cert.Kernel15Ideal.Value.run_blocks m ρ)
  · refine (θ_run Cert.Reference15Ideal.defs _ _).mono (fun r h c => ⟨((h c).1.trans (val_main_v4_eq _ _ _)).trans ((ref_sum _ _ _).trans ?_),
      ((h c).2.1.trans (val_main_v8_eq _ _ _ _ _)).trans ((ref_next _ _ _ _ _).trans ?_), (h c).2.2⟩)
      (Cert.Reference15Ideal.Value.run (F := Ideal) m' ρ')
    · rw [(hargs c).1, (hargs c).2.1, (hargs c).2.2.1]
    · rw [(hargs c).1, (hargs c).2.1, (hargs c).2.2.1, (hargs c).2.2.2.1, (hargs c).2.2.2.2]

end Cert.Kernel15Ideal.Proj

end
-- ==== Proof.Proj.AttnOutWgrad.lean ====
/-
  The gradient of the attention's output projection: each entry is the sum over the 2048 tokens.
-/
module

public import proofs.«01_k».proof.Proof.Ffn.Base
public import proofs.«01_k».proof.Proof.Gen.Kernel16Ideal.Value
public import proofs.«01_k».proof.Proof.Gen.Reference16Ideal.Run
public import proofs.«01_k».proof.Proof.Gen.Reference16Ideal.Read

@[expose] public section

set_option maxRecDepth 16384

noncomputable section

namespace Cert.Kernel16Ideal.Proj

open Cert.Kernel16Ideal Cert.Kernel16Ideal.Gen
open Idealize.ShloMosaic.Tactic
open Idealize.ShloMosaic Idealize.ShloMosaic.TcCoe Idealize.SL.Sem Idealize.ShloMosaic.StableHlo
open Idealize.ShloMosaic.Pipeline (Dat)

/-- The product, entry by entry. -/
def prod (x : S2048x1024.Idx → EReal) (w : S2048x1024.Idx → EReal) : S1024x1024.Idx → EReal :=
  fun y => ∑ k : Fin 2048, x (ix2 k (y 0)) * w (ix2 k (y 1))

variable (m : (ℓ : Loc nD τ sig) → Buf (Elt Ideal) ℓ) (ρ : Dev nD → PrngReg) (c : Dev nD)

theorem V_x (y : S2048x1024.Idx) : (V m c main_v0 : S2048x1024.Idx → EReal) y = (m ((c : Thread nD τ).loc main_arg0) : S2048x1024.Idx → EReal) y := by
  unfold V
  simp only [hostOps0, List.flatten_cons, List.flatten_nil, List.append_nil, List.cons_append, List.nil_append]
  after_results
  rfl

theorem V_w (y : S2048x1024.Idx) : (V m c main_v1 : S2048x1024.Idx → EReal) y = (m ((c : Thread nD τ).loc main_arg1) : S2048x1024.Idx → EReal) y := by
  unfold V
  simp only [hostOps0, List.flatten_cons, List.flatten_nil, List.append_nil, List.cons_append, List.nil_append]
  after_results
  rfl

theorem index0 : ∀ t : Fin cfg0.N, win0_0.index t = ![0, 0] := (by decide +kernel : ∀ t : Fin grid0.N, win0_0.index t = ![0, 0])
theorem index1 : ∀ t : Fin cfg0.N, win0_1.index t = ![0, 0] := (by decide +kernel : ∀ t : Fin grid0.N, win0_1.index t = ![0, 0])
theorem index2 : ∀ t : Fin cfg0.N, win0_2.index t = ![0, 0] := (by decide +kernel : ∀ t : Fin grid0.N, win0_2.index t = ![0, 0])

theorem pay (x : Vec Ideal S2048x1024 .bf16) (w : Vec Ideal S2048x1024 .bf16) (i : Fin 1024) (j : Fin 1024) :
    k0_pay1 x w (ix2 i j) = ∑ k : Fin 2048, x (ix2 k i) * w (ix2 k j) := by
  pointwise [k0_pay1]

theorem final : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]; frame_out
  refine (congrArg _ (eq_ix2 (n0 := 1024) (n1 := 1024) y)).trans ((pay _ _ _ _).trans ?_)
  unfold prod
  refine Finset.sum_congr rfl fun k _ => ?_
  congr 1
  · blk_simp [iblk]
    refine (V_x m c _).trans (congrArg _ ?_)
    blk_ext [index0, index2]
  · blk_simp [iblk]
    refine (V_w m c _).trans (congrArg _ ?_)
    blk_ext [index1, index2]

open Cert.Reference16Ideal.Read in
/-- The reference's result is the same sum. -/
theorem ref (x : S2048x1024.Idx → EReal) (w : S2048x1024.Idx → EReal) : val_main_v5 (F := Ideal) x w = prod x w := by
  funext y
  rw [val_main_v5_apply]
  show val_main_v3 (F := Ideal) x w y = _
  rw [val_main_v3_apply, val_main_v2_apply]
  unfold prod
  exact Finset.sum_congr rfl fun k _ => (mul_comm _ _).trans (congrArg₂ (· * ·) (congrArg x (eq_ix2 (n0 := 2048) (n1 := 1024) _)) (congrArg w (eq_ix2 (n0 := 2048) (n1 := 1024) _)))

theorem frame_ideal : Cert.quiescent_Kernel16Ideal := fun m ρ _ => Cert.Kernel16Ideal.Gen.frame m ρ

theorem frame_reference : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

theorem equal : Cert.algebraic_Kernel16Ideal_Reference16Ideal := by
  intro m ρ m' ρ' _ hargs
  refine ⟨fun c => prod (m ((c.tc : Thread nD τ).loc main_arg0)) (m ((c.tc : Thread nD τ).loc main_arg1)), ?_, ?_⟩
  · exact (θ_run Cert.Kernel16Ideal.defs _ _).mono (fun r h c => ⟨(h c).1.trans (final m c), (h c).2⟩) (Cert.Kernel16Ideal.Value.run_blocks m ρ)
  · refine (θ_run Cert.Reference16Ideal.defs _ _).mono (fun r h c => ⟨((h c).1.trans (Cert.Reference16Ideal.Read.val_main_v5_eq _ _)).trans ((ref _ _).trans ?_), (h c).2⟩)
      (Cert.Reference16Ideal.Value.run (F := Ideal) m' ρ')
    exact congrArg₂ prod (hargs c).1 (hargs c).2

end Cert.Kernel16Ideal.Proj

end
-- ==== Proof.Proj.AttnOutDgrad.lean ====
/-
  The gradient of the input of the attention's output projection: the product with the weight transposed.
-/
module

public import proofs.«01_k».proof.Proof.Ffn.Base
public import proofs.«01_k».proof.Proof.Gen.Kernel17Ideal.Value
public import proofs.«01_k».proof.Proof.Gen.Reference17Ideal.Run
public import proofs.«01_k».proof.Proof.Gen.Reference17Ideal.Read

@[expose] public section

set_option maxRecDepth 16384

noncomputable section

namespace Cert.Kernel17Ideal.Proj

open Cert.Kernel17Ideal Cert.Kernel17Ideal.Gen
open Idealize.ShloMosaic.Tactic
open Idealize.ShloMosaic Idealize.ShloMosaic.TcCoe Idealize.SL.Sem Idealize.ShloMosaic.StableHlo
open Idealize.ShloMosaic.Pipeline (Dat)

/-- The product, entry by entry. -/
def prod (x : S2048x1024.Idx → EReal) (w : S1024x1024.Idx → EReal) : S2048x1024.Idx → EReal :=
  fun y => ∑ k : Fin 1024, x (ix2 (y 0) k) * w (ix2 (y 1) k)

variable (m : (ℓ : Loc nD τ sig) → Buf (Elt Ideal) ℓ) (ρ : Dev nD → PrngReg) (c : Dev nD)

theorem V_x (y : S2048x1024.Idx) : (V m c main_v0 : S2048x1024.Idx → EReal) y = (m ((c : Thread nD τ).loc main_arg0) : S2048x1024.Idx → EReal) y := by
  unfold V
  simp only [hostOps0, List.flatten_cons, List.flatten_nil, List.append_nil, List.cons_append, List.nil_append]
  after_results
  rfl

theorem V_w (y : S1024x1024.Idx) : (V m c main_v1 : S1024x1024.Idx → EReal) y = (m ((c : Thread nD τ).loc main_arg1) : S1024x1024.Idx → EReal) y := by
  unfold V
  simp only [hostOps0, List.flatten_cons, List.flatten_nil, List.append_nil, List.cons_append, List.nil_append]
  after_results
  rfl

theorem index0 : ∀ t : Fin cfg0.N, win0_0.index t = ![t.val / 2, 0] := (by decide +kernel : ∀ t : Fin grid0.N, win0_0.index t = ![t.val / 2, 0])
theorem index1 : ∀ t : Fin cfg0.N, win0_1.index t = ![t.val % 2, 0] := (by decide +kernel : ∀ t : Fin grid0.N, win0_1.index t = ![t.val % 2, 0])
theorem index2 : ∀ t : Fin cfg0.N, win0_2.index t = ![t.val / 2, t.val % 2] := (by decide +kernel : ∀ t : Fin grid0.N, win0_2.index t = ![t.val / 2, t.val % 2])

theorem pay (x : Vec Ideal S1024x1024 .bf16) (w : Vec Ideal S512x1024 .bf16) (i : Fin 1024) (j : Fin 512) :
    k0_pay1 x w (ix2 i j) = ∑ k : Fin 1024, x (ix2 i k) * w (ix2 j k) := by
  pointwise [k0_pay1]

theorem final : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]; frame_out
  refine (congrArg _ (eq_ix2 (n0 := 1024) (n1 := 512) y)).trans ((pay _ _ _ _).trans ?_)
  unfold prod
  refine Finset.sum_congr rfl fun k _ => ?_
  congr 1
  · blk_simp [iblk]
    refine (V_x m c _).trans (congrArg _ ?_)
    blk_ext [index0, index2]
  · blk_simp [iblk]
    refine (V_w m c _).trans (congrArg _ ?_)
    blk_ext [index1, index2]

open Cert.Reference17Ideal.Read in
/-- The reference's result is the same sum. -/
theorem ref (x : S2048x1024.Idx → EReal) (w : S1024x1024.Idx → EReal) : val_main_v4 (F := Ideal) x w = prod x w := by
  funext y
  rw [val_main_v4_apply]
  unfold prod
  exact Finset.sum_congr rfl fun k _ => (congrArg₂ (· * ·) (congrArg x (eq_ix2 (n0 := 2048) (n1 := 1024) _)) (congrArg w (eq_ix2 (n0 := 1024) (n1 := 1024) _)))

theorem frame_ideal : Cert.quiescent_Kernel17Ideal := fun m ρ _ => Cert.Kernel17Ideal.Gen.frame m ρ

theorem frame_reference : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

theorem equal : Cert.algebraic_Kernel17Ideal_Reference17Ideal := by
  intro m ρ m' ρ' _ hargs
  refine ⟨fun c => prod (m ((c.tc : Thread nD τ).loc main_arg0)) (m ((c.tc : Thread nD τ).loc main_arg1)), ?_, ?_⟩
  · exact (θ_run Cert.Kernel17Ideal.defs _ _).mono (fun r h c => ⟨(h c).1.trans (final m c), (h c).2⟩) (Cert.Kernel17Ideal.Value.run_blocks m ρ)
  · refine (θ_run Cert.Reference17Ideal.defs _ _).mono (fun r h c => ⟨((h c).1.trans (Cert.Reference17Ideal.Read.val_main_v4_eq _ _)).trans ((ref _ _).trans ?_), (h c).2⟩)
      (Cert.Reference17Ideal.Value.run (F := Ideal) m' ρ')
    exact congrArg₂ prod (hargs c).1 (hargs c).2

end Cert.Kernel17Ideal.Proj

end
-- ==== Proof.Proj.QueryWgrad.lean ====
/-
  The gradient of the attention's query projection: each entry is the sum over the 2048 tokens.
-/
module

public import proofs.«01_k».proof.Proof.Ffn.Base
public import proofs.«01_k».proof.Proof.Gen.Kernel18Ideal.Value
public import proofs.«01_k».proof.Proof.Gen.Reference18Ideal.Run
public import proofs.«01_k».proof.Proof.Gen.Reference18Ideal.Read

@[expose] public section

set_option maxRecDepth 16384

noncomputable section

namespace Cert.Kernel18Ideal.Proj

open Cert.Kernel18Ideal Cert.Kernel18Ideal.Gen
open Idealize.ShloMosaic.Tactic
open Idealize.ShloMosaic Idealize.ShloMosaic.TcCoe Idealize.SL.Sem Idealize.ShloMosaic.StableHlo
open Idealize.ShloMosaic.Pipeline (Dat)

/-- The product, entry by entry. -/
def prod (x : S2048x1024.Idx → EReal) (w : S2048x1024.Idx → EReal) : S1024x1024.Idx → EReal :=
  fun y => ∑ k : Fin 2048, x (ix2 k (y 0)) * w (ix2 k (y 1))

variable (m : (ℓ : Loc nD τ sig) → Buf (Elt Ideal) ℓ) (ρ : Dev nD → PrngReg) (c : Dev nD)

theorem V_x (y : S2048x1024.Idx) : (V m c main_v0 : S2048x1024.Idx → EReal) y = (m ((c : Thread nD τ).loc main_arg0) : S2048x1024.Idx → EReal) y := by
  unfold V
  simp only [hostOps0, List.flatten_cons, List.flatten_nil, List.append_nil, List.cons_append, List.nil_append]
  after_results
  rfl

theorem index0 : ∀ t : Fin cfg0.N, win0_0.index t = ![0, 0] := (by decide +kernel : ∀ t : Fin grid0.N, win0_0.index t = ![0, 0])
theorem index1 : ∀ t : Fin cfg0.N, win0_1.index t = ![0, 0] := (by decide +kernel : ∀ t : Fin grid0.N, win0_1.index t = ![0, 0])
theorem index2 : ∀ t : Fin cfg0.N, win0_2.index t = ![0, 0] := (by decide +kernel : ∀ t : Fin grid0.N, win0_2.index t = ![0, 0])

theorem pay (x : Vec Ideal S2048x1024 .bf16) (w : Vec Ideal S2048x1024 .f32) (i : Fin 1024) (j : Fin 1024) :
    k0_pay1 x w (ix2 i j) = ∑ k : Fin 2048, x (ix2 k i) * w (ix2 k j) := by
  pointwise [k0_pay1]

theorem final : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]; frame_out
  refine (congrArg _ (eq_ix2 (n0 := 1024) (n1 := 1024) y)).trans ((pay _ _ _ _).trans ?_)
  unfold prod
  refine Finset.sum_congr rfl fun k _ => ?_
  congr 1
  · blk_simp [iblk]
    refine (V_x m c _).trans (congrArg _ ?_)
    blk_ext [index0, index2]
  · blk_simp [iblk]
    rw [V_main_arg1]
    refine congrArg _ ?_
    blk_ext [index1, index2]

open Cert.Reference18Ideal.Read in
/-- The reference's result is the same sum. -/
theorem ref (x : S2048x1024.Idx → EReal) (w : S2048x1024.Idx → EReal) : val_main_v5 (F := Ideal) x w = prod x w := by
  funext y
  rw [val_main_v5_apply]
  show val_main_v3 (F := Ideal) x w y = _
  rw [val_main_v3_apply, val_main_v2_apply]
  unfold prod
  exact Finset.sum_congr rfl fun k _ => (mul_comm _ _).trans (congrArg₂ (· * ·) (congrArg x (eq_ix2 (n0 := 2048) (n1 := 1024) _)) (congrArg w (eq_ix2 (n0 := 2048) (n1 := 1024) _)))

theorem frame_ideal : Cert.quiescent_Kernel18Ideal := fun m ρ _ => Cert.Kernel18Ideal.Gen.frame m ρ

theorem frame_reference : Cert.quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)

theorem equal : Cert.algebraic_Kernel18Ideal_Reference18Ideal := by
  intro m ρ m' ρ' _ hargs
  refine ⟨fun c => prod (m ((c.tc : Thread nD τ).loc main_arg0)) (m ((c.tc : Thread nD τ).loc main_arg1)), ?_, ?_⟩
  · exact (θ_run Cert.Kernel18Ideal.defs _ _).mono (fun r h c => ⟨(h c).1.trans (final m c), (h c).2⟩) (Cert.Kernel18Ideal.Value.run_blocks m ρ)
  · refine (θ_run Cert.Reference18Ideal.defs _ _).mono (fun r h c => ⟨((h c).1.trans (Cert.Reference18Ideal.Read.val_main_v5_eq _ _)).trans ((ref _ _).trans ?_), (h c).2⟩)
      (Cert.Reference18Ideal.Value.run (F := Ideal) m' ρ')
    exact congrArg₂ prod (hargs c).1 (hargs c).2

end Cert.Kernel18Ideal.Proj

end
-- ==== Proof.Proj.QueryDgrad.lean ====
/-
  The gradient of the input of the attention's query projection: the product with the weight transposed.
-/
module

public import proofs.«01_k».proof.Proof.Ffn.Base
public import proofs.«01_k».proof.Proof.Gen.Kernel19Ideal.Value
public import proofs.«01_k».proof.Proof.Gen.Reference19Ideal.Run
public import proofs.«01_k».proof.Proof.Gen.Reference19Ideal.Read

@[expose] public section

set_option maxRecDepth 16384

noncomputable section

namespace Cert.Kernel19Ideal.Proj

open Cert.Kernel19Ideal Cert.Kernel19Ideal.Gen
open Idealize.ShloMosaic.Tactic
open Idealize.ShloMosaic Idealize.ShloMosaic.TcCoe Idealize.SL.Sem Idealize.ShloMosaic.StableHlo
open Idealize.ShloMosaic.Pipeline (Dat)

/-- The product, entry by entry. -/
def prod (x : S2048x1024.Idx → EReal) (w : S1024x1024.Idx → EReal) : S2048x1024.Idx → EReal :=
  fun y => ∑ k : Fin 1024, x (ix2 (y 0) k) * w (ix2 (y 1) k)

variable (m : (ℓ : Loc nD τ sig) → Buf (Elt Ideal) ℓ) (ρ : Dev nD → PrngReg) (c : Dev nD)

theorem V_w (y : S1024x1024.Idx) : (V m c main_v0 : S1024x1024.Idx → EReal) y = (m ((c : Thread nD τ).loc main_arg1) : S1024x1024.Idx → EReal) y := by
  unfold V
  simp only [hostOps0, List.flatten_cons, List.flatten_nil, List.append_nil, List.cons_append, List.nil_append]
  after_results
  rfl

theorem index0 : ∀ t : Fin cfg0.N, win0_0.index t = ![t.val / 2, 0] := (by decide +kernel : ∀ t : Fin grid0.N, win0_0.index t = ![t.val / 2, 0])
theorem index1 : ∀ t : Fin cfg0.N, win0_1.index t = ![t.val % 2, 0] := (by decide +kernel : ∀ t : Fin grid0.N, win0_1.index t = ![t.val % 2, 0])
theorem index2 : ∀ t : Fin cfg0.N, win0_2.index t = ![t.val / 2, t.val % 2] := (by decide +kernel : ∀ t : Fin grid0.N, win0_2.index t = ![t.val / 2, t.val % 2])

theorem pay (x : Vec Ideal S1024x1024 .f32) (w : Vec Ideal S512x1024 .bf16) (i : Fin 1024) (j : Fin 512) :
    k0_pay1 x w (ix2 i j) = ∑ k : Fin 1024, x (ix2 i k) * w (ix2 j k) := by
  pointwise [k0_pay1]

theorem final : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]; frame_out
  refine (congrArg _ (eq_ix2 (n0 := 1024) (n1 := 512) y)).trans ((pay _ _ _ _).trans ?_)
  unfold prod
  refine Finset.sum_congr rfl fun k _ => ?_
  congr 1
  · blk_simp [iblk]
    rw [V_main_arg0]
    refine congrArg _ ?_
    blk_ext [index0, index2]
  · blk_simp [iblk]
    refine (V_w m c _).trans (congrArg _ ?_)
    blk_ext [index1, index2]

open Cert.Reference19Ideal.Read in
/-- The reference's result is the same sum. -/
theorem ref (x : S2048x1024.Idx → EReal) (w : S1024x1024.Idx → EReal) : val_main_v4 (F := Ideal) x w = prod x w := by
  funext y
  rw [val_main_v4_apply]
  unfold prod
  exact Finset.sum_congr rfl fun k _ => (congrArg₂ (· * ·) (congrArg x (eq_ix2 (n0 := 2048) (n1 := 1024) _)) (congrArg w (eq_ix2 (n0 := 1024) (n1 := 1024) _)))

theorem frame_ideal : Cert.quiescent_Kernel19Ideal := fun m ρ _ => Cert.Kernel19Ideal.Gen.frame m ρ

theorem frame_reference : Cert.quiescent_Reference19Ideal := fun m ρ _ =>
  (θ_run Cert.Reference19Ideal.defs _ _).mono (fun r h => ⟨fun c => (h c).2, sem_eq_zero_of_no_sems (by decide) r.2⟩)
    (Cert.Reference19Ideal.Value.run (F := Ideal) m ρ)

theorem equal : Cert.algebraic_Kernel19Ideal_Reference19Ideal := by
  intro m ρ m' ρ' _ hargs
  refine ⟨fun c => prod (m ((c.tc : Thread nD τ).loc main_arg0)) (m ((c.tc : Thread nD τ).loc main_arg1)), ?_, ?_⟩
  · exact (θ_run Cert.Kernel19Ideal.defs _ _).mono (fun r h c => ⟨(h c).1.trans (final m c), (h c).2⟩) (Cert.Kernel19Ideal.Value.run_blocks m ρ)
  · refine (θ_run Cert.Reference19Ideal.defs _ _).mono (fun r h c => ⟨((h c).1.trans (Cert.Reference19Ideal.Read.val_main_v4_eq _ _)).trans ((ref _ _).trans ?_), (h c).2⟩)
      (Cert.Reference19Ideal.Value.run (F := Ideal) m' ρ')
    exact congrArg₂ prod (hargs c).1 (hargs c).2

end Cert.Kernel19Ideal.Proj

end
-- ==== Proof.Proj.KeyValue.lean ====
/-
  The projection to the shared keys and values, with its bias.
-/
module

public import proofs.«01_k».proof.Proof.Ffn.Base
public import proofs.«01_k».proof.Proof.Gen.Kernel20Ideal.Value
public import proofs.«01_k».proof.Proof.Gen.Reference20Ideal.Run
public import proofs.«01_k».proof.Proof.Gen.Reference20Ideal.Read

@[expose] public section

set_option maxRecDepth 16384

noncomputable section

namespace Cert.Kernel20Ideal.Proj

open Cert.Kernel20Ideal Cert.Kernel20Ideal.Gen
open Idealize.ShloMosaic.Tactic
open Idealize.ShloMosaic Idealize.ShloMosaic.TcCoe Idealize.SL.Sem Idealize.ShloMosaic.StableHlo
open Idealize.ShloMosaic.Pipeline (Dat)

/-- The product, with the bias. -/
def prod (x : S2048x1024.Idx → EReal) (w : S1024x512.Idx → EReal) (b : S512.Idx → EReal) : S2048x512.Idx → EReal :=
  fun y => (∑ k : Fin 1024, x (ix2 (y 0) k) * w (ix2 k (y 1))) + b (ix1 (y 1))

variable (m : (ℓ : Loc nD τ sig) → Buf (Elt Ideal) ℓ) (ρ : Dev nD → PrngReg) (c : Dev nD)

theorem V_x (y : S2048x1024.Idx) : (V m c main_v0 : S2048x1024.Idx → EReal) y = (m ((c : Thread nD τ).loc main_arg0) : S2048x1024.Idx → EReal) y := by
  unfold V
  simp only [hostOps0, List.flatten_cons, List.flatten_nil, List.append_nil, List.cons_append, List.nil_append]
  after_results
  rfl

theorem V_w (y : S1024x512.Idx) : (V m c main_v1 : S1024x512.Idx → EReal) y = (m ((c : Thread nD τ).loc main_arg1) : S1024x512.Idx → EReal) y := by
  unfold V
  simp only [hostOps0, List.flatten_cons, List.flatten_nil, List.append_nil, List.cons_append, List.nil_append]
  after_results
  rfl

theorem V_b (i : Fin 1) (j : Fin 512) :
    (V m c main_v2 : S1x512.Idx → EReal) (ix2 i j) = (m ((c : Thread nD τ).loc main_arg2) : S512.Idx → EReal) (ix1 j) := by
  unfold V
  simp only [hostOps0, List.flatten_cons, List.flatten_nil, List.append_nil, List.cons_append, List.nil_append]
  after_results
  pointwise

theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index2 : ∀ t : Fin cfg0.N, win0_2.index t = ![0, 0] := (by decide +kernel : ∀ t : Fin grid0.N, win0_2.index t = ![0, 0])
theorem index3 : ∀ t : Fin cfg0.N, win0_3.index t = ![t.val, 0] := (by decide +kernel : ∀ t : Fin grid0.N, win0_3.index t = ![t.val, 0])

theorem pay (x : Vec Ideal S1024x1024 .bf16) (w : Vec Ideal S1024x512 .bf16) (b : Vec Ideal S1x512 .f32) (i : Fin 1024) (j : Fin 512) :
    k0_pay1 x w b (ix2 i j) = (∑ k : Fin 1024, x (ix2 i k) * w (ix2 k j)) + b (ix2 0 j) := by
  pointwise [k0_pay1]

/-- The product of the kernel's blocks at a point. -/
theorem prod_at (t : Fin cfg0.N) (i : Fin 1024) (j : Fin 512) :
    HAdd.hAdd (α := EReal) (β := EReal) (γ := EReal) (∑ k : Fin 1024, HMul.hMul (α := EReal) (β := EReal) (γ := EReal) (iblk m c 0 t (ix2 i k)) (iblk m c 1 t (ix2 k j))) (iblk m c 2 t (ix2 0 j))
      = prod (m ((c : Thread nD τ).loc main_arg0)) (m ((c : Thread nD τ).loc main_arg1)) (m ((c : Thread nD τ).loc main_arg2)) (((View.whole main_v3).slice (win0_3.rect t)).emb (ix2 i j)) := by
  unfold prod
  refine congrArg₂ (· + ·) ?_ ?_
  · refine Finset.sum_congr rfl fun k _ => ?_
    congr 1
    · blk_simp [iblk]
      refine (V_x m c _).trans (congrArg _ ?_)
      blk_ext [index0, index3]
    · blk_simp [iblk]
      refine (V_w m c _).trans (congrArg _ ?_)
      blk_ext [index1, index3]
  · blk_simp [iblk]
    refine ((congrArg _ (eq_ix2 (n0 := 1) (n1 := 512) _)).trans (V_b m c _ _)).trans (congrArg _ ?_)
    blk_ext [index2, index3]

theorem final : (dats m 0 c).arrAt 3 cfg0.N = prod (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; frame_out
  obtain ⟨i, j, rfl⟩ : ∃ (i : Fin 1024) (j : Fin 512), y = ix2 i j := ⟨y 0, y 1, eq_ix2 (n0 := 1024) (n1 := 512) y⟩
  exact (pay _ _ _ _ _).trans (prod_at m c t i j)

open Cert.Reference20Ideal.Read

theorem ref_dot (x : S2048x1024.Idx → EReal) (w : S1024x512.Idx → EReal) (y : S2048x512.Idx) : val_main_v0 (F := Ideal) x w y = ∑ k : Fin 1024, x (ix2 (y 0) k) * w (ix2 k (y 1)) := by
  rw [val_main_v0_apply]
  exact Finset.sum_congr rfl fun k _ => congrArg₂ (· * ·) (congrArg x (eq_ix2 (n0 := 2048) (n1 := 1024) _)) (congrArg w (eq_ix2 (n0 := 1024) (n1 := 512) _))

theorem ref_sum (x : S2048x1024.Idx → EReal) (w : S1024x512.Idx → EReal) (b : S512.Idx → EReal) : val_main_v3 (F := Ideal) x w b = prod x w b := by
  funext y
  refine (congrArg₂ (· + ·) (ref_dot x w y) ?_ :)
  rw [val_main_v2_apply, val_main_v1_apply]
  exact congrArg b (eq_ix1 (n0 := 512) _)

theorem frame_ideal : Cert.quiescent_Kernel20Ideal := fun m ρ _ => Cert.Kernel20Ideal.Gen.frame m ρ

theorem frame_reference : Cert.quiescent_Reference20Ideal := fun m ρ _ =>
  (θ_run Cert.Reference20Ideal.defs _ _).mono (fun r h => ⟨fun c => (h c).2, sem_eq_zero_of_no_sems (by decide) r.2⟩)
    (Cert.Reference20Ideal.Value.run (F := Ideal) m ρ)

theorem equal : Cert.algebraic_Kernel20Ideal_Reference20Ideal := by
  intro m ρ m' ρ' _ hargs
  refine ⟨fun c => prod (m ((c.tc : Thread nD τ).loc main_arg0)) (m ((c.tc : Thread nD τ).loc main_arg1)) (m ((c.tc : Thread nD τ).loc main_arg2)), ?_, ?_⟩
  · exact (θ_run Cert.Kernel20Ideal.defs _ _).mono (fun r h c => ⟨(h c).1.trans (final m c), (h c).2⟩) (Cert.Kernel20Ideal.Value.run_blocks m ρ)
  · refine (θ_run Cert.Reference20Ideal.defs _ _).mono (fun r h c => ⟨((h c).1.trans (val_main_v3_eq _ _ _)).trans ((ref_sum _ _ _).trans ?_), (h c).2⟩)
      (Cert.Reference20Ideal.Value.run (F := Ideal) m' ρ')
    rw [(hargs c).1, (hargs c).2.1, (hargs c).2.2]

end Cert.Kernel20Ideal.Proj

end
-- ==== Proof.Proj.KeyValueWgrad.lean ====
/-
  The gradient of the projection to the shared keys and values: each entry is the sum over the 2048 tokens.
-/
module

public import proofs.«01_k».proof.Proof.Ffn.Base
public import proofs.«01_k».proof.Proof.Gen.Kernel21Ideal.Value
public import proofs.«01_k».proof.Proof.Gen.Reference21Ideal.Run
public import proofs.«01_k».proof.Proof.Gen.Reference21Ideal.Read

@[expose] public section

set_option maxRecDepth 16384

noncomputable section

namespace Cert.Kernel21Ideal.Proj

open Cert.Kernel21Ideal Cert.Kernel21Ideal.Gen
open Idealize.ShloMosaic.Tactic
open Idealize.ShloMosaic Idealize.ShloMosaic.TcCoe Idealize.SL.Sem Idealize.ShloMosaic.StableHlo
open Idealize.ShloMosaic.Pipeline (Dat)

/-- The product, entry by entry. -/
def prod (x : S2048x1024.Idx → EReal) (w : S2048x512.Idx → EReal) : S1024x512.Idx → EReal :=
  fun y => ∑ k : Fin 2048, x (ix2 k (y 0)) * w (ix2 k (y 1))

variable (m : (ℓ : Loc nD τ sig) → Buf (Elt Ideal) ℓ) (ρ : Dev nD → PrngReg) (c : Dev nD)

theorem V_x (y : S2048x1024.Idx) : (V m c main_v0 : S2048x1024.Idx → EReal) y = (m ((c : Thread nD τ).loc main_arg0) : S2048x1024.Idx → EReal) y := by
  unfold V
  simp only [hostOps0, List.flatten_cons, List.flatten_nil, List.append_nil, List.cons_append, List.nil_append]
  after_results
  rfl

theorem index0 : ∀ t : Fin cfg0.N, win0_0.index t = ![0, 0] := (by decide +kernel : ∀ t : Fin grid0.N, win0_0.index t = ![0, 0])
theorem index1 : ∀ t : Fin cfg0.N, win0_1.index t = ![0, 0] := (by decide +kernel : ∀ t : Fin grid0.N, win0_1.index t = ![0, 0])
theorem index2 : ∀ t : Fin cfg0.N, win0_2.index t = ![0, 0] := (by decide +kernel : ∀ t : Fin grid0.N, win0_2.index t = ![0, 0])

theorem pay (x : Vec Ideal S2048x1024 .bf16) (w : Vec Ideal S2048x512 .f32) (i : Fin 1024) (j : Fin 512) :
    k0_pay1 x w (ix2 i j) = ∑ k : Fin 2048, x (ix2 k i) * w (ix2 k j) := by
  pointwise [k0_pay1]

theorem final : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]; frame_out
  refine (congrArg _ (eq_ix2 (n0 := 1024) (n1 := 512) y)).trans ((pay _ _ _ _).trans ?_)
  unfold prod
  refine Finset.sum_congr rfl fun k _ => ?_
  congr 1
  · blk_simp [iblk]
    refine (V_x m c _).trans (congrArg _ ?_)
    blk_ext [index0, index2]
  · blk_simp [iblk]
    rw [V_main_arg1]
    refine congrArg _ ?_
    blk_ext [index1, index2]

open Cert.Reference21Ideal.Read in
/-- The reference's result is the same sum. -/
theorem ref (x : S2048x1024.Idx → EReal) (w : S2048x512.Idx → EReal) : val_main_v5 (F := Ideal) x w = prod x w := by
  funext y
  rw [val_main_v5_apply]
  show val_main_v3 (F := Ideal) x w y = _
  rw [val_main_v3_apply, val_main_v2_apply]
  unfold prod
  exact Finset.sum_congr rfl fun k _ => (mul_comm _ _).trans (congrArg₂ (· * ·) (congrArg x (eq_ix2 (n0 := 2048) (n1 := 1024) _)) (congrArg w (eq_ix2 (n0 := 2048) (n1 := 512) _)))

theorem frame_ideal : Cert.quiescent_Kernel21Ideal := fun m ρ _ => Cert.Kernel21Ideal.Gen.frame m ρ

theorem frame_reference : Cert.quiescent_Reference21Ideal := fun m ρ _ =>
  (θ_run Cert.Reference21Ideal.defs _ _).mono (fun r h => ⟨fun c => (h c).2, sem_eq_zero_of_no_sems (by decide) r.2⟩)
    (Cert.Reference21Ideal.Value.run (F := Ideal) m ρ)

theorem equal : Cert.algebraic_Kernel21Ideal_Reference21Ideal := by
  intro m ρ m' ρ' _ hargs
  refine ⟨fun c => prod (m ((c.tc : Thread nD τ).loc main_arg0)) (m ((c.tc : Thread nD τ).loc main_arg1)), ?_, ?_⟩
  · exact (θ_run Cert.Kernel21Ideal.defs _ _).mono (fun r h c => ⟨(h c).1.trans (final m c), (h c).2⟩) (Cert.Kernel21Ideal.Value.run_blocks m ρ)
  · refine (θ_run Cert.Reference21Ideal.defs _ _).mono (fun r h c => ⟨((h c).1.trans (Cert.Reference21Ideal.Read.val_main_v5_eq _ _)).trans ((ref _ _).trans ?_), (h c).2⟩)
      (Cert.Reference21Ideal.Value.run (F := Ideal) m' ρ')
    exact congrArg₂ prod (hargs c).1 (hargs c).2

end Cert.Kernel21Ideal.Proj

end
-- ==== Proof.Proj.KeyValueDgrad.lean ====
/-
  The gradient of the input of the projection to the shared keys and values: the product with the weight transposed.
-/
module

public import proofs.«01_k».proof.Proof.Ffn.Base
public import proofs.«01_k».proof.Proof.Gen.Kernel22Ideal.Value
public import proofs.«01_k».proof.Proof.Gen.Reference22Ideal.Run
public import proofs.«01_k».proof.Proof.Gen.Reference22Ideal.Read

@[expose] public section

set_option maxRecDepth 16384

noncomputable section

namespace Cert.Kernel22Ideal.Proj

open Cert.Kernel22Ideal Cert.Kernel22Ideal.Gen
open Idealize.ShloMosaic.Tactic
open Idealize.ShloMosaic Idealize.ShloMosaic.TcCoe Idealize.SL.Sem Idealize.ShloMosaic.StableHlo
open Idealize.ShloMosaic.Pipeline (Dat)

/-- The product, entry by entry. -/
def prod (x : S2048x512.Idx → EReal) (w : S1024x512.Idx → EReal) : S2048x1024.Idx → EReal :=
  fun y => ∑ k : Fin 512, x (ix2 (y 0) k) * w (ix2 (y 1) k)

variable (m : (ℓ : Loc nD τ sig) → Buf (Elt Ideal) ℓ) (ρ : Dev nD → PrngReg) (c : Dev nD)

theorem V_w (y : S1024x512.Idx) : (V m c main_v0 : S1024x512.Idx → EReal) y = (m ((c : Thread nD τ).loc main_arg1) : S1024x512.Idx → EReal) y := by
  unfold V
  simp only [hostOps0, List.flatten_cons, List.flatten_nil, List.append_nil, List.cons_append, List.nil_append]
  after_results
  rfl

theorem index0 : ∀ t : Fin cfg0.N, win0_0.index t = ![t.val / 2, 0] := (by decide +kernel : ∀ t : Fin grid0.N, win0_0.index t = ![t.val / 2, 0])
theorem index1 : ∀ t : Fin cfg0.N, win0_1.index t = ![t.val % 2, 0] := (by decide +kernel : ∀ t : Fin grid0.N, win0_1.index t = ![t.val % 2, 0])
theorem index2 : ∀ t : Fin cfg0.N, win0_2.index t = ![t.val / 2, t.val % 2] := (by decide +kernel : ∀ t : Fin grid0.N, win0_2.index t = ![t.val / 2, t.val % 2])

theorem pay (x : Vec Ideal S1024x512 .f32) (w : Vec Ideal S512x512 .bf16) (i : Fin 1024) (j : Fin 512) :
    k0_pay1 x w (ix2 i j) = ∑ k : Fin 512, x (ix2 i k) * w (ix2 j k) := by
  pointwise [k0_pay1]

theorem final : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]; frame_out
  refine (congrArg _ (eq_ix2 (n0 := 1024) (n1 := 512) y)).trans ((pay _ _ _ _).trans ?_)
  unfold prod
  refine Finset.sum_congr rfl fun k _ => ?_
  congr 1
  · blk_simp [iblk]
    rw [V_main_arg0]
    refine congrArg _ ?_
    blk_ext [index0, index2]
  · blk_simp [iblk]
    refine (V_w m c _).trans (congrArg _ ?_)
    blk_ext [index1, index2]

open Cert.Reference22Ideal.Read in
/-- The reference's result is the same sum. -/
theorem ref (x : S2048x512.Idx → EReal) (w : S1024x512.Idx → EReal) : val_main_v4 (F := Ideal) x w = prod x w := by
  funext y
  rw [val_main_v4_apply]
  unfold prod
  exact Finset.sum_congr rfl fun k _ => (congrArg₂ (· * ·) (congrArg x (eq_ix2 (n0 := 2048) (n1 := 512) _)) (congrArg w (eq_ix2 (n0 := 1024) (n1 := 512) _)))

theorem frame_ideal : Cert.quiescent_Kernel22Ideal := fun m ρ _ => Cert.Kernel22Ideal.Gen.frame m ρ

theorem frame_reference : Cert.quiescent_Reference22Ideal := fun m ρ _ =>
  (θ_run Cert.Reference22Ideal.defs _ _).mono (fun r h => ⟨fun c => (h c).2, sem_eq_zero_of_no_sems (by decide) r.2⟩)
    (Cert.Reference22Ideal.Value.run (F := Ideal) m ρ)

theorem equal : Cert.algebraic_Kernel22Ideal_Reference22Ideal := by
  intro m ρ m' ρ' _ hargs
  refine ⟨fun c => prod (m ((c.tc : Thread nD τ).loc main_arg0)) (m ((c.tc : Thread nD τ).loc main_arg1)), ?_, ?_⟩
  · exact (θ_run Cert.Kernel22Ideal.defs _ _).mono (fun r h c => ⟨(h c).1.trans (final m c), (h c).2⟩) (Cert.Kernel22Ideal.Value.run_blocks m ρ)
  · refine (θ_run Cert.Reference22Ideal.defs _ _).mono (fun r h c => ⟨((h c).1.trans (Cert.Reference22Ideal.Read.val_main_v4_eq _ _)).trans ((ref _ _).trans ?_), (h c).2⟩)
      (Cert.Reference22Ideal.Value.run (F := Ideal) m' ρ')
    exact congrArg₂ prod (hargs c).1 (hargs c).2

end Cert.Kernel22Ideal.Proj

end
-- ==== Proof.Adam.Base.lean ====
/-
  AdamW's step on one entry of a weight.
-/
module

public import Idealize.ShloMosaic.PureOps.Ideal
public import Idealize.ShloMosaic.Lib.Tactic
public import Idealize.ShloMosaic.Lib.Pipeline.ValueKit
public import Idealize.ShloMosaic.Lib.Pointwise.Tactic

@[expose] public section

noncomputable section

namespace Cert.Adam

open Idealize.ShloMosaic Idealize.ShloMosaic.Tactic

/-- The reciprocal of the first moment's correction, `1 - 0.9 ^ 10`. -/
def c1 : EReal := ((8388608 / 5463681 : ℝ) : EReal)

/-- The reciprocal of the second moment's correction, `1 - 0.999 ^ 10`. -/
def c2 : EReal := ((268435456 / 2672307 : ℝ) : EReal)

/-- The first moment of an entry, from its gradient. -/
def newM (g m : EReal) : EReal := Ideal.ofBits .f32 0x3F666666#32 * m + Ideal.ofBits .f32 0x3DCCCCCD#32 * g

/-- The second moment of an entry, from its gradient. -/
def newV (g v : EReal) : EReal := Ideal.ofBits .f32 0x3F7FBE77#32 * v + Ideal.ofBits .f32 0x3A83126F#32 * (g * g)

/-- The change of an entry. -/
def step (g w m v : EReal) : EReal :=
  Ideal.ofBits .f32 0xBA83126F#32 * (Ideal.div (newM g m * c1) (Ideal.sqrt (newV g v * c2) + Ideal.ofBits .f32 0x322BCC77#32)
    + Ideal.ofBits .f32 0x3C23D70A#32 * w)

theorem corr1 : Ideal.ofBits .f32 0x3F26BD02#32 = ((5463681 / 8388608 : ℝ) : EReal) := by
  simp [Ideal.ofBits, Ideal.ieee, -EReal.coe_mul]; norm_num

theorem corr2 : Ideal.ofBits .f32 0x3C231ACC#32 = ((2672307 / 268435456 : ℝ) : EReal) := by
  simp [Ideal.ofBits, Ideal.ieee, -EReal.coe_mul]; norm_num

/-- Dividing by the first correction is multiplying by its reciprocal. -/
theorem div_corr1 (x : EReal) : Ideal.div x (Ideal.ofBits .f32 0x3F26BD02#32) = x * c1 := by
  rw [corr1, Ideal.div_coe (by norm_num), c1]; norm_num

/-- Dividing by the second correction is multiplying by its reciprocal. -/
theorem div_corr2 (x : EReal) : Ideal.div x (Ideal.ofBits .f32 0x3C231ACC#32) = x * c2 := by
  rw [corr2, Ideal.div_coe (by norm_num), c2]; norm_num

theorem zero : Ideal.ofBits .f32 0x00000000#32 = 0 := by
  simp [Ideal.ofBits, Ideal.ieee]

/-- The gradient: the sum of the devices' parts of it. -/
def total {n R C : ℕ} (p : (⟨3, ![n, R, C]⟩ : Shape).Idx → EReal) (y : (⟨2, ![R, C]⟩ : Shape).Idx) : EReal :=
  ∑ k : Fin n, p (ix3 k (y 0) (y 1))

/-- The parts of a block of eight, read one after the other and added, are the gradient. -/
theorem total_of_parts {R C : ℕ} (x : (⟨3, ![8, R, C]⟩ : Shape).Idx → EReal) (i : Fin R) (j : Fin C)
    (inb : ∀ k : Fin 8, ∀ a, ![k.val, 0, 0] a + (⟨3, ![1, R, C]⟩ : Shape).size a ≤ (⟨3, ![8, R, C]⟩ : Shape).size a) :
    View.ld (Val := fun _ => EReal) (e' := .f32) x (Rect.unit ![0, 0, 0] (⟨3, ![1, R, C]⟩ : Shape).size (inb 0)) (ix3 0 i j)
      + View.ld (Val := fun _ => EReal) (e' := .f32) x (Rect.unit ![1, 0, 0] (⟨3, ![1, R, C]⟩ : Shape).size (inb 1)) (ix3 0 i j)
      + View.ld (Val := fun _ => EReal) (e' := .f32) x (Rect.unit ![2, 0, 0] (⟨3, ![1, R, C]⟩ : Shape).size (inb 2)) (ix3 0 i j)
      + View.ld (Val := fun _ => EReal) (e' := .f32) x (Rect.unit ![3, 0, 0] (⟨3, ![1, R, C]⟩ : Shape).size (inb 3)) (ix3 0 i j)
      + View.ld (Val := fun _ => EReal) (e' := .f32) x (Rect.unit ![4, 0, 0] (⟨3, ![1, R, C]⟩ : Shape).size (inb 4)) (ix3 0 i j)
      + View.ld (Val := fun _ => EReal) (e' := .f32) x (Rect.unit ![5, 0, 0] (⟨3, ![1, R, C]⟩ : Shape).size (inb 5)) (ix3 0 i j)
      + View.ld (Val := fun _ => EReal) (e' := .f32) x (Rect.unit ![6, 0, 0] (⟨3, ![1, R, C]⟩ : Shape).size (inb 6)) (ix3 0 i j)
      + View.ld (Val := fun _ => EReal) (e' := .f32) x (Rect.unit ![7, 0, 0] (⟨3, ![1, R, C]⟩ : Shape).size (inb 7)) (ix3 0 i j)
      = total x (ix2 i j) := by
  have h : ∀ k : Fin 8, View.ld (Val := fun _ => EReal) (e' := .f32) x (Rect.unit ![k.val, 0, 0] (⟨3, ![1, R, C]⟩ : Shape).size (inb k)) (ix3 0 i j) = x (ix3 k i j) := fun k =>
    View.ld_unit_apply_of (Val := fun _ => EReal) (e := .f32) x _ _ _ _ _ (by intro a; fin_cases a <;> simp [ix3])
  unfold total
  rw [Fin.sum_univ_eight]
  exact congrArg₂ (· + ·) (congrArg₂ (· + ·) (congrArg₂ (· + ·) (congrArg₂ (· + ·) (congrArg₂ (· + ·) (congrArg₂ (· + ·) (congrArg₂ (· + ·) (h 0) (h 1)) (h 2)) (h 3)) (h 4)) (h 5)) (h 6)) (h 7)

/-- The host's sum of the parts, from zero. -/
theorem total_of_sum {n R C : ℕ} (x : (⟨3, ![n, R, C]⟩ : Shape).Idx → EReal) (f : Fin n → (⟨3, ![n, R, C]⟩ : Shape).Idx) (y : (⟨2, ![R, C]⟩ : Shape).Idx)
    (h : ∀ k, f k = ix3 k (y 0) (y 1)) : Ideal.ofBits .f32 0x00000000#32 + ∑ k : Fin n, x (f k) = total x y := by
  rw [zero, zero_add]
  exact Finset.sum_congr rfl fun k _ => congrArg x (h k)

/-- The change of an entry, as the reference divides. -/
theorem step_div (g w m v : EReal) : step g w m v =
    Ideal.ofBits .f32 0xBA83126F#32 * (Ideal.div (Ideal.div (newM g m) (Ideal.ofBits .f32 0x3F26BD02#32))
      (Ideal.sqrt (Ideal.div (newV g v) (Ideal.ofBits .f32 0x3C231ACC#32)) + Ideal.ofBits .f32 0x322BCC77#32) + Ideal.ofBits .f32 0x3C23D70A#32 * w) := by
  rw [div_corr1, div_corr2, step]

end Cert.Adam

end
-- ==== Proof.Adam.FfnNorm.lean ====
/-
  AdamW's step on the scale of the feed-forward norm: the call's results are the sum of the parts of the gradient and the step from it.
-/
module

public import proofs.«01_k».proof.Proof.Ffn.Base
public import proofs.«01_k».proof.Proof.Adam.Base
public import proofs.«01_k».proof.Proof.Gen.Kernel23Ideal.Value
public import proofs.«01_k».proof.Proof.Gen.Reference23Ideal.Run
public import proofs.«01_k».proof.Proof.Gen.Reference23Ideal.Read

@[expose] public section

set_option maxRecDepth 16384

noncomputable section

namespace Cert.Kernel23Ideal.Adam

open Cert.Kernel23Ideal Cert.Kernel23Ideal.Gen
open Idealize.ShloMosaic.Tactic
open Cert.Adam
open Idealize.ShloMosaic Idealize.ShloMosaic.TcCoe Idealize.SL.Sem Idealize.ShloMosaic.StableHlo
open Idealize.ShloMosaic.Pipeline (Dat)

/-- The sum of the parts of the gradient. -/
abbrev grad (p : S8x8x128.Idx → EReal) : S8x128.Idx → EReal := total (n := 8) (R := 8) (C := 128) p

/-- The change of the weight. -/
abbrev delta (p : S8x8x128.Idx → EReal) (w m v : S8x128.Idx → EReal) : S8x128.Idx → EReal := fun y => step (grad p y) (w y) (m y) (v y)

/-- The first moment. -/
abbrev moment1 (p : S8x8x128.Idx → EReal) (m : S8x128.Idx → EReal) : S8x128.Idx → EReal := fun y => newM (grad p y) (m y)

/-- The second moment. -/
abbrev moment2 (p : S8x8x128.Idx → EReal) (v : S8x128.Idx → EReal) : S8x128.Idx → EReal := fun y => newV (grad p y) (v y)

/-- The call adds its parts. -/
theorem pay (v0 v1 v2 v3 v4 v5 v6 v7 : Vec Ideal S1x8x128 .f32) (i : Fin 8) (j : Fin 128) : k0_pay3 v0 v1 v2 v3 v4 v5 v6 v7 (ix2 i j) = v0 (ix3 0 i j) + v1 (ix3 0 i j) + v2 (ix3 0 i j) + v3 (ix3 0 i j) + v4 (ix3 0 i j) + v5 (ix3 0 i j) + v6 (ix3 0 i j) + v7 (ix3 0 i j) := by
  pointwise [k0_pay3]

theorem sum_eq (x0 : Vec Ideal S8x8x128 .f32) (x1 x2 x3 : Vec Ideal S8x128 .f32) (i : Fin 8) (j : Fin 128) : k0_pay5 x0 x1 x2 x3 (ix2 i j) = total (n := 8) (R := 8) (C := 128) x0 (ix2 i j) :=
  (pay _ _ _ _ _ _ _ _ i j).trans (total_of_parts x0 i j (by decide))

theorem moment_eq (x0 : Vec Ideal S8x8x128 .f32) (x1 x2 x3 : Vec Ideal S8x128 .f32) : k0_pay6 x0 x1 x2 x3 = k0_pay4 (View.ld x0 r0_0) (View.ld x0 r0_1) (View.ld x0 r0_2) (View.ld x0 r0_3) (View.ld x0 r0_4) (View.ld x0 r0_5) (View.ld x0 r0_6) (View.ld x0 r0_7) x2 := by
  unfold k0_pay6
  rw [View.ld_unit_zero (by funext a; fin_cases a <;> rfl)]

theorem out4 (x0 : Vec Ideal S8x8x128 .f32) (x1 x2 x3 : Vec Ideal S8x128 .f32) : Value.G4 (F := Ideal) x0 x1 x2 x3 = grad x0 := by
  funext y
  obtain ⟨i, j, rfl⟩ : ∃ (i : Fin 8) (j : Fin 128), y = ix2 i j := ⟨y 0, y 1, eq_ix2 (n0 := 8) (n1 := 128) y⟩
  unfold grad
  rw [← sum_eq x0 x1 x2 x3]

theorem out5 (x0 : Vec Ideal S8x8x128 .f32) (x1 x2 x3 : Vec Ideal S8x128 .f32) : Value.G5 (F := Ideal) x0 x1 x2 x3 = delta x0 x1 x2 x3 := by
  funext y
  obtain ⟨i, j, rfl⟩ : ∃ (i : Fin 8) (j : Fin 128), y = ix2 i j := ⟨y 0, y 1, eq_ix2 (n0 := 8) (n1 := 128) y⟩
  unfold delta grad
  rw [← sum_eq x0 x1 x2 x3]
  show k0_pay2 _ (k0_pay6 x0 x1 x2 x3) _ _ (ix2 i j) = _
  rw [moment_eq]; rfl

theorem out6 (x0 : Vec Ideal S8x8x128 .f32) (x1 x2 x3 : Vec Ideal S8x128 .f32) : Value.G6 (F := Ideal) x0 x1 x2 x3 = moment1 x0 x2 := by
  funext y
  obtain ⟨i, j, rfl⟩ : ∃ (i : Fin 8) (j : Fin 128), y = ix2 i j := ⟨y 0, y 1, eq_ix2 (n0 := 8) (n1 := 128) y⟩
  unfold moment1 grad
  rw [← sum_eq x0 x1 x2 x3]
  show k0_pay6 x0 x1 x2 x3 (ix2 i j) = _
  rw [moment_eq]; rfl

theorem out7 (x0 : Vec Ideal S8x8x128 .f32) (x1 x2 x3 : Vec Ideal S8x128 .f32) : Value.G7 (F := Ideal) x0 x1 x2 x3 = moment2 x0 x3 := by
  funext y
  obtain ⟨i, j, rfl⟩ : ∃ (i : Fin 8) (j : Fin 128), y = ix2 i j := ⟨y 0, y 1, eq_ix2 (n0 := 8) (n1 := 128) y⟩
  unfold moment2 grad
  rw [← sum_eq x0 x1 x2 x3]
  rfl

open Cert.Reference23Ideal.Read

theorem ref_grad (p : S8x8x128.Idx → EReal) : val_main_v0 (F := Ideal) p = grad p := by
  funext y
  rw [val_main_v0_apply]
  exact total_of_sum (n := 8) (R := 8) (C := 128) p _ y fun k => eq_ix3 (n0 := 8) (n1 := 8) (n2 := 128) _

theorem ref_moment1 (p : S8x8x128.Idx → EReal) (m : S8x128.Idx → EReal) : val_main_v5 (F := Ideal) p m = moment1 p m := by
  unfold moment1; rw [← ref_grad]; rfl

theorem ref_moment2 (p : S8x8x128.Idx → EReal) (v : S8x128.Idx → EReal) : val_main_v11 (F := Ideal) p v = moment2 p v := by
  unfold moment2; rw [← ref_grad]; rfl

theorem ref_delta (p : S8x8x128.Idx → EReal) (w m v : S8x128.Idx → EReal) : val_main_v24 (F := Ideal) p w m v = delta p w m v := by
  funext y
  unfold delta
  rw [step_div, ← ref_grad]; rfl

theorem frame_ideal : Cert.quiescent_Kernel23Ideal := fun m ρ _ => Cert.Kernel23Ideal.Gen.frame m ρ

theorem frame_reference : Cert.quiescent_Reference23Ideal := fun m ρ _ =>
  (θ_run Cert.Reference23Ideal.defs _ _).mono (fun r h => ⟨fun c => (h c).2.2.2.2, sem_eq_zero_of_no_sems (by decide) r.2⟩)
    (Cert.Reference23Ideal.Value.run (F := Ideal) m ρ)

theorem equal : Cert.algebraic_Kernel23Ideal_Reference23Ideal := by
  intro m ρ m' ρ' _ hargs
  refine ⟨fun c => grad (m ((c.tc : Thread nD τ).loc main_arg0)), fun c => delta (m ((c.tc : Thread nD τ).loc main_arg0)) (m ((c.tc : Thread nD τ).loc main_arg1)) (m ((c.tc : Thread nD τ).loc main_arg2)) (m ((c.tc : Thread nD τ).loc main_arg3)), fun c => moment1 (m ((c.tc : Thread nD τ).loc main_arg0)) (m ((c.tc : Thread nD τ).loc main_arg2)), fun c => moment2 (m ((c.tc : Thread nD τ).loc main_arg0)) (m ((c.tc : Thread nD τ).loc main_arg3)), ?_, ?_⟩
  · exact (θ_run Cert.Kernel23Ideal.defs _ _).mono (fun r h c => ⟨(h c).1.trans (out4 _ _ _ _), (h c).2.1.trans (out5 _ _ _ _), (h c).2.2.1.trans (out6 _ _ _ _), (h c).2.2.2.1.trans (out7 _ _ _ _), (h c).2.2.2.2⟩) (Cert.Kernel23Ideal.Value.run m ρ)
  · refine (θ_run Cert.Reference23Ideal.defs _ _).mono (fun r h c => ?_) (Cert.Reference23Ideal.Value.run (F := Ideal) m' ρ')
    obtain ⟨h0, h1, h2, h3⟩ := hargs c
    beta_reduce
    rw [← h0, ← h1, ← h2, ← h3]
    exact ⟨((h c).1.trans (val_main_v0_eq _)).trans (ref_grad _), ((h c).2.1.trans (val_main_v24_eq _ _ _ _)).trans (ref_delta _ _ _ _), ((h c).2.2.1.trans (val_main_v5_eq _ _)).trans (ref_moment1 _ _), ((h c).2.2.2.1.trans (val_main_v11_eq _ _)).trans (ref_moment2 _ _), (h c).2.2.2.2⟩

end Cert.Kernel23Ideal.Adam

end
-- ==== Proof.Adam.Mod.lean ====
/-
  AdamW's step on the modulation's weight: the call's results are the sum of the parts of the gradient and the step from it.
-/
module

public import proofs.«01_k».proof.Proof.Ffn.Base
public import proofs.«01_k».proof.Proof.Adam.Base
public import proofs.«01_k».proof.Proof.Gen.Kernel24Ideal.Value
public import proofs.«01_k».proof.Proof.Gen.Reference24Ideal.Run
public import proofs.«01_k».proof.Proof.Gen.Reference24Ideal.Read

@[expose] public section

set_option maxRecDepth 16384

noncomputable section

namespace Cert.Kernel24Ideal.Adam

open Cert.Kernel24Ideal Cert.Kernel24Ideal.Gen
open Idealize.ShloMosaic.Tactic
open Cert.Adam
open Idealize.ShloMosaic Idealize.ShloMosaic.TcCoe Idealize.SL.Sem Idealize.ShloMosaic.StableHlo
open Idealize.ShloMosaic.Pipeline (Dat)

/-- The sum of the parts of the gradient. -/
abbrev grad (p : S1x4096x1152.Idx → EReal) : S4096x1152.Idx → EReal := total (n := 1) (R := 4096) (C := 1152) p

/-- The change of the weight. -/
abbrev delta (p : S1x4096x1152.Idx → EReal) (w m v : S4096x1152.Idx → EReal) : S4096x1152.Idx → EReal := fun y => step (grad p y) (w y) (m y) (v y)

/-- The first moment. -/
abbrev moment1 (p : S1x4096x1152.Idx → EReal) (m : S4096x1152.Idx → EReal) : S4096x1152.Idx → EReal := fun y => newM (grad p y) (m y)

/-- The second moment. -/
abbrev moment2 (p : S1x4096x1152.Idx → EReal) (v : S4096x1152.Idx → EReal) : S4096x1152.Idx → EReal := fun y => newV (grad p y) (v y)

/-- The call adds its parts. -/
theorem pay (v0 : Vec Ideal S1x256x1152 .f32) (i : Fin 256) (j : Fin 1152) : k0_pay1 v0 (ix2 i j) = v0 (ix3 0 i j) := by
  pointwise [k0_pay1]

theorem sum_eq (x0 : Vec Ideal S1x256x1152 .f32) (x1 x2 x3 : Vec Ideal S256x1152 .f32) (i : Fin 256) (j : Fin 1152) : k0_pay1 x0 (ix2 i j) = total (n := 1) (R := 256) (C := 1152) x0 (ix2 i j) :=
  (pay x0 i j).trans (by rw [total, Fin.sum_univ_one]; rfl)

theorem out4 (x0 : Vec Ideal S1x256x1152 .f32) (x1 x2 x3 : Vec Ideal S256x1152 .f32) (i : Fin 256) (j : Fin 1152) : out0_4 x0 x1 x2 x3 (ix2 i j) = total (n := 1) (R := 256) (C := 1152) x0 (ix2 i j) := by
  unfold out0_4
  frame_out
  rw [← sum_eq x0 x1 x2 x3]

theorem out5 (x0 : Vec Ideal S1x256x1152 .f32) (x1 x2 x3 : Vec Ideal S256x1152 .f32) (i : Fin 256) (j : Fin 1152) : out0_5 x0 x1 x2 x3 (ix2 i j) = step (total (n := 1) (R := 256) (C := 1152) x0 (ix2 i j)) (x1 (ix2 i j)) (x2 (ix2 i j)) (x3 (ix2 i j)) := by
  unfold out0_5
  frame_out
  rw [← sum_eq x0 x1 x2 x3]
  rfl

theorem out6 (x0 : Vec Ideal S1x256x1152 .f32) (x1 x2 x3 : Vec Ideal S256x1152 .f32) (i : Fin 256) (j : Fin 1152) : out0_6 x0 x1 x2 x3 (ix2 i j) = newM (total (n := 1) (R := 256) (C := 1152) x0 (ix2 i j)) (x2 (ix2 i j)) := by
  unfold out0_6
  frame_out
  rw [← sum_eq x0 x1 x2 x3]
  rfl

theorem out7 (x0 : Vec Ideal S1x256x1152 .f32) (x1 x2 x3 : Vec Ideal S256x1152 .f32) (i : Fin 256) (j : Fin 1152) : out0_7 x0 x1 x2 x3 (ix2 i j) = newV (total (n := 1) (R := 256) (C := 1152) x0 (ix2 i j)) (x3 (ix2 i j)) := by
  unfold out0_7
  frame_out
  rw [← sum_eq x0 x1 x2 x3]
  rfl

variable (m : (ℓ : Loc nD τ sig) → Buf (Elt Ideal) ℓ) (ρ : Dev nD → PrngReg) (c : Dev nD)

theorem index0 : ∀ t : Fin cfg0.N, win0_0.index t = ![0, t.val, 0] := (by decide +kernel : ∀ t : Fin grid0.N, win0_0.index t = ![0, t.val, 0])
theorem index1 : ∀ t : Fin cfg0.N, win0_1.index t = ![t.val, 0] := (by decide +kernel : ∀ t : Fin grid0.N, win0_1.index t = ![t.val, 0])
theorem index2 : ∀ t : Fin cfg0.N, win0_2.index t = ![t.val, 0] := (by decide +kernel : ∀ t : Fin grid0.N, win0_2.index t = ![t.val, 0])
theorem index3 : ∀ t : Fin cfg0.N, win0_3.index t = ![t.val, 0] := (by decide +kernel : ∀ t : Fin grid0.N, win0_3.index t = ![t.val, 0])
theorem index4 : ∀ t : Fin cfg0.N, win0_4.index t = ![t.val, 0] := (by decide +kernel : ∀ t : Fin grid0.N, win0_4.index t = ![t.val, 0])
theorem index5 : ∀ t : Fin cfg0.N, win0_5.index t = ![t.val, 0] := (by decide +kernel : ∀ t : Fin grid0.N, win0_5.index t = ![t.val, 0])
theorem index6 : ∀ t : Fin cfg0.N, win0_6.index t = ![t.val, 0] := (by decide +kernel : ∀ t : Fin grid0.N, win0_6.index t = ![t.val, 0])
theorem index7 : ∀ t : Fin cfg0.N, win0_7.index t = ![t.val, 0] := (by decide +kernel : ∀ t : Fin grid0.N, win0_7.index t = ![t.val, 0])

theorem total4 (t : Fin cfg0.N) (i : Fin 256) (j : Fin 1152) : total (n := 1) (R := 256) (C := 1152) (iblk m c 0 t) (ix2 i j) = grad (m ((c : Thread nD τ).loc main_arg0)) (((View.whole main_v0_0).slice (win0_4.rect t)).emb (ix2 i j)) := by
  refine Finset.sum_congr rfl fun k _ => ?_
  blk_simp [iblk]
  rw [V_main_arg0]; refine congrArg _ ?_
  blk_ext [index0, index4]

theorem total5 (t : Fin cfg0.N) (i : Fin 256) (j : Fin 1152) : total (n := 1) (R := 256) (C := 1152) (iblk m c 0 t) (ix2 i j) = grad (m ((c : Thread nD τ).loc main_arg0)) (((View.whole main_v0_1).slice (win0_5.rect t)).emb (ix2 i j)) := by
  refine Finset.sum_congr rfl fun k _ => ?_
  blk_simp [iblk]
  rw [V_main_arg0]; refine congrArg _ ?_
  blk_ext [index0, index5]

theorem arg1_5 (t : Fin cfg0.N) (i : Fin 256) (j : Fin 1152) : (iblk m c 1 t (ix2 i j) : EReal) = (m ((c : Thread nD τ).loc main_arg1) : S4096x1152.Idx → EReal) (((View.whole main_v0_1).slice (win0_5.rect t)).emb (ix2 i j)) := by
  blk_simp [iblk]
  rw [V_main_arg1]; refine congrArg _ ?_
  blk_ext [index1, index5]

theorem arg2_5 (t : Fin cfg0.N) (i : Fin 256) (j : Fin 1152) : (iblk m c 2 t (ix2 i j) : EReal) = (m ((c : Thread nD τ).loc main_arg2) : S4096x1152.Idx → EReal) (((View.whole main_v0_1).slice (win0_5.rect t)).emb (ix2 i j)) := by
  blk_simp [iblk]
  rw [V_main_arg2]; refine congrArg _ ?_
  blk_ext [index2, index5]

theorem arg3_5 (t : Fin cfg0.N) (i : Fin 256) (j : Fin 1152) : (iblk m c 3 t (ix2 i j) : EReal) = (m ((c : Thread nD τ).loc main_arg3) : S4096x1152.Idx → EReal) (((View.whole main_v0_1).slice (win0_5.rect t)).emb (ix2 i j)) := by
  blk_simp [iblk]
  rw [V_main_arg3]; refine congrArg _ ?_
  blk_ext [index3, index5]

theorem total6 (t : Fin cfg0.N) (i : Fin 256) (j : Fin 1152) : total (n := 1) (R := 256) (C := 1152) (iblk m c 0 t) (ix2 i j) = grad (m ((c : Thread nD τ).loc main_arg0)) (((View.whole main_v0_2).slice (win0_6.rect t)).emb (ix2 i j)) := by
  refine Finset.sum_congr rfl fun k _ => ?_
  blk_simp [iblk]
  rw [V_main_arg0]; refine congrArg _ ?_
  blk_ext [index0, index6]

theorem arg2_6 (t : Fin cfg0.N) (i : Fin 256) (j : Fin 1152) : (iblk m c 2 t (ix2 i j) : EReal) = (m ((c : Thread nD τ).loc main_arg2) : S4096x1152.Idx → EReal) (((View.whole main_v0_2).slice (win0_6.rect t)).emb (ix2 i j)) := by
  blk_simp [iblk]
  rw [V_main_arg2]; refine congrArg _ ?_
  blk_ext [index2, index6]

theorem total7 (t : Fin cfg0.N) (i : Fin 256) (j : Fin 1152) : total (n := 1) (R := 256) (C := 1152) (iblk m c 0 t) (ix2 i j) = grad (m ((c : Thread nD τ).loc main_arg0)) (((View.whole main_v0_3).slice (win0_7.rect t)).emb (ix2 i j)) := by
  refine Finset.sum_congr rfl fun k _ => ?_
  blk_simp [iblk]
  rw [V_main_arg0]; refine congrArg _ ?_
  blk_ext [index0, index7]

theorem arg3_7 (t : Fin cfg0.N) (i : Fin 256) (j : Fin 1152) : (iblk m c 3 t (ix2 i j) : EReal) = (m ((c : Thread nD τ).loc main_arg3) : S4096x1152.Idx → EReal) (((View.whole main_v0_3).slice (win0_7.rect t)).emb (ix2 i j)) := by
  blk_simp [iblk]
  rw [V_main_arg3]; refine congrArg _ ?_
  blk_ext [index3, index7]

theorem final4 : (dats m 0 c).arrAt 4 cfg0.N = grad (m ((c : Thread nD τ).loc main_arg0)) := by
  refine (dats m 0 c).arrAt_eq_of_covers 4 _ (by decide +kernel) fun t hf y => ?_
  blk_simp
  rw [after0_4]
  obtain ⟨i, j, rfl⟩ : ∃ (i : Fin 256) (j : Fin 1152), y = ix2 i j := ⟨y 0, y 1, eq_ix2 (n0 := 256) (n1 := 1152) y⟩
  exact (out4 _ _ _ _ i j).trans (total4 m c t i j)

theorem final5 : (dats m 0 c).arrAt 5 cfg0.N = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  obtain ⟨i, j, rfl⟩ : ∃ (i : Fin 256) (j : Fin 1152), y = ix2 i j := ⟨y 0, y 1, eq_ix2 (n0 := 256) (n1 := 1152) y⟩
  exact (out5 _ _ _ _ i j).trans (by rw [total5, arg1_5, arg2_5, arg3_5])

theorem final6 : (dats m 0 c).arrAt 6 cfg0.N = moment1 (m ((c : Thread nD τ).loc main_arg0)) (m ((c : Thread nD τ).loc main_arg2)) := by
  refine (dats m 0 c).arrAt_eq_of_covers 6 _ (by decide +kernel) fun t hf y => ?_
  blk_simp
  rw [after0_6]
  obtain ⟨i, j, rfl⟩ : ∃ (i : Fin 256) (j : Fin 1152), y = ix2 i j := ⟨y 0, y 1, eq_ix2 (n0 := 256) (n1 := 1152) y⟩
  exact (out6 _ _ _ _ i j).trans (congrArg₂ newM (total6 m c t i j) (arg2_6 m c t i j))

theorem final7 : (dats m 0 c).arrAt 7 cfg0.N = moment2 (m ((c : Thread nD τ).loc main_arg0)) (m ((c : Thread nD τ).loc main_arg3)) := by
  refine (dats m 0 c).arrAt_eq_of_covers 7 _ (by decide +kernel) fun t hf y => ?_
  blk_simp
  rw [after0_7]
  obtain ⟨i, j, rfl⟩ : ∃ (i : Fin 256) (j : Fin 1152), y = ix2 i j := ⟨y 0, y 1, eq_ix2 (n0 := 256) (n1 := 1152) y⟩
  exact (out7 _ _ _ _ i j).trans (congrArg₂ newV (total7 m c t i j) (arg3_7 m c t i j))

open Cert.Reference24Ideal.Read

theorem ref_grad (p : S1x4096x1152.Idx → EReal) : val_main_v0 (F := Ideal) p = grad p := by
  funext y
  rw [val_main_v0_apply]
  exact total_of_sum (n := 1) (R := 4096) (C := 1152) p _ y fun k => eq_ix3 (n0 := 1) (n1 := 4096) (n2 := 1152) _

theorem ref_moment1 (p : S1x4096x1152.Idx → EReal) (m : S4096x1152.Idx → EReal) : val_main_v5 (F := Ideal) p m = moment1 p m := by
  unfold moment1; rw [← ref_grad]; rfl

theorem ref_moment2 (p : S1x4096x1152.Idx → EReal) (v : S4096x1152.Idx → EReal) : val_main_v11 (F := Ideal) p v = moment2 p v := by
  unfold moment2; rw [← ref_grad]; rfl

theorem ref_delta (p : S1x4096x1152.Idx → EReal) (w m v : S4096x1152.Idx → EReal) : val_main_v24 (F := Ideal) p w m v = delta p w m v := by
  funext y
  unfold delta
  rw [step_div, ← ref_grad]; rfl

theorem frame_ideal : Cert.quiescent_Kernel24Ideal := fun m ρ _ => Cert.Kernel24Ideal.Gen.frame m ρ

theorem frame_reference : Cert.quiescent_Reference24Ideal := fun m ρ _ =>
  (θ_run Cert.Reference24Ideal.defs _ _).mono (fun r h => ⟨fun c => (h c).2.2.2.2, sem_eq_zero_of_no_sems (by decide) r.2⟩)
    (Cert.Reference24Ideal.Value.run (F := Ideal) m ρ)

theorem equal : Cert.algebraic_Kernel24Ideal_Reference24Ideal := by
  intro m ρ m' ρ' _ hargs
  refine ⟨fun c => grad (m ((c.tc : Thread nD τ).loc main_arg0)), fun c => delta (m ((c.tc : Thread nD τ).loc main_arg0)) (m ((c.tc : Thread nD τ).loc main_arg1)) (m ((c.tc : Thread nD τ).loc main_arg2)) (m ((c.tc : Thread nD τ).loc main_arg3)), fun c => moment1 (m ((c.tc : Thread nD τ).loc main_arg0)) (m ((c.tc : Thread nD τ).loc main_arg2)), fun c => moment2 (m ((c.tc : Thread nD τ).loc main_arg0)) (m ((c.tc : Thread nD τ).loc main_arg3)), ?_, ?_⟩
  · exact (θ_run Cert.Kernel24Ideal.defs _ _).mono (fun r h c => ⟨(h c).1.trans (final4 m c), (h c).2.1.trans (final5 m c), (h c).2.2.1.trans (final6 m c), (h c).2.2.2.1.trans (final7 m c), (h c).2.2.2.2⟩) (Cert.Kernel24Ideal.Value.run_blocks m ρ)
  · refine (θ_run Cert.Reference24Ideal.defs _ _).mono (fun r h c => ?_) (Cert.Reference24Ideal.Value.run (F := Ideal) m' ρ')
    obtain ⟨h0, h1, h2, h3⟩ := hargs c
    beta_reduce
    rw [← h0, ← h1, ← h2, ← h3]
    exact ⟨((h c).1.trans (val_main_v0_eq _)).trans (ref_grad _), ((h c).2.1.trans (val_main_v24_eq _ _ _ _)).trans (ref_delta _ _ _ _), ((h c).2.2.1.trans (val_main_v5_eq _ _)).trans (ref_moment1 _ _), ((h c).2.2.2.1.trans (val_main_v11_eq _ _)).trans (ref_moment2 _ _), (h c).2.2.2.2⟩

end Cert.Kernel24Ideal.Adam

end
-- ==== Proof.Adam.ModBias.lean ====
/-
  AdamW's step on the modulation's bias: the call's results are the sum of the parts of the gradient and the step from it.
-/
module

public import proofs.«01_k».proof.Proof.Ffn.Base
public import proofs.«01_k».proof.Proof.Adam.Base
public import proofs.«01_k».proof.Proof.Gen.Kernel25Ideal.Value
public import proofs.«01_k».proof.Proof.Gen.Reference25Ideal.Run
public import proofs.«01_k».proof.Proof.Gen.Reference25Ideal.Read

@[expose] public section

set_option maxRecDepth 16384

noncomputable section

namespace Cert.Kernel25Ideal.Adam

open Cert.Kernel25Ideal Cert.Kernel25Ideal.Gen
open Idealize.ShloMosaic.Tactic
open Cert.Adam
open Idealize.ShloMosaic Idealize.ShloMosaic.TcCoe Idealize.SL.Sem Idealize.ShloMosaic.StableHlo
open Idealize.ShloMosaic.Pipeline (Dat)

/-- The sum of the parts of the gradient. -/
abbrev grad (p : S8x4x9216.Idx → EReal) : S4x9216.Idx → EReal := total (n := 8) (R := 4) (C := 9216) p

/-- The change of the weight. -/
abbrev delta (p : S8x4x9216.Idx → EReal) (w m v : S4x9216.Idx → EReal) : S4x9216.Idx → EReal := fun y => step (grad p y) (w y) (m y) (v y)

/-- The first moment. -/
abbrev moment1 (p : S8x4x9216.Idx → EReal) (m : S4x9216.Idx → EReal) : S4x9216.Idx → EReal := fun y => newM (grad p y) (m y)

/-- The second moment. -/
abbrev moment2 (p : S8x4x9216.Idx → EReal) (v : S4x9216.Idx → EReal) : S4x9216.Idx → EReal := fun y => newV (grad p y) (v y)

/-- The call adds its parts. -/
theorem pay (v0 v1 v2 v3 v4 v5 v6 v7 : Vec Ideal S1x4x9216 .f32) (i : Fin 4) (j : Fin 9216) : k0_pay3 v0 v1 v2 v3 v4 v5 v6 v7 (ix2 i j) = v0 (ix3 0 i j) + v1 (ix3 0 i j) + v2 (ix3 0 i j) + v3 (ix3 0 i j) + v4 (ix3 0 i j) + v5 (ix3 0 i j) + v6 (ix3 0 i j) + v7 (ix3 0 i j) := by
  pointwise [k0_pay3]

theorem sum_eq (x0 : Vec Ideal S8x4x9216 .f32) (x1 x2 x3 : Vec Ideal S4x9216 .f32) (i : Fin 4) (j : Fin 9216) : k0_pay5 x0 x1 x2 x3 (ix2 i j) = total (n := 8) (R := 4) (C := 9216) x0 (ix2 i j) :=
  (pay _ _ _ _ _ _ _ _ i j).trans (total_of_parts x0 i j (by decide))

theorem moment_eq (x0 : Vec Ideal S8x4x9216 .f32) (x1 x2 x3 : Vec Ideal S4x9216 .f32) : k0_pay6 x0 x1 x2 x3 = k0_pay4 (View.ld x0 r0_0) (View.ld x0 r0_1) (View.ld x0 r0_2) (View.ld x0 r0_3) (View.ld x0 r0_4) (View.ld x0 r0_5) (View.ld x0 r0_6) (View.ld x0 r0_7) x2 := by
  unfold k0_pay6
  rw [View.ld_unit_zero (by funext a; fin_cases a <;> rfl)]

theorem out4 (x0 : Vec Ideal S8x4x9216 .f32) (x1 x2 x3 : Vec Ideal S4x9216 .f32) : Value.G4 (F := Ideal) x0 x1 x2 x3 = grad x0 := by
  funext y
  obtain ⟨i, j, rfl⟩ : ∃ (i : Fin 4) (j : Fin 9216), y = ix2 i j := ⟨y 0, y 1, eq_ix2 (n0 := 4) (n1 := 9216) y⟩
  unfold grad
  rw [← sum_eq x0 x1 x2 x3]

theorem out5 (x0 : Vec Ideal S8x4x9216 .f32) (x1 x2 x3 : Vec Ideal S4x9216 .f32) : Value.G5 (F := Ideal) x0 x1 x2 x3 = delta x0 x1 x2 x3 := by
  funext y
  obtain ⟨i, j, rfl⟩ : ∃ (i : Fin 4) (j : Fin 9216), y = ix2 i j := ⟨y 0, y 1, eq_ix2 (n0 := 4) (n1 := 9216) y⟩
  unfold delta grad
  rw [← sum_eq x0 x1 x2 x3]
  show k0_pay2 _ (k0_pay6 x0 x1 x2 x3) _ _ (ix2 i j) = _
  rw [moment_eq]; rfl

theorem out6 (x0 : Vec Ideal S8x4x9216 .f32) (x1 x2 x3 : Vec Ideal S4x9216 .f32) : Value.G6 (F := Ideal) x0 x1 x2 x3 = moment1 x0 x2 := by
  funext y
  obtain ⟨i, j, rfl⟩ : ∃ (i : Fin 4) (j : Fin 9216), y = ix2 i j := ⟨y 0, y 1, eq_ix2 (n0 := 4) (n1 := 9216) y⟩
  unfold moment1 grad
  rw [← sum_eq x0 x1 x2 x3]
  show k0_pay6 x0 x1 x2 x3 (ix2 i j) = _
  rw [moment_eq]; rfl

theorem out7 (x0 : Vec Ideal S8x4x9216 .f32) (x1 x2 x3 : Vec Ideal S4x9216 .f32) : Value.G7 (F := Ideal) x0 x1 x2 x3 = moment2 x0 x3 := by
  funext y
  obtain ⟨i, j, rfl⟩ : ∃ (i : Fin 4) (j : Fin 9216), y = ix2 i j := ⟨y 0, y 1, eq_ix2 (n0 := 4) (n1 := 9216) y⟩
  unfold moment2 grad
  rw [← sum_eq x0 x1 x2 x3]
  rfl

open Cert.Reference25Ideal.Read

theorem ref_grad (p : S8x4x9216.Idx → EReal) : val_main_v0 (F := Ideal) p = grad p := by
  funext y
  rw [val_main_v0_apply]
  exact total_of_sum (n := 8) (R := 4) (C := 9216) p _ y fun k => eq_ix3 (n0 := 8) (n1 := 4) (n2 := 9216) _

theorem ref_moment1 (p : S8x4x9216.Idx → EReal) (m : S4x9216.Idx → EReal) : val_main_v5 (F := Ideal) p m = moment1 p m := by
  unfold moment1; rw [← ref_grad]; rfl

theorem ref_moment2 (p : S8x4x9216.Idx → EReal) (v : S4x9216.Idx → EReal) : val_main_v11 (F := Ideal) p v = moment2 p v := by
  unfold moment2; rw [← ref_grad]; rfl

theorem ref_delta (p : S8x4x9216.Idx → EReal) (w m v : S4x9216.Idx → EReal) : val_main_v24 (F := Ideal) p w m v = delta p w m v := by
  funext y
  unfold delta
  rw [step_div, ← ref_grad]; rfl

theorem frame_ideal : Cert.quiescent_Kernel25Ideal := fun m ρ _ => Cert.Kernel25Ideal.Gen.frame m ρ

theorem frame_reference : Cert.quiescent_Reference25Ideal := fun m ρ _ =>
  (θ_run Cert.Reference25Ideal.defs _ _).mono (fun r h => ⟨fun c => (h c).2.2.2.2, sem_eq_zero_of_no_sems (by decide) r.2⟩)
    (Cert.Reference25Ideal.Value.run (F := Ideal) m ρ)

theorem equal : Cert.algebraic_Kernel25Ideal_Reference25Ideal := by
  intro m ρ m' ρ' _ hargs
  refine ⟨fun c => grad (m ((c.tc : Thread nD τ).loc main_arg0)), fun c => delta (m ((c.tc : Thread nD τ).loc main_arg0)) (m ((c.tc : Thread nD τ).loc main_arg1)) (m ((c.tc : Thread nD τ).loc main_arg2)) (m ((c.tc : Thread nD τ).loc main_arg3)), fun c => moment1 (m ((c.tc : Thread nD τ).loc main_arg0)) (m ((c.tc : Thread nD τ).loc main_arg2)), fun c => moment2 (m ((c.tc : Thread nD τ).loc main_arg0)) (m ((c.tc : Thread nD τ).loc main_arg3)), ?_, ?_⟩
  · exact (θ_run Cert.Kernel25Ideal.defs _ _).mono (fun r h c => ⟨(h c).1.trans (out4 _ _ _ _), (h c).2.1.trans (out5 _ _ _ _), (h c).2.2.1.trans (out6 _ _ _ _), (h c).2.2.2.1.trans (out7 _ _ _ _), (h c).2.2.2.2⟩) (Cert.Kernel25Ideal.Value.run m ρ)
  · refine (θ_run Cert.Reference25Ideal.defs _ _).mono (fun r h c => ?_) (Cert.Reference25Ideal.Value.run (F := Ideal) m' ρ')
    obtain ⟨h0, h1, h2, h3⟩ := hargs c
    beta_reduce
    rw [← h0, ← h1, ← h2, ← h3]
    exact ⟨((h c).1.trans (val_main_v0_eq _)).trans (ref_grad _), ((h c).2.1.trans (val_main_v24_eq _ _ _ _)).trans (ref_delta _ _ _ _), ((h c).2.2.1.trans (val_main_v5_eq _ _)).trans (ref_moment1 _ _), ((h c).2.2.2.1.trans (val_main_v11_eq _ _)).trans (ref_moment2 _ _), (h c).2.2.2.2⟩

end Cert.Kernel25Ideal.Adam

end
-- ==== Proof.Adam.MixNorm.lean ====
/-
  AdamW's step on the scale of the mixers' norm: the call's results are the sum of the parts of the gradient and the step from it.
-/
module

public import proofs.«01_k».proof.Proof.Ffn.Base
public import proofs.«01_k».proof.Proof.Adam.Base
public import proofs.«01_k».proof.Proof.Gen.Kernel26Ideal.Value
public import proofs.«01_k».proof.Proof.Gen.Reference26Ideal.Run
public import proofs.«01_k».proof.Proof.Gen.Reference26Ideal.Read

@[expose] public section

set_option maxRecDepth 16384

noncomputable section

namespace Cert.Kernel26Ideal.Adam

open Cert.Kernel26Ideal Cert.Kernel26Ideal.Gen
open Idealize.ShloMosaic.Tactic
open Cert.Adam
open Idealize.ShloMosaic Idealize.ShloMosaic.TcCoe Idealize.SL.Sem Idealize.ShloMosaic.StableHlo
open Idealize.ShloMosaic.Pipeline (Dat)

/-- The sum of the parts of the gradient. -/
abbrev grad (p : S8x4x1024.Idx → EReal) : S4x1024.Idx → EReal := total (n := 8) (R := 4) (C := 1024) p

/-- The change of the weight. -/
abbrev delta (p : S8x4x1024.Idx → EReal) (w m v : S4x1024.Idx → EReal) : S4x1024.Idx → EReal := fun y => step (grad p y) (w y) (m y) (v y)

/-- The first moment. -/
abbrev moment1 (p : S8x4x1024.Idx → EReal) (m : S4x1024.Idx → EReal) : S4x1024.Idx → EReal := fun y => newM (grad p y) (m y)

/-- The second moment. -/
abbrev moment2 (p : S8x4x1024.Idx → EReal) (v : S4x1024.Idx → EReal) : S4x1024.Idx → EReal := fun y => newV (grad p y) (v y)

/-- The call adds its parts. -/
theorem pay (v0 v1 v2 v3 v4 v5 v6 v7 : Vec Ideal S1x4x1024 .f32) (i : Fin 4) (j : Fin 1024) : k0_pay3 v0 v1 v2 v3 v4 v5 v6 v7 (ix2 i j) = v0 (ix3 0 i j) + v1 (ix3 0 i j) + v2 (ix3 0 i j) + v3 (ix3 0 i j) + v4 (ix3 0 i j) + v5 (ix3 0 i j) + v6 (ix3 0 i j) + v7 (ix3 0 i j) := by
  pointwise [k0_pay3]

theorem sum_eq (x0 : Vec Ideal S8x4x1024 .f32) (x1 x2 x3 : Vec Ideal S4x1024 .f32) (i : Fin 4) (j : Fin 1024) : k0_pay5 x0 x1 x2 x3 (ix2 i j) = total (n := 8) (R := 4) (C := 1024) x0 (ix2 i j) :=
  (pay _ _ _ _ _ _ _ _ i j).trans (total_of_parts x0 i j (by decide))

theorem moment_eq (x0 : Vec Ideal S8x4x1024 .f32) (x1 x2 x3 : Vec Ideal S4x1024 .f32) : k0_pay6 x0 x1 x2 x3 = k0_pay4 (View.ld x0 r0_0) (View.ld x0 r0_1) (View.ld x0 r0_2) (View.ld x0 r0_3) (View.ld x0 r0_4) (View.ld x0 r0_5) (View.ld x0 r0_6) (View.ld x0 r0_7) x2 := by
  unfold k0_pay6
  rw [View.ld_unit_zero (by funext a; fin_cases a <;> rfl)]

theorem out4 (x0 : Vec Ideal S8x4x1024 .f32) (x1 x2 x3 : Vec Ideal S4x1024 .f32) : Value.G4 (F := Ideal) x0 x1 x2 x3 = grad x0 := by
  funext y
  obtain ⟨i, j, rfl⟩ : ∃ (i : Fin 4) (j : Fin 1024), y = ix2 i j := ⟨y 0, y 1, eq_ix2 (n0 := 4) (n1 := 1024) y⟩
  unfold grad
  rw [← sum_eq x0 x1 x2 x3]

theorem out5 (x0 : Vec Ideal S8x4x1024 .f32) (x1 x2 x3 : Vec Ideal S4x1024 .f32) : Value.G5 (F := Ideal) x0 x1 x2 x3 = delta x0 x1 x2 x3 := by
  funext y
  obtain ⟨i, j, rfl⟩ : ∃ (i : Fin 4) (j : Fin 1024), y = ix2 i j := ⟨y 0, y 1, eq_ix2 (n0 := 4) (n1 := 1024) y⟩
  unfold delta grad
  rw [← sum_eq x0 x1 x2 x3]
  show k0_pay2 _ (k0_pay6 x0 x1 x2 x3) _ _ (ix2 i j) = _
  rw [moment_eq]; rfl

theorem out6 (x0 : Vec Ideal S8x4x1024 .f32) (x1 x2 x3 : Vec Ideal S4x1024 .f32) : Value.G6 (F := Ideal) x0 x1 x2 x3 = moment1 x0 x2 := by
  funext y
  obtain ⟨i, j, rfl⟩ : ∃ (i : Fin 4) (j : Fin 1024), y = ix2 i j := ⟨y 0, y 1, eq_ix2 (n0 := 4) (n1 := 1024) y⟩
  unfold moment1 grad
  rw [← sum_eq x0 x1 x2 x3]
  show k0_pay6 x0 x1 x2 x3 (ix2 i j) = _
  rw [moment_eq]; rfl

theorem out7 (x0 : Vec Ideal S8x4x1024 .f32) (x1 x2 x3 : Vec Ideal S4x1024 .f32) : Value.G7 (F := Ideal) x0 x1 x2 x3 = moment2 x0 x3 := by
  funext y
  obtain ⟨i, j, rfl⟩ : ∃ (i : Fin 4) (j : Fin 1024), y = ix2 i j := ⟨y 0, y 1, eq_ix2 (n0 := 4) (n1 := 1024) y⟩
  unfold moment2 grad
  rw [← sum_eq x0 x1 x2 x3]
  rfl

open Cert.Reference26Ideal.Read

theorem ref_grad (p : S8x4x1024.Idx → EReal) : val_main_v0 (F := Ideal) p = grad p := by
  funext y
  rw [val_main_v0_apply]
  exact total_of_sum (n := 8) (R := 4) (C := 1024) p _ y fun k => eq_ix3 (n0 := 8) (n1 := 4) (n2 := 1024) _

theorem ref_moment1 (p : S8x4x1024.Idx → EReal) (m : S4x1024.Idx → EReal) : val_main_v5 (F := Ideal) p m = moment1 p m := by
  unfold moment1; rw [← ref_grad]; rfl

theorem ref_moment2 (p : S8x4x1024.Idx → EReal) (v : S4x1024.Idx → EReal) : val_main_v11 (F := Ideal) p v = moment2 p v := by
  unfold moment2; rw [← ref_grad]; rfl

theorem ref_delta (p : S8x4x1024.Idx → EReal) (w m v : S4x1024.Idx → EReal) : val_main_v24 (F := Ideal) p w m v = delta p w m v := by
  funext y
  unfold delta
  rw [step_div, ← ref_grad]; rfl

theorem frame_ideal : Cert.quiescent_Kernel26Ideal := fun m ρ _ => Cert.Kernel26Ideal.Gen.frame m ρ

theorem frame_reference : Cert.quiescent_Reference26Ideal := fun m ρ _ =>
  (θ_run Cert.Reference26Ideal.defs _ _).mono (fun r h => ⟨fun c => (h c).2.2.2.2, sem_eq_zero_of_no_sems (by decide) r.2⟩)
    (Cert.Reference26Ideal.Value.run (F := Ideal) m ρ)

theorem equal : Cert.algebraic_Kernel26Ideal_Reference26Ideal := by
  intro m ρ m' ρ' _ hargs
  refine ⟨fun c => grad (m ((c.tc : Thread nD τ).loc main_arg0)), fun c => delta (m ((c.tc : Thread nD τ).loc main_arg0)) (m ((c.tc : Thread nD τ).loc main_arg1)) (m ((c.tc : Thread nD τ).loc main_arg2)) (m ((c.tc : Thread nD τ).loc main_arg3)), fun c => moment1 (m ((c.tc : Thread nD τ).loc main_arg0)) (m ((c.tc : Thread nD τ).loc main_arg2)), fun c => moment2 (m ((c.tc : Thread nD τ).loc main_arg0)) (m ((c.tc : Thread nD τ).loc main_arg3)), ?_, ?_⟩
  · exact (θ_run Cert.Kernel26Ideal.defs _ _).mono (fun r h c => ⟨(h c).1.trans (out4 _ _ _ _), (h c).2.1.trans (out5 _ _ _ _), (h c).2.2.1.trans (out6 _ _ _ _), (h c).2.2.2.1.trans (out7 _ _ _ _), (h c).2.2.2.2⟩) (Cert.Kernel26Ideal.Value.run m ρ)
  · refine (θ_run Cert.Reference26Ideal.defs _ _).mono (fun r h c => ?_) (Cert.Reference26Ideal.Value.run (F := Ideal) m' ρ')
    obtain ⟨h0, h1, h2, h3⟩ := hargs c
    beta_reduce
    rw [← h0, ← h1, ← h2, ← h3]
    exact ⟨((h c).1.trans (val_main_v0_eq _)).trans (ref_grad _), ((h c).2.1.trans (val_main_v24_eq _ _ _ _)).trans (ref_delta _ _ _ _), ((h c).2.2.1.trans (val_main_v5_eq _ _)).trans (ref_moment1 _ _), ((h c).2.2.2.1.trans (val_main_v11_eq _ _)).trans (ref_moment2 _ _), (h c).2.2.2.2⟩

end Cert.Kernel26Ideal.Adam

end
-- ==== Proof.Adam.SsmConv.lean ====
/-
  AdamW's step on the mixer's convolution: the call's results are the sum of the parts of the gradient and the step from it.
-/
module

public import proofs.«01_k».proof.Proof.Ffn.Base
public import proofs.«01_k».proof.Proof.Adam.Base
public import proofs.«01_k».proof.Proof.Gen.Kernel27Ideal.Value
public import proofs.«01_k».proof.Proof.Gen.Reference27Ideal.Run
public import proofs.«01_k».proof.Proof.Gen.Reference27Ideal.Read

@[expose] public section

set_option maxRecDepth 16384

noncomputable section

namespace Cert.Kernel27Ideal.Adam

open Cert.Kernel27Ideal Cert.Kernel27Ideal.Gen
open Idealize.ShloMosaic.Tactic
open Cert.Adam
open Idealize.ShloMosaic Idealize.ShloMosaic.TcCoe Idealize.SL.Sem Idealize.ShloMosaic.StableHlo
open Idealize.ShloMosaic.Pipeline (Dat)

/-- The sum of the parts of the gradient. -/
abbrev grad (p : S8x8x512.Idx → EReal) : S8x512.Idx → EReal := total (n := 8) (R := 8) (C := 512) p

/-- The change of the weight. -/
abbrev delta (p : S8x8x512.Idx → EReal) (w m v : S8x512.Idx → EReal) : S8x512.Idx → EReal := fun y => step (grad p y) (w y) (m y) (v y)

/-- The first moment. -/
abbrev moment1 (p : S8x8x512.Idx → EReal) (m : S8x512.Idx → EReal) : S8x512.Idx → EReal := fun y => newM (grad p y) (m y)

/-- The second moment. -/
abbrev moment2 (p : S8x8x512.Idx → EReal) (v : S8x512.Idx → EReal) : S8x512.Idx → EReal := fun y => newV (grad p y) (v y)

/-- The call adds its parts. -/
theorem pay (v0 v1 v2 v3 v4 v5 v6 v7 : Vec Ideal S1x8x512 .f32) (i : Fin 8) (j : Fin 512) : k0_pay3 v0 v1 v2 v3 v4 v5 v6 v7 (ix2 i j) = v0 (ix3 0 i j) + v1 (ix3 0 i j) + v2 (ix3 0 i j) + v3 (ix3 0 i j) + v4 (ix3 0 i j) + v5 (ix3 0 i j) + v6 (ix3 0 i j) + v7 (ix3 0 i j) := by
  pointwise [k0_pay3]

theorem sum_eq (x0 : Vec Ideal S8x8x512 .f32) (x1 x2 x3 : Vec Ideal S8x512 .f32) (i : Fin 8) (j : Fin 512) : k0_pay5 x0 x1 x2 x3 (ix2 i j) = total (n := 8) (R := 8) (C := 512) x0 (ix2 i j) :=
  (pay _ _ _ _ _ _ _ _ i j).trans (total_of_parts x0 i j (by decide))

theorem moment_eq (x0 : Vec Ideal S8x8x512 .f32) (x1 x2 x3 : Vec Ideal S8x512 .f32) : k0_pay6 x0 x1 x2 x3 = k0_pay4 (View.ld x0 r0_0) (View.ld x0 r0_1) (View.ld x0 r0_2) (View.ld x0 r0_3) (View.ld x0 r0_4) (View.ld x0 r0_5) (View.ld x0 r0_6) (View.ld x0 r0_7) x2 := by
  unfold k0_pay6
  rw [View.ld_unit_zero (by funext a; fin_cases a <;> rfl)]

theorem out4 (x0 : Vec Ideal S8x8x512 .f32) (x1 x2 x3 : Vec Ideal S8x512 .f32) : Value.G4 (F := Ideal) x0 x1 x2 x3 = grad x0 := by
  funext y
  obtain ⟨i, j, rfl⟩ : ∃ (i : Fin 8) (j : Fin 512), y = ix2 i j := ⟨y 0, y 1, eq_ix2 (n0 := 8) (n1 := 512) y⟩
  unfold grad
  rw [← sum_eq x0 x1 x2 x3]

theorem out5 (x0 : Vec Ideal S8x8x512 .f32) (x1 x2 x3 : Vec Ideal S8x512 .f32) : Value.G5 (F := Ideal) x0 x1 x2 x3 = delta x0 x1 x2 x3 := by
  funext y
  obtain ⟨i, j, rfl⟩ : ∃ (i : Fin 8) (j : Fin 512), y = ix2 i j := ⟨y 0, y 1, eq_ix2 (n0 := 8) (n1 := 512) y⟩
  unfold delta grad
  rw [← sum_eq x0 x1 x2 x3]
  show k0_pay2 _ (k0_pay6 x0 x1 x2 x3) _ _ (ix2 i j) = _
  rw [moment_eq]; rfl

theorem out6 (x0 : Vec Ideal S8x8x512 .f32) (x1 x2 x3 : Vec Ideal S8x512 .f32) : Value.G6 (F := Ideal) x0 x1 x2 x3 = moment1 x0 x2 := by
  funext y
  obtain ⟨i, j, rfl⟩ : ∃ (i : Fin 8) (j : Fin 512), y = ix2 i j := ⟨y 0, y 1, eq_ix2 (n0 := 8) (n1 := 512) y⟩
  unfold moment1 grad
  rw [← sum_eq x0 x1 x2 x3]
  show k0_pay6 x0 x1 x2 x3 (ix2 i j) = _
  rw [moment_eq]; rfl

theorem out7 (x0 : Vec Ideal S8x8x512 .f32) (x1 x2 x3 : Vec Ideal S8x512 .f32) : Value.G7 (F := Ideal) x0 x1 x2 x3 = moment2 x0 x3 := by
  funext y
  obtain ⟨i, j, rfl⟩ : ∃ (i : Fin 8) (j : Fin 512), y = ix2 i j := ⟨y 0, y 1, eq_ix2 (n0 := 8) (n1 := 512) y⟩
  unfold moment2 grad
  rw [← sum_eq x0 x1 x2 x3]
  rfl

open Cert.Reference27Ideal.Read

theorem ref_grad (p : S8x8x512.Idx → EReal) : val_main_v0 (F := Ideal) p = grad p := by
  funext y
  rw [val_main_v0_apply]
  exact total_of_sum (n := 8) (R := 8) (C := 512) p _ y fun k => eq_ix3 (n0 := 8) (n1 := 8) (n2 := 512) _

theorem ref_moment1 (p : S8x8x512.Idx → EReal) (m : S8x512.Idx → EReal) : val_main_v5 (F := Ideal) p m = moment1 p m := by
  unfold moment1; rw [← ref_grad]; rfl

theorem ref_moment2 (p : S8x8x512.Idx → EReal) (v : S8x512.Idx → EReal) : val_main_v11 (F := Ideal) p v = moment2 p v := by
  unfold moment2; rw [← ref_grad]; rfl

theorem ref_delta (p : S8x8x512.Idx → EReal) (w m v : S8x512.Idx → EReal) : val_main_v24 (F := Ideal) p w m v = delta p w m v := by
  funext y
  unfold delta
  rw [step_div, ← ref_grad]; rfl

theorem frame_ideal : Cert.quiescent_Kernel27Ideal := fun m ρ _ => Cert.Kernel27Ideal.Gen.frame m ρ

theorem frame_reference : Cert.quiescent_Reference27Ideal := fun m ρ _ =>
  (θ_run Cert.Reference27Ideal.defs _ _).mono (fun r h => ⟨fun c => (h c).2.2.2.2, sem_eq_zero_of_no_sems (by decide) r.2⟩)
    (Cert.Reference27Ideal.Value.run (F := Ideal) m ρ)

theorem equal : Cert.algebraic_Kernel27Ideal_Reference27Ideal := by
  intro m ρ m' ρ' _ hargs
  refine ⟨fun c => grad (m ((c.tc : Thread nD τ).loc main_arg0)), fun c => delta (m ((c.tc : Thread nD τ).loc main_arg0)) (m ((c.tc : Thread nD τ).loc main_arg1)) (m ((c.tc : Thread nD τ).loc main_arg2)) (m ((c.tc : Thread nD τ).loc main_arg3)), fun c => moment1 (m ((c.tc : Thread nD τ).loc main_arg0)) (m ((c.tc : Thread nD τ).loc main_arg2)), fun c => moment2 (m ((c.tc : Thread nD τ).loc main_arg0)) (m ((c.tc : Thread nD τ).loc main_arg3)), ?_, ?_⟩
  · exact (θ_run Cert.Kernel27Ideal.defs _ _).mono (fun r h c => ⟨(h c).1.trans (out4 _ _ _ _), (h c).2.1.trans (out5 _ _ _ _), (h c).2.2.1.trans (out6 _ _ _ _), (h c).2.2.2.1.trans (out7 _ _ _ _), (h c).2.2.2.2⟩) (Cert.Kernel27Ideal.Value.run m ρ)
  · refine (θ_run Cert.Reference27Ideal.defs _ _).mono (fun r h c => ?_) (Cert.Reference27Ideal.Value.run (F := Ideal) m' ρ')
    obtain ⟨h0, h1, h2, h3⟩ := hargs c
    beta_reduce
    rw [← h0, ← h1, ← h2, ← h3]
    exact ⟨((h c).1.trans (val_main_v0_eq _)).trans (ref_grad _), ((h c).2.1.trans (val_main_v24_eq _ _ _ _)).trans (ref_delta _ _ _ _), ((h c).2.2.1.trans (val_main_v5_eq _ _)).trans (ref_moment1 _ _), ((h c).2.2.2.1.trans (val_main_v11_eq _ _)).trans (ref_moment2 _ _), (h c).2.2.2.2⟩

end Cert.Kernel27Ideal.Adam

end
-- ==== Proof.Adam.SsmConvBias.lean ====
/-
  AdamW's step on the bias of the mixer's convolution: the call's results are the sum of the parts of the gradient and the step from it.
-/
module

public import proofs.«01_k».proof.Proof.Ffn.Base
public import proofs.«01_k».proof.Proof.Adam.Base
public import proofs.«01_k».proof.Proof.Gen.Kernel28Ideal.Value
public import proofs.«01_k».proof.Proof.Gen.Reference28Ideal.Run
public import proofs.«01_k».proof.Proof.Gen.Reference28Ideal.Read

@[expose] public section

set_option maxRecDepth 16384

noncomputable section

namespace Cert.Kernel28Ideal.Adam

open Cert.Kernel28Ideal Cert.Kernel28Ideal.Gen
open Idealize.ShloMosaic.Tactic
open Cert.Adam
open Idealize.ShloMosaic Idealize.ShloMosaic.TcCoe Idealize.SL.Sem Idealize.ShloMosaic.StableHlo
open Idealize.ShloMosaic.Pipeline (Dat)

/-- The sum of the parts of the gradient. -/
abbrev grad (p : S8x2x512.Idx → EReal) : S2x512.Idx → EReal := total (n := 8) (R := 2) (C := 512) p

/-- The change of the weight. -/
abbrev delta (p : S8x2x512.Idx → EReal) (w m v : S2x512.Idx → EReal) : S2x512.Idx → EReal := fun y => step (grad p y) (w y) (m y) (v y)

/-- The first moment. -/
abbrev moment1 (p : S8x2x512.Idx → EReal) (m : S2x512.Idx → EReal) : S2x512.Idx → EReal := fun y => newM (grad p y) (m y)

/-- The second moment. -/
abbrev moment2 (p : S8x2x512.Idx → EReal) (v : S2x512.Idx → EReal) : S2x512.Idx → EReal := fun y => newV (grad p y) (v y)

/-- The call adds its parts. -/
theorem pay (v0 v1 v2 v3 v4 v5 v6 v7 : Vec Ideal S1x2x512 .f32) (i : Fin 2) (j : Fin 512) : k0_pay3 v0 v1 v2 v3 v4 v5 v6 v7 (ix2 i j) = v0 (ix3 0 i j) + v1 (ix3 0 i j) + v2 (ix3 0 i j) + v3 (ix3 0 i j) + v4 (ix3 0 i j) + v5 (ix3 0 i j) + v6 (ix3 0 i j) + v7 (ix3 0 i j) := by
  pointwise [k0_pay3]

theorem sum_eq (x0 : Vec Ideal S8x2x512 .f32) (x1 x2 x3 : Vec Ideal S2x512 .f32) (i : Fin 2) (j : Fin 512) : k0_pay5 x0 x1 x2 x3 (ix2 i j) = total (n := 8) (R := 2) (C := 512) x0 (ix2 i j) :=
  (pay _ _ _ _ _ _ _ _ i j).trans (total_of_parts x0 i j (by decide))

theorem moment_eq (x0 : Vec Ideal S8x2x512 .f32) (x1 x2 x3 : Vec Ideal S2x512 .f32) : k0_pay6 x0 x1 x2 x3 = k0_pay4 (View.ld x0 r0_0) (View.ld x0 r0_1) (View.ld x0 r0_2) (View.ld x0 r0_3) (View.ld x0 r0_4) (View.ld x0 r0_5) (View.ld x0 r0_6) (View.ld x0 r0_7) x2 := by
  unfold k0_pay6
  rw [View.ld_unit_zero (by funext a; fin_cases a <;> rfl)]

theorem out4 (x0 : Vec Ideal S8x2x512 .f32) (x1 x2 x3 : Vec Ideal S2x512 .f32) : Value.G4 (F := Ideal) x0 x1 x2 x3 = grad x0 := by
  funext y
  obtain ⟨i, j, rfl⟩ : ∃ (i : Fin 2) (j : Fin 512), y = ix2 i j := ⟨y 0, y 1, eq_ix2 (n0 := 2) (n1 := 512) y⟩
  unfold grad
  rw [← sum_eq x0 x1 x2 x3]

theorem out5 (x0 : Vec Ideal S8x2x512 .f32) (x1 x2 x3 : Vec Ideal S2x512 .f32) : Value.G5 (F := Ideal) x0 x1 x2 x3 = delta x0 x1 x2 x3 := by
  funext y
  obtain ⟨i, j, rfl⟩ : ∃ (i : Fin 2) (j : Fin 512), y = ix2 i j := ⟨y 0, y 1, eq_ix2 (n0 := 2) (n1 := 512) y⟩
  unfold delta grad
  rw [← sum_eq x0 x1 x2 x3]
  show k0_pay2 _ (k0_pay6 x0 x1 x2 x3) _ _ (ix2 i j) = _
  rw [moment_eq]; rfl

theorem out6 (x0 : Vec Ideal S8x2x512 .f32) (x1 x2 x3 : Vec Ideal S2x512 .f32) : Value.G6 (F := Ideal) x0 x1 x2 x3 = moment1 x0 x2 := by
  funext y
  obtain ⟨i, j, rfl⟩ : ∃ (i : Fin 2) (j : Fin 512), y = ix2 i j := ⟨y 0, y 1, eq_ix2 (n0 := 2) (n1 := 512) y⟩
  unfold moment1 grad
  rw [← sum_eq x0 x1 x2 x3]
  show k0_pay6 x0 x1 x2 x3 (ix2 i j) = _
  rw [moment_eq]; rfl

theorem out7 (x0 : Vec Ideal S8x2x512 .f32) (x1 x2 x3 : Vec Ideal S2x512 .f32) : Value.G7 (F := Ideal) x0 x1 x2 x3 = moment2 x0 x3 := by
  funext y
  obtain ⟨i, j, rfl⟩ : ∃ (i : Fin 2) (j : Fin 512), y = ix2 i j := ⟨y 0, y 1, eq_ix2 (n0 := 2) (n1 := 512) y⟩
  unfold moment2 grad
  rw [← sum_eq x0 x1 x2 x3]
  rfl

open Cert.Reference28Ideal.Read

theorem ref_grad (p : S8x2x512.Idx → EReal) : val_main_v0 (F := Ideal) p = grad p := by
  funext y
  rw [val_main_v0_apply]
  exact total_of_sum (n := 8) (R := 2) (C := 512) p _ y fun k => eq_ix3 (n0 := 8) (n1 := 2) (n2 := 512) _

theorem ref_moment1 (p : S8x2x512.Idx → EReal) (m : S2x512.Idx → EReal) : val_main_v5 (F := Ideal) p m = moment1 p m := by
  unfold moment1; rw [← ref_grad]; rfl

theorem ref_moment2 (p : S8x2x512.Idx → EReal) (v : S2x512.Idx → EReal) : val_main_v11 (F := Ideal) p v = moment2 p v := by
  unfold moment2; rw [← ref_grad]; rfl

theorem ref_delta (p : S8x2x512.Idx → EReal) (w m v : S2x512.Idx → EReal) : val_main_v24 (F := Ideal) p w m v = delta p w m v := by
  funext y
  unfold delta
  rw [step_div, ← ref_grad]; rfl

theorem frame_ideal : Cert.quiescent_Kernel28Ideal := fun m ρ _ => Cert.Kernel28Ideal.Gen.frame m ρ

theorem frame_reference : Cert.quiescent_Reference28Ideal := fun m ρ _ =>
  (θ_run Cert.Reference28Ideal.defs _ _).mono (fun r h => ⟨fun c => (h c).2.2.2.2, sem_eq_zero_of_no_sems (by decide) r.2⟩)
    (Cert.Reference28Ideal.Value.run (F := Ideal) m ρ)

theorem equal : Cert.algebraic_Kernel28Ideal_Reference28Ideal := by
  intro m ρ m' ρ' _ hargs
  refine ⟨fun c => grad (m ((c.tc : Thread nD τ).loc main_arg0)), fun c => delta (m ((c.tc : Thread nD τ).loc main_arg0)) (m ((c.tc : Thread nD τ).loc main_arg1)) (m ((c.tc : Thread nD τ).loc main_arg2)) (m ((c.tc : Thread nD τ).loc main_arg3)), fun c => moment1 (m ((c.tc : Thread nD τ).loc main_arg0)) (m ((c.tc : Thread nD τ).loc main_arg2)), fun c => moment2 (m ((c.tc : Thread nD τ).loc main_arg0)) (m ((c.tc : Thread nD τ).loc main_arg3)), ?_, ?_⟩
  · exact (θ_run Cert.Kernel28Ideal.defs _ _).mono (fun r h c => ⟨(h c).1.trans (out4 _ _ _ _), (h c).2.1.trans (out5 _ _ _ _), (h c).2.2.1.trans (out6 _ _ _ _), (h c).2.2.2.1.trans (out7 _ _ _ _), (h c).2.2.2.2⟩) (Cert.Kernel28Ideal.Value.run m ρ)
  · refine (θ_run Cert.Reference28Ideal.defs _ _).mono (fun r h c => ?_) (Cert.Reference28Ideal.Value.run (F := Ideal) m' ρ')
    obtain ⟨h0, h1, h2, h3⟩ := hargs c
    beta_reduce
    rw [← h0, ← h1, ← h2, ← h3]
    exact ⟨((h c).1.trans (val_main_v0_eq _)).trans (ref_grad _), ((h c).2.1.trans (val_main_v24_eq _ _ _ _)).trans (ref_delta _ _ _ _), ((h c).2.2.1.trans (val_main_v5_eq _ _)).trans (ref_moment1 _ _), ((h c).2.2.2.1.trans (val_main_v11_eq _ _)).trans (ref_moment2 _ _), (h c).2.2.2.2⟩

end Cert.Kernel28Ideal.Adam

end
-- ==== Proof.Adam.SsmDt.lean ====
/-
  AdamW's step on the mixer's per-head parameters: the call's results are the sum of the parts of the gradient and the step from it.
-/
module

public import proofs.«01_k».proof.Proof.Ffn.Base
public import proofs.«01_k».proof.Proof.Adam.Base
public import proofs.«01_k».proof.Proof.Gen.Kernel29Ideal.Value
public import proofs.«01_k».proof.Proof.Gen.Reference29Ideal.Run
public import proofs.«01_k».proof.Proof.Gen.Reference29Ideal.Read

@[expose] public section

set_option maxRecDepth 16384

noncomputable section

namespace Cert.Kernel29Ideal.Adam

open Cert.Kernel29Ideal Cert.Kernel29Ideal.Gen
open Idealize.ShloMosaic.Tactic
open Cert.Adam
open Idealize.ShloMosaic Idealize.ShloMosaic.TcCoe Idealize.SL.Sem Idealize.ShloMosaic.StableHlo
open Idealize.ShloMosaic.Pipeline (Dat)

/-- The sum of the parts of the gradient. -/
abbrev grad (p : S8x2x32.Idx → EReal) : S2x32.Idx → EReal := total (n := 8) (R := 2) (C := 32) p

/-- The change of the weight. -/
abbrev delta (p : S8x2x32.Idx → EReal) (w m v : S2x32.Idx → EReal) : S2x32.Idx → EReal := fun y => step (grad p y) (w y) (m y) (v y)

/-- The first moment. -/
abbrev moment1 (p : S8x2x32.Idx → EReal) (m : S2x32.Idx → EReal) : S2x32.Idx → EReal := fun y => newM (grad p y) (m y)

/-- The second moment. -/
abbrev moment2 (p : S8x2x32.Idx → EReal) (v : S2x32.Idx → EReal) : S2x32.Idx → EReal := fun y => newV (grad p y) (v y)

/-- The call adds its parts. -/
theorem pay (v0 v1 v2 v3 v4 v5 v6 v7 : Vec Ideal S1x2x32 .f32) (i : Fin 2) (j : Fin 32) : k0_pay3 v0 v1 v2 v3 v4 v5 v6 v7 (ix2 i j) = v0 (ix3 0 i j) + v1 (ix3 0 i j) + v2 (ix3 0 i j) + v3 (ix3 0 i j) + v4 (ix3 0 i j) + v5 (ix3 0 i j) + v6 (ix3 0 i j) + v7 (ix3 0 i j) := by
  pointwise [k0_pay3]

theorem sum_eq (x0 : Vec Ideal S8x2x32 .f32) (x1 x2 x3 : Vec Ideal S2x32 .f32) (i : Fin 2) (j : Fin 32) : k0_pay5 x0 x1 x2 x3 (ix2 i j) = total (n := 8) (R := 2) (C := 32) x0 (ix2 i j) :=
  (pay _ _ _ _ _ _ _ _ i j).trans (total_of_parts x0 i j (by decide))

theorem moment_eq (x0 : Vec Ideal S8x2x32 .f32) (x1 x2 x3 : Vec Ideal S2x32 .f32) : k0_pay6 x0 x1 x2 x3 = k0_pay4 (View.ld x0 r0_0) (View.ld x0 r0_1) (View.ld x0 r0_2) (View.ld x0 r0_3) (View.ld x0 r0_4) (View.ld x0 r0_5) (View.ld x0 r0_6) (View.ld x0 r0_7) x2 := by
  unfold k0_pay6
  rw [View.ld_unit_zero (by funext a; fin_cases a <;> rfl)]

theorem out4 (x0 : Vec Ideal S8x2x32 .f32) (x1 x2 x3 : Vec Ideal S2x32 .f32) : Value.G4 (F := Ideal) x0 x1 x2 x3 = grad x0 := by
  funext y
  obtain ⟨i, j, rfl⟩ : ∃ (i : Fin 2) (j : Fin 32), y = ix2 i j := ⟨y 0, y 1, eq_ix2 (n0 := 2) (n1 := 32) y⟩
  unfold grad
  rw [← sum_eq x0 x1 x2 x3]

theorem out5 (x0 : Vec Ideal S8x2x32 .f32) (x1 x2 x3 : Vec Ideal S2x32 .f32) : Value.G5 (F := Ideal) x0 x1 x2 x3 = delta x0 x1 x2 x3 := by
  funext y
  obtain ⟨i, j, rfl⟩ : ∃ (i : Fin 2) (j : Fin 32), y = ix2 i j := ⟨y 0, y 1, eq_ix2 (n0 := 2) (n1 := 32) y⟩
  unfold delta grad
  rw [← sum_eq x0 x1 x2 x3]
  show k0_pay2 _ (k0_pay6 x0 x1 x2 x3) _ _ (ix2 i j) = _
  rw [moment_eq]; rfl

theorem out6 (x0 : Vec Ideal S8x2x32 .f32) (x1 x2 x3 : Vec Ideal S2x32 .f32) : Value.G6 (F := Ideal) x0 x1 x2 x3 = moment1 x0 x2 := by
  funext y
  obtain ⟨i, j, rfl⟩ : ∃ (i : Fin 2) (j : Fin 32), y = ix2 i j := ⟨y 0, y 1, eq_ix2 (n0 := 2) (n1 := 32) y⟩
  unfold moment1 grad
  rw [← sum_eq x0 x1 x2 x3]
  show k0_pay6 x0 x1 x2 x3 (ix2 i j) = _
  rw [moment_eq]; rfl

theorem out7 (x0 : Vec Ideal S8x2x32 .f32) (x1 x2 x3 : Vec Ideal S2x32 .f32) : Value.G7 (F := Ideal) x0 x1 x2 x3 = moment2 x0 x3 := by
  funext y
  obtain ⟨i, j, rfl⟩ : ∃ (i : Fin 2) (j : Fin 32), y = ix2 i j := ⟨y 0, y 1, eq_ix2 (n0 := 2) (n1 := 32) y⟩
  unfold moment2 grad
  rw [← sum_eq x0 x1 x2 x3]
  rfl

open Cert.Reference29Ideal.Read

theorem ref_grad (p : S8x2x32.Idx → EReal) : val_main_v0 (F := Ideal) p = grad p := by
  funext y
  rw [val_main_v0_apply]
  exact total_of_sum (n := 8) (R := 2) (C := 32) p _ y fun k => eq_ix3 (n0 := 8) (n1 := 2) (n2 := 32) _

theorem ref_moment1 (p : S8x2x32.Idx → EReal) (m : S2x32.Idx → EReal) : val_main_v5 (F := Ideal) p m = moment1 p m := by
  unfold moment1; rw [← ref_grad]; rfl

theorem ref_moment2 (p : S8x2x32.Idx → EReal) (v : S2x32.Idx → EReal) : val_main_v11 (F := Ideal) p v = moment2 p v := by
  unfold moment2; rw [← ref_grad]; rfl

theorem ref_delta (p : S8x2x32.Idx → EReal) (w m v : S2x32.Idx → EReal) : val_main_v24 (F := Ideal) p w m v = delta p w m v := by
  funext y
  unfold delta
  rw [step_div, ← ref_grad]; rfl

theorem frame_ideal : Cert.quiescent_Kernel29Ideal := fun m ρ _ => Cert.Kernel29Ideal.Gen.frame m ρ

theorem frame_reference : Cert.quiescent_Reference29Ideal := fun m ρ _ =>
  (θ_run Cert.Reference29Ideal.defs _ _).mono (fun r h => ⟨fun c => (h c).2.2.2.2, sem_eq_zero_of_no_sems (by decide) r.2⟩)
    (Cert.Reference29Ideal.Value.run (F := Ideal) m ρ)

theorem equal : Cert.algebraic_Kernel29Ideal_Reference29Ideal := by
  intro m ρ m' ρ' _ hargs
  refine ⟨fun c => grad (m ((c.tc : Thread nD τ).loc main_arg0)), fun c => delta (m ((c.tc : Thread nD τ).loc main_arg0)) (m ((c.tc : Thread nD τ).loc main_arg1)) (m ((c.tc : Thread nD τ).loc main_arg2)) (m ((c.tc : Thread nD τ).loc main_arg3)), fun c => moment1 (m ((c.tc : Thread nD τ).loc main_arg0)) (m ((c.tc : Thread nD τ).loc main_arg2)), fun c => moment2 (m ((c.tc : Thread nD τ).loc main_arg0)) (m ((c.tc : Thread nD τ).loc main_arg3)), ?_, ?_⟩
  · exact (θ_run Cert.Kernel29Ideal.defs _ _).mono (fun r h c => ⟨(h c).1.trans (out4 _ _ _ _), (h c).2.1.trans (out5 _ _ _ _), (h c).2.2.1.trans (out6 _ _ _ _), (h c).2.2.2.1.trans (out7 _ _ _ _), (h c).2.2.2.2⟩) (Cert.Kernel29Ideal.Value.run m ρ)
  · refine (θ_run Cert.Reference29Ideal.defs _ _).mono (fun r h c => ?_) (Cert.Reference29Ideal.Value.run (F := Ideal) m' ρ')
    obtain ⟨h0, h1, h2, h3⟩ := hargs c
    beta_reduce
    rw [← h0, ← h1, ← h2, ← h3]
    exact ⟨((h c).1.trans (val_main_v0_eq _)).trans (ref_grad _), ((h c).2.1.trans (val_main_v24_eq _ _ _ _)).trans (ref_delta _ _ _ _), ((h c).2.2.1.trans (val_main_v5_eq _ _)).trans (ref_moment1 _ _), ((h c).2.2.2.1.trans (val_main_v11_eq _ _)).trans (ref_moment2 _ _), (h c).2.2.2.2⟩

end Cert.Kernel29Ideal.Adam

end
-- ==== Proof.Adam.SsmNorm.lean ====
/-
  AdamW's step on the scale of the mixer's gated norm: the call's results are the sum of the parts of the gradient and the step from it.
-/
module

public import proofs.«01_k».proof.Proof.Ffn.Base
public import proofs.«01_k».proof.Proof.Adam.Base
public import proofs.«01_k».proof.Proof.Gen.Kernel30Ideal.Value
public import proofs.«01_k».proof.Proof.Gen.Reference30Ideal.Run
public import proofs.«01_k».proof.Proof.Gen.Reference30Ideal.Read

@[expose] public section

set_option maxRecDepth 16384

noncomputable section

namespace Cert.Kernel30Ideal.Adam

open Cert.Kernel30Ideal Cert.Kernel30Ideal.Gen
open Idealize.ShloMosaic.Tactic
open Cert.Adam
open Idealize.ShloMosaic Idealize.ShloMosaic.TcCoe Idealize.SL.Sem Idealize.ShloMosaic.StableHlo
open Idealize.ShloMosaic.Pipeline (Dat)

/-- The sum of the parts of the gradient. -/
abbrev grad (p : S8x2x256.Idx → EReal) : S2x256.Idx → EReal := total (n := 8) (R := 2) (C := 256) p

/-- The change of the weight. -/
abbrev delta (p : S8x2x256.Idx → EReal) (w m v : S2x256.Idx → EReal) : S2x256.Idx → EReal := fun y => step (grad p y) (w y) (m y) (v y)

/-- The first moment. -/
abbrev moment1 (p : S8x2x256.Idx → EReal) (m : S2x256.Idx → EReal) : S2x256.Idx → EReal := fun y => newM (grad p y) (m y)

/-- The second moment. -/
abbrev moment2 (p : S8x2x256.Idx → EReal) (v : S2x256.Idx → EReal) : S2x256.Idx → EReal := fun y => newV (grad p y) (v y)

/-- The call adds its parts. -/
theorem pay (v0 v1 v2 v3 v4 v5 v6 v7 : Vec Ideal S1x2x256 .f32) (i : Fin 2) (j : Fin 256) : k0_pay3 v0 v1 v2 v3 v4 v5 v6 v7 (ix2 i j) = v0 (ix3 0 i j) + v1 (ix3 0 i j) + v2 (ix3 0 i j) + v3 (ix3 0 i j) + v4 (ix3 0 i j) + v5 (ix3 0 i j) + v6 (ix3 0 i j) + v7 (ix3 0 i j) := by
  pointwise [k0_pay3]

theorem sum_eq (x0 : Vec Ideal S8x2x256 .f32) (x1 x2 x3 : Vec Ideal S2x256 .f32) (i : Fin 2) (j : Fin 256) : k0_pay5 x0 x1 x2 x3 (ix2 i j) = total (n := 8) (R := 2) (C := 256) x0 (ix2 i j) :=
  (pay _ _ _ _ _ _ _ _ i j).trans (total_of_parts x0 i j (by decide))

theorem moment_eq (x0 : Vec Ideal S8x2x256 .f32) (x1 x2 x3 : Vec Ideal S2x256 .f32) : k0_pay6 x0 x1 x2 x3 = k0_pay4 (View.ld x0 r0_0) (View.ld x0 r0_1) (View.ld x0 r0_2) (View.ld x0 r0_3) (View.ld x0 r0_4) (View.ld x0 r0_5) (View.ld x0 r0_6) (View.ld x0 r0_7) x2 := by
  unfold k0_pay6
  rw [View.ld_unit_zero (by funext a; fin_cases a <;> rfl)]

theorem out4 (x0 : Vec Ideal S8x2x256 .f32) (x1 x2 x3 : Vec Ideal S2x256 .f32) : Value.G4 (F := Ideal) x0 x1 x2 x3 = grad x0 := by
  funext y
  obtain ⟨i, j, rfl⟩ : ∃ (i : Fin 2) (j : Fin 256), y = ix2 i j := ⟨y 0, y 1, eq_ix2 (n0 := 2) (n1 := 256) y⟩
  unfold grad
  rw [← sum_eq x0 x1 x2 x3]

theorem out5 (x0 : Vec Ideal S8x2x256 .f32) (x1 x2 x3 : Vec Ideal S2x256 .f32) : Value.G5 (F := Ideal) x0 x1 x2 x3 = delta x0 x1 x2 x3 := by
  funext y
  obtain ⟨i, j, rfl⟩ : ∃ (i : Fin 2) (j : Fin 256), y = ix2 i j := ⟨y 0, y 1, eq_ix2 (n0 := 2) (n1 := 256) y⟩
  unfold delta grad
  rw [← sum_eq x0 x1 x2 x3]
  show k0_pay2 _ (k0_pay6 x0 x1 x2 x3) _ _ (ix2 i j) = _
  rw [moment_eq]; rfl

theorem out6 (x0 : Vec Ideal S8x2x256 .f32) (x1 x2 x3 : Vec Ideal S2x256 .f32) : Value.G6 (F := Ideal) x0 x1 x2 x3 = moment1 x0 x2 := by
  funext y
  obtain ⟨i, j, rfl⟩ : ∃ (i : Fin 2) (j : Fin 256), y = ix2 i j := ⟨y 0, y 1, eq_ix2 (n0 := 2) (n1 := 256) y⟩
  unfold moment1 grad
  rw [← sum_eq x0 x1 x2 x3]
  show k0_pay6 x0 x1 x2 x3 (ix2 i j) = _
  rw [moment_eq]; rfl

theorem out7 (x0 : Vec Ideal S8x2x256 .f32) (x1 x2 x3 : Vec Ideal S2x256 .f32) : Value.G7 (F := Ideal) x0 x1 x2 x3 = moment2 x0 x3 := by
  funext y
  obtain ⟨i, j, rfl⟩ : ∃ (i : Fin 2) (j : Fin 256), y = ix2 i j := ⟨y 0, y 1, eq_ix2 (n0 := 2) (n1 := 256) y⟩
  unfold moment2 grad
  rw [← sum_eq x0 x1 x2 x3]
  rfl

open Cert.Reference30Ideal.Read

theorem ref_grad (p : S8x2x256.Idx → EReal) : val_main_v0 (F := Ideal) p = grad p := by
  funext y
  rw [val_main_v0_apply]
  exact total_of_sum (n := 8) (R := 2) (C := 256) p _ y fun k => eq_ix3 (n0 := 8) (n1 := 2) (n2 := 256) _

theorem ref_moment1 (p : S8x2x256.Idx → EReal) (m : S2x256.Idx → EReal) : val_main_v5 (F := Ideal) p m = moment1 p m := by
  unfold moment1; rw [← ref_grad]; rfl

theorem ref_moment2 (p : S8x2x256.Idx → EReal) (v : S2x256.Idx → EReal) : val_main_v11 (F := Ideal) p v = moment2 p v := by
  unfold moment2; rw [← ref_grad]; rfl

theorem ref_delta (p : S8x2x256.Idx → EReal) (w m v : S2x256.Idx → EReal) : val_main_v24 (F := Ideal) p w m v = delta p w m v := by
  funext y
  unfold delta
  rw [step_div, ← ref_grad]; rfl

theorem frame_ideal : Cert.quiescent_Kernel30Ideal := fun m ρ _ => Cert.Kernel30Ideal.Gen.frame m ρ

theorem frame_reference : Cert.quiescent_Reference30Ideal := fun m ρ _ =>
  (θ_run Cert.Reference30Ideal.defs _ _).mono (fun r h => ⟨fun c => (h c).2.2.2.2, sem_eq_zero_of_no_sems (by decide) r.2⟩)
    (Cert.Reference30Ideal.Value.run (F := Ideal) m ρ)

theorem equal : Cert.algebraic_Kernel30Ideal_Reference30Ideal := by
  intro m ρ m' ρ' _ hargs
  refine ⟨fun c => grad (m ((c.tc : Thread nD τ).loc main_arg0)), fun c => delta (m ((c.tc : Thread nD τ).loc main_arg0)) (m ((c.tc : Thread nD τ).loc main_arg1)) (m ((c.tc : Thread nD τ).loc main_arg2)) (m ((c.tc : Thread nD τ).loc main_arg3)), fun c => moment1 (m ((c.tc : Thread nD τ).loc main_arg0)) (m ((c.tc : Thread nD τ).loc main_arg2)), fun c => moment2 (m ((c.tc : Thread nD τ).loc main_arg0)) (m ((c.tc : Thread nD τ).loc main_arg3)), ?_, ?_⟩
  · exact (θ_run Cert.Kernel30Ideal.defs _ _).mono (fun r h c => ⟨(h c).1.trans (out4 _ _ _ _), (h c).2.1.trans (out5 _ _ _ _), (h c).2.2.1.trans (out6 _ _ _ _), (h c).2.2.2.1.trans (out7 _ _ _ _), (h c).2.2.2.2⟩) (Cert.Kernel30Ideal.Value.run m ρ)
  · refine (θ_run Cert.Reference30Ideal.defs _ _).mono (fun r h c => ?_) (Cert.Reference30Ideal.Value.run (F := Ideal) m' ρ')
    obtain ⟨h0, h1, h2, h3⟩ := hargs c
    beta_reduce
    rw [← h0, ← h1, ← h2, ← h3]
    exact ⟨((h c).1.trans (val_main_v0_eq _)).trans (ref_grad _), ((h c).2.1.trans (val_main_v24_eq _ _ _ _)).trans (ref_delta _ _ _ _), ((h c).2.2.1.trans (val_main_v5_eq _ _)).trans (ref_moment1 _ _), ((h c).2.2.2.1.trans (val_main_v11_eq _ _)).trans (ref_moment2 _ _), (h c).2.2.2.2⟩

end Cert.Kernel30Ideal.Adam

end
-- ==== Proof.Adam.KvNorm.lean ====
/-
  AdamW's step on the scale of the norm before the shared keys and values, and of the last norm: the call's results are the sum of the parts of the gradient and the step from it.
-/
module

public import proofs.«01_k».proof.Proof.Ffn.Base
public import proofs.«01_k».proof.Proof.Adam.Base
public import proofs.«01_k».proof.Proof.Gen.Kernel31Ideal.Value
public import proofs.«01_k».proof.Proof.Gen.Reference31Ideal.Run
public import proofs.«01_k».proof.Proof.Gen.Reference31Ideal.Read

@[expose] public section

set_option maxRecDepth 16384

noncomputable section

namespace Cert.Kernel31Ideal.Adam

open Cert.Kernel31Ideal Cert.Kernel31Ideal.Gen
open Idealize.ShloMosaic.Tactic
open Cert.Adam
open Idealize.ShloMosaic Idealize.ShloMosaic.TcCoe Idealize.SL.Sem Idealize.ShloMosaic.StableHlo
open Idealize.ShloMosaic.Pipeline (Dat)

/-- The sum of the parts of the gradient. -/
abbrev grad (p : S8x1x1024.Idx → EReal) : S1x1024.Idx → EReal := total (n := 8) (R := 1) (C := 1024) p

/-- The change of the weight. -/
abbrev delta (p : S8x1x1024.Idx → EReal) (w m v : S1x1024.Idx → EReal) : S1x1024.Idx → EReal := fun y => step (grad p y) (w y) (m y) (v y)

/-- The first moment. -/
abbrev moment1 (p : S8x1x1024.Idx → EReal) (m : S1x1024.Idx → EReal) : S1x1024.Idx → EReal := fun y => newM (grad p y) (m y)

/-- The second moment. -/
abbrev moment2 (p : S8x1x1024.Idx → EReal) (v : S1x1024.Idx → EReal) : S1x1024.Idx → EReal := fun y => newV (grad p y) (v y)

/-- The call adds its parts. -/
theorem pay (v0 v1 v2 v3 v4 v5 v6 v7 : Vec Ideal S1x1x1024 .f32) (i : Fin 1) (j : Fin 1024) : k0_pay3 v0 v1 v2 v3 v4 v5 v6 v7 (ix2 i j) = v0 (ix3 0 i j) + v1 (ix3 0 i j) + v2 (ix3 0 i j) + v3 (ix3 0 i j) + v4 (ix3 0 i j) + v5 (ix3 0 i j) + v6 (ix3 0 i j) + v7 (ix3 0 i j) := by
  obtain rfl : i = 0 := Subsingleton.elim _ _
  pointwise [k0_pay3]

theorem sum_eq (x0 : Vec Ideal S8x1x1024 .f32) (x1 x2 x3 : Vec Ideal S1x1024 .f32) (i : Fin 1) (j : Fin 1024) : k0_pay5 x0 x1 x2 x3 (ix2 i j) = total (n := 8) (R := 1) (C := 1024) x0 (ix2 i j) :=
  (pay _ _ _ _ _ _ _ _ i j).trans (total_of_parts x0 i j (by decide))

theorem moment_eq (x0 : Vec Ideal S8x1x1024 .f32) (x1 x2 x3 : Vec Ideal S1x1024 .f32) : k0_pay6 x0 x1 x2 x3 = k0_pay4 (View.ld x0 r0_0) (View.ld x0 r0_1) (View.ld x0 r0_2) (View.ld x0 r0_3) (View.ld x0 r0_4) (View.ld x0 r0_5) (View.ld x0 r0_6) (View.ld x0 r0_7) x2 := by
  unfold k0_pay6
  rw [View.ld_unit_zero (by funext a; fin_cases a <;> rfl)]

theorem out4 (x0 : Vec Ideal S8x1x1024 .f32) (x1 x2 x3 : Vec Ideal S1x1024 .f32) : Value.G4 (F := Ideal) x0 x1 x2 x3 = grad x0 := by
  funext y
  obtain ⟨i, j, rfl⟩ : ∃ (i : Fin 1) (j : Fin 1024), y = ix2 i j := ⟨y 0, y 1, eq_ix2 (n0 := 1) (n1 := 1024) y⟩
  unfold grad
  rw [← sum_eq x0 x1 x2 x3]

theorem out5 (x0 : Vec Ideal S8x1x1024 .f32) (x1 x2 x3 : Vec Ideal S1x1024 .f32) : Value.G5 (F := Ideal) x0 x1 x2 x3 = delta x0 x1 x2 x3 := by
  funext y
  obtain ⟨i, j, rfl⟩ : ∃ (i : Fin 1) (j : Fin 1024), y = ix2 i j := ⟨y 0, y 1, eq_ix2 (n0 := 1) (n1 := 1024) y⟩
  unfold delta grad
  rw [← sum_eq x0 x1 x2 x3]
  show k0_pay2 _ (k0_pay6 x0 x1 x2 x3) _ _ (ix2 i j) = _
  rw [moment_eq]; rfl

theorem out6 (x0 : Vec Ideal S8x1x1024 .f32) (x1 x2 x3 : Vec Ideal S1x1024 .f32) : Value.G6 (F := Ideal) x0 x1 x2 x3 = moment1 x0 x2 := by
  funext y
  obtain ⟨i, j, rfl⟩ : ∃ (i : Fin 1) (j : Fin 1024), y = ix2 i j := ⟨y 0, y 1, eq_ix2 (n0 := 1) (n1 := 1024) y⟩
  unfold moment1 grad
  rw [← sum_eq x0 x1 x2 x3]
  show k0_pay6 x0 x1 x2 x3 (ix2 i j) = _
  rw [moment_eq]; rfl

theorem out7 (x0 : Vec Ideal S8x1x1024 .f32) (x1 x2 x3 : Vec Ideal S1x1024 .f32) : Value.G7 (F := Ideal) x0 x1 x2 x3 = moment2 x0 x3 := by
  funext y
  obtain ⟨i, j, rfl⟩ : ∃ (i : Fin 1) (j : Fin 1024), y = ix2 i j := ⟨y 0, y 1, eq_ix2 (n0 := 1) (n1 := 1024) y⟩
  unfold moment2 grad
  rw [← sum_eq x0 x1 x2 x3]
  rfl

open Cert.Reference31Ideal.Read

theorem ref_grad (p : S8x1x1024.Idx → EReal) : val_main_v0 (F := Ideal) p = grad p := by
  funext y
  rw [val_main_v0_apply]
  exact total_of_sum (n := 8) (R := 1) (C := 1024) p _ y fun k => eq_ix3 (n0 := 8) (n1 := 1) (n2 := 1024) _

theorem ref_moment1 (p : S8x1x1024.Idx → EReal) (m : S1x1024.Idx → EReal) : val_main_v5 (F := Ideal) p m = moment1 p m := by
  unfold moment1; rw [← ref_grad]; rfl

theorem ref_moment2 (p : S8x1x1024.Idx → EReal) (v : S1x1024.Idx → EReal) : val_main_v11 (F := Ideal) p v = moment2 p v := by
  unfold moment2; rw [← ref_grad]; rfl

theorem ref_delta (p : S8x1x1024.Idx → EReal) (w m v : S1x1024.Idx → EReal) : val_main_v24 (F := Ideal) p w m v = delta p w m v := by
  funext y
  unfold delta
  rw [step_div, ← ref_grad]; rfl

theorem frame_ideal : Cert.quiescent_Kernel31Ideal := fun m ρ _ => Cert.Kernel31Ideal.Gen.frame m ρ

theorem frame_reference : Cert.quiescent_Reference31Ideal := fun m ρ _ =>
  (θ_run Cert.Reference31Ideal.defs _ _).mono (fun r h => ⟨fun c => (h c).2.2.2.2, sem_eq_zero_of_no_sems (by decide) r.2⟩)
    (Cert.Reference31Ideal.Value.run (F := Ideal) m ρ)

theorem equal : Cert.algebraic_Kernel31Ideal_Reference31Ideal := by
  intro m ρ m' ρ' _ hargs
  refine ⟨fun c => grad (m ((c.tc : Thread nD τ).loc main_arg0)), fun c => delta (m ((c.tc : Thread nD τ).loc main_arg0)) (m ((c.tc : Thread nD τ).loc main_arg1)) (m ((c.tc : Thread nD τ).loc main_arg2)) (m ((c.tc : Thread nD τ).loc main_arg3)), fun c => moment1 (m ((c.tc : Thread nD τ).loc main_arg0)) (m ((c.tc : Thread nD τ).loc main_arg2)), fun c => moment2 (m ((c.tc : Thread nD τ).loc main_arg0)) (m ((c.tc : Thread nD τ).loc main_arg3)), ?_, ?_⟩
  · exact (θ_run Cert.Kernel31Ideal.defs _ _).mono (fun r h c => ⟨(h c).1.trans (out4 _ _ _ _), (h c).2.1.trans (out5 _ _ _ _), (h c).2.2.1.trans (out6 _ _ _ _), (h c).2.2.2.1.trans (out7 _ _ _ _), (h c).2.2.2.2⟩) (Cert.Kernel31Ideal.Value.run m ρ)
  · refine (θ_run Cert.Reference31Ideal.defs _ _).mono (fun r h c => ?_) (Cert.Reference31Ideal.Value.run (F := Ideal) m' ρ')
    obtain ⟨h0, h1, h2, h3⟩ := hargs c
    beta_reduce
    rw [← h0, ← h1, ← h2, ← h3]
    exact ⟨((h c).1.trans (val_main_v0_eq _)).trans (ref_grad _), ((h c).2.1.trans (val_main_v24_eq _ _ _ _)).trans (ref_delta _ _ _ _), ((h c).2.2.1.trans (val_main_v5_eq _ _)).trans (ref_moment1 _ _), ((h c).2.2.2.1.trans (val_main_v11_eq _ _)).trans (ref_moment2 _ _), (h c).2.2.2.2⟩

end Cert.Kernel31Ideal.Adam

end
-- ==== Proof.Adam.KvMod.lean ====
/-
  AdamW's step on the weight of the modulation before the shared keys and values: the call's results are the sum of the parts of the gradient and the step from it.
-/
module

public import proofs.«01_k».proof.Proof.Ffn.Base
public import proofs.«01_k».proof.Proof.Adam.Base
public import proofs.«01_k».proof.Proof.Gen.Kernel32Ideal.Value
public import proofs.«01_k».proof.Proof.Gen.Reference32Ideal.Run
public import proofs.«01_k».proof.Proof.Gen.Reference32Ideal.Read

@[expose] public section

set_option maxRecDepth 16384

noncomputable section

namespace Cert.Kernel32Ideal.Adam

open Cert.Kernel32Ideal Cert.Kernel32Ideal.Gen
open Idealize.ShloMosaic.Tactic
open Cert.Adam
open Idealize.ShloMosaic Idealize.ShloMosaic.TcCoe Idealize.SL.Sem Idealize.ShloMosaic.StableHlo
open Idealize.ShloMosaic.Pipeline (Dat)

/-- The sum of the parts of the gradient. -/
abbrev grad (p : S1x1024x256.Idx → EReal) : S1024x256.Idx → EReal := total (n := 1) (R := 1024) (C := 256) p

/-- The change of the weight. -/
abbrev delta (p : S1x1024x256.Idx → EReal) (w m v : S1024x256.Idx → EReal) : S1024x256.Idx → EReal := fun y => step (grad p y) (w y) (m y) (v y)

/-- The first moment. -/
abbrev moment1 (p : S1x1024x256.Idx → EReal) (m : S1024x256.Idx → EReal) : S1024x256.Idx → EReal := fun y => newM (grad p y) (m y)

/-- The second moment. -/
abbrev moment2 (p : S1x1024x256.Idx → EReal) (v : S1024x256.Idx → EReal) : S1024x256.Idx → EReal := fun y => newV (grad p y) (v y)

/-- The call adds its parts. -/
theorem pay (v0 : Vec Ideal S1x512x256 .f32) (i : Fin 512) (j : Fin 256) : k0_pay1 v0 (ix2 i j) = v0 (ix3 0 i j) := by
  pointwise [k0_pay1]

theorem sum_eq (x0 : Vec Ideal S1x512x256 .f32) (x1 x2 x3 : Vec Ideal S512x256 .f32) (i : Fin 512) (j : Fin 256) : k0_pay1 x0 (ix2 i j) = total (n := 1) (R := 512) (C := 256) x0 (ix2 i j) :=
  (pay x0 i j).trans (by rw [total, Fin.sum_univ_one]; rfl)

theorem out4 (x0 : Vec Ideal S1x512x256 .f32) (x1 x2 x3 : Vec Ideal S512x256 .f32) (i : Fin 512) (j : Fin 256) : out0_4 x0 x1 x2 x3 (ix2 i j) = total (n := 1) (R := 512) (C := 256) x0 (ix2 i j) := by
  unfold out0_4
  frame_out
  rw [← sum_eq x0 x1 x2 x3]

theorem out5 (x0 : Vec Ideal S1x512x256 .f32) (x1 x2 x3 : Vec Ideal S512x256 .f32) (i : Fin 512) (j : Fin 256) : out0_5 x0 x1 x2 x3 (ix2 i j) = step (total (n := 1) (R := 512) (C := 256) x0 (ix2 i j)) (x1 (ix2 i j)) (x2 (ix2 i j)) (x3 (ix2 i j)) := by
  unfold out0_5
  frame_out
  rw [← sum_eq x0 x1 x2 x3]
  rfl

theorem out6 (x0 : Vec Ideal S1x512x256 .f32) (x1 x2 x3 : Vec Ideal S512x256 .f32) (i : Fin 512) (j : Fin 256) : out0_6 x0 x1 x2 x3 (ix2 i j) = newM (total (n := 1) (R := 512) (C := 256) x0 (ix2 i j)) (x2 (ix2 i j)) := by
  unfold out0_6
  frame_out
  rw [← sum_eq x0 x1 x2 x3]
  rfl

theorem out7 (x0 : Vec Ideal S1x512x256 .f32) (x1 x2 x3 : Vec Ideal S512x256 .f32) (i : Fin 512) (j : Fin 256) : out0_7 x0 x1 x2 x3 (ix2 i j) = newV (total (n := 1) (R := 512) (C := 256) x0 (ix2 i j)) (x3 (ix2 i j)) := by
  unfold out0_7
  frame_out
  rw [← sum_eq x0 x1 x2 x3]
  rfl

variable (m : (ℓ : Loc nD τ sig) → Buf (Elt Ideal) ℓ) (ρ : Dev nD → PrngReg) (c : Dev nD)

theorem index0 : ∀ t : Fin cfg0.N, win0_0.index t = ![0, t.val, 0] := (by decide +kernel : ∀ t : Fin grid0.N, win0_0.index t = ![0, t.val, 0])
theorem index1 : ∀ t : Fin cfg0.N, win0_1.index t = ![t.val, 0] := (by decide +kernel : ∀ t : Fin grid0.N, win0_1.index t = ![t.val, 0])
theorem index2 : ∀ t : Fin cfg0.N, win0_2.index t = ![t.val, 0] := (by decide +kernel : ∀ t : Fin grid0.N, win0_2.index t = ![t.val, 0])
theorem index3 : ∀ t : Fin cfg0.N, win0_3.index t = ![t.val, 0] := (by decide +kernel : ∀ t : Fin grid0.N, win0_3.index t = ![t.val, 0])
theorem index4 : ∀ t : Fin cfg0.N, win0_4.index t = ![t.val, 0] := (by decide +kernel : ∀ t : Fin grid0.N, win0_4.index t = ![t.val, 0])
theorem index5 : ∀ t : Fin cfg0.N, win0_5.index t = ![t.val, 0] := (by decide +kernel : ∀ t : Fin grid0.N, win0_5.index t = ![t.val, 0])
theorem index6 : ∀ t : Fin cfg0.N, win0_6.index t = ![t.val, 0] := (by decide +kernel : ∀ t : Fin grid0.N, win0_6.index t = ![t.val, 0])
theorem index7 : ∀ t : Fin cfg0.N, win0_7.index t = ![t.val, 0] := (by decide +kernel : ∀ t : Fin grid0.N, win0_7.index t = ![t.val, 0])

theorem total4 (t : Fin cfg0.N) (i : Fin 512) (j : Fin 256) : total (n := 1) (R := 512) (C := 256) (iblk m c 0 t) (ix2 i j) = grad (m ((c : Thread nD τ).loc main_arg0)) (((View.whole main_v0_0).slice (win0_4.rect t)).emb (ix2 i j)) := by
  refine Finset.sum_congr rfl fun k _ => ?_
  blk_simp [iblk]
  rw [V_main_arg0]; refine congrArg _ ?_
  blk_ext [index0, index4]

theorem total5 (t : Fin cfg0.N) (i : Fin 512) (j : Fin 256) : total (n := 1) (R := 512) (C := 256) (iblk m c 0 t) (ix2 i j) = grad (m ((c : Thread nD τ).loc main_arg0)) (((View.whole main_v0_1).slice (win0_5.rect t)).emb (ix2 i j)) := by
  refine Finset.sum_congr rfl fun k _ => ?_
  blk_simp [iblk]
  rw [V_main_arg0]; refine congrArg _ ?_
  blk_ext [index0, index5]

theorem arg1_5 (t : Fin cfg0.N) (i : Fin 512) (j : Fin 256) : (iblk m c 1 t (ix2 i j) : EReal) = (m ((c : Thread nD τ).loc main_arg1) : S1024x256.Idx → EReal) (((View.whole main_v0_1).slice (win0_5.rect t)).emb (ix2 i j)) := by
  blk_simp [iblk]
  rw [V_main_arg1]; refine congrArg _ ?_
  blk_ext [index1, index5]

theorem arg2_5 (t : Fin cfg0.N) (i : Fin 512) (j : Fin 256) : (iblk m c 2 t (ix2 i j) : EReal) = (m ((c : Thread nD τ).loc main_arg2) : S1024x256.Idx → EReal) (((View.whole main_v0_1).slice (win0_5.rect t)).emb (ix2 i j)) := by
  blk_simp [iblk]
  rw [V_main_arg2]; refine congrArg _ ?_
  blk_ext [index2, index5]

theorem arg3_5 (t : Fin cfg0.N) (i : Fin 512) (j : Fin 256) : (iblk m c 3 t (ix2 i j) : EReal) = (m ((c : Thread nD τ).loc main_arg3) : S1024x256.Idx → EReal) (((View.whole main_v0_1).slice (win0_5.rect t)).emb (ix2 i j)) := by
  blk_simp [iblk]
  rw [V_main_arg3]; refine congrArg _ ?_
  blk_ext [index3, index5]

theorem total6 (t : Fin cfg0.N) (i : Fin 512) (j : Fin 256) : total (n := 1) (R := 512) (C := 256) (iblk m c 0 t) (ix2 i j) = grad (m ((c : Thread nD τ).loc main_arg0)) (((View.whole main_v0_2).slice (win0_6.rect t)).emb (ix2 i j)) := by
  refine Finset.sum_congr rfl fun k _ => ?_
  blk_simp [iblk]
  rw [V_main_arg0]; refine congrArg _ ?_
  blk_ext [index0, index6]

theorem arg2_6 (t : Fin cfg0.N) (i : Fin 512) (j : Fin 256) : (iblk m c 2 t (ix2 i j) : EReal) = (m ((c : Thread nD τ).loc main_arg2) : S1024x256.Idx → EReal) (((View.whole main_v0_2).slice (win0_6.rect t)).emb (ix2 i j)) := by
  blk_simp [iblk]
  rw [V_main_arg2]; refine congrArg _ ?_
  blk_ext [index2, index6]

theorem total7 (t : Fin cfg0.N) (i : Fin 512) (j : Fin 256) : total (n := 1) (R := 512) (C := 256) (iblk m c 0 t) (ix2 i j) = grad (m ((c : Thread nD τ).loc main_arg0)) (((View.whole main_v0_3).slice (win0_7.rect t)).emb (ix2 i j)) := by
  refine Finset.sum_congr rfl fun k _ => ?_
  blk_simp [iblk]
  rw [V_main_arg0]; refine congrArg _ ?_
  blk_ext [index0, index7]

theorem arg3_7 (t : Fin cfg0.N) (i : Fin 512) (j : Fin 256) : (iblk m c 3 t (ix2 i j) : EReal) = (m ((c : Thread nD τ).loc main_arg3) : S1024x256.Idx → EReal) (((View.whole main_v0_3).slice (win0_7.rect t)).emb (ix2 i j)) := by
  blk_simp [iblk]
  rw [V_main_arg3]; refine congrArg _ ?_
  blk_ext [index3, index7]

theorem final4 : (dats m 0 c).arrAt 4 cfg0.N = grad (m ((c : Thread nD τ).loc main_arg0)) := by
  refine (dats m 0 c).arrAt_eq_of_covers 4 _ (by decide +kernel) fun t hf y => ?_
  blk_simp
  rw [after0_4]
  obtain ⟨i, j, rfl⟩ : ∃ (i : Fin 512) (j : Fin 256), y = ix2 i j := ⟨y 0, y 1, eq_ix2 (n0 := 512) (n1 := 256) y⟩
  exact (out4 _ _ _ _ i j).trans (total4 m c t i j)

theorem final5 : (dats m 0 c).arrAt 5 cfg0.N = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  obtain ⟨i, j, rfl⟩ : ∃ (i : Fin 512) (j : Fin 256), y = ix2 i j := ⟨y 0, y 1, eq_ix2 (n0 := 512) (n1 := 256) y⟩
  exact (out5 _ _ _ _ i j).trans (by rw [total5, arg1_5, arg2_5, arg3_5])

theorem final6 : (dats m 0 c).arrAt 6 cfg0.N = moment1 (m ((c : Thread nD τ).loc main_arg0)) (m ((c : Thread nD τ).loc main_arg2)) := by
  refine (dats m 0 c).arrAt_eq_of_covers 6 _ (by decide +kernel) fun t hf y => ?_
  blk_simp
  rw [after0_6]
  obtain ⟨i, j, rfl⟩ : ∃ (i : Fin 512) (j : Fin 256), y = ix2 i j := ⟨y 0, y 1, eq_ix2 (n0 := 512) (n1 := 256) y⟩
  exact (out6 _ _ _ _ i j).trans (congrArg₂ newM (total6 m c t i j) (arg2_6 m c t i j))

theorem final7 : (dats m 0 c).arrAt 7 cfg0.N = moment2 (m ((c : Thread nD τ).loc main_arg0)) (m ((c : Thread nD τ).loc main_arg3)) := by
  refine (dats m 0 c).arrAt_eq_of_covers 7 _ (by decide +kernel) fun t hf y => ?_
  blk_simp
  rw [after0_7]
  obtain ⟨i, j, rfl⟩ : ∃ (i : Fin 512) (j : Fin 256), y = ix2 i j := ⟨y 0, y 1, eq_ix2 (n0 := 512) (n1 := 256) y⟩
  exact (out7 _ _ _ _ i j).trans (congrArg₂ newV (total7 m c t i j) (arg3_7 m c t i j))

open Cert.Reference32Ideal.Read

theorem ref_grad (p : S1x1024x256.Idx → EReal) : val_main_v0 (F := Ideal) p = grad p := by
  funext y
  rw [val_main_v0_apply]
  exact total_of_sum (n := 1) (R := 1024) (C := 256) p _ y fun k => eq_ix3 (n0 := 1) (n1 := 1024) (n2 := 256) _

theorem ref_moment1 (p : S1x1024x256.Idx → EReal) (m : S1024x256.Idx → EReal) : val_main_v5 (F := Ideal) p m = moment1 p m := by
  unfold moment1; rw [← ref_grad]; rfl

theorem ref_moment2 (p : S1x1024x256.Idx → EReal) (v : S1024x256.Idx → EReal) : val_main_v11 (F := Ideal) p v = moment2 p v := by
  unfold moment2; rw [← ref_grad]; rfl

theorem ref_delta (p : S1x1024x256.Idx → EReal) (w m v : S1024x256.Idx → EReal) : val_main_v24 (F := Ideal) p w m v = delta p w m v := by
  funext y
  unfold delta
  rw [step_div, ← ref_grad]; rfl

theorem frame_ideal : Cert.quiescent_Kernel32Ideal := fun m ρ _ => Cert.Kernel32Ideal.Gen.frame m ρ

theorem frame_reference : Cert.quiescent_Reference32Ideal := fun m ρ _ =>
  (θ_run Cert.Reference32Ideal.defs _ _).mono (fun r h => ⟨fun c => (h c).2.2.2.2, sem_eq_zero_of_no_sems (by decide) r.2⟩)
    (Cert.Reference32Ideal.Value.run (F := Ideal) m ρ)

theorem equal : Cert.algebraic_Kernel32Ideal_Reference32Ideal := by
  intro m ρ m' ρ' _ hargs
  refine ⟨fun c => grad (m ((c.tc : Thread nD τ).loc main_arg0)), fun c => delta (m ((c.tc : Thread nD τ).loc main_arg0)) (m ((c.tc : Thread nD τ).loc main_arg1)) (m ((c.tc : Thread nD τ).loc main_arg2)) (m ((c.tc : Thread nD τ).loc main_arg3)), fun c => moment1 (m ((c.tc : Thread nD τ).loc main_arg0)) (m ((c.tc : Thread nD τ).loc main_arg2)), fun c => moment2 (m ((c.tc : Thread nD τ).loc main_arg0)) (m ((c.tc : Thread nD τ).loc main_arg3)), ?_, ?_⟩
  · exact (θ_run Cert.Kernel32Ideal.defs _ _).mono (fun r h c => ⟨(h c).1.trans (final4 m c), (h c).2.1.trans (final5 m c), (h c).2.2.1.trans (final6 m c), (h c).2.2.2.1.trans (final7 m c), (h c).2.2.2.2⟩) (Cert.Kernel32Ideal.Value.run_blocks m ρ)
  · refine (θ_run Cert.Reference32Ideal.defs _ _).mono (fun r h c => ?_) (Cert.Reference32Ideal.Value.run (F := Ideal) m' ρ')
    obtain ⟨h0, h1, h2, h3⟩ := hargs c
    beta_reduce
    rw [← h0, ← h1, ← h2, ← h3]
    exact ⟨((h c).1.trans (val_main_v0_eq _)).trans (ref_grad _), ((h c).2.1.trans (val_main_v24_eq _ _ _ _)).trans (ref_delta _ _ _ _), ((h c).2.2.1.trans (val_main_v5_eq _ _)).trans (ref_moment1 _ _), ((h c).2.2.2.1.trans (val_main_v11_eq _ _)).trans (ref_moment2 _ _), (h c).2.2.2.2⟩

end Cert.Kernel32Ideal.Adam

end
-- ==== Proof.Adam.KvModBias.lean ====
/-
  AdamW's step on the bias of that modulation: the call's results are the sum of the parts of the gradient and the step from it.
-/
module

public import proofs.«01_k».proof.Proof.Ffn.Base
public import proofs.«01_k».proof.Proof.Adam.Base
public import proofs.«01_k».proof.Proof.Gen.Kernel33Ideal.Value
public import proofs.«01_k».proof.Proof.Gen.Reference33Ideal.Run
public import proofs.«01_k».proof.Proof.Gen.Reference33Ideal.Read

@[expose] public section

set_option maxRecDepth 16384

noncomputable section

namespace Cert.Kernel33Ideal.Adam

open Cert.Kernel33Ideal Cert.Kernel33Ideal.Gen
open Idealize.ShloMosaic.Tactic
open Cert.Adam
open Idealize.ShloMosaic Idealize.ShloMosaic.TcCoe Idealize.SL.Sem Idealize.ShloMosaic.StableHlo
open Idealize.ShloMosaic.Pipeline (Dat)

/-- The sum of the parts of the gradient. -/
abbrev grad (p : S8x1x2048.Idx → EReal) : S1x2048.Idx → EReal := total (n := 8) (R := 1) (C := 2048) p

/-- The change of the weight. -/
abbrev delta (p : S8x1x2048.Idx → EReal) (w m v : S1x2048.Idx → EReal) : S1x2048.Idx → EReal := fun y => step (grad p y) (w y) (m y) (v y)

/-- The first moment. -/
abbrev moment1 (p : S8x1x2048.Idx → EReal) (m : S1x2048.Idx → EReal) : S1x2048.Idx → EReal := fun y => newM (grad p y) (m y)

/-- The second moment. -/
abbrev moment2 (p : S8x1x2048.Idx → EReal) (v : S1x2048.Idx → EReal) : S1x2048.Idx → EReal := fun y => newV (grad p y) (v y)

/-- The call adds its parts. -/
theorem pay (v0 v1 v2 v3 v4 v5 v6 v7 : Vec Ideal S1x1x2048 .f32) (i : Fin 1) (j : Fin 2048) : k0_pay3 v0 v1 v2 v3 v4 v5 v6 v7 (ix2 i j) = v0 (ix3 0 i j) + v1 (ix3 0 i j) + v2 (ix3 0 i j) + v3 (ix3 0 i j) + v4 (ix3 0 i j) + v5 (ix3 0 i j) + v6 (ix3 0 i j) + v7 (ix3 0 i j) := by
  obtain rfl : i = 0 := Subsingleton.elim _ _
  pointwise [k0_pay3]

theorem sum_eq (x0 : Vec Ideal S8x1x2048 .f32) (x1 x2 x3 : Vec Ideal S1x2048 .f32) (i : Fin 1) (j : Fin 2048) : k0_pay5 x0 x1 x2 x3 (ix2 i j) = total (n := 8) (R := 1) (C := 2048) x0 (ix2 i j) :=
  (pay _ _ _ _ _ _ _ _ i j).trans (total_of_parts x0 i j (by decide))

theorem moment_eq (x0 : Vec Ideal S8x1x2048 .f32) (x1 x2 x3 : Vec Ideal S1x2048 .f32) : k0_pay6 x0 x1 x2 x3 = k0_pay4 (View.ld x0 r0_0) (View.ld x0 r0_1) (View.ld x0 r0_2) (View.ld x0 r0_3) (View.ld x0 r0_4) (View.ld x0 r0_5) (View.ld x0 r0_6) (View.ld x0 r0_7) x2 := by
  unfold k0_pay6
  rw [View.ld_unit_zero (by funext a; fin_cases a <;> rfl)]

theorem out4 (x0 : Vec Ideal S8x1x2048 .f32) (x1 x2 x3 : Vec Ideal S1x2048 .f32) : Value.G4 (F := Ideal) x0 x1 x2 x3 = grad x0 := by
  funext y
  obtain ⟨i, j, rfl⟩ : ∃ (i : Fin 1) (j : Fin 2048), y = ix2 i j := ⟨y 0, y 1, eq_ix2 (n0 := 1) (n1 := 2048) y⟩
  unfold grad
  rw [← sum_eq x0 x1 x2 x3]

theorem out5 (x0 : Vec Ideal S8x1x2048 .f32) (x1 x2 x3 : Vec Ideal S1x2048 .f32) : Value.G5 (F := Ideal) x0 x1 x2 x3 = delta x0 x1 x2 x3 := by
  funext y
  obtain ⟨i, j, rfl⟩ : ∃ (i : Fin 1) (j : Fin 2048), y = ix2 i j := ⟨y 0, y 1, eq_ix2 (n0 := 1) (n1 := 2048) y⟩
  unfold delta grad
  rw [← sum_eq x0 x1 x2 x3]
  show k0_pay2 _ (k0_pay6 x0 x1 x2 x3) _ _ (ix2 i j) = _
  rw [moment_eq]; rfl

theorem out6 (x0 : Vec Ideal S8x1x2048 .f32) (x1 x2 x3 : Vec Ideal S1x2048 .f32) : Value.G6 (F := Ideal) x0 x1 x2 x3 = moment1 x0 x2 := by
  funext y
  obtain ⟨i, j, rfl⟩ : ∃ (i : Fin 1) (j : Fin 2048), y = ix2 i j := ⟨y 0, y 1, eq_ix2 (n0 := 1) (n1 := 2048) y⟩
  unfold moment1 grad
  rw [← sum_eq x0 x1 x2 x3]
  show k0_pay6 x0 x1 x2 x3 (ix2 i j) = _
  rw [moment_eq]; rfl

theorem out7 (x0 : Vec Ideal S8x1x2048 .f32) (x1 x2 x3 : Vec Ideal S1x2048 .f32) : Value.G7 (F := Ideal) x0 x1 x2 x3 = moment2 x0 x3 := by
  funext y
  obtain ⟨i, j, rfl⟩ : ∃ (i : Fin 1) (j : Fin 2048), y = ix2 i j := ⟨y 0, y 1, eq_ix2 (n0 := 1) (n1 := 2048) y⟩
  unfold moment2 grad
  rw [← sum_eq x0 x1 x2 x3]
  rfl

open Cert.Reference33Ideal.Read

theorem ref_grad (p : S8x1x2048.Idx → EReal) : val_main_v0 (F := Ideal) p = grad p := by
  funext y
  rw [val_main_v0_apply]
  exact total_of_sum (n := 8) (R := 1) (C := 2048) p _ y fun k => eq_ix3 (n0 := 8) (n1 := 1) (n2 := 2048) _

theorem ref_moment1 (p : S8x1x2048.Idx → EReal) (m : S1x2048.Idx → EReal) : val_main_v5 (F := Ideal) p m = moment1 p m := by
  unfold moment1; rw [← ref_grad]; rfl

theorem ref_moment2 (p : S8x1x2048.Idx → EReal) (v : S1x2048.Idx → EReal) : val_main_v11 (F := Ideal) p v = moment2 p v := by
  unfold moment2; rw [← ref_grad]; rfl

theorem ref_delta (p : S8x1x2048.Idx → EReal) (w m v : S1x2048.Idx → EReal) : val_main_v24 (F := Ideal) p w m v = delta p w m v := by
  funext y
  unfold delta
  rw [step_div, ← ref_grad]; rfl

theorem frame_ideal : Cert.quiescent_Kernel33Ideal := fun m ρ _ => Cert.Kernel33Ideal.Gen.frame m ρ

theorem frame_reference : Cert.quiescent_Reference33Ideal := fun m ρ _ =>
  (θ_run Cert.Reference33Ideal.defs _ _).mono (fun r h => ⟨fun c => (h c).2.2.2.2, sem_eq_zero_of_no_sems (by decide) r.2⟩)
    (Cert.Reference33Ideal.Value.run (F := Ideal) m ρ)

theorem equal : Cert.algebraic_Kernel33Ideal_Reference33Ideal := by
  intro m ρ m' ρ' _ hargs
  refine ⟨fun c => grad (m ((c.tc : Thread nD τ).loc main_arg0)), fun c => delta (m ((c.tc : Thread nD τ).loc main_arg0)) (m ((c.tc : Thread nD τ).loc main_arg1)) (m ((c.tc : Thread nD τ).loc main_arg2)) (m ((c.tc : Thread nD τ).loc main_arg3)), fun c => moment1 (m ((c.tc : Thread nD τ).loc main_arg0)) (m ((c.tc : Thread nD τ).loc main_arg2)), fun c => moment2 (m ((c.tc : Thread nD τ).loc main_arg0)) (m ((c.tc : Thread nD τ).loc main_arg3)), ?_, ?_⟩
  · exact (θ_run Cert.Kernel33Ideal.defs _ _).mono (fun r h c => ⟨(h c).1.trans (out4 _ _ _ _), (h c).2.1.trans (out5 _ _ _ _), (h c).2.2.1.trans (out6 _ _ _ _), (h c).2.2.2.1.trans (out7 _ _ _ _), (h c).2.2.2.2⟩) (Cert.Kernel33Ideal.Value.run m ρ)
  · refine (θ_run Cert.Reference33Ideal.defs _ _).mono (fun r h c => ?_) (Cert.Reference33Ideal.Value.run (F := Ideal) m' ρ')
    obtain ⟨h0, h1, h2, h3⟩ := hargs c
    beta_reduce
    rw [← h0, ← h1, ← h2, ← h3]
    exact ⟨((h c).1.trans (val_main_v0_eq _)).trans (ref_grad _), ((h c).2.1.trans (val_main_v24_eq _ _ _ _)).trans (ref_delta _ _ _ _), ((h c).2.2.1.trans (val_main_v5_eq _ _)).trans (ref_moment1 _ _), ((h c).2.2.2.1.trans (val_main_v11_eq _ _)).trans (ref_moment2 _ _), (h c).2.2.2.2⟩

end Cert.Kernel33Ideal.Adam

end
-- ==== Proof.Adam.KeyValue.lean ====
/-
  AdamW's step on the weight of the shared keys and values: the call's results are the sum of the parts of the gradient and the step from it.
-/
module

public import proofs.«01_k».proof.Proof.Ffn.Base
public import proofs.«01_k».proof.Proof.Adam.Base
public import proofs.«01_k».proof.Proof.Gen.Kernel34Ideal.Value
public import proofs.«01_k».proof.Proof.Gen.Reference34Ideal.Run
public import proofs.«01_k».proof.Proof.Gen.Reference34Ideal.Read

@[expose] public section

set_option maxRecDepth 16384

noncomputable section

namespace Cert.Kernel34Ideal.Adam

open Cert.Kernel34Ideal Cert.Kernel34Ideal.Gen
open Idealize.ShloMosaic.Tactic
open Cert.Adam
open Idealize.ShloMosaic Idealize.ShloMosaic.TcCoe Idealize.SL.Sem Idealize.ShloMosaic.StableHlo
open Idealize.ShloMosaic.Pipeline (Dat)

/-- The sum of the parts of the gradient. -/
abbrev grad (p : S8x128x512.Idx → EReal) : S128x512.Idx → EReal := total (n := 8) (R := 128) (C := 512) p

/-- The change of the weight. -/
abbrev delta (p : S8x128x512.Idx → EReal) (w m v : S128x512.Idx → EReal) : S128x512.Idx → EReal := fun y => step (grad p y) (w y) (m y) (v y)

/-- The first moment. -/
abbrev moment1 (p : S8x128x512.Idx → EReal) (m : S128x512.Idx → EReal) : S128x512.Idx → EReal := fun y => newM (grad p y) (m y)

/-- The second moment. -/
abbrev moment2 (p : S8x128x512.Idx → EReal) (v : S128x512.Idx → EReal) : S128x512.Idx → EReal := fun y => newV (grad p y) (v y)

/-- The call adds its parts. -/
theorem pay (v0 v1 v2 v3 v4 v5 v6 v7 : Vec Ideal S1x64x512 .bf16) (i : Fin 64) (j : Fin 512) : k0_pay4 v0 v1 v2 v3 v4 v5 v6 v7 (ix2 i j) = v0 (ix3 0 i j) + v1 (ix3 0 i j) + v2 (ix3 0 i j) + v3 (ix3 0 i j) + v4 (ix3 0 i j) + v5 (ix3 0 i j) + v6 (ix3 0 i j) + v7 (ix3 0 i j) := by
  pointwise [k0_pay4]

theorem sum_eq (x0 : Vec Ideal S8x64x512 .bf16) (x1 x2 x3 : Vec Ideal S64x512 .f32) (i : Fin 64) (j : Fin 512) : k0_pay5 x0 x1 x2 x3 (ix2 i j) = total (n := 8) (R := 64) (C := 512) x0 (ix2 i j) :=
  (pay _ _ _ _ _ _ _ _ i j).trans (total_of_parts x0 i j (by decide))

theorem out4 (x0 : Vec Ideal S8x64x512 .bf16) (x1 x2 x3 : Vec Ideal S64x512 .f32) (i : Fin 64) (j : Fin 512) : out0_4 x0 x1 x2 x3 (ix2 i j) = total (n := 8) (R := 64) (C := 512) x0 (ix2 i j) := by
  unfold out0_4
  frame_out
  rw [← sum_eq x0 x1 x2 x3]

theorem out5 (x0 : Vec Ideal S8x64x512 .bf16) (x1 x2 x3 : Vec Ideal S64x512 .f32) (i : Fin 64) (j : Fin 512) : out0_5 x0 x1 x2 x3 (ix2 i j) = step (total (n := 8) (R := 64) (C := 512) x0 (ix2 i j)) (x1 (ix2 i j)) (x2 (ix2 i j)) (x3 (ix2 i j)) := by
  unfold out0_5
  frame_out
  rw [← sum_eq x0 x1 x2 x3]
  rfl

theorem out6 (x0 : Vec Ideal S8x64x512 .bf16) (x1 x2 x3 : Vec Ideal S64x512 .f32) (i : Fin 64) (j : Fin 512) : out0_6 x0 x1 x2 x3 (ix2 i j) = newM (total (n := 8) (R := 64) (C := 512) x0 (ix2 i j)) (x2 (ix2 i j)) := by
  unfold out0_6
  frame_out
  rw [← sum_eq x0 x1 x2 x3]
  rfl

theorem out7 (x0 : Vec Ideal S8x64x512 .bf16) (x1 x2 x3 : Vec Ideal S64x512 .f32) (i : Fin 64) (j : Fin 512) : out0_7 x0 x1 x2 x3 (ix2 i j) = newV (total (n := 8) (R := 64) (C := 512) x0 (ix2 i j)) (x3 (ix2 i j)) := by
  unfold out0_7
  frame_out
  rw [← sum_eq x0 x1 x2 x3]
  rfl

variable (m : (ℓ : Loc nD τ sig) → Buf (Elt Ideal) ℓ) (ρ : Dev nD → PrngReg) (c : Dev nD)

theorem index0 : ∀ t : Fin cfg0.N, win0_0.index t = ![0, t.val, 0] := (by decide +kernel : ∀ t : Fin grid0.N, win0_0.index t = ![0, t.val, 0])
theorem index1 : ∀ t : Fin cfg0.N, win0_1.index t = ![t.val, 0] := (by decide +kernel : ∀ t : Fin grid0.N, win0_1.index t = ![t.val, 0])
theorem index2 : ∀ t : Fin cfg0.N, win0_2.index t = ![t.val, 0] := (by decide +kernel : ∀ t : Fin grid0.N, win0_2.index t = ![t.val, 0])
theorem index3 : ∀ t : Fin cfg0.N, win0_3.index t = ![t.val, 0] := (by decide +kernel : ∀ t : Fin grid0.N, win0_3.index t = ![t.val, 0])
theorem index4 : ∀ t : Fin cfg0.N, win0_4.index t = ![t.val, 0] := (by decide +kernel : ∀ t : Fin grid0.N, win0_4.index t = ![t.val, 0])
theorem index5 : ∀ t : Fin cfg0.N, win0_5.index t = ![t.val, 0] := (by decide +kernel : ∀ t : Fin grid0.N, win0_5.index t = ![t.val, 0])
theorem index6 : ∀ t : Fin cfg0.N, win0_6.index t = ![t.val, 0] := (by decide +kernel : ∀ t : Fin grid0.N, win0_6.index t = ![t.val, 0])
theorem index7 : ∀ t : Fin cfg0.N, win0_7.index t = ![t.val, 0] := (by decide +kernel : ∀ t : Fin grid0.N, win0_7.index t = ![t.val, 0])

theorem total4 (t : Fin cfg0.N) (i : Fin 64) (j : Fin 512) : total (n := 8) (R := 64) (C := 512) (iblk m c 0 t) (ix2 i j) = grad (m ((c : Thread nD τ).loc main_arg0)) (((View.whole main_v0_0).slice (win0_4.rect t)).emb (ix2 i j)) := by
  refine Finset.sum_congr rfl fun k _ => ?_
  blk_simp [iblk]
  rw [V_main_arg0]; refine congrArg _ ?_
  blk_ext [index0, index4]

theorem total5 (t : Fin cfg0.N) (i : Fin 64) (j : Fin 512) : total (n := 8) (R := 64) (C := 512) (iblk m c 0 t) (ix2 i j) = grad (m ((c : Thread nD τ).loc main_arg0)) (((View.whole main_v0_1).slice (win0_5.rect t)).emb (ix2 i j)) := by
  refine Finset.sum_congr rfl fun k _ => ?_
  blk_simp [iblk]
  rw [V_main_arg0]; refine congrArg _ ?_
  blk_ext [index0, index5]

theorem arg1_5 (t : Fin cfg0.N) (i : Fin 64) (j : Fin 512) : (iblk m c 1 t (ix2 i j) : EReal) = (m ((c : Thread nD τ).loc main_arg1) : S128x512.Idx → EReal) (((View.whole main_v0_1).slice (win0_5.rect t)).emb (ix2 i j)) := by
  blk_simp [iblk]
  rw [V_main_arg1]; refine congrArg _ ?_
  blk_ext [index1, index5]

theorem arg2_5 (t : Fin cfg0.N) (i : Fin 64) (j : Fin 512) : (iblk m c 2 t (ix2 i j) : EReal) = (m ((c : Thread nD τ).loc main_arg2) : S128x512.Idx → EReal) (((View.whole main_v0_1).slice (win0_5.rect t)).emb (ix2 i j)) := by
  blk_simp [iblk]
  rw [V_main_arg2]; refine congrArg _ ?_
  blk_ext [index2, index5]

theorem arg3_5 (t : Fin cfg0.N) (i : Fin 64) (j : Fin 512) : (iblk m c 3 t (ix2 i j) : EReal) = (m ((c : Thread nD τ).loc main_arg3) : S128x512.Idx → EReal) (((View.whole main_v0_1).slice (win0_5.rect t)).emb (ix2 i j)) := by
  blk_simp [iblk]
  rw [V_main_arg3]; refine congrArg _ ?_
  blk_ext [index3, index5]

theorem total6 (t : Fin cfg0.N) (i : Fin 64) (j : Fin 512) : total (n := 8) (R := 64) (C := 512) (iblk m c 0 t) (ix2 i j) = grad (m ((c : Thread nD τ).loc main_arg0)) (((View.whole main_v0_2).slice (win0_6.rect t)).emb (ix2 i j)) := by
  refine Finset.sum_congr rfl fun k _ => ?_
  blk_simp [iblk]
  rw [V_main_arg0]; refine congrArg _ ?_
  blk_ext [index0, index6]

theorem arg2_6 (t : Fin cfg0.N) (i : Fin 64) (j : Fin 512) : (iblk m c 2 t (ix2 i j) : EReal) = (m ((c : Thread nD τ).loc main_arg2) : S128x512.Idx → EReal) (((View.whole main_v0_2).slice (win0_6.rect t)).emb (ix2 i j)) := by
  blk_simp [iblk]
  rw [V_main_arg2]; refine congrArg _ ?_
  blk_ext [index2, index6]

theorem total7 (t : Fin cfg0.N) (i : Fin 64) (j : Fin 512) : total (n := 8) (R := 64) (C := 512) (iblk m c 0 t) (ix2 i j) = grad (m ((c : Thread nD τ).loc main_arg0)) (((View.whole main_v0_3).slice (win0_7.rect t)).emb (ix2 i j)) := by
  refine Finset.sum_congr rfl fun k _ => ?_
  blk_simp [iblk]
  rw [V_main_arg0]; refine congrArg _ ?_
  blk_ext [index0, index7]

theorem arg3_7 (t : Fin cfg0.N) (i : Fin 64) (j : Fin 512) : (iblk m c 3 t (ix2 i j) : EReal) = (m ((c : Thread nD τ).loc main_arg3) : S128x512.Idx → EReal) (((View.whole main_v0_3).slice (win0_7.rect t)).emb (ix2 i j)) := by
  blk_simp [iblk]
  rw [V_main_arg3]; refine congrArg _ ?_
  blk_ext [index3, index7]

theorem final4 : (dats m 0 c).arrAt 4 cfg0.N = grad (m ((c : Thread nD τ).loc main_arg0)) := by
  refine (dats m 0 c).arrAt_eq_of_covers 4 _ (by decide +kernel) fun t hf y => ?_
  blk_simp
  rw [after0_4]
  obtain ⟨i, j, rfl⟩ : ∃ (i : Fin 64) (j : Fin 512), y = ix2 i j := ⟨y 0, y 1, eq_ix2 (n0 := 64) (n1 := 512) y⟩
  exact (out4 _ _ _ _ i j).trans (total4 m c t i j)

theorem final5 : (dats m 0 c).arrAt 5 cfg0.N = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  obtain ⟨i, j, rfl⟩ : ∃ (i : Fin 64) (j : Fin 512), y = ix2 i j := ⟨y 0, y 1, eq_ix2 (n0 := 64) (n1 := 512) y⟩
  exact (out5 _ _ _ _ i j).trans (by rw [total5, arg1_5, arg2_5, arg3_5])

theorem final6 : (dats m 0 c).arrAt 6 cfg0.N = moment1 (m ((c : Thread nD τ).loc main_arg0)) (m ((c : Thread nD τ).loc main_arg2)) := by
  refine (dats m 0 c).arrAt_eq_of_covers 6 _ (by decide +kernel) fun t hf y => ?_
  blk_simp
  rw [after0_6]
  obtain ⟨i, j, rfl⟩ : ∃ (i : Fin 64) (j : Fin 512), y = ix2 i j := ⟨y 0, y 1, eq_ix2 (n0 := 64) (n1 := 512) y⟩
  exact (out6 _ _ _ _ i j).trans (congrArg₂ newM (total6 m c t i j) (arg2_6 m c t i j))

theorem final7 : (dats m 0 c).arrAt 7 cfg0.N = moment2 (m ((c : Thread nD τ).loc main_arg0)) (m ((c : Thread nD τ).loc main_arg3)) := by
  refine (dats m 0 c).arrAt_eq_of_covers 7 _ (by decide +kernel) fun t hf y => ?_
  blk_simp
  rw [after0_7]
  obtain ⟨i, j, rfl⟩ : ∃ (i : Fin 64) (j : Fin 512), y = ix2 i j := ⟨y 0, y 1, eq_ix2 (n0 := 64) (n1 := 512) y⟩
  exact (out7 _ _ _ _ i j).trans (congrArg₂ newV (total7 m c t i j) (arg3_7 m c t i j))

open Cert.Reference34Ideal.Read

theorem ref_grad (p : S8x128x512.Idx → EReal) : val_main_v1 (F := Ideal) p = grad p := by
  funext y
  rw [val_main_v1_apply]
  exact total_of_sum (n := 8) (R := 128) (C := 512) p _ y fun k => eq_ix3 (n0 := 8) (n1 := 128) (n2 := 512) _

theorem ref_moment1 (p : S8x128x512.Idx → EReal) (m : S128x512.Idx → EReal) : val_main_v6 (F := Ideal) p m = moment1 p m := by
  unfold moment1; rw [← ref_grad]; rfl

theorem ref_moment2 (p : S8x128x512.Idx → EReal) (v : S128x512.Idx → EReal) : val_main_v12 (F := Ideal) p v = moment2 p v := by
  unfold moment2; rw [← ref_grad]; rfl

theorem ref_delta (p : S8x128x512.Idx → EReal) (w m v : S128x512.Idx → EReal) : val_main_v25 (F := Ideal) p w m v = delta p w m v := by
  funext y
  unfold delta
  rw [step_div, ← ref_grad]; rfl

theorem frame_ideal : Cert.quiescent_Kernel34Ideal := fun m ρ _ => Cert.Kernel34Ideal.Gen.frame m ρ

theorem frame_reference : Cert.quiescent_Reference34Ideal := fun m ρ _ =>
  (θ_run Cert.Reference34Ideal.defs _ _).mono (fun r h => ⟨fun c => (h c).2.2.2.2, sem_eq_zero_of_no_sems (by decide) r.2⟩)
    (Cert.Reference34Ideal.Value.run (F := Ideal) m ρ)

theorem equal : Cert.algebraic_Kernel34Ideal_Reference34Ideal := by
  intro m ρ m' ρ' _ hargs
  refine ⟨fun c => grad (m ((c.tc : Thread nD τ).loc main_arg0)), fun c => delta (m ((c.tc : Thread nD τ).loc main_arg0)) (m ((c.tc : Thread nD τ).loc main_arg1)) (m ((c.tc : Thread nD τ).loc main_arg2)) (m ((c.tc : Thread nD τ).loc main_arg3)), fun c => moment1 (m ((c.tc : Thread nD τ).loc main_arg0)) (m ((c.tc : Thread nD τ).loc main_arg2)), fun c => moment2 (m ((c.tc : Thread nD τ).loc main_arg0)) (m ((c.tc : Thread nD τ).loc main_arg3)), ?_, ?_⟩
  · exact (θ_run Cert.Kernel34Ideal.defs _ _).mono (fun r h c => ⟨(h c).1.trans (final4 m c), (h c).2.1.trans (final5 m c), (h c).2.2.1.trans (final6 m c), (h c).2.2.2.1.trans (final7 m c), (h c).2.2.2.2⟩) (Cert.Kernel34Ideal.Value.run_blocks m ρ)
  · refine (θ_run Cert.Reference34Ideal.defs _ _).mono (fun r h c => ?_) (Cert.Reference34Ideal.Value.run (F := Ideal) m' ρ')
    obtain ⟨h0, h1, h2, h3⟩ := hargs c
    beta_reduce
    rw [← h0, ← h1, ← h2, ← h3]
    exact ⟨((h c).1.trans (val_main_v1_eq _)).trans (ref_grad _), ((h c).2.1.trans (val_main_v25_eq _ _ _ _)).trans (ref_delta _ _ _ _), ((h c).2.2.1.trans (val_main_v6_eq _ _)).trans (ref_moment1 _ _), ((h c).2.2.2.1.trans (val_main_v12_eq _ _)).trans (ref_moment2 _ _), (h c).2.2.2.2⟩

end Cert.Kernel34Ideal.Adam

end
-- ==== Proof.Adam.KeyValueBias.lean ====
/-
  AdamW's step on the bias of the shared keys and values: the call's results are the sum of the parts of the gradient and the step from it.
-/
module

public import proofs.«01_k».proof.Proof.Ffn.Base
public import proofs.«01_k».proof.Proof.Adam.Base
public import proofs.«01_k».proof.Proof.Gen.Kernel35Ideal.Value
public import proofs.«01_k».proof.Proof.Gen.Reference35Ideal.Run
public import proofs.«01_k».proof.Proof.Gen.Reference35Ideal.Read

@[expose] public section

set_option maxRecDepth 16384

noncomputable section

namespace Cert.Kernel35Ideal.Adam

open Cert.Kernel35Ideal Cert.Kernel35Ideal.Gen
open Idealize.ShloMosaic.Tactic
open Cert.Adam
open Idealize.ShloMosaic Idealize.ShloMosaic.TcCoe Idealize.SL.Sem Idealize.ShloMosaic.StableHlo
open Idealize.ShloMosaic.Pipeline (Dat)

/-- The sum of the parts of the gradient. -/
abbrev grad (p : S8x1x512.Idx → EReal) : S1x512.Idx → EReal := total (n := 8) (R := 1) (C := 512) p

/-- The change of the weight. -/
abbrev delta (p : S8x1x512.Idx → EReal) (w m v : S1x512.Idx → EReal) : S1x512.Idx → EReal := fun y => step (grad p y) (w y) (m y) (v y)

/-- The first moment. -/
abbrev moment1 (p : S8x1x512.Idx → EReal) (m : S1x512.Idx → EReal) : S1x512.Idx → EReal := fun y => newM (grad p y) (m y)

/-- The second moment. -/
abbrev moment2 (p : S8x1x512.Idx → EReal) (v : S1x512.Idx → EReal) : S1x512.Idx → EReal := fun y => newV (grad p y) (v y)

/-- The call adds its parts. -/
theorem pay (v0 v1 v2 v3 v4 v5 v6 v7 : Vec Ideal S1x1x512 .f32) (i : Fin 1) (j : Fin 512) : k0_pay3 v0 v1 v2 v3 v4 v5 v6 v7 (ix2 i j) = v0 (ix3 0 i j) + v1 (ix3 0 i j) + v2 (ix3 0 i j) + v3 (ix3 0 i j) + v4 (ix3 0 i j) + v5 (ix3 0 i j) + v6 (ix3 0 i j) + v7 (ix3 0 i j) := by
  obtain rfl : i = 0 := Subsingleton.elim _ _
  pointwise [k0_pay3]

theorem sum_eq (x0 : Vec Ideal S8x1x512 .f32) (x1 x2 x3 : Vec Ideal S1x512 .f32) (i : Fin 1) (j : Fin 512) : k0_pay5 x0 x1 x2 x3 (ix2 i j) = total (n := 8) (R := 1) (C := 512) x0 (ix2 i j) :=
  (pay _ _ _ _ _ _ _ _ i j).trans (total_of_parts x0 i j (by decide))

theorem moment_eq (x0 : Vec Ideal S8x1x512 .f32) (x1 x2 x3 : Vec Ideal S1x512 .f32) : k0_pay6 x0 x1 x2 x3 = k0_pay4 (View.ld x0 r0_0) (View.ld x0 r0_1) (View.ld x0 r0_2) (View.ld x0 r0_3) (View.ld x0 r0_4) (View.ld x0 r0_5) (View.ld x0 r0_6) (View.ld x0 r0_7) x2 := by
  unfold k0_pay6
  rw [View.ld_unit_zero (by funext a; fin_cases a <;> rfl)]

theorem out4 (x0 : Vec Ideal S8x1x512 .f32) (x1 x2 x3 : Vec Ideal S1x512 .f32) : Value.G4 (F := Ideal) x0 x1 x2 x3 = grad x0 := by
  funext y
  obtain ⟨i, j, rfl⟩ : ∃ (i : Fin 1) (j : Fin 512), y = ix2 i j := ⟨y 0, y 1, eq_ix2 (n0 := 1) (n1 := 512) y⟩
  unfold grad
  rw [← sum_eq x0 x1 x2 x3]

theorem out5 (x0 : Vec Ideal S8x1x512 .f32) (x1 x2 x3 : Vec Ideal S1x512 .f32) : Value.G5 (F := Ideal) x0 x1 x2 x3 = delta x0 x1 x2 x3 := by
  funext y
  obtain ⟨i, j, rfl⟩ : ∃ (i : Fin 1) (j : Fin 512), y = ix2 i j := ⟨y 0, y 1, eq_ix2 (n0 := 1) (n1 := 512) y⟩
  unfold delta grad
  rw [← sum_eq x0 x1 x2 x3]
  show k0_pay2 _ (k0_pay6 x0 x1 x2 x3) _ _ (ix2 i j) = _
  rw [moment_eq]; rfl

theorem out6 (x0 : Vec Ideal S8x1x512 .f32) (x1 x2 x3 : Vec Ideal S1x512 .f32) : Value.G6 (F := Ideal) x0 x1 x2 x3 = moment1 x0 x2 := by
  funext y
  obtain ⟨i, j, rfl⟩ : ∃ (i : Fin 1) (j : Fin 512), y = ix2 i j := ⟨y 0, y 1, eq_ix2 (n0 := 1) (n1 := 512) y⟩
  unfold moment1 grad
  rw [← sum_eq x0 x1 x2 x3]
  show k0_pay6 x0 x1 x2 x3 (ix2 i j) = _
  rw [moment_eq]; rfl

theorem out7 (x0 : Vec Ideal S8x1x512 .f32) (x1 x2 x3 : Vec Ideal S1x512 .f32) : Value.G7 (F := Ideal) x0 x1 x2 x3 = moment2 x0 x3 := by
  funext y
  obtain ⟨i, j, rfl⟩ : ∃ (i : Fin 1) (j : Fin 512), y = ix2 i j := ⟨y 0, y 1, eq_ix2 (n0 := 1) (n1 := 512) y⟩
  unfold moment2 grad
  rw [← sum_eq x0 x1 x2 x3]
  rfl

open Cert.Reference35Ideal.Read

theorem ref_grad (p : S8x1x512.Idx → EReal) : val_main_v0 (F := Ideal) p = grad p := by
  funext y
  rw [val_main_v0_apply]
  exact total_of_sum (n := 8) (R := 1) (C := 512) p _ y fun k => eq_ix3 (n0 := 8) (n1 := 1) (n2 := 512) _

theorem ref_moment1 (p : S8x1x512.Idx → EReal) (m : S1x512.Idx → EReal) : val_main_v5 (F := Ideal) p m = moment1 p m := by
  unfold moment1; rw [← ref_grad]; rfl

theorem ref_moment2 (p : S8x1x512.Idx → EReal) (v : S1x512.Idx → EReal) : val_main_v11 (F := Ideal) p v = moment2 p v := by
  unfold moment2; rw [← ref_grad]; rfl

theorem ref_delta (p : S8x1x512.Idx → EReal) (w m v : S1x512.Idx → EReal) : val_main_v24 (F := Ideal) p w m v = delta p w m v := by
  funext y
  unfold delta
  rw [step_div, ← ref_grad]; rfl

theorem frame_ideal : Cert.quiescent_Kernel35Ideal := fun m ρ _ => Cert.Kernel35Ideal.Gen.frame m ρ

theorem frame_reference : Cert.quiescent_Reference35Ideal := fun m ρ _ =>
  (θ_run Cert.Reference35Ideal.defs _ _).mono (fun r h => ⟨fun c => (h c).2.2.2.2, sem_eq_zero_of_no_sems (by decide) r.2⟩)
    (Cert.Reference35Ideal.Value.run (F := Ideal) m ρ)

theorem equal : Cert.algebraic_Kernel35Ideal_Reference35Ideal := by
  intro m ρ m' ρ' _ hargs
  refine ⟨fun c => grad (m ((c.tc : Thread nD τ).loc main_arg0)), fun c => delta (m ((c.tc : Thread nD τ).loc main_arg0)) (m ((c.tc : Thread nD τ).loc main_arg1)) (m ((c.tc : Thread nD τ).loc main_arg2)) (m ((c.tc : Thread nD τ).loc main_arg3)), fun c => moment1 (m ((c.tc : Thread nD τ).loc main_arg0)) (m ((c.tc : Thread nD τ).loc main_arg2)), fun c => moment2 (m ((c.tc : Thread nD τ).loc main_arg0)) (m ((c.tc : Thread nD τ).loc main_arg3)), ?_, ?_⟩
  · exact (θ_run Cert.Kernel35Ideal.defs _ _).mono (fun r h c => ⟨(h c).1.trans (out4 _ _ _ _), (h c).2.1.trans (out5 _ _ _ _), (h c).2.2.1.trans (out6 _ _ _ _), (h c).2.2.2.1.trans (out7 _ _ _ _), (h c).2.2.2.2⟩) (Cert.Kernel35Ideal.Value.run m ρ)
  · refine (θ_run Cert.Reference35Ideal.defs _ _).mono (fun r h c => ?_) (Cert.Reference35Ideal.Value.run (F := Ideal) m' ρ')
    obtain ⟨h0, h1, h2, h3⟩ := hargs c
    beta_reduce
    rw [← h0, ← h1, ← h2, ← h3]
    exact ⟨((h c).1.trans (val_main_v0_eq _)).trans (ref_grad _), ((h c).2.1.trans (val_main_v24_eq _ _ _ _)).trans (ref_delta _ _ _ _), ((h c).2.2.1.trans (val_main_v5_eq _ _)).trans (ref_moment1 _ _), ((h c).2.2.2.1.trans (val_main_v11_eq _ _)).trans (ref_moment2 _ _), (h c).2.2.2.2⟩

end Cert.Kernel35Ideal.Adam

end
-- ==== Proof.Adam.AttnBias.lean ====
/-
  AdamW's step on the biases of the attention's two projections: the call's results are the sum of the parts of the gradient and the step from it.
-/
module

public import proofs.«01_k».proof.Proof.Ffn.Base
public import proofs.«01_k».proof.Proof.Adam.Base
public import proofs.«01_k».proof.Proof.Gen.Kernel36Ideal.Value
public import proofs.«01_k».proof.Proof.Gen.Reference36Ideal.Run
public import proofs.«01_k».proof.Proof.Gen.Reference36Ideal.Read

@[expose] public section

set_option maxRecDepth 16384

noncomputable section

namespace Cert.Kernel36Ideal.Adam

open Cert.Kernel36Ideal Cert.Kernel36Ideal.Gen
open Idealize.ShloMosaic.Tactic
open Cert.Adam
open Idealize.ShloMosaic Idealize.ShloMosaic.TcCoe Idealize.SL.Sem Idealize.ShloMosaic.StableHlo
open Idealize.ShloMosaic.Pipeline (Dat)

/-- The sum of the parts of the gradient. -/
abbrev grad (p : S8x2x1024.Idx → EReal) : S2x1024.Idx → EReal := total (n := 8) (R := 2) (C := 1024) p

/-- The change of the weight. -/
abbrev delta (p : S8x2x1024.Idx → EReal) (w m v : S2x1024.Idx → EReal) : S2x1024.Idx → EReal := fun y => step (grad p y) (w y) (m y) (v y)

/-- The first moment. -/
abbrev moment1 (p : S8x2x1024.Idx → EReal) (m : S2x1024.Idx → EReal) : S2x1024.Idx → EReal := fun y => newM (grad p y) (m y)

/-- The second moment. -/
abbrev moment2 (p : S8x2x1024.Idx → EReal) (v : S2x1024.Idx → EReal) : S2x1024.Idx → EReal := fun y => newV (grad p y) (v y)

/-- The call adds its parts. -/
theorem pay (v0 v1 v2 v3 v4 v5 v6 v7 : Vec Ideal S1x2x1024 .f32) (i : Fin 2) (j : Fin 1024) : k0_pay3 v0 v1 v2 v3 v4 v5 v6 v7 (ix2 i j) = v0 (ix3 0 i j) + v1 (ix3 0 i j) + v2 (ix3 0 i j) + v3 (ix3 0 i j) + v4 (ix3 0 i j) + v5 (ix3 0 i j) + v6 (ix3 0 i j) + v7 (ix3 0 i j) := by
  pointwise [k0_pay3]

theorem sum_eq (x0 : Vec Ideal S8x2x1024 .f32) (x1 x2 x3 : Vec Ideal S2x1024 .f32) (i : Fin 2) (j : Fin 1024) : k0_pay5 x0 x1 x2 x3 (ix2 i j) = total (n := 8) (R := 2) (C := 1024) x0 (ix2 i j) :=
  (pay _ _ _ _ _ _ _ _ i j).trans (total_of_parts x0 i j (by decide))

theorem moment_eq (x0 : Vec Ideal S8x2x1024 .f32) (x1 x2 x3 : Vec Ideal S2x1024 .f32) : k0_pay6 x0 x1 x2 x3 = k0_pay4 (View.ld x0 r0_0) (View.ld x0 r0_1) (View.ld x0 r0_2) (View.ld x0 r0_3) (View.ld x0 r0_4) (View.ld x0 r0_5) (View.ld x0 r0_6) (View.ld x0 r0_7) x2 := by
  unfold k0_pay6
  rw [View.ld_unit_zero (by funext a; fin_cases a <;> rfl)]

theorem out4 (x0 : Vec Ideal S8x2x1024 .f32) (x1 x2 x3 : Vec Ideal S2x1024 .f32) : Value.G4 (F := Ideal) x0 x1 x2 x3 = grad x0 := by
  funext y
  obtain ⟨i, j, rfl⟩ : ∃ (i : Fin 2) (j : Fin 1024), y = ix2 i j := ⟨y 0, y 1, eq_ix2 (n0 := 2) (n1 := 1024) y⟩
  unfold grad
  rw [← sum_eq x0 x1 x2 x3]

theorem out5 (x0 : Vec Ideal S8x2x1024 .f32) (x1 x2 x3 : Vec Ideal S2x1024 .f32) : Value.G5 (F := Ideal) x0 x1 x2 x3 = delta x0 x1 x2 x3 := by
  funext y
  obtain ⟨i, j, rfl⟩ : ∃ (i : Fin 2) (j : Fin 1024), y = ix2 i j := ⟨y 0, y 1, eq_ix2 (n0 := 2) (n1 := 1024) y⟩
  unfold delta grad
  rw [← sum_eq x0 x1 x2 x3]
  show k0_pay2 _ (k0_pay6 x0 x1 x2 x3) _ _ (ix2 i j) = _
  rw [moment_eq]; rfl

theorem out6 (x0 : Vec Ideal S8x2x1024 .f32) (x1 x2 x3 : Vec Ideal S2x1024 .f32) : Value.G6 (F := Ideal) x0 x1 x2 x3 = moment1 x0 x2 := by
  funext y
  obtain ⟨i, j, rfl⟩ : ∃ (i : Fin 2) (j : Fin 1024), y = ix2 i j := ⟨y 0, y 1, eq_ix2 (n0 := 2) (n1 := 1024) y⟩
  unfold moment1 grad
  rw [← sum_eq x0 x1 x2 x3]
  show k0_pay6 x0 x1 x2 x3 (ix2 i j) = _
  rw [moment_eq]; rfl

theorem out7 (x0 : Vec Ideal S8x2x1024 .f32) (x1 x2 x3 : Vec Ideal S2x1024 .f32) : Value.G7 (F := Ideal) x0 x1 x2 x3 = moment2 x0 x3 := by
  funext y
  obtain ⟨i, j, rfl⟩ : ∃ (i : Fin 2) (j : Fin 1024), y = ix2 i j := ⟨y 0, y 1, eq_ix2 (n0 := 2) (n1 := 1024) y⟩
  unfold moment2 grad
  rw [← sum_eq x0 x1 x2 x3]
  rfl

open Cert.Reference36Ideal.Read

theorem ref_grad (p : S8x2x1024.Idx → EReal) : val_main_v0 (F := Ideal) p = grad p := by
  funext y
  rw [val_main_v0_apply]
  exact total_of_sum (n := 8) (R := 2) (C := 1024) p _ y fun k => eq_ix3 (n0 := 8) (n1 := 2) (n2 := 1024) _

theorem ref_moment1 (p : S8x2x1024.Idx → EReal) (m : S2x1024.Idx → EReal) : val_main_v5 (F := Ideal) p m = moment1 p m := by
  unfold moment1; rw [← ref_grad]; rfl

theorem ref_moment2 (p : S8x2x1024.Idx → EReal) (v : S2x1024.Idx → EReal) : val_main_v11 (F := Ideal) p v = moment2 p v := by
  unfold moment2; rw [← ref_grad]; rfl

theorem ref_delta (p : S8x2x1024.Idx → EReal) (w m v : S2x1024.Idx → EReal) : val_main_v24 (F := Ideal) p w m v = delta p w m v := by
  funext y
  unfold delta
  rw [step_div, ← ref_grad]; rfl

theorem frame_ideal : Cert.quiescent_Kernel36Ideal := fun m ρ _ => Cert.Kernel36Ideal.Gen.frame m ρ

theorem frame_reference : Cert.quiescent_Reference36Ideal := fun m ρ _ =>
  (θ_run Cert.Reference36Ideal.defs _ _).mono (fun r h => ⟨fun c => (h c).2.2.2.2, sem_eq_zero_of_no_sems (by decide) r.2⟩)
    (Cert.Reference36Ideal.Value.run (F := Ideal) m ρ)

theorem equal : Cert.algebraic_Kernel36Ideal_Reference36Ideal := by
  intro m ρ m' ρ' _ hargs
  refine ⟨fun c => grad (m ((c.tc : Thread nD τ).loc main_arg0)), fun c => delta (m ((c.tc : Thread nD τ).loc main_arg0)) (m ((c.tc : Thread nD τ).loc main_arg1)) (m ((c.tc : Thread nD τ).loc main_arg2)) (m ((c.tc : Thread nD τ).loc main_arg3)), fun c => moment1 (m ((c.tc : Thread nD τ).loc main_arg0)) (m ((c.tc : Thread nD τ).loc main_arg2)), fun c => moment2 (m ((c.tc : Thread nD τ).loc main_arg0)) (m ((c.tc : Thread nD τ).loc main_arg3)), ?_, ?_⟩
  · exact (θ_run Cert.Kernel36Ideal.defs _ _).mono (fun r h c => ⟨(h c).1.trans (out4 _ _ _ _), (h c).2.1.trans (out5 _ _ _ _), (h c).2.2.1.trans (out6 _ _ _ _), (h c).2.2.2.1.trans (out7 _ _ _ _), (h c).2.2.2.2⟩) (Cert.Kernel36Ideal.Value.run m ρ)
  · refine (θ_run Cert.Reference36Ideal.defs _ _).mono (fun r h c => ?_) (Cert.Reference36Ideal.Value.run (F := Ideal) m' ρ')
    obtain ⟨h0, h1, h2, h3⟩ := hargs c
    beta_reduce
    rw [← h0, ← h1, ← h2, ← h3]
    exact ⟨((h c).1.trans (val_main_v0_eq _)).trans (ref_grad _), ((h c).2.1.trans (val_main_v24_eq _ _ _ _)).trans (ref_delta _ _ _ _), ((h c).2.2.1.trans (val_main_v5_eq _ _)).trans (ref_moment1 _ _), ((h c).2.2.2.1.trans (val_main_v11_eq _ _)).trans (ref_moment2 _ _), (h c).2.2.2.2⟩

end Cert.Kernel36Ideal.Adam

end
-- ==== Proof.Adam.AttnSinks.lean ====
/-
  AdamW's step on the attention's sinks: the call's results are the sum of the parts of the gradient and the step from it.
-/
module

public import proofs.«01_k».proof.Proof.Ffn.Base
public import proofs.«01_k».proof.Proof.Adam.Base
public import proofs.«01_k».proof.Proof.Gen.Kernel37Ideal.Value
public import proofs.«01_k».proof.Proof.Gen.Reference37Ideal.Run
public import proofs.«01_k».proof.Proof.Gen.Reference37Ideal.Read

@[expose] public section

set_option maxRecDepth 16384

noncomputable section

namespace Cert.Kernel37Ideal.Adam

open Cert.Kernel37Ideal Cert.Kernel37Ideal.Gen
open Idealize.ShloMosaic.Tactic
open Cert.Adam
open Idealize.ShloMosaic Idealize.ShloMosaic.TcCoe Idealize.SL.Sem Idealize.ShloMosaic.StableHlo
open Idealize.ShloMosaic.Pipeline (Dat)

/-- The sum of the parts of the gradient. -/
abbrev grad (p : S8x2x16.Idx → EReal) : S2x16.Idx → EReal := total (n := 8) (R := 2) (C := 16) p

/-- The change of the weight. -/
abbrev delta (p : S8x2x16.Idx → EReal) (w m v : S2x16.Idx → EReal) : S2x16.Idx → EReal := fun y => step (grad p y) (w y) (m y) (v y)

/-- The first moment. -/
abbrev moment1 (p : S8x2x16.Idx → EReal) (m : S2x16.Idx → EReal) : S2x16.Idx → EReal := fun y => newM (grad p y) (m y)

/-- The second moment. -/
abbrev moment2 (p : S8x2x16.Idx → EReal) (v : S2x16.Idx → EReal) : S2x16.Idx → EReal := fun y => newV (grad p y) (v y)

/-- The call adds its parts. -/
theorem pay (v0 v1 v2 v3 v4 v5 v6 v7 : Vec Ideal S1x2x16 .f32) (i : Fin 2) (j : Fin 16) : k0_pay3 v0 v1 v2 v3 v4 v5 v6 v7 (ix2 i j) = v0 (ix3 0 i j) + v1 (ix3 0 i j) + v2 (ix3 0 i j) + v3 (ix3 0 i j) + v4 (ix3 0 i j) + v5 (ix3 0 i j) + v6 (ix3 0 i j) + v7 (ix3 0 i j) := by
  pointwise [k0_pay3]

theorem sum_eq (x0 : Vec Ideal S8x2x16 .f32) (x1 x2 x3 : Vec Ideal S2x16 .f32) (i : Fin 2) (j : Fin 16) : k0_pay5 x0 x1 x2 x3 (ix2 i j) = total (n := 8) (R := 2) (C := 16) x0 (ix2 i j) :=
  (pay _ _ _ _ _ _ _ _ i j).trans (total_of_parts x0 i j (by decide))

theorem moment_eq (x0 : Vec Ideal S8x2x16 .f32) (x1 x2 x3 : Vec Ideal S2x16 .f32) : k0_pay6 x0 x1 x2 x3 = k0_pay4 (View.ld x0 r0_0) (View.ld x0 r0_1) (View.ld x0 r0_2) (View.ld x0 r0_3) (View.ld x0 r0_4) (View.ld x0 r0_5) (View.ld x0 r0_6) (View.ld x0 r0_7) x2 := by
  unfold k0_pay6
  rw [View.ld_unit_zero (by funext a; fin_cases a <;> rfl)]

theorem out4 (x0 : Vec Ideal S8x2x16 .f32) (x1 x2 x3 : Vec Ideal S2x16 .f32) : Value.G4 (F := Ideal) x0 x1 x2 x3 = grad x0 := by
  funext y
  obtain ⟨i, j, rfl⟩ : ∃ (i : Fin 2) (j : Fin 16), y = ix2 i j := ⟨y 0, y 1, eq_ix2 (n0 := 2) (n1 := 16) y⟩
  unfold grad
  rw [← sum_eq x0 x1 x2 x3]

theorem out5 (x0 : Vec Ideal S8x2x16 .f32) (x1 x2 x3 : Vec Ideal S2x16 .f32) : Value.G5 (F := Ideal) x0 x1 x2 x3 = delta x0 x1 x2 x3 := by
  funext y
  obtain ⟨i, j, rfl⟩ : ∃ (i : Fin 2) (j : Fin 16), y = ix2 i j := ⟨y 0, y 1, eq_ix2 (n0 := 2) (n1 := 16) y⟩
  unfold delta grad
  rw [← sum_eq x0 x1 x2 x3]
  show k0_pay2 _ (k0_pay6 x0 x1 x2 x3) _ _ (ix2 i j) = _
  rw [moment_eq]; rfl

theorem out6 (x0 : Vec Ideal S8x2x16 .f32) (x1 x2 x3 : Vec Ideal S2x16 .f32) : Value.G6 (F := Ideal) x0 x1 x2 x3 = moment1 x0 x2 := by
  funext y
  obtain ⟨i, j, rfl⟩ : ∃ (i : Fin 2) (j : Fin 16), y = ix2 i j := ⟨y 0, y 1, eq_ix2 (n0 := 2) (n1 := 16) y⟩
  unfold moment1 grad
  rw [← sum_eq x0 x1 x2 x3]
  show k0_pay6 x0 x1 x2 x3 (ix2 i j) = _
  rw [moment_eq]; rfl

theorem out7 (x0 : Vec Ideal S8x2x16 .f32) (x1 x2 x3 : Vec Ideal S2x16 .f32) : Value.G7 (F := Ideal) x0 x1 x2 x3 = moment2 x0 x3 := by
  funext y
  obtain ⟨i, j, rfl⟩ : ∃ (i : Fin 2) (j : Fin 16), y = ix2 i j := ⟨y 0, y 1, eq_ix2 (n0 := 2) (n1 := 16) y⟩
  unfold moment2 grad
  rw [← sum_eq x0 x1 x2 x3]
  rfl

open Cert.Reference37Ideal.Read

theorem ref_grad (p : S8x2x16.Idx → EReal) : val_main_v0 (F := Ideal) p = grad p := by
  funext y
  rw [val_main_v0_apply]
  exact total_of_sum (n := 8) (R := 2) (C := 16) p _ y fun k => eq_ix3 (n0 := 8) (n1 := 2) (n2 := 16) _

theorem ref_moment1 (p : S8x2x16.Idx → EReal) (m : S2x16.Idx → EReal) : val_main_v5 (F := Ideal) p m = moment1 p m := by
  unfold moment1; rw [← ref_grad]; rfl

theorem ref_moment2 (p : S8x2x16.Idx → EReal) (v : S2x16.Idx → EReal) : val_main_v11 (F := Ideal) p v = moment2 p v := by
  unfold moment2; rw [← ref_grad]; rfl

theorem ref_delta (p : S8x2x16.Idx → EReal) (w m v : S2x16.Idx → EReal) : val_main_v24 (F := Ideal) p w m v = delta p w m v := by
  funext y
  unfold delta
  rw [step_div, ← ref_grad]; rfl

theorem frame_ideal : Cert.quiescent_Kernel37Ideal := fun m ρ _ => Cert.Kernel37Ideal.Gen.frame m ρ

theorem frame_reference : Cert.quiescent_Reference37Ideal := fun m ρ _ =>
  (θ_run Cert.Reference37Ideal.defs _ _).mono (fun r h => ⟨fun c => (h c).2.2.2.2, sem_eq_zero_of_no_sems (by decide) r.2⟩)
    (Cert.Reference37Ideal.Value.run (F := Ideal) m ρ)

theorem equal : Cert.algebraic_Kernel37Ideal_Reference37Ideal := by
  intro m ρ m' ρ' _ hargs
  refine ⟨fun c => grad (m ((c.tc : Thread nD τ).loc main_arg0)), fun c => delta (m ((c.tc : Thread nD τ).loc main_arg0)) (m ((c.tc : Thread nD τ).loc main_arg1)) (m ((c.tc : Thread nD τ).loc main_arg2)) (m ((c.tc : Thread nD τ).loc main_arg3)), fun c => moment1 (m ((c.tc : Thread nD τ).loc main_arg0)) (m ((c.tc : Thread nD τ).loc main_arg2)), fun c => moment2 (m ((c.tc : Thread nD τ).loc main_arg0)) (m ((c.tc : Thread nD τ).loc main_arg3)), ?_, ?_⟩
  · exact (θ_run Cert.Kernel37Ideal.defs _ _).mono (fun r h c => ⟨(h c).1.trans (out4 _ _ _ _), (h c).2.1.trans (out5 _ _ _ _), (h c).2.2.1.trans (out6 _ _ _ _), (h c).2.2.2.1.trans (out7 _ _ _ _), (h c).2.2.2.2⟩) (Cert.Kernel37Ideal.Value.run m ρ)
  · refine (θ_run Cert.Reference37Ideal.defs _ _).mono (fun r h c => ?_) (Cert.Reference37Ideal.Value.run (F := Ideal) m' ρ')
    obtain ⟨h0, h1, h2, h3⟩ := hargs c
    beta_reduce
    rw [← h0, ← h1, ← h2, ← h3]
    exact ⟨((h c).1.trans (val_main_v0_eq _)).trans (ref_grad _), ((h c).2.1.trans (val_main_v24_eq _ _ _ _)).trans (ref_delta _ _ _ _), ((h c).2.2.1.trans (val_main_v5_eq _ _)).trans (ref_moment1 _ _), ((h c).2.2.2.1.trans (val_main_v11_eq _ _)).trans (ref_moment2 _ _), (h c).2.2.2.2⟩

end Cert.Kernel37Ideal.Adam

end
-- ==== Proof.Adam.SsmIn.lean ====
/-
  AdamW's step on the mixer's input projection: the call's results are the sum of the parts of the gradient and the step from it.
-/
module

public import proofs.«01_k».proof.Proof.Ffn.Base
public import proofs.«01_k».proof.Proof.Adam.Base
public import proofs.«01_k».proof.Proof.Gen.Kernel38Ideal.Value
public import proofs.«01_k».proof.Proof.Gen.Reference38Ideal.Run
public import proofs.«01_k».proof.Proof.Gen.Reference38Ideal.Read

@[expose] public section

set_option maxRecDepth 16384

noncomputable section

namespace Cert.Kernel38Ideal.Adam

open Cert.Kernel38Ideal Cert.Kernel38Ideal.Gen
open Idealize.ShloMosaic.Tactic
open Cert.Adam
open Idealize.ShloMosaic Idealize.ShloMosaic.TcCoe Idealize.SL.Sem Idealize.ShloMosaic.StableHlo
open Idealize.ShloMosaic.Pipeline (Dat)

/-- The sum of the parts of the gradient. -/
abbrev grad (p : S8x1544x1024.Idx → EReal) : S1544x1024.Idx → EReal := total (n := 8) (R := 1544) (C := 1024) p

/-- The change of the weight. -/
abbrev delta (p : S8x1544x1024.Idx → EReal) (w m v : S1544x1024.Idx → EReal) : S1544x1024.Idx → EReal := fun y => step (grad p y) (w y) (m y) (v y)

/-- The first moment. -/
abbrev moment1 (p : S8x1544x1024.Idx → EReal) (m : S1544x1024.Idx → EReal) : S1544x1024.Idx → EReal := fun y => newM (grad p y) (m y)

/-- The second moment. -/
abbrev moment2 (p : S8x1544x1024.Idx → EReal) (v : S1544x1024.Idx → EReal) : S1544x1024.Idx → EReal := fun y => newV (grad p y) (v y)

/-- The call adds its parts. -/
theorem pay (v0 v1 v2 v3 v4 v5 v6 v7 : Vec Ideal S1x1544x128 .bf16) (i : Fin 1544) (j : Fin 128) : k0_pay4 v0 v1 v2 v3 v4 v5 v6 v7 (ix2 i j) = v0 (ix3 0 i j) + v1 (ix3 0 i j) + v2 (ix3 0 i j) + v3 (ix3 0 i j) + v4 (ix3 0 i j) + v5 (ix3 0 i j) + v6 (ix3 0 i j) + v7 (ix3 0 i j) := by
  pointwise [k0_pay4]

theorem sum_eq (x0 : Vec Ideal S8x1544x128 .bf16) (x1 x2 x3 : Vec Ideal S1544x128 .f32) (i : Fin 1544) (j : Fin 128) : k0_pay5 x0 x1 x2 x3 (ix2 i j) = total (n := 8) (R := 1544) (C := 128) x0 (ix2 i j) :=
  (pay _ _ _ _ _ _ _ _ i j).trans (total_of_parts x0 i j (by decide))

theorem out4 (x0 : Vec Ideal S8x1544x128 .bf16) (x1 x2 x3 : Vec Ideal S1544x128 .f32) (i : Fin 1544) (j : Fin 128) : out0_4 x0 x1 x2 x3 (ix2 i j) = total (n := 8) (R := 1544) (C := 128) x0 (ix2 i j) := by
  unfold out0_4
  frame_out
  rw [← sum_eq x0 x1 x2 x3]

theorem out5 (x0 : Vec Ideal S8x1544x128 .bf16) (x1 x2 x3 : Vec Ideal S1544x128 .f32) (i : Fin 1544) (j : Fin 128) : out0_5 x0 x1 x2 x3 (ix2 i j) = step (total (n := 8) (R := 1544) (C := 128) x0 (ix2 i j)) (x1 (ix2 i j)) (x2 (ix2 i j)) (x3 (ix2 i j)) := by
  unfold out0_5
  frame_out
  rw [← sum_eq x0 x1 x2 x3]
  rfl

theorem out6 (x0 : Vec Ideal S8x1544x128 .bf16) (x1 x2 x3 : Vec Ideal S1544x128 .f32) (i : Fin 1544) (j : Fin 128) : out0_6 x0 x1 x2 x3 (ix2 i j) = newM (total (n := 8) (R := 1544) (C := 128) x0 (ix2 i j)) (x2 (ix2 i j)) := by
  unfold out0_6
  frame_out
  rw [← sum_eq x0 x1 x2 x3]
  rfl

theorem out7 (x0 : Vec Ideal S8x1544x128 .bf16) (x1 x2 x3 : Vec Ideal S1544x128 .f32) (i : Fin 1544) (j : Fin 128) : out0_7 x0 x1 x2 x3 (ix2 i j) = newV (total (n := 8) (R := 1544) (C := 128) x0 (ix2 i j)) (x3 (ix2 i j)) := by
  unfold out0_7
  frame_out
  rw [← sum_eq x0 x1 x2 x3]
  rfl

variable (m : (ℓ : Loc nD τ sig) → Buf (Elt Ideal) ℓ) (ρ : Dev nD → PrngReg) (c : Dev nD)

theorem index0 : ∀ t : Fin cfg0.N, win0_0.index t = ![0, 0, t.val] := (by decide +kernel : ∀ t : Fin grid0.N, win0_0.index t = ![0, 0, t.val])
theorem index1 : ∀ t : Fin cfg0.N, win0_1.index t = ![0, t.val] := (by decide +kernel : ∀ t : Fin grid0.N, win0_1.index t = ![0, t.val])
theorem index2 : ∀ t : Fin cfg0.N, win0_2.index t = ![0, t.val] := (by decide +kernel : ∀ t : Fin grid0.N, win0_2.index t = ![0, t.val])
theorem index3 : ∀ t : Fin cfg0.N, win0_3.index t = ![0, t.val] := (by decide +kernel : ∀ t : Fin grid0.N, win0_3.index t = ![0, t.val])
theorem index4 : ∀ t : Fin cfg0.N, win0_4.index t = ![0, t.val] := (by decide +kernel : ∀ t : Fin grid0.N, win0_4.index t = ![0, t.val])
theorem index5 : ∀ t : Fin cfg0.N, win0_5.index t = ![0, t.val] := (by decide +kernel : ∀ t : Fin grid0.N, win0_5.index t = ![0, t.val])
theorem index6 : ∀ t : Fin cfg0.N, win0_6.index t = ![0, t.val] := (by decide +kernel : ∀ t : Fin grid0.N, win0_6.index t = ![0, t.val])
theorem index7 : ∀ t : Fin cfg0.N, win0_7.index t = ![0, t.val] := (by decide +kernel : ∀ t : Fin grid0.N, win0_7.index t = ![0, t.val])

theorem total4 (t : Fin cfg0.N) (i : Fin 1544) (j : Fin 128) : total (n := 8) (R := 1544) (C := 128) (iblk m c 0 t) (ix2 i j) = grad (m ((c : Thread nD τ).loc main_arg0)) (((View.whole main_v0_0).slice (win0_4.rect t)).emb (ix2 i j)) := by
  refine Finset.sum_congr rfl fun k _ => ?_
  blk_simp [iblk]
  rw [V_main_arg0]; refine congrArg _ ?_
  blk_ext [index0, index4]

theorem total5 (t : Fin cfg0.N) (i : Fin 1544) (j : Fin 128) : total (n := 8) (R := 1544) (C := 128) (iblk m c 0 t) (ix2 i j) = grad (m ((c : Thread nD τ).loc main_arg0)) (((View.whole main_v0_1).slice (win0_5.rect t)).emb (ix2 i j)) := by
  refine Finset.sum_congr rfl fun k _ => ?_
  blk_simp [iblk]
  rw [V_main_arg0]; refine congrArg _ ?_
  blk_ext [index0, index5]

theorem arg1_5 (t : Fin cfg0.N) (i : Fin 1544) (j : Fin 128) : (iblk m c 1 t (ix2 i j) : EReal) = (m ((c : Thread nD τ).loc main_arg1) : S1544x1024.Idx → EReal) (((View.whole main_v0_1).slice (win0_5.rect t)).emb (ix2 i j)) := by
  blk_simp [iblk]
  rw [V_main_arg1]; refine congrArg _ ?_
  blk_ext [index1, index5]

theorem arg2_5 (t : Fin cfg0.N) (i : Fin 1544) (j : Fin 128) : (iblk m c 2 t (ix2 i j) : EReal) = (m ((c : Thread nD τ).loc main_arg2) : S1544x1024.Idx → EReal) (((View.whole main_v0_1).slice (win0_5.rect t)).emb (ix2 i j)) := by
  blk_simp [iblk]
  rw [V_main_arg2]; refine congrArg _ ?_
  blk_ext [index2, index5]

theorem arg3_5 (t : Fin cfg0.N) (i : Fin 1544) (j : Fin 128) : (iblk m c 3 t (ix2 i j) : EReal) = (m ((c : Thread nD τ).loc main_arg3) : S1544x1024.Idx → EReal) (((View.whole main_v0_1).slice (win0_5.rect t)).emb (ix2 i j)) := by
  blk_simp [iblk]
  rw [V_main_arg3]; refine congrArg _ ?_
  blk_ext [index3, index5]

theorem total6 (t : Fin cfg0.N) (i : Fin 1544) (j : Fin 128) : total (n := 8) (R := 1544) (C := 128) (iblk m c 0 t) (ix2 i j) = grad (m ((c : Thread nD τ).loc main_arg0)) (((View.whole main_v0_2).slice (win0_6.rect t)).emb (ix2 i j)) := by
  refine Finset.sum_congr rfl fun k _ => ?_
  blk_simp [iblk]
  rw [V_main_arg0]; refine congrArg _ ?_
  blk_ext [index0, index6]

theorem arg2_6 (t : Fin cfg0.N) (i : Fin 1544) (j : Fin 128) : (iblk m c 2 t (ix2 i j) : EReal) = (m ((c : Thread nD τ).loc main_arg2) : S1544x1024.Idx → EReal) (((View.whole main_v0_2).slice (win0_6.rect t)).emb (ix2 i j)) := by
  blk_simp [iblk]
  rw [V_main_arg2]; refine congrArg _ ?_
  blk_ext [index2, index6]

theorem total7 (t : Fin cfg0.N) (i : Fin 1544) (j : Fin 128) : total (n := 8) (R := 1544) (C := 128) (iblk m c 0 t) (ix2 i j) = grad (m ((c : Thread nD τ).loc main_arg0)) (((View.whole main_v0_3).slice (win0_7.rect t)).emb (ix2 i j)) := by
  refine Finset.sum_congr rfl fun k _ => ?_
  blk_simp [iblk]
  rw [V_main_arg0]; refine congrArg _ ?_
  blk_ext [index0, index7]

theorem arg3_7 (t : Fin cfg0.N) (i : Fin 1544) (j : Fin 128) : (iblk m c 3 t (ix2 i j) : EReal) = (m ((c : Thread nD τ).loc main_arg3) : S1544x1024.Idx → EReal) (((View.whole main_v0_3).slice (win0_7.rect t)).emb (ix2 i j)) := by
  blk_simp [iblk]
  rw [V_main_arg3]; refine congrArg _ ?_
  blk_ext [index3, index7]

theorem final4 : (dats m 0 c).arrAt 4 cfg0.N = grad (m ((c : Thread nD τ).loc main_arg0)) := by
  refine (dats m 0 c).arrAt_eq_of_covers 4 _ (by decide +kernel) fun t hf y => ?_
  blk_simp
  rw [after0_4]
  obtain ⟨i, j, rfl⟩ : ∃ (i : Fin 1544) (j : Fin 128), y = ix2 i j := ⟨y 0, y 1, eq_ix2 (n0 := 1544) (n1 := 128) y⟩
  exact (out4 _ _ _ _ i j).trans (total4 m c t i j)

theorem final5 : (dats m 0 c).arrAt 5 cfg0.N = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  obtain ⟨i, j, rfl⟩ : ∃ (i : Fin 1544) (j : Fin 128), y = ix2 i j := ⟨y 0, y 1, eq_ix2 (n0 := 1544) (n1 := 128) y⟩
  exact (out5 _ _ _ _ i j).trans (by rw [total5, arg1_5, arg2_5, arg3_5])

theorem final6 : (dats m 0 c).arrAt 6 cfg0.N = moment1 (m ((c : Thread nD τ).loc main_arg0)) (m ((c : Thread nD τ).loc main_arg2)) := by
  refine (dats m 0 c).arrAt_eq_of_covers 6 _ (by decide +kernel) fun t hf y => ?_
  blk_simp
  rw [after0_6]
  obtain ⟨i, j, rfl⟩ : ∃ (i : Fin 1544) (j : Fin 128), y = ix2 i j := ⟨y 0, y 1, eq_ix2 (n0 := 1544) (n1 := 128) y⟩
  exact (out6 _ _ _ _ i j).trans (congrArg₂ newM (total6 m c t i j) (arg2_6 m c t i j))

theorem final7 : (dats m 0 c).arrAt 7 cfg0.N = moment2 (m ((c : Thread nD τ).loc main_arg0)) (m ((c : Thread nD τ).loc main_arg3)) := by
  refine (dats m 0 c).arrAt_eq_of_covers 7 _ (by decide +kernel) fun t hf y => ?_
  blk_simp
  rw [after0_7]
  obtain ⟨i, j, rfl⟩ : ∃ (i : Fin 1544) (j : Fin 128), y = ix2 i j := ⟨y 0, y 1, eq_ix2 (n0 := 1544) (n1 := 128) y⟩
  exact (out7 _ _ _ _ i j).trans (congrArg₂ newV (total7 m c t i j) (arg3_7 m c t i j))

open Cert.Reference38Ideal.Read

theorem ref_grad (p : S8x1544x1024.Idx → EReal) : val_main_v1 (F := Ideal) p = grad p := by
  funext y
  rw [val_main_v1_apply]
  exact total_of_sum (n := 8) (R := 1544) (C := 1024) p _ y fun k => eq_ix3 (n0 := 8) (n1 := 1544) (n2 := 1024) _

theorem ref_moment1 (p : S8x1544x1024.Idx → EReal) (m : S1544x1024.Idx → EReal) : val_main_v6 (F := Ideal) p m = moment1 p m := by
  unfold moment1; rw [← ref_grad]; rfl

theorem ref_moment2 (p : S8x1544x1024.Idx → EReal) (v : S1544x1024.Idx → EReal) : val_main_v12 (F := Ideal) p v = moment2 p v := by
  unfold moment2; rw [← ref_grad]; rfl

theorem ref_delta (p : S8x1544x1024.Idx → EReal) (w m v : S1544x1024.Idx → EReal) : val_main_v25 (F := Ideal) p w m v = delta p w m v := by
  funext y
  unfold delta
  rw [step_div, ← ref_grad]; rfl

theorem frame_ideal : Cert.quiescent_Kernel38Ideal := fun m ρ _ => Cert.Kernel38Ideal.Gen.frame m ρ

theorem frame_reference : Cert.quiescent_Reference38Ideal := fun m ρ _ =>
  (θ_run Cert.Reference38Ideal.defs _ _).mono (fun r h => ⟨fun c => (h c).2.2.2.2, sem_eq_zero_of_no_sems (by decide) r.2⟩)
    (Cert.Reference38Ideal.Value.run (F := Ideal) m ρ)

theorem equal : Cert.algebraic_Kernel38Ideal_Reference38Ideal := by
  intro m ρ m' ρ' _ hargs
  refine ⟨fun c => grad (m ((c.tc : Thread nD τ).loc main_arg0)), fun c => delta (m ((c.tc : Thread nD τ).loc main_arg0)) (m ((c.tc : Thread nD τ).loc main_arg1)) (m ((c.tc : Thread nD τ).loc main_arg2)) (m ((c.tc : Thread nD τ).loc main_arg3)), fun c => moment1 (m ((c.tc : Thread nD τ).loc main_arg0)) (m ((c.tc : Thread nD τ).loc main_arg2)), fun c => moment2 (m ((c.tc : Thread nD τ).loc main_arg0)) (m ((c.tc : Thread nD τ).loc main_arg3)), ?_, ?_⟩
  · exact (θ_run Cert.Kernel38Ideal.defs _ _).mono (fun r h c => ⟨(h c).1.trans (final4 m c), (h c).2.1.trans (final5 m c), (h c).2.2.1.trans (final6 m c), (h c).2.2.2.1.trans (final7 m c), (h c).2.2.2.2⟩) (Cert.Kernel38Ideal.Value.run_blocks m ρ)
  · refine (θ_run Cert.Reference38Ideal.defs _ _).mono (fun r h c => ?_) (Cert.Reference38Ideal.Value.run (F := Ideal) m' ρ')
    obtain ⟨h0, h1, h2, h3⟩ := hargs c
    beta_reduce
    rw [← h0, ← h1, ← h2, ← h3]
    exact ⟨((h c).1.trans (val_main_v1_eq _)).trans (ref_grad _), ((h c).2.1.trans (val_main_v25_eq _ _ _ _)).trans (ref_delta _ _ _ _), ((h c).2.2.1.trans (val_main_v6_eq _ _)).trans (ref_moment1 _ _), ((h c).2.2.2.1.trans (val_main_v12_eq _ _)).trans (ref_moment2 _ _), (h c).2.2.2.2⟩

end Cert.Kernel38Ideal.Adam

end
-- ==== Proof.Adam.SsmOut.lean ====
/-
  AdamW's step on the weight of the scan's output: the kernel writes the two halves of each result by two calls, the second in place over
  the first; the reference takes the step from the sum of the parts joined.
-/
module

public import proofs.«01_k».proof.Proof.Ffn.Base
public import proofs.«01_k».proof.Proof.Adam.Base
public import proofs.«01_k».proof.Proof.Gen.Kernel39Ideal.Frame
public import proofs.«01_k».proof.Proof.Gen.Reference39Ideal.Run
public import proofs.«01_k».proof.Proof.Gen.Reference39Ideal.Read

@[expose] public section

set_option maxRecDepth 16384

noncomputable section

namespace Cert.Kernel39Ideal.Adam

open Cert.Kernel39Ideal Cert.Kernel39Ideal.Gen
open Idealize.ShloMosaic.Tactic
open Cert.Adam
open Idealize.ShloMosaic Idealize.ShloMosaic.TcCoe Idealize.SL.Sem Idealize.ShloMosaic.StableHlo
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

local notation "𝕄" => MT nD τ sig Unit (Elt Ideal) ℕ (UR sig nD τ) ℕ

/-- The parts of the gradients of the two halves, joined. -/
def joined (p0 p1 : S8x256x1024.Idx → EReal) : (⟨3, ![8, 512, 1024]⟩ : Shape).Idx → EReal := fun x =>
  if h : (x 1).val < 256 then p0 (ix3 (x 0) ⟨(x 1).val, h⟩ (x 2)) else p1 (ix3 (x 0) ⟨(x 1).val - 256, by have : (x 1).val < 512 := (x 1).isLt; omega⟩ (x 2))

theorem joined_lo (p0 p1 : S8x256x1024.Idx → EReal) (k : Fin 8) (i : Fin 512) (j : Fin 1024) (h : i.val < 256) : joined p0 p1 (ix3 k i j) = p0 (ix3 k ⟨i.val, h⟩ j) := dif_pos h

theorem joined_hi (p0 p1 : S8x256x1024.Idx → EReal) (k : Fin 8) (i : Fin 512) (j : Fin 1024) (h : 256 ≤ i.val) : joined p0 p1 (ix3 k i j) = p1 (ix3 k ⟨i.val - 256, by omega⟩ j) := dif_neg (not_lt.2 h)

/-- The sum of the parts of the gradient. -/
abbrev grad (p0 p1 : S8x256x1024.Idx → EReal) : S512x1024.Idx → EReal := total (n := 8) (R := 512) (C := 1024) (joined p0 p1)

/-- The change of the weight. -/
abbrev delta (p0 p1 : S8x256x1024.Idx → EReal) (w m v : S512x1024.Idx → EReal) : S512x1024.Idx → EReal := fun y => step (grad p0 p1 y) (w y) (m y) (v y)

/-- The first moment. -/
abbrev moment1 (p0 p1 : S8x256x1024.Idx → EReal) (m : S512x1024.Idx → EReal) : S512x1024.Idx → EReal := fun y => newM (grad p0 p1 y) (m y)

/-- The second moment. -/
abbrev moment2 (p0 p1 : S8x256x1024.Idx → EReal) (v : S512x1024.Idx → EReal) : S512x1024.Idx → EReal := fun y => newV (grad p0 p1 y) (v y)

/-- A call adds its parts. -/
theorem pay (v0 v1 v2 v3 v4 v5 v6 v7 : Vec Ideal S1x128x1024 .bf16) (i : Fin 128) (j : Fin 1024) : k0_pay4 v0 v1 v2 v3 v4 v5 v6 v7 (ix2 i j) = v0 (ix3 0 i j) + v1 (ix3 0 i j) + v2 (ix3 0 i j) + v3 (ix3 0 i j) + v4 (ix3 0 i j) + v5 (ix3 0 i j) + v6 (ix3 0 i j) + v7 (ix3 0 i j) := by
  pointwise [k0_pay4]

theorem sum_eq (x0 : Vec Ideal S8x128x1024 .bf16) (x1 x2 x3 : Vec Ideal S128x1024 .f32) (i : Fin 128) (j : Fin 1024) : k0_pay5 x0 x1 x2 x3 (ix2 i j) = total (n := 8) (R := 128) (C := 1024) x0 (ix2 i j) :=
  (pay _ _ _ _ _ _ _ _ i j).trans (total_of_parts x0 i j (by decide))

theorem out4 (x0 : Vec Ideal S8x128x1024 .bf16) (x1 x2 x3 : Vec Ideal S128x1024 .f32) (i : Fin 128) (j : Fin 1024) : out0_4 x0 x1 x2 x3 (ix2 i j) = total (n := 8) (R := 128) (C := 1024) x0 (ix2 i j) := by
  unfold out0_4
  frame_out
  rw [← sum_eq x0 x1 x2 x3]

theorem out5 (x0 : Vec Ideal S8x128x1024 .bf16) (x1 x2 x3 : Vec Ideal S128x1024 .f32) (i : Fin 128) (j : Fin 1024) : out0_5 x0 x1 x2 x3 (ix2 i j) = step (total (n := 8) (R := 128) (C := 1024) x0 (ix2 i j)) (x1 (ix2 i j)) (x2 (ix2 i j)) (x3 (ix2 i j)) := by
  unfold out0_5
  frame_out
  rw [← sum_eq x0 x1 x2 x3]
  rfl

theorem out6 (x0 : Vec Ideal S8x128x1024 .bf16) (x1 x2 x3 : Vec Ideal S128x1024 .f32) (i : Fin 128) (j : Fin 1024) : out0_6 x0 x1 x2 x3 (ix2 i j) = newM (total (n := 8) (R := 128) (C := 1024) x0 (ix2 i j)) (x2 (ix2 i j)) := by
  unfold out0_6
  frame_out
  rw [← sum_eq x0 x1 x2 x3]
  rfl

theorem out7 (x0 : Vec Ideal S8x128x1024 .bf16) (x1 x2 x3 : Vec Ideal S128x1024 .f32) (i : Fin 128) (j : Fin 1024) : out0_7 x0 x1 x2 x3 (ix2 i j) = newV (total (n := 8) (R := 128) (C := 1024) x0 (ix2 i j)) (x3 (ix2 i j)) := by
  unfold out0_7
  frame_out
  rw [← sum_eq x0 x1 x2 x3]
  rfl

variable (m : (ℓ : Loc nD τ sig) → Buf (Elt Ideal) ℓ) (ρ : Dev nD → PrngReg) (c : Dev nD)

/-! What the second call's body leaves is what the first call's body leaves, at the second call's blocks. -/

theorem after_4 (t : Fin cfg1.N) (i : Fin 128) (j : Fin 1024) : ((dat1 (V2 m ρ) c).after 4 t : S128x1024.Idx → EReal) (ix2 i j) = out0_4 (iblk1 (V2 m ρ) c 0 t) (iblk1 (V2 m ρ) c 1 t) (iblk1 (V2 m ρ) c 2 t) (iblk1 (V2 m ρ) c 3 t) (ix2 i j) := by
  rw [after1_4]; unfold outsAt1 out0_4; frame_out
  rfl

theorem after_5 (t : Fin cfg1.N) (i : Fin 128) (j : Fin 1024) : ((dat1 (V2 m ρ) c).after 5 t : S128x1024.Idx → EReal) (ix2 i j) = out0_5 (iblk1 (V2 m ρ) c 0 t) (iblk1 (V2 m ρ) c 1 t) (iblk1 (V2 m ρ) c 2 t) (iblk1 (V2 m ρ) c 3 t) (ix2 i j) := by
  rw [after1_5]; unfold outsAt1 out0_5; frame_out
  rfl

theorem after_6 (t : Fin cfg1.N) (i : Fin 128) (j : Fin 1024) : ((dat1 (V2 m ρ) c).after 6 t : S128x1024.Idx → EReal) (ix2 i j) = out0_6 (iblk1 (V2 m ρ) c 0 t) (iblk1 (V2 m ρ) c 1 t) (iblk1 (V2 m ρ) c 2 t) (iblk1 (V2 m ρ) c 3 t) (ix2 i j) := by
  rw [after1_6]; unfold outsAt1 out0_6; frame_out
  rfl

theorem after_7 (t : Fin cfg1.N) (i : Fin 128) (j : Fin 1024) : ((dat1 (V2 m ρ) c).after 7 t : S128x1024.Idx → EReal) (ix2 i j) = out0_7 (iblk1 (V2 m ρ) c 0 t) (iblk1 (V2 m ρ) c 1 t) (iblk1 (V2 m ρ) c 2 t) (iblk1 (V2 m ρ) c 3 t) (ix2 i j) := by
  rw [after1_7]; unfold outsAt1 out0_7; frame_out
  rfl

/-! The second call reads the arguments, and writes over the arrays the first call left. -/

theorem V2_0 : V2 m ρ c main_arg0 = m ((c : Thread nD τ).loc main_arg0) := W2_args m ρ c main_arg0 (by decide)

theorem V2_2 : V2 m ρ c main_arg2 = m ((c : Thread nD τ).loc main_arg2) := W2_args m ρ c main_arg2 (by decide)

theorem V2_3 : V2 m ρ c main_arg3 = m ((c : Thread nD τ).loc main_arg3) := W2_args m ρ c main_arg3 (by decide)

theorem V2_4 : V2 m ρ c main_arg4 = m ((c : Thread nD τ).loc main_arg4) := W2_args m ρ c main_arg4 (by decide)

theorem V2_out4 : (V2 m ρ c main_v1_0 : S512x1024.Idx → EReal) = (dat0 (V0 m ρ) c).arrAt 4 cfg0.N := by
  refine Eq.trans ?_ (W1_arr m ρ c 4)
  unfold V2 W2
  simp only [hostOps1, List.flatten_cons, List.flatten_nil, List.append_nil, List.cons_append, List.nil_append]
  after_results
  rfl

theorem V2_out5 : (V2 m ρ c main_v1_1 : S512x1024.Idx → EReal) = (dat0 (V0 m ρ) c).arrAt 5 cfg0.N := by
  refine Eq.trans ?_ (W1_arr m ρ c 5)
  unfold V2 W2
  simp only [hostOps1, List.flatten_cons, List.flatten_nil, List.append_nil, List.cons_append, List.nil_append]
  after_results
  rfl

theorem V2_out6 : (V2 m ρ c main_v1_2 : S512x1024.Idx → EReal) = (dat0 (V0 m ρ) c).arrAt 6 cfg0.N := by
  refine Eq.trans ?_ (W1_arr m ρ c 6)
  unfold V2 W2
  simp only [hostOps1, List.flatten_cons, List.flatten_nil, List.append_nil, List.cons_append, List.nil_append]
  after_results
  rfl

theorem V2_out7 : (V2 m ρ c main_v1_3 : S512x1024.Idx → EReal) = (dat0 (V0 m ρ) c).arrAt 7 cfg0.N := by
  refine Eq.trans ?_ (W1_arr m ρ c 7)
  unfold V2 W2
  simp only [hostOps1, List.flatten_cons, List.flatten_nil, List.append_nil, List.cons_append, List.nil_append]
  after_results
  rfl

theorem index0_0 : ∀ t : Fin cfg0.N, win0_0.index t = ![0, t.val, 0] := (by decide +kernel : ∀ t : Fin grid0.N, win0_0.index t = ![0, t.val, 0])
theorem index0_1 : ∀ t : Fin cfg0.N, win0_1.index t = ![2 + t.val, 0] := (by decide +kernel : ∀ t : Fin grid0.N, win0_1.index t = ![2 + t.val, 0])
theorem index0_2 : ∀ t : Fin cfg0.N, win0_2.index t = ![2 + t.val, 0] := (by decide +kernel : ∀ t : Fin grid0.N, win0_2.index t = ![2 + t.val, 0])
theorem index0_3 : ∀ t : Fin cfg0.N, win0_3.index t = ![2 + t.val, 0] := (by decide +kernel : ∀ t : Fin grid0.N, win0_3.index t = ![2 + t.val, 0])
theorem index0_4 : ∀ t : Fin cfg0.N, win0_4.index t = ![2 + t.val, 0] := (by decide +kernel : ∀ t : Fin grid0.N, win0_4.index t = ![2 + t.val, 0])
theorem index0_5 : ∀ t : Fin cfg0.N, win0_5.index t = ![2 + t.val, 0] := (by decide +kernel : ∀ t : Fin grid0.N, win0_5.index t = ![2 + t.val, 0])
theorem index0_6 : ∀ t : Fin cfg0.N, win0_6.index t = ![2 + t.val, 0] := (by decide +kernel : ∀ t : Fin grid0.N, win0_6.index t = ![2 + t.val, 0])
theorem index0_7 : ∀ t : Fin cfg0.N, win0_7.index t = ![2 + t.val, 0] := (by decide +kernel : ∀ t : Fin grid0.N, win0_7.index t = ![2 + t.val, 0])
theorem index1_0 : ∀ t : Fin cfg1.N, win1_0.index t = ![0, t.val, 0] := (by decide +kernel : ∀ t : Fin grid1.N, win1_0.index t = ![0, t.val, 0])
theorem index1_1 : ∀ t : Fin cfg1.N, win1_1.index t = ![t.val, 0] := (by decide +kernel : ∀ t : Fin grid1.N, win1_1.index t = ![t.val, 0])
theorem index1_2 : ∀ t : Fin cfg1.N, win1_2.index t = ![t.val, 0] := (by decide +kernel : ∀ t : Fin grid1.N, win1_2.index t = ![t.val, 0])
theorem index1_3 : ∀ t : Fin cfg1.N, win1_3.index t = ![t.val, 0] := (by decide +kernel : ∀ t : Fin grid1.N, win1_3.index t = ![t.val, 0])
theorem index1_4 : ∀ t : Fin cfg1.N, win1_4.index t = ![t.val, 0] := (by decide +kernel : ∀ t : Fin grid1.N, win1_4.index t = ![t.val, 0])
theorem index1_5 : ∀ t : Fin cfg1.N, win1_5.index t = ![t.val, 0] := (by decide +kernel : ∀ t : Fin grid1.N, win1_5.index t = ![t.val, 0])
theorem index1_6 : ∀ t : Fin cfg1.N, win1_6.index t = ![t.val, 0] := (by decide +kernel : ∀ t : Fin grid1.N, win1_6.index t = ![t.val, 0])
theorem index1_7 : ∀ t : Fin cfg1.N, win1_7.index t = ![t.val, 0] := (by decide +kernel : ∀ t : Fin grid1.N, win1_7.index t = ![t.val, 0])

theorem total0_4 (t : Fin cfg0.N) (i : Fin 128) (j : Fin 1024) : total (n := 8) (R := 128) (C := 1024) (iblk0 (V0 m ρ) c 0 t) (ix2 i j) = grad (m ((c : Thread nD τ).loc main_arg0)) (m ((c : Thread nD τ).loc main_arg1)) (((View.whole main_v0_0).slice (win0_4.rect t)).emb (ix2 i j)) := by
  have hr : ((((View.whole main_v0_0).slice (win0_4.rect t)).emb (ix2 i j)) 0 : Fin 512).val = (2 + t.val) * 128 + i.val := by
    blk_simp [index0_4]
  have hi := i.isLt
  have ht : t.val < 2 := lt_of_lt_of_eq t.isLt (show cfg0.N = 2 from N_0)
  refine Finset.sum_congr rfl fun k _ => ?_
  refine Eq.trans ?_ (joined_hi _ _ k _ _ (by show 256 ≤ ((((View.whole main_v0_0).slice (win0_4.rect t)).emb (ix2 i j)) 0 : Fin 512).val; omega)).symm
  blk_simp [iblk0]
  refine congrArg _ ?_
  blk_ext [index0_0, index0_4]

theorem total0_5 (t : Fin cfg0.N) (i : Fin 128) (j : Fin 1024) : total (n := 8) (R := 128) (C := 1024) (iblk0 (V0 m ρ) c 0 t) (ix2 i j) = grad (m ((c : Thread nD τ).loc main_arg0)) (m ((c : Thread nD τ).loc main_arg1)) (((View.whole main_v0_1).slice (win0_5.rect t)).emb (ix2 i j)) := by
  have hr : ((((View.whole main_v0_1).slice (win0_5.rect t)).emb (ix2 i j)) 0 : Fin 512).val = (2 + t.val) * 128 + i.val := by
    blk_simp [index0_5]
  have hi := i.isLt
  have ht : t.val < 2 := lt_of_lt_of_eq t.isLt (show cfg0.N = 2 from N_0)
  refine Finset.sum_congr rfl fun k _ => ?_
  refine Eq.trans ?_ (joined_hi _ _ k _ _ (by show 256 ≤ ((((View.whole main_v0_1).slice (win0_5.rect t)).emb (ix2 i j)) 0 : Fin 512).val; omega)).symm
  blk_simp [iblk0]
  refine congrArg _ ?_
  blk_ext [index0_0, index0_5]

theorem arg0_1_5 (t : Fin cfg0.N) (i : Fin 128) (j : Fin 1024) : (iblk0 (V0 m ρ) c 1 t (ix2 i j) : EReal) = (m ((c : Thread nD τ).loc main_arg2) : S512x1024.Idx → EReal) (((View.whole main_v0_1).slice (win0_5.rect t)).emb (ix2 i j)) := by
  blk_simp [iblk0]
  refine congrArg _ ?_
  blk_ext [index0_1, index0_5]

theorem arg0_2_5 (t : Fin cfg0.N) (i : Fin 128) (j : Fin 1024) : (iblk0 (V0 m ρ) c 2 t (ix2 i j) : EReal) = (m ((c : Thread nD τ).loc main_arg3) : S512x1024.Idx → EReal) (((View.whole main_v0_1).slice (win0_5.rect t)).emb (ix2 i j)) := by
  blk_simp [iblk0]
  refine congrArg _ ?_
  blk_ext [index0_2, index0_5]

theorem arg0_3_5 (t : Fin cfg0.N) (i : Fin 128) (j : Fin 1024) : (iblk0 (V0 m ρ) c 3 t (ix2 i j) : EReal) = (m ((c : Thread nD τ).loc main_arg4) : S512x1024.Idx → EReal) (((View.whole main_v0_1).slice (win0_5.rect t)).emb (ix2 i j)) := by
  blk_simp [iblk0]
  refine congrArg _ ?_
  blk_ext [index0_3, index0_5]

theorem total0_6 (t : Fin cfg0.N) (i : Fin 128) (j : Fin 1024) : total (n := 8) (R := 128) (C := 1024) (iblk0 (V0 m ρ) c 0 t) (ix2 i j) = grad (m ((c : Thread nD τ).loc main_arg0)) (m ((c : Thread nD τ).loc main_arg1)) (((View.whole main_v0_2).slice (win0_6.rect t)).emb (ix2 i j)) := by
  have hr : ((((View.whole main_v0_2).slice (win0_6.rect t)).emb (ix2 i j)) 0 : Fin 512).val = (2 + t.val) * 128 + i.val := by
    blk_simp [index0_6]
  have hi := i.isLt
  have ht : t.val < 2 := lt_of_lt_of_eq t.isLt (show cfg0.N = 2 from N_0)
  refine Finset.sum_congr rfl fun k _ => ?_
  refine Eq.trans ?_ (joined_hi _ _ k _ _ (by show 256 ≤ ((((View.whole main_v0_2).slice (win0_6.rect t)).emb (ix2 i j)) 0 : Fin 512).val; omega)).symm
  blk_simp [iblk0]
  refine congrArg _ ?_
  blk_ext [index0_0, index0_6]

theorem arg0_2_6 (t : Fin cfg0.N) (i : Fin 128) (j : Fin 1024) : (iblk0 (V0 m ρ) c 2 t (ix2 i j) : EReal) = (m ((c : Thread nD τ).loc main_arg3) : S512x1024.Idx → EReal) (((View.whole main_v0_2).slice (win0_6.rect t)).emb (ix2 i j)) := by
  blk_simp [iblk0]
  refine congrArg _ ?_
  blk_ext [index0_2, index0_6]

theorem total0_7 (t : Fin cfg0.N) (i : Fin 128) (j : Fin 1024) : total (n := 8) (R := 128) (C := 1024) (iblk0 (V0 m ρ) c 0 t) (ix2 i j) = grad (m ((c : Thread nD τ).loc main_arg0)) (m ((c : Thread nD τ).loc main_arg1)) (((View.whole main_v0_3).slice (win0_7.rect t)).emb (ix2 i j)) := by
  have hr : ((((View.whole main_v0_3).slice (win0_7.rect t)).emb (ix2 i j)) 0 : Fin 512).val = (2 + t.val) * 128 + i.val := by
    blk_simp [index0_7]
  have hi := i.isLt
  have ht : t.val < 2 := lt_of_lt_of_eq t.isLt (show cfg0.N = 2 from N_0)
  refine Finset.sum_congr rfl fun k _ => ?_
  refine Eq.trans ?_ (joined_hi _ _ k _ _ (by show 256 ≤ ((((View.whole main_v0_3).slice (win0_7.rect t)).emb (ix2 i j)) 0 : Fin 512).val; omega)).symm
  blk_simp [iblk0]
  refine congrArg _ ?_
  blk_ext [index0_0, index0_7]

theorem arg0_3_7 (t : Fin cfg0.N) (i : Fin 128) (j : Fin 1024) : (iblk0 (V0 m ρ) c 3 t (ix2 i j) : EReal) = (m ((c : Thread nD τ).loc main_arg4) : S512x1024.Idx → EReal) (((View.whole main_v0_3).slice (win0_7.rect t)).emb (ix2 i j)) := by
  blk_simp [iblk0]
  refine congrArg _ ?_
  blk_ext [index0_3, index0_7]

theorem total1_4 (t : Fin cfg1.N) (i : Fin 128) (j : Fin 1024) : total (n := 8) (R := 128) (C := 1024) (iblk1 (V2 m ρ) c 0 t) (ix2 i j) = grad (m ((c : Thread nD τ).loc main_arg0)) (m ((c : Thread nD τ).loc main_arg1)) (((View.whole main_v1_0).slice (win1_4.rect t)).emb (ix2 i j)) := by
  have hr : ((((View.whole main_v1_0).slice (win1_4.rect t)).emb (ix2 i j)) 0 : Fin 512).val = t.val * 128 + i.val := by
    blk_simp [index1_4]
  have hi := i.isLt
  have ht : t.val < 2 := lt_of_lt_of_eq t.isLt (show cfg1.N = 2 from N_1)
  refine Finset.sum_congr rfl fun k _ => ?_
  refine Eq.trans ?_ (joined_lo _ _ k _ _ (by show ((((View.whole main_v1_0).slice (win1_4.rect t)).emb (ix2 i j)) 0 : Fin 512).val < 256; omega)).symm
  blk_simp [iblk1]
  refine (congrFun (V2_0 m ρ c) _).trans (congrArg _ ?_)
  blk_ext [index1_0, index1_4]

theorem total1_5 (t : Fin cfg1.N) (i : Fin 128) (j : Fin 1024) : total (n := 8) (R := 128) (C := 1024) (iblk1 (V2 m ρ) c 0 t) (ix2 i j) = grad (m ((c : Thread nD τ).loc main_arg0)) (m ((c : Thread nD τ).loc main_arg1)) (((View.whole main_v1_1).slice (win1_5.rect t)).emb (ix2 i j)) := by
  have hr : ((((View.whole main_v1_1).slice (win1_5.rect t)).emb (ix2 i j)) 0 : Fin 512).val = t.val * 128 + i.val := by
    blk_simp [index1_5]
  have hi := i.isLt
  have ht : t.val < 2 := lt_of_lt_of_eq t.isLt (show cfg1.N = 2 from N_1)
  refine Finset.sum_congr rfl fun k _ => ?_
  refine Eq.trans ?_ (joined_lo _ _ k _ _ (by show ((((View.whole main_v1_1).slice (win1_5.rect t)).emb (ix2 i j)) 0 : Fin 512).val < 256; omega)).symm
  blk_simp [iblk1]
  refine (congrFun (V2_0 m ρ c) _).trans (congrArg _ ?_)
  blk_ext [index1_0, index1_5]

theorem arg1_1_5 (t : Fin cfg1.N) (i : Fin 128) (j : Fin 1024) : (iblk1 (V2 m ρ) c 1 t (ix2 i j) : EReal) = (m ((c : Thread nD τ).loc main_arg2) : S512x1024.Idx → EReal) (((View.whole main_v1_1).slice (win1_5.rect t)).emb (ix2 i j)) := by
  blk_simp [iblk1]
  refine (congrFun (V2_2 m ρ c) _).trans (congrArg _ ?_)
  blk_ext [index1_1, index1_5]

theorem arg1_2_5 (t : Fin cfg1.N) (i : Fin 128) (j : Fin 1024) : (iblk1 (V2 m ρ) c 2 t (ix2 i j) : EReal) = (m ((c : Thread nD τ).loc main_arg3) : S512x1024.Idx → EReal) (((View.whole main_v1_1).slice (win1_5.rect t)).emb (ix2 i j)) := by
  blk_simp [iblk1]
  refine (congrFun (V2_3 m ρ c) _).trans (congrArg _ ?_)
  blk_ext [index1_2, index1_5]

theorem arg1_3_5 (t : Fin cfg1.N) (i : Fin 128) (j : Fin 1024) : (iblk1 (V2 m ρ) c 3 t (ix2 i j) : EReal) = (m ((c : Thread nD τ).loc main_arg4) : S512x1024.Idx → EReal) (((View.whole main_v1_1).slice (win1_5.rect t)).emb (ix2 i j)) := by
  blk_simp [iblk1]
  refine (congrFun (V2_4 m ρ c) _).trans (congrArg _ ?_)
  blk_ext [index1_3, index1_5]

theorem total1_6 (t : Fin cfg1.N) (i : Fin 128) (j : Fin 1024) : total (n := 8) (R := 128) (C := 1024) (iblk1 (V2 m ρ) c 0 t) (ix2 i j) = grad (m ((c : Thread nD τ).loc main_arg0)) (m ((c : Thread nD τ).loc main_arg1)) (((View.whole main_v1_2).slice (win1_6.rect t)).emb (ix2 i j)) := by
  have hr : ((((View.whole main_v1_2).slice (win1_6.rect t)).emb (ix2 i j)) 0 : Fin 512).val = t.val * 128 + i.val := by
    blk_simp [index1_6]
  have hi := i.isLt
  have ht : t.val < 2 := lt_of_lt_of_eq t.isLt (show cfg1.N = 2 from N_1)
  refine Finset.sum_congr rfl fun k _ => ?_
  refine Eq.trans ?_ (joined_lo _ _ k _ _ (by show ((((View.whole main_v1_2).slice (win1_6.rect t)).emb (ix2 i j)) 0 : Fin 512).val < 256; omega)).symm
  blk_simp [iblk1]
  refine (congrFun (V2_0 m ρ c) _).trans (congrArg _ ?_)
  blk_ext [index1_0, index1_6]

theorem arg1_2_6 (t : Fin cfg1.N) (i : Fin 128) (j : Fin 1024) : (iblk1 (V2 m ρ) c 2 t (ix2 i j) : EReal) = (m ((c : Thread nD τ).loc main_arg3) : S512x1024.Idx → EReal) (((View.whole main_v1_2).slice (win1_6.rect t)).emb (ix2 i j)) := by
  blk_simp [iblk1]
  refine (congrFun (V2_3 m ρ c) _).trans (congrArg _ ?_)
  blk_ext [index1_2, index1_6]

theorem total1_7 (t : Fin cfg1.N) (i : Fin 128) (j : Fin 1024) : total (n := 8) (R := 128) (C := 1024) (iblk1 (V2 m ρ) c 0 t) (ix2 i j) = grad (m ((c : Thread nD τ).loc main_arg0)) (m ((c : Thread nD τ).loc main_arg1)) (((View.whole main_v1_3).slice (win1_7.rect t)).emb (ix2 i j)) := by
  have hr : ((((View.whole main_v1_3).slice (win1_7.rect t)).emb (ix2 i j)) 0 : Fin 512).val = t.val * 128 + i.val := by
    blk_simp [index1_7]
  have hi := i.isLt
  have ht : t.val < 2 := lt_of_lt_of_eq t.isLt (show cfg1.N = 2 from N_1)
  refine Finset.sum_congr rfl fun k _ => ?_
  refine Eq.trans ?_ (joined_lo _ _ k _ _ (by show ((((View.whole main_v1_3).slice (win1_7.rect t)).emb (ix2 i j)) 0 : Fin 512).val < 256; omega)).symm
  blk_simp [iblk1]
  refine (congrFun (V2_0 m ρ c) _).trans (congrArg _ ?_)
  blk_ext [index1_0, index1_7]

theorem arg1_3_7 (t : Fin cfg1.N) (i : Fin 128) (j : Fin 1024) : (iblk1 (V2 m ρ) c 3 t (ix2 i j) : EReal) = (m ((c : Thread nD τ).loc main_arg4) : S512x1024.Idx → EReal) (((View.whole main_v1_3).slice (win1_7.rect t)).emb (ix2 i j)) := by
  blk_simp [iblk1]
  refine (congrFun (V2_4 m ρ c) _).trans (congrArg _ ?_)
  blk_ext [index1_3, index1_7]

/-- After the first call the second half is the result; the rest is as it was. -/
theorem half4 : (dat0 (V0 m ρ) c).arrAt 4 cfg0.N = fun i : S512x1024.Idx => if 2 ≤ (i 0).val / 128 then grad (m ((c : Thread nD τ).loc main_arg0)) (m ((c : Thread nD τ).loc main_arg1)) i else (dat0 (V0 m ρ) c).A 4 i := by
  refine (dat0 (V0 m ρ) c).arrAt_eq_of_coversWhere 4 _ (fun β => 2 ≤ β (0 : Fin 2)) (by decide +kernel) (fun t hf y => ?_) (fun j => Iff.rfl)
  blk_simp
  rw [after0_4]
  obtain ⟨i, j, rfl⟩ : ∃ (i : Fin 128) (j : Fin 1024), y = ix2 i j := ⟨y 0, y 1, eq_ix2 (n0 := 128) (n1 := 1024) y⟩
  exact (out4 _ _ _ _ i j).trans (total0_4 m ρ c t i j)

theorem final4 : (dat1 (V2 m ρ) c).arrAt 4 cfg1.N = grad (m ((c : Thread nD τ).loc main_arg0)) (m ((c : Thread nD τ).loc main_arg1)) := by
  refine (dat1 (V2 m ρ) c).arrAt_eq_of_coversWhere_of_agree 4 _ (fun β => β (0 : Fin 2) < 2) (by decide +kernel) (fun t hf y => ?_) (fun j hj => ?_)
  · blk_simp
    obtain ⟨i, j, rfl⟩ : ∃ (i : Fin 128) (j : Fin 1024), y = ix2 i j := ⟨y 0, y 1, eq_ix2 (n0 := 128) (n1 := 1024) y⟩
    exact (after_4 m ρ c t i j).trans ((out4 _ _ _ _ i j).trans (total1_4 m ρ c t i j))
  · rw [A_eq1]
    refine (congrFun (V2_out4 m ρ c) _).trans ((congrFun (half4 m ρ c) _).trans (if_pos ?_))
    exact not_lt.1 hj

/-- After the first call the second half is the result; the rest is as it was. -/
theorem half5 : (dat0 (V0 m ρ) c).arrAt 5 cfg0.N = fun i : S512x1024.Idx => if 2 ≤ (i 0).val / 128 then delta (m ((c : Thread nD τ).loc main_arg0)) (m ((c : Thread nD τ).loc main_arg1)) (m ((c : Thread nD τ).loc main_arg2)) (m ((c : Thread nD τ).loc main_arg3)) (m ((c : Thread nD τ).loc main_arg4)) i else (dat0 (V0 m ρ) c).A 5 i := by
  refine (dat0 (V0 m ρ) c).arrAt_eq_of_coversWhere 5 _ (fun β => 2 ≤ β (0 : Fin 2)) (by decide +kernel) (fun t hf y => ?_) (fun j => Iff.rfl)
  blk_simp
  rw [after0_5]
  obtain ⟨i, j, rfl⟩ : ∃ (i : Fin 128) (j : Fin 1024), y = ix2 i j := ⟨y 0, y 1, eq_ix2 (n0 := 128) (n1 := 1024) y⟩
  exact (out5 _ _ _ _ i j).trans (by rw [total0_5, arg0_1_5, arg0_2_5, arg0_3_5])

theorem final5 : (dat1 (V2 m ρ) c).arrAt 5 cfg1.N = delta (m ((c : Thread nD τ).loc main_arg0)) (m ((c : Thread nD τ).loc main_arg1)) (m ((c : Thread nD τ).loc main_arg2)) (m ((c : Thread nD τ).loc main_arg3)) (m ((c : Thread nD τ).loc main_arg4)) := by
  refine (dat1 (V2 m ρ) c).arrAt_eq_of_coversWhere_of_agree 5 _ (fun β => β (0 : Fin 2) < 2) (by decide +kernel) (fun t hf y => ?_) (fun j hj => ?_)
  · blk_simp
    obtain ⟨i, j, rfl⟩ : ∃ (i : Fin 128) (j : Fin 1024), y = ix2 i j := ⟨y 0, y 1, eq_ix2 (n0 := 128) (n1 := 1024) y⟩
    exact (after_5 m ρ c t i j).trans ((out5 _ _ _ _ i j).trans (by rw [total1_5, arg1_1_5, arg1_2_5, arg1_3_5]))
  · rw [A_eq1]
    refine (congrFun (V2_out5 m ρ c) _).trans ((congrFun (half5 m ρ c) _).trans (if_pos ?_))
    exact not_lt.1 hj

/-- After the first call the second half is the result; the rest is as it was. -/
theorem half6 : (dat0 (V0 m ρ) c).arrAt 6 cfg0.N = fun i : S512x1024.Idx => if 2 ≤ (i 0).val / 128 then moment1 (m ((c : Thread nD τ).loc main_arg0)) (m ((c : Thread nD τ).loc main_arg1)) (m ((c : Thread nD τ).loc main_arg3)) i else (dat0 (V0 m ρ) c).A 6 i := by
  refine (dat0 (V0 m ρ) c).arrAt_eq_of_coversWhere 6 _ (fun β => 2 ≤ β (0 : Fin 2)) (by decide +kernel) (fun t hf y => ?_) (fun j => Iff.rfl)
  blk_simp
  rw [after0_6]
  obtain ⟨i, j, rfl⟩ : ∃ (i : Fin 128) (j : Fin 1024), y = ix2 i j := ⟨y 0, y 1, eq_ix2 (n0 := 128) (n1 := 1024) y⟩
  exact (out6 _ _ _ _ i j).trans (congrArg₂ newM (total0_6 m ρ c t i j) (arg0_2_6 m ρ c t i j))

theorem final6 : (dat1 (V2 m ρ) c).arrAt 6 cfg1.N = moment1 (m ((c : Thread nD τ).loc main_arg0)) (m ((c : Thread nD τ).loc main_arg1)) (m ((c : Thread nD τ).loc main_arg3)) := by
  refine (dat1 (V2 m ρ) c).arrAt_eq_of_coversWhere_of_agree 6 _ (fun β => β (0 : Fin 2) < 2) (by decide +kernel) (fun t hf y => ?_) (fun j hj => ?_)
  · blk_simp
    obtain ⟨i, j, rfl⟩ : ∃ (i : Fin 128) (j : Fin 1024), y = ix2 i j := ⟨y 0, y 1, eq_ix2 (n0 := 128) (n1 := 1024) y⟩
    exact (after_6 m ρ c t i j).trans ((out6 _ _ _ _ i j).trans (congrArg₂ newM (total1_6 m ρ c t i j) (arg1_2_6 m ρ c t i j)))
  · rw [A_eq1]
    refine (congrFun (V2_out6 m ρ c) _).trans ((congrFun (half6 m ρ c) _).trans (if_pos ?_))
    exact not_lt.1 hj

/-- After the first call the second half is the result; the rest is as it was. -/
theorem half7 : (dat0 (V0 m ρ) c).arrAt 7 cfg0.N = fun i : S512x1024.Idx => if 2 ≤ (i 0).val / 128 then moment2 (m ((c : Thread nD τ).loc main_arg0)) (m ((c : Thread nD τ).loc main_arg1)) (m ((c : Thread nD τ).loc main_arg4)) i else (dat0 (V0 m ρ) c).A 7 i := by
  refine (dat0 (V0 m ρ) c).arrAt_eq_of_coversWhere 7 _ (fun β => 2 ≤ β (0 : Fin 2)) (by decide +kernel) (fun t hf y => ?_) (fun j => Iff.rfl)
  blk_simp
  rw [after0_7]
  obtain ⟨i, j, rfl⟩ : ∃ (i : Fin 128) (j : Fin 1024), y = ix2 i j := ⟨y 0, y 1, eq_ix2 (n0 := 128) (n1 := 1024) y⟩
  exact (out7 _ _ _ _ i j).trans (congrArg₂ newV (total0_7 m ρ c t i j) (arg0_3_7 m ρ c t i j))

theorem final7 : (dat1 (V2 m ρ) c).arrAt 7 cfg1.N = moment2 (m ((c : Thread nD τ).loc main_arg0)) (m ((c : Thread nD τ).loc main_arg1)) (m ((c : Thread nD τ).loc main_arg4)) := by
  refine (dat1 (V2 m ρ) c).arrAt_eq_of_coversWhere_of_agree 7 _ (fun β => β (0 : Fin 2) < 2) (by decide +kernel) (fun t hf y => ?_) (fun j hj => ?_)
  · blk_simp
    obtain ⟨i, j, rfl⟩ : ∃ (i : Fin 128) (j : Fin 1024), y = ix2 i j := ⟨y 0, y 1, eq_ix2 (n0 := 128) (n1 := 1024) y⟩
    exact (after_7 m ρ c t i j).trans ((out7 _ _ _ _ i j).trans (congrArg₂ newV (total1_7 m ρ c t i j) (arg1_3_7 m ρ c t i j)))
  · rw [A_eq1]
    refine (congrFun (V2_out7 m ρ c) _).trans ((congrFun (half7 m ρ c) _).trans (if_pos ?_))
    exact not_lt.1 hj

-- the launch theorem's implicit arguments are found by unfolding plain definitions
set_option backward.isDefEq.respectTransparency.types false in
/-- The two calls run: the arrays they leave and the arguments. -/
theorem run : θ_run defs (onTc (τ := τ) (main (F := Ideal))) ⟨m, fun _ => 0, ρ⟩ (fun r => ∀ c : Dev nD,
      r.2.mem ((c.tc : Thread nD τ).loc main_v1_0) = grad (m ((c : Thread nD τ).loc main_arg0)) (m ((c : Thread nD τ).loc main_arg1))
      ∧ r.2.mem ((c.tc : Thread nD τ).loc main_v1_1) = delta (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v1_2) = moment1 (m ((c : Thread nD τ).loc main_arg0)) (m ((c : Thread nD τ).loc main_arg1)) (m ((c : Thread nD τ).loc main_arg3))
      ∧ r.2.mem ((c.tc : Thread nD τ).loc main_v1_3) = moment2 (m ((c : Thread nD τ).loc main_arg0)) (m ((c : Thread nD τ).loc main_arg1)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v1_0 (by decide))).trans ((W3_arr m ρ c 4).trans (final4 m ρ c)),
       (h c _ (mem_uc main_v1_1 (by decide))).trans ((W3_arr m ρ c 5).trans (final5 m ρ c)),
       (h c _ (mem_uc main_v1_2 (by decide))).trans ((W3_arr m ρ c 6).trans (final6 m ρ c)),
       (h c _ (mem_uc main_v1_3 (by decide))).trans ((W3_arr m ρ c 7).trans (final7 m ρ c)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

open Cert.Reference39Ideal.Read

theorem ref_joined (p0 p1 : S8x256x1024.Idx → EReal) : val_main_v1 (F := Ideal) p0 p1 = joined p0 p1 := by
  funext y
  obtain ⟨k, i, j, rfl⟩ : ∃ (k : Fin 8) (i : Fin 512) (j : Fin 1024), y = ix3 k i j := ⟨y 0, y 1, y 2, eq_ix3 (n0 := 8) (n1 := 512) (n2 := 1024) y⟩
  show val_main_v0 (F := Ideal) p0 p1 (ix3 k i j) = _
  unfold val_main_v0 joined
  pointwise

theorem ref_grad (p0 p1 : S8x256x1024.Idx → EReal) : val_main_v2 (F := Ideal) p0 p1 = grad p0 p1 := by
  funext y
  rw [val_main_v2_apply, ref_joined]
  exact total_of_sum (n := 8) (R := 512) (C := 1024) (joined p0 p1) _ y fun k => eq_ix3 (n0 := 8) (n1 := 512) (n2 := 1024) _

theorem ref_moment1 (p0 p1 : S8x256x1024.Idx → EReal) (m : S512x1024.Idx → EReal) : val_main_v7 (F := Ideal) p0 p1 m = moment1 p0 p1 m := by
  unfold moment1; rw [← ref_grad]; rfl

theorem ref_moment2 (p0 p1 : S8x256x1024.Idx → EReal) (v : S512x1024.Idx → EReal) : val_main_v13 (F := Ideal) p0 p1 v = moment2 p0 p1 v := by
  unfold moment2; rw [← ref_grad]; rfl

theorem ref_delta (p0 p1 : S8x256x1024.Idx → EReal) (w m v : S512x1024.Idx → EReal) : val_main_v26 (F := Ideal) p0 p1 w m v = delta p0 p1 w m v := by
  funext y
  unfold delta
  rw [step_div, ← ref_grad]; rfl

theorem frame_ideal : Cert.quiescent_Kernel39Ideal := fun m ρ _ => Cert.Kernel39Ideal.Gen.frame m ρ

theorem frame_reference : Cert.quiescent_Reference39Ideal := fun m ρ _ =>
  (θ_run Cert.Reference39Ideal.defs _ _).mono (fun r h => ⟨fun c => (h c).2.2.2.2, sem_eq_zero_of_no_sems (by decide) r.2⟩)
    (Cert.Reference39Ideal.Value.run (F := Ideal) m ρ)

theorem equal : Cert.algebraic_Kernel39Ideal_Reference39Ideal := by
  intro m ρ m' ρ' _ hargs
  refine ⟨fun c => grad (m ((c.tc : Thread nD τ).loc main_arg0)) (m ((c.tc : Thread nD τ).loc main_arg1)), fun c => delta (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), fun c => moment1 (m ((c.tc : Thread nD τ).loc main_arg0)) (m ((c.tc : Thread nD τ).loc main_arg1)) (m ((c.tc : Thread nD τ).loc main_arg3)), fun c => moment2 (m ((c.tc : Thread nD τ).loc main_arg0)) (m ((c.tc : Thread nD τ).loc main_arg1)) (m ((c.tc : Thread nD τ).loc main_arg4)), run m ρ, ?_⟩
  refine (θ_run Cert.Reference39Ideal.defs _ _).mono (fun r h c => ?_) (Cert.Reference39Ideal.Value.run (F := Ideal) m' ρ')
  obtain ⟨h0, h1, h2, h3, h4⟩ := hargs c
  beta_reduce
  rw [← h0, ← h1, ← h2, ← h3, ← h4]
  exact ⟨((h c).1.trans (val_main_v2_eq _ _)).trans (ref_grad _ _), ((h c).2.1.trans (val_main_v26_eq _ _ _ _ _)).trans (ref_delta _ _ _ _ _), ((h c).2.2.1.trans (val_main_v7_eq _ _ _)).trans (ref_moment1 _ _ _), ((h c).2.2.2.1.trans (val_main_v13_eq _ _ _)).trans (ref_moment2 _ _ _), (h c).2.2.2.2⟩

end Cert.Kernel39Ideal.Adam

end
-- ==== Proof.Adam.AttnQuery.lean ====
/-
  AdamW's step on the weight of the queries: the kernel writes the two halves of each result by two calls, the second in place over
  the first; the reference takes the step from the sum of the parts joined.
-/
module

public import proofs.«01_k».proof.Proof.Ffn.Base
public import proofs.«01_k».proof.Proof.Adam.Base
public import proofs.«01_k».proof.Proof.Gen.Kernel40Ideal.Frame
public import proofs.«01_k».proof.Proof.Gen.Reference40Ideal.Run
public import proofs.«01_k».proof.Proof.Gen.Reference40Ideal.Read

@[expose] public section

set_option maxRecDepth 16384

noncomputable section

namespace Cert.Kernel40Ideal.Adam

open Cert.Kernel40Ideal Cert.Kernel40Ideal.Gen
open Idealize.ShloMosaic.Tactic
open Cert.Adam
open Idealize.ShloMosaic Idealize.ShloMosaic.TcCoe Idealize.SL.Sem Idealize.ShloMosaic.StableHlo
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

local notation "𝕄" => MT nD τ sig Unit (Elt Ideal) ℕ (UR sig nD τ) ℕ

/-- The parts of the gradients of the two halves, joined. -/
def joined (p0 p1 : S8x128x1024.Idx → EReal) : (⟨3, ![8, 256, 1024]⟩ : Shape).Idx → EReal := fun x =>
  if h : (x 1).val < 128 then p0 (ix3 (x 0) ⟨(x 1).val, h⟩ (x 2)) else p1 (ix3 (x 0) ⟨(x 1).val - 128, by have : (x 1).val < 256 := (x 1).isLt; omega⟩ (x 2))

theorem joined_lo (p0 p1 : S8x128x1024.Idx → EReal) (k : Fin 8) (i : Fin 256) (j : Fin 1024) (h : i.val < 128) : joined p0 p1 (ix3 k i j) = p0 (ix3 k ⟨i.val, h⟩ j) := dif_pos h

theorem joined_hi (p0 p1 : S8x128x1024.Idx → EReal) (k : Fin 8) (i : Fin 256) (j : Fin 1024) (h : 128 ≤ i.val) : joined p0 p1 (ix3 k i j) = p1 (ix3 k ⟨i.val - 128, by omega⟩ j) := dif_neg (not_lt.2 h)

/-- The sum of the parts of the gradient. -/
abbrev grad (p0 p1 : S8x128x1024.Idx → EReal) : S256x1024.Idx → EReal := total (n := 8) (R := 256) (C := 1024) (joined p0 p1)

/-- The change of the weight. -/
abbrev delta (p0 p1 : S8x128x1024.Idx → EReal) (w m v : S256x1024.Idx → EReal) : S256x1024.Idx → EReal := fun y => step (grad p0 p1 y) (w y) (m y) (v y)

/-- The first moment. -/
abbrev moment1 (p0 p1 : S8x128x1024.Idx → EReal) (m : S256x1024.Idx → EReal) : S256x1024.Idx → EReal := fun y => newM (grad p0 p1 y) (m y)

/-- The second moment. -/
abbrev moment2 (p0 p1 : S8x128x1024.Idx → EReal) (v : S256x1024.Idx → EReal) : S256x1024.Idx → EReal := fun y => newV (grad p0 p1 y) (v y)

/-- A call adds its parts. -/
theorem pay (v0 v1 v2 v3 v4 v5 v6 v7 : Vec Ideal S1x64x1024 .bf16) (i : Fin 64) (j : Fin 1024) : k0_pay4 v0 v1 v2 v3 v4 v5 v6 v7 (ix2 i j) = v0 (ix3 0 i j) + v1 (ix3 0 i j) + v2 (ix3 0 i j) + v3 (ix3 0 i j) + v4 (ix3 0 i j) + v5 (ix3 0 i j) + v6 (ix3 0 i j) + v7 (ix3 0 i j) := by
  pointwise [k0_pay4]

theorem sum_eq (x0 : Vec Ideal S8x64x1024 .bf16) (x1 x2 x3 : Vec Ideal S64x1024 .f32) (i : Fin 64) (j : Fin 1024) : k0_pay5 x0 x1 x2 x3 (ix2 i j) = total (n := 8) (R := 64) (C := 1024) x0 (ix2 i j) :=
  (pay _ _ _ _ _ _ _ _ i j).trans (total_of_parts x0 i j (by decide))

theorem out4 (x0 : Vec Ideal S8x64x1024 .bf16) (x1 x2 x3 : Vec Ideal S64x1024 .f32) (i : Fin 64) (j : Fin 1024) : out0_4 x0 x1 x2 x3 (ix2 i j) = total (n := 8) (R := 64) (C := 1024) x0 (ix2 i j) := by
  unfold out0_4
  frame_out
  rw [← sum_eq x0 x1 x2 x3]

theorem out5 (x0 : Vec Ideal S8x64x1024 .bf16) (x1 x2 x3 : Vec Ideal S64x1024 .f32) (i : Fin 64) (j : Fin 1024) : out0_5 x0 x1 x2 x3 (ix2 i j) = step (total (n := 8) (R := 64) (C := 1024) x0 (ix2 i j)) (x1 (ix2 i j)) (x2 (ix2 i j)) (x3 (ix2 i j)) := by
  unfold out0_5
  frame_out
  rw [← sum_eq x0 x1 x2 x3]
  rfl

theorem out6 (x0 : Vec Ideal S8x64x1024 .bf16) (x1 x2 x3 : Vec Ideal S64x1024 .f32) (i : Fin 64) (j : Fin 1024) : out0_6 x0 x1 x2 x3 (ix2 i j) = newM (total (n := 8) (R := 64) (C := 1024) x0 (ix2 i j)) (x2 (ix2 i j)) := by
  unfold out0_6
  frame_out
  rw [← sum_eq x0 x1 x2 x3]
  rfl

theorem out7 (x0 : Vec Ideal S8x64x1024 .bf16) (x1 x2 x3 : Vec Ideal S64x1024 .f32) (i : Fin 64) (j : Fin 1024) : out0_7 x0 x1 x2 x3 (ix2 i j) = newV (total (n := 8) (R := 64) (C := 1024) x0 (ix2 i j)) (x3 (ix2 i j)) := by
  unfold out0_7
  frame_out
  rw [← sum_eq x0 x1 x2 x3]
  rfl

variable (m : (ℓ : Loc nD τ sig) → Buf (Elt Ideal) ℓ) (ρ : Dev nD → PrngReg) (c : Dev nD)

/-! What the second call's body leaves is what the first call's body leaves, at the second call's blocks. -/

theorem after_4 (t : Fin cfg1.N) (i : Fin 64) (j : Fin 1024) : ((dat1 (V2 m ρ) c).after 4 t : S64x1024.Idx → EReal) (ix2 i j) = out0_4 (iblk1 (V2 m ρ) c 0 t) (iblk1 (V2 m ρ) c 1 t) (iblk1 (V2 m ρ) c 2 t) (iblk1 (V2 m ρ) c 3 t) (ix2 i j) := by
  rw [after1_4]; unfold outsAt1 out0_4; frame_out
  rfl

theorem after_5 (t : Fin cfg1.N) (i : Fin 64) (j : Fin 1024) : ((dat1 (V2 m ρ) c).after 5 t : S64x1024.Idx → EReal) (ix2 i j) = out0_5 (iblk1 (V2 m ρ) c 0 t) (iblk1 (V2 m ρ) c 1 t) (iblk1 (V2 m ρ) c 2 t) (iblk1 (V2 m ρ) c 3 t) (ix2 i j) := by
  rw [after1_5]; unfold outsAt1 out0_5; frame_out
  rfl

theorem after_6 (t : Fin cfg1.N) (i : Fin 64) (j : Fin 1024) : ((dat1 (V2 m ρ) c).after 6 t : S64x1024.Idx → EReal) (ix2 i j) = out0_6 (iblk1 (V2 m ρ) c 0 t) (iblk1 (V2 m ρ) c 1 t) (iblk1 (V2 m ρ) c 2 t) (iblk1 (V2 m ρ) c 3 t) (ix2 i j) := by
  rw [after1_6]; unfold outsAt1 out0_6; frame_out
  rfl

theorem after_7 (t : Fin cfg1.N) (i : Fin 64) (j : Fin 1024) : ((dat1 (V2 m ρ) c).after 7 t : S64x1024.Idx → EReal) (ix2 i j) = out0_7 (iblk1 (V2 m ρ) c 0 t) (iblk1 (V2 m ρ) c 1 t) (iblk1 (V2 m ρ) c 2 t) (iblk1 (V2 m ρ) c 3 t) (ix2 i j) := by
  rw [after1_7]; unfold outsAt1 out0_7; frame_out
  rfl

/-! The second call reads the arguments, and writes over the arrays the first call left. -/

theorem V2_0 : V2 m ρ c main_arg0 = m ((c : Thread nD τ).loc main_arg0) := W2_args m ρ c main_arg0 (by decide)

theorem V2_2 : V2 m ρ c main_arg2 = m ((c : Thread nD τ).loc main_arg2) := W2_args m ρ c main_arg2 (by decide)

theorem V2_3 : V2 m ρ c main_arg3 = m ((c : Thread nD τ).loc main_arg3) := W2_args m ρ c main_arg3 (by decide)

theorem V2_4 : V2 m ρ c main_arg4 = m ((c : Thread nD τ).loc main_arg4) := W2_args m ρ c main_arg4 (by decide)

theorem V2_out4 : (V2 m ρ c main_v1_0 : S256x1024.Idx → EReal) = (dat0 (V0 m ρ) c).arrAt 4 cfg0.N := by
  refine Eq.trans ?_ (W1_arr m ρ c 4)
  unfold V2 W2
  simp only [hostOps1, List.flatten_cons, List.flatten_nil, List.append_nil, List.cons_append, List.nil_append]
  after_results
  rfl

theorem V2_out5 : (V2 m ρ c main_v1_1 : S256x1024.Idx → EReal) = (dat0 (V0 m ρ) c).arrAt 5 cfg0.N := by
  refine Eq.trans ?_ (W1_arr m ρ c 5)
  unfold V2 W2
  simp only [hostOps1, List.flatten_cons, List.flatten_nil, List.append_nil, List.cons_append, List.nil_append]
  after_results
  rfl

theorem V2_out6 : (V2 m ρ c main_v1_2 : S256x1024.Idx → EReal) = (dat0 (V0 m ρ) c).arrAt 6 cfg0.N := by
  refine Eq.trans ?_ (W1_arr m ρ c 6)
  unfold V2 W2
  simp only [hostOps1, List.flatten_cons, List.flatten_nil, List.append_nil, List.cons_append, List.nil_append]
  after_results
  rfl

theorem V2_out7 : (V2 m ρ c main_v1_3 : S256x1024.Idx → EReal) = (dat0 (V0 m ρ) c).arrAt 7 cfg0.N := by
  refine Eq.trans ?_ (W1_arr m ρ c 7)
  unfold V2 W2
  simp only [hostOps1, List.flatten_cons, List.flatten_nil, List.append_nil, List.cons_append, List.nil_append]
  after_results
  rfl

theorem index0_0 : ∀ t : Fin cfg0.N, win0_0.index t = ![0, t.val, 0] := (by decide +kernel : ∀ t : Fin grid0.N, win0_0.index t = ![0, t.val, 0])
theorem index0_1 : ∀ t : Fin cfg0.N, win0_1.index t = ![2 + t.val, 0] := (by decide +kernel : ∀ t : Fin grid0.N, win0_1.index t = ![2 + t.val, 0])
theorem index0_2 : ∀ t : Fin cfg0.N, win0_2.index t = ![2 + t.val, 0] := (by decide +kernel : ∀ t : Fin grid0.N, win0_2.index t = ![2 + t.val, 0])
theorem index0_3 : ∀ t : Fin cfg0.N, win0_3.index t = ![2 + t.val, 0] := (by decide +kernel : ∀ t : Fin grid0.N, win0_3.index t = ![2 + t.val, 0])
theorem index0_4 : ∀ t : Fin cfg0.N, win0_4.index t = ![2 + t.val, 0] := (by decide +kernel : ∀ t : Fin grid0.N, win0_4.index t = ![2 + t.val, 0])
theorem index0_5 : ∀ t : Fin cfg0.N, win0_5.index t = ![2 + t.val, 0] := (by decide +kernel : ∀ t : Fin grid0.N, win0_5.index t = ![2 + t.val, 0])
theorem index0_6 : ∀ t : Fin cfg0.N, win0_6.index t = ![2 + t.val, 0] := (by decide +kernel : ∀ t : Fin grid0.N, win0_6.index t = ![2 + t.val, 0])
theorem index0_7 : ∀ t : Fin cfg0.N, win0_7.index t = ![2 + t.val, 0] := (by decide +kernel : ∀ t : Fin grid0.N, win0_7.index t = ![2 + t.val, 0])
theorem index1_0 : ∀ t : Fin cfg1.N, win1_0.index t = ![0, t.val, 0] := (by decide +kernel : ∀ t : Fin grid1.N, win1_0.index t = ![0, t.val, 0])
theorem index1_1 : ∀ t : Fin cfg1.N, win1_1.index t = ![t.val, 0] := (by decide +kernel : ∀ t : Fin grid1.N, win1_1.index t = ![t.val, 0])
theorem index1_2 : ∀ t : Fin cfg1.N, win1_2.index t = ![t.val, 0] := (by decide +kernel : ∀ t : Fin grid1.N, win1_2.index t = ![t.val, 0])
theorem index1_3 : ∀ t : Fin cfg1.N, win1_3.index t = ![t.val, 0] := (by decide +kernel : ∀ t : Fin grid1.N, win1_3.index t = ![t.val, 0])
theorem index1_4 : ∀ t : Fin cfg1.N, win1_4.index t = ![t.val, 0] := (by decide +kernel : ∀ t : Fin grid1.N, win1_4.index t = ![t.val, 0])
theorem index1_5 : ∀ t : Fin cfg1.N, win1_5.index t = ![t.val, 0] := (by decide +kernel : ∀ t : Fin grid1.N, win1_5.index t = ![t.val, 0])
theorem index1_6 : ∀ t : Fin cfg1.N, win1_6.index t = ![t.val, 0] := (by decide +kernel : ∀ t : Fin grid1.N, win1_6.index t = ![t.val, 0])
theorem index1_7 : ∀ t : Fin cfg1.N, win1_7.index t = ![t.val, 0] := (by decide +kernel : ∀ t : Fin grid1.N, win1_7.index t = ![t.val, 0])

theorem total0_4 (t : Fin cfg0.N) (i : Fin 64) (j : Fin 1024) : total (n := 8) (R := 64) (C := 1024) (iblk0 (V0 m ρ) c 0 t) (ix2 i j) = grad (m ((c : Thread nD τ).loc main_arg0)) (m ((c : Thread nD τ).loc main_arg1)) (((View.whole main_v0_0).slice (win0_4.rect t)).emb (ix2 i j)) := by
  have hr : ((((View.whole main_v0_0).slice (win0_4.rect t)).emb (ix2 i j)) 0 : Fin 256).val = (2 + t.val) * 64 + i.val := by
    blk_simp [index0_4]
  have hi := i.isLt
  have ht : t.val < 2 := lt_of_lt_of_eq t.isLt (show cfg0.N = 2 from N_0)
  refine Finset.sum_congr rfl fun k _ => ?_
  refine Eq.trans ?_ (joined_hi _ _ k _ _ (by show 128 ≤ ((((View.whole main_v0_0).slice (win0_4.rect t)).emb (ix2 i j)) 0 : Fin 256).val; omega)).symm
  blk_simp [iblk0]
  refine congrArg _ ?_
  blk_ext [index0_0, index0_4]

theorem total0_5 (t : Fin cfg0.N) (i : Fin 64) (j : Fin 1024) : total (n := 8) (R := 64) (C := 1024) (iblk0 (V0 m ρ) c 0 t) (ix2 i j) = grad (m ((c : Thread nD τ).loc main_arg0)) (m ((c : Thread nD τ).loc main_arg1)) (((View.whole main_v0_1).slice (win0_5.rect t)).emb (ix2 i j)) := by
  have hr : ((((View.whole main_v0_1).slice (win0_5.rect t)).emb (ix2 i j)) 0 : Fin 256).val = (2 + t.val) * 64 + i.val := by
    blk_simp [index0_5]
  have hi := i.isLt
  have ht : t.val < 2 := lt_of_lt_of_eq t.isLt (show cfg0.N = 2 from N_0)
  refine Finset.sum_congr rfl fun k _ => ?_
  refine Eq.trans ?_ (joined_hi _ _ k _ _ (by show 128 ≤ ((((View.whole main_v0_1).slice (win0_5.rect t)).emb (ix2 i j)) 0 : Fin 256).val; omega)).symm
  blk_simp [iblk0]
  refine congrArg _ ?_
  blk_ext [index0_0, index0_5]

theorem arg0_1_5 (t : Fin cfg0.N) (i : Fin 64) (j : Fin 1024) : (iblk0 (V0 m ρ) c 1 t (ix2 i j) : EReal) = (m ((c : Thread nD τ).loc main_arg2) : S256x1024.Idx → EReal) (((View.whole main_v0_1).slice (win0_5.rect t)).emb (ix2 i j)) := by
  blk_simp [iblk0]
  refine congrArg _ ?_
  blk_ext [index0_1, index0_5]

theorem arg0_2_5 (t : Fin cfg0.N) (i : Fin 64) (j : Fin 1024) : (iblk0 (V0 m ρ) c 2 t (ix2 i j) : EReal) = (m ((c : Thread nD τ).loc main_arg3) : S256x1024.Idx → EReal) (((View.whole main_v0_1).slice (win0_5.rect t)).emb (ix2 i j)) := by
  blk_simp [iblk0]
  refine congrArg _ ?_
  blk_ext [index0_2, index0_5]

theorem arg0_3_5 (t : Fin cfg0.N) (i : Fin 64) (j : Fin 1024) : (iblk0 (V0 m ρ) c 3 t (ix2 i j) : EReal) = (m ((c : Thread nD τ).loc main_arg4) : S256x1024.Idx → EReal) (((View.whole main_v0_1).slice (win0_5.rect t)).emb (ix2 i j)) := by
  blk_simp [iblk0]
  refine congrArg _ ?_
  blk_ext [index0_3, index0_5]

theorem total0_6 (t : Fin cfg0.N) (i : Fin 64) (j : Fin 1024) : total (n := 8) (R := 64) (C := 1024) (iblk0 (V0 m ρ) c 0 t) (ix2 i j) = grad (m ((c : Thread nD τ).loc main_arg0)) (m ((c : Thread nD τ).loc main_arg1)) (((View.whole main_v0_2).slice (win0_6.rect t)).emb (ix2 i j)) := by
  have hr : ((((View.whole main_v0_2).slice (win0_6.rect t)).emb (ix2 i j)) 0 : Fin 256).val = (2 + t.val) * 64 + i.val := by
    blk_simp [index0_6]
  have hi := i.isLt
  have ht : t.val < 2 := lt_of_lt_of_eq t.isLt (show cfg0.N = 2 from N_0)
  refine Finset.sum_congr rfl fun k _ => ?_
  refine Eq.trans ?_ (joined_hi _ _ k _ _ (by show 128 ≤ ((((View.whole main_v0_2).slice (win0_6.rect t)).emb (ix2 i j)) 0 : Fin 256).val; omega)).symm
  blk_simp [iblk0]
  refine congrArg _ ?_
  blk_ext [index0_0, index0_6]

theorem arg0_2_6 (t : Fin cfg0.N) (i : Fin 64) (j : Fin 1024) : (iblk0 (V0 m ρ) c 2 t (ix2 i j) : EReal) = (m ((c : Thread nD τ).loc main_arg3) : S256x1024.Idx → EReal) (((View.whole main_v0_2).slice (win0_6.rect t)).emb (ix2 i j)) := by
  blk_simp [iblk0]
  refine congrArg _ ?_
  blk_ext [index0_2, index0_6]

theorem total0_7 (t : Fin cfg0.N) (i : Fin 64) (j : Fin 1024) : total (n := 8) (R := 64) (C := 1024) (iblk0 (V0 m ρ) c 0 t) (ix2 i j) = grad (m ((c : Thread nD τ).loc main_arg0)) (m ((c : Thread nD τ).loc main_arg1)) (((View.whole main_v0_3).slice (win0_7.rect t)).emb (ix2 i j)) := by
  have hr : ((((View.whole main_v0_3).slice (win0_7.rect t)).emb (ix2 i j)) 0 : Fin 256).val = (2 + t.val) * 64 + i.val := by
    blk_simp [index0_7]
  have hi := i.isLt
  have ht : t.val < 2 := lt_of_lt_of_eq t.isLt (show cfg0.N = 2 from N_0)
  refine Finset.sum_congr rfl fun k _ => ?_
  refine Eq.trans ?_ (joined_hi _ _ k _ _ (by show 128 ≤ ((((View.whole main_v0_3).slice (win0_7.rect t)).emb (ix2 i j)) 0 : Fin 256).val; omega)).symm
  blk_simp [iblk0]
  refine congrArg _ ?_
  blk_ext [index0_0, index0_7]

theorem arg0_3_7 (t : Fin cfg0.N) (i : Fin 64) (j : Fin 1024) : (iblk0 (V0 m ρ) c 3 t (ix2 i j) : EReal) = (m ((c : Thread nD τ).loc main_arg4) : S256x1024.Idx → EReal) (((View.whole main_v0_3).slice (win0_7.rect t)).emb (ix2 i j)) := by
  blk_simp [iblk0]
  refine congrArg _ ?_
  blk_ext [index0_3, index0_7]

theorem total1_4 (t : Fin cfg1.N) (i : Fin 64) (j : Fin 1024) : total (n := 8) (R := 64) (C := 1024) (iblk1 (V2 m ρ) c 0 t) (ix2 i j) = grad (m ((c : Thread nD τ).loc main_arg0)) (m ((c : Thread nD τ).loc main_arg1)) (((View.whole main_v1_0).slice (win1_4.rect t)).emb (ix2 i j)) := by
  have hr : ((((View.whole main_v1_0).slice (win1_4.rect t)).emb (ix2 i j)) 0 : Fin 256).val = t.val * 64 + i.val := by
    blk_simp [index1_4]
  have hi := i.isLt
  have ht : t.val < 2 := lt_of_lt_of_eq t.isLt (show cfg1.N = 2 from N_1)
  refine Finset.sum_congr rfl fun k _ => ?_
  refine Eq.trans ?_ (joined_lo _ _ k _ _ (by show ((((View.whole main_v1_0).slice (win1_4.rect t)).emb (ix2 i j)) 0 : Fin 256).val < 128; omega)).symm
  blk_simp [iblk1]
  refine (congrFun (V2_0 m ρ c) _).trans (congrArg _ ?_)
  blk_ext [index1_0, index1_4]

theorem total1_5 (t : Fin cfg1.N) (i : Fin 64) (j : Fin 1024) : total (n := 8) (R := 64) (C := 1024) (iblk1 (V2 m ρ) c 0 t) (ix2 i j) = grad (m ((c : Thread nD τ).loc main_arg0)) (m ((c : Thread nD τ).loc main_arg1)) (((View.whole main_v1_1).slice (win1_5.rect t)).emb (ix2 i j)) := by
  have hr : ((((View.whole main_v1_1).slice (win1_5.rect t)).emb (ix2 i j)) 0 : Fin 256).val = t.val * 64 + i.val := by
    blk_simp [index1_5]
  have hi := i.isLt
  have ht : t.val < 2 := lt_of_lt_of_eq t.isLt (show cfg1.N = 2 from N_1)
  refine Finset.sum_congr rfl fun k _ => ?_
  refine Eq.trans ?_ (joined_lo _ _ k _ _ (by show ((((View.whole main_v1_1).slice (win1_5.rect t)).emb (ix2 i j)) 0 : Fin 256).val < 128; omega)).symm
  blk_simp [iblk1]
  refine (congrFun (V2_0 m ρ c) _).trans (congrArg _ ?_)
  blk_ext [index1_0, index1_5]

theorem arg1_1_5 (t : Fin cfg1.N) (i : Fin 64) (j : Fin 1024) : (iblk1 (V2 m ρ) c 1 t (ix2 i j) : EReal) = (m ((c : Thread nD τ).loc main_arg2) : S256x1024.Idx → EReal) (((View.whole main_v1_1).slice (win1_5.rect t)).emb (ix2 i j)) := by
  blk_simp [iblk1]
  refine (congrFun (V2_2 m ρ c) _).trans (congrArg _ ?_)
  blk_ext [index1_1, index1_5]

theorem arg1_2_5 (t : Fin cfg1.N) (i : Fin 64) (j : Fin 1024) : (iblk1 (V2 m ρ) c 2 t (ix2 i j) : EReal) = (m ((c : Thread nD τ).loc main_arg3) : S256x1024.Idx → EReal) (((View.whole main_v1_1).slice (win1_5.rect t)).emb (ix2 i j)) := by
  blk_simp [iblk1]
  refine (congrFun (V2_3 m ρ c) _).trans (congrArg _ ?_)
  blk_ext [index1_2, index1_5]

theorem arg1_3_5 (t : Fin cfg1.N) (i : Fin 64) (j : Fin 1024) : (iblk1 (V2 m ρ) c 3 t (ix2 i j) : EReal) = (m ((c : Thread nD τ).loc main_arg4) : S256x1024.Idx → EReal) (((View.whole main_v1_1).slice (win1_5.rect t)).emb (ix2 i j)) := by
  blk_simp [iblk1]
  refine (congrFun (V2_4 m ρ c) _).trans (congrArg _ ?_)
  blk_ext [index1_3, index1_5]

theorem total1_6 (t : Fin cfg1.N) (i : Fin 64) (j : Fin 1024) : total (n := 8) (R := 64) (C := 1024) (iblk1 (V2 m ρ) c 0 t) (ix2 i j) = grad (m ((c : Thread nD τ).loc main_arg0)) (m ((c : Thread nD τ).loc main_arg1)) (((View.whole main_v1_2).slice (win1_6.rect t)).emb (ix2 i j)) := by
  have hr : ((((View.whole main_v1_2).slice (win1_6.rect t)).emb (ix2 i j)) 0 : Fin 256).val = t.val * 64 + i.val := by
    blk_simp [index1_6]
  have hi := i.isLt
  have ht : t.val < 2 := lt_of_lt_of_eq t.isLt (show cfg1.N = 2 from N_1)
  refine Finset.sum_congr rfl fun k _ => ?_
  refine Eq.trans ?_ (joined_lo _ _ k _ _ (by show ((((View.whole main_v1_2).slice (win1_6.rect t)).emb (ix2 i j)) 0 : Fin 256).val < 128; omega)).symm
  blk_simp [iblk1]
  refine (congrFun (V2_0 m ρ c) _).trans (congrArg _ ?_)
  blk_ext [index1_0, index1_6]

theorem arg1_2_6 (t : Fin cfg1.N) (i : Fin 64) (j : Fin 1024) : (iblk1 (V2 m ρ) c 2 t (ix2 i j) : EReal) = (m ((c : Thread nD τ).loc main_arg3) : S256x1024.Idx → EReal) (((View.whole main_v1_2).slice (win1_6.rect t)).emb (ix2 i j)) := by
  blk_simp [iblk1]
  refine (congrFun (V2_3 m ρ c) _).trans (congrArg _ ?_)
  blk_ext [index1_2, index1_6]

theorem total1_7 (t : Fin cfg1.N) (i : Fin 64) (j : Fin 1024) : total (n := 8) (R := 64) (C := 1024) (iblk1 (V2 m ρ) c 0 t) (ix2 i j) = grad (m ((c : Thread nD τ).loc main_arg0)) (m ((c : Thread nD τ).loc main_arg1)) (((View.whole main_v1_3).slice (win1_7.rect t)).emb (ix2 i j)) := by
  have hr : ((((View.whole main_v1_3).slice (win1_7.rect t)).emb (ix2 i j)) 0 : Fin 256).val = t.val * 64 + i.val := by
    blk_simp [index1_7]
  have hi := i.isLt
  have ht : t.val < 2 := lt_of_lt_of_eq t.isLt (show cfg1.N = 2 from N_1)
  refine Finset.sum_congr rfl fun k _ => ?_
  refine Eq.trans ?_ (joined_lo _ _ k _ _ (by show ((((View.whole main_v1_3).slice (win1_7.rect t)).emb (ix2 i j)) 0 : Fin 256).val < 128; omega)).symm
  blk_simp [iblk1]
  refine (congrFun (V2_0 m ρ c) _).trans (congrArg _ ?_)
  blk_ext [index1_0, index1_7]

theorem arg1_3_7 (t : Fin cfg1.N) (i : Fin 64) (j : Fin 1024) : (iblk1 (V2 m ρ) c 3 t (ix2 i j) : EReal) = (m ((c : Thread nD τ).loc main_arg4) : S256x1024.Idx → EReal) (((View.whole main_v1_3).slice (win1_7.rect t)).emb (ix2 i j)) := by
  blk_simp [iblk1]
  refine (congrFun (V2_4 m ρ c) _).trans (congrArg _ ?_)
  blk_ext [index1_3, index1_7]

/-- After the first call the second half is the result; the rest is as it was. -/
theorem half4 : (dat0 (V0 m ρ) c).arrAt 4 cfg0.N = fun i : S256x1024.Idx => if 2 ≤ (i 0).val / 64 then grad (m ((c : Thread nD τ).loc main_arg0)) (m ((c : Thread nD τ).loc main_arg1)) i else (dat0 (V0 m ρ) c).A 4 i := by
  refine (dat0 (V0 m ρ) c).arrAt_eq_of_coversWhere 4 _ (fun β => 2 ≤ β (0 : Fin 2)) (by decide +kernel) (fun t hf y => ?_) (fun j => Iff.rfl)
  blk_simp
  rw [after0_4]
  obtain ⟨i, j, rfl⟩ : ∃ (i : Fin 64) (j : Fin 1024), y = ix2 i j := ⟨y 0, y 1, eq_ix2 (n0 := 64) (n1 := 1024) y⟩
  exact (out4 _ _ _ _ i j).trans (total0_4 m ρ c t i j)

theorem final4 : (dat1 (V2 m ρ) c).arrAt 4 cfg1.N = grad (m ((c : Thread nD τ).loc main_arg0)) (m ((c : Thread nD τ).loc main_arg1)) := by
  refine (dat1 (V2 m ρ) c).arrAt_eq_of_coversWhere_of_agree 4 _ (fun β => β (0 : Fin 2) < 2) (by decide +kernel) (fun t hf y => ?_) (fun j hj => ?_)
  · blk_simp
    obtain ⟨i, j, rfl⟩ : ∃ (i : Fin 64) (j : Fin 1024), y = ix2 i j := ⟨y 0, y 1, eq_ix2 (n0 := 64) (n1 := 1024) y⟩
    exact (after_4 m ρ c t i j).trans ((out4 _ _ _ _ i j).trans (total1_4 m ρ c t i j))
  · rw [A_eq1]
    refine (congrFun (V2_out4 m ρ c) _).trans ((congrFun (half4 m ρ c) _).trans (if_pos ?_))
    exact not_lt.1 hj

/-- After the first call the second half is the result; the rest is as it was. -/
theorem half5 : (dat0 (V0 m ρ) c).arrAt 5 cfg0.N = fun i : S256x1024.Idx => if 2 ≤ (i 0).val / 64 then delta (m ((c : Thread nD τ).loc main_arg0)) (m ((c : Thread nD τ).loc main_arg1)) (m ((c : Thread nD τ).loc main_arg2)) (m ((c : Thread nD τ).loc main_arg3)) (m ((c : Thread nD τ).loc main_arg4)) i else (dat0 (V0 m ρ) c).A 5 i := by
  refine (dat0 (V0 m ρ) c).arrAt_eq_of_coversWhere 5 _ (fun β => 2 ≤ β (0 : Fin 2)) (by decide +kernel) (fun t hf y => ?_) (fun j => Iff.rfl)
  blk_simp
  rw [after0_5]
  obtain ⟨i, j, rfl⟩ : ∃ (i : Fin 64) (j : Fin 1024), y = ix2 i j := ⟨y 0, y 1, eq_ix2 (n0 := 64) (n1 := 1024) y⟩
  exact (out5 _ _ _ _ i j).trans (by rw [total0_5, arg0_1_5, arg0_2_5, arg0_3_5])

theorem final5 : (dat1 (V2 m ρ) c).arrAt 5 cfg1.N = delta (m ((c : Thread nD τ).loc main_arg0)) (m ((c : Thread nD τ).loc main_arg1)) (m ((c : Thread nD τ).loc main_arg2)) (m ((c : Thread nD τ).loc main_arg3)) (m ((c : Thread nD τ).loc main_arg4)) := by
  refine (dat1 (V2 m ρ) c).arrAt_eq_of_coversWhere_of_agree 5 _ (fun β => β (0 : Fin 2) < 2) (by decide +kernel) (fun t hf y => ?_) (fun j hj => ?_)
  · blk_simp
    obtain ⟨i, j, rfl⟩ : ∃ (i : Fin 64) (j : Fin 1024), y = ix2 i j := ⟨y 0, y 1, eq_ix2 (n0 := 64) (n1 := 1024) y⟩
    exact (after_5 m ρ c t i j).trans ((out5 _ _ _ _ i j).trans (by rw [total1_5, arg1_1_5, arg1_2_5, arg1_3_5]))
  · rw [A_eq1]
    refine (congrFun (V2_out5 m ρ c) _).trans ((congrFun (half5 m ρ c) _).trans (if_pos ?_))
    exact not_lt.1 hj

/-- After the first call the second half is the result; the rest is as it was. -/
theorem half6 : (dat0 (V0 m ρ) c).arrAt 6 cfg0.N = fun i : S256x1024.Idx => if 2 ≤ (i 0).val / 64 then moment1 (m ((c : Thread nD τ).loc main_arg0)) (m ((c : Thread nD τ).loc main_arg1)) (m ((c : Thread nD τ).loc main_arg3)) i else (dat0 (V0 m ρ) c).A 6 i := by
  refine (dat0 (V0 m ρ) c).arrAt_eq_of_coversWhere 6 _ (fun β => 2 ≤ β (0 : Fin 2)) (by decide +kernel) (fun t hf y => ?_) (fun j => Iff.rfl)
  blk_simp
  rw [after0_6]
  obtain ⟨i, j, rfl⟩ : ∃ (i : Fin 64) (j : Fin 1024), y = ix2 i j := ⟨y 0, y 1, eq_ix2 (n0 := 64) (n1 := 1024) y⟩
  exact (out6 _ _ _ _ i j).trans (congrArg₂ newM (total0_6 m ρ c t i j) (arg0_2_6 m ρ c t i j))

theorem final6 : (dat1 (V2 m ρ) c).arrAt 6 cfg1.N = moment1 (m ((c : Thread nD τ).loc main_arg0)) (m ((c : Thread nD τ).loc main_arg1)) (m ((c : Thread nD τ).loc main_arg3)) := by
  refine (dat1 (V2 m ρ) c).arrAt_eq_of_coversWhere_of_agree 6 _ (fun β => β (0 : Fin 2) < 2) (by decide +kernel) (fun t hf y => ?_) (fun j hj => ?_)
  · blk_simp
    obtain ⟨i, j, rfl⟩ : ∃ (i : Fin 64) (j : Fin 1024), y = ix2 i j := ⟨y 0, y 1, eq_ix2 (n0 := 64) (n1 := 1024) y⟩
    exact (after_6 m ρ c t i j).trans ((out6 _ _ _ _ i j).trans (congrArg₂ newM (total1_6 m ρ c t i j) (arg1_2_6 m ρ c t i j)))
  · rw [A_eq1]
    refine (congrFun (V2_out6 m ρ c) _).trans ((congrFun (half6 m ρ c) _).trans (if_pos ?_))
    exact not_lt.1 hj

/-- After the first call the second half is the result; the rest is as it was. -/
theorem half7 : (dat0 (V0 m ρ) c).arrAt 7 cfg0.N = fun i : S256x1024.Idx => if 2 ≤ (i 0).val / 64 then moment2 (m ((c : Thread nD τ).loc main_arg0)) (m ((c : Thread nD τ).loc main_arg1)) (m ((c : Thread nD τ).loc main_arg4)) i else (dat0 (V0 m ρ) c).A 7 i := by
  refine (dat0 (V0 m ρ) c).arrAt_eq_of_coversWhere 7 _ (fun β => 2 ≤ β (0 : Fin 2)) (by decide +kernel) (fun t hf y => ?_) (fun j => Iff.rfl)
  blk_simp
  rw [after0_7]
  obtain ⟨i, j, rfl⟩ : ∃ (i : Fin 64) (j : Fin 1024), y = ix2 i j := ⟨y 0, y 1, eq_ix2 (n0 := 64) (n1 := 1024) y⟩
  exact (out7 _ _ _ _ i j).trans (congrArg₂ newV (total0_7 m ρ c t i j) (arg0_3_7 m ρ c t i j))

theorem final7 : (dat1 (V2 m ρ) c).arrAt 7 cfg1.N = moment2 (m ((c : Thread nD τ).loc main_arg0)) (m ((c : Thread nD τ).loc main_arg1)) (m ((c : Thread nD τ).loc main_arg4)) := by
  refine (dat1 (V2 m ρ) c).arrAt_eq_of_coversWhere_of_agree 7 _ (fun β => β (0 : Fin 2) < 2) (by decide +kernel) (fun t hf y => ?_) (fun j hj => ?_)
  · blk_simp
    obtain ⟨i, j, rfl⟩ : ∃ (i : Fin 64) (j : Fin 1024), y = ix2 i j := ⟨y 0, y 1, eq_ix2 (n0 := 64) (n1 := 1024) y⟩
    exact (after_7 m ρ c t i j).trans ((out7 _ _ _ _ i j).trans (congrArg₂ newV (total1_7 m ρ c t i j) (arg1_3_7 m ρ c t i j)))
  · rw [A_eq1]
    refine (congrFun (V2_out7 m ρ c) _).trans ((congrFun (half7 m ρ c) _).trans (if_pos ?_))
    exact not_lt.1 hj

-- the launch theorem's implicit arguments are found by unfolding plain definitions
set_option backward.isDefEq.respectTransparency.types false in
/-- The two calls run: the arrays they leave and the arguments. -/
theorem run : θ_run defs (onTc (τ := τ) (main (F := Ideal))) ⟨m, fun _ => 0, ρ⟩ (fun r => ∀ c : Dev nD,
      r.2.mem ((c.tc : Thread nD τ).loc main_v1_0) = grad (m ((c : Thread nD τ).loc main_arg0)) (m ((c : Thread nD τ).loc main_arg1))
      ∧ r.2.mem ((c.tc : Thread nD τ).loc main_v1_1) = delta (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v1_2) = moment1 (m ((c : Thread nD τ).loc main_arg0)) (m ((c : Thread nD τ).loc main_arg1)) (m ((c : Thread nD τ).loc main_arg3))
      ∧ r.2.mem ((c.tc : Thread nD τ).loc main_v1_3) = moment2 (m ((c : Thread nD τ).loc main_arg0)) (m ((c : Thread nD τ).loc main_arg1)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v1_0 (by decide))).trans ((W3_arr m ρ c 4).trans (final4 m ρ c)),
       (h c _ (mem_uc main_v1_1 (by decide))).trans ((W3_arr m ρ c 5).trans (final5 m ρ c)),
       (h c _ (mem_uc main_v1_2 (by decide))).trans ((W3_arr m ρ c 6).trans (final6 m ρ c)),
       (h c _ (mem_uc main_v1_3 (by decide))).trans ((W3_arr m ρ c 7).trans (final7 m ρ c)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

open Cert.Reference40Ideal.Read

theorem ref_joined (p0 p1 : S8x128x1024.Idx → EReal) : val_main_v1 (F := Ideal) p0 p1 = joined p0 p1 := by
  funext y
  obtain ⟨k, i, j, rfl⟩ : ∃ (k : Fin 8) (i : Fin 256) (j : Fin 1024), y = ix3 k i j := ⟨y 0, y 1, y 2, eq_ix3 (n0 := 8) (n1 := 256) (n2 := 1024) y⟩
  show val_main_v0 (F := Ideal) p0 p1 (ix3 k i j) = _
  unfold val_main_v0 joined
  pointwise

theorem ref_grad (p0 p1 : S8x128x1024.Idx → EReal) : val_main_v2 (F := Ideal) p0 p1 = grad p0 p1 := by
  funext y
  rw [val_main_v2_apply, ref_joined]
  exact total_of_sum (n := 8) (R := 256) (C := 1024) (joined p0 p1) _ y fun k => eq_ix3 (n0 := 8) (n1 := 256) (n2 := 1024) _

theorem ref_moment1 (p0 p1 : S8x128x1024.Idx → EReal) (m : S256x1024.Idx → EReal) : val_main_v7 (F := Ideal) p0 p1 m = moment1 p0 p1 m := by
  unfold moment1; rw [← ref_grad]; rfl

theorem ref_moment2 (p0 p1 : S8x128x1024.Idx → EReal) (v : S256x1024.Idx → EReal) : val_main_v13 (F := Ideal) p0 p1 v = moment2 p0 p1 v := by
  unfold moment2; rw [← ref_grad]; rfl

theorem ref_delta (p0 p1 : S8x128x1024.Idx → EReal) (w m v : S256x1024.Idx → EReal) : val_main_v26 (F := Ideal) p0 p1 w m v = delta p0 p1 w m v := by
  funext y
  unfold delta
  rw [step_div, ← ref_grad]; rfl

theorem frame_ideal : Cert.quiescent_Kernel40Ideal := fun m ρ _ => Cert.Kernel40Ideal.Gen.frame m ρ

theorem frame_reference : Cert.quiescent_Reference40Ideal := fun m ρ _ =>
  (θ_run Cert.Reference40Ideal.defs _ _).mono (fun r h => ⟨fun c => (h c).2.2.2.2, sem_eq_zero_of_no_sems (by decide) r.2⟩)
    (Cert.Reference40Ideal.Value.run (F := Ideal) m ρ)

theorem equal : Cert.algebraic_Kernel40Ideal_Reference40Ideal := by
  intro m ρ m' ρ' _ hargs
  refine ⟨fun c => grad (m ((c.tc : Thread nD τ).loc main_arg0)) (m ((c.tc : Thread nD τ).loc main_arg1)), fun c => delta (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), fun c => moment1 (m ((c.tc : Thread nD τ).loc main_arg0)) (m ((c.tc : Thread nD τ).loc main_arg1)) (m ((c.tc : Thread nD τ).loc main_arg3)), fun c => moment2 (m ((c.tc : Thread nD τ).loc main_arg0)) (m ((c.tc : Thread nD τ).loc main_arg1)) (m ((c.tc : Thread nD τ).loc main_arg4)), run m ρ, ?_⟩
  refine (θ_run Cert.Reference40Ideal.defs _ _).mono (fun r h c => ?_) (Cert.Reference40Ideal.Value.run (F := Ideal) m' ρ')
  obtain ⟨h0, h1, h2, h3, h4⟩ := hargs c
  beta_reduce
  rw [← h0, ← h1, ← h2, ← h3, ← h4]
  exact ⟨((h c).1.trans (val_main_v2_eq _ _)).trans (ref_grad _ _), ((h c).2.1.trans (val_main_v26_eq _ _ _ _ _)).trans (ref_delta _ _ _ _ _), ((h c).2.2.1.trans (val_main_v7_eq _ _ _)).trans (ref_moment1 _ _ _), ((h c).2.2.2.1.trans (val_main_v13_eq _ _ _)).trans (ref_moment2 _ _ _), (h c).2.2.2.2⟩

end Cert.Kernel40Ideal.Adam

end
-- ==== Proof.lean ====
/-
  The proof of `Cert.Claim`: the three frames, the idealization's one rewrite, and the equality over the extended reals.
  The kernel's values are `Cert.KernelIdeal.Attn.run` (Proof/Attn/Post.lean), the reference's are the generated run read
  entry by entry in Proof/Attn/RefOut.lean; both are the real gradient of Proof/Attn/Real.lean of the arguments' entries,
  which the precondition makes real (Proof/Attn/Finite.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.Gen.Kernel27
public import proofs.«01_k».proof.Proof.Gen.Kernel27.Frame
public import proofs.«01_k».proof.Proof.Gen.Kernel27Ideal
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import proofs.«01_k».proof.Proof.Gen.Kernel28
public import proofs.«01_k».proof.Proof.Gen.Kernel28.Frame
public import proofs.«01_k».proof.Proof.Gen.Kernel28Ideal
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Reference28Ideal.Read
public import proofs.«01_k».proof.Proof.Gen.Kernel29
public import proofs.«01_k».proof.Proof.Gen.Kernel29.Frame
public import proofs.«01_k».proof.Proof.Gen.Kernel29Ideal
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Reference29Ideal.Read
public import proofs.«01_k».proof.Proof.Gen.Kernel30
public import proofs.«01_k».proof.Proof.Gen.Kernel30.Frame
public import proofs.«01_k».proof.Proof.Gen.Kernel30Ideal
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Reference30Ideal.Read
public import proofs.«01_k».proof.Proof.Gen.Kernel31
public import proofs.«01_k».proof.Proof.Gen.Kernel31.Frame
public import proofs.«01_k».proof.Proof.Gen.Kernel31Ideal
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Reference31Ideal.Read
public import proofs.«01_k».proof.Proof.Gen.Kernel32
public import proofs.«01_k».proof.Proof.Gen.Kernel32.Frame
public import proofs.«01_k».proof.Proof.Gen.Kernel32Ideal
public import proofs.«01_k».proof.Proof.Gen.Kernel32Ideal.Frame
public import proofs.«01_k».proof.Proof.Gen.Kernel32Ideal.Value
public import proofs.«01_k».proof.Proof.Gen.Reference32Ideal
public import proofs.«01_k».proof.Proof.Gen.Reference32Ideal.Run
public import proofs.«01_k».proof.Proof.Gen.Reference32Ideal.Read
public import proofs.«01_k».proof.Proof.Gen.Kernel33
public import proofs.«01_k».proof.Proof.Gen.Kernel33.Frame
public import proofs.«01_k».proof.Proof.Gen.Kernel33Ideal
public import proofs.«01_k».proof.Proof.Gen.Kernel33Ideal.Frame
public import proofs.«01_k».proof.Proof.Gen.Kernel33Ideal.Value
public import proofs.«01_k».proof.Proof.Gen.Reference33Ideal
public import proofs.«01_k».proof.Proof.Gen.Reference33Ideal.Run
public import proofs.«01_k».proof.Proof.Gen.Reference33Ideal.Read
public import proofs.«01_k».proof.Proof.Gen.Kernel34
public import proofs.«01_k».proof.Proof.Gen.Kernel34.Frame
public import proofs.«01_k».proof.Proof.Gen.Kernel34Ideal
public import proofs.«01_k».proof.Proof.Gen.Kernel34Ideal.Frame
public import proofs.«01_k».proof.Proof.Gen.Kernel34Ideal.Value
public import proofs.«01_k».proof.Proof.Gen.Reference34Ideal
public import proofs.«01_k».proof.Proof.Gen.Reference34Ideal.Run
public import proofs.«01_k».proof.Proof.Gen.Reference34Ideal.Read
public import proofs.«01_k».proof.Proof.Gen.Kernel35
public import proofs.«01_k».proof.Proof.Gen.Kernel35.Frame
public import proofs.«01_k».proof.Proof.Gen.Kernel35Ideal
public import proofs.«01_k».proof.Proof.Gen.Kernel35Ideal.Frame
public import proofs.«01_k».proof.Proof.Gen.Kernel35Ideal.Value
public import proofs.«01_k».proof.Proof.Gen.Reference35Ideal
public import proofs.«01_k».proof.Proof.Gen.Reference35Ideal.Run
public import proofs.«01_k».proof.Proof.Gen.Reference35Ideal.Read
public import proofs.«01_k».proof.Proof.Gen.Kernel36
public import proofs.«01_k».proof.Proof.Gen.Kernel36.Frame
public import proofs.«01_k».proof.Proof.Gen.Kernel36Ideal
public import proofs.«01_k».proof.Proof.Gen.Kernel36Ideal.Frame
public import proofs.«01_k».proof.Proof.Gen.Kernel36Ideal.Value
public import proofs.«01_k».proof.Proof.Gen.Reference36Ideal
public import proofs.«01_k».proof.Proof.Gen.Reference36Ideal.Run
public import proofs.«01_k».proof.Proof.Gen.Reference36Ideal.Read
public import proofs.«01_k».proof.Proof.Gen.Kernel37
public import proofs.«01_k».proof.Proof.Gen.Kernel37.Frame
public import proofs.«01_k».proof.Proof.Gen.Kernel37Ideal
public import proofs.«01_k».proof.Proof.Gen.Kernel37Ideal.Frame
public import proofs.«01_k».proof.Proof.Gen.Kernel37Ideal.Value
public import proofs.«01_k».proof.Proof.Gen.Reference37Ideal
public import proofs.«01_k».proof.Proof.Gen.Reference37Ideal.Run
public import proofs.«01_k».proof.Proof.Gen.Reference37Ideal.Read
public import proofs.«01_k».proof.Proof.Gen.Kernel38
public import proofs.«01_k».proof.Proof.Gen.Kernel38.Frame
public import proofs.«01_k».proof.Proof.Gen.Kernel38Ideal
public import proofs.«01_k».proof.Proof.Gen.Kernel38Ideal.Frame
public import proofs.«01_k».proof.Proof.Gen.Kernel38Ideal.Value
public import proofs.«01_k».proof.Proof.Gen.Reference38Ideal
public import proofs.«01_k».proof.Proof.Gen.Reference38Ideal.Run
public import proofs.«01_k».proof.Proof.Gen.Reference38Ideal.Read
public import proofs.«01_k».proof.Proof.Gen.Kernel39
public import proofs.«01_k».proof.Proof.Gen.Kernel39.Frame
public import proofs.«01_k».proof.Proof.Gen.Kernel39Ideal
public import proofs.«01_k».proof.Proof.Gen.Kernel39Ideal.Frame
public import proofs.«01_k».proof.Proof.Gen.Reference39Ideal
public import proofs.«01_k».proof.Proof.Gen.Reference39Ideal.Run
public import proofs.«01_k».proof.Proof.Gen.Reference39Ideal.Read
public import proofs.«01_k».proof.Proof.Gen.Kernel40
public import proofs.«01_k».proof.Proof.Gen.Kernel40.Frame
public import proofs.«01_k».proof.Proof.Gen.Kernel40Ideal
public import proofs.«01_k».proof.Proof.Gen.Kernel40Ideal.Frame
public import proofs.«01_k».proof.Proof.Gen.Reference40Ideal
public import proofs.«01_k».proof.Proof.Gen.Reference40Ideal.Run
public import proofs.«01_k».proof.Proof.Gen.Reference40Ideal.Read
public import proofs.«01_k».proof.Proof.Gen.Pre_finite2

public import proofs.«01_k».proof.Proof.Machine.Frame
public import proofs.«01_k».proof.Proof.Attn.Post
public import proofs.«01_k».proof.Proof.Attn.RefOut
public import proofs.«01_k».proof.Proof.Attn.Finite
public import proofs.«01_k».proof.Proof.Ffn.DownDgrad
public import proofs.«01_k».proof.Proof.Ffn.UpDgrad
public import proofs.«01_k».proof.Proof.Ffn.UpWgrad
public import proofs.«01_k».proof.Proof.Ffn.DownWgrad
public import proofs.«01_k».proof.Proof.Ffn.Up
public import proofs.«01_k».proof.Proof.Ffn.Down
public import proofs.«01_k».proof.Proof.Proj.SsmIn
public import proofs.«01_k».proof.Proof.Proj.SsmInWgrad
public import proofs.«01_k».proof.Proof.Proj.SsmInDgrad
public import proofs.«01_k».proof.Proof.Proj.SsmOut
public import proofs.«01_k».proof.Proof.Proj.SsmOutWgrad
public import proofs.«01_k».proof.Proof.Proj.SsmOutDgrad
public import proofs.«01_k».proof.Proof.Proj.Query
public import proofs.«01_k».proof.Proof.Proj.AttnOut
public import proofs.«01_k».proof.Proof.Proj.AttnOutWgrad
public import proofs.«01_k».proof.Proof.Proj.AttnOutDgrad
public import proofs.«01_k».proof.Proof.Proj.QueryWgrad
public import proofs.«01_k».proof.Proof.Proj.QueryDgrad
public import proofs.«01_k».proof.Proof.Proj.KeyValue
public import proofs.«01_k».proof.Proof.Proj.KeyValueWgrad
public import proofs.«01_k».proof.Proof.Proj.KeyValueDgrad
public import proofs.«01_k».proof.Proof.Adam.FfnNorm
public import proofs.«01_k».proof.Proof.Adam.Mod
public import proofs.«01_k».proof.Proof.Adam.ModBias
public import proofs.«01_k».proof.Proof.Adam.MixNorm
public import proofs.«01_k».proof.Proof.Adam.SsmConv
public import proofs.«01_k».proof.Proof.Adam.SsmConvBias
public import proofs.«01_k».proof.Proof.Adam.SsmDt
public import proofs.«01_k».proof.Proof.Adam.SsmNorm
public import proofs.«01_k».proof.Proof.Adam.KvNorm
public import proofs.«01_k».proof.Proof.Adam.KvMod
public import proofs.«01_k».proof.Proof.Adam.KvModBias
public import proofs.«01_k».proof.Proof.Adam.KeyValue
public import proofs.«01_k».proof.Proof.Adam.KeyValueBias
public import proofs.«01_k».proof.Proof.Adam.AttnBias
public import proofs.«01_k».proof.Proof.Adam.AttnSinks
public import proofs.«01_k».proof.Proof.Adam.SsmIn
public import proofs.«01_k».proof.Proof.Adam.SsmOut
public import proofs.«01_k».proof.Proof.Adam.AttnQuery

@[expose] public section

noncomputable section

namespace Cert.Proof

open Idealize.ShloMosaic Idealize.ShloMosaic.TcCoe Idealize.SL.Sem Cert.Attn

theorem frame_kernel : Cert.quiescent_Kernel := fun m ρ _ => Cert.Kernel.Attn.frame m ρ

theorem frame_ideal : Cert.quiescent_KernelIdeal := fun m ρ _ => Cert.KernelIdeal.Attn.frame m ρ

/-- The reference declares no semaphore. -/
theorem frame_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- The reference's four results, of real arguments. -/
theorem run_reference (m : (ℓ : Loc Cert.ReferenceIdeal.nD Cert.ReferenceIdeal.τ Cert.ReferenceIdeal.sig) → Buf (Elt Ideal) ℓ) (ρ : Dev Cert.ReferenceIdeal.nD → PrngReg)
    (A : Dev Cert.ReferenceIdeal.nD → Args)
    (hA : ∀ c : Dev Cert.ReferenceIdeal.nD, Cert.ReferenceIdeal.Attn.Reals (A c)
      (m ((c.tc : Thread Cert.ReferenceIdeal.nD Cert.ReferenceIdeal.τ).loc Cert.ReferenceIdeal.main_arg0))
      (m ((c.tc : Thread Cert.ReferenceIdeal.nD Cert.ReferenceIdeal.τ).loc Cert.ReferenceIdeal.main_arg1))
      (m ((c.tc : Thread Cert.ReferenceIdeal.nD Cert.ReferenceIdeal.τ).loc Cert.ReferenceIdeal.main_arg2))
      (m ((c.tc : Thread Cert.ReferenceIdeal.nD Cert.ReferenceIdeal.τ).loc Cert.ReferenceIdeal.main_arg3))) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v137) = Cert.KernelIdeal.Attn.outDq (A c)
      ∧ r.2.mem ((c.tc : Thread Cert.ReferenceIdeal.nD Cert.ReferenceIdeal.τ).loc Cert.ReferenceIdeal.main_v142) = Cert.KernelIdeal.Attn.outDc (A c)
      ∧ r.2.mem ((c.tc : Thread Cert.ReferenceIdeal.nD Cert.ReferenceIdeal.τ).loc Cert.ReferenceIdeal.main_v147) = Cert.KernelIdeal.Attn.outDp (A c)
      ∧ r.2.mem ((c.tc : Thread Cert.ReferenceIdeal.nD Cert.ReferenceIdeal.τ).loc Cert.ReferenceIdeal.main_v155) = Cert.KernelIdeal.Attn.outAcc (A c)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) := by
  refine (θ_run Cert.ReferenceIdeal.defs _ _).mono (fun r h c => ?_) (Cert.ReferenceIdeal.Value.run (F := Ideal) m ρ)
  obtain ⟨h0, h1, h2, h3, ha⟩ := h c
  refine ⟨h0.trans ((Cert.ReferenceIdeal.Read.val_main_v137_eq _).trans (funext fun y => ?_)), h1.trans ((Cert.ReferenceIdeal.Read.val_main_v142_eq _).trans (funext fun y => ?_)),
    h2.trans ((Cert.ReferenceIdeal.Read.val_main_v147_eq _).trans (funext fun y => ?_)), h3.trans ((Cert.ReferenceIdeal.Read.val_main_v155_eq _).trans (funext fun y => ?_)), ha⟩
  · exact (congrArg _ (eq_ix2 (n0 := 2048) (n1 := 1024) y)).trans (Cert.ReferenceIdeal.Attn.out_dq (hA c) (y 0) (y 1))
  · exact (congrArg _ (eq_ix2 (n0 := 2048) (n1 := 512) y)).trans (Cert.ReferenceIdeal.Attn.out_dc (hA c) (y 0) (y 1))
  · exact (congrArg _ (eq_ix2 (n0 := 2048) (n1 := 512) y)).trans (Cert.ReferenceIdeal.Attn.out_dp (hA c) (y 0) (y 1))
  · exact (congrArg _ (eq_ix2 (n0 := 8) (n1 := 1024) y)).trans (Cert.ReferenceIdeal.Attn.out_acc (hA c) (y 0) (y 1))

theorem equal : Cert.algebraic_KernelIdeal_ReferenceIdeal_pre_finite := by
  intro m ρ m' ρ' hpre hargs
  let A : Dev Cert.KernelIdeal.nD → Args := fun c => reals
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
  have hE : ∀ c, Cert.KernelIdeal.Attn.Entries (A c) m c := fun c =>
    have f := finite_entries _ _ _ _ (hpre c)
    ⟨reals_q _ _ _ _ f.1, reals_kv _ _ _ _ f.2.1, reals_d _ _ _ _ f.2.2.1, reals_s _ _ _ _ f.2.2.2⟩
  refine ⟨fun c => Cert.KernelIdeal.Attn.outDq (A c), fun c => Cert.KernelIdeal.Attn.outDc (A c), fun c => Cert.KernelIdeal.Attn.outDp (A c), fun c => Cert.KernelIdeal.Attn.outAcc (A c), ?_, ?_⟩
  · refine (θ_run Cert.KernelIdeal.defs _ _).mono (fun r h c => ?_) (θ_run_and (Cert.KernelIdeal.Attn.run (m := m) (ρ := ρ) A hE) (Cert.KernelIdeal.Attn.unchanged m ρ))
    exact ⟨(h.1 c).1, (h.1 c).2.1, (h.1 c).2.2.1, (h.1 c).2.2.2, h.2 c⟩
  · refine run_reference m' ρ' A fun c => ?_
    obtain ⟨e0, e1, e2, e3⟩ := hargs c
    exact ⟨fun y => (congrFun e0 y).trans ((hE c).q y), fun y => (congrFun e1 y).trans ((hE c).kv y),
      fun y => (congrFun e2 y).trans ((hE c).d y), fun y => (congrFun e3 y).trans ((hE c).s y)⟩

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts,
    Cert.Kernel4Ideal.Gen.facts, Cert.Reference4Ideal.Gen.facts, Cert.Kernel5.Gen.facts, Cert.Kernel5Ideal.Gen.facts, Cert.Reference5Ideal.Gen.facts,
    Cert.Kernel6.Gen.facts, Cert.Kernel6Ideal.Gen.facts, Cert.Reference6Ideal.Gen.facts, Cert.Kernel7.Gen.facts, Cert.Kernel7Ideal.Gen.facts,
    Cert.Reference7Ideal.Gen.facts, Cert.Kernel8.Gen.facts, Cert.Kernel8Ideal.Gen.facts, Cert.Reference8Ideal.Gen.facts, Cert.Kernel9.Gen.facts,
    Cert.Kernel9Ideal.Gen.facts, Cert.Reference9Ideal.Gen.facts, Cert.Kernel10.Gen.facts, Cert.Kernel10Ideal.Gen.facts, Cert.Reference10Ideal.Gen.facts,
    Cert.Kernel11.Gen.facts, Cert.Kernel11Ideal.Gen.facts, Cert.Reference11Ideal.Gen.facts, Cert.Kernel12.Gen.facts, Cert.Kernel12Ideal.Gen.facts,
    Cert.Reference12Ideal.Gen.facts, Cert.Kernel13.Gen.facts, Cert.Kernel13Ideal.Gen.facts, Cert.Reference13Ideal.Gen.facts, Cert.Kernel14.Gen.facts,
    Cert.Kernel14Ideal.Gen.facts, Cert.Reference14Ideal.Gen.facts, Cert.Kernel15.Gen.facts, Cert.Kernel15Ideal.Gen.facts, Cert.Reference15Ideal.Gen.facts,
    Cert.Kernel16.Gen.facts, Cert.Kernel16Ideal.Gen.facts, Cert.Reference16Ideal.Gen.facts, Cert.Kernel17.Gen.facts, Cert.Kernel17Ideal.Gen.facts,
    Cert.Reference17Ideal.Gen.facts, Cert.Kernel18.Gen.facts, Cert.Kernel18Ideal.Gen.facts, Cert.Reference18Ideal.Gen.facts, Cert.Kernel19.Gen.facts,
    Cert.Kernel19Ideal.Gen.facts, Cert.Reference19Ideal.Gen.facts, Cert.Kernel20.Gen.facts, Cert.Kernel20Ideal.Gen.facts, Cert.Reference20Ideal.Gen.facts,
    Cert.Kernel21.Gen.facts, Cert.Kernel21Ideal.Gen.facts, Cert.Reference21Ideal.Gen.facts, Cert.Kernel22.Gen.facts, Cert.Kernel22Ideal.Gen.facts,
    Cert.Reference22Ideal.Gen.facts, Cert.Kernel23.Gen.facts, Cert.Kernel23Ideal.Gen.facts, Cert.Reference23Ideal.Gen.facts, Cert.Kernel24.Gen.facts,
    Cert.Kernel24Ideal.Gen.facts, Cert.Reference24Ideal.Gen.facts, Cert.Kernel25.Gen.facts, Cert.Kernel25Ideal.Gen.facts, Cert.Reference25Ideal.Gen.facts,
    Cert.Kernel26.Gen.facts, Cert.Kernel26Ideal.Gen.facts, Cert.Reference26Ideal.Gen.facts, Cert.Kernel27.Gen.facts, Cert.Kernel27Ideal.Gen.facts,
    Cert.Reference27Ideal.Gen.facts, Cert.Kernel28.Gen.facts, Cert.Kernel28Ideal.Gen.facts, Cert.Reference28Ideal.Gen.facts, Cert.Kernel29.Gen.facts,
    Cert.Kernel29Ideal.Gen.facts, Cert.Reference29Ideal.Gen.facts, Cert.Kernel30.Gen.facts, Cert.Kernel30Ideal.Gen.facts, Cert.Reference30Ideal.Gen.facts,
    Cert.Kernel31.Gen.facts, Cert.Kernel31Ideal.Gen.facts, Cert.Reference31Ideal.Gen.facts, Cert.Kernel32.Gen.facts, Cert.Kernel32Ideal.Gen.facts,
    Cert.Reference32Ideal.Gen.facts, Cert.Kernel33.Gen.facts, Cert.Kernel33Ideal.Gen.facts, Cert.Reference33Ideal.Gen.facts, Cert.Kernel34.Gen.facts,
    Cert.Kernel34Ideal.Gen.facts, Cert.Reference34Ideal.Gen.facts, Cert.Kernel35.Gen.facts, Cert.Kernel35Ideal.Gen.facts, Cert.Reference35Ideal.Gen.facts,
    Cert.Kernel36.Gen.facts, Cert.Kernel36Ideal.Gen.facts, Cert.Reference36Ideal.Gen.facts, Cert.Kernel37.Gen.facts, Cert.Kernel37Ideal.Gen.facts,
    Cert.Reference37Ideal.Gen.facts, Cert.Kernel38.Gen.facts, Cert.Kernel38Ideal.Gen.facts, Cert.Reference38Ideal.Gen.facts, Cert.Kernel39.Gen.facts,
    Cert.Kernel39Ideal.Gen.facts, Cert.Reference39Ideal.Gen.facts, Cert.Kernel40.Gen.facts, Cert.Kernel40Ideal.Gen.facts, Cert.Reference40Ideal.Gen.facts,
    Cert.Pre_finite.Gen.facts, Cert.Pre_finite2.Gen.facts,
    frame_kernel, frame_ideal, fun m ρ _ => frame_ideal m ρ trivial, frame_reference, fun m ρ _ => frame_reference m ρ trivial,
    fun m ρ _ => Cert.Kernel2.Gen.frame m ρ, Cert.Kernel2Ideal.Ffn.frame_ideal, fun m ρ _ => Cert.Kernel2Ideal.Ffn.frame_ideal m ρ trivial, Cert.Kernel2Ideal.Ffn.frame_reference,
    fun m ρ _ => Cert.Kernel2Ideal.Ffn.frame_reference m ρ trivial,
    fun m ρ _ => Cert.Kernel3.Gen.frame m ρ, Cert.Kernel3Ideal.Ffn.frame_ideal, Cert.Kernel3Ideal.Ffn.frame_reference,
    fun m ρ _ => Cert.Kernel4.Gen.frame m ρ, Cert.Kernel4Ideal.Ffn.frame_ideal, Cert.Kernel4Ideal.Ffn.frame_reference,
    fun m ρ _ => Cert.Kernel5.Gen.frame m ρ, Cert.Kernel5Ideal.Ffn.frame_ideal, Cert.Kernel5Ideal.Ffn.frame_reference,
    fun m ρ _ => Cert.Kernel6.Gen.frame m ρ, Cert.Kernel6Ideal.Ffn.frame_ideal, Cert.Kernel6Ideal.Ffn.frame_reference,
    fun m ρ _ => Cert.Kernel7.Gen.frame m ρ, Cert.Kernel7Ideal.Ffn.frame_ideal, Cert.Kernel7Ideal.Ffn.frame_reference,
    fun m ρ _ => Cert.Kernel8.Gen.frame m ρ, Cert.Kernel8Ideal.Proj.frame_ideal, Cert.Kernel8Ideal.Proj.frame_reference,
    fun m ρ _ => Cert.Kernel9.Gen.frame m ρ, Cert.Kernel9Ideal.Proj.frame_ideal, Cert.Kernel9Ideal.Proj.frame_reference,
    fun m ρ _ => Cert.Kernel10.Gen.frame m ρ, Cert.Kernel10Ideal.Proj.frame_ideal, Cert.Kernel10Ideal.Proj.frame_reference,
    fun m ρ _ => Cert.Kernel11.Gen.frame m ρ, Cert.Kernel11Ideal.Proj.frame_ideal, Cert.Kernel11Ideal.Proj.frame_reference,
    fun m ρ _ => Cert.Kernel12.Gen.frame m ρ, Cert.Kernel12Ideal.Proj.frame_ideal, Cert.Kernel12Ideal.Proj.frame_reference,
    fun m ρ _ => Cert.Kernel13.Gen.frame m ρ, Cert.Kernel13Ideal.Proj.frame_ideal, Cert.Kernel13Ideal.Proj.frame_reference,
    fun m ρ _ => Cert.Kernel14.Gen.frame m ρ, Cert.Kernel14Ideal.Proj.frame_ideal, Cert.Kernel14Ideal.Proj.frame_reference,
    fun m ρ _ => Cert.Kernel15.Gen.frame m ρ, Cert.Kernel15Ideal.Proj.frame_ideal, Cert.Kernel15Ideal.Proj.frame_reference,
    fun m ρ _ => Cert.Kernel16.Gen.frame m ρ, Cert.Kernel16Ideal.Proj.frame_ideal, Cert.Kernel16Ideal.Proj.frame_reference,
    fun m ρ _ => Cert.Kernel17.Gen.frame m ρ, Cert.Kernel17Ideal.Proj.frame_ideal, Cert.Kernel17Ideal.Proj.frame_reference,
    fun m ρ _ => Cert.Kernel18.Gen.frame m ρ, Cert.Kernel18Ideal.Proj.frame_ideal, Cert.Kernel18Ideal.Proj.frame_reference,
    fun m ρ _ => Cert.Kernel19.Gen.frame m ρ, Cert.Kernel19Ideal.Proj.frame_ideal, Cert.Kernel19Ideal.Proj.frame_reference,
    fun m ρ _ => Cert.Kernel20.Gen.frame m ρ, Cert.Kernel20Ideal.Proj.frame_ideal, Cert.Kernel20Ideal.Proj.frame_reference,
    fun m ρ _ => Cert.Kernel21.Gen.frame m ρ, Cert.Kernel21Ideal.Proj.frame_ideal, Cert.Kernel21Ideal.Proj.frame_reference,
    fun m ρ _ => Cert.Kernel22.Gen.frame m ρ, Cert.Kernel22Ideal.Proj.frame_ideal, Cert.Kernel22Ideal.Proj.frame_reference,
    fun m ρ _ => Cert.Kernel23.Gen.frame m ρ, Cert.Kernel23Ideal.Adam.frame_ideal, Cert.Kernel23Ideal.Adam.frame_reference,
    fun m ρ _ => Cert.Kernel24.Gen.frame m ρ, Cert.Kernel24Ideal.Adam.frame_ideal, Cert.Kernel24Ideal.Adam.frame_reference,
    fun m ρ _ => Cert.Kernel25.Gen.frame m ρ, Cert.Kernel25Ideal.Adam.frame_ideal, Cert.Kernel25Ideal.Adam.frame_reference,
    fun m ρ _ => Cert.Kernel26.Gen.frame m ρ, Cert.Kernel26Ideal.Adam.frame_ideal, Cert.Kernel26Ideal.Adam.frame_reference,
    fun m ρ _ => Cert.Kernel27.Gen.frame m ρ, Cert.Kernel27Ideal.Adam.frame_ideal, Cert.Kernel27Ideal.Adam.frame_reference,
    fun m ρ _ => Cert.Kernel28.Gen.frame m ρ, Cert.Kernel28Ideal.Adam.frame_ideal, Cert.Kernel28Ideal.Adam.frame_reference,
    fun m ρ _ => Cert.Kernel29.Gen.frame m ρ, Cert.Kernel29Ideal.Adam.frame_ideal, Cert.Kernel29Ideal.Adam.frame_reference,
    fun m ρ _ => Cert.Kernel30.Gen.frame m ρ, Cert.Kernel30Ideal.Adam.frame_ideal, Cert.Kernel30Ideal.Adam.frame_reference,
    fun m ρ _ => Cert.Kernel31.Gen.frame m ρ, Cert.Kernel31Ideal.Adam.frame_ideal, Cert.Kernel31Ideal.Adam.frame_reference,
    fun m ρ _ => Cert.Kernel32.Gen.frame m ρ, Cert.Kernel32Ideal.Adam.frame_ideal, Cert.Kernel32Ideal.Adam.frame_reference,
    fun m ρ _ => Cert.Kernel33.Gen.frame m ρ, Cert.Kernel33Ideal.Adam.frame_ideal, Cert.Kernel33Ideal.Adam.frame_reference,
    fun m ρ _ => Cert.Kernel34.Gen.frame m ρ, Cert.Kernel34Ideal.Adam.frame_ideal, Cert.Kernel34Ideal.Adam.frame_reference,
    fun m ρ _ => Cert.Kernel35.Gen.frame m ρ, Cert.Kernel35Ideal.Adam.frame_ideal, Cert.Kernel35Ideal.Adam.frame_reference,
    fun m ρ _ => Cert.Kernel36.Gen.frame m ρ, Cert.Kernel36Ideal.Adam.frame_ideal, Cert.Kernel36Ideal.Adam.frame_reference,
    fun m ρ _ => Cert.Kernel37.Gen.frame m ρ, Cert.Kernel37Ideal.Adam.frame_ideal, Cert.Kernel37Ideal.Adam.frame_reference,
    fun m ρ _ => Cert.Kernel38.Gen.frame m ρ, Cert.Kernel38Ideal.Adam.frame_ideal, Cert.Kernel38Ideal.Adam.frame_reference,
    fun m ρ _ => Cert.Kernel39.Gen.frame m ρ, Cert.Kernel39Ideal.Adam.frame_ideal, Cert.Kernel39Ideal.Adam.frame_reference,
    fun m ρ _ => Cert.Kernel40.Gen.frame m ρ, Cert.Kernel40Ideal.Adam.frame_ideal, Cert.Kernel40Ideal.Adam.frame_reference,
    IdealRules.named_const.statement Cert.KernelIdeal.κ "mask" .f32 0xF149F2CA#32 ⊥ rfl, equal,
    trivial, Cert.Kernel2Ideal.Ffn.equal,
    trivial, Cert.Kernel3Ideal.Ffn.equal,
    trivial, Cert.Kernel4Ideal.Ffn.equal,
    trivial, Cert.Kernel5Ideal.Ffn.equal,
    trivial, Cert.Kernel6Ideal.Ffn.equal,
    trivial, Cert.Kernel7Ideal.Ffn.equal,
    trivial, Cert.Kernel8Ideal.Proj.equal,
    trivial, Cert.Kernel9Ideal.Proj.equal,
    trivial, Cert.Kernel10Ideal.Proj.equal,
    trivial, Cert.Kernel11Ideal.Proj.equal,
    trivial, Cert.Kernel12Ideal.Proj.equal,
    trivial, Cert.Kernel13Ideal.Proj.equal,
    trivial, Cert.Kernel14Ideal.Proj.equal,
    trivial, Cert.Kernel15Ideal.Proj.equal,
    trivial, Cert.Kernel16Ideal.Proj.equal,
    trivial, Cert.Kernel17Ideal.Proj.equal,
    trivial, Cert.Kernel18Ideal.Proj.equal,
    trivial, Cert.Kernel19Ideal.Proj.equal,
    trivial, Cert.Kernel20Ideal.Proj.equal,
    trivial, Cert.Kernel21Ideal.Proj.equal,
    trivial, Cert.Kernel22Ideal.Proj.equal,
    ⟨IdealRules.named_const.statement Cert.Kernel23Ideal.κ "c1" .f32 0x3FC48605#32 _ rfl, IdealRules.named_const.statement Cert.Kernel23Ideal.κ "c2" .f32 0x42C8E6D3#32 _ rfl⟩,
    Cert.Kernel23Ideal.Adam.equal,
    ⟨IdealRules.named_const.statement Cert.Kernel24Ideal.κ "c1" .f32 0x3FC48605#32 _ rfl, IdealRules.named_const.statement Cert.Kernel24Ideal.κ "c2" .f32 0x42C8E6D3#32 _ rfl⟩,
    Cert.Kernel24Ideal.Adam.equal,
    ⟨IdealRules.named_const.statement Cert.Kernel25Ideal.κ "c1" .f32 0x3FC48605#32 _ rfl, IdealRules.named_const.statement Cert.Kernel25Ideal.κ "c2" .f32 0x42C8E6D3#32 _ rfl⟩,
    Cert.Kernel25Ideal.Adam.equal,
    ⟨IdealRules.named_const.statement Cert.Kernel26Ideal.κ "c1" .f32 0x3FC48605#32 _ rfl, IdealRules.named_const.statement Cert.Kernel26Ideal.κ "c2" .f32 0x42C8E6D3#32 _ rfl⟩,
    Cert.Kernel26Ideal.Adam.equal,
    ⟨IdealRules.named_const.statement Cert.Kernel27Ideal.κ "c1" .f32 0x3FC48605#32 _ rfl, IdealRules.named_const.statement Cert.Kernel27Ideal.κ "c2" .f32 0x42C8E6D3#32 _ rfl⟩,
    Cert.Kernel27Ideal.Adam.equal,
    ⟨IdealRules.named_const.statement Cert.Kernel28Ideal.κ "c1" .f32 0x3FC48605#32 _ rfl, IdealRules.named_const.statement Cert.Kernel28Ideal.κ "c2" .f32 0x42C8E6D3#32 _ rfl⟩,
    Cert.Kernel28Ideal.Adam.equal,
    ⟨IdealRules.named_const.statement Cert.Kernel29Ideal.κ "c1" .f32 0x3FC48605#32 _ rfl, IdealRules.named_const.statement Cert.Kernel29Ideal.κ "c2" .f32 0x42C8E6D3#32 _ rfl⟩,
    Cert.Kernel29Ideal.Adam.equal,
    ⟨IdealRules.named_const.statement Cert.Kernel30Ideal.κ "c1" .f32 0x3FC48605#32 _ rfl, IdealRules.named_const.statement Cert.Kernel30Ideal.κ "c2" .f32 0x42C8E6D3#32 _ rfl⟩,
    Cert.Kernel30Ideal.Adam.equal,
    ⟨IdealRules.named_const.statement Cert.Kernel31Ideal.κ "c1" .f32 0x3FC48605#32 _ rfl, IdealRules.named_const.statement Cert.Kernel31Ideal.κ "c2" .f32 0x42C8E6D3#32 _ rfl⟩,
    Cert.Kernel31Ideal.Adam.equal,
    ⟨IdealRules.named_const.statement Cert.Kernel32Ideal.κ "c1" .f32 0x3FC48605#32 _ rfl, IdealRules.named_const.statement Cert.Kernel32Ideal.κ "c2" .f32 0x42C8E6D3#32 _ rfl⟩,
    Cert.Kernel32Ideal.Adam.equal,
    ⟨IdealRules.named_const.statement Cert.Kernel33Ideal.κ "c1" .f32 0x3FC48605#32 _ rfl, IdealRules.named_const.statement Cert.Kernel33Ideal.κ "c2" .f32 0x42C8E6D3#32 _ rfl⟩,
    Cert.Kernel33Ideal.Adam.equal,
    ⟨IdealRules.named_const.statement Cert.Kernel34Ideal.κ "c1" .f32 0x3FC48605#32 _ rfl, IdealRules.named_const.statement Cert.Kernel34Ideal.κ "c2" .f32 0x42C8E6D3#32 _ rfl⟩,
    Cert.Kernel34Ideal.Adam.equal,
    ⟨IdealRules.named_const.statement Cert.Kernel35Ideal.κ "c1" .f32 0x3FC48605#32 _ rfl, IdealRules.named_const.statement Cert.Kernel35Ideal.κ "c2" .f32 0x42C8E6D3#32 _ rfl⟩,
    Cert.Kernel35Ideal.Adam.equal,
    ⟨IdealRules.named_const.statement Cert.Kernel36Ideal.κ "c1" .f32 0x3FC48605#32 _ rfl, IdealRules.named_const.statement Cert.Kernel36Ideal.κ "c2" .f32 0x42C8E6D3#32 _ rfl⟩,
    Cert.Kernel36Ideal.Adam.equal,
    ⟨IdealRules.named_const.statement Cert.Kernel37Ideal.κ "c1" .f32 0x3FC48605#32 _ rfl, IdealRules.named_const.statement Cert.Kernel37Ideal.κ "c2" .f32 0x42C8E6D3#32 _ rfl⟩,
    Cert.Kernel37Ideal.Adam.equal,
    ⟨IdealRules.named_const.statement Cert.Kernel38Ideal.κ "c1" .f32 0x3FC48605#32 _ rfl, IdealRules.named_const.statement Cert.Kernel38Ideal.κ "c2" .f32 0x42C8E6D3#32 _ rfl⟩,
    Cert.Kernel38Ideal.Adam.equal,
    ⟨IdealRules.named_const.statement Cert.Kernel39Ideal.κ "c1" .f32 0x3FC48605#32 _ rfl, IdealRules.named_const.statement Cert.Kernel39Ideal.κ "c2" .f32 0x42C8E6D3#32 _ rfl⟩,
    Cert.Kernel39Ideal.Adam.equal,
    ⟨IdealRules.named_const.statement Cert.Kernel40Ideal.κ "c1" .f32 0x3FC48605#32 _ rfl, IdealRules.named_const.statement Cert.Kernel40Ideal.κ "c2" .f32 0x42C8E6D3#32 _ rfl⟩,
    Cert.Kernel40Ideal.Adam.equal⟩

end Cert.Proof

end
